-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxIdeal_finite_gate [hPre_finite_gate : Cert.Pre_finite_gate.Facts] (m : (ℓ : Loc Cert.OutDxIdeal.nD Cert.OutDxIdeal.τ Cert.OutDxIdeal.sig) → Buf (Elt Ideal) ℓ) : Prop :=
  ∀ c : Dev Cert.OutDxIdeal.nD,
    (Cert.Pre_finite_gate.fn (F := Ideal) (m ((c.tc : Thread Cert.OutDxIdeal.nD Cert.OutDxIdeal.τ).loc Cert.OutDxIdeal.main_arg0)) (m ((c.tc : Thread Cert.OutDxIdeal.nD Cert.OutDxIdeal.τ).loc Cert.OutDxIdeal.main_arg1)) (m ((c.tc : Thread Cert.OutDxIdeal.nD Cert.OutDxIdeal.τ).loc Cert.OutDxIdeal.main_arg2))) = (fun _ => 1#1)

def Pre_OutDxRefIdeal (m : (ℓ : Loc Cert.OutDxRefIdeal.nD Cert.OutDxRefIdeal.τ Cert.OutDxRefIdeal.sig) → Buf (Elt Ideal) ℓ) : Prop :=
  True

def Pre_OutDxRefIdeal_finite_gate [hPre_finite_gate : Cert.Pre_finite_gate.Facts] (m : (ℓ : Loc Cert.OutDxRefIdeal.nD Cert.OutDxRefIdeal.τ Cert.OutDxRefIdeal.sig) → Buf (Elt Ideal) ℓ) : Prop :=
  ∀ c : Dev Cert.OutDxRefIdeal.nD,
    (Cert.Pre_finite_gate.fn (F := Ideal) (m ((c.tc : Thread Cert.OutDxRefIdeal.nD Cert.OutDxRefIdeal.τ).loc Cert.OutDxRefIdeal.main_arg0)) (m ((c.tc : Thread Cert.OutDxRefIdeal.nD Cert.OutDxRefIdeal.τ).loc Cert.OutDxRefIdeal.main_arg1)) (m ((c.tc : Thread Cert.OutDxRefIdeal.nD Cert.OutDxRefIdeal.τ).loc Cert.OutDxRefIdeal.main_arg2))) = (fun _ => 1#1)

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_InDx1 (m : (ℓ : Loc Cert.InDx1.nD Cert.InDx1.τ Cert.InDx1.sig) → Buf (Elt Bits) ℓ) : Prop :=
  True

def Pre_InDx1Ideal (m : (ℓ : Loc Cert.InDx1Ideal.nD Cert.InDx1Ideal.τ Cert.InDx1Ideal.sig) → Buf (Elt Ideal) ℓ) : Prop :=
  True

def Pre_InDx1RefIdeal (m : (ℓ : Loc Cert.InDx1RefIdeal.nD Cert.InDx1RefIdeal.τ Cert.InDx1RefIdeal.sig) → Buf (Elt Ideal) ℓ) : Prop :=
  True

def Pre_InDx2 (m : (ℓ : Loc Cert.InDx2.nD Cert.InDx2.τ Cert.InDx2.sig) → Buf (Elt Bits) ℓ) : Prop :=
  True

def Pre_InDx2Ideal (m : (ℓ : Loc Cert.InDx2Ideal.nD Cert.InDx2Ideal.τ Cert.InDx2Ideal.sig) → Buf (Elt Ideal) ℓ) : Prop :=
  True

def Pre_InDx2RefIdeal (m : (ℓ : Loc Cert.InDx2RefIdeal.nD Cert.InDx2RefIdeal.τ Cert.InDx2RefIdeal.sig) → Buf (Elt Ideal) ℓ) : Prop :=
  True

def Pre_TailBwd (m : (ℓ : Loc Cert.TailBwd.nD Cert.TailBwd.τ Cert.TailBwd.sig) → Buf (Elt Bits) ℓ) : Prop :=
  True

def Pre_TailBwdIdeal (m : (ℓ : Loc Cert.TailBwdIdeal.nD Cert.TailBwdIdeal.τ Cert.TailBwdIdeal.sig) → Buf (Elt Ideal) ℓ) : Prop :=
  True

def Pre_TailBwdRefIdeal (m : (ℓ : Loc Cert.TailBwdRefIdeal.nD Cert.TailBwdRefIdeal.τ Cert.TailBwdRefIdeal.sig) → Buf (Elt Ideal) ℓ) : Prop :=
  True

def Pre_MixDx (m : (ℓ : Loc Cert.MixDx.nD Cert.MixDx.τ Cert.MixDx.sig) → Buf (Elt Bits) ℓ) : Prop :=
  True

def Pre_MixDxIdeal (m : (ℓ : Loc Cert.MixDxIdeal.nD Cert.MixDxIdeal.τ Cert.MixDxIdeal.sig) → Buf (Elt Ideal) ℓ) : Prop :=
  True

def Pre_MixDxRefIdeal (m : (ℓ : Loc Cert.MixDxRefIdeal.nD Cert.MixDxRefIdeal.τ Cert.MixDxRefIdeal.sig) → Buf (Elt Ideal) ℓ) : Prop :=
  True

def Pre_GlaDw (m : (ℓ : Loc Cert.GlaDw.nD Cert.GlaDw.τ Cert.GlaDw.sig) → Buf (Elt Bits) ℓ) : Prop :=
  True

def Pre_GlaDwIdeal (m : (ℓ : Loc Cert.GlaDwIdeal.nD Cert.GlaDwIdeal.τ Cert.GlaDwIdeal.sig) → Buf (Elt Ideal) ℓ) : Prop :=
  True

def Pre_GlaDwRefIdeal (m : (ℓ : Loc Cert.GlaDwRefIdeal.nD Cert.GlaDwRefIdeal.τ Cert.GlaDwRefIdeal.sig) → Buf (Elt Ideal) ℓ) : Prop :=
  True

def Pre_PxDw (m : (ℓ : Loc Cert.PxDw.nD Cert.PxDw.τ Cert.PxDw.sig) → Buf (Elt Bits) ℓ) : Prop :=
  True

def Pre_PxDwIdeal (m : (ℓ : Loc Cert.PxDwIdeal.nD Cert.PxDwIdeal.τ Cert.PxDwIdeal.sig) → Buf (Elt Ideal) ℓ) : Prop :=
  True

def Pre_PxDwRefIdeal (m : (ℓ : Loc Cert.PxDwRefIdeal.nD Cert.PxDwRefIdeal.τ Cert.PxDwRefIdeal.sig) → Buf (Elt Ideal) ℓ) : Prop :=
  True

def Pre_GatesDw (m : (ℓ : Loc Cert.GatesDw.nD Cert.GatesDw.τ Cert.GatesDw.sig) → Buf (Elt Bits) ℓ) : Prop :=
  True

def Pre_GatesDwIdeal (m : (ℓ : Loc Cert.GatesDwIdeal.nD Cert.GatesDwIdeal.τ Cert.GatesDwIdeal.sig) → Buf (Elt Ideal) ℓ) : Prop :=
  True

def Pre_GatesDwRefIdeal (m : (ℓ : Loc Cert.GatesDwRefIdeal.nD Cert.GatesDwRefIdeal.τ Cert.GatesDwRefIdeal.sig) → Buf (Elt Ideal) ℓ) : Prop :=
  True

def Pre_WoDw (m : (ℓ : Loc Cert.WoDw.nD Cert.WoDw.τ Cert.WoDw.sig) → Buf (Elt Bits) ℓ) : Prop :=
  True

def Pre_WoDwIdeal (m : (ℓ : Loc Cert.WoDwIdeal.nD Cert.WoDwIdeal.τ Cert.WoDwIdeal.sig) → Buf (Elt Ideal) ℓ) : Prop :=
  True

def Pre_WoDwRefIdeal (m : (ℓ : Loc Cert.WoDwRefIdeal.nD Cert.WoDwRefIdeal.τ Cert.WoDwRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_MemDw (m : (ℓ : Loc Cert.MemDw.nD Cert.MemDw.τ Cert.MemDw.sig) → Buf (Elt Bits) ℓ) : Prop :=
  True

def Pre_MemDwIdeal (m : (ℓ : Loc Cert.MemDwIdeal.nD Cert.MemDwIdeal.τ Cert.MemDwIdeal.sig) → Buf (Elt Ideal) ℓ) : Prop :=
  True

def Pre_MemDwRefIdeal (m : (ℓ : Loc Cert.MemDwRefIdeal.nD Cert.MemDwRefIdeal.τ Cert.MemDwRefIdeal.sig) → Buf (Elt Ideal) ℓ) : Prop :=
  True

def Pre_MemDx (m : (ℓ : Loc Cert.MemDx.nD Cert.MemDx.τ Cert.MemDx.sig) → Buf (Elt Bits) ℓ) : Prop :=
  True

def Pre_MemDxIdeal (m : (ℓ : Loc Cert.MemDxIdeal.nD Cert.MemDxIdeal.τ Cert.MemDxIdeal.sig) → Buf (Elt Ideal) ℓ) : Prop :=
  True

def Pre_MemDxRefIdeal (m : (ℓ : Loc Cert.MemDxRefIdeal.nD Cert.MemDxRefIdeal.τ Cert.MemDxRefIdeal.sig) → Buf (Elt Ideal) ℓ) : Prop :=
  True

def Pre_MemNorm (m : (ℓ : Loc Cert.MemNorm.nD Cert.MemNorm.τ Cert.MemNorm.sig) → Buf (Elt Bits) ℓ) : Prop :=
  True

def Pre_MemNormIdeal (m : (ℓ : Loc Cert.MemNormIdeal.nD Cert.MemNormIdeal.τ Cert.MemNormIdeal.sig) → Buf (Elt Ideal) ℓ) : Prop :=
  True

def Pre_MemNormRefIdeal (m : (ℓ : Loc Cert.MemNormRefIdeal.nD Cert.MemNormRefIdeal.τ Cert.MemNormRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_OutLoss (m : (ℓ : Loc Cert.OutLoss.nD Cert.OutLoss.τ Cert.OutLoss.sig) → Buf (Elt Bits) ℓ) : Prop :=
  True

def Pre_OutLossIdeal (m : (ℓ : Loc Cert.OutLossIdeal.nD Cert.OutLossIdeal.τ Cert.OutLossIdeal.sig) → Buf (Elt Ideal) ℓ) : Prop :=
  True

def Pre_OutLossRefIdeal (m : (ℓ : Loc Cert.OutLossRefIdeal.nD Cert.OutLossRefIdeal.τ Cert.OutLossRefIdeal.sig) → Buf (Elt Ideal) ℓ) : Prop :=
  True

def Pre_TailFwd (m : (ℓ : Loc Cert.TailFwd.nD Cert.TailFwd.τ Cert.TailFwd.sig) → Buf (Elt Bits) ℓ) : Prop :=
  True

def Pre_TailFwdIdeal (m : (ℓ : Loc Cert.TailFwdIdeal.nD Cert.TailFwdIdeal.τ Cert.TailFwdIdeal.sig) → Buf (Elt Ideal) ℓ) : Prop :=
  True

def Pre_TailFwdRefIdeal (m : (ℓ : Loc Cert.TailFwdRefIdeal.nD Cert.TailFwdRefIdeal.τ Cert.TailFwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_MemNormFwd (m : (ℓ : Loc Cert.MemNormFwd.nD Cert.MemNormFwd.τ Cert.MemNormFwd.sig) → Buf (Elt Bits) ℓ) : Prop :=
  True

def Pre_MemNormFwdIdeal (m : (ℓ : Loc Cert.MemNormFwdIdeal.nD Cert.MemNormFwdIdeal.τ Cert.MemNormFwdIdeal.sig) → Buf (Elt Ideal) ℓ) : Prop :=
  True

def Pre_MemNormFwdRefIdeal (m : (ℓ : Loc Cert.MemNormFwdRefIdeal.nD Cert.MemNormFwdRefIdeal.τ Cert.MemNormFwdRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_XattnFwd (m : (ℓ : Loc Cert.XattnFwd.nD Cert.XattnFwd.τ Cert.XattnFwd.sig) → Buf (Elt Bits) ℓ) : Prop :=
  True

def Pre_XattnFwdIdeal (m : (ℓ : Loc Cert.XattnFwdIdeal.nD Cert.XattnFwdIdeal.τ Cert.XattnFwdIdeal.sig) → Buf (Elt Ideal) ℓ) : Prop :=
  True

def Pre_XattnFwdIdeal_finite_queries_keys [hPre_finite_queries_keys : Cert.Pre_finite_queries_keys.Facts] (m : (ℓ : Loc Cert.XattnFwdIdeal.nD Cert.XattnFwdIdeal.τ Cert.XattnFwdIdeal.sig) → Buf (Elt Ideal) ℓ) : Prop :=
  ∀ c : Dev Cert.XattnFwdIdeal.nD,
    (Cert.Pre_finite_queries_keys.fn (F := Ideal) (m ((c.tc : Thread Cert.XattnFwdIdeal.nD Cert.XattnFwdIdeal.τ).loc Cert.XattnFwdIdeal.main_arg0)) (m ((c.tc : Thread Cert.XattnFwdIdeal.nD Cert.XattnFwdIdeal.τ).loc Cert.XattnFwdIdeal.main_arg1))) = (fun _ => 1#1)

def Pre_XattnFwdRefIdeal (m : (ℓ : Loc Cert.XattnFwdRefIdeal.nD Cert.XattnFwdRefIdeal.τ Cert.XattnFwdRefIdeal.sig) → Buf (Elt Ideal) ℓ) : Prop :=
  True

def Pre_XattnFwdRefIdeal_finite_queries_keys [hPre_finite_queries_keys : Cert.Pre_finite_queries_keys.Facts] (m : (ℓ : Loc Cert.XattnFwdRefIdeal.nD Cert.XattnFwdRefIdeal.τ Cert.XattnFwdRefIdeal.sig) → Buf (Elt Ideal) ℓ) : Prop :=
  ∀ c : Dev Cert.XattnFwdRefIdeal.nD,
    (Cert.Pre_finite_queries_keys.fn (F := Ideal) (m ((c.tc : Thread Cert.XattnFwdRefIdeal.nD Cert.XattnFwdRefIdeal.τ).loc Cert.XattnFwdRefIdeal.main_arg0)) (m ((c.tc : Thread Cert.XattnFwdRefIdeal.nD Cert.XattnFwdRefIdeal.τ).loc Cert.XattnFwdRefIdeal.main_arg1))) = (fun _ => 1#1)

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamWin (m : (ℓ : Loc Cert.AdamWin.nD Cert.AdamWin.τ Cert.AdamWin.sig) → Buf (Elt Bits) ℓ) : Prop :=
  True

def Pre_AdamWinIdeal (m : (ℓ : Loc Cert.AdamWinIdeal.nD Cert.AdamWinIdeal.τ Cert.AdamWinIdeal.sig) → Buf (Elt Ideal) ℓ) : Prop :=
  True

def Pre_AdamWinRefIdeal (m : (ℓ : Loc Cert.AdamWinRefIdeal.nD Cert.AdamWinRefIdeal.τ Cert.AdamWinRefIdeal.sig) → Buf (Elt Ideal) ℓ) : Prop :=
  True

def Pre_AdamSq (m : (ℓ : Loc Cert.AdamSq.nD Cert.AdamSq.τ Cert.AdamSq.sig) → Buf (Elt Bits) ℓ) : Prop :=
  True

def Pre_AdamSqIdeal (m : (ℓ : Loc Cert.AdamSqIdeal.nD Cert.AdamSqIdeal.τ Cert.AdamSqIdeal.sig) → Buf (Elt Ideal) ℓ) : Prop :=
  True

def Pre_AdamSqRefIdeal (m : (ℓ : Loc Cert.AdamSqRefIdeal.nD Cert.AdamSqRefIdeal.τ Cert.AdamSqRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1)
      ∧ r.2.mem ((c.tc : Thread Cert.OutDx.nD Cert.OutDx.τ).loc Cert.OutDx.main_arg2) = m ((c.tc : Thread Cert.OutDx.nD Cert.OutDx.τ).loc Cert.OutDx.main_arg2))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
      ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ r.2.sem = fun _ => 0)

def quiescent_OutDxIdeal_pre_finite_gate [hOutDxIdeal : Cert.OutDxIdeal.Facts] [hPre_finite_gate : Cert.Pre_finite_gate.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal_finite_gate m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
      ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1)
      ∧ r.2.mem ((c.tc : Thread Cert.OutDxRefIdeal.nD Cert.OutDxRefIdeal.τ).loc Cert.OutDxRefIdeal.main_arg2) = m ((c.tc : Thread Cert.OutDxRefIdeal.nD Cert.OutDxRefIdeal.τ).loc Cert.OutDxRefIdeal.main_arg2))
      ∧ r.2.sem = fun _ => 0)

def quiescent_OutDxRefIdeal_pre_finite_gate [hOutDxRefIdeal : Cert.OutDxRefIdeal.Facts] [hPre_finite_gate : Cert.Pre_finite_gate.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal_finite_gate m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1)
      ∧ r.2.mem ((c.tc : Thread Cert.OutDxRefIdeal.nD Cert.OutDxRefIdeal.τ).loc Cert.OutDxRefIdeal.main_arg2) = m ((c.tc : Thread Cert.OutDxRefIdeal.nD Cert.OutDxRefIdeal.τ).loc Cert.OutDxRefIdeal.main_arg2))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_InDx1 [hInDx1 : Cert.InDx1.Facts] : Prop :=
  ∀ (m : (ℓ : Loc Cert.InDx1.nD Cert.InDx1.τ Cert.InDx1.sig) → Buf (Elt Bits) ℓ) (g : Dev Cert.InDx1.nD → PrngReg), Pre_InDx1 m →
    θ_run (Cert.InDx1.defs (F := Bits)) (onTc (τ := Cert.InDx1.τ) (Cert.InDx1.main (F := Bits))) ⟨m, fun _ => 0, g⟩ (fun r => (∀ c : Dev Cert.InDx1.nD,
      r.2.mem ((c.tc : Thread Cert.InDx1.nD Cert.InDx1.τ).loc Cert.InDx1.main_arg0) = m ((c.tc : Thread Cert.InDx1.nD Cert.InDx1.τ).loc Cert.InDx1.main_arg0)
      ∧ r.2.mem ((c.tc : Thread Cert.InDx1.nD Cert.InDx1.τ).loc Cert.InDx1.main_arg1) = m ((c.tc : Thread Cert.InDx1.nD Cert.InDx1.τ).loc Cert.InDx1.main_arg1)
      ∧ r.2.mem ((c.tc : Thread Cert.InDx1.nD Cert.InDx1.τ).loc Cert.InDx1.main_arg2) = m ((c.tc : Thread Cert.InDx1.nD Cert.InDx1.τ).loc Cert.InDx1.main_arg2)
      ∧ r.2.mem ((c.tc : Thread Cert.InDx1.nD Cert.InDx1.τ).loc Cert.InDx1.main_arg3) = m ((c.tc : Thread Cert.InDx1.nD Cert.InDx1.τ).loc Cert.InDx1.main_arg3)
      ∧ r.2.mem ((c.tc : Thread Cert.InDx1.nD Cert.InDx1.τ).loc Cert.InDx1.main_arg4) = m ((c.tc : Thread Cert.InDx1.nD Cert.InDx1.τ).loc Cert.InDx1.main_arg4))
      ∧ r.2.sem = fun _ => 0)

def quiescent_InDx1Ideal [hInDx1Ideal : Cert.InDx1Ideal.Facts] : Prop :=
  ∀ (m : (ℓ : Loc Cert.InDx1Ideal.nD Cert.InDx1Ideal.τ Cert.InDx1Ideal.sig) → Buf (Elt Ideal) ℓ) (g : Dev Cert.InDx1Ideal.nD → PrngReg), Pre_InDx1Ideal m →
    θ_run (Cert.InDx1Ideal.defs (F := Ideal)) (onTc (τ := Cert.InDx1Ideal.τ) (Cert.InDx1Ideal.main (F := Ideal))) ⟨m, fun _ => 0, g⟩ (fun r => (∀ c : Dev Cert.InDx1Ideal.nD,
      r.2.mem ((c.tc : Thread Cert.InDx1Ideal.nD Cert.InDx1Ideal.τ).loc Cert.InDx1Ideal.main_arg0) = m ((c.tc : Thread Cert.InDx1Ideal.nD Cert.InDx1Ideal.τ).loc Cert.InDx1Ideal.main_arg0)
      ∧ r.2.mem ((c.tc : Thread Cert.InDx1Ideal.nD Cert.InDx1Ideal.τ).loc Cert.InDx1Ideal.main_arg1) = m ((c.tc : Thread Cert.InDx1Ideal.nD Cert.InDx1Ideal.τ).loc Cert.InDx1Ideal.main_arg1)
      ∧ r.2.mem ((c.tc : Thread Cert.InDx1Ideal.nD Cert.InDx1Ideal.τ).loc Cert.InDx1Ideal.main_arg2) = m ((c.tc : Thread Cert.InDx1Ideal.nD Cert.InDx1Ideal.τ).loc Cert.InDx1Ideal.main_arg2)
      ∧ r.2.mem ((c.tc : Thread Cert.InDx1Ideal.nD Cert.InDx1Ideal.τ).loc Cert.InDx1Ideal.main_arg3) = m ((c.tc : Thread Cert.InDx1Ideal.nD Cert.InDx1Ideal.τ).loc Cert.InDx1Ideal.main_arg3)
      ∧ r.2.mem ((c.tc : Thread Cert.InDx1Ideal.nD Cert.InDx1Ideal.τ).loc Cert.InDx1Ideal.main_arg4) = m ((c.tc : Thread Cert.InDx1Ideal.nD Cert.InDx1Ideal.τ).loc Cert.InDx1Ideal.main_arg4))
      ∧ r.2.sem = fun _ => 0)

def quiescent_InDx1RefIdeal [hInDx1RefIdeal : Cert.InDx1RefIdeal.Facts] : Prop :=
  ∀ (m : (ℓ : Loc Cert.InDx1RefIdeal.nD Cert.InDx1RefIdeal.τ Cert.InDx1RefIdeal.sig) → Buf (Elt Ideal) ℓ) (g : Dev Cert.InDx1RefIdeal.nD → PrngReg), Pre_InDx1RefIdeal m →
    θ_run (Cert.InDx1RefIdeal.defs (F := Ideal)) (onTc (τ := Cert.InDx1RefIdeal.τ) (Cert.InDx1RefIdeal.main (F := Ideal))) ⟨m, fun _ => 0, g⟩ (fun r => (∀ c : Dev Cert.InDx1RefIdeal.nD,
      r.2.mem ((c.tc : Thread Cert.InDx1RefIdeal.nD Cert.InDx1RefIdeal.τ).loc Cert.InDx1RefIdeal.main_arg0) = m ((c.tc : Thread Cert.InDx1RefIdeal.nD Cert.InDx1RefIdeal.τ).loc Cert.InDx1RefIdeal.main_arg0)
      ∧ r.2.mem ((c.tc : Thread Cert.InDx1RefIdeal.nD Cert.InDx1RefIdeal.τ).loc Cert.InDx1RefIdeal.main_arg1) = m ((c.tc : Thread Cert.InDx1RefIdeal.nD Cert.InDx1RefIdeal.τ).loc Cert.InDx1RefIdeal.main_arg1)
      ∧ r.2.mem ((c.tc : Thread Cert.InDx1RefIdeal.nD Cert.InDx1RefIdeal.τ).loc Cert.InDx1RefIdeal.main_arg2) = m ((c.tc : Thread Cert.InDx1RefIdeal.nD Cert.InDx1RefIdeal.τ).loc Cert.InDx1RefIdeal.main_arg2)
      ∧ r.2.mem ((c.tc : Thread Cert.InDx1RefIdeal.nD Cert.InDx1RefIdeal.τ).loc Cert.InDx1RefIdeal.main_arg3) = m ((c.tc : Thread Cert.InDx1RefIdeal.nD Cert.InDx1RefIdeal.τ).loc Cert.InDx1RefIdeal.main_arg3)
      ∧ r.2.mem ((c.tc : Thread Cert.InDx1RefIdeal.nD Cert.InDx1RefIdeal.τ).loc Cert.InDx1RefIdeal.main_arg4) = m ((c.tc : Thread Cert.InDx1RefIdeal.nD Cert.InDx1RefIdeal.τ).loc Cert.InDx1RefIdeal.main_arg4))
      ∧ r.2.sem = fun _ => 0)

def quiescent_InDx2 [hInDx2 : Cert.InDx2.Facts] : Prop :=
  ∀ (m : (ℓ : Loc Cert.InDx2.nD Cert.InDx2.τ Cert.InDx2.sig) → Buf (Elt Bits) ℓ) (g : Dev Cert.InDx2.nD → PrngReg), Pre_InDx2 m →
    θ_run (Cert.InDx2.defs (F := Bits)) (onTc (τ := Cert.InDx2.τ) (Cert.InDx2.main (F := Bits))) ⟨m, fun _ => 0, g⟩ (fun r => (∀ c : Dev Cert.InDx2.nD,
      r.2.mem ((c.tc : Thread Cert.InDx2.nD Cert.InDx2.τ).loc Cert.InDx2.main_arg0) = m ((c.tc : Thread Cert.InDx2.nD Cert.InDx2.τ).loc Cert.InDx2.main_arg0)
      ∧ r.2.mem ((c.tc : Thread Cert.InDx2.nD Cert.InDx2.τ).loc Cert.InDx2.main_arg1) = m ((c.tc : Thread Cert.InDx2.nD Cert.InDx2.τ).loc Cert.InDx2.main_arg1)
      ∧ r.2.mem ((c.tc : Thread Cert.InDx2.nD Cert.InDx2.τ).loc Cert.InDx2.main_arg2) = m ((c.tc : Thread Cert.InDx2.nD Cert.InDx2.τ).loc Cert.InDx2.main_arg2)
      ∧ r.2.mem ((c.tc : Thread Cert.InDx2.nD Cert.InDx2.τ).loc Cert.InDx2.main_arg3) = m ((c.tc : Thread Cert.InDx2.nD Cert.InDx2.τ).loc Cert.InDx2.main_arg3)
      ∧ r.2.mem ((c.tc : Thread Cert.InDx2.nD Cert.InDx2.τ).loc Cert.InDx2.main_arg4) = m ((c.tc : Thread Cert.InDx2.nD Cert.InDx2.τ).loc Cert.InDx2.main_arg4)
      ∧ r.2.mem ((c.tc : Thread Cert.InDx2.nD Cert.InDx2.τ).loc Cert.InDx2.main_arg5) = m ((c.tc : Thread Cert.InDx2.nD Cert.InDx2.τ).loc Cert.InDx2.main_arg5)
      ∧ r.2.mem ((c.tc : Thread Cert.InDx2.nD Cert.InDx2.τ).loc Cert.InDx2.main_arg6) = m ((c.tc : Thread Cert.InDx2.nD Cert.InDx2.τ).loc Cert.InDx2.main_arg6))
      ∧ r.2.sem = fun _ => 0)

def quiescent_InDx2Ideal [hInDx2Ideal : Cert.InDx2Ideal.Facts] : Prop :=
  ∀ (m : (ℓ : Loc Cert.InDx2Ideal.nD Cert.InDx2Ideal.τ Cert.InDx2Ideal.sig) → Buf (Elt Ideal) ℓ) (g : Dev Cert.InDx2Ideal.nD → PrngReg), Pre_InDx2Ideal m →
    θ_run (Cert.InDx2Ideal.defs (F := Ideal)) (onTc (τ := Cert.InDx2Ideal.τ) (Cert.InDx2Ideal.main (F := Ideal))) ⟨m, fun _ => 0, g⟩ (fun r => (∀ c : Dev Cert.InDx2Ideal.nD,
      r.2.mem ((c.tc : Thread Cert.InDx2Ideal.nD Cert.InDx2Ideal.τ).loc Cert.InDx2Ideal.main_arg0) = m ((c.tc : Thread Cert.InDx2Ideal.nD Cert.InDx2Ideal.τ).loc Cert.InDx2Ideal.main_arg0)
      ∧ r.2.mem ((c.tc : Thread Cert.InDx2Ideal.nD Cert.InDx2Ideal.τ).loc Cert.InDx2Ideal.main_arg1) = m ((c.tc : Thread Cert.InDx2Ideal.nD Cert.InDx2Ideal.τ).loc Cert.InDx2Ideal.main_arg1)
      ∧ r.2.mem ((c.tc : Thread Cert.InDx2Ideal.nD Cert.InDx2Ideal.τ).loc Cert.InDx2Ideal.main_arg2) = m ((c.tc : Thread Cert.InDx2Ideal.nD Cert.InDx2Ideal.τ).loc Cert.InDx2Ideal.main_arg2)
      ∧ r.2.mem ((c.tc : Thread Cert.InDx2Ideal.nD Cert.InDx2Ideal.τ).loc Cert.InDx2Ideal.main_arg3) = m ((c.tc : Thread Cert.InDx2Ideal.nD Cert.InDx2Ideal.τ).loc Cert.InDx2Ideal.main_arg3)
      ∧ r.2.mem ((c.tc : Thread Cert.InDx2Ideal.nD Cert.InDx2Ideal.τ).loc Cert.InDx2Ideal.main_arg4) = m ((c.tc : Thread Cert.InDx2Ideal.nD Cert.InDx2Ideal.τ).loc Cert.InDx2Ideal.main_arg4)
      ∧ r.2.mem ((c.tc : Thread Cert.InDx2Ideal.nD Cert.InDx2Ideal.τ).loc Cert.InDx2Ideal.main_arg5) = m ((c.tc : Thread Cert.InDx2Ideal.nD Cert.InDx2Ideal.τ).loc Cert.InDx2Ideal.main_arg5)
      ∧ r.2.mem ((c.tc : Thread Cert.InDx2Ideal.nD Cert.InDx2Ideal.τ).loc Cert.InDx2Ideal.main_arg6) = m ((c.tc : Thread Cert.InDx2Ideal.nD Cert.InDx2Ideal.τ).loc Cert.InDx2Ideal.main_arg6))
      ∧ r.2.sem = fun _ => 0)

def quiescent_InDx2RefIdeal [hInDx2RefIdeal : Cert.InDx2RefIdeal.Facts] : Prop :=
  ∀ (m : (ℓ : Loc Cert.InDx2RefIdeal.nD Cert.InDx2RefIdeal.τ Cert.InDx2RefIdeal.sig) → Buf (Elt Ideal) ℓ) (g : Dev Cert.InDx2RefIdeal.nD → PrngReg), Pre_InDx2RefIdeal m →
    θ_run (Cert.InDx2RefIdeal.defs (F := Ideal)) (onTc (τ := Cert.InDx2RefIdeal.τ) (Cert.InDx2RefIdeal.main (F := Ideal))) ⟨m, fun _ => 0, g⟩ (fun r => (∀ c : Dev Cert.InDx2RefIdeal.nD,
      r.2.mem ((c.tc : Thread Cert.InDx2RefIdeal.nD Cert.InDx2RefIdeal.τ).loc Cert.InDx2RefIdeal.main_arg0) = m ((c.tc : Thread Cert.InDx2RefIdeal.nD Cert.InDx2RefIdeal.τ).loc Cert.InDx2RefIdeal.main_arg0)
      ∧ r.2.mem ((c.tc : Thread Cert.InDx2RefIdeal.nD Cert.InDx2RefIdeal.τ).loc Cert.InDx2RefIdeal.main_arg1) = m ((c.tc : Thread Cert.InDx2RefIdeal.nD Cert.InDx2RefIdeal.τ).loc Cert.InDx2RefIdeal.main_arg1)
      ∧ r.2.mem ((c.tc : Thread Cert.InDx2RefIdeal.nD Cert.InDx2RefIdeal.τ).loc Cert.InDx2RefIdeal.main_arg2) = m ((c.tc : Thread Cert.InDx2RefIdeal.nD Cert.InDx2RefIdeal.τ).loc Cert.InDx2RefIdeal.main_arg2)
      ∧ r.2.mem ((c.tc : Thread Cert.InDx2RefIdeal.nD Cert.InDx2RefIdeal.τ).loc Cert.InDx2RefIdeal.main_arg3) = m ((c.tc : Thread Cert.InDx2RefIdeal.nD Cert.InDx2RefIdeal.τ).loc Cert.InDx2RefIdeal.main_arg3)
      ∧ r.2.mem ((c.tc : Thread Cert.InDx2RefIdeal.nD Cert.InDx2RefIdeal.τ).loc Cert.InDx2RefIdeal.main_arg4) = m ((c.tc : Thread Cert.InDx2RefIdeal.nD Cert.InDx2RefIdeal.τ).loc Cert.InDx2RefIdeal.main_arg4)
      ∧ r.2.mem ((c.tc : Thread Cert.InDx2RefIdeal.nD Cert.InDx2RefIdeal.τ).loc Cert.InDx2RefIdeal.main_arg5) = m ((c.tc : Thread Cert.InDx2RefIdeal.nD Cert.InDx2RefIdeal.τ).loc Cert.InDx2RefIdeal.main_arg5)
      ∧ r.2.mem ((c.tc : Thread Cert.InDx2RefIdeal.nD Cert.InDx2RefIdeal.τ).loc Cert.InDx2RefIdeal.main_arg6) = m ((c.tc : Thread Cert.InDx2RefIdeal.nD Cert.InDx2RefIdeal.τ).loc Cert.InDx2RefIdeal.main_arg6))
      ∧ r.2.sem = fun _ => 0)

def quiescent_TailBwd [hTailBwd : Cert.TailBwd.Facts] : Prop :=
  ∀ (m : (ℓ : Loc Cert.TailBwd.nD Cert.TailBwd.τ Cert.TailBwd.sig) → Buf (Elt Bits) ℓ) (g : Dev Cert.TailBwd.nD → PrngReg), Pre_TailBwd m →
    θ_run (Cert.TailBwd.defs (F := Bits)) (onTc (τ := Cert.TailBwd.τ) (Cert.TailBwd.main (F := Bits))) ⟨m, fun _ => 0, g⟩ (fun r => (∀ c : Dev Cert.TailBwd.nD,
      r.2.mem ((c.tc : Thread Cert.TailBwd.nD Cert.TailBwd.τ).loc Cert.TailBwd.main_arg0) = m ((c.tc : Thread Cert.TailBwd.nD Cert.TailBwd.τ).loc Cert.TailBwd.main_arg0)
      ∧ r.2.mem ((c.tc : Thread Cert.TailBwd.nD Cert.TailBwd.τ).loc Cert.TailBwd.main_arg1) = m ((c.tc : Thread Cert.TailBwd.nD Cert.TailBwd.τ).loc Cert.TailBwd.main_arg1)
      ∧ r.2.mem ((c.tc : Thread Cert.TailBwd.nD Cert.TailBwd.τ).loc Cert.TailBwd.main_arg2) = m ((c.tc : Thread Cert.TailBwd.nD Cert.TailBwd.τ).loc Cert.TailBwd.main_arg2)
      ∧ r.2.mem ((c.tc : Thread Cert.TailBwd.nD Cert.TailBwd.τ).loc Cert.TailBwd.main_arg3) = m ((c.tc : Thread Cert.TailBwd.nD Cert.TailBwd.τ).loc Cert.TailBwd.main_arg3)
      ∧ r.2.mem ((c.tc : Thread Cert.TailBwd.nD Cert.TailBwd.τ).loc Cert.TailBwd.main_arg4) = m ((c.tc : Thread Cert.TailBwd.nD Cert.TailBwd.τ).loc Cert.TailBwd.main_arg4)
      ∧ r.2.mem ((c.tc : Thread Cert.TailBwd.nD Cert.TailBwd.τ).loc Cert.TailBwd.main_arg5) = m ((c.tc : Thread Cert.TailBwd.nD Cert.TailBwd.τ).loc Cert.TailBwd.main_arg5)
      ∧ r.2.mem ((c.tc : Thread Cert.TailBwd.nD Cert.TailBwd.τ).loc Cert.TailBwd.main_arg6) = m ((c.tc : Thread Cert.TailBwd.nD Cert.TailBwd.τ).loc Cert.TailBwd.main_arg6)
      ∧ r.2.mem ((c.tc : Thread Cert.TailBwd.nD Cert.TailBwd.τ).loc Cert.TailBwd.main_arg7) = m ((c.tc : Thread Cert.TailBwd.nD Cert.TailBwd.τ).loc Cert.TailBwd.main_arg7)
      ∧ r.2.mem ((c.tc : Thread Cert.TailBwd.nD Cert.TailBwd.τ).loc Cert.TailBwd.main_arg8) = m ((c.tc : Thread Cert.TailBwd.nD Cert.TailBwd.τ).loc Cert.TailBwd.main_arg8))
      ∧ r.2.sem = fun _ => 0)

def quiescent_TailBwdIdeal [hTailBwdIdeal : Cert.TailBwdIdeal.Facts] : Prop :=
  ∀ (m : (ℓ : Loc Cert.TailBwdIdeal.nD Cert.TailBwdIdeal.τ Cert.TailBwdIdeal.sig) → Buf (Elt Ideal) ℓ) (g : Dev Cert.TailBwdIdeal.nD → PrngReg), Pre_TailBwdIdeal m →
    θ_run (Cert.TailBwdIdeal.defs (F := Ideal)) (onTc (τ := Cert.TailBwdIdeal.τ) (Cert.TailBwdIdeal.main (F := Ideal))) ⟨m, fun _ => 0, g⟩ (fun r => (∀ c : Dev Cert.TailBwdIdeal.nD,
      r.2.mem ((c.tc : Thread Cert.TailBwdIdeal.nD Cert.TailBwdIdeal.τ).loc Cert.TailBwdIdeal.main_arg0) = m ((c.tc : Thread Cert.TailBwdIdeal.nD Cert.TailBwdIdeal.τ).loc Cert.TailBwdIdeal.main_arg0)
      ∧ r.2.mem ((c.tc : Thread Cert.TailBwdIdeal.nD Cert.TailBwdIdeal.τ).loc Cert.TailBwdIdeal.main_arg1) = m ((c.tc : Thread Cert.TailBwdIdeal.nD Cert.TailBwdIdeal.τ).loc Cert.TailBwdIdeal.main_arg1)
      ∧ r.2.mem ((c.tc : Thread Cert.TailBwdIdeal.nD Cert.TailBwdIdeal.τ).loc Cert.TailBwdIdeal.main_arg2) = m ((c.tc : Thread Cert.TailBwdIdeal.nD Cert.TailBwdIdeal.τ).loc Cert.TailBwdIdeal.main_arg2)
      ∧ r.2.mem ((c.tc : Thread Cert.TailBwdIdeal.nD Cert.TailBwdIdeal.τ).loc Cert.TailBwdIdeal.main_arg3) = m ((c.tc : Thread Cert.TailBwdIdeal.nD Cert.TailBwdIdeal.τ).loc Cert.TailBwdIdeal.main_arg3)
      ∧ r.2.mem ((c.tc : Thread Cert.TailBwdIdeal.nD Cert.TailBwdIdeal.τ).loc Cert.TailBwdIdeal.main_arg4) = m ((c.tc : Thread Cert.TailBwdIdeal.nD Cert.TailBwdIdeal.τ).loc Cert.TailBwdIdeal.main_arg4)
      ∧ r.2.mem ((c.tc : Thread Cert.TailBwdIdeal.nD Cert.TailBwdIdeal.τ).loc Cert.TailBwdIdeal.main_arg5) = m ((c.tc : Thread Cert.TailBwdIdeal.nD Cert.TailBwdIdeal.τ).loc Cert.TailBwdIdeal.main_arg5)
      ∧ r.2.mem ((c.tc : Thread Cert.TailBwdIdeal.nD Cert.TailBwdIdeal.τ).loc Cert.TailBwdIdeal.main_arg6) = m ((c.tc : Thread Cert.TailBwdIdeal.nD Cert.TailBwdIdeal.τ).loc Cert.TailBwdIdeal.main_arg6)
      ∧ r.2.mem ((c.tc : Thread Cert.TailBwdIdeal.nD Cert.TailBwdIdeal.τ).loc Cert.TailBwdIdeal.main_arg7) = m ((c.tc : Thread Cert.TailBwdIdeal.nD Cert.TailBwdIdeal.τ).loc Cert.TailBwdIdeal.main_arg7)
      ∧ r.2.mem ((c.tc : Thread Cert.TailBwdIdeal.nD Cert.TailBwdIdeal.τ).loc Cert.TailBwdIdeal.main_arg8) = m ((c.tc : Thread Cert.TailBwdIdeal.nD Cert.TailBwdIdeal.τ).loc Cert.TailBwdIdeal.main_arg8))
      ∧ r.2.sem = fun _ => 0)

def quiescent_TailBwdRefIdeal [hTailBwdRefIdeal : Cert.TailBwdRefIdeal.Facts] : Prop :=
  ∀ (m : (ℓ : Loc Cert.TailBwdRefIdeal.nD Cert.TailBwdRefIdeal.τ Cert.TailBwdRefIdeal.sig) → Buf (Elt Ideal) ℓ) (g : Dev Cert.TailBwdRefIdeal.nD → PrngReg), Pre_TailBwdRefIdeal m →
    θ_run (Cert.TailBwdRefIdeal.defs (F := Ideal)) (onTc (τ := Cert.TailBwdRefIdeal.τ) (Cert.TailBwdRefIdeal.main (F := Ideal))) ⟨m, fun _ => 0, g⟩ (fun r => (∀ c : Dev Cert.TailBwdRefIdeal.nD,
      r.2.mem ((c.tc : Thread Cert.TailBwdRefIdeal.nD Cert.TailBwdRefIdeal.τ).loc Cert.TailBwdRefIdeal.main_arg0) = m ((c.tc : Thread Cert.TailBwdRefIdeal.nD Cert.TailBwdRefIdeal.τ).loc Cert.TailBwdRefIdeal.main_arg0)
      ∧ r.2.mem ((c.tc : Thread Cert.TailBwdRefIdeal.nD Cert.TailBwdRefIdeal.τ).loc Cert.TailBwdRefIdeal.main_arg1) = m ((c.tc : Thread Cert.TailBwdRefIdeal.nD Cert.TailBwdRefIdeal.τ).loc Cert.TailBwdRefIdeal.main_arg1)
      ∧ r.2.mem ((c.tc : Thread Cert.TailBwdRefIdeal.nD Cert.TailBwdRefIdeal.τ).loc Cert.TailBwdRefIdeal.main_arg2) = m ((c.tc : Thread Cert.TailBwdRefIdeal.nD Cert.TailBwdRefIdeal.τ).loc Cert.TailBwdRefIdeal.main_arg2)
      ∧ r.2.mem ((c.tc : Thread Cert.TailBwdRefIdeal.nD Cert.TailBwdRefIdeal.τ).loc Cert.TailBwdRefIdeal.main_arg3) = m ((c.tc : Thread Cert.TailBwdRefIdeal.nD Cert.TailBwdRefIdeal.τ).loc Cert.TailBwdRefIdeal.main_arg3)
      ∧ r.2.mem ((c.tc : Thread Cert.TailBwdRefIdeal.nD Cert.TailBwdRefIdeal.τ).loc Cert.TailBwdRefIdeal.main_arg4) = m ((c.tc : Thread Cert.TailBwdRefIdeal.nD Cert.TailBwdRefIdeal.τ).loc Cert.TailBwdRefIdeal.main_arg4)
      ∧ r.2.mem ((c.tc : Thread Cert.TailBwdRefIdeal.nD Cert.TailBwdRefIdeal.τ).loc Cert.TailBwdRefIdeal.main_arg5) = m ((c.tc : Thread Cert.TailBwdRefIdeal.nD Cert.TailBwdRefIdeal.τ).loc Cert.TailBwdRefIdeal.main_arg5)
      ∧ r.2.mem ((c.tc : Thread Cert.TailBwdRefIdeal.nD Cert.TailBwdRefIdeal.τ).loc Cert.TailBwdRefIdeal.main_arg6) = m ((c.tc : Thread Cert.TailBwdRefIdeal.nD Cert.TailBwdRefIdeal.τ).loc Cert.TailBwdRefIdeal.main_arg6)
      ∧ r.2.mem ((c.tc : Thread Cert.TailBwdRefIdeal.nD Cert.TailBwdRefIdeal.τ).loc Cert.TailBwdRefIdeal.main_arg7) = m ((c.tc : Thread Cert.TailBwdRefIdeal.nD Cert.TailBwdRefIdeal.τ).loc Cert.TailBwdRefIdeal.main_arg7)
      ∧ r.2.mem ((c.tc : Thread Cert.TailBwdRefIdeal.nD Cert.TailBwdRefIdeal.τ).loc Cert.TailBwdRefIdeal.main_arg8) = m ((c.tc : Thread Cert.TailBwdRefIdeal.nD Cert.TailBwdRefIdeal.τ).loc Cert.TailBwdRefIdeal.main_arg8))
      ∧ r.2.sem = fun _ => 0)

def quiescent_MixDx [hMixDx : Cert.MixDx.Facts] : Prop :=
  ∀ (m : (ℓ : Loc Cert.MixDx.nD Cert.MixDx.τ Cert.MixDx.sig) → Buf (Elt Bits) ℓ) (g : Dev Cert.MixDx.nD → PrngReg), Pre_MixDx m →
    θ_run (Cert.MixDx.defs (F := Bits)) (onTc (τ := Cert.MixDx.τ) (Cert.MixDx.main (F := Bits))) ⟨m, fun _ => 0, g⟩ (fun r => (∀ c : Dev Cert.MixDx.nD,
      r.2.mem ((c.tc : Thread Cert.MixDx.nD Cert.MixDx.τ).loc Cert.MixDx.main_arg0) = m ((c.tc : Thread Cert.MixDx.nD Cert.MixDx.τ).loc Cert.MixDx.main_arg0)
      ∧ r.2.mem ((c.tc : Thread Cert.MixDx.nD Cert.MixDx.τ).loc Cert.MixDx.main_arg1) = m ((c.tc : Thread Cert.MixDx.nD Cert.MixDx.τ).loc Cert.MixDx.main_arg1)
      ∧ r.2.mem ((c.tc : Thread Cert.MixDx.nD Cert.MixDx.τ).loc Cert.MixDx.main_arg2) = m ((c.tc : Thread Cert.MixDx.nD Cert.MixDx.τ).loc Cert.MixDx.main_arg2)
      ∧ r.2.mem ((c.tc : Thread Cert.MixDx.nD Cert.MixDx.τ).loc Cert.MixDx.main_arg3) = m ((c.tc : Thread Cert.MixDx.nD Cert.MixDx.τ).loc Cert.MixDx.main_arg3)
      ∧ r.2.mem ((c.tc : Thread Cert.MixDx.nD Cert.MixDx.τ).loc Cert.MixDx.main_arg4) = m ((c.tc : Thread Cert.MixDx.nD Cert.MixDx.τ).loc Cert.MixDx.main_arg4)
      ∧ r.2.mem ((c.tc : Thread Cert.MixDx.nD Cert.MixDx.τ).loc Cert.MixDx.main_arg5) = m ((c.tc : Thread Cert.MixDx.nD Cert.MixDx.τ).loc Cert.MixDx.main_arg5)
      ∧ r.2.mem ((c.tc : Thread Cert.MixDx.nD Cert.MixDx.τ).loc Cert.MixDx.main_arg6) = m ((c.tc : Thread Cert.MixDx.nD Cert.MixDx.τ).loc Cert.MixDx.main_arg6)
      ∧ r.2.mem ((c.tc : Thread Cert.MixDx.nD Cert.MixDx.τ).loc Cert.MixDx.main_arg7) = m ((c.tc : Thread Cert.MixDx.nD Cert.MixDx.τ).loc Cert.MixDx.main_arg7)
      ∧ r.2.mem ((c.tc : Thread Cert.MixDx.nD Cert.MixDx.τ).loc Cert.MixDx.main_arg8) = m ((c.tc : Thread Cert.MixDx.nD Cert.MixDx.τ).loc Cert.MixDx.main_arg8)
      ∧ r.2.mem ((c.tc : Thread Cert.MixDx.nD Cert.MixDx.τ).loc Cert.MixDx.main_arg9) = m ((c.tc : Thread Cert.MixDx.nD Cert.MixDx.τ).loc Cert.MixDx.main_arg9)
      ∧ r.2.mem ((c.tc : Thread Cert.MixDx.nD Cert.MixDx.τ).loc Cert.MixDx.main_arg10) = m ((c.tc : Thread Cert.MixDx.nD Cert.MixDx.τ).loc Cert.MixDx.main_arg10)
      ∧ r.2.mem ((c.tc : Thread Cert.MixDx.nD Cert.MixDx.τ).loc Cert.MixDx.main_arg11) = m ((c.tc : Thread Cert.MixDx.nD Cert.MixDx.τ).loc Cert.MixDx.main_arg11)
      ∧ r.2.mem ((c.tc : Thread Cert.MixDx.nD Cert.MixDx.τ).loc Cert.MixDx.main_arg12) = m ((c.tc : Thread Cert.MixDx.nD Cert.MixDx.τ).loc Cert.MixDx.main_arg12))
      ∧ r.2.sem = fun _ => 0)

def quiescent_MixDxIdeal [hMixDxIdeal : Cert.MixDxIdeal.Facts] : Prop :=
  ∀ (m : (ℓ : Loc Cert.MixDxIdeal.nD Cert.MixDxIdeal.τ Cert.MixDxIdeal.sig) → Buf (Elt Ideal) ℓ) (g : Dev Cert.MixDxIdeal.nD → PrngReg), Pre_MixDxIdeal m →
    θ_run (Cert.MixDxIdeal.defs (F := Ideal)) (onTc (τ := Cert.MixDxIdeal.τ) (Cert.MixDxIdeal.main (F := Ideal))) ⟨m, fun _ => 0, g⟩ (fun r => (∀ c : Dev Cert.MixDxIdeal.nD,
      r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
      ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1)
      ∧ r.2.mem ((c.tc : Thread Cert.MixDxIdeal.nD Cert.MixDxIdeal.τ).loc Cert.MixDxIdeal.main_arg2) = m ((c.tc : Thread Cert.MixDxIdeal.nD Cert.MixDxIdeal.τ).loc Cert.MixDxIdeal.main_arg2)
      ∧ r.2.mem ((c.tc : Thread Cert.MixDxIdeal.nD Cert.MixDxIdeal.τ).loc Cert.MixDxIdeal.main_arg3) = m ((c.tc : Thread Cert.MixDxIdeal.nD Cert.MixDxIdeal.τ).loc Cert.MixDxIdeal.main_arg3)
      ∧ r.2.mem ((c.tc : Thread Cert.MixDxIdeal.nD Cert.MixDxIdeal.τ).loc Cert.MixDxIdeal.main_arg4) = m ((c.tc : Thread Cert.MixDxIdeal.nD Cert.MixDxIdeal.τ).loc Cert.MixDxIdeal.main_arg4)
      ∧ r.2.mem ((c.tc : Thread Cert.MixDxIdeal.nD Cert.MixDxIdeal.τ).loc Cert.MixDxIdeal.main_arg5) = m ((c.tc : Thread Cert.MixDxIdeal.nD Cert.MixDxIdeal.τ).loc Cert.MixDxIdeal.main_arg5)
      ∧ r.2.mem ((c.tc : Thread Cert.MixDxIdeal.nD Cert.MixDxIdeal.τ).loc Cert.MixDxIdeal.main_arg6) = m ((c.tc : Thread Cert.MixDxIdeal.nD Cert.MixDxIdeal.τ).loc Cert.MixDxIdeal.main_arg6)
      ∧ r.2.mem ((c.tc : Thread Cert.MixDxIdeal.nD Cert.MixDxIdeal.τ).loc Cert.MixDxIdeal.main_arg7) = m ((c.tc : Thread Cert.MixDxIdeal.nD Cert.MixDxIdeal.τ).loc Cert.MixDxIdeal.main_arg7)
      ∧ r.2.mem ((c.tc : Thread Cert.MixDxIdeal.nD Cert.MixDxIdeal.τ).loc Cert.MixDxIdeal.main_arg8) = m ((c.tc : Thread Cert.MixDxIdeal.nD Cert.MixDxIdeal.τ).loc Cert.MixDxIdeal.main_arg8)
      ∧ r.2.mem ((c.tc : Thread Cert.MixDxIdeal.nD Cert.MixDxIdeal.τ).loc Cert.MixDxIdeal.main_arg9) = m ((c.tc : Thread Cert.MixDxIdeal.nD Cert.MixDxIdeal.τ).loc Cert.MixDxIdeal.main_arg9)
      ∧ r.2.mem ((c.tc : Thread Cert.MixDxIdeal.nD Cert.MixDxIdeal.τ).loc Cert.MixDxIdeal.main_arg10) = m ((c.tc : Thread Cert.MixDxIdeal.nD Cert.MixDxIdeal.τ).loc Cert.MixDxIdeal.main_arg10)
      ∧ r.2.mem ((c.tc : Thread Cert.MixDxIdeal.nD Cert.MixDxIdeal.τ).loc Cert.MixDxIdeal.main_arg11) = m ((c.tc : Thread Cert.MixDxIdeal.nD Cert.MixDxIdeal.τ).loc Cert.MixDxIdeal.main_arg11)
      ∧ r.2.mem ((c.tc : Thread Cert.MixDxIdeal.nD Cert.MixDxIdeal.τ).loc Cert.MixDxIdeal.main_arg12) = m ((c.tc : Thread Cert.MixDxIdeal.nD Cert.MixDxIdeal.τ).loc Cert.MixDxIdeal.main_arg12))
      ∧ r.2.sem = fun _ => 0)

def quiescent_MixDxRefIdeal [hMixDxRefIdeal : Cert.MixDxRefIdeal.Facts] : Prop :=
  ∀ (m : (ℓ : Loc Cert.MixDxRefIdeal.nD Cert.MixDxRefIdeal.τ Cert.MixDxRefIdeal.sig) → Buf (Elt Ideal) ℓ) (g : Dev Cert.MixDxRefIdeal.nD → PrngReg), Pre_MixDxRefIdeal m →
    θ_run (Cert.MixDxRefIdeal.defs (F := Ideal)) (onTc (τ := Cert.MixDxRefIdeal.τ) (Cert.MixDxRefIdeal.main (F := Ideal))) ⟨m, fun _ => 0, g⟩ (fun r => (∀ c : Dev Cert.MixDxRefIdeal.nD,
      r.2.mem ((c.tc : Thread Cert.MixDxRefIdeal.nD Cert.MixDxRefIdeal.τ).loc Cert.MixDxRefIdeal.main_arg0) = m ((c.tc : Thread Cert.MixDxRefIdeal.nD Cert.MixDxRefIdeal.τ).loc Cert.MixDxRefIdeal.main_arg0)
      ∧ r.2.mem ((c.tc : Thread Cert.MixDxRefIdeal.nD Cert.MixDxRefIdeal.τ).loc Cert.MixDxRefIdeal.main_arg1) = m ((c.tc : Thread Cert.MixDxRefIdeal.nD Cert.MixDxRefIdeal.τ).loc Cert.MixDxRefIdeal.main_arg1)
      ∧ r.2.mem ((c.tc : Thread Cert.MixDxRefIdeal.nD Cert.MixDxRefIdeal.τ).loc Cert.MixDxRefIdeal.main_arg2) = m ((c.tc : Thread Cert.MixDxRefIdeal.nD Cert.MixDxRefIdeal.τ).loc Cert.MixDxRefIdeal.main_arg2)
      ∧ r.2.mem ((c.tc : Thread Cert.MixDxRefIdeal.nD Cert.MixDxRefIdeal.τ).loc Cert.MixDxRefIdeal.main_arg3) = m ((c.tc : Thread Cert.MixDxRefIdeal.nD Cert.MixDxRefIdeal.τ).loc Cert.MixDxRefIdeal.main_arg3)
      ∧ r.2.mem ((c.tc : Thread Cert.MixDxRefIdeal.nD Cert.MixDxRefIdeal.τ).loc Cert.MixDxRefIdeal.main_arg4) = m ((c.tc : Thread Cert.MixDxRefIdeal.nD Cert.MixDxRefIdeal.τ).loc Cert.MixDxRefIdeal.main_arg4)
      ∧ r.2.mem ((c.tc : Thread Cert.MixDxRefIdeal.nD Cert.MixDxRefIdeal.τ).loc Cert.MixDxRefIdeal.main_arg5) = m ((c.tc : Thread Cert.MixDxRefIdeal.nD Cert.MixDxRefIdeal.τ).loc Cert.MixDxRefIdeal.main_arg5)
      ∧ r.2.mem ((c.tc : Thread Cert.MixDxRefIdeal.nD Cert.MixDxRefIdeal.τ).loc Cert.MixDxRefIdeal.main_arg6) = m ((c.tc : Thread Cert.MixDxRefIdeal.nD Cert.MixDxRefIdeal.τ).loc Cert.MixDxRefIdeal.main_arg6)
      ∧ r.2.mem ((c.tc : Thread Cert.MixDxRefIdeal.nD Cert.MixDxRefIdeal.τ).loc Cert.MixDxRefIdeal.main_arg7) = m ((c.tc : Thread Cert.MixDxRefIdeal.nD Cert.MixDxRefIdeal.τ).loc Cert.MixDxRefIdeal.main_arg7)
      ∧ r.2.mem ((c.tc : Thread Cert.MixDxRefIdeal.nD Cert.MixDxRefIdeal.τ).loc Cert.MixDxRefIdeal.main_arg8) = m ((c.tc : Thread Cert.MixDxRefIdeal.nD Cert.MixDxRefIdeal.τ).loc Cert.MixDxRefIdeal.main_arg8)
      ∧ r.2.mem ((c.tc : Thread Cert.MixDxRefIdeal.nD Cert.MixDxRefIdeal.τ).loc Cert.MixDxRefIdeal.main_arg9) = m ((c.tc : Thread Cert.MixDxRefIdeal.nD Cert.MixDxRefIdeal.τ).loc Cert.MixDxRefIdeal.main_arg9)
      ∧ r.2.mem ((c.tc : Thread Cert.MixDxRefIdeal.nD Cert.MixDxRefIdeal.τ).loc Cert.MixDxRefIdeal.main_arg10) = m ((c.tc : Thread Cert.MixDxRefIdeal.nD Cert.MixDxRefIdeal.τ).loc Cert.MixDxRefIdeal.main_arg10)
      ∧ r.2.mem ((c.tc : Thread Cert.MixDxRefIdeal.nD Cert.MixDxRefIdeal.τ).loc Cert.MixDxRefIdeal.main_arg11) = m ((c.tc : Thread Cert.MixDxRefIdeal.nD Cert.MixDxRefIdeal.τ).loc Cert.MixDxRefIdeal.main_arg11)
      ∧ r.2.mem ((c.tc : Thread Cert.MixDxRefIdeal.nD Cert.MixDxRefIdeal.τ).loc Cert.MixDxRefIdeal.main_arg12) = m ((c.tc : Thread Cert.MixDxRefIdeal.nD Cert.MixDxRefIdeal.τ).loc Cert.MixDxRefIdeal.main_arg12))
      ∧ r.2.sem = fun _ => 0)

def quiescent_GlaDw [hGlaDw : Cert.GlaDw.Facts] : Prop :=
  ∀ (m : (ℓ : Loc Cert.GlaDw.nD Cert.GlaDw.τ Cert.GlaDw.sig) → Buf (Elt Bits) ℓ) (g : Dev Cert.GlaDw.nD → PrngReg), Pre_GlaDw m →
    θ_run (Cert.GlaDw.defs (F := Bits)) (onTc (τ := Cert.GlaDw.τ) (Cert.GlaDw.main (F := Bits))) ⟨m, fun _ => 0, g⟩ (fun r => (∀ c : Dev Cert.GlaDw.nD,
      r.2.mem ((c.tc : Thread Cert.GlaDw.nD Cert.GlaDw.τ).loc Cert.GlaDw.main_arg0) = m ((c.tc : Thread Cert.GlaDw.nD Cert.GlaDw.τ).loc Cert.GlaDw.main_arg0)
      ∧ r.2.mem ((c.tc : Thread Cert.GlaDw.nD Cert.GlaDw.τ).loc Cert.GlaDw.main_arg1) = m ((c.tc : Thread Cert.GlaDw.nD Cert.GlaDw.τ).loc Cert.GlaDw.main_arg1))
      ∧ r.2.sem = fun _ => 0)

def quiescent_GlaDwIdeal [hGlaDwIdeal : Cert.GlaDwIdeal.Facts] : Prop :=
  ∀ (m : (ℓ : Loc Cert.GlaDwIdeal.nD Cert.GlaDwIdeal.τ Cert.GlaDwIdeal.sig) → Buf (Elt Ideal) ℓ) (g : Dev Cert.GlaDwIdeal.nD → PrngReg), Pre_GlaDwIdeal m →
    θ_run (Cert.GlaDwIdeal.defs (F := Ideal)) (onTc (τ := Cert.GlaDwIdeal.τ) (Cert.GlaDwIdeal.main (F := Ideal))) ⟨m, fun _ => 0, g⟩ (fun r => (∀ c : Dev Cert.GlaDwIdeal.nD,
      r.2.mem ((c.tc : Thread Cert.GlaDwIdeal.nD Cert.GlaDwIdeal.τ).loc Cert.GlaDwIdeal.main_arg0) = m ((c.tc : Thread Cert.GlaDwIdeal.nD Cert.GlaDwIdeal.τ).loc Cert.GlaDwIdeal.main_arg0)
      ∧ r.2.mem ((c.tc : Thread Cert.GlaDwIdeal.nD Cert.GlaDwIdeal.τ).loc Cert.GlaDwIdeal.main_arg1) = m ((c.tc : Thread Cert.GlaDwIdeal.nD Cert.GlaDwIdeal.τ).loc Cert.GlaDwIdeal.main_arg1))
      ∧ r.2.sem = fun _ => 0)

def quiescent_GlaDwRefIdeal [hGlaDwRefIdeal : Cert.GlaDwRefIdeal.Facts] : Prop :=
  ∀ (m : (ℓ : Loc Cert.GlaDwRefIdeal.nD Cert.GlaDwRefIdeal.τ Cert.GlaDwRefIdeal.sig) → Buf (Elt Ideal) ℓ) (g : Dev Cert.GlaDwRefIdeal.nD → PrngReg), Pre_GlaDwRefIdeal m →
    θ_run (Cert.GlaDwRefIdeal.defs (F := Ideal)) (onTc (τ := Cert.GlaDwRefIdeal.τ) (Cert.GlaDwRefIdeal.main (F := Ideal))) ⟨m, fun _ => 0, g⟩ (fun r => (∀ c : Dev Cert.GlaDwRefIdeal.nD,
      r.2.mem ((c.tc : Thread Cert.GlaDwRefIdeal.nD Cert.GlaDwRefIdeal.τ).loc Cert.GlaDwRefIdeal.main_arg0) = m ((c.tc : Thread Cert.GlaDwRefIdeal.nD Cert.GlaDwRefIdeal.τ).loc Cert.GlaDwRefIdeal.main_arg0)
      ∧ r.2.mem ((c.tc : Thread Cert.GlaDwRefIdeal.nD Cert.GlaDwRefIdeal.τ).loc Cert.GlaDwRefIdeal.main_arg1) = m ((c.tc : Thread Cert.GlaDwRefIdeal.nD Cert.GlaDwRefIdeal.τ).loc Cert.GlaDwRefIdeal.main_arg1))
      ∧ r.2.sem = fun _ => 0)

def quiescent_PxDw [hPxDw : Cert.PxDw.Facts] : Prop :=
  ∀ (m : (ℓ : Loc Cert.PxDw.nD Cert.PxDw.τ Cert.PxDw.sig) → Buf (Elt Bits) ℓ) (g : Dev Cert.PxDw.nD → PrngReg), Pre_PxDw m →
    θ_run (Cert.PxDw.defs (F := Bits)) (onTc (τ := Cert.PxDw.τ) (Cert.PxDw.main (F := Bits))) ⟨m, fun _ => 0, g⟩ (fun r => (∀ c : Dev Cert.PxDw.nD,
      r.2.mem ((c.tc : Thread Cert.PxDw.nD Cert.PxDw.τ).loc Cert.PxDw.main_arg0) = m ((c.tc : Thread Cert.PxDw.nD Cert.PxDw.τ).loc Cert.PxDw.main_arg0)
      ∧ r.2.mem ((c.tc : Thread Cert.PxDw.nD Cert.PxDw.τ).loc Cert.PxDw.main_arg1) = m ((c.tc : Thread Cert.PxDw.nD Cert.PxDw.τ).loc Cert.PxDw.main_arg1))
      ∧ r.2.sem = fun _ => 0)

def quiescent_PxDwIdeal [hPxDwIdeal : Cert.PxDwIdeal.Facts] : Prop :=
  ∀ (m : (ℓ : Loc Cert.PxDwIdeal.nD Cert.PxDwIdeal.τ Cert.PxDwIdeal.sig) → Buf (Elt Ideal) ℓ) (g : Dev Cert.PxDwIdeal.nD → PrngReg), Pre_PxDwIdeal m →
    θ_run (Cert.PxDwIdeal.defs (F := Ideal)) (onTc (τ := Cert.PxDwIdeal.τ) (Cert.PxDwIdeal.main (F := Ideal))) ⟨m, fun _ => 0, g⟩ (fun r => (∀ c : Dev Cert.PxDwIdeal.nD,
      r.2.mem ((c.tc : Thread Cert.PxDwIdeal.nD Cert.PxDwIdeal.τ).loc Cert.PxDwIdeal.main_arg0) = m ((c.tc : Thread Cert.PxDwIdeal.nD Cert.PxDwIdeal.τ).loc Cert.PxDwIdeal.main_arg0)
      ∧ r.2.mem ((c.tc : Thread Cert.PxDwIdeal.nD Cert.PxDwIdeal.τ).loc Cert.PxDwIdeal.main_arg1) = m ((c.tc : Thread Cert.PxDwIdeal.nD Cert.PxDwIdeal.τ).loc Cert.PxDwIdeal.main_arg1))
      ∧ r.2.sem = fun _ => 0)

def quiescent_PxDwRefIdeal [hPxDwRefIdeal : Cert.PxDwRefIdeal.Facts] : Prop :=
  ∀ (m : (ℓ : Loc Cert.PxDwRefIdeal.nD Cert.PxDwRefIdeal.τ Cert.PxDwRefIdeal.sig) → Buf (Elt Ideal) ℓ) (g : Dev Cert.PxDwRefIdeal.nD → PrngReg), Pre_PxDwRefIdeal m →
    θ_run (Cert.PxDwRefIdeal.defs (F := Ideal)) (onTc (τ := Cert.PxDwRefIdeal.τ) (Cert.PxDwRefIdeal.main (F := Ideal))) ⟨m, fun _ => 0, g⟩ (fun r => (∀ c : Dev Cert.PxDwRefIdeal.nD,
      r.2.mem ((c.tc : Thread Cert.PxDwRefIdeal.nD Cert.PxDwRefIdeal.τ).loc Cert.PxDwRefIdeal.main_arg0) = m ((c.tc : Thread Cert.PxDwRefIdeal.nD Cert.PxDwRefIdeal.τ).loc Cert.PxDwRefIdeal.main_arg0)
      ∧ r.2.mem ((c.tc : Thread Cert.PxDwRefIdeal.nD Cert.PxDwRefIdeal.τ).loc Cert.PxDwRefIdeal.main_arg1) = m ((c.tc : Thread Cert.PxDwRefIdeal.nD Cert.PxDwRefIdeal.τ).loc Cert.PxDwRefIdeal.main_arg1))
      ∧ r.2.sem = fun _ => 0)

def quiescent_GatesDw [hGatesDw : Cert.GatesDw.Facts] : Prop :=
  ∀ (m : (ℓ : Loc Cert.GatesDw.nD Cert.GatesDw.τ Cert.GatesDw.sig) → Buf (Elt Bits) ℓ) (g : Dev Cert.GatesDw.nD → PrngReg), Pre_GatesDw m →
    θ_run (Cert.GatesDw.defs (F := Bits)) (onTc (τ := Cert.GatesDw.τ) (Cert.GatesDw.main (F := Bits))) ⟨m, fun _ => 0, g⟩ (fun r => (∀ c : Dev Cert.GatesDw.nD,
      r.2.mem ((c.tc : Thread Cert.GatesDw.nD Cert.GatesDw.τ).loc Cert.GatesDw.main_arg0) = m ((c.tc : Thread Cert.GatesDw.nD Cert.GatesDw.τ).loc Cert.GatesDw.main_arg0)
      ∧ r.2.mem ((c.tc : Thread Cert.GatesDw.nD Cert.GatesDw.τ).loc Cert.GatesDw.main_arg1) = m ((c.tc : Thread Cert.GatesDw.nD Cert.GatesDw.τ).loc Cert.GatesDw.main_arg1))
      ∧ r.2.sem = fun _ => 0)

def quiescent_GatesDwIdeal [hGatesDwIdeal : Cert.GatesDwIdeal.Facts] : Prop :=
  ∀ (m : (ℓ : Loc Cert.GatesDwIdeal.nD Cert.GatesDwIdeal.τ Cert.GatesDwIdeal.sig) → Buf (Elt Ideal) ℓ) (g : Dev Cert.GatesDwIdeal.nD → PrngReg), Pre_GatesDwIdeal m →
    θ_run (Cert.GatesDwIdeal.defs (F := Ideal)) (onTc (τ := Cert.GatesDwIdeal.τ) (Cert.GatesDwIdeal.main (F := Ideal))) ⟨m, fun _ => 0, g⟩ (fun r => (∀ c : Dev Cert.GatesDwIdeal.nD,
      r.2.mem ((c.tc : Thread Cert.GatesDwIdeal.nD Cert.GatesDwIdeal.τ).loc Cert.GatesDwIdeal.main_arg0) = m ((c.tc : Thread Cert.GatesDwIdeal.nD Cert.GatesDwIdeal.τ).loc Cert.GatesDwIdeal.main_arg0)
      ∧ r.2.mem ((c.tc : Thread Cert.GatesDwIdeal.nD Cert.GatesDwIdeal.τ).loc Cert.GatesDwIdeal.main_arg1) = m ((c.tc : Thread Cert.GatesDwIdeal.nD Cert.GatesDwIdeal.τ).loc Cert.GatesDwIdeal.main_arg1))
      ∧ r.2.sem = fun _ => 0)

def quiescent_GatesDwRefIdeal [hGatesDwRefIdeal : Cert.GatesDwRefIdeal.Facts] : Prop :=
  ∀ (m : (ℓ : Loc Cert.GatesDwRefIdeal.nD Cert.GatesDwRefIdeal.τ Cert.GatesDwRefIdeal.sig) → Buf (Elt Ideal) ℓ) (g : Dev Cert.GatesDwRefIdeal.nD → PrngReg), Pre_GatesDwRefIdeal m →
    θ_run (Cert.GatesDwRefIdeal.defs (F := Ideal)) (onTc (τ := Cert.GatesDwRefIdeal.τ) (Cert.GatesDwRefIdeal.main (F := Ideal))) ⟨m, fun _ => 0, g⟩ (fun r => (∀ c : Dev Cert.GatesDwRefIdeal.nD,
      r.2.mem ((c.tc : Thread Cert.GatesDwRefIdeal.nD Cert.GatesDwRefIdeal.τ).loc Cert.GatesDwRefIdeal.main_arg0) = m ((c.tc : Thread Cert.GatesDwRefIdeal.nD Cert.GatesDwRefIdeal.τ).loc Cert.GatesDwRefIdeal.main_arg0)
      ∧ r.2.mem ((c.tc : Thread Cert.GatesDwRefIdeal.nD Cert.GatesDwRefIdeal.τ).loc Cert.GatesDwRefIdeal.main_arg1) = m ((c.tc : Thread Cert.GatesDwRefIdeal.nD Cert.GatesDwRefIdeal.τ).loc Cert.GatesDwRefIdeal.main_arg1))
      ∧ r.2.sem = fun _ => 0)

def quiescent_WoDw [hWoDw : Cert.WoDw.Facts] : Prop :=
  ∀ (m : (ℓ : Loc Cert.WoDw.nD Cert.WoDw.τ Cert.WoDw.sig) → Buf (Elt Bits) ℓ) (g : Dev Cert.WoDw.nD → PrngReg), Pre_WoDw m →
    θ_run (Cert.WoDw.defs (F := Bits)) (onTc (τ := Cert.WoDw.τ) (Cert.WoDw.main (F := Bits))) ⟨m, fun _ => 0, g⟩ (fun r => (∀ c : Dev Cert.WoDw.nD,
      r.2.mem ((c.tc : Thread Cert.WoDw.nD Cert.WoDw.τ).loc Cert.WoDw.main_arg0) = m ((c.tc : Thread Cert.WoDw.nD Cert.WoDw.τ).loc Cert.WoDw.main_arg0)
      ∧ r.2.mem ((c.tc : Thread Cert.WoDw.nD Cert.WoDw.τ).loc Cert.WoDw.main_arg1) = m ((c.tc : Thread Cert.WoDw.nD Cert.WoDw.τ).loc Cert.WoDw.main_arg1))
      ∧ r.2.sem = fun _ => 0)

def quiescent_WoDwIdeal [hWoDwIdeal : Cert.WoDwIdeal.Facts] : Prop :=
  ∀ (m : (ℓ : Loc Cert.WoDwIdeal.nD Cert.WoDwIdeal.τ Cert.WoDwIdeal.sig) → Buf (Elt Ideal) ℓ) (g : Dev Cert.WoDwIdeal.nD → PrngReg), Pre_WoDwIdeal m →
    θ_run (Cert.WoDwIdeal.defs (F := Ideal)) (onTc (τ := Cert.WoDwIdeal.τ) (Cert.WoDwIdeal.main (F := Ideal))) ⟨m, fun _ => 0, g⟩ (fun r => (∀ c : Dev Cert.WoDwIdeal.nD,
      r.2.mem ((c.tc : Thread Cert.WoDwIdeal.nD Cert.WoDwIdeal.τ).loc Cert.WoDwIdeal.main_arg0) = m ((c.tc : Thread Cert.WoDwIdeal.nD Cert.WoDwIdeal.τ).loc Cert.WoDwIdeal.main_arg0)
      ∧ r.2.mem ((c.tc : Thread Cert.WoDwIdeal.nD Cert.WoDwIdeal.τ).loc Cert.WoDwIdeal.main_arg1) = m ((c.tc : Thread Cert.WoDwIdeal.nD Cert.WoDwIdeal.τ).loc Cert.WoDwIdeal.main_arg1))
      ∧ r.2.sem = fun _ => 0)

def quiescent_WoDwRefIdeal [hWoDwRefIdeal : Cert.WoDwRefIdeal.Facts] : Prop :=
  ∀ (m : (ℓ : Loc Cert.WoDwRefIdeal.nD Cert.WoDwRefIdeal.τ Cert.WoDwRefIdeal.sig) → Buf (Elt Ideal) ℓ) (g : Dev Cert.WoDwRefIdeal.nD → PrngReg), Pre_WoDwRefIdeal m →
    θ_run (Cert.WoDwRefIdeal.defs (F := Ideal)) (onTc (τ := Cert.WoDwRefIdeal.τ) (Cert.WoDwRefIdeal.main (F := Ideal))) ⟨m, fun _ => 0, g⟩ (fun r => (∀ c : Dev Cert.WoDwRefIdeal.nD,
      r.2.mem ((c.tc : Thread Cert.WoDwRefIdeal.nD Cert.WoDwRefIdeal.τ).loc Cert.WoDwRefIdeal.main_arg0) = m ((c.tc : Thread Cert.WoDwRefIdeal.nD Cert.WoDwRefIdeal.τ).loc Cert.WoDwRefIdeal.main_arg0)
      ∧ r.2.mem ((c.tc : Thread Cert.WoDwRefIdeal.nD Cert.WoDwRefIdeal.τ).loc Cert.WoDwRefIdeal.main_arg1) = m ((c.tc : Thread Cert.WoDwRefIdeal.nD Cert.WoDwRefIdeal.τ).loc Cert.WoDwRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_MemDw [hMemDw : Cert.MemDw.Facts] : Prop :=
  ∀ (m : (ℓ : Loc Cert.MemDw.nD Cert.MemDw.τ Cert.MemDw.sig) → Buf (Elt Bits) ℓ) (g : Dev Cert.MemDw.nD → PrngReg), Pre_MemDw m →
    θ_run (Cert.MemDw.defs (F := Bits)) (onTc (τ := Cert.MemDw.τ) (Cert.MemDw.main (F := Bits))) ⟨m, fun _ => 0, g⟩ (fun r => (∀ c : Dev Cert.MemDw.nD,
      r.2.mem ((c.tc : Thread Cert.MemDw.nD Cert.MemDw.τ).loc Cert.MemDw.main_arg0) = m ((c.tc : Thread Cert.MemDw.nD Cert.MemDw.τ).loc Cert.MemDw.main_arg0)
      ∧ r.2.mem ((c.tc : Thread Cert.MemDw.nD Cert.MemDw.τ).loc Cert.MemDw.main_arg1) = m ((c.tc : Thread Cert.MemDw.nD Cert.MemDw.τ).loc Cert.MemDw.main_arg1))
      ∧ r.2.sem = fun _ => 0)

def quiescent_MemDwIdeal [hMemDwIdeal : Cert.MemDwIdeal.Facts] : Prop :=
  ∀ (m : (ℓ : Loc Cert.MemDwIdeal.nD Cert.MemDwIdeal.τ Cert.MemDwIdeal.sig) → Buf (Elt Ideal) ℓ) (g : Dev Cert.MemDwIdeal.nD → PrngReg), Pre_MemDwIdeal m →
    θ_run (Cert.MemDwIdeal.defs (F := Ideal)) (onTc (τ := Cert.MemDwIdeal.τ) (Cert.MemDwIdeal.main (F := Ideal))) ⟨m, fun _ => 0, g⟩ (fun r => (∀ c : Dev Cert.MemDwIdeal.nD,
      r.2.mem ((c.tc : Thread Cert.MemDwIdeal.nD Cert.MemDwIdeal.τ).loc Cert.MemDwIdeal.main_arg0) = m ((c.tc : Thread Cert.MemDwIdeal.nD Cert.MemDwIdeal.τ).loc Cert.MemDwIdeal.main_arg0)
      ∧ r.2.mem ((c.tc : Thread Cert.MemDwIdeal.nD Cert.MemDwIdeal.τ).loc Cert.MemDwIdeal.main_arg1) = m ((c.tc : Thread Cert.MemDwIdeal.nD Cert.MemDwIdeal.τ).loc Cert.MemDwIdeal.main_arg1))
      ∧ r.2.sem = fun _ => 0)

def quiescent_MemDwRefIdeal [hMemDwRefIdeal : Cert.MemDwRefIdeal.Facts] : Prop :=
  ∀ (m : (ℓ : Loc Cert.MemDwRefIdeal.nD Cert.MemDwRefIdeal.τ Cert.MemDwRefIdeal.sig) → Buf (Elt Ideal) ℓ) (g : Dev Cert.MemDwRefIdeal.nD → PrngReg), Pre_MemDwRefIdeal m →
    θ_run (Cert.MemDwRefIdeal.defs (F := Ideal)) (onTc (τ := Cert.MemDwRefIdeal.τ) (Cert.MemDwRefIdeal.main (F := Ideal))) ⟨m, fun _ => 0, g⟩ (fun r => (∀ c : Dev Cert.MemDwRefIdeal.nD,
      r.2.mem ((c.tc : Thread Cert.MemDwRefIdeal.nD Cert.MemDwRefIdeal.τ).loc Cert.MemDwRefIdeal.main_arg0) = m ((c.tc : Thread Cert.MemDwRefIdeal.nD Cert.MemDwRefIdeal.τ).loc Cert.MemDwRefIdeal.main_arg0)
      ∧ r.2.mem ((c.tc : Thread Cert.MemDwRefIdeal.nD Cert.MemDwRefIdeal.τ).loc Cert.MemDwRefIdeal.main_arg1) = m ((c.tc : Thread Cert.MemDwRefIdeal.nD Cert.MemDwRefIdeal.τ).loc Cert.MemDwRefIdeal.main_arg1))
      ∧ r.2.sem = fun _ => 0)

def quiescent_MemDx [hMemDx : Cert.MemDx.Facts] : Prop :=
  ∀ (m : (ℓ : Loc Cert.MemDx.nD Cert.MemDx.τ Cert.MemDx.sig) → Buf (Elt Bits) ℓ) (g : Dev Cert.MemDx.nD → PrngReg), Pre_MemDx m →
    θ_run (Cert.MemDx.defs (F := Bits)) (onTc (τ := Cert.MemDx.τ) (Cert.MemDx.main (F := Bits))) ⟨m, fun _ => 0, g⟩ (fun r => (∀ c : Dev Cert.MemDx.nD,
      r.2.mem ((c.tc : Thread Cert.MemDx.nD Cert.MemDx.τ).loc Cert.MemDx.main_arg0) = m ((c.tc : Thread Cert.MemDx.nD Cert.MemDx.τ).loc Cert.MemDx.main_arg0)
      ∧ r.2.mem ((c.tc : Thread Cert.MemDx.nD Cert.MemDx.τ).loc Cert.MemDx.main_arg1) = m ((c.tc : Thread Cert.MemDx.nD Cert.MemDx.τ).loc Cert.MemDx.main_arg1))
      ∧ r.2.sem = fun _ => 0)

def quiescent_MemDxIdeal [hMemDxIdeal : Cert.MemDxIdeal.Facts] : Prop :=
  ∀ (m : (ℓ : Loc Cert.MemDxIdeal.nD Cert.MemDxIdeal.τ Cert.MemDxIdeal.sig) → Buf (Elt Ideal) ℓ) (g : Dev Cert.MemDxIdeal.nD → PrngReg), Pre_MemDxIdeal m →
    θ_run (Cert.MemDxIdeal.defs (F := Ideal)) (onTc (τ := Cert.MemDxIdeal.τ) (Cert.MemDxIdeal.main (F := Ideal))) ⟨m, fun _ => 0, g⟩ (fun r => (∀ c : Dev Cert.MemDxIdeal.nD,
      r.2.mem ((c.tc : Thread Cert.MemDxIdeal.nD Cert.MemDxIdeal.τ).loc Cert.MemDxIdeal.main_arg0) = m ((c.tc : Thread Cert.MemDxIdeal.nD Cert.MemDxIdeal.τ).loc Cert.MemDxIdeal.main_arg0)
      ∧ r.2.mem ((c.tc : Thread Cert.MemDxIdeal.nD Cert.MemDxIdeal.τ).loc Cert.MemDxIdeal.main_arg1) = m ((c.tc : Thread Cert.MemDxIdeal.nD Cert.MemDxIdeal.τ).loc Cert.MemDxIdeal.main_arg1))
      ∧ r.2.sem = fun _ => 0)

def quiescent_MemDxRefIdeal [hMemDxRefIdeal : Cert.MemDxRefIdeal.Facts] : Prop :=
  ∀ (m : (ℓ : Loc Cert.MemDxRefIdeal.nD Cert.MemDxRefIdeal.τ Cert.MemDxRefIdeal.sig) → Buf (Elt Ideal) ℓ) (g : Dev Cert.MemDxRefIdeal.nD → PrngReg), Pre_MemDxRefIdeal m →
    θ_run (Cert.MemDxRefIdeal.defs (F := Ideal)) (onTc (τ := Cert.MemDxRefIdeal.τ) (Cert.MemDxRefIdeal.main (F := Ideal))) ⟨m, fun _ => 0, g⟩ (fun r => (∀ c : Dev Cert.MemDxRefIdeal.nD,
      r.2.mem ((c.tc : Thread Cert.MemDxRefIdeal.nD Cert.MemDxRefIdeal.τ).loc Cert.MemDxRefIdeal.main_arg0) = m ((c.tc : Thread Cert.MemDxRefIdeal.nD Cert.MemDxRefIdeal.τ).loc Cert.MemDxRefIdeal.main_arg0)
      ∧ r.2.mem ((c.tc : Thread Cert.MemDxRefIdeal.nD Cert.MemDxRefIdeal.τ).loc Cert.MemDxRefIdeal.main_arg1) = m ((c.tc : Thread Cert.MemDxRefIdeal.nD Cert.MemDxRefIdeal.τ).loc Cert.MemDxRefIdeal.main_arg1))
      ∧ r.2.sem = fun _ => 0)

def quiescent_MemNorm [hMemNorm : Cert.MemNorm.Facts] : Prop :=
  ∀ (m : (ℓ : Loc Cert.MemNorm.nD Cert.MemNorm.τ Cert.MemNorm.sig) → Buf (Elt Bits) ℓ) (g : Dev Cert.MemNorm.nD → PrngReg), Pre_MemNorm m →
    θ_run (Cert.MemNorm.defs (F := Bits)) (onTc (τ := Cert.MemNorm.τ) (Cert.MemNorm.main (F := Bits))) ⟨m, fun _ => 0, g⟩ (fun r => (∀ c : Dev Cert.MemNorm.nD,
      r.2.mem ((c.tc : Thread Cert.MemNorm.nD Cert.MemNorm.τ).loc Cert.MemNorm.main_arg0) = m ((c.tc : Thread Cert.MemNorm.nD Cert.MemNorm.τ).loc Cert.MemNorm.main_arg0)
      ∧ r.2.mem ((c.tc : Thread Cert.MemNorm.nD Cert.MemNorm.τ).loc Cert.MemNorm.main_arg1) = m ((c.tc : Thread Cert.MemNorm.nD Cert.MemNorm.τ).loc Cert.MemNorm.main_arg1)
      ∧ r.2.mem ((c.tc : Thread Cert.MemNorm.nD Cert.MemNorm.τ).loc Cert.MemNorm.main_arg2) = m ((c.tc : Thread Cert.MemNorm.nD Cert.MemNorm.τ).loc Cert.MemNorm.main_arg2))
      ∧ r.2.sem = fun _ => 0)

def quiescent_MemNormIdeal [hMemNormIdeal : Cert.MemNormIdeal.Facts] : Prop :=
  ∀ (m : (ℓ : Loc Cert.MemNormIdeal.nD Cert.MemNormIdeal.τ Cert.MemNormIdeal.sig) → Buf (Elt Ideal) ℓ) (g : Dev Cert.MemNormIdeal.nD → PrngReg), Pre_MemNormIdeal m →
    θ_run (Cert.MemNormIdeal.defs (F := Ideal)) (onTc (τ := Cert.MemNormIdeal.τ) (Cert.MemNormIdeal.main (F := Ideal))) ⟨m, fun _ => 0, g⟩ (fun r => (∀ c : Dev Cert.MemNormIdeal.nD,
      r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
      ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1)
      ∧ r.2.mem ((c.tc : Thread Cert.MemNormIdeal.nD Cert.MemNormIdeal.τ).loc Cert.MemNormIdeal.main_arg2) = m ((c.tc : Thread Cert.MemNormIdeal.nD Cert.MemNormIdeal.τ).loc Cert.MemNormIdeal.main_arg2))
      ∧ r.2.sem = fun _ => 0)

def quiescent_MemNormRefIdeal [hMemNormRefIdeal : Cert.MemNormRefIdeal.Facts] : Prop :=
  ∀ (m : (ℓ : Loc Cert.MemNormRefIdeal.nD Cert.MemNormRefIdeal.τ Cert.MemNormRefIdeal.sig) → Buf (Elt Ideal) ℓ) (g : Dev Cert.MemNormRefIdeal.nD → PrngReg), Pre_MemNormRefIdeal m →
    θ_run (Cert.MemNormRefIdeal.defs (F := Ideal)) (onTc (τ := Cert.MemNormRefIdeal.τ) (Cert.MemNormRefIdeal.main (F := Ideal))) ⟨m, fun _ => 0, g⟩ (fun r => (∀ c : Dev Cert.MemNormRefIdeal.nD,
      r.2.mem ((c.tc : Thread Cert.MemNormRefIdeal.nD Cert.MemNormRefIdeal.τ).loc Cert.MemNormRefIdeal.main_arg0) = m ((c.tc : Thread Cert.MemNormRefIdeal.nD Cert.MemNormRefIdeal.τ).loc Cert.MemNormRefIdeal.main_arg0)
      ∧ r.2.mem ((c.tc : Thread Cert.MemNormRefIdeal.nD Cert.MemNormRefIdeal.τ).loc Cert.MemNormRefIdeal.main_arg1) = m ((c.tc : Thread Cert.MemNormRefIdeal.nD Cert.MemNormRefIdeal.τ).loc Cert.MemNormRefIdeal.main_arg1)
      ∧ r.2.mem ((c.tc : Thread Cert.MemNormRefIdeal.nD Cert.MemNormRefIdeal.τ).loc Cert.MemNormRefIdeal.main_arg2) = m ((c.tc : Thread Cert.MemNormRefIdeal.nD Cert.MemNormRefIdeal.τ).loc Cert.MemNormRefIdeal.main_arg2))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3)
      ∧ r.2.mem ((c.tc : Thread Cert.FfnOut.nD Cert.FfnOut.τ).loc Cert.FfnOut.main_arg4) = m ((c.tc : Thread Cert.FfnOut.nD Cert.FfnOut.τ).loc Cert.FfnOut.main_arg4))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
      ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3)
      ∧ r.2.mem ((c.tc : Thread Cert.FfnOutRefIdeal.nD Cert.FfnOutRefIdeal.τ).loc Cert.FfnOutRefIdeal.main_arg4) = m ((c.tc : Thread Cert.FfnOutRefIdeal.nD Cert.FfnOutRefIdeal.τ).loc Cert.FfnOutRefIdeal.main_arg4))
      ∧ r.2.sem = fun _ => 0)

def quiescent_OutLoss [hOutLoss : Cert.OutLoss.Facts] : Prop :=
  ∀ (m : (ℓ : Loc Cert.OutLoss.nD Cert.OutLoss.τ Cert.OutLoss.sig) → Buf (Elt Bits) ℓ) (g : Dev Cert.OutLoss.nD → PrngReg), Pre_OutLoss m →
    θ_run (Cert.OutLoss.defs (F := Bits)) (onTc (τ := Cert.OutLoss.τ) (Cert.OutLoss.main (F := Bits))) ⟨m, fun _ => 0, g⟩ (fun r => (∀ c : Dev Cert.OutLoss.nD,
      r.2.mem ((c.tc : Thread Cert.OutLoss.nD Cert.OutLoss.τ).loc Cert.OutLoss.main_arg0) = m ((c.tc : Thread Cert.OutLoss.nD Cert.OutLoss.τ).loc Cert.OutLoss.main_arg0)
      ∧ r.2.mem ((c.tc : Thread Cert.OutLoss.nD Cert.OutLoss.τ).loc Cert.OutLoss.main_arg1) = m ((c.tc : Thread Cert.OutLoss.nD Cert.OutLoss.τ).loc Cert.OutLoss.main_arg1)
      ∧ r.2.mem ((c.tc : Thread Cert.OutLoss.nD Cert.OutLoss.τ).loc Cert.OutLoss.main_arg2) = m ((c.tc : Thread Cert.OutLoss.nD Cert.OutLoss.τ).loc Cert.OutLoss.main_arg2)
      ∧ r.2.mem ((c.tc : Thread Cert.OutLoss.nD Cert.OutLoss.τ).loc Cert.OutLoss.main_arg3) = m ((c.tc : Thread Cert.OutLoss.nD Cert.OutLoss.τ).loc Cert.OutLoss.main_arg3)
      ∧ r.2.mem ((c.tc : Thread Cert.OutLoss.nD Cert.OutLoss.τ).loc Cert.OutLoss.main_arg4) = m ((c.tc : Thread Cert.OutLoss.nD Cert.OutLoss.τ).loc Cert.OutLoss.main_arg4)
      ∧ r.2.mem ((c.tc : Thread Cert.OutLoss.nD Cert.OutLoss.τ).loc Cert.OutLoss.main_arg5) = m ((c.tc : Thread Cert.OutLoss.nD Cert.OutLoss.τ).loc Cert.OutLoss.main_arg5))
      ∧ r.2.sem = fun _ => 0)

def quiescent_OutLossIdeal [hOutLossIdeal : Cert.OutLossIdeal.Facts] : Prop :=
  ∀ (m : (ℓ : Loc Cert.OutLossIdeal.nD Cert.OutLossIdeal.τ Cert.OutLossIdeal.sig) → Buf (Elt Ideal) ℓ) (g : Dev Cert.OutLossIdeal.nD → PrngReg), Pre_OutLossIdeal m →
    θ_run (Cert.OutLossIdeal.defs (F := Ideal)) (onTc (τ := Cert.OutLossIdeal.τ) (Cert.OutLossIdeal.main (F := Ideal))) ⟨m, fun _ => 0, g⟩ (fun r => (∀ c : Dev Cert.OutLossIdeal.nD,
      r.2.mem ((c.tc : Thread Cert.OutLossIdeal.nD Cert.OutLossIdeal.τ).loc Cert.OutLossIdeal.main_arg0) = m ((c.tc : Thread Cert.OutLossIdeal.nD Cert.OutLossIdeal.τ).loc Cert.OutLossIdeal.main_arg0)
      ∧ r.2.mem ((c.tc : Thread Cert.OutLossIdeal.nD Cert.OutLossIdeal.τ).loc Cert.OutLossIdeal.main_arg1) = m ((c.tc : Thread Cert.OutLossIdeal.nD Cert.OutLossIdeal.τ).loc Cert.OutLossIdeal.main_arg1)
      ∧ r.2.mem ((c.tc : Thread Cert.OutLossIdeal.nD Cert.OutLossIdeal.τ).loc Cert.OutLossIdeal.main_arg2) = m ((c.tc : Thread Cert.OutLossIdeal.nD Cert.OutLossIdeal.τ).loc Cert.OutLossIdeal.main_arg2)
      ∧ r.2.mem ((c.tc : Thread Cert.OutLossIdeal.nD Cert.OutLossIdeal.τ).loc Cert.OutLossIdeal.main_arg3) = m ((c.tc : Thread Cert.OutLossIdeal.nD Cert.OutLossIdeal.τ).loc Cert.OutLossIdeal.main_arg3)
      ∧ r.2.mem ((c.tc : Thread Cert.OutLossIdeal.nD Cert.OutLossIdeal.τ).loc Cert.OutLossIdeal.main_arg4) = m ((c.tc : Thread Cert.OutLossIdeal.nD Cert.OutLossIdeal.τ).loc Cert.OutLossIdeal.main_arg4)
      ∧ r.2.mem ((c.tc : Thread Cert.OutLossIdeal.nD Cert.OutLossIdeal.τ).loc Cert.OutLossIdeal.main_arg5) = m ((c.tc : Thread Cert.OutLossIdeal.nD Cert.OutLossIdeal.τ).loc Cert.OutLossIdeal.main_arg5))
      ∧ r.2.sem = fun _ => 0)

def quiescent_OutLossRefIdeal [hOutLossRefIdeal : Cert.OutLossRefIdeal.Facts] : Prop :=
  ∀ (m : (ℓ : Loc Cert.OutLossRefIdeal.nD Cert.OutLossRefIdeal.τ Cert.OutLossRefIdeal.sig) → Buf (Elt Ideal) ℓ) (g : Dev Cert.OutLossRefIdeal.nD → PrngReg), Pre_OutLossRefIdeal m →
    θ_run (Cert.OutLossRefIdeal.defs (F := Ideal)) (onTc (τ := Cert.OutLossRefIdeal.τ) (Cert.OutLossRefIdeal.main (F := Ideal))) ⟨m, fun _ => 0, g⟩ (fun r => (∀ c : Dev Cert.OutLossRefIdeal.nD,
      r.2.mem ((c.tc : Thread Cert.OutLossRefIdeal.nD Cert.OutLossRefIdeal.τ).loc Cert.OutLossRefIdeal.main_arg0) = m ((c.tc : Thread Cert.OutLossRefIdeal.nD Cert.OutLossRefIdeal.τ).loc Cert.OutLossRefIdeal.main_arg0)
      ∧ r.2.mem ((c.tc : Thread Cert.OutLossRefIdeal.nD Cert.OutLossRefIdeal.τ).loc Cert.OutLossRefIdeal.main_arg1) = m ((c.tc : Thread Cert.OutLossRefIdeal.nD Cert.OutLossRefIdeal.τ).loc Cert.OutLossRefIdeal.main_arg1)
      ∧ r.2.mem ((c.tc : Thread Cert.OutLossRefIdeal.nD Cert.OutLossRefIdeal.τ).loc Cert.OutLossRefIdeal.main_arg2) = m ((c.tc : Thread Cert.OutLossRefIdeal.nD Cert.OutLossRefIdeal.τ).loc Cert.OutLossRefIdeal.main_arg2)
      ∧ r.2.mem ((c.tc : Thread Cert.OutLossRefIdeal.nD Cert.OutLossRefIdeal.τ).loc Cert.OutLossRefIdeal.main_arg3) = m ((c.tc : Thread Cert.OutLossRefIdeal.nD Cert.OutLossRefIdeal.τ).loc Cert.OutLossRefIdeal.main_arg3)
      ∧ r.2.mem ((c.tc : Thread Cert.OutLossRefIdeal.nD Cert.OutLossRefIdeal.τ).loc Cert.OutLossRefIdeal.main_arg4) = m ((c.tc : Thread Cert.OutLossRefIdeal.nD Cert.OutLossRefIdeal.τ).loc Cert.OutLossRefIdeal.main_arg4)
      ∧ r.2.mem ((c.tc : Thread Cert.OutLossRefIdeal.nD Cert.OutLossRefIdeal.τ).loc Cert.OutLossRefIdeal.main_arg5) = m ((c.tc : Thread Cert.OutLossRefIdeal.nD Cert.OutLossRefIdeal.τ).loc Cert.OutLossRefIdeal.main_arg5))
      ∧ r.2.sem = fun _ => 0)

def quiescent_TailFwd [hTailFwd : Cert.TailFwd.Facts] : Prop :=
  ∀ (m : (ℓ : Loc Cert.TailFwd.nD Cert.TailFwd.τ Cert.TailFwd.sig) → Buf (Elt Bits) ℓ) (g : Dev Cert.TailFwd.nD → PrngReg), Pre_TailFwd m →
    θ_run (Cert.TailFwd.defs (F := Bits)) (onTc (τ := Cert.TailFwd.τ) (Cert.TailFwd.main (F := Bits))) ⟨m, fun _ => 0, g⟩ (fun r => (∀ c : Dev Cert.TailFwd.nD,
      r.2.mem ((c.tc : Thread Cert.TailFwd.nD Cert.TailFwd.τ).loc Cert.TailFwd.main_arg0) = m ((c.tc : Thread Cert.TailFwd.nD Cert.TailFwd.τ).loc Cert.TailFwd.main_arg0)
      ∧ r.2.mem ((c.tc : Thread Cert.TailFwd.nD Cert.TailFwd.τ).loc Cert.TailFwd.main_arg1) = m ((c.tc : Thread Cert.TailFwd.nD Cert.TailFwd.τ).loc Cert.TailFwd.main_arg1)
      ∧ r.2.mem ((c.tc : Thread Cert.TailFwd.nD Cert.TailFwd.τ).loc Cert.TailFwd.main_arg2) = m ((c.tc : Thread Cert.TailFwd.nD Cert.TailFwd.τ).loc Cert.TailFwd.main_arg2)
      ∧ r.2.mem ((c.tc : Thread Cert.TailFwd.nD Cert.TailFwd.τ).loc Cert.TailFwd.main_arg3) = m ((c.tc : Thread Cert.TailFwd.nD Cert.TailFwd.τ).loc Cert.TailFwd.main_arg3)
      ∧ r.2.mem ((c.tc : Thread Cert.TailFwd.nD Cert.TailFwd.τ).loc Cert.TailFwd.main_arg4) = m ((c.tc : Thread Cert.TailFwd.nD Cert.TailFwd.τ).loc Cert.TailFwd.main_arg4)
      ∧ r.2.mem ((c.tc : Thread Cert.TailFwd.nD Cert.TailFwd.τ).loc Cert.TailFwd.main_arg5) = m ((c.tc : Thread Cert.TailFwd.nD Cert.TailFwd.τ).loc Cert.TailFwd.main_arg5)
      ∧ r.2.mem ((c.tc : Thread Cert.TailFwd.nD Cert.TailFwd.τ).loc Cert.TailFwd.main_arg6) = m ((c.tc : Thread Cert.TailFwd.nD Cert.TailFwd.τ).loc Cert.TailFwd.main_arg6)
      ∧ r.2.mem ((c.tc : Thread Cert.TailFwd.nD Cert.TailFwd.τ).loc Cert.TailFwd.main_arg7) = m ((c.tc : Thread Cert.TailFwd.nD Cert.TailFwd.τ).loc Cert.TailFwd.main_arg7)
      ∧ r.2.mem ((c.tc : Thread Cert.TailFwd.nD Cert.TailFwd.τ).loc Cert.TailFwd.main_arg8) = m ((c.tc : Thread Cert.TailFwd.nD Cert.TailFwd.τ).loc Cert.TailFwd.main_arg8)
      ∧ r.2.mem ((c.tc : Thread Cert.TailFwd.nD Cert.TailFwd.τ).loc Cert.TailFwd.main_arg9) = m ((c.tc : Thread Cert.TailFwd.nD Cert.TailFwd.τ).loc Cert.TailFwd.main_arg9)
      ∧ r.2.mem ((c.tc : Thread Cert.TailFwd.nD Cert.TailFwd.τ).loc Cert.TailFwd.main_arg10) = m ((c.tc : Thread Cert.TailFwd.nD Cert.TailFwd.τ).loc Cert.TailFwd.main_arg10))
      ∧ r.2.sem = fun _ => 0)

def quiescent_TailFwdIdeal [hTailFwdIdeal : Cert.TailFwdIdeal.Facts] : Prop :=
  ∀ (m : (ℓ : Loc Cert.TailFwdIdeal.nD Cert.TailFwdIdeal.τ Cert.TailFwdIdeal.sig) → Buf (Elt Ideal) ℓ) (g : Dev Cert.TailFwdIdeal.nD → PrngReg), Pre_TailFwdIdeal m →
    θ_run (Cert.TailFwdIdeal.defs (F := Ideal)) (onTc (τ := Cert.TailFwdIdeal.τ) (Cert.TailFwdIdeal.main (F := Ideal))) ⟨m, fun _ => 0, g⟩ (fun r => (∀ c : Dev Cert.TailFwdIdeal.nD,
      r.2.mem ((c.tc : Thread Cert.TailFwdIdeal.nD Cert.TailFwdIdeal.τ).loc Cert.TailFwdIdeal.main_arg0) = m ((c.tc : Thread Cert.TailFwdIdeal.nD Cert.TailFwdIdeal.τ).loc Cert.TailFwdIdeal.main_arg0)
      ∧ r.2.mem ((c.tc : Thread Cert.TailFwdIdeal.nD Cert.TailFwdIdeal.τ).loc Cert.TailFwdIdeal.main_arg1) = m ((c.tc : Thread Cert.TailFwdIdeal.nD Cert.TailFwdIdeal.τ).loc Cert.TailFwdIdeal.main_arg1)
      ∧ r.2.mem ((c.tc : Thread Cert.TailFwdIdeal.nD Cert.TailFwdIdeal.τ).loc Cert.TailFwdIdeal.main_arg2) = m ((c.tc : Thread Cert.TailFwdIdeal.nD Cert.TailFwdIdeal.τ).loc Cert.TailFwdIdeal.main_arg2)
      ∧ r.2.mem ((c.tc : Thread Cert.TailFwdIdeal.nD Cert.TailFwdIdeal.τ).loc Cert.TailFwdIdeal.main_arg3) = m ((c.tc : Thread Cert.TailFwdIdeal.nD Cert.TailFwdIdeal.τ).loc Cert.TailFwdIdeal.main_arg3)
      ∧ r.2.mem ((c.tc : Thread Cert.TailFwdIdeal.nD Cert.TailFwdIdeal.τ).loc Cert.TailFwdIdeal.main_arg4) = m ((c.tc : Thread Cert.TailFwdIdeal.nD Cert.TailFwdIdeal.τ).loc Cert.TailFwdIdeal.main_arg4)
      ∧ r.2.mem ((c.tc : Thread Cert.TailFwdIdeal.nD Cert.TailFwdIdeal.τ).loc Cert.TailFwdIdeal.main_arg5) = m ((c.tc : Thread Cert.TailFwdIdeal.nD Cert.TailFwdIdeal.τ).loc Cert.TailFwdIdeal.main_arg5)
      ∧ r.2.mem ((c.tc : Thread Cert.TailFwdIdeal.nD Cert.TailFwdIdeal.τ).loc Cert.TailFwdIdeal.main_arg6) = m ((c.tc : Thread Cert.TailFwdIdeal.nD Cert.TailFwdIdeal.τ).loc Cert.TailFwdIdeal.main_arg6)
      ∧ r.2.mem ((c.tc : Thread Cert.TailFwdIdeal.nD Cert.TailFwdIdeal.τ).loc Cert.TailFwdIdeal.main_arg7) = m ((c.tc : Thread Cert.TailFwdIdeal.nD Cert.TailFwdIdeal.τ).loc Cert.TailFwdIdeal.main_arg7)
      ∧ r.2.mem ((c.tc : Thread Cert.TailFwdIdeal.nD Cert.TailFwdIdeal.τ).loc Cert.TailFwdIdeal.main_arg8) = m ((c.tc : Thread Cert.TailFwdIdeal.nD Cert.TailFwdIdeal.τ).loc Cert.TailFwdIdeal.main_arg8)
      ∧ r.2.mem ((c.tc : Thread Cert.TailFwdIdeal.nD Cert.TailFwdIdeal.τ).loc Cert.TailFwdIdeal.main_arg9) = m ((c.tc : Thread Cert.TailFwdIdeal.nD Cert.TailFwdIdeal.τ).loc Cert.TailFwdIdeal.main_arg9)
      ∧ r.2.mem ((c.tc : Thread Cert.TailFwdIdeal.nD Cert.TailFwdIdeal.τ).loc Cert.TailFwdIdeal.main_arg10) = m ((c.tc : Thread Cert.TailFwdIdeal.nD Cert.TailFwdIdeal.τ).loc Cert.TailFwdIdeal.main_arg10))
      ∧ r.2.sem = fun _ => 0)

def quiescent_TailFwdRefIdeal [hTailFwdRefIdeal : Cert.TailFwdRefIdeal.Facts] : Prop :=
  ∀ (m : (ℓ : Loc Cert.TailFwdRefIdeal.nD Cert.TailFwdRefIdeal.τ Cert.TailFwdRefIdeal.sig) → Buf (Elt Ideal) ℓ) (g : Dev Cert.TailFwdRefIdeal.nD → PrngReg), Pre_TailFwdRefIdeal m →
    θ_run (Cert.TailFwdRefIdeal.defs (F := Ideal)) (onTc (τ := Cert.TailFwdRefIdeal.τ) (Cert.TailFwdRefIdeal.main (F := Ideal))) ⟨m, fun _ => 0, g⟩ (fun r => (∀ c : Dev Cert.TailFwdRefIdeal.nD,
      r.2.mem ((c.tc : Thread Cert.TailFwdRefIdeal.nD Cert.TailFwdRefIdeal.τ).loc Cert.TailFwdRefIdeal.main_arg0) = m ((c.tc : Thread Cert.TailFwdRefIdeal.nD Cert.TailFwdRefIdeal.τ).loc Cert.TailFwdRefIdeal.main_arg0)
      ∧ r.2.mem ((c.tc : Thread Cert.TailFwdRefIdeal.nD Cert.TailFwdRefIdeal.τ).loc Cert.TailFwdRefIdeal.main_arg1) = m ((c.tc : Thread Cert.TailFwdRefIdeal.nD Cert.TailFwdRefIdeal.τ).loc Cert.TailFwdRefIdeal.main_arg1)
      ∧ r.2.mem ((c.tc : Thread Cert.TailFwdRefIdeal.nD Cert.TailFwdRefIdeal.τ).loc Cert.TailFwdRefIdeal.main_arg2) = m ((c.tc : Thread Cert.TailFwdRefIdeal.nD Cert.TailFwdRefIdeal.τ).loc Cert.TailFwdRefIdeal.main_arg2)
      ∧ r.2.mem ((c.tc : Thread Cert.TailFwdRefIdeal.nD Cert.TailFwdRefIdeal.τ).loc Cert.TailFwdRefIdeal.main_arg3) = m ((c.tc : Thread Cert.TailFwdRefIdeal.nD Cert.TailFwdRefIdeal.τ).loc Cert.TailFwdRefIdeal.main_arg3)
      ∧ r.2.mem ((c.tc : Thread Cert.TailFwdRefIdeal.nD Cert.TailFwdRefIdeal.τ).loc Cert.TailFwdRefIdeal.main_arg4) = m ((c.tc : Thread Cert.TailFwdRefIdeal.nD Cert.TailFwdRefIdeal.τ).loc Cert.TailFwdRefIdeal.main_arg4)
      ∧ r.2.mem ((c.tc : Thread Cert.TailFwdRefIdeal.nD Cert.TailFwdRefIdeal.τ).loc Cert.TailFwdRefIdeal.main_arg5) = m ((c.tc : Thread Cert.TailFwdRefIdeal.nD Cert.TailFwdRefIdeal.τ).loc Cert.TailFwdRefIdeal.main_arg5)
      ∧ r.2.mem ((c.tc : Thread Cert.TailFwdRefIdeal.nD Cert.TailFwdRefIdeal.τ).loc Cert.TailFwdRefIdeal.main_arg6) = m ((c.tc : Thread Cert.TailFwdRefIdeal.nD Cert.TailFwdRefIdeal.τ).loc Cert.TailFwdRefIdeal.main_arg6)
      ∧ r.2.mem ((c.tc : Thread Cert.TailFwdRefIdeal.nD Cert.TailFwdRefIdeal.τ).loc Cert.TailFwdRefIdeal.main_arg7) = m ((c.tc : Thread Cert.TailFwdRefIdeal.nD Cert.TailFwdRefIdeal.τ).loc Cert.TailFwdRefIdeal.main_arg7)
      ∧ r.2.mem ((c.tc : Thread Cert.TailFwdRefIdeal.nD Cert.TailFwdRefIdeal.τ).loc Cert.TailFwdRefIdeal.main_arg8) = m ((c.tc : Thread Cert.TailFwdRefIdeal.nD Cert.TailFwdRefIdeal.τ).loc Cert.TailFwdRefIdeal.main_arg8)
      ∧ r.2.mem ((c.tc : Thread Cert.TailFwdRefIdeal.nD Cert.TailFwdRefIdeal.τ).loc Cert.TailFwdRefIdeal.main_arg9) = m ((c.tc : Thread Cert.TailFwdRefIdeal.nD Cert.TailFwdRefIdeal.τ).loc Cert.TailFwdRefIdeal.main_arg9)
      ∧ r.2.mem ((c.tc : Thread Cert.TailFwdRefIdeal.nD Cert.TailFwdRefIdeal.τ).loc Cert.TailFwdRefIdeal.main_arg10) = m ((c.tc : Thread Cert.TailFwdRefIdeal.nD Cert.TailFwdRefIdeal.τ).loc Cert.TailFwdRefIdeal.main_arg10))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_MemNormFwd [hMemNormFwd : Cert.MemNormFwd.Facts] : Prop :=
  ∀ (m : (ℓ : Loc Cert.MemNormFwd.nD Cert.MemNormFwd.τ Cert.MemNormFwd.sig) → Buf (Elt Bits) ℓ) (g : Dev Cert.MemNormFwd.nD → PrngReg), Pre_MemNormFwd m →
    θ_run (Cert.MemNormFwd.defs (F := Bits)) (onTc (τ := Cert.MemNormFwd.τ) (Cert.MemNormFwd.main (F := Bits))) ⟨m, fun _ => 0, g⟩ (fun r => (∀ c : Dev Cert.MemNormFwd.nD,
      r.2.mem ((c.tc : Thread Cert.MemNormFwd.nD Cert.MemNormFwd.τ).loc Cert.MemNormFwd.main_arg0) = m ((c.tc : Thread Cert.MemNormFwd.nD Cert.MemNormFwd.τ).loc Cert.MemNormFwd.main_arg0)
      ∧ r.2.mem ((c.tc : Thread Cert.MemNormFwd.nD Cert.MemNormFwd.τ).loc Cert.MemNormFwd.main_arg1) = m ((c.tc : Thread Cert.MemNormFwd.nD Cert.MemNormFwd.τ).loc Cert.MemNormFwd.main_arg1))
      ∧ r.2.sem = fun _ => 0)

def quiescent_MemNormFwdIdeal [hMemNormFwdIdeal : Cert.MemNormFwdIdeal.Facts] : Prop :=
  ∀ (m : (ℓ : Loc Cert.MemNormFwdIdeal.nD Cert.MemNormFwdIdeal.τ Cert.MemNormFwdIdeal.sig) → Buf (Elt Ideal) ℓ) (g : Dev Cert.MemNormFwdIdeal.nD → PrngReg), Pre_MemNormFwdIdeal m →
    θ_run (Cert.MemNormFwdIdeal.defs (F := Ideal)) (onTc (τ := Cert.MemNormFwdIdeal.τ) (Cert.MemNormFwdIdeal.main (F := Ideal))) ⟨m, fun _ => 0, g⟩ (fun r => (∀ c : Dev Cert.MemNormFwdIdeal.nD,
      r.2.mem ((c.tc : Thread Cert.MemNormFwdIdeal.nD Cert.MemNormFwdIdeal.τ).loc Cert.MemNormFwdIdeal.main_arg0) = m ((c.tc : Thread Cert.MemNormFwdIdeal.nD Cert.MemNormFwdIdeal.τ).loc Cert.MemNormFwdIdeal.main_arg0)
      ∧ r.2.mem ((c.tc : Thread Cert.MemNormFwdIdeal.nD Cert.MemNormFwdIdeal.τ).loc Cert.MemNormFwdIdeal.main_arg1) = m ((c.tc : Thread Cert.MemNormFwdIdeal.nD Cert.MemNormFwdIdeal.τ).loc Cert.MemNormFwdIdeal.main_arg1))
      ∧ r.2.sem = fun _ => 0)

def quiescent_MemNormFwdRefIdeal [hMemNormFwdRefIdeal : Cert.MemNormFwdRefIdeal.Facts] : Prop :=
  ∀ (m : (ℓ : Loc Cert.MemNormFwdRefIdeal.nD Cert.MemNormFwdRefIdeal.τ Cert.MemNormFwdRefIdeal.sig) → Buf (Elt Ideal) ℓ) (g : Dev Cert.MemNormFwdRefIdeal.nD → PrngReg), Pre_MemNormFwdRefIdeal m →
    θ_run (Cert.MemNormFwdRefIdeal.defs (F := Ideal)) (onTc (τ := Cert.MemNormFwdRefIdeal.τ) (Cert.MemNormFwdRefIdeal.main (F := Ideal))) ⟨m, fun _ => 0, g⟩ (fun r => (∀ c : Dev Cert.MemNormFwdRefIdeal.nD,
      r.2.mem ((c.tc : Thread Cert.MemNormFwdRefIdeal.nD Cert.MemNormFwdRefIdeal.τ).loc Cert.MemNormFwdRefIdeal.main_arg0) = m ((c.tc : Thread Cert.MemNormFwdRefIdeal.nD Cert.MemNormFwdRefIdeal.τ).loc Cert.MemNormFwdRefIdeal.main_arg0)
      ∧ r.2.mem ((c.tc : Thread Cert.MemNormFwdRefIdeal.nD Cert.MemNormFwdRefIdeal.τ).loc Cert.MemNormFwdRefIdeal.main_arg1) = m ((c.tc : Thread Cert.MemNormFwdRefIdeal.nD Cert.MemNormFwdRefIdeal.τ).loc Cert.MemNormFwdRefIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_XattnFwd [hXattnFwd : Cert.XattnFwd.Facts] : Prop :=
  ∀ (m : (ℓ : Loc Cert.XattnFwd.nD Cert.XattnFwd.τ Cert.XattnFwd.sig) → Buf (Elt Bits) ℓ) (g : Dev Cert.XattnFwd.nD → PrngReg), Pre_XattnFwd m →
    θ_run (Cert.XattnFwd.defs (F := Bits)) (onTc (τ := Cert.XattnFwd.τ) (Cert.XattnFwd.main (F := Bits))) ⟨m, fun _ => 0, g⟩ (fun r => (∀ c : Dev Cert.XattnFwd.nD,
      r.2.mem ((c.tc : Thread Cert.XattnFwd.nD Cert.XattnFwd.τ).loc Cert.XattnFwd.main_arg0) = m ((c.tc : Thread Cert.XattnFwd.nD Cert.XattnFwd.τ).loc Cert.XattnFwd.main_arg0)
      ∧ r.2.mem ((c.tc : Thread Cert.XattnFwd.nD Cert.XattnFwd.τ).loc Cert.XattnFwd.main_arg1) = m ((c.tc : Thread Cert.XattnFwd.nD Cert.XattnFwd.τ).loc Cert.XattnFwd.main_arg1))
      ∧ r.2.sem = fun _ => 0)

def quiescent_XattnFwdIdeal [hXattnFwdIdeal : Cert.XattnFwdIdeal.Facts] : Prop :=
  ∀ (m : (ℓ : Loc Cert.XattnFwdIdeal.nD Cert.XattnFwdIdeal.τ Cert.XattnFwdIdeal.sig) → Buf (Elt Ideal) ℓ) (g : Dev Cert.XattnFwdIdeal.nD → PrngReg), Pre_XattnFwdIdeal m →
    θ_run (Cert.XattnFwdIdeal.defs (F := Ideal)) (onTc (τ := Cert.XattnFwdIdeal.τ) (Cert.XattnFwdIdeal.main (F := Ideal))) ⟨m, fun _ => 0, g⟩ (fun r => (∀ c : Dev Cert.XattnFwdIdeal.nD,
      r.2.mem ((c.tc : Thread Cert.XattnFwdIdeal.nD Cert.XattnFwdIdeal.τ).loc Cert.XattnFwdIdeal.main_arg0) = m ((c.tc : Thread Cert.XattnFwdIdeal.nD Cert.XattnFwdIdeal.τ).loc Cert.XattnFwdIdeal.main_arg0)
      ∧ r.2.mem ((c.tc : Thread Cert.XattnFwdIdeal.nD Cert.XattnFwdIdeal.τ).loc Cert.XattnFwdIdeal.main_arg1) = m ((c.tc : Thread Cert.XattnFwdIdeal.nD Cert.XattnFwdIdeal.τ).loc Cert.XattnFwdIdeal.main_arg1))
      ∧ r.2.sem = fun _ => 0)

def quiescent_XattnFwdIdeal_pre_finite_queries_keys [hXattnFwdIdeal : Cert.XattnFwdIdeal.Facts] [hPre_finite_queries_keys : Cert.Pre_finite_queries_keys.Facts] : Prop :=
  ∀ (m : (ℓ : Loc Cert.XattnFwdIdeal.nD Cert.XattnFwdIdeal.τ Cert.XattnFwdIdeal.sig) → Buf (Elt Ideal) ℓ) (g : Dev Cert.XattnFwdIdeal.nD → PrngReg), Pre_XattnFwdIdeal_finite_queries_keys m →
    θ_run (Cert.XattnFwdIdeal.defs (F := Ideal)) (onTc (τ := Cert.XattnFwdIdeal.τ) (Cert.XattnFwdIdeal.main (F := Ideal))) ⟨m, fun _ => 0, g⟩ (fun r => (∀ c : Dev Cert.XattnFwdIdeal.nD,
      r.2.mem ((c.tc : Thread Cert.XattnFwdIdeal.nD Cert.XattnFwdIdeal.τ).loc Cert.XattnFwdIdeal.main_arg0) = m ((c.tc : Thread Cert.XattnFwdIdeal.nD Cert.XattnFwdIdeal.τ).loc Cert.XattnFwdIdeal.main_arg0)
      ∧ r.2.mem ((c.tc : Thread Cert.XattnFwdIdeal.nD Cert.XattnFwdIdeal.τ).loc Cert.XattnFwdIdeal.main_arg1) = m ((c.tc : Thread Cert.XattnFwdIdeal.nD Cert.XattnFwdIdeal.τ).loc Cert.XattnFwdIdeal.main_arg1))
      ∧ r.2.sem = fun _ => 0)

def quiescent_XattnFwdRefIdeal [hXattnFwdRefIdeal : Cert.XattnFwdRefIdeal.Facts] : Prop :=
  ∀ (m : (ℓ : Loc Cert.XattnFwdRefIdeal.nD Cert.XattnFwdRefIdeal.τ Cert.XattnFwdRefIdeal.sig) → Buf (Elt Ideal) ℓ) (g : Dev Cert.XattnFwdRefIdeal.nD → PrngReg), Pre_XattnFwdRefIdeal m →
    θ_run (Cert.XattnFwdRefIdeal.defs (F := Ideal)) (onTc (τ := Cert.XattnFwdRefIdeal.τ) (Cert.XattnFwdRefIdeal.main (F := Ideal))) ⟨m, fun _ => 0, g⟩ (fun r => (∀ c : Dev Cert.XattnFwdRefIdeal.nD,
      r.2.mem ((c.tc : Thread Cert.XattnFwdRefIdeal.nD Cert.XattnFwdRefIdeal.τ).loc Cert.XattnFwdRefIdeal.main_arg0) = m ((c.tc : Thread Cert.XattnFwdRefIdeal.nD Cert.XattnFwdRefIdeal.τ).loc Cert.XattnFwdRefIdeal.main_arg0)
      ∧ r.2.mem ((c.tc : Thread Cert.XattnFwdRefIdeal.nD Cert.XattnFwdRefIdeal.τ).loc Cert.XattnFwdRefIdeal.main_arg1) = m ((c.tc : Thread Cert.XattnFwdRefIdeal.nD Cert.XattnFwdRefIdeal.τ).loc Cert.XattnFwdRefIdeal.main_arg1))
      ∧ r.2.sem = fun _ => 0)

def quiescent_XattnFwdRefIdeal_pre_finite_queries_keys [hXattnFwdRefIdeal : Cert.XattnFwdRefIdeal.Facts] [hPre_finite_queries_keys : Cert.Pre_finite_queries_keys.Facts] : Prop :=
  ∀ (m : (ℓ : Loc Cert.XattnFwdRefIdeal.nD Cert.XattnFwdRefIdeal.τ Cert.XattnFwdRefIdeal.sig) → Buf (Elt Ideal) ℓ) (g : Dev Cert.XattnFwdRefIdeal.nD → PrngReg), Pre_XattnFwdRefIdeal_finite_queries_keys m →
    θ_run (Cert.XattnFwdRefIdeal.defs (F := Ideal)) (onTc (τ := Cert.XattnFwdRefIdeal.τ) (Cert.XattnFwdRefIdeal.main (F := Ideal))) ⟨m, fun _ => 0, g⟩ (fun r => (∀ c : Dev Cert.XattnFwdRefIdeal.nD,
      r.2.mem ((c.tc : Thread Cert.XattnFwdRefIdeal.nD Cert.XattnFwdRefIdeal.τ).loc Cert.XattnFwdRefIdeal.main_arg0) = m ((c.tc : Thread Cert.XattnFwdRefIdeal.nD Cert.XattnFwdRefIdeal.τ).loc Cert.XattnFwdRefIdeal.main_arg0)
      ∧ r.2.mem ((c.tc : Thread Cert.XattnFwdRefIdeal.nD Cert.XattnFwdRefIdeal.τ).loc Cert.XattnFwdRefIdeal.main_arg1) = m ((c.tc : Thread Cert.XattnFwdRefIdeal.nD Cert.XattnFwdRefIdeal.τ).loc Cert.XattnFwdRefIdeal.main_arg1))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamWin [hAdamWin : Cert.AdamWin.Facts] : Prop :=
  ∀ (m : (ℓ : Loc Cert.AdamWin.nD Cert.AdamWin.τ Cert.AdamWin.sig) → Buf (Elt Bits) ℓ) (g : Dev Cert.AdamWin.nD → PrngReg), Pre_AdamWin m →
    θ_run (Cert.AdamWin.defs (F := Bits)) (onTc (τ := Cert.AdamWin.τ) (Cert.AdamWin.main (F := Bits))) ⟨m, fun _ => 0, g⟩ (fun r => (∀ c : Dev Cert.AdamWin.nD,
      r.2.mem ((c.tc : Thread Cert.AdamWin.nD Cert.AdamWin.τ).loc Cert.AdamWin.main_arg0) = m ((c.tc : Thread Cert.AdamWin.nD Cert.AdamWin.τ).loc Cert.AdamWin.main_arg0)
      ∧ r.2.mem ((c.tc : Thread Cert.AdamWin.nD Cert.AdamWin.τ).loc Cert.AdamWin.main_arg1) = m ((c.tc : Thread Cert.AdamWin.nD Cert.AdamWin.τ).loc Cert.AdamWin.main_arg1)
      ∧ r.2.mem ((c.tc : Thread Cert.AdamWin.nD Cert.AdamWin.τ).loc Cert.AdamWin.main_arg2) = m ((c.tc : Thread Cert.AdamWin.nD Cert.AdamWin.τ).loc Cert.AdamWin.main_arg2)
      ∧ r.2.mem ((c.tc : Thread Cert.AdamWin.nD Cert.AdamWin.τ).loc Cert.AdamWin.main_arg3) = m ((c.tc : Thread Cert.AdamWin.nD Cert.AdamWin.τ).loc Cert.AdamWin.main_arg3))
      ∧ r.2.sem = fun _ => 0)

def quiescent_AdamWinIdeal [hAdamWinIdeal : Cert.AdamWinIdeal.Facts] : Prop :=
  ∀ (m : (ℓ : Loc Cert.AdamWinIdeal.nD Cert.AdamWinIdeal.τ Cert.AdamWinIdeal.sig) → Buf (Elt Ideal) ℓ) (g : Dev Cert.AdamWinIdeal.nD → PrngReg), Pre_AdamWinIdeal m →
    θ_run (Cert.AdamWinIdeal.defs (F := Ideal)) (onTc (τ := Cert.AdamWinIdeal.τ) (Cert.AdamWinIdeal.main (F := Ideal))) ⟨m, fun _ => 0, g⟩ (fun r => (∀ c : Dev Cert.AdamWinIdeal.nD,
      r.2.mem ((c.tc : Thread Cert.AdamWinIdeal.nD Cert.AdamWinIdeal.τ).loc Cert.AdamWinIdeal.main_arg0) = m ((c.tc : Thread Cert.AdamWinIdeal.nD Cert.AdamWinIdeal.τ).loc Cert.AdamWinIdeal.main_arg0)
      ∧ r.2.mem ((c.tc : Thread Cert.AdamWinIdeal.nD Cert.AdamWinIdeal.τ).loc Cert.AdamWinIdeal.main_arg1) = m ((c.tc : Thread Cert.AdamWinIdeal.nD Cert.AdamWinIdeal.τ).loc Cert.AdamWinIdeal.main_arg1)
      ∧ r.2.mem ((c.tc : Thread Cert.AdamWinIdeal.nD Cert.AdamWinIdeal.τ).loc Cert.AdamWinIdeal.main_arg2) = m ((c.tc : Thread Cert.AdamWinIdeal.nD Cert.AdamWinIdeal.τ).loc Cert.AdamWinIdeal.main_arg2)
      ∧ r.2.mem ((c.tc : Thread Cert.AdamWinIdeal.nD Cert.AdamWinIdeal.τ).loc Cert.AdamWinIdeal.main_arg3) = m ((c.tc : Thread Cert.AdamWinIdeal.nD Cert.AdamWinIdeal.τ).loc Cert.AdamWinIdeal.main_arg3))
      ∧ r.2.sem = fun _ => 0)

def quiescent_AdamWinRefIdeal [hAdamWinRefIdeal : Cert.AdamWinRefIdeal.Facts] : Prop :=
  ∀ (m : (ℓ : Loc Cert.AdamWinRefIdeal.nD Cert.AdamWinRefIdeal.τ Cert.AdamWinRefIdeal.sig) → Buf (Elt Ideal) ℓ) (g : Dev Cert.AdamWinRefIdeal.nD → PrngReg), Pre_AdamWinRefIdeal m →
    θ_run (Cert.AdamWinRefIdeal.defs (F := Ideal)) (onTc (τ := Cert.AdamWinRefIdeal.τ) (Cert.AdamWinRefIdeal.main (F := Ideal))) ⟨m, fun _ => 0, g⟩ (fun r => (∀ c : Dev Cert.AdamWinRefIdeal.nD,
      r.2.mem ((c.tc : Thread Cert.AdamWinRefIdeal.nD Cert.AdamWinRefIdeal.τ).loc Cert.AdamWinRefIdeal.main_arg0) = m ((c.tc : Thread Cert.AdamWinRefIdeal.nD Cert.AdamWinRefIdeal.τ).loc Cert.AdamWinRefIdeal.main_arg0)
      ∧ r.2.mem ((c.tc : Thread Cert.AdamWinRefIdeal.nD Cert.AdamWinRefIdeal.τ).loc Cert.AdamWinRefIdeal.main_arg1) = m ((c.tc : Thread Cert.AdamWinRefIdeal.nD Cert.AdamWinRefIdeal.τ).loc Cert.AdamWinRefIdeal.main_arg1)
      ∧ r.2.mem ((c.tc : Thread Cert.AdamWinRefIdeal.nD Cert.AdamWinRefIdeal.τ).loc Cert.AdamWinRefIdeal.main_arg2) = m ((c.tc : Thread Cert.AdamWinRefIdeal.nD Cert.AdamWinRefIdeal.τ).loc Cert.AdamWinRefIdeal.main_arg2)
      ∧ r.2.mem ((c.tc : Thread Cert.AdamWinRefIdeal.nD Cert.AdamWinRefIdeal.τ).loc Cert.AdamWinRefIdeal.main_arg3) = m ((c.tc : Thread Cert.AdamWinRefIdeal.nD Cert.AdamWinRefIdeal.τ).loc Cert.AdamWinRefIdeal.main_arg3))
      ∧ r.2.sem = fun _ => 0)

def quiescent_AdamSq [hAdamSq : Cert.AdamSq.Facts] : Prop :=
  ∀ (m : (ℓ : Loc Cert.AdamSq.nD Cert.AdamSq.τ Cert.AdamSq.sig) → Buf (Elt Bits) ℓ) (g : Dev Cert.AdamSq.nD → PrngReg), Pre_AdamSq m →
    θ_run (Cert.AdamSq.defs (F := Bits)) (onTc (τ := Cert.AdamSq.τ) (Cert.AdamSq.main (F := Bits))) ⟨m, fun _ => 0, g⟩ (fun r => (∀ c : Dev Cert.AdamSq.nD,
      r.2.mem ((c.tc : Thread Cert.AdamSq.nD Cert.AdamSq.τ).loc Cert.AdamSq.main_arg0) = m ((c.tc : Thread Cert.AdamSq.nD Cert.AdamSq.τ).loc Cert.AdamSq.main_arg0)
      ∧ r.2.mem ((c.tc : Thread Cert.AdamSq.nD Cert.AdamSq.τ).loc Cert.AdamSq.main_arg1) = m ((c.tc : Thread Cert.AdamSq.nD Cert.AdamSq.τ).loc Cert.AdamSq.main_arg1)
      ∧ r.2.mem ((c.tc : Thread Cert.AdamSq.nD Cert.AdamSq.τ).loc Cert.AdamSq.main_arg2) = m ((c.tc : Thread Cert.AdamSq.nD Cert.AdamSq.τ).loc Cert.AdamSq.main_arg2)
      ∧ r.2.mem ((c.tc : Thread Cert.AdamSq.nD Cert.AdamSq.τ).loc Cert.AdamSq.main_arg3) = m ((c.tc : Thread Cert.AdamSq.nD Cert.AdamSq.τ).loc Cert.AdamSq.main_arg3))
      ∧ r.2.sem = fun _ => 0)

def quiescent_AdamSqIdeal [hAdamSqIdeal : Cert.AdamSqIdeal.Facts] : Prop :=
  ∀ (m : (ℓ : Loc Cert.AdamSqIdeal.nD Cert.AdamSqIdeal.τ Cert.AdamSqIdeal.sig) → Buf (Elt Ideal) ℓ) (g : Dev Cert.AdamSqIdeal.nD → PrngReg), Pre_AdamSqIdeal m →
    θ_run (Cert.AdamSqIdeal.defs (F := Ideal)) (onTc (τ := Cert.AdamSqIdeal.τ) (Cert.AdamSqIdeal.main (F := Ideal))) ⟨m, fun _ => 0, g⟩ (fun r => (∀ c : Dev Cert.AdamSqIdeal.nD,
      r.2.mem ((c.tc : Thread Cert.AdamSqIdeal.nD Cert.AdamSqIdeal.τ).loc Cert.AdamSqIdeal.main_arg0) = m ((c.tc : Thread Cert.AdamSqIdeal.nD Cert.AdamSqIdeal.τ).loc Cert.AdamSqIdeal.main_arg0)
      ∧ r.2.mem ((c.tc : Thread Cert.AdamSqIdeal.nD Cert.AdamSqIdeal.τ).loc Cert.AdamSqIdeal.main_arg1) = m ((c.tc : Thread Cert.AdamSqIdeal.nD Cert.AdamSqIdeal.τ).loc Cert.AdamSqIdeal.main_arg1)
      ∧ r.2.mem ((c.tc : Thread Cert.AdamSqIdeal.nD Cert.AdamSqIdeal.τ).loc Cert.AdamSqIdeal.main_arg2) = m ((c.tc : Thread Cert.AdamSqIdeal.nD Cert.AdamSqIdeal.τ).loc Cert.AdamSqIdeal.main_arg2)
      ∧ r.2.mem ((c.tc : Thread Cert.AdamSqIdeal.nD Cert.AdamSqIdeal.τ).loc Cert.AdamSqIdeal.main_arg3) = m ((c.tc : Thread Cert.AdamSqIdeal.nD Cert.AdamSqIdeal.τ).loc Cert.AdamSqIdeal.main_arg3))
      ∧ r.2.sem = fun _ => 0)

def quiescent_AdamSqRefIdeal [hAdamSqRefIdeal : Cert.AdamSqRefIdeal.Facts] : Prop :=
  ∀ (m : (ℓ : Loc Cert.AdamSqRefIdeal.nD Cert.AdamSqRefIdeal.τ Cert.AdamSqRefIdeal.sig) → Buf (Elt Ideal) ℓ) (g : Dev Cert.AdamSqRefIdeal.nD → PrngReg), Pre_AdamSqRefIdeal m →
    θ_run (Cert.AdamSqRefIdeal.defs (F := Ideal)) (onTc (τ := Cert.AdamSqRefIdeal.τ) (Cert.AdamSqRefIdeal.main (F := Ideal))) ⟨m, fun _ => 0, g⟩ (fun r => (∀ c : Dev Cert.AdamSqRefIdeal.nD,
      r.2.mem ((c.tc : Thread Cert.AdamSqRefIdeal.nD Cert.AdamSqRefIdeal.τ).loc Cert.AdamSqRefIdeal.main_arg0) = m ((c.tc : Thread Cert.AdamSqRefIdeal.nD Cert.AdamSqRefIdeal.τ).loc Cert.AdamSqRefIdeal.main_arg0)
      ∧ r.2.mem ((c.tc : Thread Cert.AdamSqRefIdeal.nD Cert.AdamSqRefIdeal.τ).loc Cert.AdamSqRefIdeal.main_arg1) = m ((c.tc : Thread Cert.AdamSqRefIdeal.nD Cert.AdamSqRefIdeal.τ).loc Cert.AdamSqRefIdeal.main_arg1)
      ∧ r.2.mem ((c.tc : Thread Cert.AdamSqRefIdeal.nD Cert.AdamSqRefIdeal.τ).loc Cert.AdamSqRefIdeal.main_arg2) = m ((c.tc : Thread Cert.AdamSqRefIdeal.nD Cert.AdamSqRefIdeal.τ).loc Cert.AdamSqRefIdeal.main_arg2)
      ∧ r.2.mem ((c.tc : Thread Cert.AdamSqRefIdeal.nD Cert.AdamSqRefIdeal.τ).loc Cert.AdamSqRefIdeal.main_arg3) = m ((c.tc : Thread Cert.AdamSqRefIdeal.nD Cert.AdamSqRefIdeal.τ).loc Cert.AdamSqRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v6) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_OutDx_OutDxIdeal : Prop :=
  True

def algebraic_OutDxIdeal_OutDxRefIdeal_pre_finite_gate [hOutDxIdeal : Cert.OutDxIdeal.Facts] [hOutDxRefIdeal : Cert.OutDxRefIdeal.Facts] [hPre_finite_gate : Cert.Pre_finite_gate.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal_finite_gate m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)
      ∧ m' ((c.tc : Thread Cert.OutDxRefIdeal.nD Cert.OutDxRefIdeal.τ).loc Cert.OutDxRefIdeal.main_arg2) = m ((c.tc : Thread Cert.OutDxIdeal.nD Cert.OutDxIdeal.τ).loc Cert.OutDxIdeal.main_arg2)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
          ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v17) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1)
          ∧ r.2.mem ((c.tc : Thread Cert.OutDxRefIdeal.nD Cert.OutDxRefIdeal.τ).loc Cert.OutDxRefIdeal.main_arg2) = m' ((c.tc : Thread Cert.OutDxRefIdeal.nD Cert.OutDxRefIdeal.τ).loc Cert.OutDxRefIdeal.main_arg2))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v10) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_InDx1_InDx1Ideal : Prop :=
  True

def algebraic_InDx1Ideal_InDx1RefIdeal [hInDx1Ideal : Cert.InDx1Ideal.Facts] [hInDx1RefIdeal : Cert.InDx1RefIdeal.Facts] : Prop :=
  ∀ (m : (ℓ : Loc Cert.InDx1Ideal.nD Cert.InDx1Ideal.τ Cert.InDx1Ideal.sig) → Buf (Elt Ideal) ℓ) (g : Dev Cert.InDx1Ideal.nD → PrngReg)
    (m' : (ℓ : Loc Cert.InDx1RefIdeal.nD Cert.InDx1RefIdeal.τ Cert.InDx1RefIdeal.sig) → Buf (Elt Ideal) ℓ) (g' : Dev Cert.InDx1RefIdeal.nD → PrngReg), Pre_InDx1Ideal m →
    (∀ c : Dev Cert.InDx1Ideal.nD,
      m' ((c.tc : Thread Cert.InDx1RefIdeal.nD Cert.InDx1RefIdeal.τ).loc Cert.InDx1RefIdeal.main_arg0) = m ((c.tc : Thread Cert.InDx1Ideal.nD Cert.InDx1Ideal.τ).loc Cert.InDx1Ideal.main_arg0)
      ∧ m' ((c.tc : Thread Cert.InDx1RefIdeal.nD Cert.InDx1RefIdeal.τ).loc Cert.InDx1RefIdeal.main_arg1) = m ((c.tc : Thread Cert.InDx1Ideal.nD Cert.InDx1Ideal.τ).loc Cert.InDx1Ideal.main_arg1)
      ∧ m' ((c.tc : Thread Cert.InDx1RefIdeal.nD Cert.InDx1RefIdeal.τ).loc Cert.InDx1RefIdeal.main_arg2) = m ((c.tc : Thread Cert.InDx1Ideal.nD Cert.InDx1Ideal.τ).loc Cert.InDx1Ideal.main_arg2)
      ∧ m' ((c.tc : Thread Cert.InDx1RefIdeal.nD Cert.InDx1RefIdeal.τ).loc Cert.InDx1RefIdeal.main_arg3) = m ((c.tc : Thread Cert.InDx1Ideal.nD Cert.InDx1Ideal.τ).loc Cert.InDx1Ideal.main_arg3)
      ∧ m' ((c.tc : Thread Cert.InDx1RefIdeal.nD Cert.InDx1RefIdeal.τ).loc Cert.InDx1RefIdeal.main_arg4) = m ((c.tc : Thread Cert.InDx1Ideal.nD Cert.InDx1Ideal.τ).loc Cert.InDx1Ideal.main_arg4)) →
    ∃ (v0 : (c : Dev Cert.InDx1Ideal.nD) → Buf (Elt Ideal) ((c.tc : Thread Cert.InDx1Ideal.nD Cert.InDx1Ideal.τ).loc Cert.InDx1Ideal.main_v0_0)) (v1 : (c : Dev Cert.InDx1Ideal.nD) → Buf (Elt Ideal) ((c.tc : Thread Cert.InDx1Ideal.nD Cert.InDx1Ideal.τ).loc Cert.InDx1Ideal.main_v0_1)),
      θ_run (Cert.InDx1Ideal.defs (F := Ideal)) (onTc (τ := Cert.InDx1Ideal.τ) (Cert.InDx1Ideal.main (F := Ideal))) ⟨m, fun _ => 0, g⟩ (fun r => ∀ c : Dev Cert.InDx1Ideal.nD,
          r.2.mem ((c.tc : Thread Cert.InDx1Ideal.nD Cert.InDx1Ideal.τ).loc Cert.InDx1Ideal.main_v0_0) = v0 c
          ∧ r.2.mem ((c.tc : Thread Cert.InDx1Ideal.nD Cert.InDx1Ideal.τ).loc Cert.InDx1Ideal.main_v0_1) = v1 c
          ∧ r.2.mem ((c.tc : Thread Cert.InDx1Ideal.nD Cert.InDx1Ideal.τ).loc Cert.InDx1Ideal.main_arg0) = m ((c.tc : Thread Cert.InDx1Ideal.nD Cert.InDx1Ideal.τ).loc Cert.InDx1Ideal.main_arg0)
          ∧ r.2.mem ((c.tc : Thread Cert.InDx1Ideal.nD Cert.InDx1Ideal.τ).loc Cert.InDx1Ideal.main_arg1) = m ((c.tc : Thread Cert.InDx1Ideal.nD Cert.InDx1Ideal.τ).loc Cert.InDx1Ideal.main_arg1)
          ∧ r.2.mem ((c.tc : Thread Cert.InDx1Ideal.nD Cert.InDx1Ideal.τ).loc Cert.InDx1Ideal.main_arg2) = m ((c.tc : Thread Cert.InDx1Ideal.nD Cert.InDx1Ideal.τ).loc Cert.InDx1Ideal.main_arg2)
          ∧ r.2.mem ((c.tc : Thread Cert.InDx1Ideal.nD Cert.InDx1Ideal.τ).loc Cert.InDx1Ideal.main_arg3) = m ((c.tc : Thread Cert.InDx1Ideal.nD Cert.InDx1Ideal.τ).loc Cert.InDx1Ideal.main_arg3)
          ∧ r.2.mem ((c.tc : Thread Cert.InDx1Ideal.nD Cert.InDx1Ideal.τ).loc Cert.InDx1Ideal.main_arg4) = m ((c.tc : Thread Cert.InDx1Ideal.nD Cert.InDx1Ideal.τ).loc Cert.InDx1Ideal.main_arg4))
      ∧ θ_run (Cert.InDx1RefIdeal.defs (F := Ideal)) (onTc (τ := Cert.InDx1RefIdeal.τ) (Cert.InDx1RefIdeal.main (F := Ideal))) ⟨m', fun _ => 0, g'⟩ (fun r => ∀ c : Dev Cert.InDx1RefIdeal.nD,
          r.2.mem ((c.tc : Thread Cert.InDx1RefIdeal.nD Cert.InDx1RefIdeal.τ).loc Cert.InDx1RefIdeal.main_v40) = v0 c
          ∧ r.2.mem ((c.tc : Thread Cert.InDx1RefIdeal.nD Cert.InDx1RefIdeal.τ).loc Cert.InDx1RefIdeal.main_v23) = v1 c
          ∧ r.2.mem ((c.tc : Thread Cert.InDx1RefIdeal.nD Cert.InDx1RefIdeal.τ).loc Cert.InDx1RefIdeal.main_arg0) = m' ((c.tc : Thread Cert.InDx1RefIdeal.nD Cert.InDx1RefIdeal.τ).loc Cert.InDx1RefIdeal.main_arg0)
          ∧ r.2.mem ((c.tc : Thread Cert.InDx1RefIdeal.nD Cert.InDx1RefIdeal.τ).loc Cert.InDx1RefIdeal.main_arg1) = m' ((c.tc : Thread Cert.InDx1RefIdeal.nD Cert.InDx1RefIdeal.τ).loc Cert.InDx1RefIdeal.main_arg1)
          ∧ r.2.mem ((c.tc : Thread Cert.InDx1RefIdeal.nD Cert.InDx1RefIdeal.τ).loc Cert.InDx1RefIdeal.main_arg2) = m' ((c.tc : Thread Cert.InDx1RefIdeal.nD Cert.InDx1RefIdeal.τ).loc Cert.InDx1RefIdeal.main_arg2)
          ∧ r.2.mem ((c.tc : Thread Cert.InDx1RefIdeal.nD Cert.InDx1RefIdeal.τ).loc Cert.InDx1RefIdeal.main_arg3) = m' ((c.tc : Thread Cert.InDx1RefIdeal.nD Cert.InDx1RefIdeal.τ).loc Cert.InDx1RefIdeal.main_arg3)
          ∧ r.2.mem ((c.tc : Thread Cert.InDx1RefIdeal.nD Cert.InDx1RefIdeal.τ).loc Cert.InDx1RefIdeal.main_arg4) = m' ((c.tc : Thread Cert.InDx1RefIdeal.nD Cert.InDx1RefIdeal.τ).loc Cert.InDx1RefIdeal.main_arg4))

def preserves_InDx2_InDx2Ideal : Prop :=
  True

def algebraic_InDx2Ideal_InDx2RefIdeal [hInDx2Ideal : Cert.InDx2Ideal.Facts] [hInDx2RefIdeal : Cert.InDx2RefIdeal.Facts] : Prop :=
  ∀ (m : (ℓ : Loc Cert.InDx2Ideal.nD Cert.InDx2Ideal.τ Cert.InDx2Ideal.sig) → Buf (Elt Ideal) ℓ) (g : Dev Cert.InDx2Ideal.nD → PrngReg)
    (m' : (ℓ : Loc Cert.InDx2RefIdeal.nD Cert.InDx2RefIdeal.τ Cert.InDx2RefIdeal.sig) → Buf (Elt Ideal) ℓ) (g' : Dev Cert.InDx2RefIdeal.nD → PrngReg), Pre_InDx2Ideal m →
    (∀ c : Dev Cert.InDx2Ideal.nD,
      m' ((c.tc : Thread Cert.InDx2RefIdeal.nD Cert.InDx2RefIdeal.τ).loc Cert.InDx2RefIdeal.main_arg0) = m ((c.tc : Thread Cert.InDx2Ideal.nD Cert.InDx2Ideal.τ).loc Cert.InDx2Ideal.main_arg0)
      ∧ m' ((c.tc : Thread Cert.InDx2RefIdeal.nD Cert.InDx2RefIdeal.τ).loc Cert.InDx2RefIdeal.main_arg1) = m ((c.tc : Thread Cert.InDx2Ideal.nD Cert.InDx2Ideal.τ).loc Cert.InDx2Ideal.main_arg1)
      ∧ m' ((c.tc : Thread Cert.InDx2RefIdeal.nD Cert.InDx2RefIdeal.τ).loc Cert.InDx2RefIdeal.main_arg2) = m ((c.tc : Thread Cert.InDx2Ideal.nD Cert.InDx2Ideal.τ).loc Cert.InDx2Ideal.main_arg2)
      ∧ m' ((c.tc : Thread Cert.InDx2RefIdeal.nD Cert.InDx2RefIdeal.τ).loc Cert.InDx2RefIdeal.main_arg3) = m ((c.tc : Thread Cert.InDx2Ideal.nD Cert.InDx2Ideal.τ).loc Cert.InDx2Ideal.main_arg3)
      ∧ m' ((c.tc : Thread Cert.InDx2RefIdeal.nD Cert.InDx2RefIdeal.τ).loc Cert.InDx2RefIdeal.main_arg4) = m ((c.tc : Thread Cert.InDx2Ideal.nD Cert.InDx2Ideal.τ).loc Cert.InDx2Ideal.main_arg4)
      ∧ m' ((c.tc : Thread Cert.InDx2RefIdeal.nD Cert.InDx2RefIdeal.τ).loc Cert.InDx2RefIdeal.main_arg5) = m ((c.tc : Thread Cert.InDx2Ideal.nD Cert.InDx2Ideal.τ).loc Cert.InDx2Ideal.main_arg5)
      ∧ m' ((c.tc : Thread Cert.InDx2RefIdeal.nD Cert.InDx2RefIdeal.τ).loc Cert.InDx2RefIdeal.main_arg6) = m ((c.tc : Thread Cert.InDx2Ideal.nD Cert.InDx2Ideal.τ).loc Cert.InDx2Ideal.main_arg6)) →
    ∃ (v0 : (c : Dev Cert.InDx2Ideal.nD) → Buf (Elt Ideal) ((c.tc : Thread Cert.InDx2Ideal.nD Cert.InDx2Ideal.τ).loc Cert.InDx2Ideal.main_v0_0)) (v1 : (c : Dev Cert.InDx2Ideal.nD) → Buf (Elt Ideal) ((c.tc : Thread Cert.InDx2Ideal.nD Cert.InDx2Ideal.τ).loc Cert.InDx2Ideal.main_v0_1)) (v2 : (c : Dev Cert.InDx2Ideal.nD) → Buf (Elt Ideal) ((c.tc : Thread Cert.InDx2Ideal.nD Cert.InDx2Ideal.τ).loc Cert.InDx2Ideal.main_v0_2)) (v3 : (c : Dev Cert.InDx2Ideal.nD) → Buf (Elt Ideal) ((c.tc : Thread Cert.InDx2Ideal.nD Cert.InDx2Ideal.τ).loc Cert.InDx2Ideal.main_v0_3)),
      θ_run (Cert.InDx2Ideal.defs (F := Ideal)) (onTc (τ := Cert.InDx2Ideal.τ) (Cert.InDx2Ideal.main (F := Ideal))) ⟨m, fun _ => 0, g⟩ (fun r => ∀ c : Dev Cert.InDx2Ideal.nD,
          r.2.mem ((c.tc : Thread Cert.InDx2Ideal.nD Cert.InDx2Ideal.τ).loc Cert.InDx2Ideal.main_v0_0) = v0 c
          ∧ r.2.mem ((c.tc : Thread Cert.InDx2Ideal.nD Cert.InDx2Ideal.τ).loc Cert.InDx2Ideal.main_v0_1) = v1 c
          ∧ r.2.mem ((c.tc : Thread Cert.InDx2Ideal.nD Cert.InDx2Ideal.τ).loc Cert.InDx2Ideal.main_v0_2) = v2 c
          ∧ r.2.mem ((c.tc : Thread Cert.InDx2Ideal.nD Cert.InDx2Ideal.τ).loc Cert.InDx2Ideal.main_v0_3) = v3 c
          ∧ r.2.mem ((c.tc : Thread Cert.InDx2Ideal.nD Cert.InDx2Ideal.τ).loc Cert.InDx2Ideal.main_arg0) = m ((c.tc : Thread Cert.InDx2Ideal.nD Cert.InDx2Ideal.τ).loc Cert.InDx2Ideal.main_arg0)
          ∧ r.2.mem ((c.tc : Thread Cert.InDx2Ideal.nD Cert.InDx2Ideal.τ).loc Cert.InDx2Ideal.main_arg1) = m ((c.tc : Thread Cert.InDx2Ideal.nD Cert.InDx2Ideal.τ).loc Cert.InDx2Ideal.main_arg1)
          ∧ r.2.mem ((c.tc : Thread Cert.InDx2Ideal.nD Cert.InDx2Ideal.τ).loc Cert.InDx2Ideal.main_arg2) = m ((c.tc : Thread Cert.InDx2Ideal.nD Cert.InDx2Ideal.τ).loc Cert.InDx2Ideal.main_arg2)
          ∧ r.2.mem ((c.tc : Thread Cert.InDx2Ideal.nD Cert.InDx2Ideal.τ).loc Cert.InDx2Ideal.main_arg3) = m ((c.tc : Thread Cert.InDx2Ideal.nD Cert.InDx2Ideal.τ).loc Cert.InDx2Ideal.main_arg3)
          ∧ r.2.mem ((c.tc : Thread Cert.InDx2Ideal.nD Cert.InDx2Ideal.τ).loc Cert.InDx2Ideal.main_arg4) = m ((c.tc : Thread Cert.InDx2Ideal.nD Cert.InDx2Ideal.τ).loc Cert.InDx2Ideal.main_arg4)
          ∧ r.2.mem ((c.tc : Thread Cert.InDx2Ideal.nD Cert.InDx2Ideal.τ).loc Cert.InDx2Ideal.main_arg5) = m ((c.tc : Thread Cert.InDx2Ideal.nD Cert.InDx2Ideal.τ).loc Cert.InDx2Ideal.main_arg5)
          ∧ r.2.mem ((c.tc : Thread Cert.InDx2Ideal.nD Cert.InDx2Ideal.τ).loc Cert.InDx2Ideal.main_arg6) = m ((c.tc : Thread Cert.InDx2Ideal.nD Cert.InDx2Ideal.τ).loc Cert.InDx2Ideal.main_arg6))
      ∧ θ_run (Cert.InDx2RefIdeal.defs (F := Ideal)) (onTc (τ := Cert.InDx2RefIdeal.τ) (Cert.InDx2RefIdeal.main (F := Ideal))) ⟨m', fun _ => 0, g'⟩ (fun r => ∀ c : Dev Cert.InDx2RefIdeal.nD,
          r.2.mem ((c.tc : Thread Cert.InDx2RefIdeal.nD Cert.InDx2RefIdeal.τ).loc Cert.InDx2RefIdeal.main_v40) = v0 c
          ∧ r.2.mem ((c.tc : Thread Cert.InDx2RefIdeal.nD Cert.InDx2RefIdeal.τ).loc Cert.InDx2RefIdeal.main_v23) = v1 c
          ∧ r.2.mem ((c.tc : Thread Cert.InDx2RefIdeal.nD Cert.InDx2RefIdeal.τ).loc Cert.InDx2RefIdeal.main_v75) = v2 c
          ∧ r.2.mem ((c.tc : Thread Cert.InDx2RefIdeal.nD Cert.InDx2RefIdeal.τ).loc Cert.InDx2RefIdeal.main_v58) = v3 c
          ∧ r.2.mem ((c.tc : Thread Cert.InDx2RefIdeal.nD Cert.InDx2RefIdeal.τ).loc Cert.InDx2RefIdeal.main_arg0) = m' ((c.tc : Thread Cert.InDx2RefIdeal.nD Cert.InDx2RefIdeal.τ).loc Cert.InDx2RefIdeal.main_arg0)
          ∧ r.2.mem ((c.tc : Thread Cert.InDx2RefIdeal.nD Cert.InDx2RefIdeal.τ).loc Cert.InDx2RefIdeal.main_arg1) = m' ((c.tc : Thread Cert.InDx2RefIdeal.nD Cert.InDx2RefIdeal.τ).loc Cert.InDx2RefIdeal.main_arg1)
          ∧ r.2.mem ((c.tc : Thread Cert.InDx2RefIdeal.nD Cert.InDx2RefIdeal.τ).loc Cert.InDx2RefIdeal.main_arg2) = m' ((c.tc : Thread Cert.InDx2RefIdeal.nD Cert.InDx2RefIdeal.τ).loc Cert.InDx2RefIdeal.main_arg2)
          ∧ r.2.mem ((c.tc : Thread Cert.InDx2RefIdeal.nD Cert.InDx2RefIdeal.τ).loc Cert.InDx2RefIdeal.main_arg3) = m' ((c.tc : Thread Cert.InDx2RefIdeal.nD Cert.InDx2RefIdeal.τ).loc Cert.InDx2RefIdeal.main_arg3)
          ∧ r.2.mem ((c.tc : Thread Cert.InDx2RefIdeal.nD Cert.InDx2RefIdeal.τ).loc Cert.InDx2RefIdeal.main_arg4) = m' ((c.tc : Thread Cert.InDx2RefIdeal.nD Cert.InDx2RefIdeal.τ).loc Cert.InDx2RefIdeal.main_arg4)
          ∧ r.2.mem ((c.tc : Thread Cert.InDx2RefIdeal.nD Cert.InDx2RefIdeal.τ).loc Cert.InDx2RefIdeal.main_arg5) = m' ((c.tc : Thread Cert.InDx2RefIdeal.nD Cert.InDx2RefIdeal.τ).loc Cert.InDx2RefIdeal.main_arg5)
          ∧ r.2.mem ((c.tc : Thread Cert.InDx2RefIdeal.nD Cert.InDx2RefIdeal.τ).loc Cert.InDx2RefIdeal.main_arg6) = m' ((c.tc : Thread Cert.InDx2RefIdeal.nD Cert.InDx2RefIdeal.τ).loc Cert.InDx2RefIdeal.main_arg6))

def preserves_TailBwd_TailBwdIdeal : Prop :=
  True

def algebraic_TailBwdIdeal_TailBwdRefIdeal [hTailBwdIdeal : Cert.TailBwdIdeal.Facts] [hTailBwdRefIdeal : Cert.TailBwdRefIdeal.Facts] : Prop :=
  ∀ (m : (ℓ : Loc Cert.TailBwdIdeal.nD Cert.TailBwdIdeal.τ Cert.TailBwdIdeal.sig) → Buf (Elt Ideal) ℓ) (g : Dev Cert.TailBwdIdeal.nD → PrngReg)
    (m' : (ℓ : Loc Cert.TailBwdRefIdeal.nD Cert.TailBwdRefIdeal.τ Cert.TailBwdRefIdeal.sig) → Buf (Elt Ideal) ℓ) (g' : Dev Cert.TailBwdRefIdeal.nD → PrngReg), Pre_TailBwdIdeal m →
    (∀ c : Dev Cert.TailBwdIdeal.nD,
      m' ((c.tc : Thread Cert.TailBwdRefIdeal.nD Cert.TailBwdRefIdeal.τ).loc Cert.TailBwdRefIdeal.main_arg0) = m ((c.tc : Thread Cert.TailBwdIdeal.nD Cert.TailBwdIdeal.τ).loc Cert.TailBwdIdeal.main_arg0)
      ∧ m' ((c.tc : Thread Cert.TailBwdRefIdeal.nD Cert.TailBwdRefIdeal.τ).loc Cert.TailBwdRefIdeal.main_arg1) = m ((c.tc : Thread Cert.TailBwdIdeal.nD Cert.TailBwdIdeal.τ).loc Cert.TailBwdIdeal.main_arg1)
      ∧ m' ((c.tc : Thread Cert.TailBwdRefIdeal.nD Cert.TailBwdRefIdeal.τ).loc Cert.TailBwdRefIdeal.main_arg2) = m ((c.tc : Thread Cert.TailBwdIdeal.nD Cert.TailBwdIdeal.τ).loc Cert.TailBwdIdeal.main_arg2)
      ∧ m' ((c.tc : Thread Cert.TailBwdRefIdeal.nD Cert.TailBwdRefIdeal.τ).loc Cert.TailBwdRefIdeal.main_arg3) = m ((c.tc : Thread Cert.TailBwdIdeal.nD Cert.TailBwdIdeal.τ).loc Cert.TailBwdIdeal.main_arg3)
      ∧ m' ((c.tc : Thread Cert.TailBwdRefIdeal.nD Cert.TailBwdRefIdeal.τ).loc Cert.TailBwdRefIdeal.main_arg4) = m ((c.tc : Thread Cert.TailBwdIdeal.nD Cert.TailBwdIdeal.τ).loc Cert.TailBwdIdeal.main_arg4)
      ∧ m' ((c.tc : Thread Cert.TailBwdRefIdeal.nD Cert.TailBwdRefIdeal.τ).loc Cert.TailBwdRefIdeal.main_arg5) = m ((c.tc : Thread Cert.TailBwdIdeal.nD Cert.TailBwdIdeal.τ).loc Cert.TailBwdIdeal.main_arg5)
      ∧ m' ((c.tc : Thread Cert.TailBwdRefIdeal.nD Cert.TailBwdRefIdeal.τ).loc Cert.TailBwdRefIdeal.main_arg6) = m ((c.tc : Thread Cert.TailBwdIdeal.nD Cert.TailBwdIdeal.τ).loc Cert.TailBwdIdeal.main_arg6)
      ∧ m' ((c.tc : Thread Cert.TailBwdRefIdeal.nD Cert.TailBwdRefIdeal.τ).loc Cert.TailBwdRefIdeal.main_arg7) = m ((c.tc : Thread Cert.TailBwdIdeal.nD Cert.TailBwdIdeal.τ).loc Cert.TailBwdIdeal.main_arg7)
      ∧ m' ((c.tc : Thread Cert.TailBwdRefIdeal.nD Cert.TailBwdRefIdeal.τ).loc Cert.TailBwdRefIdeal.main_arg8) = m ((c.tc : Thread Cert.TailBwdIdeal.nD Cert.TailBwdIdeal.τ).loc Cert.TailBwdIdeal.main_arg8)) →
    ∃ (v0 : (c : Dev Cert.TailBwdIdeal.nD) → Buf (Elt Ideal) ((c.tc : Thread Cert.TailBwdIdeal.nD Cert.TailBwdIdeal.τ).loc Cert.TailBwdIdeal.main_v0_0)) (v1 : (c : Dev Cert.TailBwdIdeal.nD) → Buf (Elt Ideal) ((c.tc : Thread Cert.TailBwdIdeal.nD Cert.TailBwdIdeal.τ).loc Cert.TailBwdIdeal.main_v0_1)) (v2 : (c : Dev Cert.TailBwdIdeal.nD) → Buf (Elt Ideal) ((c.tc : Thread Cert.TailBwdIdeal.nD Cert.TailBwdIdeal.τ).loc Cert.TailBwdIdeal.main_v0_2)) (v3 : (c : Dev Cert.TailBwdIdeal.nD) → Buf (Elt Ideal) ((c.tc : Thread Cert.TailBwdIdeal.nD Cert.TailBwdIdeal.τ).loc Cert.TailBwdIdeal.main_v0_3)) (v4 : (c : Dev Cert.TailBwdIdeal.nD) → Buf (Elt Ideal) ((c.tc : Thread Cert.TailBwdIdeal.nD Cert.TailBwdIdeal.τ).loc Cert.TailBwdIdeal.main_v0_4)) (v5 : (c : Dev Cert.TailBwdIdeal.nD) → Buf (Elt Ideal) ((c.tc : Thread Cert.TailBwdIdeal.nD Cert.TailBwdIdeal.τ).loc Cert.TailBwdIdeal.main_v0_5)) (v6 : (c : Dev Cert.TailBwdIdeal.nD) → Buf (Elt Ideal) ((c.tc : Thread Cert.TailBwdIdeal.nD Cert.TailBwdIdeal.τ).loc Cert.TailBwdIdeal.main_v0_6)),
      θ_run (Cert.TailBwdIdeal.defs (F := Ideal)) (onTc (τ := Cert.TailBwdIdeal.τ) (Cert.TailBwdIdeal.main (F := Ideal))) ⟨m, fun _ => 0, g⟩ (fun r => ∀ c : Dev Cert.TailBwdIdeal.nD,
          r.2.mem ((c.tc : Thread Cert.TailBwdIdeal.nD Cert.TailBwdIdeal.τ).loc Cert.TailBwdIdeal.main_v0_0) = v0 c
          ∧ r.2.mem ((c.tc : Thread Cert.TailBwdIdeal.nD Cert.TailBwdIdeal.τ).loc Cert.TailBwdIdeal.main_v0_1) = v1 c
          ∧ r.2.mem ((c.tc : Thread Cert.TailBwdIdeal.nD Cert.TailBwdIdeal.τ).loc Cert.TailBwdIdeal.main_v0_2) = v2 c
          ∧ r.2.mem ((c.tc : Thread Cert.TailBwdIdeal.nD Cert.TailBwdIdeal.τ).loc Cert.TailBwdIdeal.main_v0_3) = v3 c
          ∧ r.2.mem ((c.tc : Thread Cert.TailBwdIdeal.nD Cert.TailBwdIdeal.τ).loc Cert.TailBwdIdeal.main_v0_4) = v4 c
          ∧ r.2.mem ((c.tc : Thread Cert.TailBwdIdeal.nD Cert.TailBwdIdeal.τ).loc Cert.TailBwdIdeal.main_v0_5) = v5 c
          ∧ r.2.mem ((c.tc : Thread Cert.TailBwdIdeal.nD Cert.TailBwdIdeal.τ).loc Cert.TailBwdIdeal.main_v0_6) = v6 c
          ∧ r.2.mem ((c.tc : Thread Cert.TailBwdIdeal.nD Cert.TailBwdIdeal.τ).loc Cert.TailBwdIdeal.main_arg0) = m ((c.tc : Thread Cert.TailBwdIdeal.nD Cert.TailBwdIdeal.τ).loc Cert.TailBwdIdeal.main_arg0)
          ∧ r.2.mem ((c.tc : Thread Cert.TailBwdIdeal.nD Cert.TailBwdIdeal.τ).loc Cert.TailBwdIdeal.main_arg1) = m ((c.tc : Thread Cert.TailBwdIdeal.nD Cert.TailBwdIdeal.τ).loc Cert.TailBwdIdeal.main_arg1)
          ∧ r.2.mem ((c.tc : Thread Cert.TailBwdIdeal.nD Cert.TailBwdIdeal.τ).loc Cert.TailBwdIdeal.main_arg2) = m ((c.tc : Thread Cert.TailBwdIdeal.nD Cert.TailBwdIdeal.τ).loc Cert.TailBwdIdeal.main_arg2)
          ∧ r.2.mem ((c.tc : Thread Cert.TailBwdIdeal.nD Cert.TailBwdIdeal.τ).loc Cert.TailBwdIdeal.main_arg3) = m ((c.tc : Thread Cert.TailBwdIdeal.nD Cert.TailBwdIdeal.τ).loc Cert.TailBwdIdeal.main_arg3)
          ∧ r.2.mem ((c.tc : Thread Cert.TailBwdIdeal.nD Cert.TailBwdIdeal.τ).loc Cert.TailBwdIdeal.main_arg4) = m ((c.tc : Thread Cert.TailBwdIdeal.nD Cert.TailBwdIdeal.τ).loc Cert.TailBwdIdeal.main_arg4)
          ∧ r.2.mem ((c.tc : Thread Cert.TailBwdIdeal.nD Cert.TailBwdIdeal.τ).loc Cert.TailBwdIdeal.main_arg5) = m ((c.tc : Thread Cert.TailBwdIdeal.nD Cert.TailBwdIdeal.τ).loc Cert.TailBwdIdeal.main_arg5)
          ∧ r.2.mem ((c.tc : Thread Cert.TailBwdIdeal.nD Cert.TailBwdIdeal.τ).loc Cert.TailBwdIdeal.main_arg6) = m ((c.tc : Thread Cert.TailBwdIdeal.nD Cert.TailBwdIdeal.τ).loc Cert.TailBwdIdeal.main_arg6)
          ∧ r.2.mem ((c.tc : Thread Cert.TailBwdIdeal.nD Cert.TailBwdIdeal.τ).loc Cert.TailBwdIdeal.main_arg7) = m ((c.tc : Thread Cert.TailBwdIdeal.nD Cert.TailBwdIdeal.τ).loc Cert.TailBwdIdeal.main_arg7)
          ∧ r.2.mem ((c.tc : Thread Cert.TailBwdIdeal.nD Cert.TailBwdIdeal.τ).loc Cert.TailBwdIdeal.main_arg8) = m ((c.tc : Thread Cert.TailBwdIdeal.nD Cert.TailBwdIdeal.τ).loc Cert.TailBwdIdeal.main_arg8))
      ∧ θ_run (Cert.TailBwdRefIdeal.defs (F := Ideal)) (onTc (τ := Cert.TailBwdRefIdeal.τ) (Cert.TailBwdRefIdeal.main (F := Ideal))) ⟨m', fun _ => 0, g'⟩ (fun r => ∀ c : Dev Cert.TailBwdRefIdeal.nD,
          r.2.mem ((c.tc : Thread Cert.TailBwdRefIdeal.nD Cert.TailBwdRefIdeal.τ).loc Cert.TailBwdRefIdeal.main_v57) = v0 c
          ∧ r.2.mem ((c.tc : Thread Cert.TailBwdRefIdeal.nD Cert.TailBwdRefIdeal.τ).loc Cert.TailBwdRefIdeal.main_v58) = v1 c
          ∧ r.2.mem ((c.tc : Thread Cert.TailBwdRefIdeal.nD Cert.TailBwdRefIdeal.τ).loc Cert.TailBwdRefIdeal.main_v59) = v2 c
          ∧ r.2.mem ((c.tc : Thread Cert.TailBwdRefIdeal.nD Cert.TailBwdRefIdeal.τ).loc Cert.TailBwdRefIdeal.main_v60) = v3 c
          ∧ r.2.mem ((c.tc : Thread Cert.TailBwdRefIdeal.nD Cert.TailBwdRefIdeal.τ).loc Cert.TailBwdRefIdeal.main_v61) = v4 c
          ∧ r.2.mem ((c.tc : Thread Cert.TailBwdRefIdeal.nD Cert.TailBwdRefIdeal.τ).loc Cert.TailBwdRefIdeal.main_v62) = v5 c
          ∧ r.2.mem ((c.tc : Thread Cert.TailBwdRefIdeal.nD Cert.TailBwdRefIdeal.τ).loc Cert.TailBwdRefIdeal.main_v63) = v6 c
          ∧ r.2.mem ((c.tc : Thread Cert.TailBwdRefIdeal.nD Cert.TailBwdRefIdeal.τ).loc Cert.TailBwdRefIdeal.main_arg0) = m' ((c.tc : Thread Cert.TailBwdRefIdeal.nD Cert.TailBwdRefIdeal.τ).loc Cert.TailBwdRefIdeal.main_arg0)
          ∧ r.2.mem ((c.tc : Thread Cert.TailBwdRefIdeal.nD Cert.TailBwdRefIdeal.τ).loc Cert.TailBwdRefIdeal.main_arg1) = m' ((c.tc : Thread Cert.TailBwdRefIdeal.nD Cert.TailBwdRefIdeal.τ).loc Cert.TailBwdRefIdeal.main_arg1)
          ∧ r.2.mem ((c.tc : Thread Cert.TailBwdRefIdeal.nD Cert.TailBwdRefIdeal.τ).loc Cert.TailBwdRefIdeal.main_arg2) = m' ((c.tc : Thread Cert.TailBwdRefIdeal.nD Cert.TailBwdRefIdeal.τ).loc Cert.TailBwdRefIdeal.main_arg2)
          ∧ r.2.mem ((c.tc : Thread Cert.TailBwdRefIdeal.nD Cert.TailBwdRefIdeal.τ).loc Cert.TailBwdRefIdeal.main_arg3) = m' ((c.tc : Thread Cert.TailBwdRefIdeal.nD Cert.TailBwdRefIdeal.τ).loc Cert.TailBwdRefIdeal.main_arg3)
          ∧ r.2.mem ((c.tc : Thread Cert.TailBwdRefIdeal.nD Cert.TailBwdRefIdeal.τ).loc Cert.TailBwdRefIdeal.main_arg4) = m' ((c.tc : Thread Cert.TailBwdRefIdeal.nD Cert.TailBwdRefIdeal.τ).loc Cert.TailBwdRefIdeal.main_arg4)
          ∧ r.2.mem ((c.tc : Thread Cert.TailBwdRefIdeal.nD Cert.TailBwdRefIdeal.τ).loc Cert.TailBwdRefIdeal.main_arg5) = m' ((c.tc : Thread Cert.TailBwdRefIdeal.nD Cert.TailBwdRefIdeal.τ).loc Cert.TailBwdRefIdeal.main_arg5)
          ∧ r.2.mem ((c.tc : Thread Cert.TailBwdRefIdeal.nD Cert.TailBwdRefIdeal.τ).loc Cert.TailBwdRefIdeal.main_arg6) = m' ((c.tc : Thread Cert.TailBwdRefIdeal.nD Cert.TailBwdRefIdeal.τ).loc Cert.TailBwdRefIdeal.main_arg6)
          ∧ r.2.mem ((c.tc : Thread Cert.TailBwdRefIdeal.nD Cert.TailBwdRefIdeal.τ).loc Cert.TailBwdRefIdeal.main_arg7) = m' ((c.tc : Thread Cert.TailBwdRefIdeal.nD Cert.TailBwdRefIdeal.τ).loc Cert.TailBwdRefIdeal.main_arg7)
          ∧ r.2.mem ((c.tc : Thread Cert.TailBwdRefIdeal.nD Cert.TailBwdRefIdeal.τ).loc Cert.TailBwdRefIdeal.main_arg8) = m' ((c.tc : Thread Cert.TailBwdRefIdeal.nD Cert.TailBwdRefIdeal.τ).loc Cert.TailBwdRefIdeal.main_arg8))

def preserves_MixDx_MixDxIdeal : Prop :=
  True

def algebraic_MixDxIdeal_MixDxRefIdeal [hMixDxIdeal : Cert.MixDxIdeal.Facts] [hMixDxRefIdeal : Cert.MixDxRefIdeal.Facts] : Prop :=
  ∀ (m : (ℓ : Loc Cert.MixDxIdeal.nD Cert.MixDxIdeal.τ Cert.MixDxIdeal.sig) → Buf (Elt Ideal) ℓ) (g : Dev Cert.MixDxIdeal.nD → PrngReg)
    (m' : (ℓ : Loc Cert.MixDxRefIdeal.nD Cert.MixDxRefIdeal.τ Cert.MixDxRefIdeal.sig) → Buf (Elt Ideal) ℓ) (g' : Dev Cert.MixDxRefIdeal.nD → PrngReg), Pre_MixDxIdeal m →
    (∀ c : Dev Cert.MixDxIdeal.nD,
      m' ((c.tc : Thread Cert.MixDxRefIdeal.nD Cert.MixDxRefIdeal.τ).loc Cert.MixDxRefIdeal.main_arg0) = m ((c.tc : Thread Cert.MixDxIdeal.nD Cert.MixDxIdeal.τ).loc Cert.MixDxIdeal.main_arg0)
      ∧ m' ((c.tc : Thread Cert.MixDxRefIdeal.nD Cert.MixDxRefIdeal.τ).loc Cert.MixDxRefIdeal.main_arg1) = m ((c.tc : Thread Cert.MixDxIdeal.nD Cert.MixDxIdeal.τ).loc Cert.MixDxIdeal.main_arg1)
      ∧ m' ((c.tc : Thread Cert.MixDxRefIdeal.nD Cert.MixDxRefIdeal.τ).loc Cert.MixDxRefIdeal.main_arg2) = m ((c.tc : Thread Cert.MixDxIdeal.nD Cert.MixDxIdeal.τ).loc Cert.MixDxIdeal.main_arg2)
      ∧ m' ((c.tc : Thread Cert.MixDxRefIdeal.nD Cert.MixDxRefIdeal.τ).loc Cert.MixDxRefIdeal.main_arg3) = m ((c.tc : Thread Cert.MixDxIdeal.nD Cert.MixDxIdeal.τ).loc Cert.MixDxIdeal.main_arg3)
      ∧ m' ((c.tc : Thread Cert.MixDxRefIdeal.nD Cert.MixDxRefIdeal.τ).loc Cert.MixDxRefIdeal.main_arg4) = m ((c.tc : Thread Cert.MixDxIdeal.nD Cert.MixDxIdeal.τ).loc Cert.MixDxIdeal.main_arg4)
      ∧ m' ((c.tc : Thread Cert.MixDxRefIdeal.nD Cert.MixDxRefIdeal.τ).loc Cert.MixDxRefIdeal.main_arg5) = m ((c.tc : Thread Cert.MixDxIdeal.nD Cert.MixDxIdeal.τ).loc Cert.MixDxIdeal.main_arg5)
      ∧ m' ((c.tc : Thread Cert.MixDxRefIdeal.nD Cert.MixDxRefIdeal.τ).loc Cert.MixDxRefIdeal.main_arg6) = m ((c.tc : Thread Cert.MixDxIdeal.nD Cert.MixDxIdeal.τ).loc Cert.MixDxIdeal.main_arg6)
      ∧ m' ((c.tc : Thread Cert.MixDxRefIdeal.nD Cert.MixDxRefIdeal.τ).loc Cert.MixDxRefIdeal.main_arg7) = m ((c.tc : Thread Cert.MixDxIdeal.nD Cert.MixDxIdeal.τ).loc Cert.MixDxIdeal.main_arg7)
      ∧ m' ((c.tc : Thread Cert.MixDxRefIdeal.nD Cert.MixDxRefIdeal.τ).loc Cert.MixDxRefIdeal.main_arg8) = m ((c.tc : Thread Cert.MixDxIdeal.nD Cert.MixDxIdeal.τ).loc Cert.MixDxIdeal.main_arg8)
      ∧ m' ((c.tc : Thread Cert.MixDxRefIdeal.nD Cert.MixDxRefIdeal.τ).loc Cert.MixDxRefIdeal.main_arg9) = m ((c.tc : Thread Cert.MixDxIdeal.nD Cert.MixDxIdeal.τ).loc Cert.MixDxIdeal.main_arg9)
      ∧ m' ((c.tc : Thread Cert.MixDxRefIdeal.nD Cert.MixDxRefIdeal.τ).loc Cert.MixDxRefIdeal.main_arg10) = m ((c.tc : Thread Cert.MixDxIdeal.nD Cert.MixDxIdeal.τ).loc Cert.MixDxIdeal.main_arg10)
      ∧ m' ((c.tc : Thread Cert.MixDxRefIdeal.nD Cert.MixDxRefIdeal.τ).loc Cert.MixDxRefIdeal.main_arg11) = m ((c.tc : Thread Cert.MixDxIdeal.nD Cert.MixDxIdeal.τ).loc Cert.MixDxIdeal.main_arg11)
      ∧ m' ((c.tc : Thread Cert.MixDxRefIdeal.nD Cert.MixDxRefIdeal.τ).loc Cert.MixDxRefIdeal.main_arg12) = m ((c.tc : Thread Cert.MixDxIdeal.nD Cert.MixDxIdeal.τ).loc Cert.MixDxIdeal.main_arg12)) →
    ∃ (v0 : (c : Dev Cert.MixDxIdeal.nD) → Buf (Elt Ideal) ((c.tc : Thread Cert.MixDxIdeal.nD Cert.MixDxIdeal.τ).loc Cert.MixDxIdeal.main_v0_0)) (v1 : (c : Dev Cert.MixDxIdeal.nD) → Buf (Elt Ideal) ((c.tc : Thread Cert.MixDxIdeal.nD Cert.MixDxIdeal.τ).loc Cert.MixDxIdeal.main_v0_1)) (v2 : (c : Dev Cert.MixDxIdeal.nD) → Buf (Elt Ideal) ((c.tc : Thread Cert.MixDxIdeal.nD Cert.MixDxIdeal.τ).loc Cert.MixDxIdeal.main_v0_2)) (v3 : (c : Dev Cert.MixDxIdeal.nD) → Buf (Elt Ideal) ((c.tc : Thread Cert.MixDxIdeal.nD Cert.MixDxIdeal.τ).loc Cert.MixDxIdeal.main_v0_3)),
      θ_run (Cert.MixDxIdeal.defs (F := Ideal)) (onTc (τ := Cert.MixDxIdeal.τ) (Cert.MixDxIdeal.main (F := Ideal))) ⟨m, fun _ => 0, g⟩ (fun r => ∀ c : Dev Cert.MixDxIdeal.nD,
          r.2.mem ((c.tc : Thread Cert.MixDxIdeal.nD Cert.MixDxIdeal.τ).loc Cert.MixDxIdeal.main_v0_0) = v0 c
          ∧ r.2.mem ((c.tc : Thread Cert.MixDxIdeal.nD Cert.MixDxIdeal.τ).loc Cert.MixDxIdeal.main_v0_1) = v1 c
          ∧ r.2.mem ((c.tc : Thread Cert.MixDxIdeal.nD Cert.MixDxIdeal.τ).loc Cert.MixDxIdeal.main_v0_2) = v2 c
          ∧ r.2.mem ((c.tc : Thread Cert.MixDxIdeal.nD Cert.MixDxIdeal.τ).loc Cert.MixDxIdeal.main_v0_3) = v3 c
          ∧ r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
          ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1)
          ∧ r.2.mem ((c.tc : Thread Cert.MixDxIdeal.nD Cert.MixDxIdeal.τ).loc Cert.MixDxIdeal.main_arg2) = m ((c.tc : Thread Cert.MixDxIdeal.nD Cert.MixDxIdeal.τ).loc Cert.MixDxIdeal.main_arg2)
          ∧ r.2.mem ((c.tc : Thread Cert.MixDxIdeal.nD Cert.MixDxIdeal.τ).loc Cert.MixDxIdeal.main_arg3) = m ((c.tc : Thread Cert.MixDxIdeal.nD Cert.MixDxIdeal.τ).loc Cert.MixDxIdeal.main_arg3)
          ∧ r.2.mem ((c.tc : Thread Cert.MixDxIdeal.nD Cert.MixDxIdeal.τ).loc Cert.MixDxIdeal.main_arg4) = m ((c.tc : Thread Cert.MixDxIdeal.nD Cert.MixDxIdeal.τ).loc Cert.MixDxIdeal.main_arg4)
          ∧ r.2.mem ((c.tc : Thread Cert.MixDxIdeal.nD Cert.MixDxIdeal.τ).loc Cert.MixDxIdeal.main_arg5) = m ((c.tc : Thread Cert.MixDxIdeal.nD Cert.MixDxIdeal.τ).loc Cert.MixDxIdeal.main_arg5)
          ∧ r.2.mem ((c.tc : Thread Cert.MixDxIdeal.nD Cert.MixDxIdeal.τ).loc Cert.MixDxIdeal.main_arg6) = m ((c.tc : Thread Cert.MixDxIdeal.nD Cert.MixDxIdeal.τ).loc Cert.MixDxIdeal.main_arg6)
          ∧ r.2.mem ((c.tc : Thread Cert.MixDxIdeal.nD Cert.MixDxIdeal.τ).loc Cert.MixDxIdeal.main_arg7) = m ((c.tc : Thread Cert.MixDxIdeal.nD Cert.MixDxIdeal.τ).loc Cert.MixDxIdeal.main_arg7)
          ∧ r.2.mem ((c.tc : Thread Cert.MixDxIdeal.nD Cert.MixDxIdeal.τ).loc Cert.MixDxIdeal.main_arg8) = m ((c.tc : Thread Cert.MixDxIdeal.nD Cert.MixDxIdeal.τ).loc Cert.MixDxIdeal.main_arg8)
          ∧ r.2.mem ((c.tc : Thread Cert.MixDxIdeal.nD Cert.MixDxIdeal.τ).loc Cert.MixDxIdeal.main_arg9) = m ((c.tc : Thread Cert.MixDxIdeal.nD Cert.MixDxIdeal.τ).loc Cert.MixDxIdeal.main_arg9)
          ∧ r.2.mem ((c.tc : Thread Cert.MixDxIdeal.nD Cert.MixDxIdeal.τ).loc Cert.MixDxIdeal.main_arg10) = m ((c.tc : Thread Cert.MixDxIdeal.nD Cert.MixDxIdeal.τ).loc Cert.MixDxIdeal.main_arg10)
          ∧ r.2.mem ((c.tc : Thread Cert.MixDxIdeal.nD Cert.MixDxIdeal.τ).loc Cert.MixDxIdeal.main_arg11) = m ((c.tc : Thread Cert.MixDxIdeal.nD Cert.MixDxIdeal.τ).loc Cert.MixDxIdeal.main_arg11)
          ∧ r.2.mem ((c.tc : Thread Cert.MixDxIdeal.nD Cert.MixDxIdeal.τ).loc Cert.MixDxIdeal.main_arg12) = m ((c.tc : Thread Cert.MixDxIdeal.nD Cert.MixDxIdeal.τ).loc Cert.MixDxIdeal.main_arg12))
      ∧ θ_run (Cert.MixDxRefIdeal.defs (F := Ideal)) (onTc (τ := Cert.MixDxRefIdeal.τ) (Cert.MixDxRefIdeal.main (F := Ideal))) ⟨m', fun _ => 0, g'⟩ (fun r => ∀ c : Dev Cert.MixDxRefIdeal.nD,
          r.2.mem ((c.tc : Thread Cert.MixDxRefIdeal.nD Cert.MixDxRefIdeal.τ).loc Cert.MixDxRefIdeal.main_v57) = v0 c
          ∧ r.2.mem ((c.tc : Thread Cert.MixDxRefIdeal.nD Cert.MixDxRefIdeal.τ).loc Cert.MixDxRefIdeal.main_v40) = v1 c
          ∧ r.2.mem ((c.tc : Thread Cert.MixDxRefIdeal.nD Cert.MixDxRefIdeal.τ).loc Cert.MixDxRefIdeal.main_v96) = v2 c
          ∧ r.2.mem ((c.tc : Thread Cert.MixDxRefIdeal.nD Cert.MixDxRefIdeal.τ).loc Cert.MixDxRefIdeal.main_v79) = v3 c
          ∧ r.2.mem ((c.tc : Thread Cert.MixDxRefIdeal.nD Cert.MixDxRefIdeal.τ).loc Cert.MixDxRefIdeal.main_arg0) = m' ((c.tc : Thread Cert.MixDxRefIdeal.nD Cert.MixDxRefIdeal.τ).loc Cert.MixDxRefIdeal.main_arg0)
          ∧ r.2.mem ((c.tc : Thread Cert.MixDxRefIdeal.nD Cert.MixDxRefIdeal.τ).loc Cert.MixDxRefIdeal.main_arg1) = m' ((c.tc : Thread Cert.MixDxRefIdeal.nD Cert.MixDxRefIdeal.τ).loc Cert.MixDxRefIdeal.main_arg1)
          ∧ r.2.mem ((c.tc : Thread Cert.MixDxRefIdeal.nD Cert.MixDxRefIdeal.τ).loc Cert.MixDxRefIdeal.main_arg2) = m' ((c.tc : Thread Cert.MixDxRefIdeal.nD Cert.MixDxRefIdeal.τ).loc Cert.MixDxRefIdeal.main_arg2)
          ∧ r.2.mem ((c.tc : Thread Cert.MixDxRefIdeal.nD Cert.MixDxRefIdeal.τ).loc Cert.MixDxRefIdeal.main_arg3) = m' ((c.tc : Thread Cert.MixDxRefIdeal.nD Cert.MixDxRefIdeal.τ).loc Cert.MixDxRefIdeal.main_arg3)
          ∧ r.2.mem ((c.tc : Thread Cert.MixDxRefIdeal.nD Cert.MixDxRefIdeal.τ).loc Cert.MixDxRefIdeal.main_arg4) = m' ((c.tc : Thread Cert.MixDxRefIdeal.nD Cert.MixDxRefIdeal.τ).loc Cert.MixDxRefIdeal.main_arg4)
          ∧ r.2.mem ((c.tc : Thread Cert.MixDxRefIdeal.nD Cert.MixDxRefIdeal.τ).loc Cert.MixDxRefIdeal.main_arg5) = m' ((c.tc : Thread Cert.MixDxRefIdeal.nD Cert.MixDxRefIdeal.τ).loc Cert.MixDxRefIdeal.main_arg5)
          ∧ r.2.mem ((c.tc : Thread Cert.MixDxRefIdeal.nD Cert.MixDxRefIdeal.τ).loc Cert.MixDxRefIdeal.main_arg6) = m' ((c.tc : Thread Cert.MixDxRefIdeal.nD Cert.MixDxRefIdeal.τ).loc Cert.MixDxRefIdeal.main_arg6)
          ∧ r.2.mem ((c.tc : Thread Cert.MixDxRefIdeal.nD Cert.MixDxRefIdeal.τ).loc Cert.MixDxRefIdeal.main_arg7) = m' ((c.tc : Thread Cert.MixDxRefIdeal.nD Cert.MixDxRefIdeal.τ).loc Cert.MixDxRefIdeal.main_arg7)
          ∧ r.2.mem ((c.tc : Thread Cert.MixDxRefIdeal.nD Cert.MixDxRefIdeal.τ).loc Cert.MixDxRefIdeal.main_arg8) = m' ((c.tc : Thread Cert.MixDxRefIdeal.nD Cert.MixDxRefIdeal.τ).loc Cert.MixDxRefIdeal.main_arg8)
          ∧ r.2.mem ((c.tc : Thread Cert.MixDxRefIdeal.nD Cert.MixDxRefIdeal.τ).loc Cert.MixDxRefIdeal.main_arg9) = m' ((c.tc : Thread Cert.MixDxRefIdeal.nD Cert.MixDxRefIdeal.τ).loc Cert.MixDxRefIdeal.main_arg9)
          ∧ r.2.mem ((c.tc : Thread Cert.MixDxRefIdeal.nD Cert.MixDxRefIdeal.τ).loc Cert.MixDxRefIdeal.main_arg10) = m' ((c.tc : Thread Cert.MixDxRefIdeal.nD Cert.MixDxRefIdeal.τ).loc Cert.MixDxRefIdeal.main_arg10)
          ∧ r.2.mem ((c.tc : Thread Cert.MixDxRefIdeal.nD Cert.MixDxRefIdeal.τ).loc Cert.MixDxRefIdeal.main_arg11) = m' ((c.tc : Thread Cert.MixDxRefIdeal.nD Cert.MixDxRefIdeal.τ).loc Cert.MixDxRefIdeal.main_arg11)
          ∧ r.2.mem ((c.tc : Thread Cert.MixDxRefIdeal.nD Cert.MixDxRefIdeal.τ).loc Cert.MixDxRefIdeal.main_arg12) = m' ((c.tc : Thread Cert.MixDxRefIdeal.nD Cert.MixDxRefIdeal.τ).loc Cert.MixDxRefIdeal.main_arg12))

def preserves_GlaDw_GlaDwIdeal : Prop :=
  True

def algebraic_GlaDwIdeal_GlaDwRefIdeal [hGlaDwIdeal : Cert.GlaDwIdeal.Facts] [hGlaDwRefIdeal : Cert.GlaDwRefIdeal.Facts] : Prop :=
  ∀ (m : (ℓ : Loc Cert.GlaDwIdeal.nD Cert.GlaDwIdeal.τ Cert.GlaDwIdeal.sig) → Buf (Elt Ideal) ℓ) (g : Dev Cert.GlaDwIdeal.nD → PrngReg)
    (m' : (ℓ : Loc Cert.GlaDwRefIdeal.nD Cert.GlaDwRefIdeal.τ Cert.GlaDwRefIdeal.sig) → Buf (Elt Ideal) ℓ) (g' : Dev Cert.GlaDwRefIdeal.nD → PrngReg), Pre_GlaDwIdeal m →
    (∀ c : Dev Cert.GlaDwIdeal.nD,
      m' ((c.tc : Thread Cert.GlaDwRefIdeal.nD Cert.GlaDwRefIdeal.τ).loc Cert.GlaDwRefIdeal.main_arg0) = m ((c.tc : Thread Cert.GlaDwIdeal.nD Cert.GlaDwIdeal.τ).loc Cert.GlaDwIdeal.main_arg0)
      ∧ m' ((c.tc : Thread Cert.GlaDwRefIdeal.nD Cert.GlaDwRefIdeal.τ).loc Cert.GlaDwRefIdeal.main_arg1) = m ((c.tc : Thread Cert.GlaDwIdeal.nD Cert.GlaDwIdeal.τ).loc Cert.GlaDwIdeal.main_arg1)) →
    ∃ (v0 : (c : Dev Cert.GlaDwIdeal.nD) → Buf (Elt Ideal) ((c.tc : Thread Cert.GlaDwIdeal.nD Cert.GlaDwIdeal.τ).loc Cert.GlaDwIdeal.main_v0)),
      θ_run (Cert.GlaDwIdeal.defs (F := Ideal)) (onTc (τ := Cert.GlaDwIdeal.τ) (Cert.GlaDwIdeal.main (F := Ideal))) ⟨m, fun _ => 0, g⟩ (fun r => ∀ c : Dev Cert.GlaDwIdeal.nD,
          r.2.mem ((c.tc : Thread Cert.GlaDwIdeal.nD Cert.GlaDwIdeal.τ).loc Cert.GlaDwIdeal.main_v0) = v0 c
          ∧ r.2.mem ((c.tc : Thread Cert.GlaDwIdeal.nD Cert.GlaDwIdeal.τ).loc Cert.GlaDwIdeal.main_arg0) = m ((c.tc : Thread Cert.GlaDwIdeal.nD Cert.GlaDwIdeal.τ).loc Cert.GlaDwIdeal.main_arg0)
          ∧ r.2.mem ((c.tc : Thread Cert.GlaDwIdeal.nD Cert.GlaDwIdeal.τ).loc Cert.GlaDwIdeal.main_arg1) = m ((c.tc : Thread Cert.GlaDwIdeal.nD Cert.GlaDwIdeal.τ).loc Cert.GlaDwIdeal.main_arg1))
      ∧ θ_run (Cert.GlaDwRefIdeal.defs (F := Ideal)) (onTc (τ := Cert.GlaDwRefIdeal.τ) (Cert.GlaDwRefIdeal.main (F := Ideal))) ⟨m', fun _ => 0, g'⟩ (fun r => ∀ c : Dev Cert.GlaDwRefIdeal.nD,
          r.2.mem ((c.tc : Thread Cert.GlaDwRefIdeal.nD Cert.GlaDwRefIdeal.τ).loc Cert.GlaDwRefIdeal.main_v7) = v0 c
          ∧ r.2.mem ((c.tc : Thread Cert.GlaDwRefIdeal.nD Cert.GlaDwRefIdeal.τ).loc Cert.GlaDwRefIdeal.main_arg0) = m' ((c.tc : Thread Cert.GlaDwRefIdeal.nD Cert.GlaDwRefIdeal.τ).loc Cert.GlaDwRefIdeal.main_arg0)
          ∧ r.2.mem ((c.tc : Thread Cert.GlaDwRefIdeal.nD Cert.GlaDwRefIdeal.τ).loc Cert.GlaDwRefIdeal.main_arg1) = m' ((c.tc : Thread Cert.GlaDwRefIdeal.nD Cert.GlaDwRefIdeal.τ).loc Cert.GlaDwRefIdeal.main_arg1))

def preserves_PxDw_PxDwIdeal : Prop :=
  True

def algebraic_PxDwIdeal_PxDwRefIdeal [hPxDwIdeal : Cert.PxDwIdeal.Facts] [hPxDwRefIdeal : Cert.PxDwRefIdeal.Facts] : Prop :=
  ∀ (m : (ℓ : Loc Cert.PxDwIdeal.nD Cert.PxDwIdeal.τ Cert.PxDwIdeal.sig) → Buf (Elt Ideal) ℓ) (g : Dev Cert.PxDwIdeal.nD → PrngReg)
    (m' : (ℓ : Loc Cert.PxDwRefIdeal.nD Cert.PxDwRefIdeal.τ Cert.PxDwRefIdeal.sig) → Buf (Elt Ideal) ℓ) (g' : Dev Cert.PxDwRefIdeal.nD → PrngReg), Pre_PxDwIdeal m →
    (∀ c : Dev Cert.PxDwIdeal.nD,
      m' ((c.tc : Thread Cert.PxDwRefIdeal.nD Cert.PxDwRefIdeal.τ).loc Cert.PxDwRefIdeal.main_arg0) = m ((c.tc : Thread Cert.PxDwIdeal.nD Cert.PxDwIdeal.τ).loc Cert.PxDwIdeal.main_arg0)
      ∧ m' ((c.tc : Thread Cert.PxDwRefIdeal.nD Cert.PxDwRefIdeal.τ).loc Cert.PxDwRefIdeal.main_arg1) = m ((c.tc : Thread Cert.PxDwIdeal.nD Cert.PxDwIdeal.τ).loc Cert.PxDwIdeal.main_arg1)) →
    ∃ (v0 : (c : Dev Cert.PxDwIdeal.nD) → Buf (Elt Ideal) ((c.tc : Thread Cert.PxDwIdeal.nD Cert.PxDwIdeal.τ).loc Cert.PxDwIdeal.main_v0)),
      θ_run (Cert.PxDwIdeal.defs (F := Ideal)) (onTc (τ := Cert.PxDwIdeal.τ) (Cert.PxDwIdeal.main (F := Ideal))) ⟨m, fun _ => 0, g⟩ (fun r => ∀ c : Dev Cert.PxDwIdeal.nD,
          r.2.mem ((c.tc : Thread Cert.PxDwIdeal.nD Cert.PxDwIdeal.τ).loc Cert.PxDwIdeal.main_v0) = v0 c
          ∧ r.2.mem ((c.tc : Thread Cert.PxDwIdeal.nD Cert.PxDwIdeal.τ).loc Cert.PxDwIdeal.main_arg0) = m ((c.tc : Thread Cert.PxDwIdeal.nD Cert.PxDwIdeal.τ).loc Cert.PxDwIdeal.main_arg0)
          ∧ r.2.mem ((c.tc : Thread Cert.PxDwIdeal.nD Cert.PxDwIdeal.τ).loc Cert.PxDwIdeal.main_arg1) = m ((c.tc : Thread Cert.PxDwIdeal.nD Cert.PxDwIdeal.τ).loc Cert.PxDwIdeal.main_arg1))
      ∧ θ_run (Cert.PxDwRefIdeal.defs (F := Ideal)) (onTc (τ := Cert.PxDwRefIdeal.τ) (Cert.PxDwRefIdeal.main (F := Ideal))) ⟨m', fun _ => 0, g'⟩ (fun r => ∀ c : Dev Cert.PxDwRefIdeal.nD,
          r.2.mem ((c.tc : Thread Cert.PxDwRefIdeal.nD Cert.PxDwRefIdeal.τ).loc Cert.PxDwRefIdeal.main_v7) = v0 c
          ∧ r.2.mem ((c.tc : Thread Cert.PxDwRefIdeal.nD Cert.PxDwRefIdeal.τ).loc Cert.PxDwRefIdeal.main_arg0) = m' ((c.tc : Thread Cert.PxDwRefIdeal.nD Cert.PxDwRefIdeal.τ).loc Cert.PxDwRefIdeal.main_arg0)
          ∧ r.2.mem ((c.tc : Thread Cert.PxDwRefIdeal.nD Cert.PxDwRefIdeal.τ).loc Cert.PxDwRefIdeal.main_arg1) = m' ((c.tc : Thread Cert.PxDwRefIdeal.nD Cert.PxDwRefIdeal.τ).loc Cert.PxDwRefIdeal.main_arg1))

def preserves_GatesDw_GatesDwIdeal : Prop :=
  True

def algebraic_GatesDwIdeal_GatesDwRefIdeal [hGatesDwIdeal : Cert.GatesDwIdeal.Facts] [hGatesDwRefIdeal : Cert.GatesDwRefIdeal.Facts] : Prop :=
  ∀ (m : (ℓ : Loc Cert.GatesDwIdeal.nD Cert.GatesDwIdeal.τ Cert.GatesDwIdeal.sig) → Buf (Elt Ideal) ℓ) (g : Dev Cert.GatesDwIdeal.nD → PrngReg)
    (m' : (ℓ : Loc Cert.GatesDwRefIdeal.nD Cert.GatesDwRefIdeal.τ Cert.GatesDwRefIdeal.sig) → Buf (Elt Ideal) ℓ) (g' : Dev Cert.GatesDwRefIdeal.nD → PrngReg), Pre_GatesDwIdeal m →
    (∀ c : Dev Cert.GatesDwIdeal.nD,
      m' ((c.tc : Thread Cert.GatesDwRefIdeal.nD Cert.GatesDwRefIdeal.τ).loc Cert.GatesDwRefIdeal.main_arg0) = m ((c.tc : Thread Cert.GatesDwIdeal.nD Cert.GatesDwIdeal.τ).loc Cert.GatesDwIdeal.main_arg0)
      ∧ m' ((c.tc : Thread Cert.GatesDwRefIdeal.nD Cert.GatesDwRefIdeal.τ).loc Cert.GatesDwRefIdeal.main_arg1) = m ((c.tc : Thread Cert.GatesDwIdeal.nD Cert.GatesDwIdeal.τ).loc Cert.GatesDwIdeal.main_arg1)) →
    ∃ (v0 : (c : Dev Cert.GatesDwIdeal.nD) → Buf (Elt Ideal) ((c.tc : Thread Cert.GatesDwIdeal.nD Cert.GatesDwIdeal.τ).loc Cert.GatesDwIdeal.main_v0)),
      θ_run (Cert.GatesDwIdeal.defs (F := Ideal)) (onTc (τ := Cert.GatesDwIdeal.τ) (Cert.GatesDwIdeal.main (F := Ideal))) ⟨m, fun _ => 0, g⟩ (fun r => ∀ c : Dev Cert.GatesDwIdeal.nD,
          r.2.mem ((c.tc : Thread Cert.GatesDwIdeal.nD Cert.GatesDwIdeal.τ).loc Cert.GatesDwIdeal.main_v0) = v0 c
          ∧ r.2.mem ((c.tc : Thread Cert.GatesDwIdeal.nD Cert.GatesDwIdeal.τ).loc Cert.GatesDwIdeal.main_arg0) = m ((c.tc : Thread Cert.GatesDwIdeal.nD Cert.GatesDwIdeal.τ).loc Cert.GatesDwIdeal.main_arg0)
          ∧ r.2.mem ((c.tc : Thread Cert.GatesDwIdeal.nD Cert.GatesDwIdeal.τ).loc Cert.GatesDwIdeal.main_arg1) = m ((c.tc : Thread Cert.GatesDwIdeal.nD Cert.GatesDwIdeal.τ).loc Cert.GatesDwIdeal.main_arg1))
      ∧ θ_run (Cert.GatesDwRefIdeal.defs (F := Ideal)) (onTc (τ := Cert.GatesDwRefIdeal.τ) (Cert.GatesDwRefIdeal.main (F := Ideal))) ⟨m', fun _ => 0, g'⟩ (fun r => ∀ c : Dev Cert.GatesDwRefIdeal.nD,
          r.2.mem ((c.tc : Thread Cert.GatesDwRefIdeal.nD Cert.GatesDwRefIdeal.τ).loc Cert.GatesDwRefIdeal.main_v7) = v0 c
          ∧ r.2.mem ((c.tc : Thread Cert.GatesDwRefIdeal.nD Cert.GatesDwRefIdeal.τ).loc Cert.GatesDwRefIdeal.main_arg0) = m' ((c.tc : Thread Cert.GatesDwRefIdeal.nD Cert.GatesDwRefIdeal.τ).loc Cert.GatesDwRefIdeal.main_arg0)
          ∧ r.2.mem ((c.tc : Thread Cert.GatesDwRefIdeal.nD Cert.GatesDwRefIdeal.τ).loc Cert.GatesDwRefIdeal.main_arg1) = m' ((c.tc : Thread Cert.GatesDwRefIdeal.nD Cert.GatesDwRefIdeal.τ).loc Cert.GatesDwRefIdeal.main_arg1))

def preserves_WoDw_WoDwIdeal : Prop :=
  True

def algebraic_WoDwIdeal_WoDwRefIdeal [hWoDwIdeal : Cert.WoDwIdeal.Facts] [hWoDwRefIdeal : Cert.WoDwRefIdeal.Facts] : Prop :=
  ∀ (m : (ℓ : Loc Cert.WoDwIdeal.nD Cert.WoDwIdeal.τ Cert.WoDwIdeal.sig) → Buf (Elt Ideal) ℓ) (g : Dev Cert.WoDwIdeal.nD → PrngReg)
    (m' : (ℓ : Loc Cert.WoDwRefIdeal.nD Cert.WoDwRefIdeal.τ Cert.WoDwRefIdeal.sig) → Buf (Elt Ideal) ℓ) (g' : Dev Cert.WoDwRefIdeal.nD → PrngReg), Pre_WoDwIdeal m →
    (∀ c : Dev Cert.WoDwIdeal.nD,
      m' ((c.tc : Thread Cert.WoDwRefIdeal.nD Cert.WoDwRefIdeal.τ).loc Cert.WoDwRefIdeal.main_arg0) = m ((c.tc : Thread Cert.WoDwIdeal.nD Cert.WoDwIdeal.τ).loc Cert.WoDwIdeal.main_arg0)
      ∧ m' ((c.tc : Thread Cert.WoDwRefIdeal.nD Cert.WoDwRefIdeal.τ).loc Cert.WoDwRefIdeal.main_arg1) = m ((c.tc : Thread Cert.WoDwIdeal.nD Cert.WoDwIdeal.τ).loc Cert.WoDwIdeal.main_arg1)) →
    ∃ (v0 : (c : Dev Cert.WoDwIdeal.nD) → Buf (Elt Ideal) ((c.tc : Thread Cert.WoDwIdeal.nD Cert.WoDwIdeal.τ).loc Cert.WoDwIdeal.main_v0)),
      θ_run (Cert.WoDwIdeal.defs (F := Ideal)) (onTc (τ := Cert.WoDwIdeal.τ) (Cert.WoDwIdeal.main (F := Ideal))) ⟨m, fun _ => 0, g⟩ (fun r => ∀ c : Dev Cert.WoDwIdeal.nD,
          r.2.mem ((c.tc : Thread Cert.WoDwIdeal.nD Cert.WoDwIdeal.τ).loc Cert.WoDwIdeal.main_v0) = v0 c
          ∧ r.2.mem ((c.tc : Thread Cert.WoDwIdeal.nD Cert.WoDwIdeal.τ).loc Cert.WoDwIdeal.main_arg0) = m ((c.tc : Thread Cert.WoDwIdeal.nD Cert.WoDwIdeal.τ).loc Cert.WoDwIdeal.main_arg0)
          ∧ r.2.mem ((c.tc : Thread Cert.WoDwIdeal.nD Cert.WoDwIdeal.τ).loc Cert.WoDwIdeal.main_arg1) = m ((c.tc : Thread Cert.WoDwIdeal.nD Cert.WoDwIdeal.τ).loc Cert.WoDwIdeal.main_arg1))
      ∧ θ_run (Cert.WoDwRefIdeal.defs (F := Ideal)) (onTc (τ := Cert.WoDwRefIdeal.τ) (Cert.WoDwRefIdeal.main (F := Ideal))) ⟨m', fun _ => 0, g'⟩ (fun r => ∀ c : Dev Cert.WoDwRefIdeal.nD,
          r.2.mem ((c.tc : Thread Cert.WoDwRefIdeal.nD Cert.WoDwRefIdeal.τ).loc Cert.WoDwRefIdeal.main_v6) = v0 c
          ∧ r.2.mem ((c.tc : Thread Cert.WoDwRefIdeal.nD Cert.WoDwRefIdeal.τ).loc Cert.WoDwRefIdeal.main_arg0) = m' ((c.tc : Thread Cert.WoDwRefIdeal.nD Cert.WoDwRefIdeal.τ).loc Cert.WoDwRefIdeal.main_arg0)
          ∧ r.2.mem ((c.tc : Thread Cert.WoDwRefIdeal.nD Cert.WoDwRefIdeal.τ).loc Cert.WoDwRefIdeal.main_arg1) = m' ((c.tc : Thread Cert.WoDwRefIdeal.nD Cert.WoDwRefIdeal.τ).loc Cert.WoDwRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v8) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v0_0)) (v1 : (c : Dev Cert.FfnInIdeal.nD) → Buf (Elt Ideal) ((c.tc : Thread Cert.FfnInIdeal.nD Cert.FfnInIdeal.τ).loc Cert.FfnInIdeal.main_v0_1)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0_0) = v0 c
          ∧ r.2.mem ((c.tc : Thread Cert.FfnInIdeal.nD Cert.FfnInIdeal.τ).loc Cert.FfnInIdeal.main_v0_1) = v1 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v9) = v0 c
          ∧ r.2.mem ((c.tc : Thread Cert.FfnInRefIdeal.nD Cert.FfnInRefIdeal.τ).loc Cert.FfnInRefIdeal.main_v10) = v1 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_MemDw_MemDwIdeal : Prop :=
  True

def algebraic_MemDwIdeal_MemDwRefIdeal [hMemDwIdeal : Cert.MemDwIdeal.Facts] [hMemDwRefIdeal : Cert.MemDwRefIdeal.Facts] : Prop :=
  ∀ (m : (ℓ : Loc Cert.MemDwIdeal.nD Cert.MemDwIdeal.τ Cert.MemDwIdeal.sig) → Buf (Elt Ideal) ℓ) (g : Dev Cert.MemDwIdeal.nD → PrngReg)
    (m' : (ℓ : Loc Cert.MemDwRefIdeal.nD Cert.MemDwRefIdeal.τ Cert.MemDwRefIdeal.sig) → Buf (Elt Ideal) ℓ) (g' : Dev Cert.MemDwRefIdeal.nD → PrngReg), Pre_MemDwIdeal m →
    (∀ c : Dev Cert.MemDwIdeal.nD,
      m' ((c.tc : Thread Cert.MemDwRefIdeal.nD Cert.MemDwRefIdeal.τ).loc Cert.MemDwRefIdeal.main_arg0) = m ((c.tc : Thread Cert.MemDwIdeal.nD Cert.MemDwIdeal.τ).loc Cert.MemDwIdeal.main_arg0)
      ∧ m' ((c.tc : Thread Cert.MemDwRefIdeal.nD Cert.MemDwRefIdeal.τ).loc Cert.MemDwRefIdeal.main_arg1) = m ((c.tc : Thread Cert.MemDwIdeal.nD Cert.MemDwIdeal.τ).loc Cert.MemDwIdeal.main_arg1)) →
    ∃ (v0 : (c : Dev Cert.MemDwIdeal.nD) → Buf (Elt Ideal) ((c.tc : Thread Cert.MemDwIdeal.nD Cert.MemDwIdeal.τ).loc Cert.MemDwIdeal.main_v0)),
      θ_run (Cert.MemDwIdeal.defs (F := Ideal)) (onTc (τ := Cert.MemDwIdeal.τ) (Cert.MemDwIdeal.main (F := Ideal))) ⟨m, fun _ => 0, g⟩ (fun r => ∀ c : Dev Cert.MemDwIdeal.nD,
          r.2.mem ((c.tc : Thread Cert.MemDwIdeal.nD Cert.MemDwIdeal.τ).loc Cert.MemDwIdeal.main_v0) = v0 c
          ∧ r.2.mem ((c.tc : Thread Cert.MemDwIdeal.nD Cert.MemDwIdeal.τ).loc Cert.MemDwIdeal.main_arg0) = m ((c.tc : Thread Cert.MemDwIdeal.nD Cert.MemDwIdeal.τ).loc Cert.MemDwIdeal.main_arg0)
          ∧ r.2.mem ((c.tc : Thread Cert.MemDwIdeal.nD Cert.MemDwIdeal.τ).loc Cert.MemDwIdeal.main_arg1) = m ((c.tc : Thread Cert.MemDwIdeal.nD Cert.MemDwIdeal.τ).loc Cert.MemDwIdeal.main_arg1))
      ∧ θ_run (Cert.MemDwRefIdeal.defs (F := Ideal)) (onTc (τ := Cert.MemDwRefIdeal.τ) (Cert.MemDwRefIdeal.main (F := Ideal))) ⟨m', fun _ => 0, g'⟩ (fun r => ∀ c : Dev Cert.MemDwRefIdeal.nD,
          r.2.mem ((c.tc : Thread Cert.MemDwRefIdeal.nD Cert.MemDwRefIdeal.τ).loc Cert.MemDwRefIdeal.main_v6) = v0 c
          ∧ r.2.mem ((c.tc : Thread Cert.MemDwRefIdeal.nD Cert.MemDwRefIdeal.τ).loc Cert.MemDwRefIdeal.main_arg0) = m' ((c.tc : Thread Cert.MemDwRefIdeal.nD Cert.MemDwRefIdeal.τ).loc Cert.MemDwRefIdeal.main_arg0)
          ∧ r.2.mem ((c.tc : Thread Cert.MemDwRefIdeal.nD Cert.MemDwRefIdeal.τ).loc Cert.MemDwRefIdeal.main_arg1) = m' ((c.tc : Thread Cert.MemDwRefIdeal.nD Cert.MemDwRefIdeal.τ).loc Cert.MemDwRefIdeal.main_arg1))

def preserves_MemDx_MemDxIdeal : Prop :=
  True

def algebraic_MemDxIdeal_MemDxRefIdeal [hMemDxIdeal : Cert.MemDxIdeal.Facts] [hMemDxRefIdeal : Cert.MemDxRefIdeal.Facts] : Prop :=
  ∀ (m : (ℓ : Loc Cert.MemDxIdeal.nD Cert.MemDxIdeal.τ Cert.MemDxIdeal.sig) → Buf (Elt Ideal) ℓ) (g : Dev Cert.MemDxIdeal.nD → PrngReg)
    (m' : (ℓ : Loc Cert.MemDxRefIdeal.nD Cert.MemDxRefIdeal.τ Cert.MemDxRefIdeal.sig) → Buf (Elt Ideal) ℓ) (g' : Dev Cert.MemDxRefIdeal.nD → PrngReg), Pre_MemDxIdeal m →
    (∀ c : Dev Cert.MemDxIdeal.nD,
      m' ((c.tc : Thread Cert.MemDxRefIdeal.nD Cert.MemDxRefIdeal.τ).loc Cert.MemDxRefIdeal.main_arg0) = m ((c.tc : Thread Cert.MemDxIdeal.nD Cert.MemDxIdeal.τ).loc Cert.MemDxIdeal.main_arg0)
      ∧ m' ((c.tc : Thread Cert.MemDxRefIdeal.nD Cert.MemDxRefIdeal.τ).loc Cert.MemDxRefIdeal.main_arg1) = m ((c.tc : Thread Cert.MemDxIdeal.nD Cert.MemDxIdeal.τ).loc Cert.MemDxIdeal.main_arg1)) →
    ∃ (v0 : (c : Dev Cert.MemDxIdeal.nD) → Buf (Elt Ideal) ((c.tc : Thread Cert.MemDxIdeal.nD Cert.MemDxIdeal.τ).loc Cert.MemDxIdeal.main_v0)),
      θ_run (Cert.MemDxIdeal.defs (F := Ideal)) (onTc (τ := Cert.MemDxIdeal.τ) (Cert.MemDxIdeal.main (F := Ideal))) ⟨m, fun _ => 0, g⟩ (fun r => ∀ c : Dev Cert.MemDxIdeal.nD,
          r.2.mem ((c.tc : Thread Cert.MemDxIdeal.nD Cert.MemDxIdeal.τ).loc Cert.MemDxIdeal.main_v0) = v0 c
          ∧ r.2.mem ((c.tc : Thread Cert.MemDxIdeal.nD Cert.MemDxIdeal.τ).loc Cert.MemDxIdeal.main_arg0) = m ((c.tc : Thread Cert.MemDxIdeal.nD Cert.MemDxIdeal.τ).loc Cert.MemDxIdeal.main_arg0)
          ∧ r.2.mem ((c.tc : Thread Cert.MemDxIdeal.nD Cert.MemDxIdeal.τ).loc Cert.MemDxIdeal.main_arg1) = m ((c.tc : Thread Cert.MemDxIdeal.nD Cert.MemDxIdeal.τ).loc Cert.MemDxIdeal.main_arg1))
      ∧ θ_run (Cert.MemDxRefIdeal.defs (F := Ideal)) (onTc (τ := Cert.MemDxRefIdeal.τ) (Cert.MemDxRefIdeal.main (F := Ideal))) ⟨m', fun _ => 0, g'⟩ (fun r => ∀ c : Dev Cert.MemDxRefIdeal.nD,
          r.2.mem ((c.tc : Thread Cert.MemDxRefIdeal.nD Cert.MemDxRefIdeal.τ).loc Cert.MemDxRefIdeal.main_v4) = v0 c
          ∧ r.2.mem ((c.tc : Thread Cert.MemDxRefIdeal.nD Cert.MemDxRefIdeal.τ).loc Cert.MemDxRefIdeal.main_arg0) = m' ((c.tc : Thread Cert.MemDxRefIdeal.nD Cert.MemDxRefIdeal.τ).loc Cert.MemDxRefIdeal.main_arg0)
          ∧ r.2.mem ((c.tc : Thread Cert.MemDxRefIdeal.nD Cert.MemDxRefIdeal.τ).loc Cert.MemDxRefIdeal.main_arg1) = m' ((c.tc : Thread Cert.MemDxRefIdeal.nD Cert.MemDxRefIdeal.τ).loc Cert.MemDxRefIdeal.main_arg1))

def preserves_MemNorm_MemNormIdeal : Prop :=
  True

def algebraic_MemNormIdeal_MemNormRefIdeal [hMemNormIdeal : Cert.MemNormIdeal.Facts] [hMemNormRefIdeal : Cert.MemNormRefIdeal.Facts] : Prop :=
  ∀ (m : (ℓ : Loc Cert.MemNormIdeal.nD Cert.MemNormIdeal.τ Cert.MemNormIdeal.sig) → Buf (Elt Ideal) ℓ) (g : Dev Cert.MemNormIdeal.nD → PrngReg)
    (m' : (ℓ : Loc Cert.MemNormRefIdeal.nD Cert.MemNormRefIdeal.τ Cert.MemNormRefIdeal.sig) → Buf (Elt Ideal) ℓ) (g' : Dev Cert.MemNormRefIdeal.nD → PrngReg), Pre_MemNormIdeal m →
    (∀ c : Dev Cert.MemNormIdeal.nD,
      m' ((c.tc : Thread Cert.MemNormRefIdeal.nD Cert.MemNormRefIdeal.τ).loc Cert.MemNormRefIdeal.main_arg0) = m ((c.tc : Thread Cert.MemNormIdeal.nD Cert.MemNormIdeal.τ).loc Cert.MemNormIdeal.main_arg0)
      ∧ m' ((c.tc : Thread Cert.MemNormRefIdeal.nD Cert.MemNormRefIdeal.τ).loc Cert.MemNormRefIdeal.main_arg1) = m ((c.tc : Thread Cert.MemNormIdeal.nD Cert.MemNormIdeal.τ).loc Cert.MemNormIdeal.main_arg1)
      ∧ m' ((c.tc : Thread Cert.MemNormRefIdeal.nD Cert.MemNormRefIdeal.τ).loc Cert.MemNormRefIdeal.main_arg2) = m ((c.tc : Thread Cert.MemNormIdeal.nD Cert.MemNormIdeal.τ).loc Cert.MemNormIdeal.main_arg2)) →
    ∃ (v0 : (c : Dev Cert.MemNormIdeal.nD) → Buf (Elt Ideal) ((c.tc : Thread Cert.MemNormIdeal.nD Cert.MemNormIdeal.τ).loc Cert.MemNormIdeal.main_v0_0)) (v1 : (c : Dev Cert.MemNormIdeal.nD) → Buf (Elt Ideal) ((c.tc : Thread Cert.MemNormIdeal.nD Cert.MemNormIdeal.τ).loc Cert.MemNormIdeal.main_v0_1)),
      θ_run (Cert.MemNormIdeal.defs (F := Ideal)) (onTc (τ := Cert.MemNormIdeal.τ) (Cert.MemNormIdeal.main (F := Ideal))) ⟨m, fun _ => 0, g⟩ (fun r => ∀ c : Dev Cert.MemNormIdeal.nD,
          r.2.mem ((c.tc : Thread Cert.MemNormIdeal.nD Cert.MemNormIdeal.τ).loc Cert.MemNormIdeal.main_v0_0) = v0 c
          ∧ r.2.mem ((c.tc : Thread Cert.MemNormIdeal.nD Cert.MemNormIdeal.τ).loc Cert.MemNormIdeal.main_v0_1) = v1 c
          ∧ r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
          ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1)
          ∧ r.2.mem ((c.tc : Thread Cert.MemNormIdeal.nD Cert.MemNormIdeal.τ).loc Cert.MemNormIdeal.main_arg2) = m ((c.tc : Thread Cert.MemNormIdeal.nD Cert.MemNormIdeal.τ).loc Cert.MemNormIdeal.main_arg2))
      ∧ θ_run (Cert.MemNormRefIdeal.defs (F := Ideal)) (onTc (τ := Cert.MemNormRefIdeal.τ) (Cert.MemNormRefIdeal.main (F := Ideal))) ⟨m', fun _ => 0, g'⟩ (fun r => ∀ c : Dev Cert.MemNormRefIdeal.nD,
          r.2.mem ((c.tc : Thread Cert.MemNormRefIdeal.nD Cert.MemNormRefIdeal.τ).loc Cert.MemNormRefIdeal.main_v34) = v0 c
          ∧ r.2.mem ((c.tc : Thread Cert.MemNormRefIdeal.nD Cert.MemNormRefIdeal.τ).loc Cert.MemNormRefIdeal.main_v17) = v1 c
          ∧ r.2.mem ((c.tc : Thread Cert.MemNormRefIdeal.nD Cert.MemNormRefIdeal.τ).loc Cert.MemNormRefIdeal.main_arg0) = m' ((c.tc : Thread Cert.MemNormRefIdeal.nD Cert.MemNormRefIdeal.τ).loc Cert.MemNormRefIdeal.main_arg0)
          ∧ r.2.mem ((c.tc : Thread Cert.MemNormRefIdeal.nD Cert.MemNormRefIdeal.τ).loc Cert.MemNormRefIdeal.main_arg1) = m' ((c.tc : Thread Cert.MemNormRefIdeal.nD Cert.MemNormRefIdeal.τ).loc Cert.MemNormRefIdeal.main_arg1)
          ∧ r.2.mem ((c.tc : Thread Cert.MemNormRefIdeal.nD Cert.MemNormRefIdeal.τ).loc Cert.MemNormRefIdeal.main_arg2) = m' ((c.tc : Thread Cert.MemNormRefIdeal.nD Cert.MemNormRefIdeal.τ).loc Cert.MemNormRefIdeal.main_arg2))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)
      ∧ m' ((c.tc : Thread Cert.MixInRefIdeal.nD Cert.MixInRefIdeal.τ).loc Cert.MixInRefIdeal.main_arg3) = m ((c.tc : Thread Cert.MixInIdeal.nD Cert.MixInIdeal.τ).loc Cert.MixInIdeal.main_arg3)) →
    ∃ (v0 : (c : Dev Cert.MixInIdeal.nD) → Buf (Elt Ideal) ((c.tc : Thread Cert.MixInIdeal.nD Cert.MixInIdeal.τ).loc Cert.MixInIdeal.main_v0_0)) (v1 : (c : Dev Cert.MixInIdeal.nD) → Buf (Elt Ideal) ((c.tc : Thread Cert.MixInIdeal.nD Cert.MixInIdeal.τ).loc Cert.MixInIdeal.main_v0_1)) (v2 : (c : Dev Cert.MixInIdeal.nD) → Buf (Elt Ideal) ((c.tc : Thread Cert.MixInIdeal.nD Cert.MixInIdeal.τ).loc Cert.MixInIdeal.main_v0_2)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v0_0) = v0 c
          ∧ r.2.mem ((c.tc : Thread Cert.MixInIdeal.nD Cert.MixInIdeal.τ).loc Cert.MixInIdeal.main_v0_1) = v1 c
          ∧ r.2.mem ((c.tc : Thread Cert.MixInIdeal.nD Cert.MixInIdeal.τ).loc Cert.MixInIdeal.main_v0_2) = v2 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v4) = v0 c
          ∧ r.2.mem ((c.tc : Thread Cert.MixInRefIdeal.nD Cert.MixInRefIdeal.τ).loc Cert.MixInRefIdeal.main_v8) = v1 c
          ∧ r.2.mem ((c.tc : Thread Cert.MixInRefIdeal.nD Cert.MixInRefIdeal.τ).loc Cert.MixInRefIdeal.main_v12) = v2 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2)
          ∧ r.2.mem ((c.tc : Thread Cert.MixInRefIdeal.nD Cert.MixInRefIdeal.τ).loc Cert.MixInRefIdeal.main_arg3) = m' ((c.tc : Thread Cert.MixInRefIdeal.nD Cert.MixInRefIdeal.τ).loc Cert.MixInRefIdeal.main_arg3))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)
      ∧ m' ((c.tc : Thread Cert.FfnOutRefIdeal.nD Cert.FfnOutRefIdeal.τ).loc Cert.FfnOutRefIdeal.main_arg3) = m ((c.tc : Thread Cert.FfnOutIdeal.nD Cert.FfnOutIdeal.τ).loc Cert.FfnOutIdeal.main_arg3)
      ∧ m' ((c.tc : Thread Cert.FfnOutRefIdeal.nD Cert.FfnOutRefIdeal.τ).loc Cert.FfnOutRefIdeal.main_arg4) = m ((c.tc : Thread Cert.FfnOutIdeal.nD Cert.FfnOutIdeal.τ).loc Cert.FfnOutIdeal.main_arg4)) →
    ∃ (v0 : (c : Dev Cert.FfnOutIdeal.nD) → Buf (Elt Ideal) ((c.tc : Thread Cert.FfnOutIdeal.nD Cert.FfnOutIdeal.τ).loc Cert.FfnOutIdeal.main_v0_0)) (v1 : (c : Dev Cert.FfnOutIdeal.nD) → Buf (Elt Ideal) ((c.tc : Thread Cert.FfnOutIdeal.nD Cert.FfnOutIdeal.τ).loc Cert.FfnOutIdeal.main_v0_1)) (v2 : (c : Dev Cert.FfnOutIdeal.nD) → Buf (Elt Ideal) ((c.tc : Thread Cert.FfnOutIdeal.nD Cert.FfnOutIdeal.τ).loc Cert.FfnOutIdeal.main_v0_2)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0_0) = v0 c
          ∧ r.2.mem ((c.tc : Thread Cert.FfnOutIdeal.nD Cert.FfnOutIdeal.τ).loc Cert.FfnOutIdeal.main_v0_1) = v1 c
          ∧ r.2.mem ((c.tc : Thread Cert.FfnOutIdeal.nD Cert.FfnOutIdeal.τ).loc Cert.FfnOutIdeal.main_v0_2) = v2 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)
          ∧ r.2.mem ((c.tc : Thread Cert.FfnOutIdeal.nD Cert.FfnOutIdeal.τ).loc Cert.FfnOutIdeal.main_arg4) = m ((c.tc : Thread Cert.FfnOutIdeal.nD Cert.FfnOutIdeal.τ).loc Cert.FfnOutIdeal.main_arg4))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v2) = v0 c
          ∧ r.2.mem ((c.tc : Thread Cert.FfnOutRefIdeal.nD Cert.FfnOutRefIdeal.τ).loc Cert.FfnOutRefIdeal.main_v17) = v1 c
          ∧ r.2.mem ((c.tc : Thread Cert.FfnOutRefIdeal.nD Cert.FfnOutRefIdeal.τ).loc Cert.FfnOutRefIdeal.main_v30) = v2 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2)
          ∧ r.2.mem ((c.tc : Thread Cert.FfnOutRefIdeal.nD Cert.FfnOutRefIdeal.τ).loc Cert.FfnOutRefIdeal.main_arg3) = m' ((c.tc : Thread Cert.FfnOutRefIdeal.nD Cert.FfnOutRefIdeal.τ).loc Cert.FfnOutRefIdeal.main_arg3)
          ∧ r.2.mem ((c.tc : Thread Cert.FfnOutRefIdeal.nD Cert.FfnOutRefIdeal.τ).loc Cert.FfnOutRefIdeal.main_arg4) = m' ((c.tc : Thread Cert.FfnOutRefIdeal.nD Cert.FfnOutRefIdeal.τ).loc Cert.FfnOutRefIdeal.main_arg4))

def preserves_OutLoss_OutLossIdeal : Prop :=
  True

def algebraic_OutLossIdeal_OutLossRefIdeal [hOutLossIdeal : Cert.OutLossIdeal.Facts] [hOutLossRefIdeal : Cert.OutLossRefIdeal.Facts] : Prop :=
  ∀ (m : (ℓ : Loc Cert.OutLossIdeal.nD Cert.OutLossIdeal.τ Cert.OutLossIdeal.sig) → Buf (Elt Ideal) ℓ) (g : Dev Cert.OutLossIdeal.nD → PrngReg)
    (m' : (ℓ : Loc Cert.OutLossRefIdeal.nD Cert.OutLossRefIdeal.τ Cert.OutLossRefIdeal.sig) → Buf (Elt Ideal) ℓ) (g' : Dev Cert.OutLossRefIdeal.nD → PrngReg), Pre_OutLossIdeal m →
    (∀ c : Dev Cert.OutLossIdeal.nD,
      m' ((c.tc : Thread Cert.OutLossRefIdeal.nD Cert.OutLossRefIdeal.τ).loc Cert.OutLossRefIdeal.main_arg0) = m ((c.tc : Thread Cert.OutLossIdeal.nD Cert.OutLossIdeal.τ).loc Cert.OutLossIdeal.main_arg0)
      ∧ m' ((c.tc : Thread Cert.OutLossRefIdeal.nD Cert.OutLossRefIdeal.τ).loc Cert.OutLossRefIdeal.main_arg1) = m ((c.tc : Thread Cert.OutLossIdeal.nD Cert.OutLossIdeal.τ).loc Cert.OutLossIdeal.main_arg1)
      ∧ m' ((c.tc : Thread Cert.OutLossRefIdeal.nD Cert.OutLossRefIdeal.τ).loc Cert.OutLossRefIdeal.main_arg2) = m ((c.tc : Thread Cert.OutLossIdeal.nD Cert.OutLossIdeal.τ).loc Cert.OutLossIdeal.main_arg2)
      ∧ m' ((c.tc : Thread Cert.OutLossRefIdeal.nD Cert.OutLossRefIdeal.τ).loc Cert.OutLossRefIdeal.main_arg3) = m ((c.tc : Thread Cert.OutLossIdeal.nD Cert.OutLossIdeal.τ).loc Cert.OutLossIdeal.main_arg3)
      ∧ m' ((c.tc : Thread Cert.OutLossRefIdeal.nD Cert.OutLossRefIdeal.τ).loc Cert.OutLossRefIdeal.main_arg4) = m ((c.tc : Thread Cert.OutLossIdeal.nD Cert.OutLossIdeal.τ).loc Cert.OutLossIdeal.main_arg4)
      ∧ m' ((c.tc : Thread Cert.OutLossRefIdeal.nD Cert.OutLossRefIdeal.τ).loc Cert.OutLossRefIdeal.main_arg5) = m ((c.tc : Thread Cert.OutLossIdeal.nD Cert.OutLossIdeal.τ).loc Cert.OutLossIdeal.main_arg5)) →
    ∃ (v0 : (c : Dev Cert.OutLossIdeal.nD) → Buf (Elt Ideal) ((c.tc : Thread Cert.OutLossIdeal.nD Cert.OutLossIdeal.τ).loc Cert.OutLossIdeal.main_v0_0)) (v1 : (c : Dev Cert.OutLossIdeal.nD) → Buf (Elt Ideal) ((c.tc : Thread Cert.OutLossIdeal.nD Cert.OutLossIdeal.τ).loc Cert.OutLossIdeal.main_v0_1)) (v2 : (c : Dev Cert.OutLossIdeal.nD) → Buf (Elt Ideal) ((c.tc : Thread Cert.OutLossIdeal.nD Cert.OutLossIdeal.τ).loc Cert.OutLossIdeal.main_v0_2)) (v3 : (c : Dev Cert.OutLossIdeal.nD) → Buf (Elt Ideal) ((c.tc : Thread Cert.OutLossIdeal.nD Cert.OutLossIdeal.τ).loc Cert.OutLossIdeal.main_v0_3)) (v4 : (c : Dev Cert.OutLossIdeal.nD) → Buf (Elt Ideal) ((c.tc : Thread Cert.OutLossIdeal.nD Cert.OutLossIdeal.τ).loc Cert.OutLossIdeal.main_v0_4)),
      θ_run (Cert.OutLossIdeal.defs (F := Ideal)) (onTc (τ := Cert.OutLossIdeal.τ) (Cert.OutLossIdeal.main (F := Ideal))) ⟨m, fun _ => 0, g⟩ (fun r => ∀ c : Dev Cert.OutLossIdeal.nD,
          r.2.mem ((c.tc : Thread Cert.OutLossIdeal.nD Cert.OutLossIdeal.τ).loc Cert.OutLossIdeal.main_v0_0) = v0 c
          ∧ r.2.mem ((c.tc : Thread Cert.OutLossIdeal.nD Cert.OutLossIdeal.τ).loc Cert.OutLossIdeal.main_v0_1) = v1 c
          ∧ r.2.mem ((c.tc : Thread Cert.OutLossIdeal.nD Cert.OutLossIdeal.τ).loc Cert.OutLossIdeal.main_v0_2) = v2 c
          ∧ r.2.mem ((c.tc : Thread Cert.OutLossIdeal.nD Cert.OutLossIdeal.τ).loc Cert.OutLossIdeal.main_v0_3) = v3 c
          ∧ r.2.mem ((c.tc : Thread Cert.OutLossIdeal.nD Cert.OutLossIdeal.τ).loc Cert.OutLossIdeal.main_v0_4) = v4 c
          ∧ r.2.mem ((c.tc : Thread Cert.OutLossIdeal.nD Cert.OutLossIdeal.τ).loc Cert.OutLossIdeal.main_arg0) = m ((c.tc : Thread Cert.OutLossIdeal.nD Cert.OutLossIdeal.τ).loc Cert.OutLossIdeal.main_arg0)
          ∧ r.2.mem ((c.tc : Thread Cert.OutLossIdeal.nD Cert.OutLossIdeal.τ).loc Cert.OutLossIdeal.main_arg1) = m ((c.tc : Thread Cert.OutLossIdeal.nD Cert.OutLossIdeal.τ).loc Cert.OutLossIdeal.main_arg1)
          ∧ r.2.mem ((c.tc : Thread Cert.OutLossIdeal.nD Cert.OutLossIdeal.τ).loc Cert.OutLossIdeal.main_arg2) = m ((c.tc : Thread Cert.OutLossIdeal.nD Cert.OutLossIdeal.τ).loc Cert.OutLossIdeal.main_arg2)
          ∧ r.2.mem ((c.tc : Thread Cert.OutLossIdeal.nD Cert.OutLossIdeal.τ).loc Cert.OutLossIdeal.main_arg3) = m ((c.tc : Thread Cert.OutLossIdeal.nD Cert.OutLossIdeal.τ).loc Cert.OutLossIdeal.main_arg3)
          ∧ r.2.mem ((c.tc : Thread Cert.OutLossIdeal.nD Cert.OutLossIdeal.τ).loc Cert.OutLossIdeal.main_arg4) = m ((c.tc : Thread Cert.OutLossIdeal.nD Cert.OutLossIdeal.τ).loc Cert.OutLossIdeal.main_arg4)
          ∧ r.2.mem ((c.tc : Thread Cert.OutLossIdeal.nD Cert.OutLossIdeal.τ).loc Cert.OutLossIdeal.main_arg5) = m ((c.tc : Thread Cert.OutLossIdeal.nD Cert.OutLossIdeal.τ).loc Cert.OutLossIdeal.main_arg5))
      ∧ θ_run (Cert.OutLossRefIdeal.defs (F := Ideal)) (onTc (τ := Cert.OutLossRefIdeal.τ) (Cert.OutLossRefIdeal.main (F := Ideal))) ⟨m', fun _ => 0, g'⟩ (fun r => ∀ c : Dev Cert.OutLossRefIdeal.nD,
          r.2.mem ((c.tc : Thread Cert.OutLossRefIdeal.nD Cert.OutLossRefIdeal.τ).loc Cert.OutLossRefIdeal.main_v91) = v0 c
          ∧ r.2.mem ((c.tc : Thread Cert.OutLossRefIdeal.nD Cert.OutLossRefIdeal.τ).loc Cert.OutLossRefIdeal.main_v69) = v1 c
          ∧ r.2.mem ((c.tc : Thread Cert.OutLossRefIdeal.nD Cert.OutLossRefIdeal.τ).loc Cert.OutLossRefIdeal.main_v74) = v2 c
          ∧ r.2.mem ((c.tc : Thread Cert.OutLossRefIdeal.nD Cert.OutLossRefIdeal.τ).loc Cert.OutLossRefIdeal.main_v53) = v3 c
          ∧ r.2.mem ((c.tc : Thread Cert.OutLossRefIdeal.nD Cert.OutLossRefIdeal.τ).loc Cert.OutLossRefIdeal.main_v92) = v4 c
          ∧ r.2.mem ((c.tc : Thread Cert.OutLossRefIdeal.nD Cert.OutLossRefIdeal.τ).loc Cert.OutLossRefIdeal.main_arg0) = m' ((c.tc : Thread Cert.OutLossRefIdeal.nD Cert.OutLossRefIdeal.τ).loc Cert.OutLossRefIdeal.main_arg0)
          ∧ r.2.mem ((c.tc : Thread Cert.OutLossRefIdeal.nD Cert.OutLossRefIdeal.τ).loc Cert.OutLossRefIdeal.main_arg1) = m' ((c.tc : Thread Cert.OutLossRefIdeal.nD Cert.OutLossRefIdeal.τ).loc Cert.OutLossRefIdeal.main_arg1)
          ∧ r.2.mem ((c.tc : Thread Cert.OutLossRefIdeal.nD Cert.OutLossRefIdeal.τ).loc Cert.OutLossRefIdeal.main_arg2) = m' ((c.tc : Thread Cert.OutLossRefIdeal.nD Cert.OutLossRefIdeal.τ).loc Cert.OutLossRefIdeal.main_arg2)
          ∧ r.2.mem ((c.tc : Thread Cert.OutLossRefIdeal.nD Cert.OutLossRefIdeal.τ).loc Cert.OutLossRefIdeal.main_arg3) = m' ((c.tc : Thread Cert.OutLossRefIdeal.nD Cert.OutLossRefIdeal.τ).loc Cert.OutLossRefIdeal.main_arg3)
          ∧ r.2.mem ((c.tc : Thread Cert.OutLossRefIdeal.nD Cert.OutLossRefIdeal.τ).loc Cert.OutLossRefIdeal.main_arg4) = m' ((c.tc : Thread Cert.OutLossRefIdeal.nD Cert.OutLossRefIdeal.τ).loc Cert.OutLossRefIdeal.main_arg4)
          ∧ r.2.mem ((c.tc : Thread Cert.OutLossRefIdeal.nD Cert.OutLossRefIdeal.τ).loc Cert.OutLossRefIdeal.main_arg5) = m' ((c.tc : Thread Cert.OutLossRefIdeal.nD Cert.OutLossRefIdeal.τ).loc Cert.OutLossRefIdeal.main_arg5))

def preserves_TailFwd_TailFwdIdeal : Prop :=
  True

def algebraic_TailFwdIdeal_TailFwdRefIdeal [hTailFwdIdeal : Cert.TailFwdIdeal.Facts] [hTailFwdRefIdeal : Cert.TailFwdRefIdeal.Facts] : Prop :=
  ∀ (m : (ℓ : Loc Cert.TailFwdIdeal.nD Cert.TailFwdIdeal.τ Cert.TailFwdIdeal.sig) → Buf (Elt Ideal) ℓ) (g : Dev Cert.TailFwdIdeal.nD → PrngReg)
    (m' : (ℓ : Loc Cert.TailFwdRefIdeal.nD Cert.TailFwdRefIdeal.τ Cert.TailFwdRefIdeal.sig) → Buf (Elt Ideal) ℓ) (g' : Dev Cert.TailFwdRefIdeal.nD → PrngReg), Pre_TailFwdIdeal m →
    (∀ c : Dev Cert.TailFwdIdeal.nD,
      m' ((c.tc : Thread Cert.TailFwdRefIdeal.nD Cert.TailFwdRefIdeal.τ).loc Cert.TailFwdRefIdeal.main_arg0) = m ((c.tc : Thread Cert.TailFwdIdeal.nD Cert.TailFwdIdeal.τ).loc Cert.TailFwdIdeal.main_arg0)
      ∧ m' ((c.tc : Thread Cert.TailFwdRefIdeal.nD Cert.TailFwdRefIdeal.τ).loc Cert.TailFwdRefIdeal.main_arg1) = m ((c.tc : Thread Cert.TailFwdIdeal.nD Cert.TailFwdIdeal.τ).loc Cert.TailFwdIdeal.main_arg1)
      ∧ m' ((c.tc : Thread Cert.TailFwdRefIdeal.nD Cert.TailFwdRefIdeal.τ).loc Cert.TailFwdRefIdeal.main_arg2) = m ((c.tc : Thread Cert.TailFwdIdeal.nD Cert.TailFwdIdeal.τ).loc Cert.TailFwdIdeal.main_arg2)
      ∧ m' ((c.tc : Thread Cert.TailFwdRefIdeal.nD Cert.TailFwdRefIdeal.τ).loc Cert.TailFwdRefIdeal.main_arg3) = m ((c.tc : Thread Cert.TailFwdIdeal.nD Cert.TailFwdIdeal.τ).loc Cert.TailFwdIdeal.main_arg3)
      ∧ m' ((c.tc : Thread Cert.TailFwdRefIdeal.nD Cert.TailFwdRefIdeal.τ).loc Cert.TailFwdRefIdeal.main_arg4) = m ((c.tc : Thread Cert.TailFwdIdeal.nD Cert.TailFwdIdeal.τ).loc Cert.TailFwdIdeal.main_arg4)
      ∧ m' ((c.tc : Thread Cert.TailFwdRefIdeal.nD Cert.TailFwdRefIdeal.τ).loc Cert.TailFwdRefIdeal.main_arg5) = m ((c.tc : Thread Cert.TailFwdIdeal.nD Cert.TailFwdIdeal.τ).loc Cert.TailFwdIdeal.main_arg5)
      ∧ m' ((c.tc : Thread Cert.TailFwdRefIdeal.nD Cert.TailFwdRefIdeal.τ).loc Cert.TailFwdRefIdeal.main_arg6) = m ((c.tc : Thread Cert.TailFwdIdeal.nD Cert.TailFwdIdeal.τ).loc Cert.TailFwdIdeal.main_arg6)
      ∧ m' ((c.tc : Thread Cert.TailFwdRefIdeal.nD Cert.TailFwdRefIdeal.τ).loc Cert.TailFwdRefIdeal.main_arg7) = m ((c.tc : Thread Cert.TailFwdIdeal.nD Cert.TailFwdIdeal.τ).loc Cert.TailFwdIdeal.main_arg7)
      ∧ m' ((c.tc : Thread Cert.TailFwdRefIdeal.nD Cert.TailFwdRefIdeal.τ).loc Cert.TailFwdRefIdeal.main_arg8) = m ((c.tc : Thread Cert.TailFwdIdeal.nD Cert.TailFwdIdeal.τ).loc Cert.TailFwdIdeal.main_arg8)
      ∧ m' ((c.tc : Thread Cert.TailFwdRefIdeal.nD Cert.TailFwdRefIdeal.τ).loc Cert.TailFwdRefIdeal.main_arg9) = m ((c.tc : Thread Cert.TailFwdIdeal.nD Cert.TailFwdIdeal.τ).loc Cert.TailFwdIdeal.main_arg9)
      ∧ m' ((c.tc : Thread Cert.TailFwdRefIdeal.nD Cert.TailFwdRefIdeal.τ).loc Cert.TailFwdRefIdeal.main_arg10) = m ((c.tc : Thread Cert.TailFwdIdeal.nD Cert.TailFwdIdeal.τ).loc Cert.TailFwdIdeal.main_arg10)) →
    ∃ (v0 : (c : Dev Cert.TailFwdIdeal.nD) → Buf (Elt Ideal) ((c.tc : Thread Cert.TailFwdIdeal.nD Cert.TailFwdIdeal.τ).loc Cert.TailFwdIdeal.main_v0_0)) (v1 : (c : Dev Cert.TailFwdIdeal.nD) → Buf (Elt Ideal) ((c.tc : Thread Cert.TailFwdIdeal.nD Cert.TailFwdIdeal.τ).loc Cert.TailFwdIdeal.main_v0_1)) (v2 : (c : Dev Cert.TailFwdIdeal.nD) → Buf (Elt Ideal) ((c.tc : Thread Cert.TailFwdIdeal.nD Cert.TailFwdIdeal.τ).loc Cert.TailFwdIdeal.main_v0_2)) (v3 : (c : Dev Cert.TailFwdIdeal.nD) → Buf (Elt Ideal) ((c.tc : Thread Cert.TailFwdIdeal.nD Cert.TailFwdIdeal.τ).loc Cert.TailFwdIdeal.main_v0_3)) (v4 : (c : Dev Cert.TailFwdIdeal.nD) → Buf (Elt Ideal) ((c.tc : Thread Cert.TailFwdIdeal.nD Cert.TailFwdIdeal.τ).loc Cert.TailFwdIdeal.main_v0_4)) (v5 : (c : Dev Cert.TailFwdIdeal.nD) → Buf (Elt Ideal) ((c.tc : Thread Cert.TailFwdIdeal.nD Cert.TailFwdIdeal.τ).loc Cert.TailFwdIdeal.main_v0_5)) (v6 : (c : Dev Cert.TailFwdIdeal.nD) → Buf (Elt Ideal) ((c.tc : Thread Cert.TailFwdIdeal.nD Cert.TailFwdIdeal.τ).loc Cert.TailFwdIdeal.main_v0_6)),
      θ_run (Cert.TailFwdIdeal.defs (F := Ideal)) (onTc (τ := Cert.TailFwdIdeal.τ) (Cert.TailFwdIdeal.main (F := Ideal))) ⟨m, fun _ => 0, g⟩ (fun r => ∀ c : Dev Cert.TailFwdIdeal.nD,
          r.2.mem ((c.tc : Thread Cert.TailFwdIdeal.nD Cert.TailFwdIdeal.τ).loc Cert.TailFwdIdeal.main_v0_0) = v0 c
          ∧ r.2.mem ((c.tc : Thread Cert.TailFwdIdeal.nD Cert.TailFwdIdeal.τ).loc Cert.TailFwdIdeal.main_v0_1) = v1 c
          ∧ r.2.mem ((c.tc : Thread Cert.TailFwdIdeal.nD Cert.TailFwdIdeal.τ).loc Cert.TailFwdIdeal.main_v0_2) = v2 c
          ∧ r.2.mem ((c.tc : Thread Cert.TailFwdIdeal.nD Cert.TailFwdIdeal.τ).loc Cert.TailFwdIdeal.main_v0_3) = v3 c
          ∧ r.2.mem ((c.tc : Thread Cert.TailFwdIdeal.nD Cert.TailFwdIdeal.τ).loc Cert.TailFwdIdeal.main_v0_4) = v4 c
          ∧ r.2.mem ((c.tc : Thread Cert.TailFwdIdeal.nD Cert.TailFwdIdeal.τ).loc Cert.TailFwdIdeal.main_v0_5) = v5 c
          ∧ r.2.mem ((c.tc : Thread Cert.TailFwdIdeal.nD Cert.TailFwdIdeal.τ).loc Cert.TailFwdIdeal.main_v0_6) = v6 c
          ∧ r.2.mem ((c.tc : Thread Cert.TailFwdIdeal.nD Cert.TailFwdIdeal.τ).loc Cert.TailFwdIdeal.main_arg0) = m ((c.tc : Thread Cert.TailFwdIdeal.nD Cert.TailFwdIdeal.τ).loc Cert.TailFwdIdeal.main_arg0)
          ∧ r.2.mem ((c.tc : Thread Cert.TailFwdIdeal.nD Cert.TailFwdIdeal.τ).loc Cert.TailFwdIdeal.main_arg1) = m ((c.tc : Thread Cert.TailFwdIdeal.nD Cert.TailFwdIdeal.τ).loc Cert.TailFwdIdeal.main_arg1)
          ∧ r.2.mem ((c.tc : Thread Cert.TailFwdIdeal.nD Cert.TailFwdIdeal.τ).loc Cert.TailFwdIdeal.main_arg2) = m ((c.tc : Thread Cert.TailFwdIdeal.nD Cert.TailFwdIdeal.τ).loc Cert.TailFwdIdeal.main_arg2)
          ∧ r.2.mem ((c.tc : Thread Cert.TailFwdIdeal.nD Cert.TailFwdIdeal.τ).loc Cert.TailFwdIdeal.main_arg3) = m ((c.tc : Thread Cert.TailFwdIdeal.nD Cert.TailFwdIdeal.τ).loc Cert.TailFwdIdeal.main_arg3)
          ∧ r.2.mem ((c.tc : Thread Cert.TailFwdIdeal.nD Cert.TailFwdIdeal.τ).loc Cert.TailFwdIdeal.main_arg4) = m ((c.tc : Thread Cert.TailFwdIdeal.nD Cert.TailFwdIdeal.τ).loc Cert.TailFwdIdeal.main_arg4)
          ∧ r.2.mem ((c.tc : Thread Cert.TailFwdIdeal.nD Cert.TailFwdIdeal.τ).loc Cert.TailFwdIdeal.main_arg5) = m ((c.tc : Thread Cert.TailFwdIdeal.nD Cert.TailFwdIdeal.τ).loc Cert.TailFwdIdeal.main_arg5)
          ∧ r.2.mem ((c.tc : Thread Cert.TailFwdIdeal.nD Cert.TailFwdIdeal.τ).loc Cert.TailFwdIdeal.main_arg6) = m ((c.tc : Thread Cert.TailFwdIdeal.nD Cert.TailFwdIdeal.τ).loc Cert.TailFwdIdeal.main_arg6)
          ∧ r.2.mem ((c.tc : Thread Cert.TailFwdIdeal.nD Cert.TailFwdIdeal.τ).loc Cert.TailFwdIdeal.main_arg7) = m ((c.tc : Thread Cert.TailFwdIdeal.nD Cert.TailFwdIdeal.τ).loc Cert.TailFwdIdeal.main_arg7)
          ∧ r.2.mem ((c.tc : Thread Cert.TailFwdIdeal.nD Cert.TailFwdIdeal.τ).loc Cert.TailFwdIdeal.main_arg8) = m ((c.tc : Thread Cert.TailFwdIdeal.nD Cert.TailFwdIdeal.τ).loc Cert.TailFwdIdeal.main_arg8)
          ∧ r.2.mem ((c.tc : Thread Cert.TailFwdIdeal.nD Cert.TailFwdIdeal.τ).loc Cert.TailFwdIdeal.main_arg9) = m ((c.tc : Thread Cert.TailFwdIdeal.nD Cert.TailFwdIdeal.τ).loc Cert.TailFwdIdeal.main_arg9)
          ∧ r.2.mem ((c.tc : Thread Cert.TailFwdIdeal.nD Cert.TailFwdIdeal.τ).loc Cert.TailFwdIdeal.main_arg10) = m ((c.tc : Thread Cert.TailFwdIdeal.nD Cert.TailFwdIdeal.τ).loc Cert.TailFwdIdeal.main_arg10))
      ∧ θ_run (Cert.TailFwdRefIdeal.defs (F := Ideal)) (onTc (τ := Cert.TailFwdRefIdeal.τ) (Cert.TailFwdRefIdeal.main (F := Ideal))) ⟨m', fun _ => 0, g'⟩ (fun r => ∀ c : Dev Cert.TailFwdRefIdeal.nD,
          r.2.mem ((c.tc : Thread Cert.TailFwdRefIdeal.nD Cert.TailFwdRefIdeal.τ).loc Cert.TailFwdRefIdeal.main_v55) = v0 c
          ∧ r.2.mem ((c.tc : Thread Cert.TailFwdRefIdeal.nD Cert.TailFwdRefIdeal.τ).loc Cert.TailFwdRefIdeal.main_v56) = v1 c
          ∧ r.2.mem ((c.tc : Thread Cert.TailFwdRefIdeal.nD Cert.TailFwdRefIdeal.τ).loc Cert.TailFwdRefIdeal.main_v57) = v2 c
          ∧ r.2.mem ((c.tc : Thread Cert.TailFwdRefIdeal.nD Cert.TailFwdRefIdeal.τ).loc Cert.TailFwdRefIdeal.main_v58) = v3 c
          ∧ r.2.mem ((c.tc : Thread Cert.TailFwdRefIdeal.nD Cert.TailFwdRefIdeal.τ).loc Cert.TailFwdRefIdeal.main_v29) = v4 c
          ∧ r.2.mem ((c.tc : Thread Cert.TailFwdRefIdeal.nD Cert.TailFwdRefIdeal.τ).loc Cert.TailFwdRefIdeal.main_v42) = v5 c
          ∧ r.2.mem ((c.tc : Thread Cert.TailFwdRefIdeal.nD Cert.TailFwdRefIdeal.τ).loc Cert.TailFwdRefIdeal.main_v59) = v6 c
          ∧ r.2.mem ((c.tc : Thread Cert.TailFwdRefIdeal.nD Cert.TailFwdRefIdeal.τ).loc Cert.TailFwdRefIdeal.main_arg0) = m' ((c.tc : Thread Cert.TailFwdRefIdeal.nD Cert.TailFwdRefIdeal.τ).loc Cert.TailFwdRefIdeal.main_arg0)
          ∧ r.2.mem ((c.tc : Thread Cert.TailFwdRefIdeal.nD Cert.TailFwdRefIdeal.τ).loc Cert.TailFwdRefIdeal.main_arg1) = m' ((c.tc : Thread Cert.TailFwdRefIdeal.nD Cert.TailFwdRefIdeal.τ).loc Cert.TailFwdRefIdeal.main_arg1)
          ∧ r.2.mem ((c.tc : Thread Cert.TailFwdRefIdeal.nD Cert.TailFwdRefIdeal.τ).loc Cert.TailFwdRefIdeal.main_arg2) = m' ((c.tc : Thread Cert.TailFwdRefIdeal.nD Cert.TailFwdRefIdeal.τ).loc Cert.TailFwdRefIdeal.main_arg2)
          ∧ r.2.mem ((c.tc : Thread Cert.TailFwdRefIdeal.nD Cert.TailFwdRefIdeal.τ).loc Cert.TailFwdRefIdeal.main_arg3) = m' ((c.tc : Thread Cert.TailFwdRefIdeal.nD Cert.TailFwdRefIdeal.τ).loc Cert.TailFwdRefIdeal.main_arg3)
          ∧ r.2.mem ((c.tc : Thread Cert.TailFwdRefIdeal.nD Cert.TailFwdRefIdeal.τ).loc Cert.TailFwdRefIdeal.main_arg4) = m' ((c.tc : Thread Cert.TailFwdRefIdeal.nD Cert.TailFwdRefIdeal.τ).loc Cert.TailFwdRefIdeal.main_arg4)
          ∧ r.2.mem ((c.tc : Thread Cert.TailFwdRefIdeal.nD Cert.TailFwdRefIdeal.τ).loc Cert.TailFwdRefIdeal.main_arg5) = m' ((c.tc : Thread Cert.TailFwdRefIdeal.nD Cert.TailFwdRefIdeal.τ).loc Cert.TailFwdRefIdeal.main_arg5)
          ∧ r.2.mem ((c.tc : Thread Cert.TailFwdRefIdeal.nD Cert.TailFwdRefIdeal.τ).loc Cert.TailFwdRefIdeal.main_arg6) = m' ((c.tc : Thread Cert.TailFwdRefIdeal.nD Cert.TailFwdRefIdeal.τ).loc Cert.TailFwdRefIdeal.main_arg6)
          ∧ r.2.mem ((c.tc : Thread Cert.TailFwdRefIdeal.nD Cert.TailFwdRefIdeal.τ).loc Cert.TailFwdRefIdeal.main_arg7) = m' ((c.tc : Thread Cert.TailFwdRefIdeal.nD Cert.TailFwdRefIdeal.τ).loc Cert.TailFwdRefIdeal.main_arg7)
          ∧ r.2.mem ((c.tc : Thread Cert.TailFwdRefIdeal.nD Cert.TailFwdRefIdeal.τ).loc Cert.TailFwdRefIdeal.main_arg8) = m' ((c.tc : Thread Cert.TailFwdRefIdeal.nD Cert.TailFwdRefIdeal.τ).loc Cert.TailFwdRefIdeal.main_arg8)
          ∧ r.2.mem ((c.tc : Thread Cert.TailFwdRefIdeal.nD Cert.TailFwdRefIdeal.τ).loc Cert.TailFwdRefIdeal.main_arg9) = m' ((c.tc : Thread Cert.TailFwdRefIdeal.nD Cert.TailFwdRefIdeal.τ).loc Cert.TailFwdRefIdeal.main_arg9)
          ∧ r.2.mem ((c.tc : Thread Cert.TailFwdRefIdeal.nD Cert.TailFwdRefIdeal.τ).loc Cert.TailFwdRefIdeal.main_arg10) = m' ((c.tc : Thread Cert.TailFwdRefIdeal.nD Cert.TailFwdRefIdeal.τ).loc Cert.TailFwdRefIdeal.main_arg10))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v12) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_MemNormFwd_MemNormFwdIdeal : Prop :=
  True

def algebraic_MemNormFwdIdeal_MemNormFwdRefIdeal [hMemNormFwdIdeal : Cert.MemNormFwdIdeal.Facts] [hMemNormFwdRefIdeal : Cert.MemNormFwdRefIdeal.Facts] : Prop :=
  ∀ (m : (ℓ : Loc Cert.MemNormFwdIdeal.nD Cert.MemNormFwdIdeal.τ Cert.MemNormFwdIdeal.sig) → Buf (Elt Ideal) ℓ) (g : Dev Cert.MemNormFwdIdeal.nD → PrngReg)
    (m' : (ℓ : Loc Cert.MemNormFwdRefIdeal.nD Cert.MemNormFwdRefIdeal.τ Cert.MemNormFwdRefIdeal.sig) → Buf (Elt Ideal) ℓ) (g' : Dev Cert.MemNormFwdRefIdeal.nD → PrngReg), Pre_MemNormFwdIdeal m →
    (∀ c : Dev Cert.MemNormFwdIdeal.nD,
      m' ((c.tc : Thread Cert.MemNormFwdRefIdeal.nD Cert.MemNormFwdRefIdeal.τ).loc Cert.MemNormFwdRefIdeal.main_arg0) = m ((c.tc : Thread Cert.MemNormFwdIdeal.nD Cert.MemNormFwdIdeal.τ).loc Cert.MemNormFwdIdeal.main_arg0)
      ∧ m' ((c.tc : Thread Cert.MemNormFwdRefIdeal.nD Cert.MemNormFwdRefIdeal.τ).loc Cert.MemNormFwdRefIdeal.main_arg1) = m ((c.tc : Thread Cert.MemNormFwdIdeal.nD Cert.MemNormFwdIdeal.τ).loc Cert.MemNormFwdIdeal.main_arg1)) →
    ∃ (v0 : (c : Dev Cert.MemNormFwdIdeal.nD) → Buf (Elt Ideal) ((c.tc : Thread Cert.MemNormFwdIdeal.nD Cert.MemNormFwdIdeal.τ).loc Cert.MemNormFwdIdeal.main_v0)),
      θ_run (Cert.MemNormFwdIdeal.defs (F := Ideal)) (onTc (τ := Cert.MemNormFwdIdeal.τ) (Cert.MemNormFwdIdeal.main (F := Ideal))) ⟨m, fun _ => 0, g⟩ (fun r => ∀ c : Dev Cert.MemNormFwdIdeal.nD,
          r.2.mem ((c.tc : Thread Cert.MemNormFwdIdeal.nD Cert.MemNormFwdIdeal.τ).loc Cert.MemNormFwdIdeal.main_v0) = v0 c
          ∧ r.2.mem ((c.tc : Thread Cert.MemNormFwdIdeal.nD Cert.MemNormFwdIdeal.τ).loc Cert.MemNormFwdIdeal.main_arg0) = m ((c.tc : Thread Cert.MemNormFwdIdeal.nD Cert.MemNormFwdIdeal.τ).loc Cert.MemNormFwdIdeal.main_arg0)
          ∧ r.2.mem ((c.tc : Thread Cert.MemNormFwdIdeal.nD Cert.MemNormFwdIdeal.τ).loc Cert.MemNormFwdIdeal.main_arg1) = m ((c.tc : Thread Cert.MemNormFwdIdeal.nD Cert.MemNormFwdIdeal.τ).loc Cert.MemNormFwdIdeal.main_arg1))
      ∧ θ_run (Cert.MemNormFwdRefIdeal.defs (F := Ideal)) (onTc (τ := Cert.MemNormFwdRefIdeal.τ) (Cert.MemNormFwdRefIdeal.main (F := Ideal))) ⟨m', fun _ => 0, g'⟩ (fun r => ∀ c : Dev Cert.MemNormFwdRefIdeal.nD,
          r.2.mem ((c.tc : Thread Cert.MemNormFwdRefIdeal.nD Cert.MemNormFwdRefIdeal.τ).loc Cert.MemNormFwdRefIdeal.main_v12) = v0 c
          ∧ r.2.mem ((c.tc : Thread Cert.MemNormFwdRefIdeal.nD Cert.MemNormFwdRefIdeal.τ).loc Cert.MemNormFwdRefIdeal.main_arg0) = m' ((c.tc : Thread Cert.MemNormFwdRefIdeal.nD Cert.MemNormFwdRefIdeal.τ).loc Cert.MemNormFwdRefIdeal.main_arg0)
          ∧ r.2.mem ((c.tc : Thread Cert.MemNormFwdRefIdeal.nD Cert.MemNormFwdRefIdeal.τ).loc Cert.MemNormFwdRefIdeal.main_arg1) = m' ((c.tc : Thread Cert.MemNormFwdRefIdeal.nD Cert.MemNormFwdRefIdeal.τ).loc Cert.MemNormFwdRefIdeal.main_arg1))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v0)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v0) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v3) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_XattnFwd_XattnFwdIdeal : Prop :=
  True

def algebraic_XattnFwdIdeal_XattnFwdRefIdeal_pre_finite_queries_keys [hXattnFwdIdeal : Cert.XattnFwdIdeal.Facts] [hXattnFwdRefIdeal : Cert.XattnFwdRefIdeal.Facts] [hPre_finite_queries_keys : Cert.Pre_finite_queries_keys.Facts] : Prop :=
  ∀ (m : (ℓ : Loc Cert.XattnFwdIdeal.nD Cert.XattnFwdIdeal.τ Cert.XattnFwdIdeal.sig) → Buf (Elt Ideal) ℓ) (g : Dev Cert.XattnFwdIdeal.nD → PrngReg)
    (m' : (ℓ : Loc Cert.XattnFwdRefIdeal.nD Cert.XattnFwdRefIdeal.τ Cert.XattnFwdRefIdeal.sig) → Buf (Elt Ideal) ℓ) (g' : Dev Cert.XattnFwdRefIdeal.nD → PrngReg), Pre_XattnFwdIdeal_finite_queries_keys m →
    (∀ c : Dev Cert.XattnFwdIdeal.nD,
      m' ((c.tc : Thread Cert.XattnFwdRefIdeal.nD Cert.XattnFwdRefIdeal.τ).loc Cert.XattnFwdRefIdeal.main_arg0) = m ((c.tc : Thread Cert.XattnFwdIdeal.nD Cert.XattnFwdIdeal.τ).loc Cert.XattnFwdIdeal.main_arg0)
      ∧ m' ((c.tc : Thread Cert.XattnFwdRefIdeal.nD Cert.XattnFwdRefIdeal.τ).loc Cert.XattnFwdRefIdeal.main_arg1) = m ((c.tc : Thread Cert.XattnFwdIdeal.nD Cert.XattnFwdIdeal.τ).loc Cert.XattnFwdIdeal.main_arg1)) →
    ∃ (v0 : (c : Dev Cert.XattnFwdIdeal.nD) → Buf (Elt Ideal) ((c.tc : Thread Cert.XattnFwdIdeal.nD Cert.XattnFwdIdeal.τ).loc Cert.XattnFwdIdeal.main_v0)),
      θ_run (Cert.XattnFwdIdeal.defs (F := Ideal)) (onTc (τ := Cert.XattnFwdIdeal.τ) (Cert.XattnFwdIdeal.main (F := Ideal))) ⟨m, fun _ => 0, g⟩ (fun r => ∀ c : Dev Cert.XattnFwdIdeal.nD,
          r.2.mem ((c.tc : Thread Cert.XattnFwdIdeal.nD Cert.XattnFwdIdeal.τ).loc Cert.XattnFwdIdeal.main_v0) = v0 c
          ∧ r.2.mem ((c.tc : Thread Cert.XattnFwdIdeal.nD Cert.XattnFwdIdeal.τ).loc Cert.XattnFwdIdeal.main_arg0) = m ((c.tc : Thread Cert.XattnFwdIdeal.nD Cert.XattnFwdIdeal.τ).loc Cert.XattnFwdIdeal.main_arg0)
          ∧ r.2.mem ((c.tc : Thread Cert.XattnFwdIdeal.nD Cert.XattnFwdIdeal.τ).loc Cert.XattnFwdIdeal.main_arg1) = m ((c.tc : Thread Cert.XattnFwdIdeal.nD Cert.XattnFwdIdeal.τ).loc Cert.XattnFwdIdeal.main_arg1))
      ∧ θ_run (Cert.XattnFwdRefIdeal.defs (F := Ideal)) (onTc (τ := Cert.XattnFwdRefIdeal.τ) (Cert.XattnFwdRefIdeal.main (F := Ideal))) ⟨m', fun _ => 0, g'⟩ (fun r => ∀ c : Dev Cert.XattnFwdRefIdeal.nD,
          r.2.mem ((c.tc : Thread Cert.XattnFwdRefIdeal.nD Cert.XattnFwdRefIdeal.τ).loc Cert.XattnFwdRefIdeal.main_v25) = v0 c
          ∧ r.2.mem ((c.tc : Thread Cert.XattnFwdRefIdeal.nD Cert.XattnFwdRefIdeal.τ).loc Cert.XattnFwdRefIdeal.main_arg0) = m' ((c.tc : Thread Cert.XattnFwdRefIdeal.nD Cert.XattnFwdRefIdeal.τ).loc Cert.XattnFwdRefIdeal.main_arg0)
          ∧ r.2.mem ((c.tc : Thread Cert.XattnFwdRefIdeal.nD Cert.XattnFwdRefIdeal.τ).loc Cert.XattnFwdRefIdeal.main_arg1) = m' ((c.tc : Thread Cert.XattnFwdRefIdeal.nD Cert.XattnFwdRefIdeal.τ).loc Cert.XattnFwdRefIdeal.main_arg1))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v24) = v0 c
          ∧ r.2.mem ((c.tc : Thread Cert.AdamInRefIdeal.nD Cert.AdamInRefIdeal.τ).loc Cert.AdamInRefIdeal.main_v5) = v1 c
          ∧ r.2.mem ((c.tc : Thread Cert.AdamInRefIdeal.nD Cert.AdamInRefIdeal.τ).loc Cert.AdamInRefIdeal.main_v11) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v24) = v0 c
          ∧ r.2.mem ((c.tc : Thread Cert.AdamOutRefIdeal.nD Cert.AdamOutRefIdeal.τ).loc Cert.AdamOutRefIdeal.main_v5) = v1 c
          ∧ r.2.mem ((c.tc : Thread Cert.AdamOutRefIdeal.nD Cert.AdamOutRefIdeal.τ).loc Cert.AdamOutRefIdeal.main_v11) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamWin_AdamWinIdeal : Prop :=
  True

def algebraic_AdamWinIdeal_AdamWinRefIdeal [hAdamWinIdeal : Cert.AdamWinIdeal.Facts] [hAdamWinRefIdeal : Cert.AdamWinRefIdeal.Facts] : Prop :=
  ∀ (m : (ℓ : Loc Cert.AdamWinIdeal.nD Cert.AdamWinIdeal.τ Cert.AdamWinIdeal.sig) → Buf (Elt Ideal) ℓ) (g : Dev Cert.AdamWinIdeal.nD → PrngReg)
    (m' : (ℓ : Loc Cert.AdamWinRefIdeal.nD Cert.AdamWinRefIdeal.τ Cert.AdamWinRefIdeal.sig) → Buf (Elt Ideal) ℓ) (g' : Dev Cert.AdamWinRefIdeal.nD → PrngReg), Pre_AdamWinIdeal m →
    (∀ c : Dev Cert.AdamWinIdeal.nD,
      m' ((c.tc : Thread Cert.AdamWinRefIdeal.nD Cert.AdamWinRefIdeal.τ).loc Cert.AdamWinRefIdeal.main_arg0) = m ((c.tc : Thread Cert.AdamWinIdeal.nD Cert.AdamWinIdeal.τ).loc Cert.AdamWinIdeal.main_arg0)
      ∧ m' ((c.tc : Thread Cert.AdamWinRefIdeal.nD Cert.AdamWinRefIdeal.τ).loc Cert.AdamWinRefIdeal.main_arg1) = m ((c.tc : Thread Cert.AdamWinIdeal.nD Cert.AdamWinIdeal.τ).loc Cert.AdamWinIdeal.main_arg1)
      ∧ m' ((c.tc : Thread Cert.AdamWinRefIdeal.nD Cert.AdamWinRefIdeal.τ).loc Cert.AdamWinRefIdeal.main_arg2) = m ((c.tc : Thread Cert.AdamWinIdeal.nD Cert.AdamWinIdeal.τ).loc Cert.AdamWinIdeal.main_arg2)
      ∧ m' ((c.tc : Thread Cert.AdamWinRefIdeal.nD Cert.AdamWinRefIdeal.τ).loc Cert.AdamWinRefIdeal.main_arg3) = m ((c.tc : Thread Cert.AdamWinIdeal.nD Cert.AdamWinIdeal.τ).loc Cert.AdamWinIdeal.main_arg3)) →
    ∃ (v0 : (c : Dev Cert.AdamWinIdeal.nD) → Buf (Elt Ideal) ((c.tc : Thread Cert.AdamWinIdeal.nD Cert.AdamWinIdeal.τ).loc Cert.AdamWinIdeal.main_v0_0)) (v1 : (c : Dev Cert.AdamWinIdeal.nD) → Buf (Elt Ideal) ((c.tc : Thread Cert.AdamWinIdeal.nD Cert.AdamWinIdeal.τ).loc Cert.AdamWinIdeal.main_v0_1)) (v2 : (c : Dev Cert.AdamWinIdeal.nD) → Buf (Elt Ideal) ((c.tc : Thread Cert.AdamWinIdeal.nD Cert.AdamWinIdeal.τ).loc Cert.AdamWinIdeal.main_v0_2)),
      θ_run (Cert.AdamWinIdeal.defs (F := Ideal)) (onTc (τ := Cert.AdamWinIdeal.τ) (Cert.AdamWinIdeal.main (F := Ideal))) ⟨m, fun _ => 0, g⟩ (fun r => ∀ c : Dev Cert.AdamWinIdeal.nD,
          r.2.mem ((c.tc : Thread Cert.AdamWinIdeal.nD Cert.AdamWinIdeal.τ).loc Cert.AdamWinIdeal.main_v0_0) = v0 c
          ∧ r.2.mem ((c.tc : Thread Cert.AdamWinIdeal.nD Cert.AdamWinIdeal.τ).loc Cert.AdamWinIdeal.main_v0_1) = v1 c
          ∧ r.2.mem ((c.tc : Thread Cert.AdamWinIdeal.nD Cert.AdamWinIdeal.τ).loc Cert.AdamWinIdeal.main_v0_2) = v2 c
          ∧ r.2.mem ((c.tc : Thread Cert.AdamWinIdeal.nD Cert.AdamWinIdeal.τ).loc Cert.AdamWinIdeal.main_arg0) = m ((c.tc : Thread Cert.AdamWinIdeal.nD Cert.AdamWinIdeal.τ).loc Cert.AdamWinIdeal.main_arg0)
          ∧ r.2.mem ((c.tc : Thread Cert.AdamWinIdeal.nD Cert.AdamWinIdeal.τ).loc Cert.AdamWinIdeal.main_arg1) = m ((c.tc : Thread Cert.AdamWinIdeal.nD Cert.AdamWinIdeal.τ).loc Cert.AdamWinIdeal.main_arg1)
          ∧ r.2.mem ((c.tc : Thread Cert.AdamWinIdeal.nD Cert.AdamWinIdeal.τ).loc Cert.AdamWinIdeal.main_arg2) = m ((c.tc : Thread Cert.AdamWinIdeal.nD Cert.AdamWinIdeal.τ).loc Cert.AdamWinIdeal.main_arg2)
          ∧ r.2.mem ((c.tc : Thread Cert.AdamWinIdeal.nD Cert.AdamWinIdeal.τ).loc Cert.AdamWinIdeal.main_arg3) = m ((c.tc : Thread Cert.AdamWinIdeal.nD Cert.AdamWinIdeal.τ).loc Cert.AdamWinIdeal.main_arg3))
      ∧ θ_run (Cert.AdamWinRefIdeal.defs (F := Ideal)) (onTc (τ := Cert.AdamWinRefIdeal.τ) (Cert.AdamWinRefIdeal.main (F := Ideal))) ⟨m', fun _ => 0, g'⟩ (fun r => ∀ c : Dev Cert.AdamWinRefIdeal.nD,
          r.2.mem ((c.tc : Thread Cert.AdamWinRefIdeal.nD Cert.AdamWinRefIdeal.τ).loc Cert.AdamWinRefIdeal.main_v23) = v0 c
          ∧ r.2.mem ((c.tc : Thread Cert.AdamWinRefIdeal.nD Cert.AdamWinRefIdeal.τ).loc Cert.AdamWinRefIdeal.main_v4) = v1 c
          ∧ r.2.mem ((c.tc : Thread Cert.AdamWinRefIdeal.nD Cert.AdamWinRefIdeal.τ).loc Cert.AdamWinRefIdeal.main_v10) = v2 c
          ∧ r.2.mem ((c.tc : Thread Cert.AdamWinRefIdeal.nD Cert.AdamWinRefIdeal.τ).loc Cert.AdamWinRefIdeal.main_arg0) = m' ((c.tc : Thread Cert.AdamWinRefIdeal.nD Cert.AdamWinRefIdeal.τ).loc Cert.AdamWinRefIdeal.main_arg0)
          ∧ r.2.mem ((c.tc : Thread Cert.AdamWinRefIdeal.nD Cert.AdamWinRefIdeal.τ).loc Cert.AdamWinRefIdeal.main_arg1) = m' ((c.tc : Thread Cert.AdamWinRefIdeal.nD Cert.AdamWinRefIdeal.τ).loc Cert.AdamWinRefIdeal.main_arg1)
          ∧ r.2.mem ((c.tc : Thread Cert.AdamWinRefIdeal.nD Cert.AdamWinRefIdeal.τ).loc Cert.AdamWinRefIdeal.main_arg2) = m' ((c.tc : Thread Cert.AdamWinRefIdeal.nD Cert.AdamWinRefIdeal.τ).loc Cert.AdamWinRefIdeal.main_arg2)
          ∧ r.2.mem ((c.tc : Thread Cert.AdamWinRefIdeal.nD Cert.AdamWinRefIdeal.τ).loc Cert.AdamWinRefIdeal.main_arg3) = m' ((c.tc : Thread Cert.AdamWinRefIdeal.nD Cert.AdamWinRefIdeal.τ).loc Cert.AdamWinRefIdeal.main_arg3))

def preserves_AdamSq_AdamSqIdeal : Prop :=
  True

def algebraic_AdamSqIdeal_AdamSqRefIdeal [hAdamSqIdeal : Cert.AdamSqIdeal.Facts] [hAdamSqRefIdeal : Cert.AdamSqRefIdeal.Facts] : Prop :=
  ∀ (m : (ℓ : Loc Cert.AdamSqIdeal.nD Cert.AdamSqIdeal.τ Cert.AdamSqIdeal.sig) → Buf (Elt Ideal) ℓ) (g : Dev Cert.AdamSqIdeal.nD → PrngReg)
    (m' : (ℓ : Loc Cert.AdamSqRefIdeal.nD Cert.AdamSqRefIdeal.τ Cert.AdamSqRefIdeal.sig) → Buf (Elt Ideal) ℓ) (g' : Dev Cert.AdamSqRefIdeal.nD → PrngReg), Pre_AdamSqIdeal m →
    (∀ c : Dev Cert.AdamSqIdeal.nD,
      m' ((c.tc : Thread Cert.AdamSqRefIdeal.nD Cert.AdamSqRefIdeal.τ).loc Cert.AdamSqRefIdeal.main_arg0) = m ((c.tc : Thread Cert.AdamSqIdeal.nD Cert.AdamSqIdeal.τ).loc Cert.AdamSqIdeal.main_arg0)
      ∧ m' ((c.tc : Thread Cert.AdamSqRefIdeal.nD Cert.AdamSqRefIdeal.τ).loc Cert.AdamSqRefIdeal.main_arg1) = m ((c.tc : Thread Cert.AdamSqIdeal.nD Cert.AdamSqIdeal.τ).loc Cert.AdamSqIdeal.main_arg1)
      ∧ m' ((c.tc : Thread Cert.AdamSqRefIdeal.nD Cert.AdamSqRefIdeal.τ).loc Cert.AdamSqRefIdeal.main_arg2) = m ((c.tc : Thread Cert.AdamSqIdeal.nD Cert.AdamSqIdeal.τ).loc Cert.AdamSqIdeal.main_arg2)
      ∧ m' ((c.tc : Thread Cert.AdamSqRefIdeal.nD Cert.AdamSqRefIdeal.τ).loc Cert.AdamSqRefIdeal.main_arg3) = m ((c.tc : Thread Cert.AdamSqIdeal.nD Cert.AdamSqIdeal.τ).loc Cert.AdamSqIdeal.main_arg3)) →
    ∃ (v0 : (c : Dev Cert.AdamSqIdeal.nD) → Buf (Elt Ideal) ((c.tc : Thread Cert.AdamSqIdeal.nD Cert.AdamSqIdeal.τ).loc Cert.AdamSqIdeal.main_v0_0)) (v1 : (c : Dev Cert.AdamSqIdeal.nD) → Buf (Elt Ideal) ((c.tc : Thread Cert.AdamSqIdeal.nD Cert.AdamSqIdeal.τ).loc Cert.AdamSqIdeal.main_v0_1)) (v2 : (c : Dev Cert.AdamSqIdeal.nD) → Buf (Elt Ideal) ((c.tc : Thread Cert.AdamSqIdeal.nD Cert.AdamSqIdeal.τ).loc Cert.AdamSqIdeal.main_v0_2)),
      θ_run (Cert.AdamSqIdeal.defs (F := Ideal)) (onTc (τ := Cert.AdamSqIdeal.τ) (Cert.AdamSqIdeal.main (F := Ideal))) ⟨m, fun _ => 0, g⟩ (fun r => ∀ c : Dev Cert.AdamSqIdeal.nD,
          r.2.mem ((c.tc : Thread Cert.AdamSqIdeal.nD Cert.AdamSqIdeal.τ).loc Cert.AdamSqIdeal.main_v0_0) = v0 c
          ∧ r.2.mem ((c.tc : Thread Cert.AdamSqIdeal.nD Cert.AdamSqIdeal.τ).loc Cert.AdamSqIdeal.main_v0_1) = v1 c
          ∧ r.2.mem ((c.tc : Thread Cert.AdamSqIdeal.nD Cert.AdamSqIdeal.τ).loc Cert.AdamSqIdeal.main_v0_2) = v2 c
          ∧ r.2.mem ((c.tc : Thread Cert.AdamSqIdeal.nD Cert.AdamSqIdeal.τ).loc Cert.AdamSqIdeal.main_arg0) = m ((c.tc : Thread Cert.AdamSqIdeal.nD Cert.AdamSqIdeal.τ).loc Cert.AdamSqIdeal.main_arg0)
          ∧ r.2.mem ((c.tc : Thread Cert.AdamSqIdeal.nD Cert.AdamSqIdeal.τ).loc Cert.AdamSqIdeal.main_arg1) = m ((c.tc : Thread Cert.AdamSqIdeal.nD Cert.AdamSqIdeal.τ).loc Cert.AdamSqIdeal.main_arg1)
          ∧ r.2.mem ((c.tc : Thread Cert.AdamSqIdeal.nD Cert.AdamSqIdeal.τ).loc Cert.AdamSqIdeal.main_arg2) = m ((c.tc : Thread Cert.AdamSqIdeal.nD Cert.AdamSqIdeal.τ).loc Cert.AdamSqIdeal.main_arg2)
          ∧ r.2.mem ((c.tc : Thread Cert.AdamSqIdeal.nD Cert.AdamSqIdeal.τ).loc Cert.AdamSqIdeal.main_arg3) = m ((c.tc : Thread Cert.AdamSqIdeal.nD Cert.AdamSqIdeal.τ).loc Cert.AdamSqIdeal.main_arg3))
      ∧ θ_run (Cert.AdamSqRefIdeal.defs (F := Ideal)) (onTc (τ := Cert.AdamSqRefIdeal.τ) (Cert.AdamSqRefIdeal.main (F := Ideal))) ⟨m', fun _ => 0, g'⟩ (fun r => ∀ c : Dev Cert.AdamSqRefIdeal.nD,
          r.2.mem ((c.tc : Thread Cert.AdamSqRefIdeal.nD Cert.AdamSqRefIdeal.τ).loc Cert.AdamSqRefIdeal.main_v24) = v0 c
          ∧ r.2.mem ((c.tc : Thread Cert.AdamSqRefIdeal.nD Cert.AdamSqRefIdeal.τ).loc Cert.AdamSqRefIdeal.main_v5) = v1 c
          ∧ r.2.mem ((c.tc : Thread Cert.AdamSqRefIdeal.nD Cert.AdamSqRefIdeal.τ).loc Cert.AdamSqRefIdeal.main_v11) = v2 c
          ∧ r.2.mem ((c.tc : Thread Cert.AdamSqRefIdeal.nD Cert.AdamSqRefIdeal.τ).loc Cert.AdamSqRefIdeal.main_arg0) = m' ((c.tc : Thread Cert.AdamSqRefIdeal.nD Cert.AdamSqRefIdeal.τ).loc Cert.AdamSqRefIdeal.main_arg0)
          ∧ r.2.mem ((c.tc : Thread Cert.AdamSqRefIdeal.nD Cert.AdamSqRefIdeal.τ).loc Cert.AdamSqRefIdeal.main_arg1) = m' ((c.tc : Thread Cert.AdamSqRefIdeal.nD Cert.AdamSqRefIdeal.τ).loc Cert.AdamSqRefIdeal.main_arg1)
          ∧ r.2.mem ((c.tc : Thread Cert.AdamSqRefIdeal.nD Cert.AdamSqRefIdeal.τ).loc Cert.AdamSqRefIdeal.main_arg2) = m' ((c.tc : Thread Cert.AdamSqRefIdeal.nD Cert.AdamSqRefIdeal.τ).loc Cert.AdamSqRefIdeal.main_arg2)
          ∧ r.2.mem ((c.tc : Thread Cert.AdamSqRefIdeal.nD Cert.AdamSqRefIdeal.τ).loc Cert.AdamSqRefIdeal.main_arg3) = m' ((c.tc : Thread Cert.AdamSqRefIdeal.nD Cert.AdamSqRefIdeal.τ).loc Cert.AdamSqRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v24) = v0 c
          ∧ r.2.mem ((c.tc : Thread Cert.AdamUpRefIdeal.nD Cert.AdamUpRefIdeal.τ).loc Cert.AdamUpRefIdeal.main_v5) = v1 c
          ∧ r.2.mem ((c.tc : Thread Cert.AdamUpRefIdeal.nD Cert.AdamUpRefIdeal.τ).loc Cert.AdamUpRefIdeal.main_v11) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def Claim : Prop :=
  ∃ (hKernel : Cert.Kernel.Facts) (hKernelIdeal : Cert.KernelIdeal.Facts) (hReferenceIdeal : Cert.ReferenceIdeal.Facts) (hOutDw : Cert.OutDw.Facts) (hOutDwIdeal : Cert.OutDwIdeal.Facts) (hOutDwRefIdeal : Cert.OutDwRefIdeal.Facts) (hOutDx : Cert.OutDx.Facts) (hOutDxIdeal : Cert.OutDxIdeal.Facts) (hOutDxRefIdeal : Cert.OutDxRefIdeal.Facts) (hInDw : Cert.InDw.Facts) (hInDwIdeal : Cert.InDwIdeal.Facts) (hInDwRefIdeal : Cert.InDwRefIdeal.Facts) (hInDx1 : Cert.InDx1.Facts) (hInDx1Ideal : Cert.InDx1Ideal.Facts) (hInDx1RefIdeal : Cert.InDx1RefIdeal.Facts) (hInDx2 : Cert.InDx2.Facts) (hInDx2Ideal : Cert.InDx2Ideal.Facts) (hInDx2RefIdeal : Cert.InDx2RefIdeal.Facts) (hTailBwd : Cert.TailBwd.Facts) (hTailBwdIdeal : Cert.TailBwdIdeal.Facts) (hTailBwdRefIdeal : Cert.TailBwdRefIdeal.Facts) (hMixDx : Cert.MixDx.Facts) (hMixDxIdeal : Cert.MixDxIdeal.Facts) (hMixDxRefIdeal : Cert.MixDxRefIdeal.Facts) (hGlaDw : Cert.GlaDw.Facts) (hGlaDwIdeal : Cert.GlaDwIdeal.Facts) (hGlaDwRefIdeal : Cert.GlaDwRefIdeal.Facts) (hPxDw : Cert.PxDw.Facts) (hPxDwIdeal : Cert.PxDwIdeal.Facts) (hPxDwRefIdeal : Cert.PxDwRefIdeal.Facts) (hGatesDw : Cert.GatesDw.Facts) (hGatesDwIdeal : Cert.GatesDwIdeal.Facts) (hGatesDwRefIdeal : Cert.GatesDwRefIdeal.Facts) (hWoDw : Cert.WoDw.Facts) (hWoDwIdeal : Cert.WoDwIdeal.Facts) (hWoDwRefIdeal : Cert.WoDwRefIdeal.Facts) (hUpDw : Cert.UpDw.Facts) (hUpDwIdeal : Cert.UpDwIdeal.Facts) (hUpDwRefIdeal : Cert.UpDwRefIdeal.Facts) (hFfnIn : Cert.FfnIn.Facts) (hFfnInIdeal : Cert.FfnInIdeal.Facts) (hFfnInRefIdeal : Cert.FfnInRefIdeal.Facts) (hMemDw : Cert.MemDw.Facts) (hMemDwIdeal : Cert.MemDwIdeal.Facts) (hMemDwRefIdeal : Cert.MemDwRefIdeal.Facts) (hMemDx : Cert.MemDx.Facts) (hMemDxIdeal : Cert.MemDxIdeal.Facts) (hMemDxRefIdeal : Cert.MemDxRefIdeal.Facts) (hMemNorm : Cert.MemNorm.Facts) (hMemNormIdeal : Cert.MemNormIdeal.Facts) (hMemNormRefIdeal : Cert.MemNormRefIdeal.Facts) (hMixIn : Cert.MixIn.Facts) (hMixInIdeal : Cert.MixInIdeal.Facts) (hMixInRefIdeal : Cert.MixInRefIdeal.Facts) (hFfnOut : Cert.FfnOut.Facts) (hFfnOutIdeal : Cert.FfnOutIdeal.Facts) (hFfnOutRefIdeal : Cert.FfnOutRefIdeal.Facts) (hOutLoss : Cert.OutLoss.Facts) (hOutLossIdeal : Cert.OutLossIdeal.Facts) (hOutLossRefIdeal : Cert.OutLossRefIdeal.Facts) (hTailFwd : Cert.TailFwd.Facts) (hTailFwdIdeal : Cert.TailFwdIdeal.Facts) (hTailFwdRefIdeal : Cert.TailFwdRefIdeal.Facts) (hNormFwd : Cert.NormFwd.Facts) (hNormFwdIdeal : Cert.NormFwdIdeal.Facts) (hNormFwdRefIdeal : Cert.NormFwdRefIdeal.Facts) (hMemNormFwd : Cert.MemNormFwd.Facts) (hMemNormFwdIdeal : Cert.MemNormFwdIdeal.Facts) (hMemNormFwdRefIdeal : Cert.MemNormFwdRefIdeal.Facts) (hMemKv : Cert.MemKv.Facts) (hMemKvIdeal : Cert.MemKvIdeal.Facts) (hMemKvRefIdeal : Cert.MemKvRefIdeal.Facts) (hXattnFwd : Cert.XattnFwd.Facts) (hXattnFwdIdeal : Cert.XattnFwdIdeal.Facts) (hXattnFwdRefIdeal : Cert.XattnFwdRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamWin : Cert.AdamWin.Facts) (hAdamWinIdeal : Cert.AdamWinIdeal.Facts) (hAdamWinRefIdeal : Cert.AdamWinRefIdeal.Facts) (hAdamSq : Cert.AdamSq.Facts) (hAdamSqIdeal : Cert.AdamSqIdeal.Facts) (hAdamSqRefIdeal : Cert.AdamSqRefIdeal.Facts) (hAdamUp : Cert.AdamUp.Facts) (hAdamUpIdeal : Cert.AdamUpIdeal.Facts) (hAdamUpRefIdeal : Cert.AdamUpRefIdeal.Facts) (hPre_finite_scores : Cert.Pre_finite_scores.Facts) (hPre_finite_gate : Cert.Pre_finite_gate.Facts) (hPre_finite_queries_keys : Cert.Pre_finite_queries_keys.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_OutDx (hOutDx := hOutDx)
    ∧ quiescent_OutDxIdeal (hOutDxIdeal := hOutDxIdeal)
    ∧ quiescent_OutDxIdeal_pre_finite_gate (hOutDxIdeal := hOutDxIdeal) (hPre_finite_gate := hPre_finite_gate)
    ∧ quiescent_OutDxRefIdeal (hOutDxRefIdeal := hOutDxRefIdeal)
    ∧ quiescent_OutDxRefIdeal_pre_finite_gate (hOutDxRefIdeal := hOutDxRefIdeal) (hPre_finite_gate := hPre_finite_gate)
    ∧ quiescent_InDw (hInDw := hInDw)
    ∧ quiescent_InDwIdeal (hInDwIdeal := hInDwIdeal)
    ∧ quiescent_InDwRefIdeal (hInDwRefIdeal := hInDwRefIdeal)
    ∧ quiescent_InDx1 (hInDx1 := hInDx1)
    ∧ quiescent_InDx1Ideal (hInDx1Ideal := hInDx1Ideal)
    ∧ quiescent_InDx1RefIdeal (hInDx1RefIdeal := hInDx1RefIdeal)
    ∧ quiescent_InDx2 (hInDx2 := hInDx2)
    ∧ quiescent_InDx2Ideal (hInDx2Ideal := hInDx2Ideal)
    ∧ quiescent_InDx2RefIdeal (hInDx2RefIdeal := hInDx2RefIdeal)
    ∧ quiescent_TailBwd (hTailBwd := hTailBwd)
    ∧ quiescent_TailBwdIdeal (hTailBwdIdeal := hTailBwdIdeal)
    ∧ quiescent_TailBwdRefIdeal (hTailBwdRefIdeal := hTailBwdRefIdeal)
    ∧ quiescent_MixDx (hMixDx := hMixDx)
    ∧ quiescent_MixDxIdeal (hMixDxIdeal := hMixDxIdeal)
    ∧ quiescent_MixDxRefIdeal (hMixDxRefIdeal := hMixDxRefIdeal)
    ∧ quiescent_GlaDw (hGlaDw := hGlaDw)
    ∧ quiescent_GlaDwIdeal (hGlaDwIdeal := hGlaDwIdeal)
    ∧ quiescent_GlaDwRefIdeal (hGlaDwRefIdeal := hGlaDwRefIdeal)
    ∧ quiescent_PxDw (hPxDw := hPxDw)
    ∧ quiescent_PxDwIdeal (hPxDwIdeal := hPxDwIdeal)
    ∧ quiescent_PxDwRefIdeal (hPxDwRefIdeal := hPxDwRefIdeal)
    ∧ quiescent_GatesDw (hGatesDw := hGatesDw)
    ∧ quiescent_GatesDwIdeal (hGatesDwIdeal := hGatesDwIdeal)
    ∧ quiescent_GatesDwRefIdeal (hGatesDwRefIdeal := hGatesDwRefIdeal)
    ∧ quiescent_WoDw (hWoDw := hWoDw)
    ∧ quiescent_WoDwIdeal (hWoDwIdeal := hWoDwIdeal)
    ∧ quiescent_WoDwRefIdeal (hWoDwRefIdeal := hWoDwRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_MemDw (hMemDw := hMemDw)
    ∧ quiescent_MemDwIdeal (hMemDwIdeal := hMemDwIdeal)
    ∧ quiescent_MemDwRefIdeal (hMemDwRefIdeal := hMemDwRefIdeal)
    ∧ quiescent_MemDx (hMemDx := hMemDx)
    ∧ quiescent_MemDxIdeal (hMemDxIdeal := hMemDxIdeal)
    ∧ quiescent_MemDxRefIdeal (hMemDxRefIdeal := hMemDxRefIdeal)
    ∧ quiescent_MemNorm (hMemNorm := hMemNorm)
    ∧ quiescent_MemNormIdeal (hMemNormIdeal := hMemNormIdeal)
    ∧ quiescent_MemNormRefIdeal (hMemNormRefIdeal := hMemNormRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_OutLoss (hOutLoss := hOutLoss)
    ∧ quiescent_OutLossIdeal (hOutLossIdeal := hOutLossIdeal)
    ∧ quiescent_OutLossRefIdeal (hOutLossRefIdeal := hOutLossRefIdeal)
    ∧ quiescent_TailFwd (hTailFwd := hTailFwd)
    ∧ quiescent_TailFwdIdeal (hTailFwdIdeal := hTailFwdIdeal)
    ∧ quiescent_TailFwdRefIdeal (hTailFwdRefIdeal := hTailFwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_MemNormFwd (hMemNormFwd := hMemNormFwd)
    ∧ quiescent_MemNormFwdIdeal (hMemNormFwdIdeal := hMemNormFwdIdeal)
    ∧ quiescent_MemNormFwdRefIdeal (hMemNormFwdRefIdeal := hMemNormFwdRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_XattnFwd (hXattnFwd := hXattnFwd)
    ∧ quiescent_XattnFwdIdeal (hXattnFwdIdeal := hXattnFwdIdeal)
    ∧ quiescent_XattnFwdIdeal_pre_finite_queries_keys (hXattnFwdIdeal := hXattnFwdIdeal) (hPre_finite_queries_keys := hPre_finite_queries_keys)
    ∧ quiescent_XattnFwdRefIdeal (hXattnFwdRefIdeal := hXattnFwdRefIdeal)
    ∧ quiescent_XattnFwdRefIdeal_pre_finite_queries_keys (hXattnFwdRefIdeal := hXattnFwdRefIdeal) (hPre_finite_queries_keys := hPre_finite_queries_keys)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamWin (hAdamWin := hAdamWin)
    ∧ quiescent_AdamWinIdeal (hAdamWinIdeal := hAdamWinIdeal)
    ∧ quiescent_AdamWinRefIdeal (hAdamWinRefIdeal := hAdamWinRefIdeal)
    ∧ quiescent_AdamSq (hAdamSq := hAdamSq)
    ∧ quiescent_AdamSqIdeal (hAdamSqIdeal := hAdamSqIdeal)
    ∧ quiescent_AdamSqRefIdeal (hAdamSqRefIdeal := hAdamSqRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_OutDw_OutDwIdeal
    ∧ algebraic_OutDwIdeal_OutDwRefIdeal (hOutDwIdeal := hOutDwIdeal) (hOutDwRefIdeal := hOutDwRefIdeal)
    ∧ preserves_OutDx_OutDxIdeal
    ∧ algebraic_OutDxIdeal_OutDxRefIdeal_pre_finite_gate (hOutDxIdeal := hOutDxIdeal) (hOutDxRefIdeal := hOutDxRefIdeal) (hPre_finite_gate := hPre_finite_gate)
    ∧ preserves_InDw_InDwIdeal
    ∧ algebraic_InDwIdeal_InDwRefIdeal (hInDwIdeal := hInDwIdeal) (hInDwRefIdeal := hInDwRefIdeal)
    ∧ preserves_InDx1_InDx1Ideal
    ∧ algebraic_InDx1Ideal_InDx1RefIdeal (hInDx1Ideal := hInDx1Ideal) (hInDx1RefIdeal := hInDx1RefIdeal)
    ∧ preserves_InDx2_InDx2Ideal
    ∧ algebraic_InDx2Ideal_InDx2RefIdeal (hInDx2Ideal := hInDx2Ideal) (hInDx2RefIdeal := hInDx2RefIdeal)
    ∧ preserves_TailBwd_TailBwdIdeal
    ∧ algebraic_TailBwdIdeal_TailBwdRefIdeal (hTailBwdIdeal := hTailBwdIdeal) (hTailBwdRefIdeal := hTailBwdRefIdeal)
    ∧ preserves_MixDx_MixDxIdeal
    ∧ algebraic_MixDxIdeal_MixDxRefIdeal (hMixDxIdeal := hMixDxIdeal) (hMixDxRefIdeal := hMixDxRefIdeal)
    ∧ preserves_GlaDw_GlaDwIdeal
    ∧ algebraic_GlaDwIdeal_GlaDwRefIdeal (hGlaDwIdeal := hGlaDwIdeal) (hGlaDwRefIdeal := hGlaDwRefIdeal)
    ∧ preserves_PxDw_PxDwIdeal
    ∧ algebraic_PxDwIdeal_PxDwRefIdeal (hPxDwIdeal := hPxDwIdeal) (hPxDwRefIdeal := hPxDwRefIdeal)
    ∧ preserves_GatesDw_GatesDwIdeal
    ∧ algebraic_GatesDwIdeal_GatesDwRefIdeal (hGatesDwIdeal := hGatesDwIdeal) (hGatesDwRefIdeal := hGatesDwRefIdeal)
    ∧ preserves_WoDw_WoDwIdeal
    ∧ algebraic_WoDwIdeal_WoDwRefIdeal (hWoDwIdeal := hWoDwIdeal) (hWoDwRefIdeal := hWoDwRefIdeal)
    ∧ preserves_UpDw_UpDwIdeal
    ∧ algebraic_UpDwIdeal_UpDwRefIdeal (hUpDwIdeal := hUpDwIdeal) (hUpDwRefIdeal := hUpDwRefIdeal)
    ∧ preserves_FfnIn_FfnInIdeal
    ∧ algebraic_FfnInIdeal_FfnInRefIdeal (hFfnInIdeal := hFfnInIdeal) (hFfnInRefIdeal := hFfnInRefIdeal)
    ∧ preserves_MemDw_MemDwIdeal
    ∧ algebraic_MemDwIdeal_MemDwRefIdeal (hMemDwIdeal := hMemDwIdeal) (hMemDwRefIdeal := hMemDwRefIdeal)
    ∧ preserves_MemDx_MemDxIdeal
    ∧ algebraic_MemDxIdeal_MemDxRefIdeal (hMemDxIdeal := hMemDxIdeal) (hMemDxRefIdeal := hMemDxRefIdeal)
    ∧ preserves_MemNorm_MemNormIdeal
    ∧ algebraic_MemNormIdeal_MemNormRefIdeal (hMemNormIdeal := hMemNormIdeal) (hMemNormRefIdeal := hMemNormRefIdeal)
    ∧ preserves_MixIn_MixInIdeal
    ∧ algebraic_MixInIdeal_MixInRefIdeal (hMixInIdeal := hMixInIdeal) (hMixInRefIdeal := hMixInRefIdeal)
    ∧ preserves_FfnOut_FfnOutIdeal
    ∧ algebraic_FfnOutIdeal_FfnOutRefIdeal (hFfnOutIdeal := hFfnOutIdeal) (hFfnOutRefIdeal := hFfnOutRefIdeal)
    ∧ preserves_OutLoss_OutLossIdeal
    ∧ algebraic_OutLossIdeal_OutLossRefIdeal (hOutLossIdeal := hOutLossIdeal) (hOutLossRefIdeal := hOutLossRefIdeal)
    ∧ preserves_TailFwd_TailFwdIdeal
    ∧ algebraic_TailFwdIdeal_TailFwdRefIdeal (hTailFwdIdeal := hTailFwdIdeal) (hTailFwdRefIdeal := hTailFwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_MemNormFwd_MemNormFwdIdeal
    ∧ algebraic_MemNormFwdIdeal_MemNormFwdRefIdeal (hMemNormFwdIdeal := hMemNormFwdIdeal) (hMemNormFwdRefIdeal := hMemNormFwdRefIdeal)
    ∧ preserves_MemKv_MemKvIdeal
    ∧ algebraic_MemKvIdeal_MemKvRefIdeal (hMemKvIdeal := hMemKvIdeal) (hMemKvRefIdeal := hMemKvRefIdeal)
    ∧ preserves_XattnFwd_XattnFwdIdeal
    ∧ algebraic_XattnFwdIdeal_XattnFwdRefIdeal_pre_finite_queries_keys (hXattnFwdIdeal := hXattnFwdIdeal) (hXattnFwdRefIdeal := hXattnFwdRefIdeal) (hPre_finite_queries_keys := hPre_finite_queries_keys)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamWin_AdamWinIdeal
    ∧ algebraic_AdamWinIdeal_AdamWinRefIdeal (hAdamWinIdeal := hAdamWinIdeal) (hAdamWinRefIdeal := hAdamWinRefIdeal)
    ∧ preserves_AdamSq_AdamSqIdeal
    ∧ algebraic_AdamSqIdeal_AdamSqRefIdeal (hAdamSqIdeal := hAdamSqIdeal) (hAdamSqRefIdeal := hAdamSqRefIdeal)
    ∧ preserves_AdamUp_AdamUpIdeal
    ∧ algebraic_AdamUpIdeal_AdamUpRefIdeal (hAdamUpIdeal := hAdamUpIdeal) (hAdamUpRefIdeal := hAdamUpRefIdeal)
-- ==== Pre_finite_gate.lean ====
abbrev S4096x1024 : Shape := ⟨2, ![4096, 1024]⟩
abbrev S2816x1024 : Shape := ⟨2, ![2816, 1024]⟩
abbrev S2x2x4096x1408 : Shape := ⟨4, ![2, 2, 4096, 1408]⟩
abbrev S_ : Shape := ⟨0, ![]⟩
abbrev S1x2x4096x1408 : Shape := ⟨4, ![1, 2, 4096, 1408]⟩
abbrev S2x4096x1408 : Shape := ⟨3, ![2, 4096, 1408]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  slices_S2x2x4096x1408_S1x2x4096x1408_1_0_0_0 : S2x2x4096x1408.Slices ![1, 0, 0, 0] S1x2x4096x1408
  shapeCasts_S1x2x4096x1408_S2x4096x1408 : S1x2x4096x1408.ShapeCasts S2x4096x1408
  bcast_S_S2x4096x1408 : S_.BroadcastsInDim S2x4096x1408 (![] : Fin 0 → Fin S2x4096x1408.rank)
  reducesTo_S2x4096x1408_S_d0_1_2 : S2x4096x1408.ReducesTo [0, 1, 2] S_

variable [Facts]

def fn_part1 {F : FTy → Type} [FloatOps F] (main_v10 : IVec S_ 1) (main_v17 : IVec S_ 1) : IVec S_ 1 :=
  let main_v18 : IVec S_ 1 := andi main_v10 main_v17
  main_v18

def fn {F : FTy → Type} [FloatOps F] (main_arg0 : FVec F S4096x1024 .bf16) (main_arg1 : FVec F S2816x1024 .bf16) (main_arg2 : FVec F S2x2x4096x1408 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S1x2x4096x1408 .bf16 := (extractStridedSlice S1x2x4096x1408 ![1, 0, 0, 0] · slices_S2x2x4096x1408_S1x2x4096x1408_1_0_0_0) main_arg2
  let main_v12 : FVec F S2x4096x1408 .bf16 := shapeCast S2x4096x1408 main_v11 shapeCasts_S1x2x4096x1408_S2x4096x1408
  let main_v13 : FVec F S2x4096x1408 .f32 := (extf .f32 · bitsLt_bf16_f32) main_v12
  let main_v14 : FVec F S2x4096x1408 .f32 := Host.absf main_v13
  let main_cst_2 : FVec F S_ .f32 := constant S_ .f32 0x7F800000#32
  let main_v15 : FVec F S2x4096x1408 .f32 := broadcastInDim S2x4096x1408 ![] bcast_S_S2x4096x1408 main_cst_2
  let main_v16 : IVec S2x4096x1408 1 := cmpf .olt main_v14 main_v15
  let main_c_3 : IVec S_ 1 := constantI S_ 1 1#1
  let main_v17 : IVec S_ 1 := (fun x v => Host.reduce IntOp.andi x v reducesTo_S2x4096x1408_S_d0_1_2 h_S_) main_v16 main_c_3
  fn_part1 (F := F) main_v10 main_v17
-- ==== Pre_finite_queries_keys.lean ====
abbrev S4096x1024 : Shape := ⟨2, ![4096, 1024]⟩
abbrev S256x1024 : Shape := ⟨2, ![256, 1024]⟩
abbrev S4096x512 : Shape := ⟨2, ![4096, 512]⟩
abbrev S256x512 : Shape := ⟨2, ![256, 512]⟩
abbrev S_ : Shape := ⟨0, ![]⟩

class Facts : Prop where
  slices_S4096x1024_S4096x512_0_512 : S4096x1024.Slices ![0, 512] S4096x512
  bitsLt_bf16_f32 : FTy.bits .bf16 < FTy.bits .f32
  slices_S256x1024_S256x512_0_0 : S256x1024.Slices ![0, 0] S256x512
  bcast_S_S4096x512 : S_.BroadcastsInDim S4096x512 (![] : Fin 0 → Fin S4096x512.rank)
  reducesTo_S4096x512_S_d0_1 : S4096x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S4096x1024 .bf16) (main_arg1 : FVec F S256x1024 .bf16) : IVec S_ 1 :=
  let main_v0 : FVec F S4096x512 .bf16 := (extractStridedSlice S4096x512 ![0, 512] · slices_S4096x1024_S4096x512_0_512) main_arg0
  let main_v1 : FVec F S4096x512 .f32 := (extf .f32 · bitsLt_bf16_f32) main_v0
  let main_v2 : FVec F S4096x512 .f32 := Host.absf main_v1
  let main_v3 : FVec F S256x512 .bf16 := (extractStridedSlice S256x512 ![0, 0] · slices_S256x1024_S256x512_0_0) main_arg1
  let main_v4 : FVec F S256x512 .f32 := (extf .f32 · bitsLt_bf16_f32) main_v3
  let main_v5 : FVec F S256x512 .f32 := Host.absf main_v4
  let main_cst : FVec F S_ .f32 := constant S_ .f32 0x7F800000#32
  let main_v6 : FVec F S4096x512 .f32 := broadcastInDim S4096x512 ![] bcast_S_S4096x512 main_cst
  let main_v7 : IVec S4096x512 1 := cmpf .olt main_v2 main_v6
  let main_c : IVec S_ 1 := constantI S_ 1 1#1
  let main_v8 : IVec S_ 1 := (fun x v => Host.reduce IntOp.andi x v reducesTo_S4096x512_S_d0_1 h_S_) main_v7 main_c
  let main_cst_0 : FVec F S_ .f32 := constant S_ .f32 0x7F800000#32
  let main_v9 : FVec F S256x512 .f32 := broadcastInDim S256x512 ![] bcast_S_S256x512 main_cst_0
  let main_v10 : IVec S256x512 1 := cmpf .olt main_v5 main_v9
  let main_c_1 : IVec S_ 1 := constantI S_ 1 1#1
  let main_v11 : IVec S_ 1 := (fun x v => Host.reduce IntOp.andi x v reducesTo_S256x512_S_d0_1 h_S_) main_v10 main_c_1
  let main_v12 : IVec S_ 1 := andi main_v8 main_v11
  main_v12
-- ==== Pre_finite_scores.lean ====
abbrev S4096x512 : Shape := ⟨2, ![4096, 512]⟩
abbrev S4096x1024 : Shape := ⟨2, ![4096, 1024]⟩
abbrev S256x1024 : Shape := ⟨2, ![256, 1024]⟩
abbrev S256x512 : Shape := ⟨2, ![256, 512]⟩
abbrev S_ : Shape := ⟨0, ![]⟩

class Facts : Prop where
  slices_S4096x1024_S4096x512_0_512 : S4096x1024.Slices ![0, 512] S4096x512
  bitsLt_bf16_f32 : FTy.bits .bf16 < FTy.bits .f32
  slices_S256x1024_S256x512_0_0 : S256x1024.Slices ![0, 0] S256x512
  bcast_S_S4096x512 : S_.BroadcastsInDim S4096x512 (![] : Fin 0 → Fin S4096x512.rank)
  reducesTo_S4096x512_S_d0_1 : S4096x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S4096x512 .bf16) (main_arg1 : FVec F S4096x1024 .bf16) (main_arg2 : FVec F S256x1024 .bf16) : IVec S_ 1 :=
  let main_v0 : FVec F S4096x512 .bf16 := (extractStridedSlice S4096x512 ![0, 512] · slices_S4096x1024_S4096x512_0_512) main_arg1
  let main_v1 : FVec F S4096x512 .f32 := (extf .f32 · bitsLt_bf16_f32) main_v0
  let main_v2 : FVec F S4096x512 .f32 := Host.absf main_v1
  let main_v3 : FVec F S256x512 .bf16 := (extractStridedSlice S256x512 ![0, 0] · slices_S256x1024_S256x512_0_0) main_arg2
  let main_v4 : FVec F S256x512 .f32 := (extf .f32 · bitsLt_bf16_f32) main_v3
  let main_v5 : FVec F S256x512 .f32 := Host.absf main_v4
  let main_cst : FVec F S_ .f32 := constant S_ .f32 0x7F800000#32
  let main_v6 : FVec F S4096x512 .f32 := broadcastInDim S4096x512 ![] bcast_S_S4096x512 main_cst
  let main_v7 : IVec S4096x512 1 := cmpf .olt main_v2 main_v6
  let main_c : IVec S_ 1 := constantI S_ 1 1#1
  let main_v8 : IVec S_ 1 := (fun x v => Host.reduce IntOp.andi x v reducesTo_S4096x512_S_d0_1 h_S_) main_v7 main_c
  let main_cst_0 : FVec F S_ .f32 := constant S_ .f32 0x7F800000#32
  let main_v9 : FVec F S256x512 .f32 := broadcastInDim S256x512 ![] bcast_S_S256x512 main_cst_0
  let main_v10 : IVec S256x512 1 := cmpf .olt main_v5 main_v9
  let main_c_1 : IVec S_ 1 := constantI S_ 1 1#1
  let main_v11 : IVec S_ 1 := (fun x v => Host.reduce IntOp.andi x v reducesTo_S256x512_S_d0_1 h_S_) main_v10 main_c_1
  let main_v12 : IVec S_ 1 := andi main_v8 main_v11
  main_v12
-- ==== Kernel.lean ====
abbrev S4096x512 : Shape := ⟨2, ![4096, 512]⟩
abbrev S4096x1024 : Shape := ⟨2, ![4096, 1024]⟩
abbrev S256x1024 : Shape := ⟨2, ![256, 1024]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S256x1024, .bf16⟩
  | .hbm, ⟨3, _⟩ => ⟨S4096x512, .bf16⟩
  | .hbm, ⟨4, _⟩ => ⟨S256x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S256x1024, .bf16⟩
  | .local _ .vmem, ⟨5, _⟩ => ⟨S512x512, .bf16⟩
  | .local _ .vmem, ⟨6, _⟩ => ⟨S512x512, .bf16⟩
  | .local _ .vmem, ⟨7, _⟩ => ⟨S256x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096x512 : Shape := ⟨2, ![4096, 512]⟩
abbrev S4096x1024 : Shape := ⟨2, ![4096, 1024]⟩
abbrev S256x1024 : Shape := ⟨2, ![256, 1024]⟩
abbrev S4096x4x128 : Shape := ⟨3, ![4096, 4, 128]⟩
abbrev S256x512 : Shape := ⟨2, ![256, 512]⟩
abbrev S256x4x128 : Shape := ⟨3, ![256, 4, 128]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x128x4096 : Shape := ⟨3, ![4, 128, 4096]⟩
abbrev S4x128x256 : Shape := ⟨3, ![4, 128, 256]⟩
abbrev S4x256x128 : Shape := ⟨3, ![4, 256, 128]⟩
abbrev S4x4096x128 : Shape := ⟨3, ![4, 4096, 128]⟩

abbrev nBuf : Space → Nat
  | .hbm => 88
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S256x1024, .bf16⟩
  | .hbm, ⟨3, _⟩ => ⟨S4096x512, .bf16⟩
  | .hbm, ⟨4, _⟩ => ⟨S4096x512, .f32⟩
  | .hbm, ⟨5, _⟩ => ⟨S256x1024, .f32⟩
  | .hbm, ⟨6, _⟩ => ⟨S4096x4x128, .f32⟩
  | .hbm, ⟨7, _⟩ => ⟨S256x512, .f32⟩
  | .hbm, ⟨8, _⟩ => ⟨S256x512, .f32⟩
  | .hbm, ⟨9, _⟩ => ⟨S256x4x128, .f32⟩
  | .hbm, ⟨10, _⟩ => ⟨S256x4x128, .f32⟩
  | .hbm, ⟨11, _⟩ => ⟨S4x4096x256, .f32⟩
  | .hbm, ⟨12, _⟩ => ⟨S_, .f32⟩
  | .hbm, ⟨13, _⟩ => ⟨S4x4096x256, .f32⟩
  | .hbm, ⟨14, _⟩ => ⟨S4x4096x256, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S4x4096x256, .f32⟩
  | .hbm, ⟨19, _⟩ => ⟨S4x4096x256, .i1⟩
  | .hbm, ⟨20, _⟩ => ⟨S4x4096x256, .f32⟩
  | .hbm, ⟨21, _⟩ => ⟨S_, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S4x4096, .f32⟩
  | .hbm, ⟨26, _⟩ => ⟨S_, .f32⟩
  | .hbm, ⟨27, _⟩ => ⟨S4x4096, .f32⟩
  | .hbm, ⟨28, _⟩ => ⟨S4x4096, .i1⟩
  | .hbm, ⟨29, _⟩ => ⟨S_, .f32⟩
  | .hbm, ⟨30, _⟩ => ⟨S4x4096, .f32⟩
  | .hbm, ⟨31, _⟩ => ⟨S4x4096, .i1⟩
  | .hbm, ⟨32, _⟩ => ⟨S_, .f32⟩
  | .hbm, ⟨33, _⟩ => ⟨S4x4096, .f32⟩
  | .hbm, ⟨34, _⟩ => ⟨S_, .f32⟩
  | .hbm, ⟨35, _⟩ => ⟨S4x4096, .f32⟩
  | .hbm, ⟨36, _⟩ => ⟨S_, .f32⟩
  | .hbm, ⟨37, _⟩ => ⟨S4x4096, .f32⟩
  | .hbm, ⟨38, _⟩ => ⟨S4x4096, .f32⟩
  | .hbm, ⟨39, _⟩ => ⟨S4x4096, .f32⟩
  | .hbm, ⟨40, _⟩ => ⟨S4x4096x1, .f32⟩
  | .hbm, ⟨41, _⟩ => ⟨S4x4096x256, .f32⟩
  | .hbm, ⟨42, _⟩ => ⟨S4x4096x256, .f32⟩
  | .hbm, ⟨43, _⟩ => ⟨S4x4096x256, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S4x4096x256, .f32⟩
  | .hbm, ⟨48, _⟩ => ⟨S4x4096x256, .f32⟩
  | .hbm, ⟨49, _⟩ => ⟨S4x4096x1, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S4x128x4096, .f32⟩
  | .hbm, ⟨54, _⟩ => ⟨S4096x4x128, .f32⟩
  | .hbm, ⟨55, _⟩ => ⟨S4096x512, .f32⟩
  | .hbm, ⟨56, _⟩ => ⟨S4096x512, .f32⟩
  | .hbm, ⟨57, _⟩ => ⟨S4096x4x128, .f32⟩
  | .hbm, ⟨58, _⟩ => ⟨S4x128x4096, .f32⟩
  | .hbm, ⟨59, _⟩ => ⟨S4x4096x256, .f32⟩
  | .hbm, ⟨60, _⟩ => ⟨S4x128x256, .f32⟩
  | .hbm, ⟨61, _⟩ => ⟨S256x4x128, .f32⟩
  | .hbm, ⟨62, _⟩ => ⟨S4x4096x256, .f32⟩
  | .hbm, ⟨63, _⟩ => ⟨S4x4096x256, .f32⟩
  | .hbm, ⟨64, _⟩ => ⟨S4x4096x256, .f32⟩
  | .hbm, ⟨65, _⟩ => ⟨S_, .f32⟩
  | .hbm, ⟨66, _⟩ => ⟨S4x4096, .f32⟩
  | .hbm, ⟨67, _⟩ => ⟨S4x4096x1, .f32⟩
  | .hbm, ⟨68, _⟩ => ⟨S4x4096x1, .f32⟩
  | .hbm, ⟨69, _⟩ => ⟨S4x4096x256, .f32⟩
  | .hbm, ⟨70, _⟩ => ⟨S4x4096x256, .f32⟩
  | .hbm, ⟨71, _⟩ => ⟨S_, .f32⟩
  | .hbm, ⟨72, _⟩ => ⟨S4x4096, .f32⟩
  | .hbm, ⟨73, _⟩ => ⟨S4x4096x256, .f32⟩
  | .hbm, ⟨74, _⟩ => ⟨S4x4096x256, .f32⟩
  | .hbm, ⟨75, _⟩ => ⟨S4x4096x256, .f32⟩
  | .hbm, ⟨76, _⟩ => ⟨S_, .f32⟩
  | .hbm, ⟨77, _⟩ => ⟨S4x4096x256, .f32⟩
  | .hbm, ⟨78, _⟩ => ⟨S4x4096x256, .f32⟩
  | .hbm, ⟨79, _⟩ => ⟨S4x256x128, .f32⟩
  | .hbm, ⟨80, _⟩ => ⟨S256x4x128, .f32⟩
  | .hbm, ⟨81, _⟩ => ⟨S4x4096x128, .f32⟩
  | .hbm, ⟨82, _⟩ => ⟨S4096x4x128, .f32⟩
  | .hbm, ⟨83, _⟩ => ⟨S256x512, .f32⟩
  | .hbm, ⟨84, _⟩ => ⟨S256x512, .f32⟩
  | .hbm, ⟨85, _⟩ => ⟨S256x1024, .f32⟩
  | .hbm, ⟨86, _⟩ => ⟨S4096x512, .f32⟩
  | .hbm, ⟨87, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩

abbrev nD : Nat := 1
abbrev τ : Topo := Topo.v7x

variable {F : FTy → Type} [FloatOps F]
-- ==== OutDw.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDx.lean ====
abbrev S4096x1024 : Shape := ⟨2, ![4096, 1024]⟩
abbrev S2816x1024 : Shape := ⟨2, ![2816, 1024]⟩
abbrev S2x2x4096x1408 : Shape := ⟨4, ![2, 2, 4096, 1408]⟩
abbrev S1024x1024 : Shape := ⟨2, ![1024, 1024]⟩
abbrev S1408x1024 : Shape := ⟨2, ![1408, 1024]⟩
abbrev S2x1x1024x1408 : Shape := ⟨4, ![2, 1, 1024, 1408]⟩
abbrev S256x1024 : Shape := ⟨2, ![256, 1024]⟩
abbrev S256x1408 : Shape := ⟨2, ![256, 1408]⟩
abbrev S1x1x256x1408 : Shape := ⟨4, ![1, 1, 256, 1408]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2x2x4096x1408, .bf16⟩
  | .hbm, ⟨3, _⟩ => ⟨S2x2x4096x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2x1x1024x1408, .bf16⟩
  | .local _ .vmem, ⟨5, _⟩ => ⟨S2x1x1024x1408, .bf16⟩
  | .local _ .vmem, ⟨6, _⟩ => ⟨S2x1x1024x1408, .bf16⟩
  | .local _ .vmem, ⟨7, _⟩ => ⟨S2x1x1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutDxRefIdeal.lean ====
abbrev S4096x1024 : Shape := ⟨2, ![4096, 1024]⟩
abbrev S2816x1024 : Shape := ⟨2, ![2816, 1024]⟩
abbrev S2x2x4096x1408 : Shape := ⟨4, ![2, 2, 4096, 1408]⟩
abbrev S4096x2x2x1408 : Shape := ⟨4, ![4096, 2, 2, 1408]⟩
abbrev S4096x5632 : Shape := ⟨2, ![4096, 5632]⟩
abbrev S4096x2816 : Shape := ⟨2, ![4096, 2816]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2x2x4096x1408, .bf16⟩
  | .hbm, ⟨3, _⟩ => ⟨S2x2x4096x1408, .f32⟩
  | .hbm, ⟨4, _⟩ => ⟨S4096x2x2x1408, .f32⟩
  | .hbm, ⟨5, _⟩ => ⟨S4096x5632, .f32⟩
  | .hbm, ⟨6, _⟩ => ⟨S2816x1024, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x1024, .f32⟩
  | .hbm, ⟨24, _⟩ => ⟨S4096x1024, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x5632, .f32⟩
  | .hbm, ⟨33, _⟩ => ⟨S4096x2x2x1408, .f32⟩
  | .hbm, ⟨34, _⟩ => ⟨S2x2x4096x1408, .f32⟩
  | .hbm, ⟨35, _⟩ => ⟨S2x2x4096x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v6_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v6_1 : Ref sig .tc := ⟨.hbm, 20, rfl⟩
abbrev main_v6_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩

abbrev nD : Nat := 1
abbrev τ : Topo := Topo.v7x

variable {F : FTy → Type} [FloatOps F]
-- ==== InDw.lean ====
abbrev S4096x1024 : Shape := ⟨2, ![4096, 1024]⟩
abbrev S4x4096x1408 : Shape := ⟨3, ![4, 4096, 1408]⟩
abbrev S4x1024x1408 : Shape := ⟨3, ![4, 1024, 1408]⟩
abbrev S4096x512 : Shape := ⟨2, ![4096, 512]⟩
abbrev S1x4096x1408 : Shape := ⟨3, ![1, 4096, 1408]⟩
abbrev S1x512x1408 : Shape := ⟨3, ![1, 512, 1408]⟩
abbrev S4096x1408 : Shape := ⟨2, ![4096, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x4096x1408, .bf16⟩
  | .hbm, ⟨2, _⟩ => ⟨S4x1024x1408, .bf16⟩
  | .local _ .vmem, ⟨0, _⟩ => ⟨S4096x512, .bf16⟩
  | .local _ .vmem, ⟨1, _⟩ => ⟨S4096x512, .bf16⟩
  | .local _ .vmem, ⟨2, _⟩ => ⟨S1x4096x1408, .bf16⟩
  | .local _ .vmem, ⟨3, _⟩ => ⟨S1x4096x1408, .bf16⟩
  | .local _ .vmem, ⟨4, _⟩ => ⟨S1x512x1408, .bf16⟩
  | .local _ .vmem, ⟨5, _⟩ => ⟨S1x512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S4096x1024 : Shape := ⟨2, ![4096, 1024]⟩
abbrev S4x4096x1408 : Shape := ⟨3, ![4, 4096, 1408]⟩
abbrev S4096x4x1408 : Shape := ⟨3, ![4096, 4, 1408]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x4096x1408, .bf16⟩
  | .hbm, ⟨2, _⟩ => ⟨S4x4096x1408, .f32⟩
  | .hbm, ⟨3, _⟩ => ⟨S4096x4x1408, .f32⟩
  | .hbm, ⟨4, _⟩ => ⟨S4096x5632, .f32⟩
  | .hbm, ⟨5, _⟩ => ⟨S_, .f32⟩
  | .hbm, ⟨6, _⟩ => ⟨S1024x5632, .f32⟩
  | .hbm, ⟨7, _⟩ => ⟨S4096x1024, .f32⟩
  | .hbm, ⟨8, _⟩ => ⟨S4096x5632, .f32⟩
  | .hbm, ⟨9, _⟩ => ⟨S5632x1024, .f32⟩
  | .hbm, ⟨10, _⟩ => ⟨S1024x5632, .f32⟩
  | .hbm, ⟨11, _⟩ => ⟨S1024x4x1408, .f32⟩
  | .hbm, ⟨12, _⟩ => ⟨S4x1024x1408, .f32⟩
  | .hbm, ⟨13, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== InDx1.lean ====
abbrev S4x4096x1408 : Shape := ⟨3, ![4, 4096, 1408]⟩
abbrev S1024x5632 : Shape := ⟨2, ![1024, 5632]⟩
abbrev S4096x1024 : Shape := ⟨2, ![4096, 1024]⟩
abbrev S1x1024 : Shape := ⟨2, ![1, 1024]⟩
abbrev S4x512x1408 : Shape := ⟨3, ![4, 512, 1408]⟩
abbrev S512x1024 : Shape := ⟨2, ![512, 1024]⟩
abbrev S1x256x1408 : Shape := ⟨3, ![1, 256, 1408]⟩
abbrev S256x1408 : Shape := ⟨2, ![256, 1408]⟩
abbrev S1024x1408 : Shape := ⟨2, ![1024, 1408]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4x4096x1408, .bf16⟩
  | .hbm, ⟨1, _⟩ => ⟨S1024x5632, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S4x512x1408, .bf16⟩
  | .local _ .vmem, ⟨1, _⟩ => ⟨S4x512x1408, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4x4096x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InDx1RefIdeal.lean ====
abbrev S4x4096x1408 : Shape := ⟨3, ![4, 4096, 1408]⟩
abbrev S1024x5632 : Shape := ⟨2, ![1024, 5632]⟩
abbrev S4096x1024 : Shape := ⟨2, ![4096, 1024]⟩
abbrev S1x1024 : Shape := ⟨2, ![1, 1024]⟩
abbrev S4096x4x1408 : Shape := ⟨3, ![4096, 4, 1408]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S4x4096x1408, .bf16⟩
  | .hbm, ⟨1, _⟩ => ⟨S1024x5632, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4x4096x1408, .f32⟩
  | .hbm, ⟨6, _⟩ => ⟨S4096x4x1408, .f32⟩
  | .hbm, ⟨7, _⟩ => ⟨S4096x5632, .f32⟩
  | .hbm, ⟨8, _⟩ => ⟨S1024x5632, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x5632, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | _, _ => ⟨S4x4096x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== InDx2.lean ====
abbrev S4x4096x1408 : Shape := ⟨3, ![4, 4096, 1408]⟩
abbrev S1024x5632 : Shape := ⟨2, ![1024, 5632]⟩
abbrev S4096x1024 : Shape := ⟨2, ![4096, 1024]⟩
abbrev S1x1024 : Shape := ⟨2, ![1, 1024]⟩
abbrev S4x512x1408 : Shape := ⟨3, ![4, 512, 1408]⟩
abbrev S512x1024 : Shape := ⟨2, ![512, 1024]⟩
abbrev S1x256x1408 : Shape := ⟨3, ![1, 256, 1408]⟩
abbrev S256x1408 : Shape := ⟨2, ![256, 1408]⟩
abbrev S1024x1408 : Shape := ⟨2, ![1024, 1408]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 11
  | .vmem => 17
  | .smem => 0
  | _ => 0

abbrev bufTy : (tb : Table) → Fin (tcTables nBuf tb) → BufTy
  | .hbm, ⟨0, _⟩ => ⟨S4x4096x1408, .bf16⟩
  | .hbm, ⟨1, _⟩ => ⟨S1024x5632, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S1x1024, .f32⟩
  | .hbm, ⟨9, _⟩ => ⟨S4096x1024, .bf16⟩
  | .hbm, ⟨10, _⟩ => ⟨S1x1024, .f32⟩
  | .local _ .vmem, ⟨0, _⟩ => ⟨S4x512x1408, .bf16⟩
  | .local _ .vmem, ⟨1, _⟩ => ⟨S4x512x1408, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | _, _ => ⟨S4x4096x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InDx2RefIdeal.lean ====
abbrev S4x4096x1408 : Shape := ⟨3, ![4, 4096, 1408]⟩
abbrev S1024x5632 : Shape := ⟨2, ![1024, 5632]⟩
abbrev S4096x1024 : Shape := ⟨2, ![4096, 1024]⟩
abbrev S1x1024 : Shape := ⟨2, ![1, 1024]⟩
abbrev S4096x4x1408 : Shape := ⟨3, ![4096, 4, 1408]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 99
  | .vmem => 0
  | .smem => 0
  | _ => 0

abbrev bufTy : (tb : Table) → Fin (tcTables nBuf tb) → BufTy
  | .hbm, ⟨0, _⟩ => ⟨S4x4096x1408, .bf16⟩
  | .hbm, ⟨1, _⟩ => ⟨S1024x5632, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4x4096x1408, .f32⟩
  | .hbm, ⟨8, _⟩ => ⟨S4096x4x1408, .f32⟩
  | .hbm, ⟨9, _⟩ => ⟨S4096x5632, .f32⟩
  | .hbm, ⟨10, _⟩ => ⟨S1024x5632, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x5632, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S4096, .f32⟩
  | .hbm, ⟨84, _⟩ => ⟨S4096x1, .f32⟩
  | .hbm, ⟨85, _⟩ => ⟨S4096x1024, .f32⟩
  | .hbm, ⟨86, _⟩ => ⟨S4096x1024, .f32⟩
  | .hbm, ⟨87, _⟩ => ⟨S4096x1, .f32⟩
  | .hbm, ⟨88, _⟩ => ⟨S_, .f32⟩
  | .hbm, ⟨89, _⟩ => ⟨S4096x1, .f32⟩
  | .hbm, ⟨90, _⟩ => ⟨S4096x1, .f32⟩
  | .hbm, ⟨91, _⟩ => ⟨S_, .f32⟩
  | .hbm, ⟨92, _⟩ => ⟨S4096, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .bf16⟩
  | _, _ => ⟨S4x4096x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_12 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_13 : Ref sig .tc := ⟨.hbm, 88, rfl⟩
abbrev main_v67 : Ref sig .tc := ⟨.hbm, 89, rfl⟩
abbrev main_v68 : Ref sig .tc := ⟨.hbm, 90, rfl⟩
abbrev main_cst_14 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩

abbrev nD : Nat := 1
abbrev τ : Topo := Topo.v7x

variable {F : FTy → Type} [FloatOps F]
-- ==== TailBwd.lean ====
abbrev S4096x1024 : Shape := ⟨2, ![4096, 1024]⟩
abbrev S4096x3072 : Shape := ⟨2, ![4096, 3072]⟩
abbrev S1024x1024 : Shape := ⟨2, ![1024, 1024]⟩
abbrev S512x1024 : Shape := ⟨2, ![512, 1024]⟩
abbrev S4096x512 : Shape := ⟨2, ![4096, 512]⟩
abbrev S512x3072 : Shape := ⟨2, ![512, 3072]⟩
abbrev S512x512 : Shape := ⟨2, ![512, 512]⟩
abbrev S256x1024 : Shape := ⟨2, ![256, 1024]⟩
abbrev S256x512 : Shape := ⟨2, ![256, 512]⟩

abbrev nBuf : Space → Nat
  | .hbm => 16
  | .vmem => 28
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S1024x1024, .bf16⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S4096x3072, .bf16⟩
  | .hbm, ⟨13, _⟩ => ⟨S4096x1024, .bf16⟩
  | .hbm, ⟨14, _⟩ => ⟨S4096x512, .bf16⟩
  | .hbm, ⟨15, _⟩ => ⟨S4096x512, .bf16⟩
  | .local _ .vmem, ⟨0, _⟩ => ⟨S512x1024, .bf16⟩
  | .local _ .vmem, ⟨1, _⟩ => ⟨S512x1024, .bf16⟩
  | .local _ .vmem, ⟨2, _⟩ => ⟨S512x3072, .bf16⟩
  | .local _ .vmem, ⟨3, _⟩ => ⟨S512x3072, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x3072, .bf16⟩
  | .local _ .vmem, ⟨21, _⟩ => ⟨S512x3072, .bf16⟩
  | .local _ .vmem, ⟨22, _⟩ => ⟨S512x1024, .bf16⟩
  | .local _ .vmem, ⟨23, _⟩ => ⟨S512x1024, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== TailBwdRefIdeal.lean ====
abbrev S4096x1024 : Shape := ⟨2, ![4096, 1024]⟩
abbrev S4096x3072 : Shape := ⟨2, ![4096, 3072]⟩
abbrev S1024x1024 : Shape := ⟨2, ![1024, 1024]⟩
abbrev S512x1024 : Shape := ⟨2, ![512, 1024]⟩
abbrev S4096x3x1024 : Shape := ⟨3, ![4096, 3, 1024]⟩
abbrev S_ : Shape := ⟨0, ![]⟩
abbrev S4096x1x1024 : Shape := ⟨3, ![4096, 1, 1024]⟩
abbrev S4096x512 : Shape := ⟨2, ![4096, 512]⟩

abbrev nBuf : Space → Nat
  | .hbm => 82
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S1024x1024, .bf16⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S4096x1024, .f32⟩
  | .hbm, ⟨10, _⟩ => ⟨S4096x3072, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S1024x1024, .f32⟩
  | .hbm, ⟨15, _⟩ => ⟨S512x1024, .f32⟩
  | .hbm, ⟨16, _⟩ => ⟨S512x1024, .f32⟩
  | .hbm, ⟨17, _⟩ => ⟨S1024x1024, .f32⟩
  | .hbm, ⟨18, _⟩ => ⟨S4096x3x1024, .f32⟩
  | .hbm, ⟨19, _⟩ => ⟨S4096x3x1024, .f32⟩
  | .hbm, ⟨20, _⟩ => ⟨S4096x3x1024, .f32⟩
  | .hbm, ⟨21, _⟩ => ⟨S_, .f32⟩
  | .hbm, ⟨22, _⟩ => ⟨S4096x3x1024, .f32⟩
  | .hbm, ⟨23, _⟩ => ⟨S4096x3x1024, .f32⟩
  | .hbm, ⟨24, _⟩ => ⟨S_, .f32⟩
  | .hbm, ⟨25, _⟩ => ⟨S4096x3x1024, .f32⟩
  | .hbm, ⟨26, _⟩ => ⟨S4096x3x1024, .f32⟩
  | .hbm, ⟨27, _⟩ => ⟨S_, .f32⟩
  | .hbm, ⟨28, _⟩ => ⟨S4096x3x1024, .f32⟩
  | .hbm, ⟨29, _⟩ => ⟨S4096x3x1024, .f32⟩
  | .hbm, ⟨30, _⟩ => ⟨S4096x3x1024, .f32⟩
  | .hbm, ⟨31, _⟩ => ⟨S4096x1x1024, .f32⟩
  | .hbm, ⟨32, _⟩ => ⟨S4096x1024, .f32⟩
  | .hbm, ⟨33, _⟩ => ⟨S4096x1024, .f32⟩
  | .hbm, ⟨34, _⟩ => ⟨S4096x1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1x1024, .f32⟩
  | .hbm, ⟨47, _⟩ => ⟨S_, .f32⟩
  | .hbm, ⟨48, _⟩ => ⟨S4096x3x1024, .f32⟩
  | .hbm, ⟨49, _⟩ => ⟨S4096x1024, .f32⟩
  | .hbm, ⟨50, _⟩ => ⟨S4096x1024, .f32⟩
  | .hbm, ⟨51, _⟩ => ⟨S4096x1x1024, .f32⟩
  | .hbm, ⟨52, _⟩ => ⟨S_, .f32⟩
  | .hbm, ⟨53, _⟩ => ⟨S4096x3x1024, .f32⟩
  | .hbm, ⟨54, _⟩ => ⟨S4096x3x1024, .f32⟩
  | .hbm, ⟨55, _⟩ => ⟨S4096x1024, .f32⟩
  | .hbm, ⟨56, _⟩ => ⟨S4096x1024, .f32⟩
  | .hbm, ⟨57, _⟩ => ⟨S4096x1x1024, .f32⟩
  | .hbm, ⟨58, _⟩ => ⟨S_, .f32⟩
  | .hbm, ⟨59, _⟩ => ⟨S4096x3x1024, .f32⟩
  | .hbm, ⟨60, _⟩ => ⟨S4096x3x1024, .f32⟩
  | .hbm, ⟨61, _⟩ => ⟨S4096x3x1024, .f32⟩
  | .hbm, ⟨62, _⟩ => ⟨S4096x3072, .f32⟩
  | .hbm, ⟨63, _⟩ => ⟨S_, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S4096x512, .f32⟩
  | .hbm, ⟨69, _⟩ => ⟨S4096x1024, .f32⟩
  | .hbm, ⟨70, _⟩ => ⟨S4096x512, .f32⟩
  | .hbm, ⟨71, _⟩ => ⟨S_, .f32⟩
  | .hbm, ⟨72, _⟩ => ⟨S4096x512, .f32⟩
  | .hbm, ⟨73, _⟩ => ⟨S4096x1024, .f32⟩
  | .hbm, ⟨74, _⟩ => ⟨S4096x512, .f32⟩
  | .hbm, ⟨75, _⟩ => ⟨S4096x1024, .bf16⟩
  | .hbm, ⟨76, _⟩ => ⟨S4096x1024, .bf16⟩
  | .hbm, ⟨77, _⟩ => ⟨S4096x1024, .bf16⟩
  | .hbm, ⟨78, _⟩ => ⟨S4096x3072, .bf16⟩
  | .hbm, ⟨79, _⟩ => ⟨S4096x1024, .bf16⟩
  | .hbm, ⟨80, _⟩ => ⟨S4096x512, .bf16⟩
  | .hbm, ⟨81, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_3 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_4 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_5 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_6 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_7 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩

abbrev nD : Nat := 1
abbrev τ : Topo := Topo.v7x

variable {F : FTy → Type} [FloatOps F]
-- ==== MixDx.lean ====
abbrev S4096x3200 : Shape := ⟨2, ![4096, 3200]⟩
abbrev S3200x1024 : Shape := ⟨2, ![3200, 1024]⟩
abbrev S4096x512 : Shape := ⟨2, ![4096, 512]⟩
abbrev S512x1024 : Shape := ⟨2, ![512, 1024]⟩
abbrev S4096x3072 : Shape := ⟨2, ![4096, 3072]⟩
abbrev S3072x1024 : Shape := ⟨2, ![3072, 1024]⟩
abbrev S4096x1024 : Shape := ⟨2, ![4096, 1024]⟩
abbrev S1x1024 : Shape := ⟨2, ![1, 1024]⟩
abbrev S256x3200 : Shape := ⟨2, ![256, 3200]⟩
abbrev S256x512 : Shape := ⟨2, ![256, 512]⟩
abbrev S256x3072 : Shape := ⟨2, ![256, 3072]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 17
  | .vmem => 26
  | .smem => 0
  | _ => 0

abbrev bufTy : (tb : Table) → Fin (tcTables nBuf tb) → BufTy
  | .hbm, ⟨0, _⟩ => ⟨S4096x3200, .bf16⟩
  | .hbm, ⟨1, _⟩ => ⟨S3200x1024, .bf16⟩
  | .hbm, ⟨2, _⟩ => ⟨S4096x512, .bf16⟩
  | .hbm, ⟨3, _⟩ => ⟨S512x1024, .bf16⟩
  | .hbm, ⟨4, _⟩ => ⟨S4096x512, .bf16⟩
  | .hbm, ⟨5, _⟩ => ⟨S512x1024, .bf16⟩
  | .hbm, ⟨6, _⟩ => ⟨S4096x3072, .bf16⟩
  | .hbm, ⟨7, _⟩ => ⟨S3072x1024, .bf16⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S1x1024, .f32⟩
  | .hbm, ⟨13, _⟩ => ⟨S4096x1024, .f32⟩
  | .hbm, ⟨14, _⟩ => ⟨S1x1024, .f32⟩
  | .hbm, ⟨15, _⟩ => ⟨S4096x1024, .bf16⟩
  | .hbm, ⟨16, _⟩ => ⟨S1x1024, .f32⟩
  | .local _ .vmem, ⟨0, _⟩ => ⟨S256x3200, .bf16⟩
  | .local _ .vmem, ⟨1, _⟩ => ⟨S256x3200, .bf16⟩
  | .local _ .vmem, ⟨2, _⟩ => ⟨S3200x1024, .bf16⟩
  | .local _ .vmem, ⟨3, _⟩ => ⟨S256x512, .bf16⟩
  | .local _ .vmem, ⟨4, _⟩ => ⟨S256x512, .bf16⟩
  | .local _ .vmem, ⟨5, _⟩ => ⟨S512x1024, .bf16⟩
  | .local _ .vmem, ⟨6, _⟩ => ⟨S256x512, .bf16⟩
  | .local _ .vmem, ⟨7, _⟩ => ⟨S256x512, .bf16⟩
  | .local _ .vmem, ⟨8, _⟩ => ⟨S512x1024, .bf16⟩
  | .local _ .vmem, ⟨9, _⟩ => ⟨S256x3072, .bf16⟩
  | .local _ .vmem, ⟨10, _⟩ => ⟨S256x3072, .bf16⟩
  | .local _ .vmem, ⟨11, _⟩ => ⟨S3072x1024, .bf16⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S1x1024, .f32⟩
  | .local _ .vmem, ⟨20, _⟩ => ⟨S256x1024, .f32⟩
  | .local _ .vmem, ⟨21, _⟩ => ⟨S256x1024, .f32⟩
  | .local _ .vmem, ⟨22, _⟩ => ⟨S1x1024, .f32⟩
  | .local _ .vmem, ⟨23, _⟩ => ⟨S256x1024, .bf16⟩
  | .local _ .vmem, ⟨24, _⟩ => ⟨S256x1024, .bf16⟩
  | .local _ .vmem, ⟨25, _⟩ => ⟨S1x1024, .f32⟩
  | _, _ => ⟨S4096x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem15_1 : DmaSem sig := 24
abbrev cc0_sem16_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3200x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3072x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== MixDxRefIdeal.lean ====
abbrev S4096x3200 : Shape := ⟨2, ![4096, 3200]⟩
abbrev S3200x1024 : Shape := ⟨2, ![3200, 1024]⟩
abbrev S4096x512 : Shape := ⟨2, ![4096, 512]⟩
abbrev S512x1024 : Shape := ⟨2, ![512, 1024]⟩
abbrev S4096x3072 : Shape := ⟨2, ![4096, 3072]⟩
abbrev S3072x1024 : Shape := ⟨2, ![3072, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x3200 : Shape := ⟨2, ![1024, 3200]⟩
abbrev S1024x512 : Shape := ⟨2, ![1024, 512]⟩
abbrev S1024x3072 : Shape := ⟨2, ![1024, 3072]⟩
abbrev S1024 : Shape := ⟨1, ![1024]⟩

abbrev nBuf : Space → Nat
  | .hbm => 128
  | .vmem => 0
  | .smem => 0
  | _ => 0

abbrev bufTy : (tb : Table) → Fin (tcTables nBuf tb) → BufTy
  | .hbm, ⟨0, _⟩ => ⟨S4096x3200, .bf16⟩
  | .hbm, ⟨1, _⟩ => ⟨S3200x1024, .bf16⟩
  | .hbm, ⟨2, _⟩ => ⟨S4096x512, .bf16⟩
  | .hbm, ⟨3, _⟩ => ⟨S512x1024, .bf16⟩
  | .hbm, ⟨4, _⟩ => ⟨S4096x512, .bf16⟩
  | .hbm, ⟨5, _⟩ => ⟨S512x1024, .bf16⟩
  | .hbm, ⟨6, _⟩ => ⟨S4096x3072, .bf16⟩
  | .hbm, ⟨7, _⟩ => ⟨S3072x1024, .bf16⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S1x1024, .f32⟩
  | .hbm, ⟨13, _⟩ => ⟨S4096x3200, .f32⟩
  | .hbm, ⟨14, _⟩ => ⟨S3200x1024, .f32⟩
  | .hbm, ⟨15, _⟩ => ⟨S4096x512, .f32⟩
  | .hbm, ⟨16, _⟩ => ⟨S512x1024, .f32⟩
  | .hbm, ⟨17, _⟩ => ⟨S4096x512, .f32⟩
  | .hbm, ⟨18, _⟩ => ⟨S512x1024, .f32⟩
  | .hbm, ⟨19, _⟩ => ⟨S4096x3072, .f32⟩
  | .hbm, ⟨20, _⟩ => ⟨S3072x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S1024x3200, .f32⟩
  | .hbm, ⟨41, _⟩ => ⟨S4096x3200, .f32⟩
  | .hbm, ⟨42, _⟩ => ⟨S1024x512, .f32⟩
  | .hbm, ⟨43, _⟩ => ⟨S4096x512, .f32⟩
  | .hbm, ⟨44, _⟩ => ⟨S1024x512, .f32⟩
  | .hbm, ⟨45, _⟩ => ⟨S4096x512, .f32⟩
  | .hbm, ⟨46, _⟩ => ⟨S1024x3072, .f32⟩
  | .hbm, ⟨47, _⟩ => ⟨S4096x3072, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S4096, .f32⟩
  | .hbm, ⟨82, _⟩ => ⟨S4096x1, .f32⟩
  | .hbm, ⟨83, _⟩ => ⟨S_, .f32⟩
  | .hbm, ⟨84, _⟩ => ⟨S4096x1, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S4096x1, .f32⟩
  | .hbm, ⟨90, _⟩ => ⟨S4096x1, .f32⟩
  | .hbm, ⟨91, _⟩ => ⟨S_, .f32⟩
  | .hbm, ⟨92, _⟩ => ⟨S4096x1, .f32⟩
  | .hbm, ⟨93, _⟩ => ⟨S4096x1, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S_, .f32⟩
  | .hbm, ⟨99, _⟩ => ⟨S4096x1024, .f32⟩
  | .hbm, ⟨100, _⟩ => ⟨S4096x1024, .f32⟩
  | .hbm, ⟨101, _⟩ => ⟨S_, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S_, .f32⟩
  | .hbm, ⟨106, _⟩ => ⟨S1024, .f32⟩
  | .hbm, ⟨107, _⟩ => ⟨S1x1024, .f32⟩
  | .hbm, ⟨108, _⟩ => ⟨S4096x1024, .f32⟩
  | .hbm, ⟨109, _⟩ => ⟨S4096x1024, .f32⟩
  | .hbm, ⟨110, _⟩ => ⟨S4096x1024, .f32⟩
  | .hbm, ⟨111, _⟩ => ⟨S_, .f32⟩
  | .hbm, ⟨112, _⟩ => ⟨S4096, .f32⟩
  | .hbm, ⟨113, _⟩ => ⟨S4096x1, .f32⟩
  | .hbm, ⟨114, _⟩ => ⟨S4096x1024, .f32⟩
  | .hbm, ⟨115, _⟩ => ⟨S4096x1024, .f32⟩
  | .hbm, ⟨116, _⟩ => ⟨S4096x1, .f32⟩
  | .hbm, ⟨117, _⟩ => ⟨S_, .f32⟩
  | .hbm, ⟨118, _⟩ => ⟨S4096x1, .f32⟩
  | .hbm, ⟨119, _⟩ => ⟨S4096x1, .f32⟩
  | .hbm, ⟨120, _⟩ => ⟨S_, .f32⟩
  | .hbm, ⟨121, _⟩ => ⟨S4096, .f32⟩
  | .hbm, ⟨122, _⟩ => ⟨S4096x1024, .f32⟩
  | .hbm, ⟨123, _⟩ => ⟨S4096x1024, .f32⟩
  | .hbm, ⟨124, _⟩ => ⟨S4096x1024, .f32⟩
  | .hbm, ⟨125, _⟩ => ⟨S4096x1024, .f32⟩
  | .hbm, ⟨126, _⟩ => ⟨S4096x1024, .f32⟩
  | .hbm, ⟨127, _⟩ => ⟨S4096x1024, .bf16⟩
  | _, _ => ⟨S4096x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_3 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_4 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_5 : Ref sig .tc := ⟨.hbm, 69, rfl⟩
abbrev main_v50 : Ref sig .tc := ⟨.hbm, 70, rfl⟩
abbrev main_v51 : Ref sig .tc := ⟨.hbm, 71, rfl⟩
abbrev main_cst_6 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_7 : Ref sig .tc := ⟨.hbm, 80, rfl⟩
abbrev main_v59 : Ref sig .tc := ⟨.hbm, 81, rfl⟩
abbrev main_v60 : Ref sig .tc := ⟨.hbm, 82, rfl⟩
abbrev main_cst_8 : Ref sig .tc := ⟨.hbm, 83, rfl⟩
abbrev main_v61 : Ref sig .tc := ⟨.hbm, 84, rfl⟩
abbrev main_v62 : Ref sig .tc := ⟨.hbm, 85, rfl⟩
abbrev main_cst_9 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_10 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_11 : Ref sig .tc := ⟨.hbm, 98, rfl⟩
abbrev main_v73 : Ref sig .tc := ⟨.hbm, 99, rfl⟩
abbrev main_v74 : Ref sig .tc := ⟨.hbm, 100, rfl⟩
abbrev main_cst_12 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_13 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_14 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_15 : Ref sig .tc := ⟨.hbm, 117, rfl⟩
abbrev main_v88 : Ref sig .tc := ⟨.hbm, 118, rfl⟩
abbrev main_v89 : Ref sig .tc := ⟨.hbm, 119, rfl⟩
abbrev main_cst_16 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩

abbrev nD : Nat := 1
abbrev τ : Topo := Topo.v7x

variable {F : FTy → Type} [FloatOps F]
-- ==== GlaDw.lean ====
abbrev S4096x3200 : Shape := ⟨2, ![4096, 3200]⟩
abbrev S4096x1024 : Shape := ⟨2, ![4096, 1024]⟩
abbrev S3200x1024 : Shape := ⟨2, ![3200, 1024]⟩
abbrev S4096x640 : Shape := ⟨2, ![4096, 640]⟩
abbrev S640x1024 : Shape := ⟨2, ![640, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x3200, .bf16⟩
  | .hbm, ⟨1, _⟩ => ⟨S4096x1024, .bf16⟩
  | .hbm, ⟨2, _⟩ => ⟨S3200x1024, .bf16⟩
  | .local _ .vmem, ⟨0, _⟩ => ⟨S4096x640, .bf16⟩
  | .local _ .vmem, ⟨1, _⟩ => ⟨S4096x640, .bf16⟩
  | .local _ .vmem, ⟨2, _⟩ => ⟨S4096x1024, .bf16⟩
  | .local _ .vmem, ⟨3, _⟩ => ⟨S640x1024, .bf16⟩
  | .local _ .vmem, ⟨4, _⟩ => ⟨S640x1024, .bf16⟩
  | _, _ => ⟨S4096x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![5, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GlaDwRefIdeal.lean ====
abbrev S4096x3200 : Shape := ⟨2, ![4096, 3200]⟩
abbrev S4096x1024 : Shape := ⟨2, ![4096, 1024]⟩
abbrev S_ : Shape := ⟨0, ![]⟩
abbrev S1024x3200 : Shape := ⟨2, ![1024, 3200]⟩
abbrev S3200x1024 : Shape := ⟨2, ![3200, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x3200, .bf16⟩
  | .hbm, ⟨1, _⟩ => ⟨S4096x1024, .bf16⟩
  | .hbm, ⟨2, _⟩ => ⟨S_, .f32⟩
  | .hbm, ⟨3, _⟩ => ⟨S1024x3200, .f32⟩
  | .hbm, ⟨4, _⟩ => ⟨S4096x1024, .f32⟩
  | .hbm, ⟨5, _⟩ => ⟨S4096x3200, .f32⟩
  | .hbm, ⟨6, _⟩ => ⟨S4096x3200, .f32⟩
  | .hbm, ⟨7, _⟩ => ⟨S3200x1024, .f32⟩
  | .hbm, ⟨8, _⟩ => ⟨S1024x3200, .f32⟩
  | .hbm, ⟨9, _⟩ => ⟨S3200x1024, .f32⟩
  | .hbm, ⟨10, _⟩ => ⟨S3200x1024, .bf16⟩
  | _, _ => ⟨S4096x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== PxDw.lean ====
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .bf16⟩
  | .local _ .vmem, ⟨0, _⟩ => ⟨S4096x512, .bf16⟩
  | .local _ .vmem, ⟨1, _⟩ => ⟨S4096x1024, .bf16⟩
  | .local _ .vmem, ⟨2, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== PxDwRefIdeal.lean ====
abbrev S4096x512 : Shape := ⟨2, ![4096, 512]⟩
abbrev S4096x1024 : Shape := ⟨2, ![4096, 1024]⟩
abbrev S_ : Shape := ⟨0, ![]⟩
abbrev S1024x512 : Shape := ⟨2, ![1024, 512]⟩
abbrev S512x1024 : Shape := ⟨2, ![512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S_, .f32⟩
  | .hbm, ⟨3, _⟩ => ⟨S1024x512, .f32⟩
  | .hbm, ⟨4, _⟩ => ⟨S4096x1024, .f32⟩
  | .hbm, ⟨5, _⟩ => ⟨S4096x512, .f32⟩
  | .hbm, ⟨6, _⟩ => ⟨S4096x512, .f32⟩
  | .hbm, ⟨7, _⟩ => ⟨S512x1024, .f32⟩
  | .hbm, ⟨8, _⟩ => ⟨S1024x512, .f32⟩
  | .hbm, ⟨9, _⟩ => ⟨S512x1024, .f32⟩
  | .hbm, ⟨10, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GatesDw.lean ====
abbrev S4096x3072 : Shape := ⟨2, ![4096, 3072]⟩
abbrev S4096x1024 : Shape := ⟨2, ![4096, 1024]⟩
abbrev S3072x1024 : Shape := ⟨2, ![3072, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S3072x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GatesDwRefIdeal.lean ====
abbrev S4096x3072 : Shape := ⟨2, ![4096, 3072]⟩
abbrev S4096x1024 : Shape := ⟨2, ![4096, 1024]⟩
abbrev S_ : Shape := ⟨0, ![]⟩
abbrev S1024x3072 : Shape := ⟨2, ![1024, 3072]⟩
abbrev S3072x1024 : Shape := ⟨2, ![3072, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S_, .f32⟩
  | .hbm, ⟨3, _⟩ => ⟨S1024x3072, .f32⟩
  | .hbm, ⟨4, _⟩ => ⟨S4096x1024, .f32⟩
  | .hbm, ⟨5, _⟩ => ⟨S4096x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S3072x1024, .f32⟩
  | .hbm, ⟨10, _⟩ => ⟨S3072x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== WoDw.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WoDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpDw.lean ====
abbrev S4096x512 : Shape := ⟨2, ![4096, 512]⟩
abbrev S4096x1024 : Shape := ⟨2, ![4096, 1024]⟩
abbrev S4x512x256 : Shape := ⟨3, ![4, 512, 256]⟩
abbrev S4096x256 : Shape := ⟨2, ![4096, 256]⟩
abbrev S1x512x256 : Shape := ⟨3, ![1, 512, 256]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4x512x256, .bf16⟩
  | .local _ .vmem, ⟨0, _⟩ => ⟨S4096x512, .bf16⟩
  | .local _ .vmem, ⟨1, _⟩ => ⟨S4096x256, .bf16⟩
  | .local _ .vmem, ⟨2, _⟩ => ⟨S4096x256, .bf16⟩
  | .local _ .vmem, ⟨3, _⟩ => ⟨S1x512x256, .bf16⟩
  | .local _ .vmem, ⟨4, _⟩ => ⟨S1x512x256, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 12
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S_, .f32⟩
  | .hbm, ⟨3, _⟩ => ⟨S512x1024, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S512x4x256, .f32⟩
  | .hbm, ⟨10, _⟩ => ⟨S4x512x256, .f32⟩
  | .hbm, ⟨11, _⟩ => ⟨S4x512x256, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== FfnIn.lean ====
abbrev S4096x1024 : Shape := ⟨2, ![4096, 1024]⟩
abbrev S1024x5632 : Shape := ⟨2, ![1024, 5632]⟩
abbrev S2x2x4096x1408 : Shape := ⟨4, ![2, 2, 4096, 1408]⟩
abbrev S4096x2816 : Shape := ⟨2, ![4096, 2816]⟩
abbrev S1024x1024 : Shape := ⟨2, ![1024, 1024]⟩
abbrev S1024x1408 : Shape := ⟨2, ![1024, 1408]⟩
abbrev S2x1x1024x1408 : Shape := ⟨4, ![2, 1, 1024, 1408]⟩
abbrev S256x1024 : Shape := ⟨2, ![256, 1024]⟩
abbrev S256x1408 : Shape := ⟨2, ![256, 1408]⟩
abbrev S1x1x256x1408 : Shape := ⟨4, ![1, 1, 256, 1408]⟩

abbrev nBuf : Space → Nat
  | .hbm => 4
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S2x2x4096x1408, .bf16⟩
  | .hbm, ⟨3, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S2x1x1024x1408, .bf16⟩
  | .local _ .vmem, ⟨7, _⟩ => ⟨S2x1x1024x1408, .bf16⟩
  | .local _ .vmem, ⟨8, _⟩ => ⟨S1024x1408, .bf16⟩
  | .local _ .vmem, ⟨9, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnInRefIdeal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩
abbrev S4096x2x2x1408 : Shape := ⟨4, ![4096, 2, 2, 1408]⟩
abbrev S2x2x4096x1408 : Shape := ⟨4, ![2, 2, 4096, 1408]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2x2x1408, .f32⟩
  | .hbm, ⟨18, _⟩ => ⟨S2x2x4096x1408, .f32⟩
  | .hbm, ⟨19, _⟩ => ⟨S2x2x4096x1408, .bf16⟩
  | .hbm, ⟨20, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== MemDw.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S256x1024, .bf16⟩
  | .hbm, ⟨2, _⟩ => ⟨S1024x1024, .bf16⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemDwRefIdeal.lean ====
abbrev S256x1024 : Shape := ⟨2, ![256, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x1024, .bf16⟩
  | .hbm, ⟨2, _⟩ => ⟨S_, .f32⟩
  | .hbm, ⟨3, _⟩ => ⟨S1024x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MemDx.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .f32⟩
  | .local _ .vmem, ⟨0, _⟩ => ⟨S256x1024, .bf16⟩
  | .local _ .vmem, ⟨1, _⟩ => ⟨S1024x1024, .bf16⟩
  | .local _ .vmem, ⟨2, _⟩ => ⟨S256x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemDxRefIdeal.lean ====
abbrev S256x1024 : Shape := ⟨2, ![256, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MemNorm.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 5
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .bf16⟩
  | .hbm, ⟨4, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S256x1024, .bf16⟩
  | .local _ .vmem, ⟨4, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== MemNormRefIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 46
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256, .f32⟩
  | .hbm, ⟨31, _⟩ => ⟨S256x1, .f32⟩
  | .hbm, ⟨32, _⟩ => ⟨S256x1024, .f32⟩
  | .hbm, ⟨33, _⟩ => ⟨S256x1024, .f32⟩
  | .hbm, ⟨34, _⟩ => ⟨S256x1, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S_, .f32⟩
  | .hbm, ⟨39, _⟩ => ⟨S256, .f32⟩
  | .hbm, ⟨40, _⟩ => ⟨S256x1024, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== MixIn.lean ====
abbrev S4096x1024 : Shape := ⟨2, ![4096, 1024]⟩
abbrev S3200x1024 : Shape := ⟨2, ![3200, 1024]⟩
abbrev S1024x1024 : Shape := ⟨2, ![1024, 1024]⟩
abbrev S3072x1024 : Shape := ⟨2, ![3072, 1024]⟩
abbrev S4096x3200 : Shape := ⟨2, ![4096, 3200]⟩
abbrev S4096x3072 : Shape := ⟨2, ![4096, 3072]⟩
abbrev S512x1024 : Shape := ⟨2, ![512, 1024]⟩
abbrev S512x3200 : Shape := ⟨2, ![512, 3200]⟩
abbrev S512x3072 : Shape := ⟨2, ![512, 3072]⟩
abbrev S256x1024 : Shape := ⟨2, ![256, 1024]⟩
abbrev S256x3200 : Shape := ⟨2, ![256, 3200]⟩
abbrev S256x3072 : Shape := ⟨2, ![256, 3072]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S3200x1024, .bf16⟩
  | .hbm, ⟨2, _⟩ => ⟨S1024x1024, .bf16⟩
  | .hbm, ⟨3, _⟩ => ⟨S3072x1024, .bf16⟩
  | .hbm, ⟨4, _⟩ => ⟨S4096x3200, .bf16⟩
  | .hbm, ⟨5, _⟩ => ⟨S4096x1024, .bf16⟩
  | .hbm, ⟨6, _⟩ => ⟨S4096x3072, .bf16⟩
  | .local _ .vmem, ⟨0, _⟩ => ⟨S512x1024, .bf16⟩
  | .local _ .vmem, ⟨1, _⟩ => ⟨S512x1024, .bf16⟩
  | .local _ .vmem, ⟨2, _⟩ => ⟨S3200x1024, .bf16⟩
  | .local _ .vmem, ⟨3, _⟩ => ⟨S1024x1024, .bf16⟩
  | .local _ .vmem, ⟨4, _⟩ => ⟨S3072x1024, .bf16⟩
  | .local _ .vmem, ⟨5, _⟩ => ⟨S512x3200, .bf16⟩
  | .local _ .vmem, ⟨6, _⟩ => ⟨S512x3200, .bf16⟩
  | .local _ .vmem, ⟨7, _⟩ => ⟨S512x1024, .bf16⟩
  | .local _ .vmem, ⟨8, _⟩ => ⟨S512x1024, .bf16⟩
  | .local _ .vmem, ⟨9, _⟩ => ⟨S512x3072, .bf16⟩
  | .local _ .vmem, ⟨10, _⟩ => ⟨S512x3072, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3200x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3200 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixInRefIdeal.lean ====
abbrev S4096x1024 : Shape := ⟨2, ![4096, 1024]⟩
abbrev S3200x1024 : Shape := ⟨2, ![3200, 1024]⟩
abbrev S1024x1024 : Shape := ⟨2, ![1024, 1024]⟩
abbrev S3072x1024 : Shape := ⟨2, ![3072, 1024]⟩
abbrev S1024x3200 : Shape := ⟨2, ![1024, 3200]⟩
abbrev S4096x3200 : Shape := ⟨2, ![4096, 3200]⟩
abbrev S1024x3072 : Shape := ⟨2, ![1024, 3072]⟩
abbrev S4096x3072 : Shape := ⟨2, ![4096, 3072]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S3200x1024, .bf16⟩
  | .hbm, ⟨2, _⟩ => ⟨S1024x1024, .bf16⟩
  | .hbm, ⟨3, _⟩ => ⟨S3072x1024, .bf16⟩
  | .hbm, ⟨4, _⟩ => ⟨S4096x1024, .f32⟩
  | .hbm, ⟨5, _⟩ => ⟨S3200x1024, .f32⟩
  | .hbm, ⟨6, _⟩ => ⟨S1024x3200, .f32⟩
  | .hbm, ⟨7, _⟩ => ⟨S4096x3200, .f32⟩
  | .hbm, ⟨8, _⟩ => ⟨S4096x3200, .bf16⟩
  | .hbm, ⟨9, _⟩ => ⟨S1024x1024, .f32⟩
  | .hbm, ⟨10, _⟩ => ⟨S1024x1024, .f32⟩
  | .hbm, ⟨11, _⟩ => ⟨S4096x1024, .f32⟩
  | .hbm, ⟨12, _⟩ => ⟨S4096x1024, .bf16⟩
  | .hbm, ⟨13, _⟩ => ⟨S3072x1024, .f32⟩
  | .hbm, ⟨14, _⟩ => ⟨S1024x3072, .f32⟩
  | .hbm, ⟨15, _⟩ => ⟨S4096x3072, .f32⟩
  | .hbm, ⟨16, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== FfnOut.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S512x2816 : Shape := ⟨2, ![512, 2816]⟩
abbrev S512x1024 : Shape := ⟨2, ![512, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnOutRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 43
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== OutLoss.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S8x128 : Shape := ⟨2, ![8, 128]⟩
abbrev S512x2816 : Shape := ⟨2, ![512, 2816]⟩
abbrev S512x1024 : Shape := ⟨2, ![512, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 11
  | .vmem => 16
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S4096x1024, .f32⟩
  | .hbm, ⟨8, _⟩ => ⟨S1x1024, .f32⟩
  | .hbm, ⟨9, _⟩ => ⟨S1x1024, .f32⟩
  | .hbm, ⟨10, _⟩ => ⟨S8x128, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1x1024, .f32⟩
  | .local _ .vmem, ⟨15, _⟩ => ⟨S8x128, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== OutLossRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S8x128 : Shape := ⟨2, ![8, 128]⟩

abbrev nBuf : Space → Nat
  | .hbm => 125
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x2816, .f32⟩
  | .hbm, ⟨7, _⟩ => ⟨S2816x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S4096, .f32⟩
  | .hbm, ⟨69, _⟩ => ⟨S_, .f32⟩
  | .hbm, ⟨70, _⟩ => ⟨S4096, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S4096x1024, .f32⟩
  | .hbm, ⟨85, _⟩ => ⟨S4096x1024, .f32⟩
  | .hbm, ⟨86, _⟩ => ⟨S4096x1, .f32⟩
  | .hbm, ⟨87, _⟩ => ⟨S_, .f32⟩
  | .hbm, ⟨88, _⟩ => ⟨S4096x1, .f32⟩
  | .hbm, ⟨89, _⟩ => ⟨S4096x1, .f32⟩
  | .hbm, ⟨90, _⟩ => ⟨S_, .f32⟩
  | .hbm, ⟨91, _⟩ => ⟨S4096, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S_, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S_, .f32⟩
  | .hbm, ⟨102, _⟩ => ⟨S1024, .f32⟩
  | .hbm, ⟨103, _⟩ => ⟨S1x1024, .f32⟩
  | .hbm, ⟨104, _⟩ => ⟨S4096x1024, .f32⟩
  | .hbm, ⟨105, _⟩ => ⟨S4096x1024, .f32⟩
  | .hbm, ⟨106, _⟩ => ⟨S4096x1024, .f32⟩
  | .hbm, ⟨107, _⟩ => ⟨S_, .f32⟩
  | .hbm, ⟨108, _⟩ => ⟨S4096, .f32⟩
  | .hbm, ⟨109, _⟩ => ⟨S4096x1, .f32⟩
  | .hbm, ⟨110, _⟩ => ⟨S4096x1024, .f32⟩
  | .hbm, ⟨111, _⟩ => ⟨S4096x1024, .f32⟩
  | .hbm, ⟨112, _⟩ => ⟨S4096x1, .f32⟩
  | .hbm, ⟨113, _⟩ => ⟨S_, .f32⟩
  | .hbm, ⟨114, _⟩ => ⟨S4096x1, .f32⟩
  | .hbm, ⟨115, _⟩ => ⟨S4096x1, .f32⟩
  | .hbm, ⟨116, _⟩ => ⟨S_, .f32⟩
  | .hbm, ⟨117, _⟩ => ⟨S4096, .f32⟩
  | .hbm, ⟨118, _⟩ => ⟨S4096x1024, .f32⟩
  | .hbm, ⟨119, _⟩ => ⟨S4096x1024, .f32⟩
  | .hbm, ⟨120, _⟩ => ⟨S4096x1024, .f32⟩
  | .hbm, ⟨121, _⟩ => ⟨S4096x1024, .f32⟩
  | .hbm, ⟨122, _⟩ => ⟨S4096x1024, .f32⟩
  | .hbm, ⟨123, _⟩ => ⟨S4096x1024, .bf16⟩
  | .hbm, ⟨124, _⟩ => ⟨S8x128, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_cst_12 : Ref sig .tc := ⟨.hbm, 63, rfl⟩
abbrev main_v44 : Ref sig .tc := ⟨.hbm, 64, rfl⟩
abbrev main_cst_13 : Ref sig .tc := ⟨.hbm, 65, rfl⟩
abbrev main_cst_14 : Ref sig .tc := ⟨.hbm, 66, rfl⟩
abbrev main_v45 : Ref sig .tc := ⟨.hbm, 67, rfl⟩
abbrev main_v46 : Ref sig .tc := ⟨.hbm, 68, rfl⟩
abbrev main_cst_15 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_16 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_17 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_18 : Ref sig .tc := ⟨.hbm, 87, rfl⟩
abbrev main_v62 : Ref sig .tc := ⟨.hbm, 88, rfl⟩
abbrev main_v63 : Ref sig .tc := ⟨.hbm, 89, rfl⟩
abbrev main_cst_19 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_20 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_21 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_22 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_23 : Ref sig .tc := ⟨.hbm, 113, rfl⟩
abbrev main_v83 : Ref sig .tc := ⟨.hbm, 114, rfl⟩
abbrev main_v84 : Ref sig .tc := ⟨.hbm, 115, rfl⟩
abbrev main_cst_24 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩

abbrev nD : Nat := 1
abbrev τ : Topo := Topo.v7x

variable {F : FTy → Type} [FloatOps F]
-- ==== TailFwd.lean ====
abbrev S4096x1024 : Shape := ⟨2, ![4096, 1024]⟩
abbrev S4096x512 : Shape := ⟨2, ![4096, 512]⟩
abbrev S4096x3072 : Shape := ⟨2, ![4096, 3072]⟩
abbrev S1024x1024 : Shape := ⟨2, ![1024, 1024]⟩
abbrev S512x1024 : Shape := ⟨2, ![512, 1024]⟩
abbrev S1x1024 : Shape := ⟨2, ![1, 1024]⟩
abbrev S512x512 : Shape := ⟨2, ![512, 512]⟩
abbrev S512x3072 : Shape := ⟨2, ![512, 3072]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 18
  | .vmem => 30
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x512, .bf16⟩
  | .hbm, ⟨3, _⟩ => ⟨S4096x3072, .bf16⟩
  | .hbm, ⟨4, _⟩ => ⟨S1024x1024, .bf16⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S4096x1024, .f32⟩
  | .hbm, ⟨9, _⟩ => ⟨S1x1024, .f32⟩
  | .hbm, ⟨10, _⟩ => ⟨S1x1024, .f32⟩
  | .hbm, ⟨11, _⟩ => ⟨S4096x1024, .bf16⟩
  | .hbm, ⟨12, _⟩ => ⟨S4096x1024, .bf16⟩
  | .hbm, ⟨13, _⟩ => ⟨S4096x1024, .bf16⟩
  | .hbm, ⟨14, _⟩ => ⟨S4096x1024, .bf16⟩
  | .hbm, ⟨15, _⟩ => ⟨S4096x1024, .f32⟩
  | .hbm, ⟨16, _⟩ => ⟨S4096x1024, .f32⟩
  | .hbm, ⟨17, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x3072, .bf16⟩
  | .local _ .vmem, ⟨7, _⟩ => ⟨S512x3072, .bf16⟩
  | .local _ .vmem, ⟨8, _⟩ => ⟨S1024x1024, .bf16⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .bf16⟩
  | .local _ .vmem, ⟨29, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== TailFwdRefIdeal.lean ====
abbrev S4096x1024 : Shape := ⟨2, ![4096, 1024]⟩
abbrev S4096x512 : Shape := ⟨2, ![4096, 512]⟩
abbrev S4096x3072 : Shape := ⟨2, ![4096, 3072]⟩
abbrev S1024x1024 : Shape := ⟨2, ![1024, 1024]⟩
abbrev S512x1024 : Shape := ⟨2, ![512, 1024]⟩
abbrev S1x1024 : Shape := ⟨2, ![1, 1024]⟩
abbrev S4096x3x1024 : Shape := ⟨3, ![4096, 3, 1024]⟩
abbrev S_ : Shape := ⟨0, ![]⟩
abbrev S4096x1x1024 : Shape := ⟨3, ![4096, 1, 1024]⟩
abbrev S4096 : Shape := ⟨1, ![4096]⟩
abbrev S4096x1 : Shape := ⟨2, ![4096, 1]⟩

abbrev nBuf : Space → Nat
  | .hbm => 79
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x512, .bf16⟩
  | .hbm, ⟨3, _⟩ => ⟨S4096x3072, .bf16⟩
  | .hbm, ⟨4, _⟩ => ⟨S1024x1024, .bf16⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S4096x1024, .f32⟩
  | .hbm, ⟨9, _⟩ => ⟨S1x1024, .f32⟩
  | .hbm, ⟨10, _⟩ => ⟨S1x1024, .f32⟩
  | .hbm, ⟨11, _⟩ => ⟨S4096x1024, .f32⟩
  | .hbm, ⟨12, _⟩ => ⟨S4096x512, .f32⟩
  | .hbm, ⟨13, _⟩ => ⟨S4096x512, .f32⟩
  | .hbm, ⟨14, _⟩ => ⟨S4096x3072, .f32⟩
  | .hbm, ⟨15, _⟩ => ⟨S1024x1024, .f32⟩
  | .hbm, ⟨16, _⟩ => ⟨S512x1024, .f32⟩
  | .hbm, ⟨17, _⟩ => ⟨S512x1024, .f32⟩
  | .hbm, ⟨18, _⟩ => ⟨S1024x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x3x1024, .f32⟩
  | .hbm, ⟨23, _⟩ => ⟨S4096x3x1024, .f32⟩
  | .hbm, ⟨24, _⟩ => ⟨S4096x3x1024, .f32⟩
  | .hbm, ⟨25, _⟩ => ⟨S_, .f32⟩
  | .hbm, ⟨26, _⟩ => ⟨S4096x3x1024, .f32⟩
  | .hbm, ⟨27, _⟩ => ⟨S4096x3x1024, .f32⟩
  | .hbm, ⟨28, _⟩ => ⟨S_, .f32⟩
  | .hbm, ⟨29, _⟩ => ⟨S4096x3x1024, .f32⟩
  | .hbm, ⟨30, _⟩ => ⟨S4096x3x1024, .f32⟩
  | .hbm, ⟨31, _⟩ => ⟨S4096x1x1024, .f32⟩
  | .hbm, ⟨32, _⟩ => ⟨S4096x1024, .f32⟩
  | .hbm, ⟨33, _⟩ => ⟨S4096x1024, .f32⟩
  | .hbm, ⟨34, _⟩ => ⟨S4096x1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S4096x1, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .bf16⟩
  | .hbm, ⟨75, _⟩ => ⟨S4096x1024, .bf16⟩
  | .hbm, ⟨76, _⟩ => ⟨S4096x1024, .bf16⟩
  | .hbm, ⟨77, _⟩ => ⟨S4096x1024, .bf16⟩
  | .hbm, ⟨78, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_1 : Ref sig .tc := ⟨.hbm, 44, rfl⟩
abbrev main_v31 : Ref sig .tc := ⟨.hbm, 45, rfl⟩
abbrev main_v32 : Ref sig .tc := ⟨.hbm, 46, rfl⟩
abbrev main_cst_2 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_4 : Ref sig .tc := ⟨.hbm, 60, rfl⟩
abbrev main_v44 : Ref sig .tc := ⟨.hbm, 61, rfl⟩
abbrev main_v45 : Ref sig .tc := ⟨.hbm, 62, rfl⟩
abbrev main_cst_5 : Ref sig .tc := ⟨.hbm, 63, rfl⟩
abbrev main_v46 : Ref sig .tc := ⟨.hbm, 64, rfl⟩
abbrev main_v47 : Ref sig .tc := ⟨.hbm, 65, rfl⟩
abbrev main_cst_6 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]
-- ==== NormFwd.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdIdeal.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== MemNormFwd.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== MemNormFwdRefIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== MemKv.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .bf16⟩
  | .local _ .vmem, ⟨0, _⟩ => ⟨S256x1024, .bf16⟩
  | .local _ .vmem, ⟨1, _⟩ => ⟨S1024x1024, .bf16⟩
  | .local _ .vmem, ⟨2, _⟩ => ⟨S256x1024, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemKvRefIdeal.lean ====
abbrev S256x1024 : Shape := ⟨2, ![256, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .f32⟩
  | .hbm, ⟨3, _⟩ => ⟨S1024x1024, .f32⟩
  | .hbm, ⟨4, _⟩ => ⟨S256x1024, .f32⟩
  | .hbm, ⟨5, _⟩ => ⟨S256x1024, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== XattnFwd.lean ====
abbrev S4096x1024 : Shape := ⟨2, ![4096, 1024]⟩
abbrev S256x1024 : Shape := ⟨2, ![256, 1024]⟩
abbrev S4096x512 : Shape := ⟨2, ![4096, 512]⟩
abbrev S512x512 : Shape := ⟨2, ![512, 512]⟩
abbrev S256x128 : Shape := ⟨2, ![256, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S256x1024, .bf16⟩
  | .hbm, ⟨2, _⟩ => ⟨S4096x512, .bf16⟩
  | .local _ .vmem, ⟨0, _⟩ => ⟨S512x512, .bf16⟩
  | .local _ .vmem, ⟨1, _⟩ => ⟨S512x512, .bf16⟩
  | .local _ .vmem, ⟨2, _⟩ => ⟨S256x1024, .bf16⟩
  | .local _ .vmem, ⟨3, _⟩ => ⟨S512x512, .bf16⟩
  | .local _ .vmem, ⟨4, _⟩ => ⟨S512x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== XattnFwdRefIdeal.lean ====
abbrev S4096x1024 : Shape := ⟨2, ![4096, 1024]⟩
abbrev S256x1024 : Shape := ⟨2, ![256, 1024]⟩
abbrev S4096x512 : Shape := ⟨2, ![4096, 512]⟩
abbrev S4096x4x128 : Shape := ⟨3, ![4096, 4, 128]⟩
abbrev S256x512 : Shape := ⟨2, ![256, 512]⟩
abbrev S256x4x128 : Shape := ⟨3, ![256, 4, 128]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x128x4096 : Shape := ⟨3, ![4, 128, 4096]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x1024, .bf16⟩
  | .hbm, ⟨2, _⟩ => ⟨S4096x512, .bf16⟩
  | .hbm, ⟨3, _⟩ => ⟨S4096x512, .f32⟩
  | .hbm, ⟨4, _⟩ => ⟨S256x1024, .f32⟩
  | .hbm, ⟨5, _⟩ => ⟨S4096x4x128, .f32⟩
  | .hbm, ⟨6, _⟩ => ⟨S256x512, .f32⟩
  | .hbm, ⟨7, _⟩ => ⟨S256x512, .f32⟩
  | .hbm, ⟨8, _⟩ => ⟨S256x4x128, .f32⟩
  | .hbm, ⟨9, _⟩ => ⟨S256x4x128, .f32⟩
  | .hbm, ⟨10, _⟩ => ⟨S4x4096x256, .f32⟩
  | .hbm, ⟨11, _⟩ => ⟨S_, .f32⟩
  | .hbm, ⟨12, _⟩ => ⟨S4x4096x256, .f32⟩
  | .hbm, ⟨13, _⟩ => ⟨S4x4096x256, .f32⟩
  | .hbm, ⟨14, _⟩ => ⟨S_, .f32⟩
  | .hbm, ⟨15, _⟩ => ⟨S4x4096, .f32⟩
  | .hbm, ⟨16, _⟩ => ⟨S_, .f32⟩
  | .hbm, ⟨17, _⟩ => ⟨S4x4096, .f32⟩
  | .hbm, ⟨18, _⟩ => ⟨S4x4096, .f32⟩
  | .hbm, ⟨19, _⟩ => ⟨S4x4096x1, .f32⟩
  | .hbm, ⟨20, _⟩ => ⟨S4x4096x256, .f32⟩
  | .hbm, ⟨21, _⟩ => ⟨S4x4096x256, .f32⟩
  | .hbm, ⟨22, _⟩ => ⟨S4x4096x256, .f32⟩
  | .hbm, ⟨23, _⟩ => ⟨S_, .f32⟩
  | .hbm, ⟨24, _⟩ => ⟨S4x4096, .f32⟩
  | .hbm, ⟨25, _⟩ => ⟨S4x4096x1, .f32⟩
  | .hbm, ⟨26, _⟩ => ⟨S4x4096x256, .f32⟩
  | .hbm, ⟨27, _⟩ => ⟨S4x4096x256, .f32⟩
  | .hbm, ⟨28, _⟩ => ⟨S4x128x4096, .f32⟩
  | .hbm, ⟨29, _⟩ => ⟨S4096x4x128, .f32⟩
  | .hbm, ⟨30, _⟩ => ⟨S4096x512, .f32⟩
  | .hbm, ⟨31, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== AdamIn.lean ====
abbrev S1x1024x1408 : Shape := ⟨3, ![1, 1024, 1408]⟩
abbrev S1024x1408 : Shape := ⟨2, ![1024, 1408]⟩
abbrev S1x512x1408 : Shape := ⟨3, ![1, 512, 1408]⟩
abbrev S512x1408 : Shape := ⟨2, ![512, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1x1024x1408, .f32⟩
  | .hbm, ⟨1, _⟩ => ⟨S1024x1408, .f32⟩
  | .hbm, ⟨2, _⟩ => ⟨S1x1024x1408, .f32⟩
  | .hbm, ⟨3, _⟩ => ⟨S1x1024x1408, .f32⟩
  | .hbm, ⟨4, _⟩ => ⟨S1x1024x1408, .f32⟩
  | .hbm, ⟨5, _⟩ => ⟨S1x1024x1408, .f32⟩
  | .hbm, ⟨6, _⟩ => ⟨S1x1024x1408, .f32⟩
  | .local _ .vmem, ⟨0, _⟩ => ⟨S1x512x1408, .f32⟩
  | .local _ .vmem, ⟨1, _⟩ => ⟨S1x512x1408, .f32⟩
  | .local _ .vmem, ⟨2, _⟩ => ⟨S512x1408, .f32⟩
  | .local _ .vmem, ⟨3, _⟩ => ⟨S512x1408, .f32⟩
  | .local _ .vmem, ⟨4, _⟩ => ⟨S1x512x1408, .f32⟩
  | .local _ .vmem, ⟨5, _⟩ => ⟨S1x512x1408, .f32⟩
  | .local _ .vmem, ⟨6, _⟩ => ⟨S1x512x1408, .f32⟩
  | .local _ .vmem, ⟨7, _⟩ => ⟨S1x512x1408, .f32⟩
  | .local _ .vmem, ⟨8, _⟩ => ⟨S1x512x1408, .f32⟩
  | .local _ .vmem, ⟨9, _⟩ => ⟨S1x512x1408, .f32⟩
  | .local _ .vmem, ⟨10, _⟩ => ⟨S1x512x1408, .f32⟩
  | .local _ .vmem, ⟨11, _⟩ => ⟨S1x512x1408, .f32⟩
  | .local _ .vmem, ⟨12, _⟩ => ⟨S1x512x1408, .f32⟩
  | .local _ .vmem, ⟨13, _⟩ => ⟨S1x512x1408, .f32⟩
  | _, _ => ⟨S1x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1x512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamInIdeal.lean ====
abbrev S1x1024x1408 : Shape := ⟨3, ![1, 1024, 1408]⟩
abbrev S1024x1408 : Shape := ⟨2, ![1024, 1408]⟩
abbrev S1x512x1408 : Shape := ⟨3, ![1, 512, 1408]⟩
abbrev S512x1408 : Shape := ⟨2, ![512, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1x1024x1408, .f32⟩
  | .hbm, ⟨1, _⟩ => ⟨S1024x1408, .f32⟩
  | .hbm, ⟨2, _⟩ => ⟨S1x1024x1408, .f32⟩
  | .hbm, ⟨3, _⟩ => ⟨S1x1024x1408, .f32⟩
  | .hbm, ⟨4, _⟩ => ⟨S1x1024x1408, .f32⟩
  | .hbm, ⟨5, _⟩ => ⟨S1x1024x1408, .f32⟩
  | .hbm, ⟨6, _⟩ => ⟨S1x1024x1408, .f32⟩
  | .local _ .vmem, ⟨0, _⟩ => ⟨S1x512x1408, .f32⟩
  | .local _ .vmem, ⟨1, _⟩ => ⟨S1x512x1408, .f32⟩
  | .local _ .vmem, ⟨2, _⟩ => ⟨S512x1408, .f32⟩
  | .local _ .vmem, ⟨3, _⟩ => ⟨S512x1408, .f32⟩
  | .local _ .vmem, ⟨4, _⟩ => ⟨S1x512x1408, .f32⟩
  | .local _ .vmem, ⟨5, _⟩ => ⟨S1x512x1408, .f32⟩
  | .local _ .vmem, ⟨6, _⟩ => ⟨S1x512x1408, .f32⟩
  | .local _ .vmem, ⟨7, _⟩ => ⟨S1x512x1408, .f32⟩
  | .local _ .vmem, ⟨8, _⟩ => ⟨S1x512x1408, .f32⟩
  | .local _ .vmem, ⟨9, _⟩ => ⟨S1x512x1408, .f32⟩
  | .local _ .vmem, ⟨10, _⟩ => ⟨S1x512x1408, .f32⟩
  | .local _ .vmem, ⟨11, _⟩ => ⟨S1x512x1408, .f32⟩
  | .local _ .vmem, ⟨12, _⟩ => ⟨S1x512x1408, .f32⟩
  | .local _ .vmem, ⟨13, _⟩ => ⟨S1x512x1408, .f32⟩
  | _, _ => ⟨S1x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1x512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamInRefIdeal.lean ====
abbrev S1x1024x1408 : Shape := ⟨3, ![1, 1024, 1408]⟩
abbrev S1024x1408 : Shape := ⟨2, ![1024, 1408]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x1024x1408, .f32⟩
  | .hbm, ⟨1, _⟩ => ⟨S1024x1408, .f32⟩
  | .hbm, ⟨2, _⟩ => ⟨S1x1024x1408, .f32⟩
  | .hbm, ⟨3, _⟩ => ⟨S1x1024x1408, .f32⟩
  | .hbm, ⟨4, _⟩ => ⟨S1x1024x1408, .f32⟩
  | .hbm, ⟨5, _⟩ => ⟨S_, .f32⟩
  | .hbm, ⟨6, _⟩ => ⟨S1x1024x1408, .f32⟩
  | .hbm, ⟨7, _⟩ => ⟨S1x1024x1408, .f32⟩
  | .hbm, ⟨8, _⟩ => ⟨S_, .f32⟩
  | .hbm, ⟨9, _⟩ => ⟨S1x1024x1408, .f32⟩
  | .hbm, ⟨10, _⟩ => ⟨S1x1024x1408, .f32⟩
  | .hbm, ⟨11, _⟩ => ⟨S1x1024x1408, .f32⟩
  | .hbm, ⟨12, _⟩ => ⟨S_, .f32⟩
  | .hbm, ⟨13, _⟩ => ⟨S1x1024x1408, .f32⟩
  | .hbm, ⟨14, _⟩ => ⟨S1x1024x1408, .f32⟩
  | .hbm, ⟨15, _⟩ => ⟨S1x1024x1408, .f32⟩
  | .hbm, ⟨16, _⟩ => ⟨S_, .f32⟩
  | .hbm, ⟨17, _⟩ => ⟨S1x1024x1408, .f32⟩
  | .hbm, ⟨18, _⟩ => ⟨S1x1024x1408, .f32⟩
  | .hbm, ⟨19, _⟩ => ⟨S1x1024x1408, .f32⟩
  | .hbm, ⟨20, _⟩ => ⟨S_, .f32⟩
  | .hbm, ⟨21, _⟩ => ⟨S1x1024x1408, .f32⟩
  | .hbm, ⟨22, _⟩ => ⟨S1x1024x1408, .f32⟩
  | .hbm, ⟨23, _⟩ => ⟨S_, .f32⟩
  | .hbm, ⟨24, _⟩ => ⟨S1x1024x1408, .f32⟩
  | .hbm, ⟨25, _⟩ => ⟨S1x1024x1408, .f32⟩
  | .hbm, ⟨26, _⟩ => ⟨S1x1024x1408, .f32⟩
  | .hbm, ⟨27, _⟩ => ⟨S_, .f32⟩
  | .hbm, ⟨28, _⟩ => ⟨S1x1024x1408, .f32⟩
  | .hbm, ⟨29, _⟩ => ⟨S1x1024x1408, .f32⟩
  | .hbm, ⟨30, _⟩ => ⟨S1x1024x1408, .f32⟩
  | .hbm, ⟨31, _⟩ => ⟨S_, .f32⟩
  | .hbm, ⟨32, _⟩ => ⟨S1x1024x1408, .f32⟩
  | .hbm, ⟨33, _⟩ => ⟨S1x1024x1408, .f32⟩
  | .hbm, ⟨34, _⟩ => ⟨S1x1024x1408, .f32⟩
  | .hbm, ⟨35, _⟩ => ⟨S_, .f32⟩
  | .hbm, ⟨36, _⟩ => ⟨S1x1024x1408, .f32⟩
  | .hbm, ⟨37, _⟩ => ⟨S1x1024x1408, .f32⟩
  | _, _ => ⟨S1x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamOut.lean ====
abbrev S1x704x1024 : Shape := ⟨3, ![1, 704, 1024]⟩
abbrev S704x1024 : Shape := ⟨2, ![704, 1024]⟩
abbrev S1x352x1024 : Shape := ⟨3, ![1, 352, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1x704x1024, .f32⟩
  | .hbm, ⟨1, _⟩ => ⟨S704x1024, .f32⟩
  | .hbm, ⟨2, _⟩ => ⟨S1x704x1024, .f32⟩
  | .hbm, ⟨3, _⟩ => ⟨S1x704x1024, .f32⟩
  | .hbm, ⟨4, _⟩ => ⟨S1x704x1024, .f32⟩
  | .hbm, ⟨5, _⟩ => ⟨S1x704x1024, .f32⟩
  | .hbm, ⟨6, _⟩ => ⟨S1x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S352x1024, .f32⟩
  | .local _ .vmem, ⟨3, _⟩ => ⟨S352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | _, _ => ⟨S1x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamOutIdeal.lean ====
abbrev S1x704x1024 : Shape := ⟨3, ![1, 704, 1024]⟩
abbrev S704x1024 : Shape := ⟨2, ![704, 1024]⟩
abbrev S1x352x1024 : Shape := ⟨3, ![1, 352, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1x704x1024, .f32⟩
  | .hbm, ⟨1, _⟩ => ⟨S704x1024, .f32⟩
  | .hbm, ⟨2, _⟩ => ⟨S1x704x1024, .f32⟩
  | .hbm, ⟨3, _⟩ => ⟨S1x704x1024, .f32⟩
  | .hbm, ⟨4, _⟩ => ⟨S1x704x1024, .f32⟩
  | .hbm, ⟨5, _⟩ => ⟨S1x704x1024, .f32⟩
  | .hbm, ⟨6, _⟩ => ⟨S1x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S352x1024, .f32⟩
  | .local _ .vmem, ⟨3, _⟩ => ⟨S352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | _, _ => ⟨S1x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamOutRefIdeal.lean ====
abbrev S1x704x1024 : Shape := ⟨3, ![1, 704, 1024]⟩
abbrev S704x1024 : Shape := ⟨2, ![704, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x704x1024, .f32⟩
  | .hbm, ⟨1, _⟩ => ⟨S704x1024, .f32⟩
  | .hbm, ⟨2, _⟩ => ⟨S1x704x1024, .f32⟩
  | .hbm, ⟨3, _⟩ => ⟨S1x704x1024, .f32⟩
  | .hbm, ⟨4, _⟩ => ⟨S1x704x1024, .f32⟩
  | .hbm, ⟨5, _⟩ => ⟨S_, .f32⟩
  | .hbm, ⟨6, _⟩ => ⟨S1x704x1024, .f32⟩
  | .hbm, ⟨7, _⟩ => ⟨S1x704x1024, .f32⟩
  | .hbm, ⟨8, _⟩ => ⟨S_, .f32⟩
  | .hbm, ⟨9, _⟩ => ⟨S1x704x1024, .f32⟩
  | .hbm, ⟨10, _⟩ => ⟨S1x704x1024, .f32⟩
  | .hbm, ⟨11, _⟩ => ⟨S1x704x1024, .f32⟩
  | .hbm, ⟨12, _⟩ => ⟨S_, .f32⟩
  | .hbm, ⟨13, _⟩ => ⟨S1x704x1024, .f32⟩
  | .hbm, ⟨14, _⟩ => ⟨S1x704x1024, .f32⟩
  | .hbm, ⟨15, _⟩ => ⟨S1x704x1024, .f32⟩
  | .hbm, ⟨16, _⟩ => ⟨S_, .f32⟩
  | .hbm, ⟨17, _⟩ => ⟨S1x704x1024, .f32⟩
  | .hbm, ⟨18, _⟩ => ⟨S1x704x1024, .f32⟩
  | .hbm, ⟨19, _⟩ => ⟨S1x704x1024, .f32⟩
  | .hbm, ⟨20, _⟩ => ⟨S_, .f32⟩
  | .hbm, ⟨21, _⟩ => ⟨S1x704x1024, .f32⟩
  | .hbm, ⟨22, _⟩ => ⟨S1x704x1024, .f32⟩
  | .hbm, ⟨23, _⟩ => ⟨S_, .f32⟩
  | .hbm, ⟨24, _⟩ => ⟨S1x704x1024, .f32⟩
  | .hbm, ⟨25, _⟩ => ⟨S1x704x1024, .f32⟩
  | .hbm, ⟨26, _⟩ => ⟨S1x704x1024, .f32⟩
  | .hbm, ⟨27, _⟩ => ⟨S_, .f32⟩
  | .hbm, ⟨28, _⟩ => ⟨S1x704x1024, .f32⟩
  | .hbm, ⟨29, _⟩ => ⟨S1x704x1024, .f32⟩
  | .hbm, ⟨30, _⟩ => ⟨S1x704x1024, .f32⟩
  | .hbm, ⟨31, _⟩ => ⟨S_, .f32⟩
  | .hbm, ⟨32, _⟩ => ⟨S1x704x1024, .f32⟩
  | .hbm, ⟨33, _⟩ => ⟨S1x704x1024, .f32⟩
  | .hbm, ⟨34, _⟩ => ⟨S1x704x1024, .f32⟩
  | .hbm, ⟨35, _⟩ => ⟨S_, .f32⟩
  | .hbm, ⟨36, _⟩ => ⟨S1x704x1024, .f32⟩
  | .hbm, ⟨37, _⟩ => ⟨S1x704x1024, .f32⟩
  | _, _ => ⟨S1x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamWin.lean ====
abbrev S1796x1024 : Shape := ⟨2, ![1796, 1024]⟩
abbrev S1796x256 : Shape := ⟨2, ![1796, 256]⟩

abbrev nBuf : Space → Nat
  | .hbm => 7
  | .vmem => 14
  | .smem => 0
  | _ => 0

abbrev bufTy : (tb : Table) → Fin (tcTables nBuf tb) → BufTy
  | .hbm, ⟨0, _⟩ => ⟨S1796x1024, .f32⟩
  | .hbm, ⟨1, _⟩ => ⟨S1796x1024, .f32⟩
  | .hbm, ⟨2, _⟩ => ⟨S1796x1024, .f32⟩
  | .hbm, ⟨3, _⟩ => ⟨S1796x1024, .f32⟩
  | .hbm, ⟨4, _⟩ => ⟨S1796x1024, .f32⟩
  | .hbm, ⟨5, _⟩ => ⟨S1796x1024, .f32⟩
  | .hbm, ⟨6, _⟩ => ⟨S1796x1024, .f32⟩
  | .local _ .vmem, ⟨0, _⟩ => ⟨S1796x256, .f32⟩
  | .local _ .vmem, ⟨1, _⟩ => ⟨S1796x256, .f32⟩
  | .local _ .vmem, ⟨2, _⟩ => ⟨S1796x256, .f32⟩
  | .local _ .vmem, ⟨3, _⟩ => ⟨S1796x256, .f32⟩
  | .local _ .vmem, ⟨4, _⟩ => ⟨S1796x256, .f32⟩
  | .local _ .vmem, ⟨5, _⟩ => ⟨S1796x256, .f32⟩
  | .local _ .vmem, ⟨6, _⟩ => ⟨S1796x256, .f32⟩
  | .local _ .vmem, ⟨7, _⟩ => ⟨S1796x256, .f32⟩
  | .local _ .vmem, ⟨8, _⟩ => ⟨S1796x256, .f32⟩
  | .local _ .vmem, ⟨9, _⟩ => ⟨S1796x256, .f32⟩
  | .local _ .vmem, ⟨10, _⟩ => ⟨S1796x256, .f32⟩
  | .local _ .vmem, ⟨11, _⟩ => ⟨S1796x256, .f32⟩
  | .local _ .vmem, ⟨12, _⟩ => ⟨S1796x256, .f32⟩
  | .local _ .vmem, ⟨13, _⟩ => ⟨S1796x256, .f32⟩
  | _, _ => ⟨S1796x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1796x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1796x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1796x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1796x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1796x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1796x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1796x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamWinIdeal.lean ====
abbrev S1796x1024 : Shape := ⟨2, ![1796, 1024]⟩
abbrev S1796x256 : Shape := ⟨2, ![1796, 256]⟩

abbrev nBuf : Space → Nat
  | .hbm => 7
  | .vmem => 14
  | .smem => 0
  | _ => 0

abbrev bufTy : (tb : Table) → Fin (tcTables nBuf tb) → BufTy
  | .hbm, ⟨0, _⟩ => ⟨S1796x1024, .f32⟩
  | .hbm, ⟨1, _⟩ => ⟨S1796x1024, .f32⟩
  | .hbm, ⟨2, _⟩ => ⟨S1796x1024, .f32⟩
  | .hbm, ⟨3, _⟩ => ⟨S1796x1024, .f32⟩
  | .hbm, ⟨4, _⟩ => ⟨S1796x1024, .f32⟩
  | .hbm, ⟨5, _⟩ => ⟨S1796x1024, .f32⟩
  | .hbm, ⟨6, _⟩ => ⟨S1796x1024, .f32⟩
  | .local _ .vmem, ⟨0, _⟩ => ⟨S1796x256, .f32⟩
  | .local _ .vmem, ⟨1, _⟩ => ⟨S1796x256, .f32⟩
  | .local _ .vmem, ⟨2, _⟩ => ⟨S1796x256, .f32⟩
  | .local _ .vmem, ⟨3, _⟩ => ⟨S1796x256, .f32⟩
  | .local _ .vmem, ⟨4, _⟩ => ⟨S1796x256, .f32⟩
  | .local _ .vmem, ⟨5, _⟩ => ⟨S1796x256, .f32⟩
  | .local _ .vmem, ⟨6, _⟩ => ⟨S1796x256, .f32⟩
  | .local _ .vmem, ⟨7, _⟩ => ⟨S1796x256, .f32⟩
  | .local _ .vmem, ⟨8, _⟩ => ⟨S1796x256, .f32⟩
  | .local _ .vmem, ⟨9, _⟩ => ⟨S1796x256, .f32⟩
  | .local _ .vmem, ⟨10, _⟩ => ⟨S1796x256, .f32⟩
  | .local _ .vmem, ⟨11, _⟩ => ⟨S1796x256, .f32⟩
  | .local _ .vmem, ⟨12, _⟩ => ⟨S1796x256, .f32⟩
  | .local _ .vmem, ⟨13, _⟩ => ⟨S1796x256, .f32⟩
  | _, _ => ⟨S1796x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1796x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1796x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1796x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1796x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1796x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1796x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1796x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamWinRefIdeal.lean ====
abbrev S1796x1024 : Shape := ⟨2, ![1796, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1796x1024, .f32⟩
  | .hbm, ⟨1, _⟩ => ⟨S1796x1024, .f32⟩
  | .hbm, ⟨2, _⟩ => ⟨S1796x1024, .f32⟩
  | .hbm, ⟨3, _⟩ => ⟨S1796x1024, .f32⟩
  | .hbm, ⟨4, _⟩ => ⟨S_, .f32⟩
  | .hbm, ⟨5, _⟩ => ⟨S1796x1024, .f32⟩
  | .hbm, ⟨6, _⟩ => ⟨S1796x1024, .f32⟩
  | .hbm, ⟨7, _⟩ => ⟨S_, .f32⟩
  | .hbm, ⟨8, _⟩ => ⟨S1796x1024, .f32⟩
  | .hbm, ⟨9, _⟩ => ⟨S1796x1024, .f32⟩
  | .hbm, ⟨10, _⟩ => ⟨S1796x1024, .f32⟩
  | .hbm, ⟨11, _⟩ => ⟨S_, .f32⟩
  | .hbm, ⟨12, _⟩ => ⟨S1796x1024, .f32⟩
  | .hbm, ⟨13, _⟩ => ⟨S1796x1024, .f32⟩
  | .hbm, ⟨14, _⟩ => ⟨S1796x1024, .f32⟩
  | .hbm, ⟨15, _⟩ => ⟨S_, .f32⟩
  | .hbm, ⟨16, _⟩ => ⟨S1796x1024, .f32⟩
  | .hbm, ⟨17, _⟩ => ⟨S1796x1024, .f32⟩
  | .hbm, ⟨18, _⟩ => ⟨S1796x1024, .f32⟩
  | .hbm, ⟨19, _⟩ => ⟨S_, .f32⟩
  | .hbm, ⟨20, _⟩ => ⟨S1796x1024, .f32⟩
  | .hbm, ⟨21, _⟩ => ⟨S1796x1024, .f32⟩
  | .hbm, ⟨22, _⟩ => ⟨S_, .f32⟩
  | .hbm, ⟨23, _⟩ => ⟨S1796x1024, .f32⟩
  | .hbm, ⟨24, _⟩ => ⟨S1796x1024, .f32⟩
  | .hbm, ⟨25, _⟩ => ⟨S1796x1024, .f32⟩
  | .hbm, ⟨26, _⟩ => ⟨S_, .f32⟩
  | .hbm, ⟨27, _⟩ => ⟨S1796x1024, .f32⟩
  | .hbm, ⟨28, _⟩ => ⟨S1796x1024, .f32⟩
  | .hbm, ⟨29, _⟩ => ⟨S1796x1024, .f32⟩
  | .hbm, ⟨30, _⟩ => ⟨S_, .f32⟩
  | .hbm, ⟨31, _⟩ => ⟨S1796x1024, .f32⟩
  | .hbm, ⟨32, _⟩ => ⟨S1796x1024, .f32⟩
  | .hbm, ⟨33, _⟩ => ⟨S1796x1024, .f32⟩
  | .hbm, ⟨34, _⟩ => ⟨S_, .f32⟩
  | .hbm, ⟨35, _⟩ => ⟨S1796x1024, .f32⟩
  | .hbm, ⟨36, _⟩ => ⟨S1796x1024, .f32⟩
  | _, _ => ⟨S1796x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSq.lean ====
abbrev S1x256x1024 : Shape := ⟨3, ![1, 256, 1024]⟩
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .local _ .vmem, ⟨0, _⟩ => ⟨S1x256x1024, .f32⟩
  | .local _ .vmem, ⟨1, _⟩ => ⟨S256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamSqIdeal.lean ====
abbrev S1x256x1024 : Shape := ⟨3, ![1, 256, 1024]⟩
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .local _ .vmem, ⟨0, _⟩ => ⟨S1x256x1024, .f32⟩
  | .local _ .vmem, ⟨1, _⟩ => ⟨S256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamSqRefIdeal.lean ====
abbrev S1x256x1024 : Shape := ⟨3, ![1, 256, 1024]⟩
abbrev S256x1024 : Shape := ⟨2, ![256, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S_, .f32⟩
  | .hbm, ⟨6, _⟩ => ⟨S1x256x1024, .f32⟩
  | .hbm, ⟨7, _⟩ => ⟨S1x256x1024, .f32⟩
  | .hbm, ⟨8, _⟩ => ⟨S_, .f32⟩
  | .hbm, ⟨9, _⟩ => ⟨S1x256x1024, .f32⟩
  | .hbm, ⟨10, _⟩ => ⟨S1x256x1024, .f32⟩
  | .hbm, ⟨11, _⟩ => ⟨S1x256x1024, .f32⟩
  | .hbm, ⟨12, _⟩ => ⟨S_, .f32⟩
  | .hbm, ⟨13, _⟩ => ⟨S1x256x1024, .f32⟩
  | .hbm, ⟨14, _⟩ => ⟨S1x256x1024, .f32⟩
  | .hbm, ⟨15, _⟩ => ⟨S1x256x1024, .f32⟩
  | .hbm, ⟨16, _⟩ => ⟨S_, .f32⟩
  | .hbm, ⟨17, _⟩ => ⟨S1x256x1024, .f32⟩
  | .hbm, ⟨18, _⟩ => ⟨S1x256x1024, .f32⟩
  | .hbm, ⟨19, _⟩ => ⟨S1x256x1024, .f32⟩
  | .hbm, ⟨20, _⟩ => ⟨S_, .f32⟩
  | .hbm, ⟨21, _⟩ => ⟨S1x256x1024, .f32⟩
  | .hbm, ⟨22, _⟩ => ⟨S1x256x1024, .f32⟩
  | .hbm, ⟨23, _⟩ => ⟨S_, .f32⟩
  | .hbm, ⟨24, _⟩ => ⟨S1x256x1024, .f32⟩
  | .hbm, ⟨25, _⟩ => ⟨S1x256x1024, .f32⟩
  | .hbm, ⟨26, _⟩ => ⟨S1x256x1024, .f32⟩
  | .hbm, ⟨27, _⟩ => ⟨S_, .f32⟩
  | .hbm, ⟨28, _⟩ => ⟨S1x256x1024, .f32⟩
  | .hbm, ⟨29, _⟩ => ⟨S1x256x1024, .f32⟩
  | .hbm, ⟨30, _⟩ => ⟨S1x256x1024, .f32⟩
  | .hbm, ⟨31, _⟩ => ⟨S_, .f32⟩
  | .hbm, ⟨32, _⟩ => ⟨S1x256x1024, .f32⟩
  | .hbm, ⟨33, _⟩ => ⟨S1x256x1024, .f32⟩
  | .hbm, ⟨34, _⟩ => ⟨S1x256x1024, .f32⟩
  | .hbm, ⟨35, _⟩ => ⟨S_, .f32⟩
  | .hbm, ⟨36, _⟩ => ⟨S1x256x1024, .f32⟩
  | .hbm, ⟨37, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamUp.lean ====
abbrev S1x512x256 : Shape := ⟨3, ![1, 512, 256]⟩
abbrev S512x256 : Shape := ⟨2, ![512, 256]⟩

abbrev nBuf : Space → Nat
  | .hbm => 7
  | .vmem => 7
  | .smem => 0
  | _ => 0

abbrev bufTy : (tb : Table) → Fin (tcTables nBuf tb) → BufTy
  | .hbm, ⟨0, _⟩ => ⟨S1x512x256, .f32⟩
  | .hbm, ⟨1, _⟩ => ⟨S512x256, .f32⟩
  | .hbm, ⟨2, _⟩ => ⟨S1x512x256, .f32⟩
  | .hbm, ⟨3, _⟩ => ⟨S1x512x256, .f32⟩
  | .hbm, ⟨4, _⟩ => ⟨S1x512x256, .f32⟩
  | .hbm, ⟨5, _⟩ => ⟨S1x512x256, .f32⟩
  | .hbm, ⟨6, _⟩ => ⟨S1x512x256, .f32⟩
  | .local _ .vmem, ⟨0, _⟩ => ⟨S1x512x256, .f32⟩
  | .local _ .vmem, ⟨1, _⟩ => ⟨S512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | _, _ => ⟨S1x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S1x512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamUpRefIdeal.lean ====
abbrev S1x512x256 : Shape := ⟨3, ![1, 512, 256]⟩
abbrev S512x256 : Shape := ⟨2, ![512, 256]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x512x256, .f32⟩
  | .hbm, ⟨1, _⟩ => ⟨S512x256, .f32⟩
  | .hbm, ⟨2, _⟩ => ⟨S1x512x256, .f32⟩
  | .hbm, ⟨3, _⟩ => ⟨S1x512x256, .f32⟩
  | .hbm, ⟨4, _⟩ => ⟨S1x512x256, .f32⟩
  | .hbm, ⟨5, _⟩ => ⟨S_, .f32⟩
  | .hbm, ⟨6, _⟩ => ⟨S1x512x256, .f32⟩
  | .hbm, ⟨7, _⟩ => ⟨S1x512x256, .f32⟩
  | .hbm, ⟨8, _⟩ => ⟨S_, .f32⟩
  | .hbm, ⟨9, _⟩ => ⟨S1x512x256, .f32⟩
  | .hbm, ⟨10, _⟩ => ⟨S1x512x256, .f32⟩
  | .hbm, ⟨11, _⟩ => ⟨S1x512x256, .f32⟩
  | .hbm, ⟨12, _⟩ => ⟨S_, .f32⟩
  | .hbm, ⟨13, _⟩ => ⟨S1x512x256, .f32⟩
  | .hbm, ⟨14, _⟩ => ⟨S1x512x256, .f32⟩
  | .hbm, ⟨15, _⟩ => ⟨S1x512x256, .f32⟩
  | .hbm, ⟨16, _⟩ => ⟨S_, .f32⟩
  | .hbm, ⟨17, _⟩ => ⟨S1x512x256, .f32⟩
  | .hbm, ⟨18, _⟩ => ⟨S1x512x256, .f32⟩
  | .hbm, ⟨19, _⟩ => ⟨S1x512x256, .f32⟩
  | .hbm, ⟨20, _⟩ => ⟨S_, .f32⟩
  | .hbm, ⟨21, _⟩ => ⟨S1x512x256, .f32⟩
  | .hbm, ⟨22, _⟩ => ⟨S1x512x256, .f32⟩
  | .hbm, ⟨23, _⟩ => ⟨S_, .f32⟩
  | .hbm, ⟨24, _⟩ => ⟨S1x512x256, .f32⟩
  | .hbm, ⟨25, _⟩ => ⟨S1x512x256, .f32⟩
  | .hbm, ⟨26, _⟩ => ⟨S1x512x256, .f32⟩
  | .hbm, ⟨27, _⟩ => ⟨S_, .f32⟩
  | .hbm, ⟨28, _⟩ => ⟨S1x512x256, .f32⟩
  | .hbm, ⟨29, _⟩ => ⟨S1x512x256, .f32⟩
  | .hbm, ⟨30, _⟩ => ⟨S1x512x256, .f32⟩
  | .hbm, ⟨31, _⟩ => ⟨S_, .f32⟩
  | .hbm, ⟨32, _⟩ => ⟨S1x512x256, .f32⟩
  | .hbm, ⟨33, _⟩ => ⟨S1x512x256, .f32⟩
  | .hbm, ⟨34, _⟩ => ⟨S1x512x256, .f32⟩
  | .hbm, ⟨35, _⟩ => ⟨S_, .f32⟩
  | .hbm, ⟨36, _⟩ => ⟨S1x512x256, .f32⟩
  | .hbm, ⟨37, _⟩ => ⟨S1x512x256, .f32⟩
  | _, _ => ⟨S1x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Proof.Softmax.lean ====
module

public import Idealize.ShloMosaic.Lib.Pointwise

@[expose] public section

noncomputable section

namespace Cert.Softmax

open Idealize.ShloMosaic

/-! The gradient of a softmax over one row of finite scores, in the two shapes in which the kernel and the reference write it.
The gradient that comes in may be infinite. -/

variable {N : Nat}

/-- The row's maximum. -/
def top (s : Fin N → EReal) : EReal := Finset.univ.fold max ⊥ s

/-- The exponentials of the scores less the maximum. -/
def ex (s : Fin N → EReal) (n : Fin N) : EReal := Ideal.exp (s n - top s)

/-- The sum of the exponentials. -/
def total (s : Fin N → EReal) : EReal := ∑ n, ex s n

/-- The weights, as the kernel computes them. -/
def weight (s : Fin N → EReal) (n : Fin N) : EReal := ex s n * Ideal.div 1 (total s)

/-- The gradient of the scores, as the kernel computes it, times a constant. -/
def grad (s a : Fin N → EReal) (c : EReal) (n : Fin N) : EReal :=
  weight s n * (a n - ∑ k, a k * weight s k) * c

/-- A sum of reals is the same sum over the extended reals. -/
theorem coe_sum_real {ι : Type*} (t : Finset ι) (f : ι → ℝ) : ((∑ i ∈ t, f i : ℝ) : EReal) = ∑ i ∈ t, (f i : EReal) := by
  classical
  induction t using Finset.induction_on with
  | empty => simp
  | insert i t hi ih => rw [Finset.sum_insert hi, Finset.sum_insert hi, EReal.coe_add, ih]

/-- A finite nonnegative factor comes out of a sum. -/
theorem sum_mul_real {ι : Type*} (t : Finset ι) (f : ι → EReal) (r : ℝ) (hr : 0 ≤ r) : (∑ i ∈ t, f i) * (r : EReal) = ∑ i ∈ t, f i * (r : EReal) := by
  classical
  induction t using Finset.induction_on with
  | empty => simp
  | insert i t hi ih =>
    rw [Finset.sum_insert hi, Finset.sum_insert hi, ← ih]
    exact EReal.right_distrib_of_nonneg_of_ne_top (by exact_mod_cast hr) (EReal.coe_ne_top r) _ _

/-- A finite nonnegative factor comes out of a difference. -/
theorem sub_mul_real (x y : EReal) (r : ℝ) (hr : 0 ≤ r) : x * (r : EReal) + -(y * (r : EReal)) = (x - y) * (r : EReal) := by
  rw [sub_eq_add_neg, EReal.right_distrib_of_nonneg_of_ne_top (by exact_mod_cast hr) (EReal.coe_ne_top r), EReal.neg_mul]

/-- The exponentials of a row of real scores are positive reals. -/
theorem ex_real (s : Fin N → EReal) (σ : Fin N → ℝ) (hs : ∀ n, s n = (σ n : EReal)) :
    ∃ e : Fin N → ℝ, (∀ n, 0 < e n) ∧ ∀ n, ex s n = (e n : EReal) := by
  rcases Nat.eq_zero_or_pos N with h0 | h0
  · subst h0; exact ⟨fun _ => 1, fun n => n.elim0, fun n => n.elim0⟩
  · have hlt : top s < ⊤ := (Finset.fold_max_lt _).mpr ⟨bot_lt_top, fun n _ => by rw [hs n]; exact EReal.coe_lt_top _⟩
    have hgt : ⊥ < top s := lt_of_lt_of_le (by rw [hs ⟨0, h0⟩]; exact EReal.bot_lt_coe _)
      ((Finset.le_fold_max (s ⟨0, h0⟩)).mpr (Or.inr ⟨⟨0, h0⟩, Finset.mem_univ _, le_rfl⟩))
    obtain ⟨M, hM⟩ : ∃ M : ℝ, top s = (M : EReal) := ⟨(top s).toReal, (EReal.coe_toReal hlt.ne hgt.ne').symm⟩
    refine ⟨fun n => Real.exp (σ n - M), fun n => Real.exp_pos _, fun n => ?_⟩
    rw [ex, hM, hs n, ← EReal.coe_sub, Ideal.exp_coe]

/-- The reference's weights: the exponential over the sum. -/
theorem weight_eq (s : Fin N → EReal) (σ : Fin N → ℝ) (hs : ∀ n, s n = (σ n : EReal)) (n : Fin N) :
    Ideal.div (ex s n) (total s) = weight s n := by
  obtain ⟨e, he, hx⟩ := ex_real s σ hs
  have hz : total s = ((∑ n, e n : ℝ) : EReal) := by
    rw [total, coe_sum_real]; exact Finset.sum_congr rfl fun k _ => hx k
  have h0 : (∑ n, e n : ℝ) ≠ 0 := (Finset.sum_pos (fun k _ => he k) ⟨n, Finset.mem_univ n⟩).ne'
  rw [weight, hz, Ideal.div_coe h0, Ideal.div_coe h0, one_mul]

/-- The reference's gradient of the scores, from the derivatives of the quotient and of the sum. -/
theorem grad_eq (s a : Fin N → EReal) (σ : Fin N → ℝ) (hs : ∀ n, s n = (σ n : EReal)) (c : EReal) (n : Fin N) :
    (Ideal.div (a n) (total s) + ∑ _x : Fin 1, -∑ k, a k * Ideal.div 1 (total s * total s) * ex s k) * ex s n * c = grad s a c n := by
  obtain ⟨e, he, hx⟩ := ex_real s σ hs
  have hz : total s = ((∑ n, e n : ℝ) : EReal) := by
    rw [total, coe_sum_real]; exact Finset.sum_congr rfl fun k _ => hx k
  have hp : 0 < (∑ n, e n : ℝ) := Finset.sum_pos (fun k _ => he k) ⟨n, Finset.mem_univ n⟩
  generalize (∑ n, e n : ℝ) = z at hz hp
  have hw : ∀ k, weight s k = ((e k * (1 / z) : ℝ) : EReal) := fun k => by
    rw [weight, hz, hx k, Ideal.div_coe hp.ne', one_mul, EReal.coe_mul]
  have ht : (0 : ℝ) ≤ 1 / z := by positivity
  have hB : ∑ k, a k * Ideal.div 1 (total s * total s) * ex s k = (∑ k, a k * weight s k) * ((1 / z : ℝ) : EReal) := by
    rw [sum_mul_real _ _ _ ht]
    refine Finset.sum_congr rfl fun k _ => ?_
    rw [hz, ← EReal.coe_mul, Ideal.div_coe (mul_pos hp hp).ne', one_mul, hx k, hw k, mul_assoc, mul_assoc, ← EReal.coe_mul, ← EReal.coe_mul]
    congr 2
    field_simp
  rw [Fin.sum_univ_one, hB, hz, Ideal.div_coe hp.ne', sub_mul_real _ _ _ ht, grad, hx n, hw n, mul_assoc (_ - _), ← EReal.coe_mul,
    mul_comm (1 / z), mul_comm (_ - _)]

end Cert.Softmax
-- ==== Proof.KernelRead.lean ====
module

public import proofs.«01_k».proof.Proof.Gen.KernelIdeal.Skeleton
public import Idealize.ShloMosaic.Lib.Pointwise
public import proofs.«01_k».proof.Proof.Softmax

@[expose] public section

set_option maxRecDepth 16384

noncomputable section

namespace Cert.KernelIdeal.Value

open Cert.KernelIdeal Cert.KernelIdeal.Gen Idealize.ShloMosaic Idealize.ShloMosaic.TcCoe Idealize.SL.Sem

/-! What one head of the kernel's body stores, at an index. The four heads are the same text, cut at other places. -/

/-- The constant the scores are scaled by, as both programs write it. -/
def scale : EReal := Ideal.ofBits .f32 1035273459#32

/-- A row's scaled scores. -/
def score (q : FVec Ideal S512x128 .bf16) (k : FVec Ideal S256x128 .bf16) (r : Fin 512) (n : Fin 256) : EReal :=
  (∑ x : Fin 128, q (ix2 r x) * k (ix2 n x)) * scale

/-- A row's gradient of the weights. -/
def dweight (dy : FVec Ideal S512x128 .bf16) (v : FVec Ideal S256x128 .bf16) (r : Fin 512) (n : Fin 256) : EReal :=
  ∑ x : Fin 128, dy (ix2 r x) * v (ix2 n x)

theorem ofBits_bot : Ideal.ofBits .f32 4286578688#32 = ⊥ := by simp [Ideal.ofBits, Ideal.ieee]

theorem pay13_at (q : FVec Ideal S512x128 .bf16) (k : FVec Ideal S256x128 .bf16) (r : Fin 512) (n : Fin 256) :
    k0_pay13 (F := Ideal) q k (ix2 r n) = Softmax.ex (score q k r) n := by
  pointwise [k0_pay13, ofBits_bot]
  rfl

theorem pay14_at (q : FVec Ideal S512x128 .bf16) (k : FVec Ideal S256x128 .bf16) (r : Fin 512) :
    k0_pay14 (F := Ideal) q k (ix1 r) = Softmax.total (score q k r) := by
  pointwise [k0_pay14, pay13_at]
  rfl

theorem pay15_at (e : FVec Ideal S512x256 .f32) (z : FVec Ideal S512 .f32) (r : Fin 512) (n : Fin 256) :
    k0_pay15 (F := Ideal) e z (ix2 r n) = e (ix2 r n) * Ideal.div 1 (z (ix1 r)) := by
  pointwise [k0_pay15]

theorem pay16_at (v : FVec Ideal S256x128 .bf16) (dy : FVec Ideal S512x128 .bf16) (e : FVec Ideal S512x256 .f32) (z : FVec Ideal S512 .f32)
    (r : Fin 512) (n : Fin 256) :
    k0_pay16 (F := Ideal) v dy e z (ix2 r n)
      = k0_pay15 (F := Ideal) e z (ix2 r n) * (dweight dy v r n - ∑ x : Fin 256, dweight dy v r x * k0_pay15 (F := Ideal) e z (ix2 r x)) * scale := by
  pointwise [k0_pay16]
  rfl

theorem pay2_eq (q : FVec Ideal S512x128 .bf16) (k : FVec Ideal S256x128 .bf16) :
    k0_pay2 (F := Ideal) q k = k0_pay15 (k0_pay13 q k) (k0_pay14 q k) := rfl

theorem pay3_eq (q : FVec Ideal S512x128 .bf16) (k v : FVec Ideal S256x128 .bf16) (dy : FVec Ideal S512x128 .bf16) :
    k0_pay3 (F := Ideal) q k v dy = k0_pay16 v dy (k0_pay13 q k) (k0_pay14 q k) := rfl

/-- The weights of the first head. -/
theorem pay2_at (q : FVec Ideal S512x128 .bf16) (k : FVec Ideal S256x128 .bf16) (r : Fin 512) (n : Fin 256) :
    k0_pay2 (F := Ideal) q k (ix2 r n) = Softmax.weight (score q k r) n := by
  rw [pay2_eq, pay15_at, pay13_at, pay14_at]; rfl

/-- The gradient of the scores of the first head. -/
theorem pay3_at (q : FVec Ideal S512x128 .bf16) (k v : FVec Ideal S256x128 .bf16) (dy : FVec Ideal S512x128 .bf16) (r : Fin 512) (n : Fin 256) :
    k0_pay3 (F := Ideal) q k v dy (ix2 r n) = Softmax.grad (score q k r) (dweight dy v r) scale n := by
  rw [pay3_eq, pay16_at]
  simp only [← pay2_eq, pay2_at]
  rfl

/-- The gradient of the queries. -/
theorem pay4_at (q : FVec Ideal S512x128 .bf16) (k v : FVec Ideal S256x128 .bf16) (dy : FVec Ideal S512x128 .bf16) (r : Fin 512) (j : Fin 128) :
    k0_pay4 (F := Ideal) q k v dy (ix2 r j) = ∑ n : Fin 256, Softmax.grad (score q k r) (dweight dy v r) scale n * k (ix2 n j) := by
  pointwise [k0_pay4, pay3_at]

/-- The gradient of the keys, added to what was there. -/
theorem pay5_at (q : FVec Ideal S512x128 .bf16) (ds : FVec Ideal S512x256 .bf16) (acc : FVec Ideal S256x128 .f32) (n : Fin 256) (j : Fin 128) :
    k0_pay5 (F := Ideal) q ds acc (ix2 n j) = acc (ix2 n j) + ∑ r : Fin 512, ds (ix2 r n) * q (ix2 r j) := by
  pointwise [k0_pay5]

/-- The gradient of the values, added to what was there. -/
theorem pay6_at (dy : FVec Ideal S512x128 .bf16) (w : FVec Ideal S512x256 .f32) (acc : FVec Ideal S256x128 .f32) (n : Fin 256) (j : Fin 128) :
    k0_pay6 (F := Ideal) dy w acc (ix2 n j) = acc (ix2 n j) + ∑ r : Fin 512, w (ix2 r n) * dy (ix2 r j) := by
  pointwise [k0_pay6]

section heads
variable (q : FVec Ideal S512x128 .bf16) (k v : FVec Ideal S256x128 .bf16) (dy : FVec Ideal S512x128 .bf16) (acc : FVec Ideal S256x128 .f32)

theorem pay10_eq : k0_pay10 (F := Ideal) k (k0_pay7 q k) (k0_pay8 q k v dy) = k0_pay4 q k v dy := rfl
theorem pay11_eq : k0_pay11 (F := Ideal) q (k0_pay7 q k) (k0_pay8 q k v dy) acc = k0_pay5 q (k0_pay3 q k v dy) acc := rfl
theorem pay12_eq : k0_pay12 (F := Ideal) dy (k0_pay7 q k) acc = k0_pay6 dy (k0_pay2 q k) acc := rfl
theorem pay17_eq : k0_pay17 (F := Ideal) k v dy (k0_pay13 q k) (k0_pay14 q k) = k0_pay4 q k v dy := rfl
theorem pay18_eq : k0_pay18 (F := Ideal) q v dy (k0_pay13 q k) (k0_pay14 q k) acc = k0_pay5 q (k0_pay3 q k v dy) acc := rfl
theorem pay19_eq : k0_pay19 (F := Ideal) dy (k0_pay13 q k) (k0_pay14 q k) acc = k0_pay6 dy (k0_pay2 q k) acc := rfl
theorem pay22_eq : k0_pay22 (F := Ideal) q k v dy = k0_pay4 q k v dy := rfl
theorem pay23_eq : k0_pay23 (F := Ideal) q k v dy acc = k0_pay5 q (k0_pay3 q k v dy) acc := rfl
theorem pay24_eq : k0_pay24 (F := Ideal) q k dy acc = k0_pay6 dy (k0_pay2 q k) acc := rfl
end heads

end Cert.KernelIdeal.Value
-- ==== Proof.Bridge.lean ====
module

public import proofs.«01_k».proof.Proof.Gen.KernelIdeal.Value
public import Idealize.ShloMosaic.Lib.Pipeline.ValueKit
public import Idealize.ShloMosaic.Lib.Pipeline.ReadBack
public import proofs.«01_k».proof.Proof.KernelRead

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline

/-! The two arrays the kernel leaves, from its blocks. -/

theorem idx : ∀ t : Fin cfg0.N, win0_0.index t = ![t.val, 0] ∧ win0_1.index t = ![t.val, 1] ∧ win0_2.index t = ![0, 0]
    ∧ win0_3.index t = ![t.val, 0] ∧ win0_4.index t = ![0, 0] :=
  (by decide +kernel : ∀ t : Fin grid0.N, _)

/-- A row's scaled scores at head `h` of a block of queries and the whole memory. -/
def bscore (qb : FVec Ideal S512x512 .bf16) (kvb : FVec Ideal S256x1024 .bf16) (h : Fin 4) (r : Fin 512) (n : Fin 256) : EReal :=
  (∑ x : Fin 128, qb (ix2 r ⟨h.val * 128 + x.val, by omega⟩) * kvb (ix2 n ⟨h.val * 128 + x.val, by omega⟩)) * scale

/-- A row's gradient of the weights at head `h`. -/
def bdweight (dyb : FVec Ideal S512x512 .bf16) (kvb : FVec Ideal S256x1024 .bf16) (h : Fin 4) (r : Fin 512) (n : Fin 256) : EReal :=
  ∑ x : Fin 128, dyb (ix2 r ⟨h.val * 128 + x.val, by omega⟩) * kvb (ix2 n ⟨512 + (h.val * 128 + x.val), by omega⟩)

/-- What a block adds to the gradient of the keys and of the values. -/
def bpart (dyb qb : FVec Ideal S512x512 .bf16) (kvb : FVec Ideal S256x1024 .bf16) (n : Fin 256) (j : Fin 1024) : EReal :=
  if h : j.val < 512 then
    ∑ r : Fin 512, Softmax.grad (bscore qb kvb ⟨j.val / 128, by omega⟩ r) (bdweight dyb kvb ⟨j.val / 128, by omega⟩ r) scale n * qb (ix2 r ⟨j.val, h⟩)
  else
    ∑ r : Fin 512, Softmax.weight (bscore qb kvb ⟨(j.val - 512) / 128, by omega⟩ r) n * dyb (ix2 r ⟨j.val - 512, by omega⟩)

/-- A block of the gradient of the queries. -/
def bquery (dyb qb : FVec Ideal S512x512 .bf16) (kvb : FVec Ideal S256x1024 .bf16) (r : Fin 512) (j : Fin 512) : EReal :=
  ∑ n : Fin 256, Softmax.grad (bscore qb kvb ⟨j.val / 128, by omega⟩ r) (bdweight dyb kvb ⟨j.val / 128, by omega⟩ r) scale n * kvb (ix2 n ⟨j.val, by omega⟩)

section heads
variable (dyb qb : FVec Ideal S512x512 .bf16) (kvb : FVec Ideal S256x1024 .bf16) (h : Fin 4)
  (q dy : FVec Ideal S512x128 .bf16) (k v : FVec Ideal S256x128 .bf16)

theorem score_eq (hq : ∀ r x, q (ix2 r x) = qb (ix2 r ⟨h.val * 128 + x.val, by omega⟩))
    (hk : ∀ n x, k (ix2 n x) = kvb (ix2 n ⟨h.val * 128 + x.val, by omega⟩)) : score q k = bscore qb kvb h := by
  funext r n; simp only [score, bscore, hq, hk]

theorem dweight_eq (hd : ∀ r x, dy (ix2 r x) = dyb (ix2 r ⟨h.val * 128 + x.val, by omega⟩))
    (hv : ∀ n x, v (ix2 n x) = kvb (ix2 n ⟨512 + (h.val * 128 + x.val), by omega⟩)) : dweight dy v = bdweight dyb kvb h := by
  funext r n; simp only [dweight, bdweight, hd, hv]

/-- A head's store of the gradient of the keys, over what was there. -/
theorem store_k (acc : FVec Ideal S256x128 .f32)
    (hq : ∀ r x, q (ix2 r x) = qb (ix2 r ⟨h.val * 128 + x.val, by omega⟩))
    (hk : ∀ n x, k (ix2 n x) = kvb (ix2 n ⟨h.val * 128 + x.val, by omega⟩))
    (hd : ∀ r x, dy (ix2 r x) = dyb (ix2 r ⟨h.val * 128 + x.val, by omega⟩))
    (hv : ∀ n x, v (ix2 n x) = kvb (ix2 n ⟨512 + (h.val * 128 + x.val), by omega⟩))
    (n : Fin 256) (x : Fin 128) (j : Fin 1024) (hj : j.val = h.val * 128 + x.val) (A : EReal) (hA : acc (ix2 n x) = A) :
    k0_pay5 (F := Ideal) q (k0_pay3 q k v dy) acc (ix2 n x) = A + bpart dyb qb kvb n j := by
  have hlt : j.val < 512 := by omega
  have e : (⟨j.val / 128, by omega⟩ : Fin 4) = h := Fin.ext (by show j.val / 128 = h.val; omega)
  rw [pay5_at, bpart, dif_pos hlt, hA, e, ← score_eq qb kvb h q k hq hk, ← dweight_eq dyb kvb h dy v hd hv]
  simp only [pay3_at, hq, hj]

/-- A head's store of the gradient of the values, over what was there. -/
theorem store_v (acc : FVec Ideal S256x128 .f32)
    (hq : ∀ r x, q (ix2 r x) = qb (ix2 r ⟨h.val * 128 + x.val, by omega⟩))
    (hk : ∀ n x, k (ix2 n x) = kvb (ix2 n ⟨h.val * 128 + x.val, by omega⟩))
    (hd : ∀ r x, dy (ix2 r x) = dyb (ix2 r ⟨h.val * 128 + x.val, by omega⟩))
    (n : Fin 256) (x : Fin 128) (j : Fin 1024) (hj : j.val = 512 + (h.val * 128 + x.val)) (A : EReal) (hA : acc (ix2 n x) = A) :
    k0_pay6 (F := Ideal) dy (k0_pay2 q k) acc (ix2 n x) = A + bpart dyb qb kvb n j := by
  have hge : ¬ j.val < 512 := by omega
  have e : (⟨(j.val - 512) / 128, by omega⟩ : Fin 4) = h := Fin.ext (by show (j.val - 512) / 128 = h.val; omega)
  have e' : j.val - 512 = h.val * 128 + x.val := by omega
  rw [pay6_at, bpart, dif_neg hge, hA, e, ← score_eq qb kvb h q k hq hk]
  simp only [pay2_at, hd, e']

/-- A head's store of the gradient of the queries. -/
theorem store_q (hq : ∀ r x, q (ix2 r x) = qb (ix2 r ⟨h.val * 128 + x.val, by omega⟩))
    (hk : ∀ n x, k (ix2 n x) = kvb (ix2 n ⟨h.val * 128 + x.val, by omega⟩))
    (hd : ∀ r x, dy (ix2 r x) = dyb (ix2 r ⟨h.val * 128 + x.val, by omega⟩))
    (hv : ∀ n x, v (ix2 n x) = kvb (ix2 n ⟨512 + (h.val * 128 + x.val), by omega⟩))
    (r : Fin 512) (x : Fin 128) (j : Fin 512) (hj : j.val = h.val * 128 + x.val) :
    k0_pay4 (F := Ideal) q k v dy (ix2 r x) = bquery dyb qb kvb r j := by
  have e : (⟨j.val / 128, by omega⟩ : Fin 4) = h := Fin.ext (by show j.val / 128 = h.val; omega)
  rw [pay4_at, bquery, e, ← score_eq qb kvb h q k hq hk, ← dweight_eq dyb kvb h dy v hd hv]
  simp only [hk, hj]

end heads

variable (m : (ℓ : Loc nD τ sig) → Buf (Elt Ideal) ℓ)

/-- A later point adds its block's part to what the gradient of the keys and values held. -/
theorem dkv_B (c : Dev nD) (t : Fin cfg0.N) (h0 : ¬ t.val % 8 = 0) (a : Fin 256) (b : Fin 1024) :
    (outsAt0 m c t.val t.isLt).2 (ix2 a b)
      = (outsAt0 m c (t.val - 1) (Nat.lt_of_le_of_lt (Nat.sub_le _ _) t.isLt)).2 (ix2 a b)
        + bpart (show FVec Ideal S512x512 .bf16 from iblk m c 0 t) (show FVec Ideal S512x512 .bf16 from iblk m c 1 t)
            (show FVec Ideal S256x1024 .bf16 from iblk m c 2 t) a b := by
  rw [outsAt0_B m c t h0]
  frame_out
  generalize (outsAt0 m c (t.val - 1) (Nat.lt_of_le_of_lt (Nat.sub_le _ _) t.isLt)).2 = P
  generalize iblk m c 0 t = dyb
  generalize iblk m c 1 t = qb
  generalize iblk m c 2 t = kvb
  canon_tiles x hx
  all_goals (idx_vars x; obtain rfl := Fin.ext hx0; try simp only [pay10_eq, pay11_eq, pay12_eq, pay17_eq, pay18_eq, pay19_eq, pay22_eq, pay23_eq, pay24_eq])
  case piece0 =>
    refine store_v dyb qb kvb 3 _ _ _ _ ?_ ?_ ?_ _ _ _ ?_ _ ?_
    all_goals first | omega | (intro r x; pointwise; done) | (intro r x; pointwise; blk_ext) | (pointwise; blk_ext) | (show b.val = _; simp; omega)
  case piece1 =>
    refine store_k dyb qb kvb 3 _ _ _ _ _ ?_ ?_ ?_ ?_ _ _ _ ?_ _ ?_
    all_goals first | omega | (intro r x; pointwise; done) | (intro r x; pointwise; blk_ext) | (pointwise; blk_ext) | (show b.val = _; simp; omega)
  case piece2 =>
    refine store_v dyb qb kvb 2 _ _ _ _ ?_ ?_ ?_ _ _ _ ?_ _ ?_
    all_goals first | omega | (intro r x; pointwise; done) | (intro r x; pointwise; blk_ext) | (pointwise; blk_ext) | (show b.val = _; simp; omega)
  case piece3 =>
    refine store_k dyb qb kvb 2 _ _ _ _ _ ?_ ?_ ?_ ?_ _ _ _ ?_ _ ?_
    all_goals first | omega | (intro r x; pointwise; done) | (intro r x; pointwise; blk_ext) | (pointwise; blk_ext) | (show b.val = _; simp; omega)
  case piece4 =>
    refine store_v dyb qb kvb 1 _ _ _ _ ?_ ?_ ?_ _ _ _ ?_ _ ?_
    all_goals first | omega | (intro r x; pointwise; done) | (intro r x; pointwise; blk_ext) | (pointwise; blk_ext) | (show b.val = _; simp; omega)
  case piece5 =>
    refine store_k dyb qb kvb 1 _ _ _ _ _ ?_ ?_ ?_ ?_ _ _ _ ?_ _ ?_
    all_goals first | omega | (intro r x; pointwise; done) | (intro r x; pointwise; blk_ext) | (pointwise; blk_ext) | (show b.val = _; simp; omega)
  case piece6 =>
    refine store_v dyb qb kvb 0 _ _ _ _ ?_ ?_ ?_ _ _ _ ?_ _ ?_
    all_goals first | omega | (intro r x; pointwise; done) | (intro r x; pointwise; blk_ext) | (pointwise; blk_ext) | (show b.val = _; simp; omega)
  case piece7 =>
    refine store_k dyb qb kvb 0 _ _ _ _ _ ?_ ?_ ?_ ?_ _ _ _ ?_ _ ?_
    all_goals first | omega | (intro r x; pointwise; done) | (intro r x; pointwise; blk_ext) | (pointwise; blk_ext) | (show b.val = _; simp; omega)

/-- Earlier stores do not show where a later one covers. -/
theorem canon_append {s : Shape} {e : EltTy} {Val : EltTy → Type} [∀ e, Nonempty (Val e)] (L L' : List (View.Piece Val s e)) (y : s.Idx)
    (hc : ∃ p ∈ L, y ∈ p.1.set) : View.canon (L ++ L') y = View.canon L y := by
  induction L with
  | nil => obtain ⟨p, hp, _⟩ := hc; exact absurd hp List.not_mem_nil
  | cons p L ih =>
    by_cases hm : y ∈ p.1.set
    · obtain ⟨x, rfl⟩ := p.1.exists_idx_of_mem hm
      exact (View.canon_cons_emb p.1 p.2 _ x).trans (View.canon_cons_emb p.1 p.2 _ x).symm
    · rw [List.cons_append, View.canon_cons_of_not_mem p _ hm, View.canon_cons_of_not_mem p _ hm]
      refine ih ?_
      obtain ⟨q, hq, hy⟩ := hc
      rcases List.mem_cons.mp hq with rfl | hq
      · exact absurd hy hm
      · exact ⟨q, hq, hy⟩

theorem zero_at (a : Fin 256) (b : Fin 1024) : k0_pay1 (F := Ideal) (ix2 a b) = 0 := by pointwise [k0_pay1]

/-- The first point writes its block's part. -/
theorem dkv_A (c : Dev nD) (t : Fin cfg0.N) (h0 : t.val % 8 = 0) (a : Fin 256) (b : Fin 1024) :
    (outsAt0 m c t.val t.isLt).2 (ix2 a b) = 0 + bpart (show FVec Ideal S512x512 .bf16 from iblk m c 0 t) (show FVec Ideal S512x512 .bf16 from iblk m c 1 t)
            (show FVec Ideal S256x1024 .bf16 from iblk m c 2 t) a b := by
  rw [outsAt0_A m c t h0]
  frame_open
  simp (disch := decide) only [↓ View.readCov_skip, ↓ View.readCov_cons_toLoadRect, ↓ View.readCov_fill]
  frame_out
  have hz := zero_at
  generalize k0_pay1 (F := Ideal) = P at hz ⊢
  change View.canon (Val := Elt Ideal) (e := .f32) (s := S256x1024) ([_, _, _, _, _, _, _, _] ++ [_]) _ = _
  refine (canon_append (Val := Elt Ideal) (s := S256x1024) (e := .f32) _ _ _ ?_).trans ?_
  · exact View.cover_of_tiledL (s := S256x1024) (Val := Elt Ideal) (e := .f32) _ ![256, 128] (by sl_kernel_rfl) _
  generalize iblk m c 0 t = dyb
  generalize iblk m c 1 t = qb
  generalize iblk m c 2 t = kvb
  canon_tiles x hx
  all_goals (idx_vars x; obtain rfl := Fin.ext hx0; try simp only [pay10_eq, pay11_eq, pay12_eq, pay17_eq, pay18_eq, pay19_eq, pay22_eq, pay23_eq, pay24_eq])
  case piece0 =>
    refine store_v dyb qb kvb 3 _ _ _ _ ?_ ?_ ?_ _ _ _ ?_ _ ?_
    all_goals first | omega | (intro r x; pointwise; done) | (intro r x; pointwise; blk_ext) | (pointwise [hz])
  case piece1 =>
    refine store_k dyb qb kvb 3 _ _ _ _ _ ?_ ?_ ?_ ?_ _ _ _ ?_ _ ?_
    all_goals first | omega | (intro r x; pointwise; done) | (intro r x; pointwise; blk_ext) | (pointwise [hz])
  case piece2 =>
    refine store_v dyb qb kvb 2 _ _ _ _ ?_ ?_ ?_ _ _ _ ?_ _ ?_
    all_goals first | omega | (intro r x; pointwise; done) | (intro r x; pointwise; blk_ext) | (pointwise [hz])
  case piece3 =>
    refine store_k dyb qb kvb 2 _ _ _ _ _ ?_ ?_ ?_ ?_ _ _ _ ?_ _ ?_
    all_goals first | omega | (intro r x; pointwise; done) | (intro r x; pointwise; blk_ext) | (pointwise [hz])
  case piece4 =>
    refine store_v dyb qb kvb 1 _ _ _ _ ?_ ?_ ?_ _ _ _ ?_ _ ?_
    all_goals first | omega | (intro r x; pointwise; done) | (intro r x; pointwise; blk_ext) | (pointwise [hz])
  case piece5 =>
    refine store_k dyb qb kvb 1 _ _ _ _ _ ?_ ?_ ?_ ?_ _ _ _ ?_ _ ?_
    all_goals first | omega | (intro r x; pointwise; done) | (intro r x; pointwise; blk_ext) | (pointwise [hz])
  case piece6 =>
    refine store_v dyb qb kvb 0 _ _ _ _ ?_ ?_ ?_ _ _ _ ?_ _ ?_
    all_goals first | omega | (intro r x; pointwise; done) | (intro r x; pointwise; blk_ext) | (pointwise [hz])
  case piece7 =>
    refine store_k dyb qb kvb 0 _ _ _ _ _ ?_ ?_ ?_ ?_ _ _ _ ?_ _ ?_
    all_goals first | omega | (intro r x; pointwise; done) | (intro r x; pointwise; blk_ext) | (pointwise [hz])

/-- Either case of the body writes the block of the gradient of the queries. -/
theorem dq_at (c : Dev nD) (t : Fin cfg0.N) (a b : Fin 512) :
    (outsAt0 m c t.val t.isLt).1 (ix2 a b) = bquery (show FVec Ideal S512x512 .bf16 from iblk m c 0 t) (show FVec Ideal S512x512 .bf16 from iblk m c 1 t)
            (show FVec Ideal S256x1024 .bf16 from iblk m c 2 t) a b := by
  by_cases h0 : t.val % 8 = 0
  · rw [outsAt0_A m c t h0]
    frame_out
    generalize iblk m c 0 t = dyb
    generalize iblk m c 1 t = qb
    generalize iblk m c 2 t = kvb
    canon_tiles x hx
    all_goals (idx_vars x; obtain rfl := Fin.ext hx0; try simp only [pay10_eq, pay11_eq, pay12_eq, pay17_eq, pay18_eq, pay19_eq, pay22_eq, pay23_eq, pay24_eq])
    case piece0 =>
      refine store_q dyb qb kvb 3 _ _ _ _  ?_ ?_ ?_ ?_ _ _ _ ?_
      all_goals first | omega | (intro r x; pointwise; done) | (intro r x; pointwise; blk_ext) | (pointwise; blk_ext) | (show b.val = _; simp; omega)
    case piece1 =>
      refine store_q dyb qb kvb 2 _ _ _ _  ?_ ?_ ?_ ?_ _ _ _ ?_
      all_goals first | omega | (intro r x; pointwise; done) | (intro r x; pointwise; blk_ext) | (pointwise; blk_ext) | (show b.val = _; simp; omega)
    case piece2 =>
      refine store_q dyb qb kvb 1 _ _ _ _  ?_ ?_ ?_ ?_ _ _ _ ?_
      all_goals first | omega | (intro r x; pointwise; done) | (intro r x; pointwise; blk_ext) | (pointwise; blk_ext) | (show b.val = _; simp; omega)
    case piece3 =>
      refine store_q dyb qb kvb 0 _ _ _ _  ?_ ?_ ?_ ?_ _ _ _ ?_
      all_goals first | omega | (intro r x; pointwise; done) | (intro r x; pointwise; blk_ext) | (pointwise; blk_ext) | (show b.val = _; simp; omega)
  · rw [outsAt0_B m c t h0]
    frame_out
    generalize iblk m c 0 t = dyb
    generalize iblk m c 1 t = qb
    generalize iblk m c 2 t = kvb
    canon_tiles x hx
    all_goals (idx_vars x; obtain rfl := Fin.ext hx0; try simp only [pay10_eq, pay11_eq, pay12_eq, pay17_eq, pay18_eq, pay19_eq, pay22_eq, pay23_eq, pay24_eq])
    case piece0 =>
      refine store_q dyb qb kvb 3 _ _ _ _  ?_ ?_ ?_ ?_ _ _ _ ?_
      all_goals first | omega | (intro r x; pointwise; done) | (intro r x; pointwise; blk_ext) | (pointwise; blk_ext) | (show b.val = _; simp; omega)
    case piece1 =>
      refine store_q dyb qb kvb 2 _ _ _ _  ?_ ?_ ?_ ?_ _ _ _ ?_
      all_goals first | omega | (intro r x; pointwise; done) | (intro r x; pointwise; blk_ext) | (pointwise; blk_ext) | (show b.val = _; simp; omega)
    case piece2 =>
      refine store_q dyb qb kvb 1 _ _ _ _  ?_ ?_ ?_ ?_ _ _ _ ?_
      all_goals first | omega | (intro r x; pointwise; done) | (intro r x; pointwise; blk_ext) | (pointwise; blk_ext) | (show b.val = _; simp; omega)
    case piece3 =>
      refine store_q dyb qb kvb 0 _ _ _ _  ?_ ?_ ?_ ?_ _ _ _ ?_
      all_goals first | omega | (intro r x; pointwise; done) | (intro r x; pointwise; blk_ext) | (pointwise; blk_ext) | (show b.val = _; simp; omega)

end Cert.KernelIdeal.Value
-- ==== Proof.Final.lean ====
module

public import proofs.«01_k».proof.Proof.Bridge

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline

/-! The two arrays the kernel leaves, as functions of its arguments. -/

section spec
variable (dy : FVec Ideal S4096x512 .bf16) (px : FVec Ideal S4096x1024 .bf16) (kv : FVec Ideal S256x1024 .bf16)

/-- A row's scaled scores at head `h`. -/
def ascore (h : Fin 4) (r : Fin 4096) (n : Fin 256) : EReal :=
  (∑ x : Fin 128, px (ix2 r ⟨512 + (h.val * 128 + x.val), by omega⟩) * kv (ix2 n ⟨h.val * 128 + x.val, by omega⟩)) * scale

/-- A row's gradient of the weights at head `h`. -/
def adweight (h : Fin 4) (r : Fin 4096) (n : Fin 256) : EReal :=
  ∑ x : Fin 128, dy (ix2 r ⟨h.val * 128 + x.val, by omega⟩) * kv (ix2 n ⟨512 + (h.val * 128 + x.val), by omega⟩)

/-- The gradient of the queries. -/
def aquery (r : Fin 4096) (j : Fin 512) : EReal :=
  ∑ n : Fin 256, Softmax.grad (ascore px kv ⟨j.val / 128, by omega⟩ r) (adweight dy kv ⟨j.val / 128, by omega⟩ r) scale n * kv (ix2 n ⟨j.val, by omega⟩)

/-- A row's part of the gradient of the keys and of the values. -/
def arow (n : Fin 256) (j : Fin 1024) (r : Fin 4096) : EReal :=
  if h : j.val < 512 then
    Softmax.grad (ascore px kv ⟨j.val / 128, by omega⟩ r) (adweight dy kv ⟨j.val / 128, by omega⟩ r) scale n * px (ix2 r ⟨512 + j.val, by omega⟩)
  else
    Softmax.weight (ascore px kv ⟨(j.val - 512) / 128, by omega⟩ r) n * dy (ix2 r ⟨j.val - 512, by omega⟩)
end spec

variable (m : (ℓ : Loc nD τ sig) → Buf (Elt Ideal) ℓ)

theorem row_lt (t : Fin cfg0.N) (r : Fin 512) : t.val * 512 + r.val < 4096 := by
  have := lt_of_lt_of_eq t.isLt N_0; omega

theorem blk0 (c : Dev nD) (t : Fin cfg0.N) (r j : Fin 512) :
    (show FVec Ideal S512x512 .bf16 from iblk m c 0 t) (ix2 r j) = m ((c : Thread nD τ).loc main_arg0) (ix2 ⟨t.val * 512 + r.val, row_lt t r⟩ j) := by
  blk_point [iblk, V, idx t]

theorem blk1 (c : Dev nD) (t : Fin cfg0.N) (r j : Fin 512) :
    (show FVec Ideal S512x512 .bf16 from iblk m c 1 t) (ix2 r j)
      = m ((c : Thread nD τ).loc main_arg1) (ix2 ⟨t.val * 512 + r.val, row_lt t r⟩ ⟨512 + j.val, by omega⟩) := by
  blk_point [iblk, V, idx t]

theorem blk2 (c : Dev nD) (t : Fin cfg0.N) (n : Fin 256) (j : Fin 1024) :
    (show FVec Ideal S256x1024 .bf16 from iblk m c 2 t) (ix2 n j) = m ((c : Thread nD τ).loc main_arg2) (ix2 n j) := by
  blk_point [iblk, V, idx t]

theorem bscore_eq (c : Dev nD) (t : Fin cfg0.N) (h : Fin 4) (r : Fin 512) :
    bscore (show FVec Ideal S512x512 .bf16 from iblk m c 1 t) (show FVec Ideal S256x1024 .bf16 from iblk m c 2 t) h r
      = ascore (m ((c : Thread nD τ).loc main_arg1)) (m ((c : Thread nD τ).loc main_arg2)) h ⟨t.val * 512 + r.val, row_lt t r⟩ := by
  funext n
  simp only [bscore, ascore, blk1, blk2]

theorem bdweight_eq (c : Dev nD) (t : Fin cfg0.N) (h : Fin 4) (r : Fin 512) :
    bdweight (show FVec Ideal S512x512 .bf16 from iblk m c 0 t) (show FVec Ideal S256x1024 .bf16 from iblk m c 2 t) h r
      = adweight (m ((c : Thread nD τ).loc main_arg0)) (m ((c : Thread nD τ).loc main_arg2)) h ⟨t.val * 512 + r.val, row_lt t r⟩ := by
  funext n
  simp only [bdweight, adweight, blk0, blk2]

theorem bquery_eq (c : Dev nD) (t : Fin cfg0.N) (r : Fin 512) (j : Fin 512) :
    bquery (show FVec Ideal S512x512 .bf16 from iblk m c 0 t) (show FVec Ideal S512x512 .bf16 from iblk m c 1 t)
        (show FVec Ideal S256x1024 .bf16 from iblk m c 2 t) r j
      = aquery (m ((c : Thread nD τ).loc main_arg0)) (m ((c : Thread nD τ).loc main_arg1)) (m ((c : Thread nD τ).loc main_arg2))
          ⟨t.val * 512 + r.val, row_lt t r⟩ j := by
  simp only [bquery, aquery, bscore_eq, bdweight_eq, blk2]

theorem bpart_eq (c : Dev nD) (t : Fin cfg0.N) (n : Fin 256) (j : Fin 1024) :
    bpart (show FVec Ideal S512x512 .bf16 from iblk m c 0 t) (show FVec Ideal S512x512 .bf16 from iblk m c 1 t)
        (show FVec Ideal S256x1024 .bf16 from iblk m c 2 t) n j
      = ∑ r : Fin 512, arow (m ((c : Thread nD τ).loc main_arg0)) (m ((c : Thread nD τ).loc main_arg1)) (m ((c : Thread nD τ).loc main_arg2)) n j
          ⟨t.val * 512 + r.val, row_lt t r⟩ := by
  by_cases h : j.val < 512
  · rw [bpart, dif_pos h]
    refine Finset.sum_congr rfl fun r _ => ?_
    rw [arow, dif_pos h, bscore_eq, bdweight_eq]
    exact congrArg (HMul.hMul _) (blk1 m c t r ⟨j.val, h⟩)
  · rw [bpart, dif_neg h]
    refine Finset.sum_congr rfl fun r _ => ?_
    rw [arow, dif_neg h, bscore_eq]
    exact congrArg (HMul.hMul _) (blk0 m c t r ⟨j.val - 512, by omega⟩)

/-- The gradient of the queries the kernel leaves. -/
theorem final_q (c : Dev nD) : (dats m 0 c).arrAt 3 cfg0.N = fun y : S4096x512.Idx =>
    aquery (m ((c : Thread nD τ).loc main_arg0)) (m ((c : Thread nD τ).loc main_arg1)) (m ((c : Thread nD τ).loc main_arg2)) (y 0) (y 1) := by
  refine (dats m 0 c).arrAt_eq_of_covers 3 _ (by decide +kernel) fun t hf y => ?_
  blk_simp
  rw [after0_3]
  idx_vars y
  have h0 : (win0_3.blk t).view.emb (ix2 y0 y1) 0 = (⟨t.val * 512 + y0.val, row_lt t y0⟩ : Fin 4096) := by
    apply Fin.ext; blk_simp [idx t]
  have h1 : (win0_3.blk t).view.emb (ix2 y0 y1) 1 = (y1 : Fin 512) := by
    apply Fin.ext; blk_simp [idx t]
  rw [h0, h1]
  exact (dq_at m c t y0 y1).trans (bquery_eq m c t y0 y1)

/-- The gradient of the keys and of the values the kernel leaves. -/
theorem final_kv (c : Dev nD) : (dats m 0 c).arrAt 4 cfg0.N = fun y : S256x1024.Idx =>
    ∑ r : Fin 4096, arow (m ((c : Thread nD τ).loc main_arg0)) (m ((c : Thread nD τ).loc main_arg1)) (m ((c : Thread nD τ).loc main_arg2)) (y 0) (y 1) r := by
  refine (dats m 0 c).arrAt_eq_of_after_last 4 t0_7 (by decide +kernel) _ fun j => ?_
  blk_simp
  idx_vars j
  rw [after0_4]
  rw [Pipeline.eq_sum_fin_of_reset_step_apply_last (fun n h => (outsAt0 m c n h).2) 8 (fun _ => 0)
    (fun t j => bpart (show FVec Ideal S512x512 .bf16 from iblk m c 0 t) (show FVec Ideal S512x512 .bf16 from iblk m c 1 t)
        (show FVec Ideal S256x1024 .bf16 from iblk m c 2 t) (j 0) (j 1))
    (fun t h j => by idx_vars j; exact dkv_A m c t h _ _) (fun t h j => by idx_vars j; exact dkv_B m c t h _ _) (le_of_eq N_0) t0_7 rfl, zero_add]
  exact (Finset.sum_congr rfl fun p _ => bpart_eq m c p j0 j1).trans (Fin.sum_mul_add_congr fun s k hl => rfl)

end Cert.KernelIdeal.Value
-- ==== Proof.RefRead.lean ====
module

public import proofs.«01_k».proof.Proof.Gen.ReferenceIdeal.Run
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.SL.Sem

/-! The gradient of the attention as the reference computes it, cut at the values it reads more than once. -/

/-- The scaled scores of the four heads. -/
def scores (px : FVec Ideal S4096x1024 .bf16) (kv : FVec Ideal S256x1024 .bf16) : FVec Ideal S4x4096x256 .f32 :=
  (mulf (Host.dotGeneral dot_S4096x4x128_S256x4x128_S4x4096x256_2_2_0_0_1_1 none (shapeCast _ (extf .f32 (extractStridedSlice S4096x512 ![0, 512] px slices_S4096x1024_S4096x512_0_512) bitsLt_bf16_f32) shapeCasts_S4096x512_S4096x4x128) (shapeCast _ (extractStridedSlice S256x512 ![0, 0] (extf .f32 kv bitsLt_bf16_f32) slices_S256x1024_S256x512_0_0) shapeCasts_S256x512_S256x4x128)) (broadcastInDim S4x4096x256 ![] bcast_S_S4x4096x256 (constant S_ .f32 0x3DB504F3#32)))

/-- The row maximum of the scores. -/
def rowmax (s : FVec Ideal S4x4096x256 .f32) : FVec Ideal S4x4096 .f32 :=
  (Host.reduce FloatOps.maximumf s (constant S_ .f32 0xFF800000#32) reducesTo_S4x4096x256_S4x4096_d2 h_S_)

/-- The exponentials of the scores less their row maximum. -/
def exps (s : FVec Ideal S4x4096x256 .f32) (mx : FVec Ideal S4x4096 .f32) : FVec Ideal S4x4096x256 .f32 :=
  (Host.exp (subf s (broadcastInDim S4x4096x256 ![0, 1, 2] bcast_S4x4096x1_S4x4096x256_0_1_2 (broadcastInDim S4x4096x1 ![0, 1] bcast_S4x4096_S4x4096x1_0_1 (maximumf (broadcastInDim S4x4096 ![] bcast_S_S4x4096 (constant S_ .f32 0xFF800000#32)) mx)))))

/-- The row sums of the exponentials. -/
def denom (e : FVec Ideal S4x4096x256 .f32) : FVec Ideal S4x4096x1 .f32 :=
  (broadcastInDim S4x4096x1 ![0, 1] bcast_S4x4096_S4x4096x1_0_1 (Host.reduceAdd e (constant S_ .f32 0x00000000#32) reducesTo_S4x4096x256_S4x4096_d2 h_S_))

/-- The attention weights. -/
def probs (e : FVec Ideal S4x4096x256 .f32) (z : FVec Ideal S4x4096x1 .f32) : FVec Ideal S4x4096x256 .f32 :=
  (Host.divf e (broadcastInDim S4x4096x256 ![0, 1, 2] bcast_S4x4096x1_S4x4096x256_0_1_2 z))

/-- The gradient with respect to the attention weights. -/
def dprobs (dy : FVec Ideal S4096x512 .bf16) (kv : FVec Ideal S256x1024 .bf16) : FVec Ideal S4x4096x256 .f32 :=
  (Host.dotGeneral dot_S4x128x4096_S256x4x128_S4x4096x256_1_2_2_0_0_1 none (transpose S4x128x4096 [1, 2, 0] (shapeCast _ (extf .f32 dy bitsLt_bf16_f32) shapeCasts_S4096x512_S4096x4x128) transposes_S4096x4x128_S4x128x4096_1_2_0) (shapeCast _ (extractStridedSlice S256x512 ![0, 512] (extf .f32 kv bitsLt_bf16_f32) slices_S256x1024_S256x512_0_512) shapeCasts_S256x512_S256x4x128))

/-- The gradient with respect to the unscaled scores. -/
def dscores (g : FVec Ideal S4x4096x256 .f32) (e : FVec Ideal S4x4096x256 .f32) (z : FVec Ideal S4x4096x1 .f32) : FVec Ideal S4x4096x256 .f32 :=
  (mulf (mulf (addf (Host.divf g (broadcastInDim S4x4096x256 ![0, 1, 2] bcast_S4x4096x1_S4x4096x256_0_1_2 z)) (broadcastInDim S4x4096x256 ![0, 1] bcast_S4x4096_S4x4096x256_0_1 (Host.reduceAdd (Host.negf (shapeCast _ (Host.reduceAdd (mulf (mulf g (broadcastInDim S4x4096x256 ![0, 1, 2] bcast_S4x4096x1_S4x4096x256_0_1_2 (Host.divf (broadcastInDim S4x4096x1 ![] bcast_S_S4x4096x1 (constant S_ .f32 0x3F800000#32)) (mulf z z)))) e) (constant S_ .f32 0x00000000#32) reducesTo_S4x4096x256_S4x4096_d2 h_S_) shapeCasts_S4x4096_S4x4096x1)) (constant S_ .f32 0x00000000#32) reducesTo_S4x4096x1_S4x4096_d2 h_S_))) e) (broadcastInDim S4x4096x256 ![] bcast_S_S4x4096x256 (constant S_ .f32 0x3DB504F3#32)))

/-- The gradient of the queries from that of the scores. -/
def dqOf (ds : FVec Ideal S4x4096x256 .f32) (kv : FVec Ideal S256x1024 .bf16) : FVec Ideal S4096x512 .bf16 :=
  (truncf .bf16 (shapeCast _ (transpose S4096x4x128 [1, 0, 2] (Host.dotGeneral dot_S4x4096x256_S256x4x128_S4x4096x128_2_0_1_2_0_1 none ds (shapeCast _ (extractStridedSlice S256x512 ![0, 0] (extf .f32 kv bitsLt_bf16_f32) slices_S256x1024_S256x512_0_0) shapeCasts_S256x512_S256x4x128)) transposes_S4x4096x128_S4096x4x128_1_0_2) shapeCasts_S4096x4x128_S4096x512) bitsLt_bf16_f32)

/-- The gradient of the keys and of the values. -/
def dkvOf (ds : FVec Ideal S4x4096x256 .f32) (p : FVec Ideal S4x4096x256 .f32) (dy : FVec Ideal S4096x512 .bf16) (px : FVec Ideal S4096x1024 .bf16) : FVec Ideal S256x1024 .f32 :=
  (fn_main_v68 (shapeCast _ (transpose S256x4x128 [1, 0, 2] (Host.dotGeneral dot_S4x4096x256_S4096x4x128_S4x256x128_1_0_2_2_0_1 none ds (shapeCast _ (extf .f32 (extractStridedSlice S4096x512 ![0, 512] px slices_S4096x1024_S4096x512_0_512) bitsLt_bf16_f32) shapeCasts_S4096x512_S4096x4x128)) transposes_S4x256x128_S256x4x128_1_0_2) shapeCasts_S256x4x128_S256x512) (shapeCast _ (transpose S256x4x128 [2, 0, 1] (Host.dotGeneral dot_S4x128x4096_S4x4096x256_S4x128x256_2_1_1_2_0_0 none (transpose S4x128x4096 [1, 2, 0] (shapeCast _ (extf .f32 dy bitsLt_bf16_f32) shapeCasts_S4096x512_S4096x4x128) transposes_S4096x4x128_S4x128x4096_1_2_0) p) transposes_S4x128x256_S256x4x128_2_0_1) shapeCasts_S256x4x128_S256x512))

/-- The exponentials, from the arguments. -/
def expsOf (px : FVec Ideal S4096x1024 .bf16) (kv : FVec Ideal S256x1024 .bf16) : FVec Ideal S4x4096x256 .f32 :=
  exps (scores px kv) (rowmax (scores px kv))

/-- The reference's first result, by its stages. -/
def dq (dy : FVec Ideal S4096x512 .bf16) (px : FVec Ideal S4096x1024 .bf16) (kv : FVec Ideal S256x1024 .bf16) : FVec Ideal S4096x512 .bf16 :=
  dqOf (dscores (dprobs dy kv) (expsOf px kv) (denom (expsOf px kv))) kv

/-- The reference's second result, by its stages. -/
def dkv (dy : FVec Ideal S4096x512 .bf16) (px : FVec Ideal S4096x1024 .bf16) (kv : FVec Ideal S256x1024 .bf16) : FVec Ideal S256x1024 .f32 :=
  dkvOf (dscores (dprobs dy kv) (expsOf px kv) (denom (expsOf px kv))) (probs (expsOf px kv) (denom (expsOf px kv))) dy px

variable (m : (ℓ : Loc nD τ sig) → Buf (Elt Ideal) ℓ)

theorem out0_eq (c : Dev nD) : res_out0 (F := Ideal) m c = dq (m ((c.tc : Thread nD τ).loc main_arg0)) (m ((c.tc : Thread nD τ).loc main_arg1)) (m ((c.tc : Thread nD τ).loc main_arg2)) := by
  show res_main_v70 (F := Ideal) m c = _
  unfold res_main_v70; rfl

theorem out1_eq (c : Dev nD) : res_out1 (F := Ideal) m c = dkv (m ((c.tc : Thread nD τ).loc main_arg0)) (m ((c.tc : Thread nD τ).loc main_arg1)) (m ((c.tc : Thread nD τ).loc main_arg2)) := by
  show res_main_v68 (F := Ideal) m c = _
  unfold res_main_v68; rfl

/-- A row maximum along the last of three axes. -/
theorem fold_last {a b c : Nat} {u : Shape} (h : (⟨3, ![a, b, c]⟩ : Shape).ReducesTo [2] ⟨2, ![a, b]⟩) (v : FVec Ideal ⟨3, ![a, b, c]⟩ .f32)
    (init : FVec Ideal u .f32) (hu : 0 < u.numel) (i : Fin a) (j : Fin b) :
    Host.reduce FloatOps.maximumf v init h hu (ix2 i j) = Finset.univ.fold max (init (Shape.Idx.first hu)) fun k : Fin c => v (ix3 i j k) := by
  simp only [pointwise]

theorem scores_at (px : FVec Ideal S4096x1024 .bf16) (kv : FVec Ideal S256x1024 .bf16) (h : Fin 4) (r : Fin 4096) (n : Fin 256) :
    scores px kv (ix3 h r n)
      = (∑ x : Fin 128, px (ix2 r ⟨512 + (h.val * 128 + x.val), by omega⟩) * kv (ix2 n ⟨h.val * 128 + x.val, by omega⟩)) * Ideal.ofBits .f32 1035273459#32 := by
  pointwise [scores]
theorem rowmax_at (s : FVec Ideal S4x4096x256 .f32) (h : Fin 4) (r : Fin 4096) :
    rowmax s (ix2 h r) = Finset.univ.fold max (Ideal.ofBits .f32 4286578688#32) (fun x : Fin 256 => s (ix3 h r x)) :=
  fold_last _ s _ _ h r
theorem exps_at (s : FVec Ideal S4x4096x256 .f32) (mx : FVec Ideal S4x4096 .f32) (h : Fin 4) (r : Fin 4096) (n : Fin 256) :
    exps s mx (ix3 h r n) = Ideal.exp (s (ix3 h r n) - max (Ideal.ofBits .f32 4286578688#32) (mx (ix2 h r))) := by
  pointwise [exps]
theorem denom_at (s : FVec Ideal S4x4096x256 .f32) (h : Fin 4) (r : Fin 4096) :
    denom s (ix3 h r 0) = ∑ x : Fin 256, s (ix3 h r x) := by
  pointwise [denom]
theorem probs_at (s : FVec Ideal S4x4096x256 .f32) (z : FVec Ideal S4x4096x1 .f32) (h : Fin 4) (r : Fin 4096) (n : Fin 256) :
    probs s z (ix3 h r n) = Ideal.div (s (ix3 h r n)) (z (ix3 h r 0)) := by
  pointwise [probs]
theorem dprobs_at (dy : FVec Ideal S4096x512 .bf16) (kv : FVec Ideal S256x1024 .bf16) (h : Fin 4) (r : Fin 4096) (n : Fin 256) :
    dprobs dy kv (ix3 h r n) = ∑ x : Fin 128, dy (ix2 r ⟨h.val * 128 + x.val, by omega⟩) * kv (ix2 n ⟨512 + (h.val * 128 + x.val), by omega⟩) := by
  pointwise [dprobs]
theorem dscores_at (g s : FVec Ideal S4x4096x256 .f32) (z : FVec Ideal S4x4096x1 .f32) (h : Fin 4) (r : Fin 4096) (n : Fin 256) :
    dscores g s z (ix3 h r n)
      = (Ideal.div (g (ix3 h r n)) (z (ix3 h r 0)) + ∑ _x : Fin 1, -∑ x : Fin 256, g (ix3 h r x) * Ideal.div 1 (z (ix3 h r 0) * z (ix3 h r 0)) * s (ix3 h r x))
          * s (ix3 h r n) * Ideal.ofBits .f32 1035273459#32 := by
  pointwise [dscores]
theorem dqOf_at (g : FVec Ideal S4x4096x256 .f32) (kv : FVec Ideal S256x1024 .bf16) (r : Fin 4096) (j : Fin 512) :
    dqOf g kv (ix2 r j) = ∑ x : Fin 256, g (ix3 ⟨j.val / 128, by omega⟩ r x) * kv (ix2 x ⟨j.val, by omega⟩) := by
  pointwise [dqOf]
theorem dkvOf_at (g p : FVec Ideal S4x4096x256 .f32) (dy : FVec Ideal S4096x512 .bf16) (px : FVec Ideal S4096x1024 .bf16) (r : Fin 256) (j : Fin 1024) :
    dkvOf g p dy px (ix2 r j)
      = if h : j.val < 512 then ∑ x : Fin 4096, g (ix3 ⟨j.val / 128, by omega⟩ x r) * px (ix2 x ⟨512 + j.val, by omega⟩)
        else ∑ x : Fin 4096, dy (ix2 x ⟨j.val - 512, by omega⟩) * p (ix3 ⟨(j.val - 512) / 128, by omega⟩ x r) := by
  pointwise [dkvOf, fn_main_v68]
  simp only [Nat.div_add_mod']

end Cert.ReferenceIdeal.Value
-- ==== Proof.Agree.lean ====
module

public import proofs.«01_k».proof.Proof.Final
public import proofs.«01_k».proof.Proof.RefRead

@[expose] public section

set_option maxRecDepth 16384

noncomputable section

namespace Cert.Agree

open Idealize.ShloMosaic Idealize.ShloMosaic.TcCoe
open Cert.KernelIdeal.Value (scale ascore adweight aquery arow ofBits_bot)

/-! Where the queries and the keys are finite, the reference's two gradients are the kernel's. -/

abbrev Dy := FVec Ideal Cert.KernelIdeal.S4096x512 .bf16
abbrev Px := FVec Ideal Cert.KernelIdeal.S4096x1024 .bf16
abbrev Kv := FVec Ideal Cert.KernelIdeal.S256x1024 .bf16

/-- The queries and the keys are real numbers. -/
structure Finite (px : Px) (kv : Kv) : Prop where
  q : ∀ (r : Fin 4096) (j : Fin 512), ∃ a : ℝ, px (ix2 r ⟨512 + j.val, by omega⟩) = (a : EReal)
  k : ∀ (n : Fin 256) (j : Fin 512), ∃ a : ℝ, kv (ix2 n ⟨j.val, by omega⟩) = (a : EReal)

theorem scale_real : ∃ a : ℝ, scale = (a : EReal) := by
  simp [scale, Ideal.ofBits, Ideal.ieee]
  exact ⟨_, rfl⟩

/-- Sums of products of reals are real. -/
theorem sum_real {n : ℕ} (f g : Fin n → EReal) (hf : ∀ i, ∃ a : ℝ, f i = (a : EReal)) (hg : ∀ i, ∃ a : ℝ, g i = (a : EReal)) :
    ∃ a : ℝ, ∑ i, f i * g i = (a : EReal) := by
  choose a ha using hf
  choose b hb using hg
  refine ⟨∑ i, a i * b i, ?_⟩
  rw [Softmax.coe_sum_real]
  exact Finset.sum_congr rfl fun i _ => by rw [ha, hb, EReal.coe_mul]

theorem score_real (px : Px) (kv : Kv) (hf : Finite px kv) (h : Fin 4) (r : Fin 4096) (n : Fin 256) : ∃ a : ℝ, ascore px kv h r n = (a : EReal) := by
  obtain ⟨a, ha⟩ := sum_real (fun x : Fin 128 => px (ix2 r ⟨512 + (h.val * 128 + x.val), by omega⟩)) (fun x => kv (ix2 n ⟨h.val * 128 + x.val, by omega⟩))
    (fun x => hf.q r ⟨h.val * 128 + x.val, by omega⟩) (fun x => hf.k n ⟨h.val * 128 + x.val, by omega⟩)
  obtain ⟨b, hb⟩ := scale_real
  exact ⟨a * b, by rw [EReal.coe_mul, ← ha, ← hb]; rfl⟩

open Cert.ReferenceIdeal.Value in
theorem expsOf_at (px : Px) (kv : Kv) (h : Fin 4) (r : Fin 4096) (n : Fin 256) :
    expsOf px kv (ix3 h r n) = Softmax.ex (ascore px kv h r) n := by
  have hs : ∀ n, scores px kv (ix3 h r n) = ascore px kv h r n := fun n => scores_at px kv h r n
  rw [expsOf, exps_at, rowmax_at, ofBits_bot, max_eq_right bot_le]
  simp only [hs]
  rfl

open Cert.ReferenceIdeal.Value in
theorem denomOf_at (px : Px) (kv : Kv) (h : Fin 4) (r : Fin 4096) :
    denom (expsOf px kv) (ix3 h r 0) = Softmax.total (ascore px kv h r) := by
  rw [denom_at]
  exact Finset.sum_congr rfl fun n _ => expsOf_at px kv h r n

open Cert.ReferenceIdeal.Value in
theorem probsOf_at (px : Px) (kv : Kv) (hf : Finite px kv) (h : Fin 4) (r : Fin 4096) (n : Fin 256) :
    probs (expsOf px kv) (denom (expsOf px kv)) (ix3 h r n) = Softmax.weight (ascore px kv h r) n := by
  choose σ hσ using score_real px kv hf h r
  rw [probs_at, denomOf_at, expsOf_at, Softmax.weight_eq _ σ hσ]

open Cert.ReferenceIdeal.Value in
theorem dscoresOf_at (dy : Dy) (px : Px) (kv : Kv) (hf : Finite px kv) (h : Fin 4) (r : Fin 4096) (n : Fin 256) :
    dscores (dprobs dy kv) (expsOf px kv) (denom (expsOf px kv)) (ix3 h r n)
      = Softmax.grad (ascore px kv h r) (adweight dy kv h r) scale n := by
  choose σ hσ using score_real px kv hf h r
  have hg : ∀ n, dprobs dy kv (ix3 h r n) = adweight dy kv h r n := fun n => dprobs_at dy kv h r n
  rw [dscores_at, denomOf_at]
  simp only [expsOf_at, hg]
  exact Softmax.grad_eq _ _ σ hσ _ n

theorem dq_eq (dy : Dy) (px : Px) (kv : Kv) (hf : Finite px kv) (r : Fin 4096) (j : Fin 512) :
    Cert.ReferenceIdeal.Value.dq dy px kv (ix2 r j) = aquery dy px kv r j := by
  rw [Cert.ReferenceIdeal.Value.dq, Cert.ReferenceIdeal.Value.dqOf_at]
  exact Finset.sum_congr rfl fun n _ => congrArg (· * _) (dscoresOf_at dy px kv hf _ r n)

theorem dkv_eq (dy : Dy) (px : Px) (kv : Kv) (hf : Finite px kv) (n : Fin 256) (j : Fin 1024) :
    Cert.ReferenceIdeal.Value.dkv dy px kv (ix2 n j) = ∑ r : Fin 4096, arow dy px kv n j r := by
  rw [Cert.ReferenceIdeal.Value.dkv, Cert.ReferenceIdeal.Value.dkvOf_at]
  by_cases h : j.val < 512
  · rw [dif_pos h]
    refine Finset.sum_congr rfl fun r _ => ?_
    rw [arow, dif_pos h]
    exact congrArg (· * _) (dscoresOf_at dy px kv hf _ r n)
  · rw [dif_neg h]
    refine Finset.sum_congr rfl fun r _ => ?_
    rw [arow, dif_neg h, mul_comm]
    exact congrArg (· * _) (probsOf_at px kv hf _ r n)

end Cert.Agree
-- ==== Proof.FiniteScores.lean ====
module

public import proofs.«01_k».proof.Proof.Agree
public import proofs.«01_k».proof.Pre_finite_scores
public import Idealize.ShloMosaic.Lib.ReduceAll

@[expose] public section

set_option maxRecDepth 16384

noncomputable section

namespace Cert.Pre_finite_scores

open Idealize.ShloMosaic Cert.Agree

/-! What the precondition says: the queries and the keys are real numbers. -/

instance facts : Cert.Pre_finite_scores.Facts where
  slices_S4096x1024_S4096x512_0_512 := by decide
  bitsLt_bf16_f32 := by decide
  slices_S256x1024_S256x512_0_0 := by decide
  bcast_S_S4096x512 := by decide
  reducesTo_S4096x512_S_d0_1 := by decide
  h_S_ := by decide
  bcast_S_S256x512 := by decide
  reducesTo_S256x512_S_d0_1 := by decide

theorem ofBits_top : Ideal.ofBits .f32 2139095040#32 = ⊤ := by simp [Ideal.ofBits, Ideal.ieee]

/-- An extended real whose absolute value lies below infinity is real. -/
theorem real_of_abs (x : EReal) (h : BitVec.ofBool (decide (max x (-x) < Ideal.ofBits .f32 2139095040#32)) = 1#1) : ∃ a : ℝ, x = (a : EReal) := by
  have h : max x (-x) < ⊤ := by
    rw [ofBits_top] at h
    by_contra hc
    rw [decide_eq_false hc] at h
    exact absurd h (by decide)
  induction x with
  | bot => exact absurd h (by simp)
  | top => exact absurd h (by simp)
  | coe a => exact ⟨a, rfl⟩

theorem and_bit (a b : BitVec 1) (h : a &&& b = 1#1) : a = 1#1 ∧ b = 1#1 := by revert a b; decide

theorem finite (dy : Dy) (px : Px) (kv : Kv) (h : Cert.Pre_finite_scores.fn (F := Ideal) dy px kv = fun _ => 1#1) : Finite px kv := by
  obtain ⟨h1, h2⟩ := and_bit _ _ (congrFun h ix0)
  haveI : Subsingleton S_.Idx := ⟨fun a b => funext fun i => i.elim0⟩
  have g1 := fun i => Host.reduce_andi_all _ _ _ _ _ h1 i
  have g2 := fun i => Host.reduce_andi_all _ _ _ _ _ h2 i
  constructor
  · intro r j
    have hb := g1 (ix2 r j)
    pointwise at hb
    exact real_of_abs _ hb
  · intro n j
    have hb := g2 (ix2 n j)
    pointwise at hb
    exact real_of_abs _ hb

end Cert.Pre_finite_scores
-- ==== Proof.Xattn.lean ====
/- The memory attention: the reference's frame and the two gradients. -/
module

public import proofs.«01_k».proof.Proof.Gen.KernelIdeal.Value
public import proofs.«01_k».proof.Proof.Gen.ReferenceIdeal.Run
public import proofs.«01_k».proof.Defs
public import proofs.«01_k».proof.Proof.FiniteScores
public import proofs.«01_k».proof.Proof.Gen.KernelIdeal.Frame

@[expose] public section

noncomputable section

namespace Cert.Xattn.Claims

open Idealize.ShloMosaic Idealize.SL.Sem Cert.Kernel

/-- The reference runs and keeps its arguments. -/
theorem frameR : quiescent_ReferenceIdeal := by
  intro m ρ _
  exact (θ_run Cert.ReferenceIdeal.defs _ _).mono (fun r h => ⟨fun c => (h c).2.2, sem_eq_zero_of_no_sems (by decide) r.2⟩) (Cert.ReferenceIdeal.Value.run m ρ)

/-- Where the queries and the keys are finite the kernel's two gradients are the reference's. -/
theorem algebraic : algebraic_KernelIdeal_ReferenceIdeal_pre_finite_scores := fun m ρ m' ρ' hpre hag =>
  ⟨_, _,
    (θ_run _ _ _).mono (fun _ h c => ⟨(h c).1.trans (Cert.KernelIdeal.Value.final_q m c), (h c).2.1.trans (Cert.KernelIdeal.Value.final_kv m c), (h c).2.2⟩)
      (Cert.KernelIdeal.Value.run_blocks m ρ),
    (θ_run _ _ _).mono (fun _ h c => by
        have hf := Cert.Pre_finite_scores.finite _ _ _ (hpre c)
        refine ⟨(h c).1.trans ?_, (h c).2.1.trans ?_, (h c).2.2⟩
        · refine (Cert.ReferenceIdeal.Value.out0_eq m' c).trans ?_
          rw [(hag c).1, (hag c).2.1, (hag c).2.2]
          funext y
          idx_vars y
          exact Cert.Agree.dq_eq _ _ _ hf y0 y1
        · refine (Cert.ReferenceIdeal.Value.out1_eq m' c).trans ?_
          rw [(hag c).1, (hag c).2.1, (hag c).2.2]
          funext y
          idx_vars y
          exact Cert.Agree.dkv_eq _ _ _ hf y0 y1)
      (Cert.ReferenceIdeal.Value.run m' ρ')⟩

end Cert.Xattn.Claims

end
-- ==== Proof.OutDwProof.lean ====
module

public import proofs.«01_k».proof.Proof.Gen.OutDwIdeal.Value
public import proofs.«01_k».proof.Proof.Gen.OutDwRefIdeal.Run
public import proofs.«01_k».proof.Defs
public import Idealize.ShloMosaic.Lib.Pointwise
public import Idealize.ShloMosaic.Lib.Pipeline.ValueKit
public import Idealize.ShloMosaic.Lib.Pipeline.ReadBack
public import Idealize.ShloMosaic.Adequacy

@[expose] public section

set_option maxRecDepth 16384

noncomputable section

namespace Cert.OutDwIdeal.Value

open Cert.OutDwIdeal Cert.OutDwIdeal.Gen Idealize.ShloMosaic Idealize.ShloMosaic.TcCoe Idealize.SL.Sem
open Idealize.ShloMosaic.Pipeline

/-! The gradient of the feed-forward network's second weight: two halves of the 4096 rows, one after the other. -/

/-- The gradient at row `r` and column `c`. -/
def dw (u : FVec Ideal S4096x2816 .bf16) (d : FVec Ideal S4096x1024 .bf16) (r : Fin 2816) (c : Fin 1024) : EReal :=
  ∑ k : Fin 4096, u (ix2 k r) * d (ix2 k c)

theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

theorem pay2_at (u : FVec Ideal S2048x1408 .bf16) (d : FVec Ideal S2048x1024 .bf16) (r : Fin 1408) (c : Fin 1024) :
    k0_pay2 (F := Ideal) u d (ix2 r c) = ∑ k : Fin 2048, u (ix2 k r) * d (ix2 k c) := by
  pointwise [k0_pay2, k0_pay1]

theorem pay3_at (u : FVec Ideal S2048x1408 .bf16) (d : FVec Ideal S2048x1024 .bf16) (acc : FVec Ideal S1408x1024 .f32) (r : Fin 1408) (c : Fin 1024) :
    k0_pay3 (F := Ideal) u d acc (ix2 r c) = acc (ix2 r c) + ∑ k : Fin 2048, u (ix2 k r) * d (ix2 k c) := by
  pointwise [k0_pay3, k0_pay1]

theorem pay4_at (acc : FVec Ideal S1408x1024 .f32) (r : Fin 1408) (c : Fin 1024) : k0_pay4 (F := Ideal) acc (ix2 r c) = acc (ix2 r c) := by
  pointwise [k0_pay4]

variable (m : (ℓ : Loc nD τ sig) → Buf (Elt Ideal) ℓ)

theorem row_lt (t : Fin cfg0.N) (r : Fin 1408) : t.val / 2 * 1408 + r.val < 2816 := by
  have := lt_of_lt_of_eq t.isLt N_0; omega

theorem blk0 (c : Dev nD) (t : Fin cfg0.N) (k : Fin 2048) (r : Fin 1408) :
    (show FVec Ideal S2048x1408 .bf16 from iblk m c 0 t) (ix2 k r) = m ((c : Thread nD τ).loc main_arg0) (ix2 ⟨t.val % 2 * 2048 + k.val, by omega⟩ ⟨t.val / 2 * 1408 + r.val, row_lt t r⟩) := by
  blk_point [iblk, V, idx t]

theorem blk1 (c : Dev nD) (t : Fin cfg0.N) (k : Fin 2048) (j : Fin 1024) :
    (show FVec Ideal S2048x1024 .bf16 from iblk m c 1 t) (ix2 k j) = m ((c : Thread nD τ).loc main_arg1) (ix2 ⟨t.val % 2 * 2048 + k.val, by omega⟩ j) := by
  blk_point [iblk, V, idx t]

/-- A half's part of the sum. -/
def part (u : FVec Ideal S4096x2816 .bf16) (d : FVec Ideal S4096x1024 .bf16) (r : Fin 2816) (c : Fin 1024) (h : Fin 2) : EReal :=
  ∑ k : Fin 2048, u (ix2 ⟨h.val * 2048 + k.val, by omega⟩ r) * d (ix2 ⟨h.val * 2048 + k.val, by omega⟩ c)

/-- The first half of a block's sum goes to the scratch. -/
theorem first (c : Dev nD) (t : Fin cfg0.N) (ht : t.val % 2 = 0) (r : Fin 1408) (j : Fin 1024) :
    (outsAt0 m c t.val t.isLt).2 (ix2 r j) = part (m ((c : Thread nD τ).loc main_arg0)) (m ((c : Thread nD τ).loc main_arg1))
      ⟨t.val / 2 * 1408 + r.val, row_lt t r⟩ j 0 := by
  have e0 := blk0 m c t
  have e1 := blk1 m c t
  rw [outsAt0_A m c t ht (by omega) (by omega)]
  frame_out
  generalize iblk m c 0 t = x0 at e0 ⊢
  generalize iblk m c 1 t = x1 at e1 ⊢
  rw [pay2_at]
  refine Finset.sum_congr rfl fun k _ => ?_
  rw [show x0 (ix2 k r) = _ from e0 k r, show x1 (ix2 k j) = _ from e1 k j]
  simp only [ht]
  rfl

/-- The second half is added to it and stored. -/
theorem second (c : Dev nD) (t : Fin cfg0.N) (ht : t.val % 2 = 1) (r : Fin 1408) (j : Fin 1024) :
    (outsAt0 m c t.val t.isLt).1 (ix2 r j) = dw (m ((c : Thread nD τ).loc main_arg0)) (m ((c : Thread nD τ).loc main_arg1))
      ⟨t.val / 2 * 1408 + r.val, row_lt t r⟩ j := by
  have e0 := blk0 m c t
  have e1 := blk1 m c t
  have hp := first m c ⟨t.val - 1, Nat.lt_of_le_of_lt (Nat.sub_le _ _) t.isLt⟩ (by show (t.val - 1) % 2 = 0; omega) r j
  rw [outsAt0_B m c t (by omega) ht ht]
  frame_open
  simp (disch := decide) only [↓ View.readCov_skip, ↓ View.readCov_cons_toLoadRect, ↓ View.readCov_fill]
  frame_out
  generalize iblk m c 0 t = x0 at e0 ⊢
  generalize iblk m c 1 t = x1 at e1 ⊢
  generalize (outsAt0 m c (t.val - 1) (Nat.lt_of_le_of_lt (Nat.sub_le _ _) t.isLt)).2 = P at hp ⊢
  rw [read_unread_whole, pay4_at, pay3_at, hp]
  have he : (t.val - 1) / 2 = t.val / 2 := by omega
  have hs : part (m ((c : Thread nD τ).loc main_arg0)) (m ((c : Thread nD τ).loc main_arg1)) ⟨t.val / 2 * 1408 + r.val, row_lt t r⟩ j 1
      = ∑ k : Fin 2048, (show FVec Ideal S2048x1408 .bf16 from x0) (ix2 k r) * (show FVec Ideal S2048x1024 .bf16 from x1) (ix2 k j) := by
    refine Finset.sum_congr rfl fun k _ => ?_
    rw [e0 k r, e1 k j]
    simp only [ht]
    rfl
  simp only [he]
  refine (congrArg (HAdd.hAdd _) hs.symm).trans ?_
  refine (Fin.sum_univ_two (part _ _ _ _)).symm.trans ?_
  exact Fin.sum_mul_add_congr fun h k hl => rfl

/-- The array the kernel leaves. -/
theorem final (c : Dev nD) : (dats m 0 c).arrAt 2 cfg0.N = fun y : S2816x1024.Idx =>
    dw (m ((c : Thread nD τ).loc main_arg0)) (m ((c : Thread nD τ).loc main_arg1)) (y 0) (y 1) := by
  refine (dats m 0 c).arrAt_eq_of_covers 2 _ (by decide +kernel) fun t hf y => ?_
  have ht : t.val % 2 = 1 := (by decide +kernel : ∀ t : Fin grid0.N, win0_2.flush t = true → t.val % 2 = 1) t hf
  blk_simp
  rw [after0_2]
  idx_vars y
  have h0 : (win0_2.blk t).view.emb (ix2 y0 y1) 0 = (⟨t.val / 2 * 1408 + y0.val, row_lt t y0⟩ : Fin 2816) := by
    apply Fin.ext; blk_simp [idx t]
  have h1 : (win0_2.blk t).view.emb (ix2 y0 y1) 1 = (y1 : Fin 1024) := by
    apply Fin.ext; blk_simp [idx t]
  rw [h0, h1]
  exact second m c t ht y0 y1

end Cert.OutDwIdeal.Value

namespace Cert.OutDwRefIdeal.Value

open Cert.OutDwRefIdeal Cert.OutDwRefIdeal.Gen Idealize.ShloMosaic Idealize.ShloMosaic.TcCoe Idealize.SL.Sem

/-- The reference's result is the same sum. -/
theorem ref_at (u : FVec Ideal S4096x2816 .bf16) (d : FVec Ideal S4096x1024 .bf16) (r : Fin 2816) (c : Fin 1024) :
    truncf (F := Ideal) .bf16 (transpose S2816x1024 [1, 0] (Host.dotGeneral dot_S4096x1024_S4096x2816_S1024x2816_0_0_1_1_n_n none (extf .f32 d bitsLt_bf16_f32) (extf .f32 u bitsLt_bf16_f32)) transposes_S1024x2816_S2816x1024_1_0) bitsLt_bf16_f32 (ix2 r c)
      = Cert.OutDwIdeal.Value.dw u d r c := by
  pointwise []
  exact Finset.sum_congr rfl fun k _ => mul_comm _ _

end Cert.OutDwRefIdeal.Value

namespace Cert.OutDw.Claims

open Idealize.ShloMosaic Idealize.SL.Sem

/-- The reference runs and keeps its arguments. -/
theorem frameR : quiescent_OutDwRefIdeal := by
  intro m ρ _
  exact (θ_run Cert.OutDwRefIdeal.defs _ _).mono (fun r h => ⟨fun c => (h c).2, sem_eq_zero_of_no_sems (by decide) r.2⟩) (Cert.OutDwRefIdeal.Value.run m ρ)

/-- The kernel's gradient is the reference's. -/
theorem algebraic : algebraic_OutDwIdeal_OutDwRefIdeal := fun m ρ m' ρ' _ hag =>
  ⟨_,
    (θ_run _ _ _).mono (fun _ h c => ⟨(h c).1.trans (Cert.OutDwIdeal.Value.final m c), (h c).2⟩)
      (Cert.OutDwIdeal.Value.run_blocks m ρ),
    (θ_run _ _ _).mono (fun _ h c => by
        refine ⟨(h c).1.trans ?_, (h c).2⟩
        rw [(hag c).1, (hag c).2]
        funext y
        idx_vars y
        exact Cert.OutDwRefIdeal.Value.ref_at _ _ y0 y1)
      (Cert.OutDwRefIdeal.Value.run m' ρ')⟩

end Cert.OutDw.Claims
-- ==== Proof.OutDxKernel.lean ====
module

public import proofs.«01_k».proof.Proof.Gen.OutDxIdeal.Value
public import proofs.«01_k».proof.Proof.Gen.OutDxRefIdeal.Run
public import proofs.«01_k».proof.Defs
public import Idealize.ShloMosaic.Lib.Pointwise
public import Idealize.ShloMosaic.Lib.Pipeline.ValueKit
public import Idealize.ShloMosaic.Lib.Pipeline.ReadBack
public import Idealize.ShloMosaic.Adequacy

@[expose] public section

set_option maxRecDepth 16384

noncomputable section

namespace Cert.OutDxIdeal.Value

open Cert.OutDxIdeal Cert.OutDxIdeal.Gen Idealize.ShloMosaic Idealize.ShloMosaic.TcCoe Idealize.SL.Sem
open Idealize.ShloMosaic.Pipeline

/-! The gradient through the gate, four sub-blocks of 256 rows in each block of 1024. -/

/-- The logistic function as the kernel writes it. -/
def lgs (x : EReal) : EReal := Ideal.ofBits .f32 1056964608#32 * Ideal.tanh (Ideal.ofBits .f32 1056964608#32 * x) + Ideal.ofBits .f32 1056964608#32

/-- The gradients of the two factors of the gate, from that of their product. -/
def dfirst (ct a b : EReal) : EReal := ct * b * (lgs a * (1 + a * (1 - lgs a)))
def dsecond (ct a : EReal) : EReal := ct * a * lgs a

theorem pay5_at (dz : FVec Ideal S256x1024 .bf16) (w : FVec Ideal S1408x1024 .bf16) (a b : FVec Ideal S1x1x256x1408 .bf16) (r : Fin 256) (c : Fin 1408) :
    k0_pay5 (F := Ideal) dz w a b (ix4 0 0 r c) = dfirst (∑ k : Fin 1024, dz (ix2 r k) * w (ix2 c k)) (a (ix4 0 0 r c)) (b (ix4 0 0 r c)) := by
  pointwise [k0_pay5, k0_pay4, k0_pay3, k0_pay2]
  rfl

theorem pay7_at (dz : FVec Ideal S256x1024 .bf16) (w : FVec Ideal S1408x1024 .bf16) (a : FVec Ideal S1x1x256x1408 .bf16) (r : Fin 256) (c : Fin 1408) :
    k0_pay7 (F := Ideal) (k0_pay6 dz w a) (ix4 0 0 r c) = dsecond (∑ k : Fin 1024, dz (ix2 r k) * w (ix2 c k)) (a (ix4 0 0 r c)) := by
  pointwise [k0_pay7, k0_pay6, k0_pay4, k0_pay3, k0_pay2]
  rfl

section rest
variable (dz : FVec Ideal S256x1024 .bf16) (w : FVec Ideal S1408x1024 .bf16) (a b : FVec Ideal S1x1x256x1408 .bf16)
theorem pay11_eq : k0_pay11 (F := Ideal) dz w a b = k0_pay5 dz w a b := rfl
theorem pay17_eq : k0_pay17 (F := Ideal) dz w a b = k0_pay5 dz w a b := rfl
theorem pay23_eq : k0_pay23 (F := Ideal) dz w a b = k0_pay5 dz w a b := rfl
theorem pay13_eq : k0_pay13 (F := Ideal) (k0_pay12 dz w a) = k0_pay7 (k0_pay6 dz w a) := rfl
theorem pay19_eq : k0_pay19 (F := Ideal) (k0_pay18 dz w a) = k0_pay7 (k0_pay6 dz w a) := rfl
theorem pay1_eq : k0_pay1 (F := Ideal) (k0_pay22 a) (k0_pay24 dz w a) = k0_pay7 (k0_pay6 dz w a) := rfl
end rest

theorem idx : ∀ t : Fin cfg0.N, win0_0.index t = ![t.val % 4, 0] ∧ win0_1.index t = ![t.val / 4, 0] ∧ win0_2.index t = ![0, t.val / 4, t.val % 4, 0]
    ∧ win0_3.index t = ![0, t.val / 4, t.val % 4, 0] :=
  (by decide +kernel : ∀ t : Fin grid0.N, _)

/-- What a block's body leaves at factor `h`, row `r` and column `c`. -/
def bval (dz : FVec Ideal S1024x1024 .bf16) (w : FVec Ideal S1408x1024 .bf16) (ab : FVec Ideal S2x1x1024x1408 .bf16) (h : Fin 2) (r : Fin 1024) (c : Fin 1408) : EReal :=
  if h = 0 then dfirst (∑ k : Fin 1024, dz (ix2 r k) * w (ix2 c k)) (ab (ix4 0 0 r c)) (ab (ix4 1 0 r c))
  else dsecond (∑ k : Fin 1024, dz (ix2 r k) * w (ix2 c k)) (ab (ix4 0 0 r c))

section stores
variable (dzb : FVec Ideal S1024x1024 .bf16) (wb : FVec Ideal S1408x1024 .bf16) (abb : FVec Ideal S2x1x1024x1408 .bf16) (q : Fin 4)
  (dz : FVec Ideal S256x1024 .bf16) (w : FVec Ideal S1408x1024 .bf16) (a b : FVec Ideal S1x1x256x1408 .bf16)

theorem store_first (hd : ∀ r k, dz (ix2 r k) = dzb (ix2 ⟨q.val * 256 + r.val, by omega⟩ k)) (hw : ∀ c k, w (ix2 c k) = wb (ix2 c k))
    (ha : ∀ r c, a (ix4 0 0 r c) = abb (ix4 0 0 ⟨q.val * 256 + r.val, by omega⟩ c)) (hb : ∀ r c, b (ix4 0 0 r c) = abb (ix4 1 0 ⟨q.val * 256 + r.val, by omega⟩ c))
    (r : Fin 256) (c : Fin 1408) (h : Fin 2) (R : Fin 1024) (hh : h.val = 0) (hR : R.val = q.val * 256 + r.val) :
    k0_pay5 (F := Ideal) dz w a b (ix4 0 0 r c) = bval dzb wb abb h R c := by
  have e : ∀ p, (⟨q.val * 256 + r.val, p⟩ : Fin 1024) = R := fun p => Fin.ext hR.symm
  obtain rfl : h = 0 := Fin.ext hh
  rw [pay5_at, bval, if_pos rfl, ha, hb, e]
  simp only [hd, hw, e]

theorem store_second (hd : ∀ r k, dz (ix2 r k) = dzb (ix2 ⟨q.val * 256 + r.val, by omega⟩ k)) (hw : ∀ c k, w (ix2 c k) = wb (ix2 c k))
    (ha : ∀ r c, a (ix4 0 0 r c) = abb (ix4 0 0 ⟨q.val * 256 + r.val, by omega⟩ c))
    (r : Fin 256) (c : Fin 1408) (h : Fin 2) (R : Fin 1024) (hh : h.val = 1) (hR : R.val = q.val * 256 + r.val) :
    k0_pay7 (F := Ideal) (k0_pay6 dz w a) (ix4 0 0 r c) = bval dzb wb abb h R c := by
  have e : ∀ p, (⟨q.val * 256 + r.val, p⟩ : Fin 1024) = R := fun p => Fin.ext hR.symm
  obtain rfl : h = 1 := Fin.ext hh
  rw [pay7_at, bval, if_neg (by decide), ha, e]
  simp only [hd, hw, e]
end stores

variable (m : (ℓ : Loc nD τ sig) → Buf (Elt Ideal) ℓ)

theorem out_at (x0 : FVec Ideal S1024x1024 .bf16) (x1 : FVec Ideal S1408x1024 .bf16) (x2 : FVec Ideal S2x1x1024x1408 .bf16) (h : Fin 2) (r : Fin 1024) (j : Fin 1408) :
    out0_3 (F := Ideal) x0 x1 x2 (ix4 h 0 r j) = bval x0 x1 x2 h r j := by
  frame_out
  canon_tiles x hx
  all_goals (idx_vars x; try simp only [pay11_eq, pay17_eq, pay23_eq, pay13_eq, pay19_eq, pay1_eq])
  all_goals (obtain rfl := Fin.ext hx3; obtain rfl : x0 = 0 := Subsingleton.elim _ _; obtain rfl : x1 = 0 := Subsingleton.elim _ _)
  case piece0 =>
    refine store_second _ _ _ 3 _ _ _ ?_ ?_ ?_ _ _ _ _ ?_ ?_
    all_goals first | (simp at hx0 ⊢; omega; done) | omega | (intro r k; rfl) | (intro r k; pointwise; done) | (intro r k; pointwise; blk_ext)
  case piece1 =>
    refine store_first _ _ _ 3 _ _ _ _ ?_ ?_ ?_ ?_ _ _ _ _ ?_ ?_
    all_goals first | (simp at hx0 ⊢; omega; done) | omega | (intro r k; rfl) | (intro r k; pointwise; done) | (intro r k; pointwise; blk_ext)
  case piece2 =>
    refine store_second _ _ _ 2 _ _ _ ?_ ?_ ?_ _ _ _ _ ?_ ?_
    all_goals first | (simp at hx0 ⊢; omega; done) | omega | (intro r k; rfl) | (intro r k; pointwise; done) | (intro r k; pointwise; blk_ext)
  case piece3 =>
    refine store_first _ _ _ 2 _ _ _ _ ?_ ?_ ?_ ?_ _ _ _ _ ?_ ?_
    all_goals first | (simp at hx0 ⊢; omega; done) | omega | (intro r k; rfl) | (intro r k; pointwise; done) | (intro r k; pointwise; blk_ext)
  case piece4 =>
    refine store_second _ _ _ 1 _ _ _ ?_ ?_ ?_ _ _ _ _ ?_ ?_
    all_goals first | (simp at hx0 ⊢; omega; done) | omega | (intro r k; rfl) | (intro r k; pointwise; done) | (intro r k; pointwise; blk_ext)
  case piece5 =>
    refine store_first _ _ _ 1 _ _ _ _ ?_ ?_ ?_ ?_ _ _ _ _ ?_ ?_
    all_goals first | (simp at hx0 ⊢; omega; done) | omega | (intro r k; rfl) | (intro r k; pointwise; done) | (intro r k; pointwise; blk_ext)
  case piece6 =>
    refine store_second _ _ _ 0 _ _ _ ?_ ?_ ?_ _ _ _ _ ?_ ?_
    all_goals first | (simp at hx0 ⊢; omega; done) | omega | (intro r k; rfl) | (intro r k; pointwise; done) | (intro r k; pointwise; blk_ext)
  case piece7 =>
    refine store_first _ _ _ 0 _ _ _ _ ?_ ?_ ?_ ?_ _ _ _ _ ?_ ?_
    all_goals first | (simp at hx0 ⊢; omega; done) | omega | (intro r k; rfl) | (intro r k; pointwise; done) | (intro r k; pointwise; blk_ext)

end Cert.OutDxIdeal.Value
-- ==== Proof.Reals.lean ====
module

public import Idealize.ShloMosaic.Lib.Pointwise
public import Idealize.ShloMosaic.Lib.ReduceAll

@[expose] public section

set_option maxRecDepth 16384

noncomputable section

namespace Cert.Reals

open Idealize.ShloMosaic

/-! Extended reals that are real, and the functions both programs take of them. -/

/-- Neither infinity. -/
def IsReal (x : EReal) : Prop := ∃ a : ℝ, x = (a : EReal)

theorem isReal_coe (a : ℝ) : IsReal (a : EReal) := ⟨a, rfl⟩
theorem IsReal.mul {x y : EReal} (hx : IsReal x) (hy : IsReal y) : IsReal (x * y) := by
  obtain ⟨a, rfl⟩ := hx; obtain ⟨b, rfl⟩ := hy; exact ⟨a * b, (EReal.coe_mul a b).symm⟩

theorem coe_sum {ι : Type*} (t : Finset ι) (f : ι → ℝ) : ((∑ i ∈ t, f i : ℝ) : EReal) = ∑ i ∈ t, (f i : EReal) := by
  classical
  induction t using Finset.induction_on with
  | empty => simp
  | insert i t hi ih => rw [Finset.sum_insert hi, Finset.sum_insert hi, EReal.coe_add, ih]

theorem isReal_sum {ι : Type*} (t : Finset ι) (f : ι → EReal) (hf : ∀ i, IsReal (f i)) : IsReal (∑ i ∈ t, f i) := by
  choose a ha using hf
  exact ⟨∑ i ∈ t, a i, by rw [coe_sum]; exact Finset.sum_congr rfl fun i _ => ha i⟩

theorem isReal_dot {ι : Type*} (t : Finset ι) (f g : ι → EReal) (hf : ∀ i, IsReal (f i)) (hg : ∀ i, IsReal (g i)) : IsReal (∑ i ∈ t, f i * g i) :=
  isReal_sum t _ fun i => (hf i).mul (hg i)

theorem ofBits_top : Ideal.ofBits .f32 2139095040#32 = ⊤ := by simp [Ideal.ofBits, Ideal.ieee]

/-- An extended real whose absolute value lies below infinity is real. -/
theorem real_of_abs (x : EReal) (h : BitVec.ofBool (decide (max x (-x) < Ideal.ofBits .f32 2139095040#32)) = 1#1) : IsReal x := by
  have h : max x (-x) < ⊤ := by
    rw [ofBits_top] at h
    by_contra hc
    rw [decide_eq_false hc] at h
    exact absurd h (by decide)
  induction x with
  | bot => exact absurd h (by simp)
  | top => exact absurd h (by simp)
  | coe a => exact ⟨a, rfl⟩

theorem and_bit (a b : BitVec 1) (h : a &&& b = 1#1) : a = 1#1 ∧ b = 1#1 := by revert a b; decide

/-- The literal one half. -/
theorem ofBits_half : Ideal.ofBits .f32 1056964608#32 = ((1 / 2 : ℝ) : EReal) := by
  simp [Ideal.ofBits, Ideal.ieee]
  rw [← EReal.coe_mul]
  norm_num

/-- The logistic function of a real. -/
def lg (x : ℝ) : ℝ := (1 + Real.exp (-x))⁻¹

theorem half_tanh (x : ℝ) : 1 / 2 * Real.tanh (1 / 2 * x) + 1 / 2 = lg x := by
  have hv : Real.exp (-x) = Real.exp (-(1 / 2 * x)) * Real.exp (-(1 / 2 * x)) := by rw [← Real.exp_add]; congr 1; ring
  have hp := Real.exp_pos (-(1 / 2 * x))
  have hu : Real.exp (1 / 2 * x) = (Real.exp (-(1 / 2 * x)))⁻¹ := by rw [Real.exp_neg, inv_inv]
  rw [Real.tanh_eq_sinh_div_cosh, Real.sinh_eq, Real.cosh_eq, lg, hv, hu]
  generalize Real.exp (-(1 / 2 * x)) = v at hp
  have h1 : v⁻¹ + v ≠ 0 := by positivity
  have h2 : 1 + v * v ≠ 0 := by positivity
  field_simp
  ring

/-- One over a sum, as the reference writes the logistic function. -/
theorem logistic_real (x : ℝ) : Ideal.div 1 (1 + Ideal.exp (-(x : EReal))) = ((lg x : ℝ) : EReal) := by
  have hp : (1 + Real.exp (-x) : ℝ) ≠ 0 := by positivity
  rw [← EReal.coe_neg]
  show Ideal.div 1 (1 + ((Real.exp (-x) : ℝ) : EReal)) = _
  rw [show (1 : EReal) + ((Real.exp (-x) : ℝ) : EReal) = ((1 + Real.exp (-x) : ℝ) : EReal) from by rw [EReal.coe_add]; rfl]
  unfold Ideal.div
  rw [if_neg (by exact_mod_cast hp)]
  rw [one_mul, ← EReal.coe_inv]
  rfl

end Cert.Reals
-- ==== Proof.OutDxProof.lean ====
module

public import proofs.«01_k».proof.Proof.Gen.OutDxIdeal.Value
public import proofs.«01_k».proof.Proof.Gen.OutDxRefIdeal.Run
public import proofs.«01_k».proof.Defs
public import Idealize.ShloMosaic.Lib.Pointwise
public import Idealize.ShloMosaic.Lib.Pipeline.ValueKit
public import Idealize.ShloMosaic.Lib.Pipeline.ReadBack
public import Idealize.ShloMosaic.Adequacy
public import proofs.«01_k».proof.Proof.OutDxKernel
public import proofs.«01_k».proof.Proof.Reals
public import proofs.«01_k».proof.Pre_finite_gate

@[expose] public section

set_option maxRecDepth 16384

noncomputable section

namespace Cert.OutDxIdeal.Value

open Cert.OutDxIdeal Cert.OutDxIdeal.Gen Idealize.ShloMosaic Idealize.ShloMosaic.TcCoe Idealize.SL.Sem
open Idealize.ShloMosaic.Pipeline

/-! The array the kernel leaves, from its arguments. -/

/-- The gradient of factor `h` at column `c` of block `j` and row `r`. -/
def dab (dz : FVec Ideal S4096x1024 .bf16) (w : FVec Ideal S2816x1024 .bf16) (ab : FVec Ideal S2x2x4096x1408 .bf16) (h j : Fin 2) (r : Fin 4096) (c : Fin 1408) : EReal :=
  if h = 0 then dfirst (∑ k : Fin 1024, dz (ix2 r k) * w (ix2 ⟨j.val * 1408 + c.val, by omega⟩ k)) (ab (ix4 0 j r c)) (ab (ix4 1 j r c))
  else dsecond (∑ k : Fin 1024, dz (ix2 r k) * w (ix2 ⟨j.val * 1408 + c.val, by omega⟩ k)) (ab (ix4 0 j r c))

variable (m : (ℓ : Loc nD τ sig) → Buf (Elt Ideal) ℓ)

theorem half_lt (t : Fin cfg0.N) : t.val / 4 < 2 := by
  have := lt_of_lt_of_eq t.isLt N_0; omega

theorem blk0 (c : Dev nD) (t : Fin cfg0.N) (r : Fin 1024) (k : Fin 1024) :
    (show FVec Ideal S1024x1024 .bf16 from iblk m c 0 t) (ix2 r k) = m ((c : Thread nD τ).loc main_arg0) (ix2 ⟨t.val % 4 * 1024 + r.val, by omega⟩ k) := by
  blk_point [iblk, V, idx t]

theorem blk1 (c : Dev nD) (t : Fin cfg0.N) (r : Fin 1408) (k : Fin 1024) :
    (show FVec Ideal S1408x1024 .bf16 from iblk m c 1 t) (ix2 r k) = m ((c : Thread nD τ).loc main_arg1) (ix2 ⟨t.val / 4 * 1408 + r.val, by have := half_lt t; omega⟩ k) := by
  blk_point [iblk, V, idx t]

theorem blk2 (c : Dev nD) (t : Fin cfg0.N) (h : Fin 2) (r : Fin 1024) (j : Fin 1408) :
    (show FVec Ideal S2x1x1024x1408 .bf16 from iblk m c 2 t) (ix4 h 0 r j)
      = m ((c : Thread nD τ).loc main_arg2) (ix4 h ⟨t.val / 4, half_lt t⟩ ⟨t.val % 4 * 1024 + r.val, by omega⟩ j) := by
  blk_point [iblk, V, idx t]

theorem bval_eq (c : Dev nD) (t : Fin cfg0.N) (h : Fin 2) (r : Fin 1024) (j : Fin 1408) :
    bval (show FVec Ideal S1024x1024 .bf16 from iblk m c 0 t) (show FVec Ideal S1408x1024 .bf16 from iblk m c 1 t) (show FVec Ideal S2x1x1024x1408 .bf16 from iblk m c 2 t) h r j
      = dab (m ((c : Thread nD τ).loc main_arg0)) (m ((c : Thread nD τ).loc main_arg1)) (m ((c : Thread nD τ).loc main_arg2)) h ⟨t.val / 4, half_lt t⟩ ⟨t.val % 4 * 1024 + r.val, by omega⟩ j := by
  simp only [bval, dab, blk0, blk1, blk2]

/-- The array the kernel leaves. -/
theorem final (c : Dev nD) : (dats m 0 c).arrAt 3 cfg0.N = fun y : S2x2x4096x1408.Idx =>
    dab (m ((c : Thread nD τ).loc main_arg0)) (m ((c : Thread nD τ).loc main_arg1)) (m ((c : Thread nD τ).loc main_arg2)) (y 0) (y 1) (y 2) (y 3) := by
  refine (dats m 0 c).arrAt_eq_of_covers 3 _ (by decide +kernel) fun t hf y => ?_
  blk_simp
  rw [after0_3]
  idx_vars y
  have h0 : (win0_3.blk t).view.emb (ix4 y0 y1 y2 y3) 0 = (y0 : Fin 2) := by
    apply Fin.ext; blk_simp [idx t]
  have h1 : (win0_3.blk t).view.emb (ix4 y0 y1 y2 y3) 1 = (⟨t.val / 4, half_lt t⟩ : Fin 2) := by
    apply Fin.ext; blk_simp [idx t]
  have h2 : (win0_3.blk t).view.emb (ix4 y0 y1 y2 y3) 2 = (⟨t.val % 4 * 1024 + y2.val, by omega⟩ : Fin 4096) := by
    apply Fin.ext; blk_simp [idx t]
  have h3 : (win0_3.blk t).view.emb (ix4 y0 y1 y2 y3) 3 = (y3 : Fin 1408) := by
    apply Fin.ext; blk_simp [idx t]
  rw [h0, h1, h2, h3]
  obtain rfl : y1 = 0 := by omega
  exact (out_at _ _ _ y0 y2 y3).trans (bval_eq m c t y0 y2 y3)

end Cert.OutDxIdeal.Value

namespace Cert.OutDxRefIdeal.Value

open Cert.OutDxRefIdeal Cert.OutDxRefIdeal.Gen Idealize.ShloMosaic Idealize.ShloMosaic.TcCoe Idealize.SL.Sem

/-! The reference, cut at the values it reads more than once. -/

/-- The first factor's argument. -/
def fa (ab : FVec Ideal S2x2x4096x1408 .bf16) : FVec Ideal S4096x2816 .f32 :=
  (extractStridedSlice S4096x2816 ![0, 0] (shapeCast _ (transpose S4096x2x2x1408 [2, 0, 1, 3] (extf .f32 ab bitsLt_bf16_f32) transposes_S2x2x4096x1408_S4096x2x2x1408_2_0_1_3) shapeCasts_S4096x2x2x1408_S4096x5632) slices_S4096x5632_S4096x2816_0_0)
/-- The second factor. -/
def fb (ab : FVec Ideal S2x2x4096x1408 .bf16) : FVec Ideal S4096x2816 .f32 :=
  (extractStridedSlice S4096x2816 ![0, 2816] (shapeCast _ (transpose S4096x2x2x1408 [2, 0, 1, 3] (extf .f32 ab bitsLt_bf16_f32) transposes_S2x2x4096x1408_S4096x2x2x1408_2_0_1_3) shapeCasts_S4096x2x2x1408_S4096x5632) slices_S4096x5632_S4096x2816_0_2816)
/-- The gradient of the product of the two. -/
def ct (dz : FVec Ideal S4096x1024 .bf16) (w : FVec Ideal S2816x1024 .bf16) : FVec Ideal S4096x2816 .f32 :=
  (Host.dotGeneral dot_S4096x1024_S2816x1024_S4096x2816_1_1_0_0_n_n none (extf .f32 dz bitsLt_bf16_f32) (extf .f32 w bitsLt_bf16_f32))
/-- The logistic function of the first. -/
def sg (A : FVec Ideal S4096x2816 .f32) : FVec Ideal S4096x2816 .f32 :=
  (Host.divf (broadcastInDim S4096x2816 ![] bcast_S_S4096x2816 (constant S_ .f32 0x3F800000#32)) (addf (broadcastInDim S4096x2816 ![] bcast_S_S4096x2816 (constant S_ .f32 0x3F800000#32)) (Host.exp (Host.negf A))))
/-- The gradient from these four. -/
def grad (A B CT G : FVec Ideal S4096x2816 .f32) : FVec Ideal S2x2x4096x1408 .bf16 :=
  truncf .bf16 (transpose S2x2x4096x1408 [1, 2, 0, 3] (shapeCast _ (concatenate S4096x5632 1 [⟨S4096x2816, (addf (mulf (mulf CT B) G) (mulf (mulf A (mulf CT B)) (mulf G (subf (broadcastInDim S4096x2816 ![] bcast_S_S4096x2816 (constant S_ .f32 0x3F800000#32)) G))))⟩, ⟨S4096x2816, (mulf (mulf A G) CT)⟩] concatenates_S4096x2816_S4096x2816_S4096x5632_d1) shapeCasts_S4096x5632_S4096x2x2x1408) transposes_S4096x2x2x1408_S2x2x4096x1408_1_2_0_3) bitsLt_bf16_f32

variable (m : (ℓ : Loc nD τ sig) → Buf (Elt Ideal) ℓ)

theorem out0_eq (c : Dev nD) : res_out0 (F := Ideal) m c
    = grad (fa (m ((c.tc : Thread nD τ).loc main_arg2))) (fb (m ((c.tc : Thread nD τ).loc main_arg2))) (ct (m ((c.tc : Thread nD τ).loc main_arg0)) (m ((c.tc : Thread nD τ).loc main_arg1)))
        (sg (fa (m ((c.tc : Thread nD τ).loc main_arg2)))) := by
  show res_main_v17 (F := Ideal) m c = _
  unfold res_main_v17; rfl

theorem fa_at (ab : FVec Ideal S2x2x4096x1408 .bf16) (r : Fin 4096) (j : Fin 2) (c : Fin 1408) : fa ab (ix2 r ⟨j.val * 1408 + c.val, by omega⟩) = ab (ix4 0 j r c) := by
  pointwise [fa]
  exact congrArg (fun q : Fin 2 => ab (ix4 q j r c)) (Fin.ext (Nat.div_eq_of_lt (by omega)))
theorem fb_at (ab : FVec Ideal S2x2x4096x1408 .bf16) (r : Fin 4096) (j : Fin 2) (c : Fin 1408) : fb ab (ix2 r ⟨j.val * 1408 + c.val, by omega⟩) = ab (ix4 1 j r c) := by
  pointwise [fb]
  exact congrArg (fun q : Fin 2 => ab (ix4 q j r c)) (Fin.ext (show (2816 + (j.val * 1408 + c.val)) / 2816 = 1 by omega))
theorem ct_at (dz : FVec Ideal S4096x1024 .bf16) (w : FVec Ideal S2816x1024 .bf16) (r : Fin 4096) (c : Fin 2816) : ct dz w (ix2 r c) = ∑ k : Fin 1024, dz (ix2 r k) * w (ix2 c k) := by
  pointwise [ct]
theorem sg_at (A : FVec Ideal S4096x2816 .f32) (r : Fin 4096) (c : Fin 2816) : sg A (ix2 r c) = Ideal.div 1 (1 + Ideal.exp (-A (ix2 r c))) := by
  pointwise [sg]
theorem grad_first (A B CT G : FVec Ideal S4096x2816 .f32) (r : Fin 4096) (j : Fin 2) (c : Fin 1408) (C : Fin 2816) (hC : C.val = j.val * 1408 + c.val) :
    grad A B CT G (ix4 0 j r c) = CT (ix2 r C) * B (ix2 r C) * G (ix2 r C) + A (ix2 r C) * (CT (ix2 r C) * B (ix2 r C)) * (G (ix2 r C) * (1 - G (ix2 r C))) := by
  obtain ⟨C, hlt⟩ := C
  obtain rfl : C = j.val * 1408 + c.val := hC
  pointwise [grad]
  exact dif_pos hlt
theorem grad_second (A B CT G : FVec Ideal S4096x2816 .f32) (r : Fin 4096) (j : Fin 2) (c : Fin 1408) (C : Fin 2816) (hC : C.val = j.val * 1408 + c.val) :
    grad A B CT G (ix4 1 j r c) = A (ix2 r C) * G (ix2 r C) * CT (ix2 r C) := by
  obtain ⟨C, hlt⟩ := C
  obtain rfl : C = j.val * 1408 + c.val := hC
  pointwise [grad]
  refine (dif_neg (by omega)).trans ?_
  have e : (⟨2816 + j.val * 1408 + c.val - 2816, by omega⟩ : Fin 2816) = ⟨j.val * 1408 + c.val, hlt⟩ := Fin.ext (show 2816 + j.val * 1408 + c.val - 2816 = j.val * 1408 + c.val by omega)
  rw [e]

end Cert.OutDxRefIdeal.Value

namespace Cert.OutDx.Claims

open Idealize.ShloMosaic Idealize.SL.Sem Cert.Reals Cert.OutDxIdeal.Value

/-! Where all is finite the two gradients are the same. -/

abbrev Dz := FVec Ideal Cert.OutDxIdeal.S4096x1024 .bf16
abbrev W := FVec Ideal Cert.OutDxIdeal.S2816x1024 .bf16
abbrev Ab := FVec Ideal Cert.OutDxIdeal.S2x2x4096x1408 .bf16

theorem lgs_real (a : ℝ) : lgs (a : EReal) = ((lg a : ℝ) : EReal) := by
  rw [lgs, ofBits_half, ← EReal.coe_mul]
  show ((1 / 2 : ℝ) : EReal) * ((Real.tanh (1 / 2 * a) : ℝ) : EReal) + ((1 / 2 : ℝ) : EReal) = _
  rw [← EReal.coe_mul, ← EReal.coe_add, half_tanh]

theorem lgs_top : lgs ⊤ = ((1 : ℝ) : EReal) := by
  rw [lgs, ofBits_half, EReal.coe_mul_top_of_pos (by norm_num)]
  show ((1 / 2 : ℝ) : EReal) * 1 + ((1 / 2 : ℝ) : EReal) = _
  rw [mul_one, ← EReal.coe_add]
  norm_num

theorem lgs_bot : lgs ⊥ = ((0 : ℝ) : EReal) := by
  rw [lgs, ofBits_half, EReal.coe_mul_bot_of_pos (by norm_num)]
  show ((1 / 2 : ℝ) : EReal) * (-1) + ((1 / 2 : ℝ) : EReal) = _
  rw [mul_neg, mul_one, ← EReal.coe_neg, ← EReal.coe_add]
  norm_num

/-- The two forms of the logistic function agree, at the infinities too. -/
theorem logistic_eq (a : EReal) : Ideal.div 1 (1 + Ideal.exp (-a)) = lgs a := by
  induction a with
  | bot =>
    rw [lgs_bot, EReal.neg_bot]
    show Ideal.div 1 (1 + ⊤) = _
    rw [show (1 : EReal) + ⊤ = ⊤ from EReal.coe_add_top 1]
    unfold Ideal.div
    rw [if_neg EReal.top_ne_zero, EReal.inv_top, mul_zero, EReal.coe_zero]
  | top =>
    rw [lgs_top, EReal.neg_top]
    show Ideal.div 1 (1 + 0) = _
    rw [add_zero]
    unfold Ideal.div
    rw [if_neg one_ne_zero, one_mul, ← EReal.coe_one, ← EReal.coe_inv, inv_one]
  | coe x => rw [logistic_real, lgs_real]

/-- The two forms of silu's derivative, times a real number. -/
theorem first_eq (s : ℝ) (a : EReal) : (s : EReal) * lgs a + a * (s : EReal) * (lgs a * (1 - lgs a)) = (s : EReal) * (lgs a * (1 + a * (1 - lgs a))) := by
  induction a with
  | bot => simp [lgs_bot]
  | top =>
    rw [lgs_top, EReal.coe_one, show (1 : EReal) - 1 = 0 by rw [← EReal.coe_one, ← EReal.coe_sub, sub_self, EReal.coe_zero]]
    simp
  | coe x =>
    rw [lgs_real]
    norm_cast
    ring

open Cert.OutDxRefIdeal.Value in
theorem ref_at (dz : Dz) (w : W) (ab : Ab) (h1 : ∀ i, IsReal (dz i)) (h2 : ∀ i, IsReal (w i)) (h3 : ∀ j r c, IsReal (ab (ix4 1 j r c))) (h j : Fin 2) (r : Fin 4096) (c : Fin 1408) :
    grad (fa ab) (fb ab) (ct dz w) (sg (fa ab)) (ix4 h j r c) = dab dz w ab h j r c := by
  obtain ⟨t, ht⟩ := isReal_dot Finset.univ (fun k : Fin 1024 => dz (ix2 r k)) (fun k => w (ix2 ⟨j.val * 1408 + c.val, by omega⟩ k)) (fun k => h1 _) (fun k => h2 _)
  obtain ⟨b, hb⟩ := h3 j r c
  obtain rfl | rfl : h = 0 ∨ h = 1 := by omega
  · rw [grad_first _ _ _ _ r j c ⟨j.val * 1408 + c.val, by omega⟩ rfl, sg_at, ct_at, fa_at, fb_at, dab, if_pos rfl, ht, hb, logistic_eq, dfirst, ← EReal.coe_mul]
    exact first_eq _ _
  · rw [grad_second _ _ _ _ r j c ⟨j.val * 1408 + c.val, by omega⟩ rfl, sg_at, ct_at, fa_at, dab, if_neg (by decide), logistic_eq, dsecond]
    rw [mul_comm, ← mul_assoc]

instance preFacts : Cert.Pre_finite_gate.Facts where
  bitsLt_bf16_f32 := by decide
  bcast_S_S4096x1024 := by decide
  reducesTo_S4096x1024_S_d0_1 := by decide
  h_S_ := by decide
  bcast_S_S2816x1024 := by decide
  reducesTo_S2816x1024_S_d0_1 := by decide
  slices_S2x2x4096x1408_S1x2x4096x1408_1_0_0_0 := by decide
  shapeCasts_S1x2x4096x1408_S2x4096x1408 := by decide
  bcast_S_S2x4096x1408 := by decide
  reducesTo_S2x4096x1408_S_d0_1_2 := by decide

/-- What the precondition says. -/
theorem finite (dz : Dz) (w : W) (ab : Ab) (h : Cert.Pre_finite_gate.fn (F := Ideal) dz w ab = fun _ => 1#1) :
    (∀ i, IsReal (dz i)) ∧ (∀ i, IsReal (w i)) ∧ (∀ j r c, IsReal (ab (ix4 1 j r c))) := by
  obtain ⟨h12, h3⟩ := and_bit _ _ (congrFun h ix0)
  obtain ⟨h1, h2⟩ := and_bit _ _ h12
  haveI : Subsingleton Cert.Pre_finite_gate.S_.Idx := ⟨fun a b => funext fun i => i.elim0⟩
  have g1 := fun i => Host.reduce_andi_all _ _ _ _ _ h1 i
  have g2 := fun i => Host.reduce_andi_all _ _ _ _ _ h2 i
  refine ⟨fun i => real_of_abs _ (g1 i), fun i => real_of_abs _ (g2 i), fun j r c => ?_⟩
  have g3 := real_of_abs _ (Host.reduce_andi_all _ _ _ _ _ h3 (ix3 j r c))
  have e : shapeCast Cert.Pre_finite_gate.S2x4096x1408 (extractStridedSlice Cert.Pre_finite_gate.S1x2x4096x1408 ![1, 0, 0, 0] ab preFacts.slices_S2x2x4096x1408_S1x2x4096x1408_1_0_0_0) preFacts.shapeCasts_S1x2x4096x1408_S2x4096x1408 (ix3 j r c) = ab (ix4 1 j r c) := by
    pointwise
  rw [← e]
  exact g3

/-- The reference runs and keeps its arguments. -/
theorem frameR : quiescent_OutDxRefIdeal := by
  intro m ρ _
  exact (θ_run Cert.OutDxRefIdeal.defs _ _).mono (fun r h => ⟨fun c => (h c).2, sem_eq_zero_of_no_sems (by decide) r.2⟩) (Cert.OutDxRefIdeal.Value.run m ρ)

/-- Where all is finite the kernel's gradient is the reference's. -/
theorem algebraic : algebraic_OutDxIdeal_OutDxRefIdeal_pre_finite_gate := fun m ρ m' ρ' hpre hag =>
  ⟨_,
    (θ_run _ _ _).mono (fun _ h c => ⟨(h c).1.trans (Cert.OutDxIdeal.Value.final m c), (h c).2⟩)
      (Cert.OutDxIdeal.Value.run_blocks m ρ),
    (θ_run _ _ _).mono (fun _ h c => by
        obtain ⟨f1, f2, f3⟩ := finite _ _ _ (hpre c)
        refine ⟨(h c).1.trans ((Cert.OutDxRefIdeal.Value.out0_eq m' c).trans ?_), (h c).2⟩
        rw [(hag c).1, (hag c).2.1, (hag c).2.2]
        funext y
        idx_vars y
        exact ref_at _ _ _ f1 f2 f3 y0 y1 y2 y3)
      (Cert.OutDxRefIdeal.Value.run m' ρ')⟩

end Cert.OutDx.Claims
-- ==== Proof.InDwProof.lean ====
module

public import proofs.«01_k».proof.Proof.Gen.InDwIdeal.Value
public import proofs.«01_k».proof.Proof.Gen.InDwRefIdeal.Run
public import proofs.«01_k».proof.Defs
public import Idealize.ShloMosaic.Lib.Pointwise
public import Idealize.ShloMosaic.Lib.Pipeline.ValueKit
public import Idealize.ShloMosaic.Adequacy

@[expose] public section

set_option maxRecDepth 16384

noncomputable section

namespace Cert.InDwIdeal.Value

open Cert.InDwIdeal Cert.InDwIdeal.Gen Idealize.ShloMosaic Idealize.ShloMosaic.TcCoe Idealize.SL.Sem
open Idealize.ShloMosaic.Pipeline

/-! The gradient of the feed-forward network's first weight: a sum over the 4096 rows, block by block. -/

/-- The gradient at block `q`, row `r` and column `c`. -/
def dw (u : FVec Ideal S4096x1024 .bf16) (d : FVec Ideal S4x4096x1408 .bf16) (q : Fin 4) (r : Fin 1024) (c : Fin 1408) : EReal :=
  ∑ k : Fin 4096, u (ix2 k r) * d (ix3 q k c)

theorem idx : ∀ t : Fin cfg0.N, win0_0.index t = ![0, t.val / 4] ∧ win0_1.index t = ![t.val % 4, 0, 0] ∧ win0_2.index t = ![t.val % 4, t.val / 4, 0] :=
  (by decide +kernel : ∀ t : Fin grid0.N, _)

theorem pay1_at (u : FVec Ideal S4096x512 .bf16) (d : FVec Ideal S1x4096x1408 .bf16) (r : Fin 512) (c : Fin 1408) :
    k0_pay1 (F := Ideal) u d (ix3 0 r c) = ∑ k : Fin 4096, u (ix2 k r) * d (ix3 0 k c) := by
  pointwise [k0_pay1]

variable (m : (ℓ : Loc nD τ sig) → Buf (Elt Ideal) ℓ)

theorem row_lt (t : Fin cfg0.N) (r : Fin 512) : t.val / 4 * 512 + r.val < 1024 := by
  have := lt_of_lt_of_eq t.isLt N_0; omega

theorem blk0 (c : Dev nD) (t : Fin cfg0.N) (k : Fin 4096) (r : Fin 512) :
    (show FVec Ideal S4096x512 .bf16 from iblk m c 0 t) (ix2 k r) = m ((c : Thread nD τ).loc main_arg0) (ix2 k ⟨t.val / 4 * 512 + r.val, row_lt t r⟩) := by
  blk_point [iblk, V, idx t]

theorem blk1 (c : Dev nD) (t : Fin cfg0.N) (k : Fin 4096) (j : Fin 1408) :
    (show FVec Ideal S1x4096x1408 .bf16 from iblk m c 1 t) (ix3 0 k j)
      = m ((c : Thread nD τ).loc main_arg1) (ix3 ⟨t.val % 4, by omega⟩ k j) := by
  blk_point [iblk, V, idx t]

theorem out_at (c : Dev nD) (t : Fin cfg0.N) (r : Fin 512) (j : Fin 1408) :
    out0_2 (F := Ideal) (iblk m c 0 t) (iblk m c 1 t) (ix3 0 r j)
      = dw (m ((c : Thread nD τ).loc main_arg0)) (m ((c : Thread nD τ).loc main_arg1)) ⟨t.val % 4, by omega⟩ ⟨t.val / 4 * 512 + r.val, row_lt t r⟩ j := by
  have e0 := blk0 m c t
  have e1 := blk1 m c t
  frame_out
  generalize iblk m c 0 t = x0 at e0 ⊢
  generalize iblk m c 1 t = x1 at e1 ⊢
  rw [pay1_at]
  exact Finset.sum_congr rfl fun k _ => by rw [← e0, ← e1]

/-- The array the kernel leaves. -/
theorem final (c : Dev nD) : (dats m 0 c).arrAt 2 cfg0.N = fun y : S4x1024x1408.Idx =>
    dw (m ((c : Thread nD τ).loc main_arg0)) (m ((c : Thread nD τ).loc main_arg1)) (y 0) (y 1) (y 2) := by
  refine (dats m 0 c).arrAt_eq_of_covers 2 _ (by decide +kernel) fun t hf y => ?_
  blk_simp
  rw [after0_2]
  idx_vars y
  have h0 : (win0_2.blk t).view.emb (ix3 y0 y1 y2) 0 = (⟨t.val % 4, by omega⟩ : Fin 4) := by
    apply Fin.ext; blk_simp [idx t]
  have h1 : (win0_2.blk t).view.emb (ix3 y0 y1 y2) 1 = (⟨t.val / 4 * 512 + y1.val, row_lt t y1⟩ : Fin 1024) := by
    apply Fin.ext; blk_simp [idx t]
  have h2 : (win0_2.blk t).view.emb (ix3 y0 y1 y2) 2 = (y2 : Fin 1408) := by
    apply Fin.ext; blk_simp [idx t]
  rw [h0, h1, h2]
  obtain rfl : y0 = 0 := by omega
  exact out_at m c t y1 y2

end Cert.InDwIdeal.Value

namespace Cert.InDwRefIdeal.Value

open Cert.InDwRefIdeal Cert.InDwRefIdeal.Gen Idealize.ShloMosaic Idealize.ShloMosaic.TcCoe Idealize.SL.Sem

/-- The reference's result is the same sum. -/
theorem ref_at (u : FVec Ideal S4096x1024 .bf16) (d : FVec Ideal S4x4096x1408 .bf16) (q : Fin 4) (r : Fin 1024) (c : Fin 1408) :
    truncf (F := Ideal) .bf16 (transpose S4x1024x1408 [1, 0, 2] (shapeCast _ (transpose S1024x5632 [1, 0] (Host.dotGeneral dot_S4096x5632_S4096x1024_S5632x1024_0_0_1_1_n_n none (shapeCast _ (transpose S4096x4x1408 [1, 0, 2] (extf .f32 d bitsLt_bf16_f32) transposes_S4x4096x1408_S4096x4x1408_1_0_2) shapeCasts_S4096x4x1408_S4096x5632) (extf .f32 u bitsLt_bf16_f32)) transposes_S5632x1024_S1024x5632_1_0) shapeCasts_S1024x5632_S1024x4x1408) transposes_S1024x4x1408_S4x1024x1408_1_0_2) bitsLt_bf16_f32 (ix3 q r c)
      = Cert.InDwIdeal.Value.dw u d q r c := by
  pointwise []
  exact Finset.sum_congr rfl fun k _ => mul_comm _ _

end Cert.InDwRefIdeal.Value

namespace Cert.InDw.Claims

open Idealize.ShloMosaic Idealize.SL.Sem

/-- The reference runs and keeps its arguments. -/
theorem frameR : quiescent_InDwRefIdeal := by
  intro m ρ _
  exact (θ_run Cert.InDwRefIdeal.defs _ _).mono (fun r h => ⟨fun c => (h c).2, sem_eq_zero_of_no_sems (by decide) r.2⟩) (Cert.InDwRefIdeal.Value.run m ρ)

/-- The kernel's gradient is the reference's. -/
theorem algebraic : algebraic_InDwIdeal_InDwRefIdeal := fun m ρ m' ρ' _ hag =>
  ⟨_,
    (θ_run _ _ _).mono (fun _ h c => ⟨(h c).1.trans (Cert.InDwIdeal.Value.final m c), (h c).2⟩)
      (Cert.InDwIdeal.Value.run_blocks m ρ),
    (θ_run _ _ _).mono (fun _ h c => by
        refine ⟨(h c).1.trans ?_, (h c).2⟩
        rw [(hag c).1, (hag c).2]
        funext y
        idx_vars y
        exact Cert.InDwRefIdeal.Value.ref_at _ _ y0 y1 y2)
      (Cert.InDwRefIdeal.Value.run m' ρ')⟩

end Cert.InDw.Claims
-- ==== Proof.Norm.lean ====
module

public import proofs.«01_k».proof.Proof.Reals

@[expose] public section

set_option maxRecDepth 16384

noncomputable section

namespace Cert.Norm

open Idealize.ShloMosaic Cert.Reals

/-! The gradient of the root mean square norm at one row: as the kernel writes it and as the reference does. -/

/-- The mean square, and the small constant. -/
def ms (x : Fin 1024 → EReal) : EReal := Ideal.div (∑ k, x k * x k) (Ideal.ofBits .f32 0x44800000#32) + Ideal.ofBits .f32 0x358637BD#32
/-- The reciprocal of the root mean square. -/
def rn (x : Fin 1024 → EReal) : EReal := Ideal.rsqrt (ms x)
/-- The kernel's gradient of the row, from the gradient `D` of the normed row. -/
def kgrad (x D : Fin 1024 → EReal) (c : Fin 1024) : EReal :=
  rn x * (D c - x c * rn x * Ideal.div (∑ k, D k * (x k * rn x)) (Ideal.ofBits .f32 0x44800000#32))
/-- The reference's gradient of the mean. -/
def rmean (x D : Fin 1024 → EReal) : EReal :=
  Ideal.div ((∑ k, x k * D k) * (Ideal.ofBits .f32 0xBF000000#32 * Ideal.div (rn x) (ms x))) (Ideal.ofBits .f32 0x44800000#32)

theorem ofBits_1024 : Ideal.ofBits .f32 0x44800000#32 = ((1024 : ℝ) : EReal) := by
  simp [Ideal.ofBits, Ideal.ieee]
  rw [← EReal.coe_mul]
  norm_num
theorem ofBits_neg_half : Ideal.ofBits .f32 0xBF000000#32 = ((-(1 / 2) : ℝ) : EReal) := by
  simp [Ideal.ofBits, Ideal.ieee]
  rw [← EReal.coe_mul]
  norm_num
theorem ofBits_eps : ∃ e : ℝ, 0 < e ∧ Ideal.ofBits .f32 0x358637BD#32 = (e : EReal) := by
  simp [Ideal.ofBits, Ideal.ieee]
  refine ⟨_, ?_, (EReal.coe_mul _ _).symm⟩
  norm_num

theorem div_real (a b : ℝ) (hb : b ≠ 0) : Ideal.div (a : EReal) (b : EReal) = ((a * b⁻¹ : ℝ) : EReal) := by
  unfold Ideal.div
  rw [if_neg (by exact_mod_cast hb), ← EReal.coe_inv, ← EReal.coe_mul]

theorem rsqrt_real (a : ℝ) (ha : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg (not_lt.mpr ha.le), if_neg ha.ne']

/-- On a real row the mean square is a positive real. -/
theorem ms_real (X : Fin 1024 → ℝ) : ∃ s : ℝ, 0 < s ∧ ms (fun k => (X k : EReal)) = (s : EReal) := by
  obtain ⟨e, he, hE⟩ := ofBits_eps
  refine ⟨(∑ k, X k * X k) * (1024 : ℝ)⁻¹ + e, ?_, ?_⟩
  · have : 0 ≤ ∑ k, X k * X k := Finset.sum_nonneg fun k _ => mul_self_nonneg _
    positivity
  · rw [ms, hE, ofBits_1024]
    simp only [← EReal.coe_mul]
    rw [← coe_sum, div_real _ _ (by norm_num), ← EReal.coe_add]

/-- Where an entry is infinite the mean square is, and its reciprocal root is zero. -/
theorem ms_top (x : Fin 1024 → EReal) (k : Fin 1024) (hk : x k * x k = ⊤) : ms x = ⊤ := by
  obtain ⟨e, he, hE⟩ := ofBits_eps
  have h0 : ∀ j ∈ Finset.univ, (0 : EReal) ≤ x j * x j := fun j _ => by
    induction x j with
    | bot => rw [EReal.bot_mul_bot]; exact le_top
    | top => rw [EReal.top_mul_top]; exact le_top
    | coe a => exact_mod_cast mul_self_nonneg a
  have h : (∑ j, x j * x j) = ⊤ := top_le_iff.mp (hk ▸ Finset.single_le_sum h0 (Finset.mem_univ k))
  rw [ms, h, hE, ofBits_1024]
  unfold Ideal.div
  rw [if_neg (by norm_num), ← EReal.coe_inv, EReal.top_mul_coe_of_pos (by norm_num), EReal.top_add_coe]

/-- A finite nonnegative factor comes out of a sum. -/
theorem sum_mul_real {ι : Type*} (t : Finset ι) (f : ι → EReal) (r : ℝ) (hr : 0 ≤ r) : (∑ i ∈ t, f i) * (r : EReal) = ∑ i ∈ t, f i * (r : EReal) := by
  classical
  induction t using Finset.induction_on with
  | empty => simp
  | insert i t hi ih =>
    rw [Finset.sum_insert hi, Finset.sum_insert hi, ← ih]
    exact EReal.right_distrib_of_nonneg_of_ne_top (by exact_mod_cast hr) (EReal.coe_ne_top r) _ _

/-- Twice a real factor is the factor twice. -/
theorem mul_twice (S : EReal) (a : ℝ) : S * ((a + a : ℝ) : EReal) = S * (a : EReal) + S * (a : EReal) := by
  rcases le_total 0 a with h | h
  · rw [EReal.coe_add]
    exact EReal.left_distrib_of_nonneg (by exact_mod_cast h) (by exact_mod_cast h)
  · have e : ∀ b : ℝ, S * (b : EReal) = -(S * ((-b : ℝ) : EReal)) := fun b => by rw [EReal.coe_neg, mul_neg, neg_neg]
    have h' : 0 ≤ -a := by linarith
    rw [e (a + a), e a, show -(a + a) = -a + -a by ring, EReal.coe_add, EReal.left_distrib_of_nonneg (by exact_mod_cast h') (by exact_mod_cast h')]
    generalize hb : -a = b at h'
    rcases h'.lt_or_eq with hp | hp
    · induction S with
      | bot => rw [EReal.bot_mul_coe_of_pos hp]; rfl
      | top => rw [EReal.top_mul_coe_of_pos hp]; rfl
      | coe S => rw [← EReal.coe_mul, ← EReal.coe_add, ← EReal.coe_neg, ← EReal.coe_neg, ← EReal.coe_add]; congr 1; ring
    · subst hp
      simp

/-- The reference's three terms, over a residual's gradient, are the kernel's gradient and the residual's. -/
theorem ref_res_eq (x D : Fin 1024 → EReal) (res : EReal) (c : Fin 1024) :
    res + D c * rn x + x c * rmean x D + rmean x D * x c = kgrad x D c + res := by
  by_cases hinf : ∃ k, x k * x k = ⊤
  · obtain ⟨k, hk⟩ := hinf
    have hm := ms_top x k hk
    have hr : rn x = 0 := by rw [rn, hm]; rfl
    have hT : rmean x D = 0 := by
      rw [rmean, hr, hm, ofBits_1024]
      unfold Ideal.div
      rw [if_neg (by simp), if_neg (by norm_num)]
      simp
    rw [kgrad, hT, hr]
    simp
  · have hx : ∀ k, IsReal (x k) := fun k => by
      by_contra hc
      refine hinf ⟨k, ?_⟩
      induction h : x k with
      | bot => exact EReal.bot_mul_bot
      | top => exact EReal.top_mul_top
      | coe a => exact absurd ⟨a, h⟩ hc
    choose X hX using hx
    obtain rfl : x = fun k => (X k : EReal) := funext hX
    obtain ⟨s, hs, hms⟩ := ms_real X
    have hq := Real.sq_sqrt hs.le
    have hq0 : 0 < Real.sqrt s := Real.sqrt_pos.mpr hs
    have hr : rn (fun k => (X k : EReal)) = (((Real.sqrt s)⁻¹ : ℝ) : EReal) := by rw [rn, hms, rsqrt_real s hs]
    generalize Real.sqrt s = q at hq hq0 hr
    subst hq
    have hi : (0 : ℝ) ≤ q⁻¹ := by positivity
    have hS : ∑ k, D k * ((X k : EReal) * ((q⁻¹ : ℝ) : EReal)) = (∑ k, (X k : EReal) * D k) * ((q⁻¹ : ℝ) : EReal) := by
      rw [sum_mul_real _ _ _ hi]
      exact Finset.sum_congr rfl fun k _ => by rw [← mul_assoc, mul_comm (D k)]
    have h0 : (1024 : ℝ) ≠ 0 := by norm_num
    have hd : ∀ z : EReal, Ideal.div z ((1024 : ℝ) : EReal) = z * (((1024 : ℝ)⁻¹ : ℝ) : EReal) := fun z => by
      unfold Ideal.div
      rw [if_neg (by norm_num), ← EReal.coe_inv]
    have hT : rmean (fun k => (X k : EReal)) D = (∑ k, (X k : EReal) * D k) * ((-(1 / 2) * (q⁻¹ * (q ^ 2)⁻¹) * (1024 : ℝ)⁻¹ : ℝ) : EReal) := by
      rw [rmean, hr, hms, ofBits_1024, ofBits_neg_half, div_real _ _ (by positivity), hd, ← EReal.coe_mul, mul_assoc, ← EReal.coe_mul]
    rw [kgrad, hr, hS, hT, ofBits_1024, hd]
    beta_reduce
    generalize (∑ k, (X k : EReal) * D k) = S
    generalize D c = d
    generalize X c = y
    have hA : (y : EReal) * (S * ((-(1 / 2) * (q⁻¹ * (q ^ 2)⁻¹) * (1024 : ℝ)⁻¹ : ℝ) : EReal)) = S * ((y * (-(1 / 2) * (q⁻¹ * (q ^ 2)⁻¹) * (1024 : ℝ)⁻¹) : ℝ) : EReal) := by
      rw [mul_left_comm, ← EReal.coe_mul]
    have hB : (y : EReal) * ((q⁻¹ : ℝ) : EReal) * (S * ((q⁻¹ : ℝ) : EReal) * (((1024 : ℝ)⁻¹ : ℝ) : EReal)) = S * ((y * q⁻¹ * (q⁻¹ * (1024 : ℝ)⁻¹) : ℝ) : EReal) := by
      rw [mul_assoc S, ← EReal.coe_mul, ← EReal.coe_mul, mul_left_comm, ← EReal.coe_mul]
    rw [mul_comm (S * _) (y : EReal), hA, hB, sub_eq_add_neg, EReal.left_distrib_of_nonneg_of_ne_top (by exact_mod_cast hi) (EReal.coe_ne_top _),
      add_assoc, ← mul_twice, add_comm _ res, mul_comm d, ← add_assoc]
    congr 1
    rw [mul_neg, mul_left_comm ((q⁻¹ : ℝ) : EReal) S, ← EReal.coe_mul, ← mul_neg, ← EReal.coe_neg]
    congr 2
    field_simp
    ring

/-- The same without a residual. -/
theorem ref_eq (x D : Fin 1024 → EReal) (c : Fin 1024) : D c * rn x + x c * rmean x D + rmean x D * x c = kgrad x D c := by
  have h := ref_res_eq x D 0 c
  rwa [zero_add, add_zero] at h

end Cert.Norm
-- ==== Proof.InDx1Kernel.lean ====
module

public import proofs.«01_k».proof.Proof.Gen.InDx1Ideal.Value
public import proofs.«01_k».proof.Proof.Gen.InDx1RefIdeal.Run
public import proofs.«01_k».proof.Defs
public import Idealize.ShloMosaic.Lib.Pointwise
public import Idealize.ShloMosaic.Lib.Pipeline.ValueKit
public import Idealize.ShloMosaic.Lib.Pipeline.ReadBack
public import Idealize.ShloMosaic.Adequacy
public import proofs.«01_k».proof.Proof.Norm

@[expose] public section

set_option maxRecDepth 16384

noncomputable section

namespace Cert.InDx1Ideal.Value

open Cert.InDx1Ideal Cert.InDx1Ideal.Gen Idealize.ShloMosaic Idealize.ShloMosaic.TcCoe Idealize.SL.Sem
open Idealize.ShloMosaic.Pipeline Cert.Norm

/-! What the body stores, at an index. -/

/-- The sum over the four column blocks. -/
def four (v0 v1 v2 v3 : FVec Ideal S1x256x1408 .bf16) (w0 w1 w2 w3 : FVec Ideal S1024x1408 .bf16) (r : Fin 256) (c : Fin 1024) : EReal :=
  (∑ k : Fin 1408, v0 (ix3 0 r k) * w0 (ix2 c k)) + (∑ k : Fin 1408, v1 (ix3 0 r k) * w1 (ix2 c k)) + (∑ k : Fin 1408, v2 (ix3 0 r k) * w2 (ix2 c k)) + (∑ k : Fin 1408, v3 (ix3 0 r k) * w3 (ix2 c k))

theorem dy0_at (v0 v1 v2 v3 : FVec Ideal S1x256x1408 .bf16) (w0 w1 w2 w3 : FVec Ideal S1024x1408 .bf16) (r : Fin 256) (c : Fin 1024) : k0_pay3 (F := Ideal) v0 w0 v1 w1 v2 w2 v3 w3 (ix2 r c) = four v0 v1 v2 v3 w0 w1 w2 w3 r c := by
  pointwise [k0_pay3]; rfl
theorem dy1_at (v0 v1 v2 v3 : FVec Ideal S1x256x1408 .bf16) (w0 w1 w2 w3 : FVec Ideal S1024x1408 .bf16) (r : Fin 256) (c : Fin 1024) : k0_pay11 (F := Ideal) (k0_pay9 (F := Ideal) v0 w0) (k0_pay10 (F := Ideal) v1) w1 v2 w2 v3 w3 (ix2 r c) = four v0 v1 v2 v3 w0 w1 w2 w3 r c := by
  pointwise [k0_pay11, k0_pay9, k0_pay10]; rfl
theorem dx0_at (d x res : FVec Ideal S256x1024 .f32) (g : FVec Ideal S1x1024 .f32) (r : Fin 256) (c : Fin 1024) :
    k0_pay8 (F := Ideal) d x (k0_pay4 (F := Ideal) x) g res (ix2 r c) = kgrad (fun k => x (ix2 r k)) (fun k => d (ix2 r k) * g (ix2 0 k)) c + res (ix2 r c) := by
  pointwise [k0_pay8, k0_pay4, k0_pay5, k0_pay6]; rfl
theorem dx1_at (v0 v1 v2 v3 : FVec Ideal S1x256x1408 .bf16) (w0 w1 w2 w3 : FVec Ideal S1024x1408 .bf16) (x res : FVec Ideal S256x1024 .f32) (g : FVec Ideal S1x1024 .f32) (r : Fin 256) (c : Fin 1024) :
    k0_pay1 (F := Ideal) (k0_pay11 (F := Ideal) (k0_pay9 (F := Ideal) v0 w0) (k0_pay10 (F := Ideal) v1) w1 v2 w2 v3 w3) (k0_pay12 (F := Ideal) x) (k0_pay13 (F := Ideal) x) (k0_pay15 (F := Ideal) g) res (ix2 r c) = kgrad (fun k => x (ix2 r k)) (fun k => k0_pay11 (F := Ideal) (k0_pay9 (F := Ideal) v0 w0) (k0_pay10 (F := Ideal) v1) w1 v2 w2 v3 w3 (ix2 r k) * g (ix2 0 k)) c + res (ix2 r c) := by
  pointwise [k0_pay1, k0_pay12, k0_pay13, k0_pay15]; rfl
theorem dg0_at (d x : FVec Ideal S256x1024 .f32) (acc : FVec Ideal S1x1024 .f32) (c : Fin 1024) :
    k0_pay7 (F := Ideal) d x (k0_pay4 (F := Ideal) x) acc (ix2 0 c) = acc (ix2 0 c) + ∑ r : Fin 256, d (ix2 r c) * (x (ix2 r c) * rn (fun k => x (ix2 r k))) := by
  pointwise [k0_pay7, k0_pay4, k0_pay5, k0_pay6]; rfl
theorem dg1_at (v0 v1 v2 v3 : FVec Ideal S1x256x1408 .bf16) (w0 w1 w2 w3 : FVec Ideal S1024x1408 .bf16) (x : FVec Ideal S256x1024 .f32) (acc : FVec Ideal S1x1024 .f32) (c : Fin 1024) :
    k0_pay14 (F := Ideal) (k0_pay9 (F := Ideal) v0 w0) (k0_pay10 (F := Ideal) v1) w1 v2 w2 v3 w3 x acc (ix2 0 c) = acc (ix2 0 c) + ∑ r : Fin 256, k0_pay11 (F := Ideal) (k0_pay9 (F := Ideal) v0 w0) (k0_pay10 (F := Ideal) v1) w1 v2 w2 v3 w3 (ix2 r c) * (x (ix2 r c) * rn (fun k => x (ix2 r k))) := by
  pointwise [k0_pay14, k0_pay13, k0_pay12]; rfl
theorem zero_at (c : Fin 1024) : k0_pay2 (F := Ideal) (ix2 0 c) = 0 := by pointwise [k0_pay2]

/-! A block's rows. -/

/-- The gradient of the normed input at a row. -/
def bdy (x0 : FVec Ideal S4x512x1408 .bf16) (x1 : FVec Ideal S1024x5632 .bf16) (r : Fin 512) (c : Fin 1024) : EReal :=
  ∑ q : Fin 4, ∑ k : Fin 1408, x0 (ix3 q r k) * x1 (ix2 c ⟨q.val * 1408 + k.val, by omega⟩)
/-- The gradient of the input. -/
def bdx (x0 : FVec Ideal S4x512x1408 .bf16) (x1 : FVec Ideal S1024x5632 .bf16) (x2 : FVec Ideal S512x1024 .f32) (x3 : FVec Ideal S1x1024 .f32) (x4 : FVec Ideal S512x1024 .f32) (r : Fin 512) (c : Fin 1024) : EReal :=
  kgrad (fun k => x2 (ix2 r k)) (fun k => bdy x0 x1 r k * x3 (ix2 0 k)) c + x4 (ix2 r c)
/-- What a row adds to the gain's gradient. -/
def bdg (x0 : FVec Ideal S4x512x1408 .bf16) (x1 : FVec Ideal S1024x5632 .bf16) (x2 : FVec Ideal S512x1024 .f32) (r : Fin 512) (c : Fin 1024) : EReal :=
  bdy x0 x1 r c * (x2 (ix2 r c) * rn (fun k => x2 (ix2 r k)))

section rows
variable (x0 : FVec Ideal S4x512x1408 .bf16) (x1 : FVec Ideal S1024x5632 .bf16) (x2 : FVec Ideal S512x1024 .f32) (x3 : FVec Ideal S1x1024 .f32) (x4 : FVec Ideal S512x1024 .f32)
  (s : Fin 2) (d x res : FVec Ideal S256x1024 .f32) (g : FVec Ideal S1x1024 .f32)

theorem four_eq (v0 v1 v2 v3 : FVec Ideal S1x256x1408 .bf16) (w0 w1 w2 w3 : FVec Ideal S1024x1408 .bf16)
    (hv0 : ∀ r k, v0 (ix3 0 r k) = x0 (ix3 0 ⟨s.val * 256 + r.val, by omega⟩ k)) (hw0 : ∀ r k, w0 (ix2 r k) = x1 (ix2 r ⟨0 * 1408 + k.val, by omega⟩))
    (hv1 : ∀ r k, v1 (ix3 0 r k) = x0 (ix3 1 ⟨s.val * 256 + r.val, by omega⟩ k)) (hw1 : ∀ r k, w1 (ix2 r k) = x1 (ix2 r ⟨1 * 1408 + k.val, by omega⟩))
    (hv2 : ∀ r k, v2 (ix3 0 r k) = x0 (ix3 2 ⟨s.val * 256 + r.val, by omega⟩ k)) (hw2 : ∀ r k, w2 (ix2 r k) = x1 (ix2 r ⟨2 * 1408 + k.val, by omega⟩))
    (hv3 : ∀ r k, v3 (ix3 0 r k) = x0 (ix3 3 ⟨s.val * 256 + r.val, by omega⟩ k)) (hw3 : ∀ r k, w3 (ix2 r k) = x1 (ix2 r ⟨3 * 1408 + k.val, by omega⟩))
    (r : Fin 256) (c : Fin 1024) : four v0 v1 v2 v3 w0 w1 w2 w3 r c = bdy x0 x1 ⟨s.val * 256 + r.val, by omega⟩ c := by
  rw [bdy, Fin.sum_univ_four]
  simp only [four, hv0, hv1, hv2, hv3, hw0, hw1, hw2, hw3]
  rfl

/-- Half a block's rows of the input's gradient. -/
theorem half_dx (hd : ∀ r k, d (ix2 r k) = bdy x0 x1 ⟨s.val * 256 + r.val, by omega⟩ k)
    (hx : ∀ r k, x (ix2 r k) = x2 (ix2 ⟨s.val * 256 + r.val, by omega⟩ k)) (hg : ∀ k, g (ix2 0 k) = x3 (ix2 0 k))
    (hres : ∀ r k, res (ix2 r k) = x4 (ix2 ⟨s.val * 256 + r.val, by omega⟩ k)) (r : Fin 256) (c : Fin 1024) (R : Fin 512) (hR : R.val = s.val * 256 + r.val) :
    kgrad (fun k => x (ix2 r k)) (fun k => d (ix2 r k) * g (ix2 0 k)) c + res (ix2 r c) = bdx x0 x1 x2 x3 x4 R c := by
  have e : (⟨s.val * 256 + r.val, by omega⟩ : Fin 512) = R := Fin.ext hR.symm
  simp only [hd, hx, hg, hres, e, bdx]

/-- Half a block's part of the gain's gradient. -/
theorem half_dg (hd : ∀ r k, d (ix2 r k) = bdy x0 x1 ⟨s.val * 256 + r.val, by omega⟩ k)
    (hx : ∀ r k, x (ix2 r k) = x2 (ix2 ⟨s.val * 256 + r.val, by omega⟩ k)) (c : Fin 1024) :
    ∑ r : Fin 256, d (ix2 r c) * (x (ix2 r c) * rn (fun k => x (ix2 r k))) = ∑ r : Fin 256, bdg x0 x1 x2 ⟨s.val * 256 + r.val, by omega⟩ c := by
  simp only [hd, hx, bdg]

end rows

variable (m : (ℓ : Loc nD τ sig) → Buf (Elt Ideal) ℓ)

/-- Either case of the body writes the block of the input's gradient. -/
theorem dx_at (c : Dev nD) (t : Fin cfg0.N) (a : Fin 512) (b : Fin 1024) :
    (outsAt0 m c t.val t.isLt).1 (ix2 a b) = bdx (show FVec Ideal S4x512x1408 .bf16 from iblk m c 0 t) (show FVec Ideal S1024x5632 .bf16 from iblk m c 1 t) (show FVec Ideal S512x1024 .f32 from iblk m c 2 t) (show FVec Ideal S1x1024 .f32 from iblk m c 3 t) (show FVec Ideal S512x1024 .f32 from iblk m c 4 t) a b := by
  by_cases h0 : t.val % 8 = 0
  · rw [outsAt0_A m c t h0]
    frame_out
    generalize iblk m c 0 t = X0
    generalize iblk m c 1 t = X1
    generalize iblk m c 2 t = X2
    generalize iblk m c 3 t = X3
    generalize iblk m c 4 t = X4
    canon_tiles y hy
    all_goals (idx_vars y; obtain rfl := Fin.ext hy1)
    case piece0 =>
      exact (dx1_at _ _ _ _ _ _ _ _ _ _ _ _ _).trans (half_dx _ _ _ _ _ 1 _ _ _ _ (fun r k => (dy1_at _ _ _ _ _ _ _ _ r k).trans (four_eq _ _ 1 _ _ _ _ _ _ _ _ (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) r k)) (by intro r k; pointwise; blk_ext) (fun _ => rfl) (by intro r k; pointwise; blk_ext) _ _ _ (by simp at hy0 ⊢; omega))
    case piece1 =>
      exact (dx0_at _ _ _ _ _ _).trans (half_dx _ _ _ _ _ 0 _ _ _ _ (fun r k => (dy0_at _ _ _ _ _ _ _ _ r k).trans (four_eq _ _ 0 _ _ _ _ _ _ _ _ (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) r k)) (by intro r k; pointwise; blk_ext) (fun _ => rfl) (by intro r k; pointwise; blk_ext) _ _ _ (by simp at hy0 ⊢; omega))
  · rw [outsAt0_B m c t h0]
    frame_out
    generalize iblk m c 0 t = X0
    generalize iblk m c 1 t = X1
    generalize iblk m c 2 t = X2
    generalize iblk m c 3 t = X3
    generalize iblk m c 4 t = X4
    canon_tiles y hy
    all_goals (idx_vars y; obtain rfl := Fin.ext hy1)
    case piece0 =>
      exact (dx1_at _ _ _ _ _ _ _ _ _ _ _ _ _).trans (half_dx _ _ _ _ _ 1 _ _ _ _ (fun r k => (dy1_at _ _ _ _ _ _ _ _ r k).trans (four_eq _ _ 1 _ _ _ _ _ _ _ _ (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) r k)) (by intro r k; pointwise; blk_ext) (fun _ => rfl) (by intro r k; pointwise; blk_ext) _ _ _ (by simp at hy0 ⊢; omega))
    case piece1 =>
      exact (dx0_at _ _ _ _ _ _).trans (half_dx _ _ _ _ _ 0 _ _ _ _ (fun r k => (dy0_at _ _ _ _ _ _ _ _ r k).trans (four_eq _ _ 0 _ _ _ _ _ _ _ _ (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) r k)) (by intro r k; pointwise; blk_ext) (fun _ => rfl) (by intro r k; pointwise; blk_ext) _ _ _ (by simp at hy0 ⊢; omega))

/-- A later point's part of the gain's gradient, over what was there. -/
theorem dg_B (c : Dev nD) (t : Fin cfg0.N) (h0 : ¬ t.val % 8 = 0) (b : Fin 1024) :
    (outsAt0 m c t.val t.isLt).2 (ix2 0 b) = (outsAt0 m c (t.val - 1) (Nat.lt_of_le_of_lt (Nat.sub_le _ _) t.isLt)).2 (ix2 0 b) + (∑ s : Fin 2, ∑ r : Fin 256, bdg (show FVec Ideal S4x512x1408 .bf16 from iblk m c 0 t) (show FVec Ideal S1024x5632 .bf16 from iblk m c 1 t) (show FVec Ideal S512x1024 .f32 from iblk m c 2 t) ⟨s.val * 256 + r.val, by omega⟩ b) := by
  rw [outsAt0_B m c t h0]
  frame_open
  simp (disch := decide) only [↓ View.readCov_skip, ↓ View.readCov_cons_toLoadRect, ↓ View.readCov_fill]
  frame_out
  generalize iblk m c 0 t = X0
  generalize iblk m c 1 t = X1
  generalize iblk m c 2 t = X2
  generalize (outsAt0 m c (t.val - 1) (Nat.lt_of_le_of_lt (Nat.sub_le _ _) t.isLt)).2 = P
  rw [Fin.sum_univ_two, ← add_assoc]
  refine (dg1_at _ _ _ _ _ _ _ _ _ _ _).trans (congr (congrArg HAdd.hAdd ((dg0_at _ _ _ _).trans (congr (congrArg HAdd.hAdd rfl) ?_))) ?_)
  · exact half_dg _ _ _ 0 _ _ (fun r k => (dy0_at _ _ _ _ _ _ _ _ r k).trans (four_eq _ _ 0 _ _ _ _ _ _ _ _ (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) r k)) (by intro r k; pointwise; blk_ext) b
  · exact half_dg _ _ _ 1 _ _ (fun r k => (dy1_at _ _ _ _ _ _ _ _ r k).trans (four_eq _ _ 1 _ _ _ _ _ _ _ _ (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) r k)) (by intro r k; pointwise; blk_ext) b

/-- The first point's part of the gain's gradient. -/
theorem dg_A (c : Dev nD) (t : Fin cfg0.N) (h0 : t.val % 8 = 0) (b : Fin 1024) :
    (outsAt0 m c t.val t.isLt).2 (ix2 0 b) = 0 + (∑ s : Fin 2, ∑ r : Fin 256, bdg (show FVec Ideal S4x512x1408 .bf16 from iblk m c 0 t) (show FVec Ideal S1024x5632 .bf16 from iblk m c 1 t) (show FVec Ideal S512x1024 .f32 from iblk m c 2 t) ⟨s.val * 256 + r.val, by omega⟩ b) := by
  rw [outsAt0_A m c t h0]
  frame_open
  simp (disch := decide) only [↓ View.readCov_skip, ↓ View.readCov_cons_toLoadRect, ↓ View.readCov_fill]
  frame_out
  generalize iblk m c 0 t = X0
  generalize iblk m c 1 t = X1
  generalize iblk m c 2 t = X2
  rw [Fin.sum_univ_two, ← add_assoc]
  refine (dg1_at _ _ _ _ _ _ _ _ _ _ _).trans (congr (congrArg HAdd.hAdd ((dg0_at _ _ _ _).trans (congr (congrArg HAdd.hAdd (zero_at b)) ?_))) ?_)
  · exact half_dg _ _ _ 0 _ _ (fun r k => (dy0_at _ _ _ _ _ _ _ _ r k).trans (four_eq _ _ 0 _ _ _ _ _ _ _ _ (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) r k)) (by intro r k; pointwise; blk_ext) b
  · exact half_dg _ _ _ 1 _ _ (fun r k => (dy1_at _ _ _ _ _ _ _ _ r k).trans (four_eq _ _ 1 _ _ _ _ _ _ _ _ (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) r k)) (by intro r k; pointwise; blk_ext) b

end Cert.InDx1Ideal.Value
-- ==== Proof.InDx1Proof.lean ====
module

public import proofs.«01_k».proof.Proof.Gen.InDx1Ideal.Value
public import proofs.«01_k».proof.Proof.Gen.InDx1RefIdeal.Run
public import proofs.«01_k».proof.Defs
public import Idealize.ShloMosaic.Lib.Pointwise
public import Idealize.ShloMosaic.Lib.Pipeline.ValueKit
public import Idealize.ShloMosaic.Lib.Pipeline.ReadBack
public import Idealize.ShloMosaic.Adequacy
public import proofs.«01_k».proof.Proof.InDx1Kernel

@[expose] public section

set_option maxRecDepth 16384

noncomputable section

namespace Cert.InDx1Ideal.Value

open Cert.InDx1Ideal Cert.InDx1Ideal.Gen Idealize.ShloMosaic Idealize.ShloMosaic.TcCoe Idealize.SL.Sem
open Idealize.ShloMosaic.Pipeline Cert.Norm

/-! The arrays the kernel leaves, from its arguments. -/

/-- The gradient of the normed input at a row. -/
def gdy (x0 : FVec Ideal S4x4096x1408 .bf16) (x1 : FVec Ideal S1024x5632 .bf16) (r : Fin 4096) (c : Fin 1024) : EReal :=
  ∑ q : Fin 4, ∑ k : Fin 1408, x0 (ix3 q r k) * x1 (ix2 c ⟨q.val * 1408 + k.val, by omega⟩)
/-- The gradient of the input. -/
def gdx (x0 : FVec Ideal S4x4096x1408 .bf16) (x1 : FVec Ideal S1024x5632 .bf16) (x2 : FVec Ideal S4096x1024 .f32) (x3 : FVec Ideal S1x1024 .f32) (x4 : FVec Ideal S4096x1024 .f32) (r : Fin 4096) (c : Fin 1024) : EReal :=
  kgrad (fun k => x2 (ix2 r k)) (fun k => gdy x0 x1 r k * x3 (ix2 0 k)) c + x4 (ix2 r c)
/-- What a row adds to the gain's gradient. -/
def gdg (x0 : FVec Ideal S4x4096x1408 .bf16) (x1 : FVec Ideal S1024x5632 .bf16) (x2 : FVec Ideal S4096x1024 .f32) (r : Fin 4096) (c : Fin 1024) : EReal :=
  gdy x0 x1 r c * (x2 (ix2 r c) * rn (fun k => x2 (ix2 r k)))

theorem idx : ∀ t : Fin cfg0.N, win0_0.index t = ![0, t.val, 0] ∧ win0_1.index t = ![0, 0] ∧ win0_2.index t = ![t.val, 0] ∧ win0_3.index t = ![0, 0] ∧ win0_4.index t = ![t.val, 0] ∧ win0_5.index t = ![t.val, 0] ∧ win0_6.index t = ![0, 0] :=
  (by decide +kernel : ∀ t : Fin grid0.N, _)

theorem pt_lt (t : Fin cfg0.N) : t.val < 8 := lt_of_lt_of_eq t.isLt N_0

variable (m : (ℓ : Loc nD τ sig) → Buf (Elt Ideal) ℓ)

theorem blk0 (c : Dev nD) (t : Fin cfg0.N) (q : Fin 4) (r : Fin 512) (k : Fin 1408) :
    (show FVec Ideal S4x512x1408 .bf16 from iblk m c 0 t) (ix3 q r k) = m ((c : Thread nD τ).loc main_arg0) (ix3 q ⟨t.val * 512 + r.val, by have := pt_lt t; omega⟩ k) := by
  blk_point [iblk, V, idx t]
theorem blk1 (c : Dev nD) (t : Fin cfg0.N) (r : Fin 1024) (k : Fin 5632) :
    (show FVec Ideal S1024x5632 .bf16 from iblk m c 1 t) (ix2 r k) = m ((c : Thread nD τ).loc main_arg1) (ix2 r k) := by
  blk_point [iblk, V, idx t]
theorem blk2 (c : Dev nD) (t : Fin cfg0.N) (r : Fin 512) (k : Fin 1024) :
    (show FVec Ideal S512x1024 .f32 from iblk m c 2 t) (ix2 r k) = m ((c : Thread nD τ).loc main_arg2) (ix2 ⟨t.val * 512 + r.val, by have := pt_lt t; omega⟩ k) := by
  blk_point [iblk, V, idx t]
theorem blk3 (c : Dev nD) (t : Fin cfg0.N) (k : Fin 1024) :
    (show FVec Ideal S1x1024 .f32 from iblk m c 3 t) (ix2 0 k) = m ((c : Thread nD τ).loc main_arg3) (ix2 0 k) := by
  blk_point [iblk, V, idx t]
theorem blk4 (c : Dev nD) (t : Fin cfg0.N) (r : Fin 512) (k : Fin 1024) :
    (show FVec Ideal S512x1024 .f32 from iblk m c 4 t) (ix2 r k) = m ((c : Thread nD τ).loc main_arg4) (ix2 ⟨t.val * 512 + r.val, by have := pt_lt t; omega⟩ k) := by
  blk_point [iblk, V, idx t]

/-! A point's block holds its rows of the whole. -/
theorem bdy_eq (c : Dev nD) (t : Fin cfg0.N) (r : Fin 512) (k : Fin 1024) :
    bdy (show FVec Ideal S4x512x1408 .bf16 from iblk m c 0 t) (show FVec Ideal S1024x5632 .bf16 from iblk m c 1 t) r k = gdy (m ((c : Thread nD τ).loc main_arg0)) (m ((c : Thread nD τ).loc main_arg1)) ⟨t.val * 512 + r.val, by have := pt_lt t; omega⟩ k := by
  simp only [bdy, gdy, blk0, blk1]
theorem bdx_eq (c : Dev nD) (t : Fin cfg0.N) (r : Fin 512) (k : Fin 1024) :
    bdx (show FVec Ideal S4x512x1408 .bf16 from iblk m c 0 t) (show FVec Ideal S1024x5632 .bf16 from iblk m c 1 t) (show FVec Ideal S512x1024 .f32 from iblk m c 2 t) (show FVec Ideal S1x1024 .f32 from iblk m c 3 t) (show FVec Ideal S512x1024 .f32 from iblk m c 4 t) r k = gdx (m ((c : Thread nD τ).loc main_arg0)) (m ((c : Thread nD τ).loc main_arg1)) (m ((c : Thread nD τ).loc main_arg2)) (m ((c : Thread nD τ).loc main_arg3)) (m ((c : Thread nD τ).loc main_arg4)) ⟨t.val * 512 + r.val, by have := pt_lt t; omega⟩ k := by
  simp only [bdx, gdx, bdy_eq m c t, blk2, blk3, blk4]
theorem bdg_eq (c : Dev nD) (t : Fin cfg0.N) (r : Fin 512) (k : Fin 1024) :
    bdg (show FVec Ideal S4x512x1408 .bf16 from iblk m c 0 t) (show FVec Ideal S1024x5632 .bf16 from iblk m c 1 t) (show FVec Ideal S512x1024 .f32 from iblk m c 2 t) r k = gdg (m ((c : Thread nD τ).loc main_arg0)) (m ((c : Thread nD τ).loc main_arg1)) (m ((c : Thread nD τ).loc main_arg2)) ⟨t.val * 512 + r.val, by have := pt_lt t; omega⟩ k := by
  simp only [bdg, gdg, bdy_eq m c t, blk2]

/-- The array of the input's gradient. -/
theorem final_dx (c : Dev nD) : (dats m 0 c).arrAt 5 cfg0.N = fun y : S4096x1024.Idx => gdx (m ((c : Thread nD τ).loc main_arg0)) (m ((c : Thread nD τ).loc main_arg1)) (m ((c : Thread nD τ).loc main_arg2)) (m ((c : Thread nD τ).loc main_arg3)) (m ((c : Thread nD τ).loc main_arg4)) (y 0) (y 1) := by
  refine (dats m 0 c).arrAt_eq_of_covers 5 _ (by decide +kernel) fun t hf y => ?_
  blk_simp
  rw [after0_5]
  idx_vars y
  have h0 : (win0_5.blk t).view.emb (ix2 y0 y1) 0 = (⟨t.val * 512 + y0.val, by have := pt_lt t; omega⟩ : Fin 4096) := by
    apply Fin.ext; blk_simp [idx t]
  have h1 : (win0_5.blk t).view.emb (ix2 y0 y1) 1 = (y1 : Fin 1024) := by
    apply Fin.ext; blk_simp [idx t]
  rw [h0, h1]
  exact (dx_at m c t y0 y1).trans (bdx_eq m c t y0 y1)

/-- A point's part of the gain's gradient. -/
theorem dg_part (c : Dev nD) (t : Fin 8) (b : Fin 1024) (T : Fin cfg0.N) (hT : T.val = t.val) :
    (∑ s : Fin 2, ∑ r : Fin 256, bdg (show FVec Ideal S4x512x1408 .bf16 from iblk m c 0 T) (show FVec Ideal S1024x5632 .bf16 from iblk m c 1 T) (show FVec Ideal S512x1024 .f32 from iblk m c 2 T) ⟨s.val * 256 + r.val, by omega⟩ b)
      = ∑ r : Fin 512, gdg (m ((c : Thread nD τ).loc main_arg0)) (m ((c : Thread nD τ).loc main_arg1)) (m ((c : Thread nD τ).loc main_arg2)) ⟨t.val * 512 + r.val, by omega⟩ b := by
  refine Fin.sum_mul_add_congr fun s r hl => ?_
  rw [bdg_eq]
  exact congrArg (fun R => gdg (m ((c : Thread nD τ).loc main_arg0)) (m ((c : Thread nD τ).loc main_arg1)) (m ((c : Thread nD τ).loc main_arg2)) R b) (Fin.ext (by simp only [hT]))

/-- The array of the gain's gradient. -/
theorem final_dg (c : Dev nD) : (dats m 0 c).arrAt 6 cfg0.N = fun y : S1x1024.Idx => (show EReal from ∑ r : Fin 4096, gdg (m ((c : Thread nD τ).loc main_arg0)) (m ((c : Thread nD τ).loc main_arg1)) (m ((c : Thread nD τ).loc main_arg2)) r (y 1)) := by
  refine (dats m 0 c).arrAt_eq_of_after_last 6 t0_7 (by decide +kernel) _ fun j => ?_
  blk_simp
  idx_vars j
  obtain rfl : j0 = 0 := Subsingleton.elim _ _
  rw [after0_6]
  rw [Pipeline.eq_sum_fin_of_reset_step_apply_last (fun n h => (outsAt0 m c n h).2) 8 (fun _ => 0)
    (fun t j => ∑ s : Fin 2, ∑ r : Fin 256, bdg (show FVec Ideal S4x512x1408 .bf16 from iblk m c 0 t) (show FVec Ideal S1024x5632 .bf16 from iblk m c 1 t) (show FVec Ideal S512x1024 .f32 from iblk m c 2 t) ⟨s.val * 256 + r.val, by omega⟩ (j 1))
    (fun t h j => by idx_vars j; obtain rfl : j0 = 0 := Subsingleton.elim _ _; exact dg_A m c t h _)
    (fun t h j => by idx_vars j; obtain rfl : j0 = 0 := Subsingleton.elim _ _; exact dg_B m c t h _) (le_of_eq N_0) t0_7 rfl, zero_add]
  exact (Finset.sum_congr rfl fun p _ => dg_part m c p j1 _ rfl).trans (Fin.sum_mul_add_congr fun s k hl => rfl)

end Cert.InDx1Ideal.Value

namespace Cert.InDx1RefIdeal.Value

open Cert.InDx1RefIdeal Cert.InDx1RefIdeal.Gen Idealize.ShloMosaic Idealize.ShloMosaic.TcCoe Idealize.SL.Sem Cert.Norm

/-! The reference, cut at the values it reads more than once. -/

/-- The gradient of the normed input. -/
def rdy (dab : FVec Ideal S4x4096x1408 .bf16) (w : FVec Ideal S1024x5632 .bf16) : FVec Ideal S4096x1024 .f32 :=
  Host.dotGeneral dot_S4096x5632_S1024x5632_S4096x1024_1_1_0_0_n_n none (shapeCast _ (transpose S4096x4x1408 [1, 0, 2] (extf .f32 dab bitsLt_bf16_f32) transposes_S4x4096x1408_S4096x4x1408_1_0_2) shapeCasts_S4096x4x1408_S4096x5632) (extf .f32 w bitsLt_bf16_f32)
/-- The mean square of each row, and the small constant. -/
def msq (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
/-- A gain times each row. -/
def scaled (y : FVec Ideal S4096x1024 .f32) (g : FVec Ideal S1x1024 .f32) : FVec Ideal S4096x1024 .f32 := mulf y (broadcastInDim S4096x1024 ![0, 1] bcast_S1x1024_S4096x1024_0_1 g)
/-- The part of the gradient which goes through the mean. -/
def thru (x d : FVec Ideal S4096x1024 .f32) (r ms : FVec Ideal S4096x1 .f32) : FVec Ideal S4096x1024 .f32 :=
  broadcastInDim S4096x1024 ![0] bcast_S4096_S4096x1024_0 (Host.reduceAdd (Host.divf (mulf (shapeCast _ (Host.reduceAdd (mulf x d) (constant S_ .f32 0x00000000#32) reducesTo_S4096x1024_S4096_d1 h_S_) shapeCasts_S4096_S4096x1) (mulf (broadcastInDim S4096x1 ![] bcast_S_S4096x1 (constant S_ .f32 0xBF000000#32)) (Host.divf r ms))) (broadcastInDim S4096x1 ![] bcast_S_S4096x1 (constant S_ .f32 0x44800000#32))) (constant S_ .f32 0x00000000#32) reducesTo_S4096x1_S4096_d1 h_S_)
/-- The gradient of the norm's input, with what is added to it. -/
def back (res x d t : FVec Ideal S4096x1024 .f32) (r : FVec Ideal S4096x1 .f32) : FVec Ideal S4096x1024 .f32 :=
  addf (addf (addf res (mulf d (broadcastInDim S4096x1024 ![0, 1] bcast_S4096x1_S4096x1024_0_1 r))) (mulf x t)) (mulf t x)
/-- The gradient of the gain. -/
def gain (x y : FVec Ideal S4096x1024 .f32) (r : FVec Ideal S4096x1 .f32) : FVec Ideal S1x1024 .f32 :=
  shapeCast _ (Host.reduceAdd (mulf (mulf x (broadcastInDim S4096x1024 ![0, 1] bcast_S4096x1_S4096x1024_0_1 r)) y) (constant S_ .f32 0x00000000#32) reducesTo_S4096x1024_S1024_d0 h_S_) shapeCasts_S1024_S1x1024

/-- The gradient of the input, whole. -/
def rdx (dab : FVec Ideal S4x4096x1408 .bf16) (w : FVec Ideal S1024x5632 .bf16) (x : FVec Ideal S4096x1024 .f32) (g : FVec Ideal S1x1024 .f32) (dres : FVec Ideal S4096x1024 .f32) : FVec Ideal S4096x1024 .f32 :=
  back dres x (scaled (rdy dab w) g) (thru x (scaled (rdy dab w) g) (Host.rsqrt (msq x)) (msq x)) (Host.rsqrt (msq x))

variable (m : (ℓ : Loc nD τ sig) → Buf (Elt Ideal) ℓ)

theorem dx_eq (c : Dev nD) : res_main_v40 (F := Ideal) m c = rdx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold res_main_v40; rfl

theorem rdy_at (dab : FVec Ideal S4x4096x1408 .bf16) (w : FVec Ideal S1024x5632 .bf16) (r : Fin 4096) (c : Fin 1024) : rdy dab w (ix2 r c) = Cert.InDx1Ideal.Value.gdy dab w r c := by
  pointwise [rdy]
  refine (Fin.sum_mul_add_congr fun q k hl => ?_).symm
  first | rfl | (refine congrArg (fun z => z * _) ?_; refine congrArg dab ?_; blk_ext)
theorem msq_at (x : FVec Ideal S4096x1024 .f32) (r : Fin 4096) : msq x (ix2 r 0) = ms (fun k => x (ix2 r k)) := by
  pointwise [msq]; rfl
theorem rsq_at (x : FVec Ideal S4096x1024 .f32) (r : Fin 4096) : Host.rsqrt (F := Ideal) (msq x) (ix2 r 0) = rn (fun k => x (ix2 r k)) := by
  pointwise
  rw [msq_at]; rfl
theorem scaled_at (y : FVec Ideal S4096x1024 .f32) (g : FVec Ideal S1x1024 .f32) (r : Fin 4096) (c : Fin 1024) : scaled y g (ix2 r c) = y (ix2 r c) * g (ix2 0 c) := by
  pointwise [scaled]
theorem thru_at (x d : FVec Ideal S4096x1024 .f32) (r : Fin 4096) (c : Fin 1024) :
    thru x d (Host.rsqrt (msq x)) (msq x) (ix2 r c) = rmean (fun k => x (ix2 r k)) (fun k => d (ix2 r k)) := by
  pointwise [thru]
  refine (Fin.sum_univ_one _).trans ?_
  rw [msq_at]; rfl
theorem back_at (res x d t : FVec Ideal S4096x1024 .f32) (R : FVec Ideal S4096x1 .f32) (r : Fin 4096) (c : Fin 1024) :
    back res x d t R (ix2 r c) = res (ix2 r c) + d (ix2 r c) * R (ix2 r 0) + x (ix2 r c) * t (ix2 r c) + t (ix2 r c) * x (ix2 r c) := by
  pointwise [back]
theorem gain_at (x y : FVec Ideal S4096x1024 .f32) (R : FVec Ideal S4096x1 .f32) (c : Fin 1024) :
    gain x y R (ix2 0 c) = ∑ r : Fin 4096, x (ix2 r c) * R (ix2 r 0) * y (ix2 r c) := by
  pointwise [gain]
theorem rdx_at (dab : FVec Ideal S4x4096x1408 .bf16) (w : FVec Ideal S1024x5632 .bf16) (x : FVec Ideal S4096x1024 .f32) (g : FVec Ideal S1x1024 .f32) (dres : FVec Ideal S4096x1024 .f32) (r : Fin 4096) (c : Fin 1024) :
    rdx dab w x g dres (ix2 r c) = Cert.InDx1Ideal.Value.gdx dab w x g dres r c := by
  rw [rdx, back_at, rsq_at, thru_at]
  refine (ref_res_eq (fun k => x (ix2 r k)) (fun k => scaled (rdy dab w) g (ix2 r k)) _ c).trans ?_
  simp only [scaled_at, rdy_at]
  rfl
theorem dg_at (dab : FVec Ideal S4x4096x1408 .bf16) (w : FVec Ideal S1024x5632 .bf16) (x : FVec Ideal S4096x1024 .f32) (c : Fin 1024) :
    gain x (rdy dab w) (Host.rsqrt (msq x)) (ix2 0 c) = ∑ r : Fin 4096, Cert.InDx1Ideal.Value.gdg dab w x r c := by
  rw [gain_at]
  exact Finset.sum_congr rfl fun r _ => by rw [rsq_at, rdy_at, mul_comm]; rfl

end Cert.InDx1RefIdeal.Value

namespace Cert.InDx1.Claims

open Idealize.ShloMosaic Idealize.SL.Sem

/-- The reference runs and keeps its arguments. -/
theorem frameR : quiescent_InDx1RefIdeal := by
  intro m ρ _
  exact (θ_run Cert.InDx1RefIdeal.defs _ _).mono (fun r h => ⟨fun c => (h c).2.2, sem_eq_zero_of_no_sems (by decide) r.2⟩) (Cert.InDx1RefIdeal.Value.run m ρ)

/-- The kernel's gradients are the reference's. -/
theorem algebraic : algebraic_InDx1Ideal_InDx1RefIdeal := fun m ρ m' ρ' _ hag =>
  ⟨_, _,
    (θ_run _ _ _).mono (fun _ h c => ⟨(h c).1.trans (Cert.InDx1Ideal.Value.final_dx m c), (h c).2.1.trans (Cert.InDx1Ideal.Value.final_dg m c), (h c).2.2⟩)
      (Cert.InDx1Ideal.Value.run_blocks m ρ),
    (θ_run _ _ _).mono (fun _ h c => by
        refine ⟨?_, ?_, (h c).2.2⟩
        · refine (h c).1.trans ((Cert.InDx1RefIdeal.Value.dx_eq m' c).trans ?_)
          rw [(hag c).1, (hag c).2.1, (hag c).2.2.1, (hag c).2.2.2.1, (hag c).2.2.2.2]
          funext y
          idx_vars y
          exact Cert.InDx1RefIdeal.Value.rdx_at _ _ _ _ _ y0 y1
        · refine (h c).2.1.trans ?_
          show Cert.InDx1RefIdeal.Value.gain (m' ((c.tc : Thread Cert.InDx1RefIdeal.nD Cert.InDx1RefIdeal.τ).loc Cert.InDx1RefIdeal.main_arg2)) (Cert.InDx1RefIdeal.Value.rdy (m' ((c.tc : Thread Cert.InDx1RefIdeal.nD Cert.InDx1RefIdeal.τ).loc Cert.InDx1RefIdeal.main_arg0)) (m' ((c.tc : Thread Cert.InDx1RefIdeal.nD Cert.InDx1RefIdeal.τ).loc Cert.InDx1RefIdeal.main_arg1))) (Host.rsqrt (F := Ideal) (Cert.InDx1RefIdeal.Value.msq (m' ((c.tc : Thread Cert.InDx1RefIdeal.nD Cert.InDx1RefIdeal.τ).loc Cert.InDx1RefIdeal.main_arg2)))) = _
          rw [(hag c).1, (hag c).2.1, (hag c).2.2.1]
          funext y
          idx_vars y
          obtain rfl : y0 = 0 := Subsingleton.elim _ _
          exact Cert.InDx1RefIdeal.Value.dg_at _ _ _ y1
        )
      (Cert.InDx1RefIdeal.Value.run m' ρ')⟩

end Cert.InDx1.Claims
-- ==== Proof.InDx2Kernel.lean ====
module

public import proofs.«01_k».proof.Proof.Gen.InDx2Ideal.Value
public import proofs.«01_k».proof.Proof.Gen.InDx2RefIdeal.Run
public import proofs.«01_k».proof.Defs
public import Idealize.ShloMosaic.Lib.Pointwise
public import Idealize.ShloMosaic.Lib.Pipeline.ValueKit
public import Idealize.ShloMosaic.Lib.Pipeline.ReadBack
public import Idealize.ShloMosaic.Adequacy
public import proofs.«01_k».proof.Proof.Norm

@[expose] public section

set_option maxRecDepth 16384

noncomputable section

namespace Cert.InDx2Ideal.Value

open Cert.InDx2Ideal Cert.InDx2Ideal.Gen Idealize.ShloMosaic Idealize.ShloMosaic.TcCoe Idealize.SL.Sem
open Idealize.ShloMosaic.Pipeline Cert.Norm

/-! What the body stores, at an index. -/

/-- The sum over the four column blocks. -/
def four (v0 v1 v2 v3 : FVec Ideal S1x256x1408 .bf16) (w0 w1 w2 w3 : FVec Ideal S1024x1408 .bf16) (r : Fin 256) (c : Fin 1024) : EReal :=
  (∑ k : Fin 1408, v0 (ix3 0 r k) * w0 (ix2 c k)) + (∑ k : Fin 1408, v1 (ix3 0 r k) * w1 (ix2 c k)) + (∑ k : Fin 1408, v2 (ix3 0 r k) * w2 (ix2 c k)) + (∑ k : Fin 1408, v3 (ix3 0 r k) * w3 (ix2 c k))

theorem dy0_at (v0 v1 v2 v3 : FVec Ideal S1x256x1408 .bf16) (w0 w1 w2 w3 : FVec Ideal S1024x1408 .bf16) (r : Fin 256) (c : Fin 1024) : k0_pay4 (F := Ideal) v0 w0 v1 w1 v2 w2 v3 w3 (ix2 r c) = four v0 v1 v2 v3 w0 w1 w2 w3 r c := by
  pointwise [k0_pay4]; rfl
theorem dy1_at (v0 v1 v2 v3 : FVec Ideal S1x256x1408 .bf16) (w0 w1 w2 w3 : FVec Ideal S1024x1408 .bf16) (r : Fin 256) (c : Fin 1024) : k0_pay17 (F := Ideal) (k0_pay15 (F := Ideal) v0 w0) (k0_pay16 (F := Ideal) v1 w1) v2 w2 v3 w3 (ix2 r c) = four v0 v1 v2 v3 w0 w1 w2 w3 r c := by
  pointwise [k0_pay17, k0_pay15, k0_pay16]; rfl
theorem dx0_at (d x res : FVec Ideal S256x1024 .f32) (g : FVec Ideal S1x1024 .f32) (r : Fin 256) (c : Fin 1024) :
    k0_pay9 (F := Ideal) d x (k0_pay5 (F := Ideal) x) g res (ix2 r c) = kgrad (fun k => x (ix2 r k)) (fun k => d (ix2 r k) * g (ix2 0 k)) c + res (ix2 r c) := by
  pointwise [k0_pay9, k0_pay5, k0_pay6, k0_pay7]; rfl
theorem dx1_at (v0 v1 v2 v3 : FVec Ideal S1x256x1408 .bf16) (w0 w1 w2 w3 : FVec Ideal S1024x1408 .bf16) (x res : FVec Ideal S256x1024 .f32) (g : FVec Ideal S1x1024 .f32) (r : Fin 256) (c : Fin 1024) :
    k0_pay23 (F := Ideal) (k0_pay18 (F := Ideal) x) (k0_pay19 (F := Ideal) x) (k0_pay21 (F := Ideal) (k0_pay15 (F := Ideal) v0 w0) (k0_pay16 (F := Ideal) v1 w1) v2 w2 v3 w3 g) (k0_pay22 (F := Ideal) (k0_pay15 (F := Ideal) v0 w0) (k0_pay16 (F := Ideal) v1 w1) v2 w2 v3 w3 x g) (FloatOps.ofBits (F := Ideal) .f32 1149239296#32) res (ix2 r c) = kgrad (fun k => x (ix2 r k)) (fun k => k0_pay17 (F := Ideal) (k0_pay15 (F := Ideal) v0 w0) (k0_pay16 (F := Ideal) v1 w1) v2 w2 v3 w3 (ix2 r k) * g (ix2 0 k)) c + res (ix2 r c) := by
  pointwise [k0_pay23, k0_pay22, k0_pay21, k0_pay18, k0_pay19]; rfl
theorem dg0_at (d x : FVec Ideal S256x1024 .f32) (acc : FVec Ideal S1x1024 .f32) (c : Fin 1024) :
    k0_pay8 (F := Ideal) d x (k0_pay5 (F := Ideal) x) acc (ix2 0 c) = acc (ix2 0 c) + ∑ r : Fin 256, d (ix2 r c) * (x (ix2 r c) * rn (fun k => x (ix2 r k))) := by
  pointwise [k0_pay8, k0_pay5, k0_pay6, k0_pay7]; rfl
theorem dg1_at (v0 v1 v2 v3 : FVec Ideal S1x256x1408 .bf16) (w0 w1 w2 w3 : FVec Ideal S1024x1408 .bf16) (x : FVec Ideal S256x1024 .f32) (acc : FVec Ideal S1x1024 .f32) (c : Fin 1024) :
    k0_pay20 (F := Ideal) (k0_pay15 (F := Ideal) v0 w0) (k0_pay16 (F := Ideal) v1 w1) v2 w2 v3 w3 x acc (ix2 0 c) = acc (ix2 0 c) + ∑ r : Fin 256, k0_pay17 (F := Ideal) (k0_pay15 (F := Ideal) v0 w0) (k0_pay16 (F := Ideal) v1 w1) v2 w2 v3 w3 (ix2 r c) * (x (ix2 r c) * rn (fun k => x (ix2 r k))) := by
  pointwise [k0_pay20, k0_pay18, k0_pay19]; rfl
theorem zero_at (c : Fin 1024) : k0_pay2 (F := Ideal) (ix2 0 c) = 0 := by pointwise [k0_pay2]
theorem zerop_at (c : Fin 1024) : k0_pay3 (F := Ideal) (ix2 0 c) = 0 := by pointwise [k0_pay3]
theorem df0_at (e f : FVec Ideal S256x1024 .f32) (gp : FVec Ideal S1x1024 .f32) (r : Fin 256) (c : Fin 1024) :
    k0_pay14 (F := Ideal) e (k0_pay10 (F := Ideal) f) (k0_pay11 (F := Ideal) f) gp (ix2 r c) = kgrad (fun k => f (ix2 r k)) (fun k => e (ix2 r k) * gp (ix2 0 k)) c := by
  pointwise [k0_pay14, k0_pay10, k0_pay11, k0_pay12]; rfl
theorem df1_at (v0 v1 v2 v3 : FVec Ideal S1x256x1408 .bf16) (w0 w1 w2 w3 : FVec Ideal S1024x1408 .bf16) (x res f : FVec Ideal S256x1024 .f32) (g gp : FVec Ideal S1x1024 .f32) (r : Fin 256) (c : Fin 1024) :
    k0_pay1 (F := Ideal) (k0_pay24 (F := Ideal) f) (k0_pay25 (F := Ideal) f) (k0_pay28 (F := Ideal) (k0_pay18 (F := Ideal) x) (k0_pay19 (F := Ideal) x) (k0_pay21 (F := Ideal) (k0_pay15 (F := Ideal) v0 w0) (k0_pay16 (F := Ideal) v1 w1) v2 w2 v3 w3 g) (k0_pay22 (F := Ideal) (k0_pay15 (F := Ideal) v0 w0) (k0_pay16 (F := Ideal) v1 w1) v2 w2 v3 w3 x g) (FloatOps.ofBits (F := Ideal) .f32 1149239296#32) res gp) (k0_pay29 (F := Ideal) (k0_pay18 (F := Ideal) x) (k0_pay19 (F := Ideal) x) (k0_pay21 (F := Ideal) (k0_pay15 (F := Ideal) v0 w0) (k0_pay16 (F := Ideal) v1 w1) v2 w2 v3 w3 g) (k0_pay22 (F := Ideal) (k0_pay15 (F := Ideal) v0 w0) (k0_pay16 (F := Ideal) v1 w1) v2 w2 v3 w3 x g) (FloatOps.ofBits (F := Ideal) .f32 1149239296#32) res f gp) (ix2 r c) = kgrad (fun k => f (ix2 r k)) (fun k => k0_pay23 (F := Ideal) (k0_pay18 (F := Ideal) x) (k0_pay19 (F := Ideal) x) (k0_pay21 (F := Ideal) (k0_pay15 (F := Ideal) v0 w0) (k0_pay16 (F := Ideal) v1 w1) v2 w2 v3 w3 g) (k0_pay22 (F := Ideal) (k0_pay15 (F := Ideal) v0 w0) (k0_pay16 (F := Ideal) v1 w1) v2 w2 v3 w3 x g) (FloatOps.ofBits (F := Ideal) .f32 1149239296#32) res (ix2 r k) * gp (ix2 0 k)) c := by
  pointwise [k0_pay1, k0_pay29, k0_pay28, k0_pay26, k0_pay25, k0_pay24]; rfl
theorem dp0_at (e f : FVec Ideal S256x1024 .f32) (acc : FVec Ideal S1x1024 .f32) (c : Fin 1024) :
    k0_pay13 (F := Ideal) e (k0_pay11 (F := Ideal) f) acc (ix2 0 c) = acc (ix2 0 c) + ∑ r : Fin 256, e (ix2 r c) * (f (ix2 r c) * rn (fun k => f (ix2 r k))) := by
  pointwise [k0_pay13, k0_pay11, k0_pay10, k0_pay12]; rfl
theorem dp1_at (v0 v1 v2 v3 : FVec Ideal S1x256x1408 .bf16) (w0 w1 w2 w3 : FVec Ideal S1024x1408 .bf16) (x res f : FVec Ideal S256x1024 .f32) (g acc : FVec Ideal S1x1024 .f32) (c : Fin 1024) :
    k0_pay27 (F := Ideal) (k0_pay18 (F := Ideal) x) (k0_pay19 (F := Ideal) x) (k0_pay21 (F := Ideal) (k0_pay15 (F := Ideal) v0 w0) (k0_pay16 (F := Ideal) v1 w1) v2 w2 v3 w3 g) (k0_pay22 (F := Ideal) (k0_pay15 (F := Ideal) v0 w0) (k0_pay16 (F := Ideal) v1 w1) v2 w2 v3 w3 x g) (FloatOps.ofBits (F := Ideal) .f32 1149239296#32) res f acc (ix2 0 c) = acc (ix2 0 c) + ∑ r : Fin 256, k0_pay23 (F := Ideal) (k0_pay18 (F := Ideal) x) (k0_pay19 (F := Ideal) x) (k0_pay21 (F := Ideal) (k0_pay15 (F := Ideal) v0 w0) (k0_pay16 (F := Ideal) v1 w1) v2 w2 v3 w3 g) (k0_pay22 (F := Ideal) (k0_pay15 (F := Ideal) v0 w0) (k0_pay16 (F := Ideal) v1 w1) v2 w2 v3 w3 x g) (FloatOps.ofBits (F := Ideal) .f32 1149239296#32) res (ix2 r c) * (f (ix2 r c) * rn (fun k => f (ix2 r k))) := by
  pointwise [k0_pay27, k0_pay26, k0_pay25, k0_pay24]; rfl

/-! A block's rows. -/

/-- The gradient of the normed input at a row. -/
def bdy (x0 : FVec Ideal S4x512x1408 .bf16) (x1 : FVec Ideal S1024x5632 .bf16) (r : Fin 512) (c : Fin 1024) : EReal :=
  ∑ q : Fin 4, ∑ k : Fin 1408, x0 (ix3 q r k) * x1 (ix2 c ⟨q.val * 1408 + k.val, by omega⟩)
/-- The gradient of the input. -/
def bdx (x0 : FVec Ideal S4x512x1408 .bf16) (x1 : FVec Ideal S1024x5632 .bf16) (x2 : FVec Ideal S512x1024 .f32) (x3 : FVec Ideal S1x1024 .f32) (x4 : FVec Ideal S512x1024 .f32) (r : Fin 512) (c : Fin 1024) : EReal :=
  kgrad (fun k => x2 (ix2 r k)) (fun k => bdy x0 x1 r k * x3 (ix2 0 k)) c + x4 (ix2 r c)
/-- What a row adds to the gain's gradient. -/
def bdg (x0 : FVec Ideal S4x512x1408 .bf16) (x1 : FVec Ideal S1024x5632 .bf16) (x2 : FVec Ideal S512x1024 .f32) (r : Fin 512) (c : Fin 1024) : EReal :=
  bdy x0 x1 r c * (x2 (ix2 r c) * rn (fun k => x2 (ix2 r k)))
/-- The gradient of the second norm's input. -/
def bdf (x0 : FVec Ideal S4x512x1408 .bf16) (x1 : FVec Ideal S1024x5632 .bf16) (x2 : FVec Ideal S512x1024 .f32) (x3 : FVec Ideal S1x1024 .f32) (x4 x5 : FVec Ideal S512x1024 .f32) (x6 : FVec Ideal S1x1024 .f32) (r : Fin 512) (c : Fin 1024) : EReal :=
  kgrad (fun k => x5 (ix2 r k)) (fun k => bdx x0 x1 x2 x3 x4 r k * x6 (ix2 0 k)) c
/-- What a row adds to the second gain's gradient. -/
def bdp (x0 : FVec Ideal S4x512x1408 .bf16) (x1 : FVec Ideal S1024x5632 .bf16) (x2 : FVec Ideal S512x1024 .f32) (x3 : FVec Ideal S1x1024 .f32) (x4 x5 : FVec Ideal S512x1024 .f32) (r : Fin 512) (c : Fin 1024) : EReal :=
  bdx x0 x1 x2 x3 x4 r c * (x5 (ix2 r c) * rn (fun k => x5 (ix2 r k)))

section rows
variable (x0 : FVec Ideal S4x512x1408 .bf16) (x1 : FVec Ideal S1024x5632 .bf16) (x2 : FVec Ideal S512x1024 .f32) (x3 : FVec Ideal S1x1024 .f32) (x4 : FVec Ideal S512x1024 .f32) (x5 : FVec Ideal S512x1024 .f32) (x6 : FVec Ideal S1x1024 .f32)
  (s : Fin 2) (d x res : FVec Ideal S256x1024 .f32) (g : FVec Ideal S1x1024 .f32)

theorem four_eq (v0 v1 v2 v3 : FVec Ideal S1x256x1408 .bf16) (w0 w1 w2 w3 : FVec Ideal S1024x1408 .bf16)
    (hv0 : ∀ r k, v0 (ix3 0 r k) = x0 (ix3 0 ⟨s.val * 256 + r.val, by omega⟩ k)) (hw0 : ∀ r k, w0 (ix2 r k) = x1 (ix2 r ⟨0 * 1408 + k.val, by omega⟩))
    (hv1 : ∀ r k, v1 (ix3 0 r k) = x0 (ix3 1 ⟨s.val * 256 + r.val, by omega⟩ k)) (hw1 : ∀ r k, w1 (ix2 r k) = x1 (ix2 r ⟨1 * 1408 + k.val, by omega⟩))
    (hv2 : ∀ r k, v2 (ix3 0 r k) = x0 (ix3 2 ⟨s.val * 256 + r.val, by omega⟩ k)) (hw2 : ∀ r k, w2 (ix2 r k) = x1 (ix2 r ⟨2 * 1408 + k.val, by omega⟩))
    (hv3 : ∀ r k, v3 (ix3 0 r k) = x0 (ix3 3 ⟨s.val * 256 + r.val, by omega⟩ k)) (hw3 : ∀ r k, w3 (ix2 r k) = x1 (ix2 r ⟨3 * 1408 + k.val, by omega⟩))
    (r : Fin 256) (c : Fin 1024) : four v0 v1 v2 v3 w0 w1 w2 w3 r c = bdy x0 x1 ⟨s.val * 256 + r.val, by omega⟩ c := by
  rw [bdy, Fin.sum_univ_four]
  simp only [four, hv0, hv1, hv2, hv3, hw0, hw1, hw2, hw3]
  rfl

/-- Half a block's rows of the input's gradient. -/
theorem half_dx (hd : ∀ r k, d (ix2 r k) = bdy x0 x1 ⟨s.val * 256 + r.val, by omega⟩ k)
    (hx : ∀ r k, x (ix2 r k) = x2 (ix2 ⟨s.val * 256 + r.val, by omega⟩ k)) (hg : ∀ k, g (ix2 0 k) = x3 (ix2 0 k))
    (hres : ∀ r k, res (ix2 r k) = x4 (ix2 ⟨s.val * 256 + r.val, by omega⟩ k)) (r : Fin 256) (c : Fin 1024) (R : Fin 512) (hR : R.val = s.val * 256 + r.val) :
    kgrad (fun k => x (ix2 r k)) (fun k => d (ix2 r k) * g (ix2 0 k)) c + res (ix2 r c) = bdx x0 x1 x2 x3 x4 R c := by
  have e : (⟨s.val * 256 + r.val, by omega⟩ : Fin 512) = R := Fin.ext hR.symm
  simp only [hd, hx, hg, hres, e, bdx]

/-- Half a block's part of the gain's gradient. -/
theorem half_dg (hd : ∀ r k, d (ix2 r k) = bdy x0 x1 ⟨s.val * 256 + r.val, by omega⟩ k)
    (hx : ∀ r k, x (ix2 r k) = x2 (ix2 ⟨s.val * 256 + r.val, by omega⟩ k)) (c : Fin 1024) :
    ∑ r : Fin 256, d (ix2 r c) * (x (ix2 r c) * rn (fun k => x (ix2 r k))) = ∑ r : Fin 256, bdg x0 x1 x2 ⟨s.val * 256 + r.val, by omega⟩ c := by
  simp only [hd, hx, bdg]

/-- Half a block's rows of the second norm's gradient. -/
theorem half_df (e f : FVec Ideal S256x1024 .f32) (gp : FVec Ideal S1x1024 .f32) (he : ∀ r k, e (ix2 r k) = bdx x0 x1 x2 x3 x4 ⟨s.val * 256 + r.val, by omega⟩ k)
    (hf : ∀ r k, f (ix2 r k) = x5 (ix2 ⟨s.val * 256 + r.val, by omega⟩ k)) (hg : ∀ k, gp (ix2 0 k) = x6 (ix2 0 k)) (r : Fin 256) (c : Fin 1024) (R : Fin 512) (hR : R.val = s.val * 256 + r.val) :
    kgrad (fun k => f (ix2 r k)) (fun k => e (ix2 r k) * gp (ix2 0 k)) c = bdf x0 x1 x2 x3 x4 x5 x6 R c := by
  have h : (⟨s.val * 256 + r.val, by omega⟩ : Fin 512) = R := Fin.ext hR.symm
  simp only [he, hf, hg, h, bdf]

/-- Half a block's part of the second gain's gradient. -/
theorem half_dp (e f : FVec Ideal S256x1024 .f32) (he : ∀ r k, e (ix2 r k) = bdx x0 x1 x2 x3 x4 ⟨s.val * 256 + r.val, by omega⟩ k)
    (hf : ∀ r k, f (ix2 r k) = x5 (ix2 ⟨s.val * 256 + r.val, by omega⟩ k)) (c : Fin 1024) :
    ∑ r : Fin 256, e (ix2 r c) * (f (ix2 r c) * rn (fun k => f (ix2 r k))) = ∑ r : Fin 256, bdp x0 x1 x2 x3 x4 x5 ⟨s.val * 256 + r.val, by omega⟩ c := by
  simp only [he, hf, bdp]

end rows

variable (m : (ℓ : Loc nD τ sig) → Buf (Elt Ideal) ℓ)

/-- Either case of the body writes the block of the input's gradient. -/
theorem dx_at (c : Dev nD) (t : Fin cfg0.N) (a : Fin 512) (b : Fin 1024) :
    (outsAt0 m c t.val t.isLt).1 (ix2 a b) = bdx (show FVec Ideal S4x512x1408 .bf16 from iblk m c 0 t) (show FVec Ideal S1024x5632 .bf16 from iblk m c 1 t) (show FVec Ideal S512x1024 .f32 from iblk m c 2 t) (show FVec Ideal S1x1024 .f32 from iblk m c 3 t) (show FVec Ideal S512x1024 .f32 from iblk m c 4 t) a b := by
  by_cases h0 : t.val % 8 = 0
  · rw [outsAt0_A m c t h0]
    frame_out
    generalize iblk m c 0 t = X0
    generalize iblk m c 1 t = X1
    generalize iblk m c 2 t = X2
    generalize iblk m c 3 t = X3
    generalize iblk m c 4 t = X4
    canon_tiles y hy
    all_goals (idx_vars y; obtain rfl := Fin.ext hy1)
    case piece0 =>
      exact (dx1_at _ _ _ _ _ _ _ _ _ _ _ _ _).trans (half_dx _ _ _ _ _ 1 _ _ _ _ (fun r k => (dy1_at _ _ _ _ _ _ _ _ r k).trans (four_eq _ _ 1 _ _ _ _ _ _ _ _ (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) r k)) (by intro r k; pointwise; blk_ext) (fun _ => rfl) (by intro r k; pointwise; blk_ext) _ _ _ (by simp at hy0 ⊢; omega))
    case piece1 =>
      exact (dx0_at _ _ _ _ _ _).trans (half_dx _ _ _ _ _ 0 _ _ _ _ (fun r k => (dy0_at _ _ _ _ _ _ _ _ r k).trans (four_eq _ _ 0 _ _ _ _ _ _ _ _ (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) r k)) (by intro r k; pointwise; blk_ext) (fun _ => rfl) (by intro r k; pointwise; blk_ext) _ _ _ (by simp at hy0 ⊢; omega))
  · rw [outsAt0_B m c t h0]
    frame_out
    generalize iblk m c 0 t = X0
    generalize iblk m c 1 t = X1
    generalize iblk m c 2 t = X2
    generalize iblk m c 3 t = X3
    generalize iblk m c 4 t = X4
    canon_tiles y hy
    all_goals (idx_vars y; obtain rfl := Fin.ext hy1)
    case piece0 =>
      exact (dx1_at _ _ _ _ _ _ _ _ _ _ _ _ _).trans (half_dx _ _ _ _ _ 1 _ _ _ _ (fun r k => (dy1_at _ _ _ _ _ _ _ _ r k).trans (four_eq _ _ 1 _ _ _ _ _ _ _ _ (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) r k)) (by intro r k; pointwise; blk_ext) (fun _ => rfl) (by intro r k; pointwise; blk_ext) _ _ _ (by simp at hy0 ⊢; omega))
    case piece1 =>
      exact (dx0_at _ _ _ _ _ _).trans (half_dx _ _ _ _ _ 0 _ _ _ _ (fun r k => (dy0_at _ _ _ _ _ _ _ _ r k).trans (four_eq _ _ 0 _ _ _ _ _ _ _ _ (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) r k)) (by intro r k; pointwise; blk_ext) (fun _ => rfl) (by intro r k; pointwise; blk_ext) _ _ _ (by simp at hy0 ⊢; omega))

/-- A later point's part of the gain's gradient, over what was there. -/
theorem dg_B (c : Dev nD) (t : Fin cfg0.N) (h0 : ¬ t.val % 8 = 0) (b : Fin 1024) :
    (outsAt0 m c t.val t.isLt).2.1 (ix2 0 b) = (outsAt0 m c (t.val - 1) (Nat.lt_of_le_of_lt (Nat.sub_le _ _) t.isLt)).2.1 (ix2 0 b) + (∑ s : Fin 2, ∑ r : Fin 256, bdg (show FVec Ideal S4x512x1408 .bf16 from iblk m c 0 t) (show FVec Ideal S1024x5632 .bf16 from iblk m c 1 t) (show FVec Ideal S512x1024 .f32 from iblk m c 2 t) ⟨s.val * 256 + r.val, by omega⟩ b) := by
  rw [outsAt0_B m c t h0]
  frame_open
  simp (disch := decide) only [↓ View.readCov_skip, ↓ View.readCov_cons_toLoadRect, ↓ View.readCov_fill]
  frame_out
  generalize iblk m c 0 t = X0
  generalize iblk m c 1 t = X1
  generalize iblk m c 2 t = X2
  generalize (outsAt0 m c (t.val - 1) (Nat.lt_of_le_of_lt (Nat.sub_le _ _) t.isLt)).2.1 = P
  rw [Fin.sum_univ_two, ← add_assoc]
  refine (dg1_at _ _ _ _ _ _ _ _ _ _ _).trans (congr (congrArg HAdd.hAdd ((dg0_at _ _ _ _).trans (congr (congrArg HAdd.hAdd rfl) ?_))) ?_)
  · exact half_dg _ _ _ 0 _ _ (fun r k => (dy0_at _ _ _ _ _ _ _ _ r k).trans (four_eq _ _ 0 _ _ _ _ _ _ _ _ (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) r k)) (by intro r k; pointwise; blk_ext) b
  · exact half_dg _ _ _ 1 _ _ (fun r k => (dy1_at _ _ _ _ _ _ _ _ r k).trans (four_eq _ _ 1 _ _ _ _ _ _ _ _ (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) r k)) (by intro r k; pointwise; blk_ext) b

/-- The first point's part of the gain's gradient. -/
theorem dg_A (c : Dev nD) (t : Fin cfg0.N) (h0 : t.val % 8 = 0) (b : Fin 1024) :
    (outsAt0 m c t.val t.isLt).2.1 (ix2 0 b) = 0 + (∑ s : Fin 2, ∑ r : Fin 256, bdg (show FVec Ideal S4x512x1408 .bf16 from iblk m c 0 t) (show FVec Ideal S1024x5632 .bf16 from iblk m c 1 t) (show FVec Ideal S512x1024 .f32 from iblk m c 2 t) ⟨s.val * 256 + r.val, by omega⟩ b) := by
  rw [outsAt0_A m c t h0]
  frame_open
  simp (disch := decide) only [↓ View.readCov_skip, ↓ View.readCov_cons_toLoadRect, ↓ View.readCov_fill]
  frame_out
  generalize iblk m c 0 t = X0
  generalize iblk m c 1 t = X1
  generalize iblk m c 2 t = X2
  rw [Fin.sum_univ_two, ← add_assoc]
  refine (dg1_at _ _ _ _ _ _ _ _ _ _ _).trans (congr (congrArg HAdd.hAdd ((dg0_at _ _ _ _).trans (congr (congrArg HAdd.hAdd (zero_at b)) ?_))) ?_)
  · exact half_dg _ _ _ 0 _ _ (fun r k => (dy0_at _ _ _ _ _ _ _ _ r k).trans (four_eq _ _ 0 _ _ _ _ _ _ _ _ (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) r k)) (by intro r k; pointwise; blk_ext) b
  · exact half_dg _ _ _ 1 _ _ (fun r k => (dy1_at _ _ _ _ _ _ _ _ r k).trans (four_eq _ _ 1 _ _ _ _ _ _ _ _ (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) r k)) (by intro r k; pointwise; blk_ext) b

/-- Either case of the body writes the block of the second norm's gradient. -/
theorem df_at (c : Dev nD) (t : Fin cfg0.N) (a : Fin 512) (b : Fin 1024) :
    (outsAt0 m c t.val t.isLt).2.2.1 (ix2 a b) = bdf (show FVec Ideal S4x512x1408 .bf16 from iblk m c 0 t) (show FVec Ideal S1024x5632 .bf16 from iblk m c 1 t) (show FVec Ideal S512x1024 .f32 from iblk m c 2 t) (show FVec Ideal S1x1024 .f32 from iblk m c 3 t) (show FVec Ideal S512x1024 .f32 from iblk m c 4 t) (show FVec Ideal S512x1024 .f32 from iblk m c 5 t) (show FVec Ideal S1x1024 .f32 from iblk m c 6 t) a b := by
  by_cases h0 : t.val % 8 = 0
  · rw [outsAt0_A m c t h0]
    frame_out
    generalize iblk m c 0 t = X0
    generalize iblk m c 1 t = X1
    generalize iblk m c 2 t = X2
    generalize iblk m c 3 t = X3
    generalize iblk m c 4 t = X4
    generalize iblk m c 5 t = X5
    generalize iblk m c 6 t = X6
    canon_tiles y hy
    all_goals (idx_vars y; obtain rfl := Fin.ext hy1)
    case piece0 =>
      exact (df1_at _ _ _ _ _ _ _ _ _ _ _ _ _ _ _).trans (half_df _ _ _ _ _ _ _ 1 _ _ _ (fun r k => (dx1_at _ _ _ _ _ _ _ _ _ _ _ r k).trans (half_dx _ _ _ _ _ 1 _ _ _ _ (fun r k => (dy1_at _ _ _ _ _ _ _ _ r k).trans (four_eq _ _ 1 _ _ _ _ _ _ _ _ (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) r k)) (by intro r k; pointwise; blk_ext) (fun _ => rfl) (by intro r k; pointwise; blk_ext) r k _ rfl)) (by intro r k; pointwise; blk_ext) (fun _ => rfl) _ _ _ (by simp at hy0 ⊢; omega))
    case piece1 =>
      exact (df0_at _ _ _ _ _).trans (half_df _ _ _ _ _ _ _ 0 _ _ _ (fun r k => (dx0_at _ _ _ _ r k).trans (half_dx _ _ _ _ _ 0 _ _ _ _ (fun r k => (dy0_at _ _ _ _ _ _ _ _ r k).trans (four_eq _ _ 0 _ _ _ _ _ _ _ _ (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) r k)) (by intro r k; pointwise; blk_ext) (fun _ => rfl) (by intro r k; pointwise; blk_ext) r k _ rfl)) (by intro r k; pointwise; blk_ext) (fun _ => rfl) _ _ _ (by simp at hy0 ⊢; omega))
  · rw [outsAt0_B m c t h0]
    frame_out
    generalize iblk m c 0 t = X0
    generalize iblk m c 1 t = X1
    generalize iblk m c 2 t = X2
    generalize iblk m c 3 t = X3
    generalize iblk m c 4 t = X4
    generalize iblk m c 5 t = X5
    generalize iblk m c 6 t = X6
    canon_tiles y hy
    all_goals (idx_vars y; obtain rfl := Fin.ext hy1)
    case piece0 =>
      exact (df1_at _ _ _ _ _ _ _ _ _ _ _ _ _ _ _).trans (half_df _ _ _ _ _ _ _ 1 _ _ _ (fun r k => (dx1_at _ _ _ _ _ _ _ _ _ _ _ r k).trans (half_dx _ _ _ _ _ 1 _ _ _ _ (fun r k => (dy1_at _ _ _ _ _ _ _ _ r k).trans (four_eq _ _ 1 _ _ _ _ _ _ _ _ (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) r k)) (by intro r k; pointwise; blk_ext) (fun _ => rfl) (by intro r k; pointwise; blk_ext) r k _ rfl)) (by intro r k; pointwise; blk_ext) (fun _ => rfl) _ _ _ (by simp at hy0 ⊢; omega))
    case piece1 =>
      exact (df0_at _ _ _ _ _).trans (half_df _ _ _ _ _ _ _ 0 _ _ _ (fun r k => (dx0_at _ _ _ _ r k).trans (half_dx _ _ _ _ _ 0 _ _ _ _ (fun r k => (dy0_at _ _ _ _ _ _ _ _ r k).trans (four_eq _ _ 0 _ _ _ _ _ _ _ _ (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) r k)) (by intro r k; pointwise; blk_ext) (fun _ => rfl) (by intro r k; pointwise; blk_ext) r k _ rfl)) (by intro r k; pointwise; blk_ext) (fun _ => rfl) _ _ _ (by simp at hy0 ⊢; omega))

/-- A later point's part of the second gain's gradient, over what was there. -/
theorem dp_B (c : Dev nD) (t : Fin cfg0.N) (h0 : ¬ t.val % 8 = 0) (b : Fin 1024) :
    (outsAt0 m c t.val t.isLt).2.2.2 (ix2 0 b) = (outsAt0 m c (t.val - 1) (Nat.lt_of_le_of_lt (Nat.sub_le _ _) t.isLt)).2.2.2 (ix2 0 b) + (∑ s : Fin 2, ∑ r : Fin 256, bdp (show FVec Ideal S4x512x1408 .bf16 from iblk m c 0 t) (show FVec Ideal S1024x5632 .bf16 from iblk m c 1 t) (show FVec Ideal S512x1024 .f32 from iblk m c 2 t) (show FVec Ideal S1x1024 .f32 from iblk m c 3 t) (show FVec Ideal S512x1024 .f32 from iblk m c 4 t) (show FVec Ideal S512x1024 .f32 from iblk m c 5 t) ⟨s.val * 256 + r.val, by omega⟩ b) := by
  rw [outsAt0_B m c t h0]
  frame_open
  simp (disch := decide) only [↓ View.readCov_skip, ↓ View.readCov_cons_toLoadRect, ↓ View.readCov_fill]
  frame_out
  generalize iblk m c 0 t = X0
  generalize iblk m c 1 t = X1
  generalize iblk m c 2 t = X2
  generalize iblk m c 3 t = X3
  generalize iblk m c 4 t = X4
  generalize iblk m c 5 t = X5
  generalize (outsAt0 m c (t.val - 1) (Nat.lt_of_le_of_lt (Nat.sub_le _ _) t.isLt)).2.2.2 = P
  rw [Fin.sum_univ_two, ← add_assoc]
  refine (dp1_at _ _ _ _ _ _ _ _ _ _ _ _ _ _).trans (congr (congrArg HAdd.hAdd ((dp0_at _ _ _ _).trans (congr (congrArg HAdd.hAdd rfl) ?_))) ?_)
  · exact half_dp _ _ _ _ _ _ 0 _ _ (fun r k => (dx0_at _ _ _ _ r k).trans (half_dx _ _ _ _ _ 0 _ _ _ _ (fun r k => (dy0_at _ _ _ _ _ _ _ _ r k).trans (four_eq _ _ 0 _ _ _ _ _ _ _ _ (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) r k)) (by intro r k; pointwise; blk_ext) (fun _ => rfl) (by intro r k; pointwise; blk_ext) r k _ rfl)) (by intro r k; pointwise; blk_ext) b
  · exact half_dp _ _ _ _ _ _ 1 _ _ (fun r k => (dx1_at _ _ _ _ _ _ _ _ _ _ _ r k).trans (half_dx _ _ _ _ _ 1 _ _ _ _ (fun r k => (dy1_at _ _ _ _ _ _ _ _ r k).trans (four_eq _ _ 1 _ _ _ _ _ _ _ _ (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) r k)) (by intro r k; pointwise; blk_ext) (fun _ => rfl) (by intro r k; pointwise; blk_ext) r k _ rfl)) (by intro r k; pointwise; blk_ext) b

/-- The first point's part of the second gain's gradient. -/
theorem dp_A (c : Dev nD) (t : Fin cfg0.N) (h0 : t.val % 8 = 0) (b : Fin 1024) :
    (outsAt0 m c t.val t.isLt).2.2.2 (ix2 0 b) = 0 + (∑ s : Fin 2, ∑ r : Fin 256, bdp (show FVec Ideal S4x512x1408 .bf16 from iblk m c 0 t) (show FVec Ideal S1024x5632 .bf16 from iblk m c 1 t) (show FVec Ideal S512x1024 .f32 from iblk m c 2 t) (show FVec Ideal S1x1024 .f32 from iblk m c 3 t) (show FVec Ideal S512x1024 .f32 from iblk m c 4 t) (show FVec Ideal S512x1024 .f32 from iblk m c 5 t) ⟨s.val * 256 + r.val, by omega⟩ b) := by
  rw [outsAt0_A m c t h0]
  frame_open
  simp (disch := decide) only [↓ View.readCov_skip, ↓ View.readCov_cons_toLoadRect, ↓ View.readCov_fill]
  frame_out
  generalize iblk m c 0 t = X0
  generalize iblk m c 1 t = X1
  generalize iblk m c 2 t = X2
  generalize iblk m c 3 t = X3
  generalize iblk m c 4 t = X4
  generalize iblk m c 5 t = X5
  rw [Fin.sum_univ_two, ← add_assoc]
  refine (dp1_at _ _ _ _ _ _ _ _ _ _ _ _ _ _).trans (congr (congrArg HAdd.hAdd ((dp0_at _ _ _ _).trans (congr (congrArg HAdd.hAdd (zerop_at b)) ?_))) ?_)
  · exact half_dp _ _ _ _ _ _ 0 _ _ (fun r k => (dx0_at _ _ _ _ r k).trans (half_dx _ _ _ _ _ 0 _ _ _ _ (fun r k => (dy0_at _ _ _ _ _ _ _ _ r k).trans (four_eq _ _ 0 _ _ _ _ _ _ _ _ (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) r k)) (by intro r k; pointwise; blk_ext) (fun _ => rfl) (by intro r k; pointwise; blk_ext) r k _ rfl)) (by intro r k; pointwise; blk_ext) b
  · exact half_dp _ _ _ _ _ _ 1 _ _ (fun r k => (dx1_at _ _ _ _ _ _ _ _ _ _ _ r k).trans (half_dx _ _ _ _ _ 1 _ _ _ _ (fun r k => (dy1_at _ _ _ _ _ _ _ _ r k).trans (four_eq _ _ 1 _ _ _ _ _ _ _ _ (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) (by intro r k; pointwise; blk_ext) r k)) (by intro r k; pointwise; blk_ext) (fun _ => rfl) (by intro r k; pointwise; blk_ext) r k _ rfl)) (by intro r k; pointwise; blk_ext) b

end Cert.InDx2Ideal.Value
-- ==== Proof.InDx2Proof.lean ====
module

public import proofs.«01_k».proof.Proof.Gen.InDx2Ideal.Value
public import proofs.«01_k».proof.Proof.Gen.InDx2RefIdeal.Run
public import proofs.«01_k».proof.Defs
public import Idealize.ShloMosaic.Lib.Pointwise
public import Idealize.ShloMosaic.Lib.Pipeline.ValueKit
public import Idealize.ShloMosaic.Lib.Pipeline.ReadBack
public import Idealize.ShloMosaic.Adequacy
public import proofs.«01_k».proof.Proof.InDx2Kernel

@[expose] public section

set_option maxRecDepth 16384

noncomputable section

namespace Cert.InDx2Ideal.Value

open Cert.InDx2Ideal Cert.InDx2Ideal.Gen Idealize.ShloMosaic Idealize.ShloMosaic.TcCoe Idealize.SL.Sem
open Idealize.ShloMosaic.Pipeline Cert.Norm

/-! The arrays the kernel leaves, from its arguments. -/

/-- The gradient of the normed input at a row. -/
def gdy (x0 : FVec Ideal S4x4096x1408 .bf16) (x1 : FVec Ideal S1024x5632 .bf16) (r : Fin 4096) (c : Fin 1024) : EReal :=
  ∑ q : Fin 4, ∑ k : Fin 1408, x0 (ix3 q r k) * x1 (ix2 c ⟨q.val * 1408 + k.val, by omega⟩)
/-- The gradient of the input. -/
def gdx (x0 : FVec Ideal S4x4096x1408 .bf16) (x1 : FVec Ideal S1024x5632 .bf16) (x2 : FVec Ideal S4096x1024 .f32) (x3 : FVec Ideal S1x1024 .f32) (x4 : FVec Ideal S4096x1024 .f32) (r : Fin 4096) (c : Fin 1024) : EReal :=
  kgrad (fun k => x2 (ix2 r k)) (fun k => gdy x0 x1 r k * x3 (ix2 0 k)) c + x4 (ix2 r c)
/-- What a row adds to the gain's gradient. -/
def gdg (x0 : FVec Ideal S4x4096x1408 .bf16) (x1 : FVec Ideal S1024x5632 .bf16) (x2 : FVec Ideal S4096x1024 .f32) (r : Fin 4096) (c : Fin 1024) : EReal :=
  gdy x0 x1 r c * (x2 (ix2 r c) * rn (fun k => x2 (ix2 r k)))
/-- The gradient of the second norm's input. -/
def gdf (x0 : FVec Ideal S4x4096x1408 .bf16) (x1 : FVec Ideal S1024x5632 .bf16) (x2 : FVec Ideal S4096x1024 .f32) (x3 : FVec Ideal S1x1024 .f32) (x4 x5 : FVec Ideal S4096x1024 .f32) (x6 : FVec Ideal S1x1024 .f32) (r : Fin 4096) (c : Fin 1024) : EReal :=
  kgrad (fun k => x5 (ix2 r k)) (fun k => gdx x0 x1 x2 x3 x4 r k * x6 (ix2 0 k)) c
/-- What a row adds to the second gain's gradient. -/
def gdp (x0 : FVec Ideal S4x4096x1408 .bf16) (x1 : FVec Ideal S1024x5632 .bf16) (x2 : FVec Ideal S4096x1024 .f32) (x3 : FVec Ideal S1x1024 .f32) (x4 x5 : FVec Ideal S4096x1024 .f32) (r : Fin 4096) (c : Fin 1024) : EReal :=
  gdx x0 x1 x2 x3 x4 r c * (x5 (ix2 r c) * rn (fun k => x5 (ix2 r k)))

theorem idx : ∀ t : Fin cfg0.N, win0_0.index t = ![0, t.val, 0] ∧ win0_1.index t = ![0, 0] ∧ win0_2.index t = ![t.val, 0] ∧ win0_3.index t = ![0, 0] ∧ win0_4.index t = ![t.val, 0] ∧ win0_5.index t = ![t.val, 0] ∧ win0_6.index t = ![0, 0] ∧ win0_7.index t = ![t.val, 0] ∧ win0_8.index t = ![0, 0] ∧ win0_9.index t = ![t.val, 0] ∧ win0_10.index t = ![0, 0] :=
  (by decide +kernel : ∀ t : Fin grid0.N, _)

theorem pt_lt (t : Fin cfg0.N) : t.val < 8 := lt_of_lt_of_eq t.isLt N_0

variable (m : (ℓ : Loc nD τ sig) → Buf (Elt Ideal) ℓ)

theorem blk0 (c : Dev nD) (t : Fin cfg0.N) (q : Fin 4) (r : Fin 512) (k : Fin 1408) :
    (show FVec Ideal S4x512x1408 .bf16 from iblk m c 0 t) (ix3 q r k) = m ((c : Thread nD τ).loc main_arg0) (ix3 q ⟨t.val * 512 + r.val, by have := pt_lt t; omega⟩ k) := by
  blk_point [iblk, V, idx t]
theorem blk1 (c : Dev nD) (t : Fin cfg0.N) (r : Fin 1024) (k : Fin 5632) :
    (show FVec Ideal S1024x5632 .bf16 from iblk m c 1 t) (ix2 r k) = m ((c : Thread nD τ).loc main_arg1) (ix2 r k) := by
  blk_point [iblk, V, idx t]
theorem blk2 (c : Dev nD) (t : Fin cfg0.N) (r : Fin 512) (k : Fin 1024) :
    (show FVec Ideal S512x1024 .f32 from iblk m c 2 t) (ix2 r k) = m ((c : Thread nD τ).loc main_arg2) (ix2 ⟨t.val * 512 + r.val, by have := pt_lt t; omega⟩ k) := by
  blk_point [iblk, V, idx t]
theorem blk3 (c : Dev nD) (t : Fin cfg0.N) (k : Fin 1024) :
    (show FVec Ideal S1x1024 .f32 from iblk m c 3 t) (ix2 0 k) = m ((c : Thread nD τ).loc main_arg3) (ix2 0 k) := by
  blk_point [iblk, V, idx t]
theorem blk4 (c : Dev nD) (t : Fin cfg0.N) (r : Fin 512) (k : Fin 1024) :
    (show FVec Ideal S512x1024 .f32 from iblk m c 4 t) (ix2 r k) = m ((c : Thread nD τ).loc main_arg4) (ix2 ⟨t.val * 512 + r.val, by have := pt_lt t; omega⟩ k) := by
  blk_point [iblk, V, idx t]
theorem blk5 (c : Dev nD) (t : Fin cfg0.N) (r : Fin 512) (k : Fin 1024) :
    (show FVec Ideal S512x1024 .f32 from iblk m c 5 t) (ix2 r k) = m ((c : Thread nD τ).loc main_arg5) (ix2 ⟨t.val * 512 + r.val, by have := pt_lt t; omega⟩ k) := by
  blk_point [iblk, V, idx t]
theorem blk6 (c : Dev nD) (t : Fin cfg0.N) (k : Fin 1024) :
    (show FVec Ideal S1x1024 .f32 from iblk m c 6 t) (ix2 0 k) = m ((c : Thread nD τ).loc main_arg6) (ix2 0 k) := by
  blk_point [iblk, V, idx t]

/-! A point's block holds its rows of the whole. -/
theorem bdy_eq (c : Dev nD) (t : Fin cfg0.N) (r : Fin 512) (k : Fin 1024) :
    bdy (show FVec Ideal S4x512x1408 .bf16 from iblk m c 0 t) (show FVec Ideal S1024x5632 .bf16 from iblk m c 1 t) r k = gdy (m ((c : Thread nD τ).loc main_arg0)) (m ((c : Thread nD τ).loc main_arg1)) ⟨t.val * 512 + r.val, by have := pt_lt t; omega⟩ k := by
  simp only [bdy, gdy, blk0, blk1]
theorem bdx_eq (c : Dev nD) (t : Fin cfg0.N) (r : Fin 512) (k : Fin 1024) :
    bdx (show FVec Ideal S4x512x1408 .bf16 from iblk m c 0 t) (show FVec Ideal S1024x5632 .bf16 from iblk m c 1 t) (show FVec Ideal S512x1024 .f32 from iblk m c 2 t) (show FVec Ideal S1x1024 .f32 from iblk m c 3 t) (show FVec Ideal S512x1024 .f32 from iblk m c 4 t) r k = gdx (m ((c : Thread nD τ).loc main_arg0)) (m ((c : Thread nD τ).loc main_arg1)) (m ((c : Thread nD τ).loc main_arg2)) (m ((c : Thread nD τ).loc main_arg3)) (m ((c : Thread nD τ).loc main_arg4)) ⟨t.val * 512 + r.val, by have := pt_lt t; omega⟩ k := by
  simp only [bdx, gdx, bdy_eq m c t, blk2, blk3, blk4]
theorem bdg_eq (c : Dev nD) (t : Fin cfg0.N) (r : Fin 512) (k : Fin 1024) :
    bdg (show FVec Ideal S4x512x1408 .bf16 from iblk m c 0 t) (show FVec Ideal S1024x5632 .bf16 from iblk m c 1 t) (show FVec Ideal S512x1024 .f32 from iblk m c 2 t) r k = gdg (m ((c : Thread nD τ).loc main_arg0)) (m ((c : Thread nD τ).loc main_arg1)) (m ((c : Thread nD τ).loc main_arg2)) ⟨t.val * 512 + r.val, by have := pt_lt t; omega⟩ k := by
  simp only [bdg, gdg, bdy_eq m c t, blk2]
theorem bdf_eq (c : Dev nD) (t : Fin cfg0.N) (r : Fin 512) (k : Fin 1024) :
    bdf (show FVec Ideal S4x512x1408 .bf16 from iblk m c 0 t) (show FVec Ideal S1024x5632 .bf16 from iblk m c 1 t) (show FVec Ideal S512x1024 .f32 from iblk m c 2 t) (show FVec Ideal S1x1024 .f32 from iblk m c 3 t) (show FVec Ideal S512x1024 .f32 from iblk m c 4 t) (show FVec Ideal S512x1024 .f32 from iblk m c 5 t) (show FVec Ideal S1x1024 .f32 from iblk m c 6 t) r k = gdf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨t.val * 512 + r.val, by have := pt_lt t; omega⟩ k := by
  simp only [bdf, gdf, bdx_eq m c t, blk5, blk6]
theorem bdp_eq (c : Dev nD) (t : Fin cfg0.N) (r : Fin 512) (k : Fin 1024) :
    bdp (show FVec Ideal S4x512x1408 .bf16 from iblk m c 0 t) (show FVec Ideal S1024x5632 .bf16 from iblk m c 1 t) (show FVec Ideal S512x1024 .f32 from iblk m c 2 t) (show FVec Ideal S1x1024 .f32 from iblk m c 3 t) (show FVec Ideal S512x1024 .f32 from iblk m c 4 t) (show FVec Ideal S512x1024 .f32 from iblk m c 5 t) r k = gdp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨t.val * 512 + r.val, by have := pt_lt t; omega⟩ k := by
  simp only [bdp, gdp, bdx_eq m c t, blk5]

/-- The array of the input's gradient. -/
theorem final_dx (c : Dev nD) : (dats m 0 c).arrAt 7 cfg0.N = fun y : S4096x1024.Idx => gdx (m ((c : Thread nD τ).loc main_arg0)) (m ((c : Thread nD τ).loc main_arg1)) (m ((c : Thread nD τ).loc main_arg2)) (m ((c : Thread nD τ).loc main_arg3)) (m ((c : Thread nD τ).loc main_arg4)) (y 0) (y 1) := by
  refine (dats m 0 c).arrAt_eq_of_covers 7 _ (by decide +kernel) fun t hf y => ?_
  blk_simp
  rw [after0_7]
  idx_vars y
  have h0 : (win0_7.blk t).view.emb (ix2 y0 y1) 0 = (⟨t.val * 512 + y0.val, by have := pt_lt t; omega⟩ : Fin 4096) := by
    apply Fin.ext; blk_simp [idx t]
  have h1 : (win0_7.blk t).view.emb (ix2 y0 y1) 1 = (y1 : Fin 1024) := by
    apply Fin.ext; blk_simp [idx t]
  rw [h0, h1]
  exact (dx_at m c t y0 y1).trans (bdx_eq m c t y0 y1)

/-- A point's part of the gain's gradient. -/
theorem dg_part (c : Dev nD) (t : Fin 8) (b : Fin 1024) (T : Fin cfg0.N) (hT : T.val = t.val) :
    (∑ s : Fin 2, ∑ r : Fin 256, bdg (show FVec Ideal S4x512x1408 .bf16 from iblk m c 0 T) (show FVec Ideal S1024x5632 .bf16 from iblk m c 1 T) (show FVec Ideal S512x1024 .f32 from iblk m c 2 T) ⟨s.val * 256 + r.val, by omega⟩ b)
      = ∑ r : Fin 512, gdg (m ((c : Thread nD τ).loc main_arg0)) (m ((c : Thread nD τ).loc main_arg1)) (m ((c : Thread nD τ).loc main_arg2)) ⟨t.val * 512 + r.val, by omega⟩ b := by
  refine Fin.sum_mul_add_congr fun s r hl => ?_
  rw [bdg_eq]
  exact congrArg (fun R => gdg (m ((c : Thread nD τ).loc main_arg0)) (m ((c : Thread nD τ).loc main_arg1)) (m ((c : Thread nD τ).loc main_arg2)) R b) (Fin.ext (by simp only [hT]))

/-- The array of the gain's gradient. -/
theorem final_dg (c : Dev nD) : (dats m 0 c).arrAt 8 cfg0.N = fun y : S1x1024.Idx => (show EReal from ∑ r : Fin 4096, gdg (m ((c : Thread nD τ).loc main_arg0)) (m ((c : Thread nD τ).loc main_arg1)) (m ((c : Thread nD τ).loc main_arg2)) r (y 1)) := by
  refine (dats m 0 c).arrAt_eq_of_after_last 8 t0_7 (by decide +kernel) _ fun j => ?_
  blk_simp
  idx_vars j
  obtain rfl : j0 = 0 := Subsingleton.elim _ _
  rw [after0_8]
  rw [Pipeline.eq_sum_fin_of_reset_step_apply_last (fun n h => (outsAt0 m c n h).2.1) 8 (fun _ => 0)
    (fun t j => ∑ s : Fin 2, ∑ r : Fin 256, bdg (show FVec Ideal S4x512x1408 .bf16 from iblk m c 0 t) (show FVec Ideal S1024x5632 .bf16 from iblk m c 1 t) (show FVec Ideal S512x1024 .f32 from iblk m c 2 t) ⟨s.val * 256 + r.val, by omega⟩ (j 1))
    (fun t h j => by idx_vars j; obtain rfl : j0 = 0 := Subsingleton.elim _ _; exact dg_A m c t h _)
    (fun t h j => by idx_vars j; obtain rfl : j0 = 0 := Subsingleton.elim _ _; exact dg_B m c t h _) (le_of_eq N_0) t0_7 rfl, zero_add]
  exact (Finset.sum_congr rfl fun p _ => dg_part m c p j1 _ rfl).trans (Fin.sum_mul_add_congr fun s k hl => rfl)

/-- The array of the second norm's gradient. -/
theorem final_df (c : Dev nD) : (dats m 0 c).arrAt 9 cfg0.N = fun y : S4096x1024.Idx => gdf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (y 0) (y 1) := by
  refine (dats m 0 c).arrAt_eq_of_covers 9 _ (by decide +kernel) fun t hf y => ?_
  blk_simp
  rw [after0_9]
  idx_vars y
  have h0 : (win0_9.blk t).view.emb (ix2 y0 y1) 0 = (⟨t.val * 512 + y0.val, by have := pt_lt t; omega⟩ : Fin 4096) := by
    apply Fin.ext; blk_simp [idx t]
  have h1 : (win0_9.blk t).view.emb (ix2 y0 y1) 1 = (y1 : Fin 1024) := by
    apply Fin.ext; blk_simp [idx t]
  rw [h0, h1]
  exact (df_at m c t y0 y1).trans (bdf_eq m c t y0 y1)

/-- A point's part of the second gain's gradient. -/
theorem dp_part (c : Dev nD) (t : Fin 8) (b : Fin 1024) (T : Fin cfg0.N) (hT : T.val = t.val) :
    (∑ s : Fin 2, ∑ r : Fin 256, bdp (show FVec Ideal S4x512x1408 .bf16 from iblk m c 0 T) (show FVec Ideal S1024x5632 .bf16 from iblk m c 1 T) (show FVec Ideal S512x1024 .f32 from iblk m c 2 T) (show FVec Ideal S1x1024 .f32 from iblk m c 3 T) (show FVec Ideal S512x1024 .f32 from iblk m c 4 T) (show FVec Ideal S512x1024 .f32 from iblk m c 5 T) ⟨s.val * 256 + r.val, by omega⟩ b)
      = ∑ r : Fin 512, gdp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨t.val * 512 + r.val, by omega⟩ b := by
  refine Fin.sum_mul_add_congr fun s r hl => ?_
  rw [bdp_eq]
  exact congrArg (fun R => gdp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) R b) (Fin.ext (by simp only [hT]))

/-- The array of the second gain's gradient. -/
theorem final_dp (c : Dev nD) : (dats m 0 c).arrAt 10 cfg0.N = fun y : S1x1024.Idx => (show EReal from ∑ r : Fin 4096, gdp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r (y 1)) := by
  refine (dats m 0 c).arrAt_eq_of_after_last 10 t0_7 (by decide +kernel) _ fun j => ?_
  blk_simp
  idx_vars j
  obtain rfl : j0 = 0 := Subsingleton.elim _ _
  rw [after0_10]
  rw [Pipeline.eq_sum_fin_of_reset_step_apply_last (fun n h => (outsAt0 m c n h).2.2.2) 8 (fun _ => 0)
    (fun t j => ∑ s : Fin 2, ∑ r : Fin 256, bdp (show FVec Ideal S4x512x1408 .bf16 from iblk m c 0 t) (show FVec Ideal S1024x5632 .bf16 from iblk m c 1 t) (show FVec Ideal S512x1024 .f32 from iblk m c 2 t) (show FVec Ideal S1x1024 .f32 from iblk m c 3 t) (show FVec Ideal S512x1024 .f32 from iblk m c 4 t) (show FVec Ideal S512x1024 .f32 from iblk m c 5 t) ⟨s.val * 256 + r.val, by omega⟩ (j 1))
    (fun t h j => by idx_vars j; obtain rfl : j0 = 0 := Subsingleton.elim _ _; exact dp_A m c t h _)
    (fun t h j => by idx_vars j; obtain rfl : j0 = 0 := Subsingleton.elim _ _; exact dp_B m c t h _) (le_of_eq N_0) t0_7 rfl, zero_add]
  exact (Finset.sum_congr rfl fun p _ => dp_part m c p j1 _ rfl).trans (Fin.sum_mul_add_congr fun s k hl => rfl)

end Cert.InDx2Ideal.Value

namespace Cert.InDx2RefIdeal.Value

open Cert.InDx2RefIdeal Cert.InDx2RefIdeal.Gen Idealize.ShloMosaic Idealize.ShloMosaic.TcCoe Idealize.SL.Sem Cert.Norm

/-! The reference, cut at the values it reads more than once. -/

/-- The gradient of the normed input. -/
def rdy (dab : FVec Ideal S4x4096x1408 .bf16) (w : FVec Ideal S1024x5632 .bf16) : FVec Ideal S4096x1024 .f32 :=
  Host.dotGeneral dot_S4096x5632_S1024x5632_S4096x1024_1_1_0_0_n_n none (shapeCast _ (transpose S4096x4x1408 [1, 0, 2] (extf .f32 dab bitsLt_bf16_f32) transposes_S4x4096x1408_S4096x4x1408_1_0_2) shapeCasts_S4096x4x1408_S4096x5632) (extf .f32 w bitsLt_bf16_f32)
/-- The mean square of each row, and the small constant. -/
def msq (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
/-- A gain times each row. -/
def scaled (y : FVec Ideal S4096x1024 .f32) (g : FVec Ideal S1x1024 .f32) : FVec Ideal S4096x1024 .f32 := mulf y (broadcastInDim S4096x1024 ![0, 1] bcast_S1x1024_S4096x1024_0_1 g)
/-- The part of the gradient which goes through the mean. -/
def thru (x d : FVec Ideal S4096x1024 .f32) (r ms : FVec Ideal S4096x1 .f32) : FVec Ideal S4096x1024 .f32 :=
  broadcastInDim S4096x1024 ![0] bcast_S4096_S4096x1024_0 (Host.reduceAdd (Host.divf (mulf (shapeCast _ (Host.reduceAdd (mulf x d) (constant S_ .f32 0x00000000#32) reducesTo_S4096x1024_S4096_d1 h_S_) shapeCasts_S4096_S4096x1) (mulf (broadcastInDim S4096x1 ![] bcast_S_S4096x1 (constant S_ .f32 0xBF000000#32)) (Host.divf r ms))) (broadcastInDim S4096x1 ![] bcast_S_S4096x1 (constant S_ .f32 0x44800000#32))) (constant S_ .f32 0x00000000#32) reducesTo_S4096x1_S4096_d1 h_S_)
/-- The gradient of the norm's input, with what is added to it. -/
def back (res x d t : FVec Ideal S4096x1024 .f32) (r : FVec Ideal S4096x1 .f32) : FVec Ideal S4096x1024 .f32 :=
  addf (addf (addf res (mulf d (broadcastInDim S4096x1024 ![0, 1] bcast_S4096x1_S4096x1024_0_1 r))) (mulf x t)) (mulf t x)
/-- The gradient of the gain. -/
def gain (x y : FVec Ideal S4096x1024 .f32) (r : FVec Ideal S4096x1 .f32) : FVec Ideal S1x1024 .f32 :=
  shapeCast _ (Host.reduceAdd (mulf (mulf x (broadcastInDim S4096x1024 ![0, 1] bcast_S4096x1_S4096x1024_0_1 r)) y) (constant S_ .f32 0x00000000#32) reducesTo_S4096x1024_S1024_d0 h_S_) shapeCasts_S1024_S1x1024
/-- The gradient of the second norm's input. -/
def back2 (x d t : FVec Ideal S4096x1024 .f32) (r : FVec Ideal S4096x1 .f32) : FVec Ideal S4096x1024 .bf16 :=
  truncf .bf16 (addf (addf (mulf d (broadcastInDim S4096x1024 ![0, 1] bcast_S4096x1_S4096x1024_0_1 r)) (mulf x t)) (mulf t x)) bitsLt_bf16_f32

/-- The gradient of the input, whole. -/
def rdx (dab : FVec Ideal S4x4096x1408 .bf16) (w : FVec Ideal S1024x5632 .bf16) (x : FVec Ideal S4096x1024 .f32) (g : FVec Ideal S1x1024 .f32) (dres : FVec Ideal S4096x1024 .f32) : FVec Ideal S4096x1024 .f32 :=
  back dres x (scaled (rdy dab w) g) (thru x (scaled (rdy dab w) g) (Host.rsqrt (msq x)) (msq x)) (Host.rsqrt (msq x))
/-- The gradient of the second norm's input, whole. -/
def rdf (e f : FVec Ideal S4096x1024 .f32) (gp : FVec Ideal S1x1024 .f32) : FVec Ideal S4096x1024 .bf16 :=
  back2 f (scaled e gp) (thru f (scaled e gp) (Host.rsqrt (msq f)) (msq f)) (Host.rsqrt (msq f))

variable (m : (ℓ : Loc nD τ sig) → Buf (Elt Ideal) ℓ)

theorem dx_eq (c : Dev nD) : res_main_v40 (F := Ideal) m c = rdx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold res_main_v40; rfl
theorem df_eq (c : Dev nD) : res_main_v75 (F := Ideal) m c = rdf (rdx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6)) := by
  unfold res_main_v75; rfl
theorem dp_eq (c : Dev nD) : res_main_v58 (F := Ideal) m c = gain (m ((c.tc : Thread nD τ).loc main_arg5)) (rdx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (Host.rsqrt (msq (m ((c.tc : Thread nD τ).loc main_arg5)))) := by
  unfold res_main_v58; rfl

theorem rdy_at (dab : FVec Ideal S4x4096x1408 .bf16) (w : FVec Ideal S1024x5632 .bf16) (r : Fin 4096) (c : Fin 1024) : rdy dab w (ix2 r c) = Cert.InDx2Ideal.Value.gdy dab w r c := by
  pointwise [rdy]
  refine (Fin.sum_mul_add_congr fun q k hl => ?_).symm
  first | rfl | (refine congrArg (fun z => z * _) ?_; refine congrArg dab ?_; blk_ext)
theorem msq_at (x : FVec Ideal S4096x1024 .f32) (r : Fin 4096) : msq x (ix2 r 0) = ms (fun k => x (ix2 r k)) := by
  pointwise [msq]; rfl
theorem rsq_at (x : FVec Ideal S4096x1024 .f32) (r : Fin 4096) : Host.rsqrt (F := Ideal) (msq x) (ix2 r 0) = rn (fun k => x (ix2 r k)) := by
  pointwise
  rw [msq_at]; rfl
theorem scaled_at (y : FVec Ideal S4096x1024 .f32) (g : FVec Ideal S1x1024 .f32) (r : Fin 4096) (c : Fin 1024) : scaled y g (ix2 r c) = y (ix2 r c) * g (ix2 0 c) := by
  pointwise [scaled]
theorem thru_at (x d : FVec Ideal S4096x1024 .f32) (r : Fin 4096) (c : Fin 1024) :
    thru x d (Host.rsqrt (msq x)) (msq x) (ix2 r c) = rmean (fun k => x (ix2 r k)) (fun k => d (ix2 r k)) := by
  pointwise [thru]
  refine (Fin.sum_univ_one _).trans ?_
  rw [msq_at]; rfl
theorem back_at (res x d t : FVec Ideal S4096x1024 .f32) (R : FVec Ideal S4096x1 .f32) (r : Fin 4096) (c : Fin 1024) :
    back res x d t R (ix2 r c) = res (ix2 r c) + d (ix2 r c) * R (ix2 r 0) + x (ix2 r c) * t (ix2 r c) + t (ix2 r c) * x (ix2 r c) := by
  pointwise [back]
theorem gain_at (x y : FVec Ideal S4096x1024 .f32) (R : FVec Ideal S4096x1 .f32) (c : Fin 1024) :
    gain x y R (ix2 0 c) = ∑ r : Fin 4096, x (ix2 r c) * R (ix2 r 0) * y (ix2 r c) := by
  pointwise [gain]
theorem rdx_at (dab : FVec Ideal S4x4096x1408 .bf16) (w : FVec Ideal S1024x5632 .bf16) (x : FVec Ideal S4096x1024 .f32) (g : FVec Ideal S1x1024 .f32) (dres : FVec Ideal S4096x1024 .f32) (r : Fin 4096) (c : Fin 1024) :
    rdx dab w x g dres (ix2 r c) = Cert.InDx2Ideal.Value.gdx dab w x g dres r c := by
  rw [rdx, back_at, rsq_at, thru_at]
  refine (ref_res_eq (fun k => x (ix2 r k)) (fun k => scaled (rdy dab w) g (ix2 r k)) _ c).trans ?_
  simp only [scaled_at, rdy_at]
  rfl
theorem dg_at (dab : FVec Ideal S4x4096x1408 .bf16) (w : FVec Ideal S1024x5632 .bf16) (x : FVec Ideal S4096x1024 .f32) (c : Fin 1024) :
    gain x (rdy dab w) (Host.rsqrt (msq x)) (ix2 0 c) = ∑ r : Fin 4096, Cert.InDx2Ideal.Value.gdg dab w x r c := by
  rw [gain_at]
  exact Finset.sum_congr rfl fun r _ => by rw [rsq_at, rdy_at, mul_comm]; rfl
theorem back2_at (x d t : FVec Ideal S4096x1024 .f32) (R : FVec Ideal S4096x1 .f32) (r : Fin 4096) (c : Fin 1024) :
    back2 x d t R (ix2 r c) = d (ix2 r c) * R (ix2 r 0) + x (ix2 r c) * t (ix2 r c) + t (ix2 r c) * x (ix2 r c) := by
  pointwise [back2]
theorem rdf_at (dab : FVec Ideal S4x4096x1408 .bf16) (w : FVec Ideal S1024x5632 .bf16) (x : FVec Ideal S4096x1024 .f32) (g : FVec Ideal S1x1024 .f32) (dres f : FVec Ideal S4096x1024 .f32) (gp : FVec Ideal S1x1024 .f32) (r : Fin 4096) (c : Fin 1024) :
    rdf (rdx dab w x g dres) f gp (ix2 r c) = Cert.InDx2Ideal.Value.gdf dab w x g dres f gp r c := by
  rw [rdf, back2_at, rsq_at, thru_at]
  refine (ref_eq (fun k => f (ix2 r k)) (fun k => scaled (rdx dab w x g dres) gp (ix2 r k)) c).trans ?_
  simp only [scaled_at, rdx_at]
  rfl
theorem dp_at (dab : FVec Ideal S4x4096x1408 .bf16) (w : FVec Ideal S1024x5632 .bf16) (x : FVec Ideal S4096x1024 .f32) (g : FVec Ideal S1x1024 .f32) (dres f : FVec Ideal S4096x1024 .f32) (c : Fin 1024) :
    gain f (rdx dab w x g dres) (Host.rsqrt (msq f)) (ix2 0 c) = ∑ r : Fin 4096, Cert.InDx2Ideal.Value.gdp dab w x g dres f r c := by
  rw [gain_at]
  exact Finset.sum_congr rfl fun r _ => by rw [rsq_at, rdx_at, mul_comm]; rfl

end Cert.InDx2RefIdeal.Value

namespace Cert.InDx2.Claims

open Idealize.ShloMosaic Idealize.SL.Sem

/-- The reference runs and keeps its arguments. -/
theorem frameR : quiescent_InDx2RefIdeal := by
  intro m ρ _
  exact (θ_run Cert.InDx2RefIdeal.defs _ _).mono (fun r h => ⟨fun c => (h c).2.2.2.2, sem_eq_zero_of_no_sems (by decide) r.2⟩) (Cert.InDx2RefIdeal.Value.run m ρ)

/-- The kernel's gradients are the reference's. -/
theorem algebraic : algebraic_InDx2Ideal_InDx2RefIdeal := fun m ρ m' ρ' _ hag =>
  ⟨_, _, _, _,
    (θ_run _ _ _).mono (fun _ h c => ⟨(h c).1.trans (Cert.InDx2Ideal.Value.final_dx m c), (h c).2.1.trans (Cert.InDx2Ideal.Value.final_dg m c), (h c).2.2.1.trans (Cert.InDx2Ideal.Value.final_df m c), (h c).2.2.2.1.trans (Cert.InDx2Ideal.Value.final_dp m c), (h c).2.2.2.2⟩)
      (Cert.InDx2Ideal.Value.run_blocks m ρ),
    (θ_run _ _ _).mono (fun _ h c => by
        refine ⟨?_, ?_, ?_, ?_, (h c).2.2.2.2⟩
        · refine (h c).1.trans ((Cert.InDx2RefIdeal.Value.dx_eq m' c).trans ?_)
          rw [(hag c).1, (hag c).2.1, (hag c).2.2.1, (hag c).2.2.2.1, (hag c).2.2.2.2.1]
          funext y
          idx_vars y
          exact Cert.InDx2RefIdeal.Value.rdx_at _ _ _ _ _ y0 y1
        · refine (h c).2.1.trans ?_
          show Cert.InDx2RefIdeal.Value.gain (m' ((c.tc : Thread Cert.InDx2RefIdeal.nD Cert.InDx2RefIdeal.τ).loc Cert.InDx2RefIdeal.main_arg2)) (Cert.InDx2RefIdeal.Value.rdy (m' ((c.tc : Thread Cert.InDx2RefIdeal.nD Cert.InDx2RefIdeal.τ).loc Cert.InDx2RefIdeal.main_arg0)) (m' ((c.tc : Thread Cert.InDx2RefIdeal.nD Cert.InDx2RefIdeal.τ).loc Cert.InDx2RefIdeal.main_arg1))) (Host.rsqrt (F := Ideal) (Cert.InDx2RefIdeal.Value.msq (m' ((c.tc : Thread Cert.InDx2RefIdeal.nD Cert.InDx2RefIdeal.τ).loc Cert.InDx2RefIdeal.main_arg2)))) = _
          rw [(hag c).1, (hag c).2.1, (hag c).2.2.1]
          funext y
          idx_vars y
          obtain rfl : y0 = 0 := Subsingleton.elim _ _
          exact Cert.InDx2RefIdeal.Value.dg_at _ _ _ y1
        · refine (h c).2.2.1.trans ((Cert.InDx2RefIdeal.Value.df_eq m' c).trans ?_)
          rw [(hag c).1, (hag c).2.1, (hag c).2.2.1, (hag c).2.2.2.1, (hag c).2.2.2.2.1, (hag c).2.2.2.2.2.1, (hag c).2.2.2.2.2.2]
          funext y
          idx_vars y
          exact Cert.InDx2RefIdeal.Value.rdf_at _ _ _ _ _ _ _ y0 y1
        · refine (h c).2.2.2.1.trans ((Cert.InDx2RefIdeal.Value.dp_eq m' c).trans ?_)
          rw [(hag c).1, (hag c).2.1, (hag c).2.2.1, (hag c).2.2.2.1, (hag c).2.2.2.2.1, (hag c).2.2.2.2.2.1]
          funext y
          idx_vars y
          obtain rfl : y0 = 0 := Subsingleton.elim _ _
          exact Cert.InDx2RefIdeal.Value.dp_at _ _ _ _ _ _ y1
        )
      (Cert.InDx2RefIdeal.Value.run m' ρ')⟩

end Cert.InDx2.Claims
-- ==== Proof.TailBwdKernel.lean ====
module

public import proofs.«01_k».proof.Proof.Gen.TailBwdIdeal.Value
public import proofs.«01_k».proof.Proof.Gen.TailBwdRefIdeal.Run
public import proofs.«01_k».proof.Defs
public import Idealize.ShloMosaic.Lib.Pointwise
public import Idealize.ShloMosaic.Lib.Pipeline.ValueKit
public import Idealize.ShloMosaic.Lib.Pipeline.ReadBack
public import Idealize.ShloMosaic.Adequacy
public import proofs.«01_k».proof.Proof.OutDxProof

@[expose] public section

set_option maxRecDepth 16384

noncomputable section

namespace Cert.TailBwdIdeal.Value

open Cert.TailBwdIdeal Cert.TailBwdIdeal.Gen Idealize.ShloMosaic Idealize.ShloMosaic.TcCoe Idealize.SL.Sem
open Idealize.ShloMosaic.Pipeline

/-! The gradients of the mixer's branches, of their gates and of what their projections take; two sub-blocks of 256 rows in each block of 512. -/

open Cert.OutDxIdeal.Value (lgs)

/-- A row of the merged branches' gradient. -/
def dm (d : Fin 1024 → EReal) (w : FVec Ideal S1024x1024 .bf16) (c : Fin 1024) : EReal := ∑ k : Fin 1024, d k * w (ix2 c k)
/-- A row of a branch's gradient, from the row `g` of its gates. -/
def dyv (d : Fin 1024 → EReal) (w : FVec Ideal S1024x1024 .bf16) (g : Fin 1024 → EReal) (c : Fin 1024) : EReal := dm d w c * lgs (g c)
/-- A row of a gate's gradient. -/
def dgv (d : Fin 1024 → EReal) (w : FVec Ideal S1024x1024 .bf16) (g y : Fin 1024 → EReal) (c : Fin 1024) : EReal := dm d w c * y c * lgs (g c) * (1 - lgs (g c))
/-- A row of the gradient of what a projection takes. -/
def da (d : Fin 1024 → EReal) (w : FVec Ideal S1024x1024 .bf16) (g : Fin 1024 → EReal) (v : FVec Ideal S1024x1024 .bf16) (c : Fin 1024) : EReal := ∑ k : Fin 1024, dyv d w g k * v (ix2 c k)
def db (d : Fin 1024 → EReal) (w : FVec Ideal S1024x1024 .bf16) (g : Fin 1024 → EReal) (v : FVec Ideal S512x1024 .bf16) (c : Fin 512) : EReal := ∑ k : Fin 1024, dyv d w g k * v (ix2 c k)
/-- Branch `b`'s part of a row of gates. -/
def part (b : Fin 3) (g : Fin 3072 → EReal) (k : Fin 1024) : EReal := g ⟨b.val * 1024 + k.val, by omega⟩
/-- A row of all the gates' gradient. -/
def dg3 (d : Fin 1024 → EReal) (w : FVec Ideal S1024x1024 .bf16) (g : Fin 3072 → EReal) (y : Fin 3 → Fin 1024 → EReal) (c : Fin 3072) : EReal :=
  dgv d w (part ⟨c.val / 1024, by omega⟩ g) (y ⟨c.val / 1024, by omega⟩) ⟨c.val % 1024, by omega⟩

section at_
variable (x : FVec Ideal S256x1024 .bf16) (w : FVec Ideal S1024x1024 .bf16) (g y : FVec Ideal S256x1024 .bf16) (v : FVec Ideal S1024x1024 .bf16) (u : FVec Ideal S512x1024 .bf16)
theorem pay5_at (r : Fin 256) (c : Fin 1024) : k0_pay5 (F := Ideal) x w (ix2 r c) = dm (fun k => x (ix2 r k)) w c := by
  pointwise [k0_pay5]; rfl
theorem pay7_at (r : Fin 256) (c : Fin 1024) : k0_pay7 (F := Ideal) x w g (ix2 r c) = dyv (fun k => x (ix2 r k)) w (fun k => g (ix2 r k)) c := by
  pointwise [k0_pay7, k0_pay6, pay5_at]; rfl
theorem pay8_at (r : Fin 256) (c : Fin 1024) : k0_pay8 (F := Ideal) x w g y (ix2 r c) = dgv (fun k => x (ix2 r k)) w (fun k => g (ix2 r k)) (fun k => y (ix2 r k)) c := by
  pointwise [k0_pay8, k0_pay6, pay5_at]; rfl
theorem pay9_at (r : Fin 256) (c : Fin 1024) : k0_pay9 (F := Ideal) x w g v (ix2 r c) = da (fun k => x (ix2 r k)) w (fun k => g (ix2 r k)) v c := by
  pointwise [k0_pay9, pay7_at]; rfl
theorem pay19_at (r : Fin 256) (c : Fin 512) : k0_pay19 (F := Ideal) (k0_pay7 x w g) u (ix2 r c) = db (fun k => x (ix2 r k)) w (fun k => g (ix2 r k)) u c := by
  pointwise [k0_pay19, pay7_at]; rfl
theorem pay22_eq : k0_pay22 (F := Ideal) x w g = k0_pay7 x w g := rfl
theorem pay28_eq : k0_pay28 (F := Ideal) (k0_pay20 x w) g = k0_pay7 x w g := rfl
theorem pay13_eq : k0_pay13 (F := Ideal) (k0_pay5 x w) (k0_pay10 g) (k0_pay11 (F := Ideal)) = k0_pay7 x w g := rfl
theorem pay2_eq : k0_pay2 (F := Ideal) (k0_pay20 x w) g = k0_pay7 x w g := rfl
theorem pay17_eq : k0_pay17 (F := Ideal) (k0_pay5 x w) g = k0_pay7 x w g := rfl
theorem pay3_eq : k0_pay3 (F := Ideal) (k0_pay20 x w) g y = k0_pay8 x w g y := rfl
theorem pay29_eq : k0_pay29 (F := Ideal) (k0_pay20 x w) g y = k0_pay8 x w g y := rfl
theorem pay25_eq : k0_pay25 (F := Ideal) (k0_pay21 g) (k0_pay23 x w g y) (k0_pay24 (F := Ideal)) = k0_pay8 x w g y := rfl
theorem pay18_eq : k0_pay18 (F := Ideal) (k0_pay5 x w) (k0_pay16 g) y = k0_pay8 x w g y := rfl
theorem pay14_eq : k0_pay14 (F := Ideal) (k0_pay5 x w) (k0_pay10 g) (k0_pay11 (F := Ideal)) y = k0_pay8 x w g y := rfl
theorem pay26_eq : k0_pay26 (F := Ideal) (k0_pay7 x w g) v = k0_pay9 x w g v := rfl
theorem pay15_eq : k0_pay15 (F := Ideal) (k0_pay5 x w) (k0_pay10 g) (k0_pay11 (F := Ideal)) u = k0_pay19 (k0_pay7 x w g) u := rfl
theorem pay30_eq : k0_pay30 (F := Ideal) (k0_pay20 x w) g u = k0_pay19 (k0_pay7 x w g) u := rfl
theorem pay4_eq : k0_pay4 (F := Ideal) (k0_pay20 x w) g u = k0_pay19 (k0_pay7 x w g) u := rfl
end at_

section stores
variable (X : FVec Ideal S512x1024 .bf16) (W : FVec Ideal S1024x1024 .bf16) (G : FVec Ideal S512x3072 .bf16) (Y : Fin 3 → FVec Ideal S512x1024 .bf16) (V : FVec Ideal S1024x1024 .bf16) (U : FVec Ideal S512x1024 .bf16) (q : Fin 2) (b : Fin 3)
  (x : FVec Ideal S256x1024 .bf16) (w : FVec Ideal S1024x1024 .bf16) (g y : FVec Ideal S256x1024 .bf16) (v : FVec Ideal S1024x1024 .bf16) (u : FVec Ideal S512x1024 .bf16)

theorem whole1 (h : ∀ i k, w (ix2 i k) = W (ix2 i k)) : w = W := by
  funext i; idx_vars i; exact h _ _
theorem whole5 (h : ∀ i k, u (ix2 i k) = U (ix2 i k)) : u = U := by
  funext i; idx_vars i; exact h _ _

theorem store_dy (hx : ∀ r k, x (ix2 r k) = X (ix2 ⟨q.val * 256 + r.val, by omega⟩ k)) (hw : ∀ i k, w (ix2 i k) = W (ix2 i k))
    (hg : ∀ r k, g (ix2 r k) = G (ix2 ⟨q.val * 256 + r.val, by omega⟩ ⟨b.val * 1024 + k.val, by omega⟩)) (r : Fin 256) (c : Fin 1024) (R : Fin 512) (hR : R.val = q.val * 256 + r.val) :
    k0_pay7 (F := Ideal) x w g (ix2 r c) = dyv (fun k => X (ix2 R k)) W (part b fun k => G (ix2 R k)) c := by
  have e : ∀ p, (⟨q.val * 256 + r.val, p⟩ : Fin 512) = R := fun p => Fin.ext hR.symm
  obtain rfl := whole1 W w hw
  rw [pay7_at]
  simp only [hx, hg, e]
  rfl

theorem store_dg (hx : ∀ r k, x (ix2 r k) = X (ix2 ⟨q.val * 256 + r.val, by omega⟩ k)) (hw : ∀ i k, w (ix2 i k) = W (ix2 i k))
    (hg : ∀ r k, g (ix2 r k) = G (ix2 ⟨q.val * 256 + r.val, by omega⟩ ⟨b.val * 1024 + k.val, by omega⟩))
    (hy : ∀ r k, y (ix2 r k) = Y b (ix2 ⟨q.val * 256 + r.val, by omega⟩ k)) (r : Fin 256) (c : Fin 1024) (R : Fin 512) (C : Fin 3072) (hR : R.val = q.val * 256 + r.val) (hC : C.val = b.val * 1024 + c.val) :
    k0_pay8 (F := Ideal) x w g y (ix2 r c) = dg3 (fun k => X (ix2 R k)) W (fun k => G (ix2 R k)) (fun b k => Y b (ix2 R k)) C := by
  have e : ∀ p, (⟨q.val * 256 + r.val, p⟩ : Fin 512) = R := fun p => Fin.ext hR.symm
  have e1 : ∀ p, (⟨C.val / 1024, p⟩ : Fin 3) = b := fun p => Fin.ext (show C.val / 1024 = b.val by omega)
  have e2 : ∀ p, (⟨C.val % 1024, p⟩ : Fin 1024) = c := fun p => Fin.ext (show C.val % 1024 = c.val by omega)
  obtain rfl := whole1 W w hw
  rw [pay8_at, dg3, e1, e2]
  simp only [hx, hg, hy, e]
  rfl

theorem store_da (hx : ∀ r k, x (ix2 r k) = X (ix2 ⟨q.val * 256 + r.val, by omega⟩ k)) (hw : ∀ i k, w (ix2 i k) = W (ix2 i k))
    (hg : ∀ r k, g (ix2 r k) = G (ix2 ⟨q.val * 256 + r.val, by omega⟩ ⟨b.val * 1024 + k.val, by omega⟩)) (hv : ∀ i k, v (ix2 i k) = V (ix2 i k))
    (r : Fin 256) (c : Fin 1024) (R : Fin 512) (hR : R.val = q.val * 256 + r.val) :
    k0_pay9 (F := Ideal) x w g v (ix2 r c) = da (fun k => X (ix2 R k)) W (part b fun k => G (ix2 R k)) V c := by
  have e : ∀ p, (⟨q.val * 256 + r.val, p⟩ : Fin 512) = R := fun p => Fin.ext hR.symm
  obtain rfl := whole1 W w hw
  obtain rfl := whole1 V v hv
  rw [pay9_at]
  simp only [hx, hg, e]
  rfl

theorem store_db (hx : ∀ r k, x (ix2 r k) = X (ix2 ⟨q.val * 256 + r.val, by omega⟩ k)) (hw : ∀ i k, w (ix2 i k) = W (ix2 i k))
    (hg : ∀ r k, g (ix2 r k) = G (ix2 ⟨q.val * 256 + r.val, by omega⟩ ⟨b.val * 1024 + k.val, by omega⟩)) (hu : ∀ i k, u (ix2 i k) = U (ix2 i k))
    (r : Fin 256) (c : Fin 512) (R : Fin 512) (hR : R.val = q.val * 256 + r.val) :
    k0_pay19 (F := Ideal) (k0_pay7 x w g) u (ix2 r c) = db (fun k => X (ix2 R k)) W (part b fun k => G (ix2 R k)) U c := by
  have e : ∀ p, (⟨q.val * 256 + r.val, p⟩ : Fin 512) = R := fun p => Fin.ext hR.symm
  obtain rfl := whole1 W w hw
  obtain rfl := whole5 U u hu
  rw [pay19_at]
  simp only [hx, hg, e]
  rfl
end stores

section outs
variable (x0 : FVec Ideal S512x1024 .bf16) (x1 : FVec Ideal S512x3072 .bf16) (x2 x3 x4 : FVec Ideal S512x1024 .bf16) (x5 : FVec Ideal S1024x1024 .bf16) (x6 x7 : FVec Ideal S512x1024 .bf16) (x8 : FVec Ideal S1024x1024 .bf16)

theorem out9_at (r : Fin 512) (c : Fin 1024) : out0_9 (F := Ideal) x0 x1 x2 x3 x4 x5 x6 x7 x8 (ix2 r c) = dyv (fun k => x0 (ix2 r k)) x8 (part 0 fun k => x1 (ix2 r k)) c := by
  frame_out
  canon_tiles y hy
  all_goals (idx_vars y; try simp only [pay22_eq, pay28_eq, pay13_eq, pay2_eq, pay17_eq, pay3_eq, pay29_eq, pay25_eq, pay18_eq, pay14_eq, pay26_eq, pay15_eq, pay30_eq, pay4_eq])
  all_goals obtain rfl := Fin.ext hy1
  case piece0 =>
    refine store_dy x0 x8 x1 1 0 _ _ _ ?_ ?_ ?_ _ _ _ ?_
    all_goals first | (simp at hy0 ⊢; omega; done) | (simp at hy1 ⊢; omega; done) | omega | (intro r k; rfl) | (intro r k; pointwise; done) | (intro r k; pointwise; blk_ext)
  case piece1 =>
    refine store_dy x0 x8 x1 0 0 _ _ _ ?_ ?_ ?_ _ _ _ ?_
    all_goals first | (simp at hy0 ⊢; omega; done) | (simp at hy1 ⊢; omega; done) | omega | (intro r k; rfl) | (intro r k; pointwise; done) | (intro r k; pointwise; blk_ext)

theorem out10_at (r : Fin 512) (c : Fin 1024) : out0_10 (F := Ideal) x0 x1 x2 x3 x4 x5 x6 x7 x8 (ix2 r c) = dyv (fun k => x0 (ix2 r k)) x8 (part 1 fun k => x1 (ix2 r k)) c := by
  frame_out
  canon_tiles y hy
  all_goals (idx_vars y; try simp only [pay22_eq, pay28_eq, pay13_eq, pay2_eq, pay17_eq, pay3_eq, pay29_eq, pay25_eq, pay18_eq, pay14_eq, pay26_eq, pay15_eq, pay30_eq, pay4_eq])
  all_goals obtain rfl := Fin.ext hy1
  case piece0 =>
    refine store_dy x0 x8 x1 1 1 _ _ _ ?_ ?_ ?_ _ _ _ ?_
    all_goals first | (simp at hy0 ⊢; omega; done) | (simp at hy1 ⊢; omega; done) | omega | (intro r k; rfl) | (intro r k; pointwise; done) | (intro r k; pointwise; blk_ext)
  case piece1 =>
    refine store_dy x0 x8 x1 0 1 _ _ _ ?_ ?_ ?_ _ _ _ ?_
    all_goals first | (simp at hy0 ⊢; omega; done) | (simp at hy1 ⊢; omega; done) | omega | (intro r k; rfl) | (intro r k; pointwise; done) | (intro r k; pointwise; blk_ext)

theorem out11_at (r : Fin 512) (c : Fin 1024) : out0_11 (F := Ideal) x0 x1 x2 x3 x4 x5 x6 x7 x8 (ix2 r c) = dyv (fun k => x0 (ix2 r k)) x8 (part 2 fun k => x1 (ix2 r k)) c := by
  frame_out
  canon_tiles y hy
  all_goals (idx_vars y; try simp only [pay22_eq, pay28_eq, pay13_eq, pay2_eq, pay17_eq, pay3_eq, pay29_eq, pay25_eq, pay18_eq, pay14_eq, pay26_eq, pay15_eq, pay30_eq, pay4_eq])
  all_goals obtain rfl := Fin.ext hy1
  case piece0 =>
    refine store_dy x0 x8 x1 1 2 _ _ _ ?_ ?_ ?_ _ _ _ ?_
    all_goals first | (simp at hy0 ⊢; omega; done) | (simp at hy1 ⊢; omega; done) | omega | (intro r k; rfl) | (intro r k; pointwise; done) | (intro r k; pointwise; blk_ext)
  case piece1 =>
    refine store_dy x0 x8 x1 0 2 _ _ _ ?_ ?_ ?_ _ _ _ ?_
    all_goals first | (simp at hy0 ⊢; omega; done) | (simp at hy1 ⊢; omega; done) | omega | (intro r k; rfl) | (intro r k; pointwise; done) | (intro r k; pointwise; blk_ext)

theorem out12_at (r : Fin 512) (c : Fin 3072) : out0_12 (F := Ideal) x0 x1 x2 x3 x4 x5 x6 x7 x8 (ix2 r c) = dg3 (fun k => x0 (ix2 r k)) x8 (fun k => x1 (ix2 r k)) (fun b k => (![x2, x3, x4] : Fin 3 → FVec Ideal S512x1024 .bf16) b (ix2 r k)) c := by
  frame_out
  canon_tiles y hy
  all_goals (idx_vars y; try simp only [pay22_eq, pay28_eq, pay13_eq, pay2_eq, pay17_eq, pay3_eq, pay29_eq, pay25_eq, pay18_eq, pay14_eq, pay26_eq, pay15_eq, pay30_eq, pay4_eq])
  case piece0 =>
    refine store_dg x0 x8 x1 ![x2, x3, x4] 1 2 _ _ _ _ ?_ ?_ ?_ ?_ _ _ _ _ ?_ ?_
    all_goals first | (simp at hy0 ⊢; omega; done) | (simp at hy1 ⊢; omega; done) | omega | (intro r k; rfl) | (intro r k; pointwise; done) | (intro r k; pointwise; blk_ext)
  case piece1 =>
    refine store_dg x0 x8 x1 ![x2, x3, x4] 1 1 _ _ _ _ ?_ ?_ ?_ ?_ _ _ _ _ ?_ ?_
    all_goals first | (simp at hy0 ⊢; omega; done) | (simp at hy1 ⊢; omega; done) | omega | (intro r k; rfl) | (intro r k; pointwise; done) | (intro r k; pointwise; blk_ext)
  case piece2 =>
    refine store_dg x0 x8 x1 ![x2, x3, x4] 1 0 _ _ _ _ ?_ ?_ ?_ ?_ _ _ _ _ ?_ ?_
    all_goals first | (simp at hy0 ⊢; omega; done) | (simp at hy1 ⊢; omega; done) | omega | (intro r k; rfl) | (intro r k; pointwise; done) | (intro r k; pointwise; blk_ext)
  case piece3 =>
    refine store_dg x0 x8 x1 ![x2, x3, x4] 0 2 _ _ _ _ ?_ ?_ ?_ ?_ _ _ _ _ ?_ ?_
    all_goals first | (simp at hy0 ⊢; omega; done) | (simp at hy1 ⊢; omega; done) | omega | (intro r k; rfl) | (intro r k; pointwise; done) | (intro r k; pointwise; blk_ext)
  case piece4 =>
    refine store_dg x0 x8 x1 ![x2, x3, x4] 0 1 _ _ _ _ ?_ ?_ ?_ ?_ _ _ _ _ ?_ ?_
    all_goals first | (simp at hy0 ⊢; omega; done) | (simp at hy1 ⊢; omega; done) | omega | (intro r k; rfl) | (intro r k; pointwise; done) | (intro r k; pointwise; blk_ext)
  case piece5 =>
    refine store_dg x0 x8 x1 ![x2, x3, x4] 0 0 _ _ _ _ ?_ ?_ ?_ ?_ _ _ _ _ ?_ ?_
    all_goals first | (simp at hy0 ⊢; omega; done) | (simp at hy1 ⊢; omega; done) | omega | (intro r k; rfl) | (intro r k; pointwise; done) | (intro r k; pointwise; blk_ext)

theorem out13_at (r : Fin 512) (c : Fin 1024) : out0_13 (F := Ideal) x0 x1 x2 x3 x4 x5 x6 x7 x8 (ix2 r c) = da (fun k => x0 (ix2 r k)) x8 (part 0 fun k => x1 (ix2 r k)) x5 c := by
  frame_out
  canon_tiles y hy
  all_goals (idx_vars y; try simp only [pay22_eq, pay28_eq, pay13_eq, pay2_eq, pay17_eq, pay3_eq, pay29_eq, pay25_eq, pay18_eq, pay14_eq, pay26_eq, pay15_eq, pay30_eq, pay4_eq])
  all_goals obtain rfl := Fin.ext hy1
  case piece0 =>
    refine store_da x0 x8 x1 x5 1 0 _ _ _ _ ?_ ?_ ?_ ?_ _ _ _ ?_
    all_goals first | (simp at hy0 ⊢; omega; done) | (simp at hy1 ⊢; omega; done) | omega | (intro r k; rfl) | (intro r k; pointwise; done) | (intro r k; pointwise; blk_ext)
  case piece1 =>
    refine store_da x0 x8 x1 x5 0 0 _ _ _ _ ?_ ?_ ?_ ?_ _ _ _ ?_
    all_goals first | (simp at hy0 ⊢; omega; done) | (simp at hy1 ⊢; omega; done) | omega | (intro r k; rfl) | (intro r k; pointwise; done) | (intro r k; pointwise; blk_ext)

theorem out14_at (r : Fin 512) (c : Fin 512) : out0_14 (F := Ideal) x0 x1 x2 x3 x4 x5 x6 x7 x8 (ix2 r c) = db (fun k => x0 (ix2 r k)) x8 (part 1 fun k => x1 (ix2 r k)) x6 c := by
  frame_out
  canon_tiles y hy
  all_goals (idx_vars y; try simp only [pay22_eq, pay28_eq, pay13_eq, pay2_eq, pay17_eq, pay3_eq, pay29_eq, pay25_eq, pay18_eq, pay14_eq, pay26_eq, pay15_eq, pay30_eq, pay4_eq])
  all_goals obtain rfl := Fin.ext hy1
  case piece0 =>
    refine store_db x0 x8 x1 x6 1 1 _ _ _ _ ?_ ?_ ?_ ?_ _ _ _ ?_
    all_goals first | (simp at hy0 ⊢; omega; done) | (simp at hy1 ⊢; omega; done) | omega | (intro r k; rfl) | (intro r k; pointwise; done) | (intro r k; pointwise; blk_ext)
  case piece1 =>
    refine store_db x0 x8 x1 x6 0 1 _ _ _ _ ?_ ?_ ?_ ?_ _ _ _ ?_
    all_goals first | (simp at hy0 ⊢; omega; done) | (simp at hy1 ⊢; omega; done) | omega | (intro r k; rfl) | (intro r k; pointwise; done) | (intro r k; pointwise; blk_ext)

theorem out15_at (r : Fin 512) (c : Fin 512) : out0_15 (F := Ideal) x0 x1 x2 x3 x4 x5 x6 x7 x8 (ix2 r c) = db (fun k => x0 (ix2 r k)) x8 (part 2 fun k => x1 (ix2 r k)) x7 c := by
  frame_out
  canon_tiles y hy
  all_goals (idx_vars y; try simp only [pay22_eq, pay28_eq, pay13_eq, pay2_eq, pay17_eq, pay3_eq, pay29_eq, pay25_eq, pay18_eq, pay14_eq, pay26_eq, pay15_eq, pay30_eq, pay4_eq])
  all_goals obtain rfl := Fin.ext hy1
  case piece0 =>
    refine store_db x0 x8 x1 x7 1 2 _ _ _ _ ?_ ?_ ?_ ?_ _ _ _ ?_
    all_goals first | (simp at hy0 ⊢; omega; done) | (simp at hy1 ⊢; omega; done) | omega | (intro r k; rfl) | (intro r k; pointwise; done) | (intro r k; pointwise; blk_ext)
  case piece1 =>
    refine store_db x0 x8 x1 x7 0 2 _ _ _ _ ?_ ?_ ?_ ?_ _ _ _ ?_
    all_goals first | (simp at hy0 ⊢; omega; done) | (simp at hy1 ⊢; omega; done) | omega | (intro r k; rfl) | (intro r k; pointwise; done) | (intro r k; pointwise; blk_ext)

end outs

end Cert.TailBwdIdeal.Value
-- ==== Proof.TailBwdProof.lean ====
module

public import proofs.«01_k».proof.Proof.Gen.TailBwdIdeal.Value
public import proofs.«01_k».proof.Proof.Gen.TailBwdRefIdeal.Run
public import proofs.«01_k».proof.Defs
public import Idealize.ShloMosaic.Lib.Pointwise
public import Idealize.ShloMosaic.Lib.Pipeline.ValueKit
public import Idealize.ShloMosaic.Lib.Pipeline.ReadBack
public import Idealize.ShloMosaic.Adequacy
public import proofs.«01_k».proof.Proof.TailBwdKernel

@[expose] public section

set_option maxRecDepth 16384

noncomputable section

namespace Cert.TailBwdIdeal.Value

open Cert.TailBwdIdeal Cert.TailBwdIdeal.Gen Idealize.ShloMosaic Idealize.ShloMosaic.TcCoe Idealize.SL.Sem
open Idealize.ShloMosaic.Pipeline

/-! The arrays the kernel leaves, from its arguments. -/

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![0, 0] ∧ win0_7.index t = ![0, 0] ∧ win0_8.index t = ![0, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] :=
  (by decide +kernel : ∀ t : Fin grid0.N, _)

theorem pt_lt (t : Fin cfg0.N) : t.val < 8 := lt_of_lt_of_eq t.isLt N_0

variable (m : (ℓ : Loc nD τ sig) → Buf (Elt Ideal) ℓ)
theorem blk0 (c : Dev nD) (t : Fin cfg0.N) (r : Fin 512) (k : Fin 1024) :
    (show FVec Ideal S512x1024 .bf16 from iblk m c 0 t) (ix2 r k) = m ((c : Thread nD τ).loc main_arg0) (ix2 ⟨t.val * 512 + r.val, by have := pt_lt t; omega⟩ k) := by
  blk_point [iblk, V, idx t]
theorem blk1 (c : Dev nD) (t : Fin cfg0.N) (r : Fin 512) (k : Fin 3072) :
    (show FVec Ideal S512x3072 .bf16 from iblk m c 1 t) (ix2 r k) = m ((c : Thread nD τ).loc main_arg1) (ix2 ⟨t.val * 512 + r.val, by have := pt_lt t; omega⟩ k) := by
  blk_point [iblk, V, idx t]
theorem blk2 (c : Dev nD) (t : Fin cfg0.N) (r : Fin 512) (k : Fin 1024) :
    (show FVec Ideal S512x1024 .bf16 from iblk m c 2 t) (ix2 r k) = m ((c : Thread nD τ).loc main_arg2) (ix2 ⟨t.val * 512 + r.val, by have := pt_lt t; omega⟩ k) := by
  blk_point [iblk, V, idx t]
theorem blk3 (c : Dev nD) (t : Fin cfg0.N) (r : Fin 512) (k : Fin 1024) :
    (show FVec Ideal S512x1024 .bf16 from iblk m c 3 t) (ix2 r k) = m ((c : Thread nD τ).loc main_arg3) (ix2 ⟨t.val * 512 + r.val, by have := pt_lt t; omega⟩ k) := by
  blk_point [iblk, V, idx t]
theorem blk4 (c : Dev nD) (t : Fin cfg0.N) (r : Fin 512) (k : Fin 1024) :
    (show FVec Ideal S512x1024 .bf16 from iblk m c 4 t) (ix2 r k) = m ((c : Thread nD τ).loc main_arg4) (ix2 ⟨t.val * 512 + r.val, by have := pt_lt t; omega⟩ k) := by
  blk_point [iblk, V, idx t]
theorem blk5 (c : Dev nD) (t : Fin cfg0.N) : (show FVec Ideal S1024x1024 .bf16 from iblk m c 5 t) = m ((c : Thread nD τ).loc main_arg5) := by
  funext y; idx_vars y
  blk_point [iblk, V, idx t]
theorem blk6 (c : Dev nD) (t : Fin cfg0.N) : (show FVec Ideal S512x1024 .bf16 from iblk m c 6 t) = m ((c : Thread nD τ).loc main_arg6) := by
  funext y; idx_vars y
  blk_point [iblk, V, idx t]
theorem blk7 (c : Dev nD) (t : Fin cfg0.N) : (show FVec Ideal S512x1024 .bf16 from iblk m c 7 t) = m ((c : Thread nD τ).loc main_arg7) := by
  funext y; idx_vars y
  blk_point [iblk, V, idx t]
theorem blk8 (c : Dev nD) (t : Fin cfg0.N) : (show FVec Ideal S1024x1024 .bf16 from iblk m c 8 t) = m ((c : Thread nD τ).loc main_arg8) := by
  funext y; idx_vars y
  blk_point [iblk, V, idx t]

theorem final9 (c : Dev nD) : (dats m 0 c).arrAt 9 cfg0.N = fun y : S4096x1024.Idx => (show EReal from dyv (fun k => (m ((c : Thread nD τ).loc main_arg0)) (ix2 (y 0) k)) (m ((c : Thread nD τ).loc main_arg8)) (part 0 fun k => (m ((c : Thread nD τ).loc main_arg1)) (ix2 (y 0) k)) (y 1)) := by
  refine (dats m 0 c).arrAt_eq_of_covers 9 _ (by decide +kernel) fun t hf y => ?_
  blk_simp
  rw [after0_9]
  idx_vars y
  have h0 : (win0_9.blk t).view.emb (ix2 y0 y1) 0 = (⟨t.val * 512 + y0.val, by have := pt_lt t; omega⟩ : Fin 4096) := by
    apply Fin.ext; blk_simp [idx t]
  have h1 : (win0_9.blk t).view.emb (ix2 y0 y1) 1 = (y1 : Fin 1024) := by
    apply Fin.ext; blk_simp [idx t]
  rw [h0, h1]
  refine (out9_at (show FVec Ideal S512x1024 .bf16 from iblk m c 0 t) (show FVec Ideal S512x3072 .bf16 from iblk m c 1 t) (show FVec Ideal S512x1024 .bf16 from iblk m c 2 t) (show FVec Ideal S512x1024 .bf16 from iblk m c 3 t) (show FVec Ideal S512x1024 .bf16 from iblk m c 4 t) (show FVec Ideal S1024x1024 .bf16 from iblk m c 5 t) (show FVec Ideal S512x1024 .bf16 from iblk m c 6 t) (show FVec Ideal S512x1024 .bf16 from iblk m c 7 t) (show FVec Ideal S1024x1024 .bf16 from iblk m c 8 t) y0 y1).trans ?_
  simp only [blk0, blk1, blk8]

theorem final10 (c : Dev nD) : (dats m 0 c).arrAt 10 cfg0.N = fun y : S4096x1024.Idx => (show EReal from dyv (fun k => (m ((c : Thread nD τ).loc main_arg0)) (ix2 (y 0) k)) (m ((c : Thread nD τ).loc main_arg8)) (part 1 fun k => (m ((c : Thread nD τ).loc main_arg1)) (ix2 (y 0) k)) (y 1)) := by
  refine (dats m 0 c).arrAt_eq_of_covers 10 _ (by decide +kernel) fun t hf y => ?_
  blk_simp
  rw [after0_10]
  idx_vars y
  have h0 : (win0_10.blk t).view.emb (ix2 y0 y1) 0 = (⟨t.val * 512 + y0.val, by have := pt_lt t; omega⟩ : Fin 4096) := by
    apply Fin.ext; blk_simp [idx t]
  have h1 : (win0_10.blk t).view.emb (ix2 y0 y1) 1 = (y1 : Fin 1024) := by
    apply Fin.ext; blk_simp [idx t]
  rw [h0, h1]
  refine (out10_at (show FVec Ideal S512x1024 .bf16 from iblk m c 0 t) (show FVec Ideal S512x3072 .bf16 from iblk m c 1 t) (show FVec Ideal S512x1024 .bf16 from iblk m c 2 t) (show FVec Ideal S512x1024 .bf16 from iblk m c 3 t) (show FVec Ideal S512x1024 .bf16 from iblk m c 4 t) (show FVec Ideal S1024x1024 .bf16 from iblk m c 5 t) (show FVec Ideal S512x1024 .bf16 from iblk m c 6 t) (show FVec Ideal S512x1024 .bf16 from iblk m c 7 t) (show FVec Ideal S1024x1024 .bf16 from iblk m c 8 t) y0 y1).trans ?_
  simp only [blk0, blk1, blk8]

theorem final11 (c : Dev nD) : (dats m 0 c).arrAt 11 cfg0.N = fun y : S4096x1024.Idx => (show EReal from dyv (fun k => (m ((c : Thread nD τ).loc main_arg0)) (ix2 (y 0) k)) (m ((c : Thread nD τ).loc main_arg8)) (part 2 fun k => (m ((c : Thread nD τ).loc main_arg1)) (ix2 (y 0) k)) (y 1)) := by
  refine (dats m 0 c).arrAt_eq_of_covers 11 _ (by decide +kernel) fun t hf y => ?_
  blk_simp
  rw [after0_11]
  idx_vars y
  have h0 : (win0_11.blk t).view.emb (ix2 y0 y1) 0 = (⟨t.val * 512 + y0.val, by have := pt_lt t; omega⟩ : Fin 4096) := by
    apply Fin.ext; blk_simp [idx t]
  have h1 : (win0_11.blk t).view.emb (ix2 y0 y1) 1 = (y1 : Fin 1024) := by
    apply Fin.ext; blk_simp [idx t]
  rw [h0, h1]
  refine (out11_at (show FVec Ideal S512x1024 .bf16 from iblk m c 0 t) (show FVec Ideal S512x3072 .bf16 from iblk m c 1 t) (show FVec Ideal S512x1024 .bf16 from iblk m c 2 t) (show FVec Ideal S512x1024 .bf16 from iblk m c 3 t) (show FVec Ideal S512x1024 .bf16 from iblk m c 4 t) (show FVec Ideal S1024x1024 .bf16 from iblk m c 5 t) (show FVec Ideal S512x1024 .bf16 from iblk m c 6 t) (show FVec Ideal S512x1024 .bf16 from iblk m c 7 t) (show FVec Ideal S1024x1024 .bf16 from iblk m c 8 t) y0 y1).trans ?_
  simp only [blk0, blk1, blk8]

theorem final12 (c : Dev nD) : (dats m 0 c).arrAt 12 cfg0.N = fun y : S4096x3072.Idx => (show EReal from dg3 (fun k => (m ((c : Thread nD τ).loc main_arg0)) (ix2 (y 0) k)) (m ((c : Thread nD τ).loc main_arg8)) (fun k => (m ((c : Thread nD τ).loc main_arg1)) (ix2 (y 0) k)) (fun b k => (![(m ((c : Thread nD τ).loc main_arg2)), (m ((c : Thread nD τ).loc main_arg3)), (m ((c : Thread nD τ).loc main_arg4))] : Fin 3 → FVec Ideal S4096x1024 .bf16) b (ix2 (y 0) k)) (y 1)) := by
  refine (dats m 0 c).arrAt_eq_of_covers 12 _ (by decide +kernel) fun t hf y => ?_
  blk_simp
  rw [after0_12]
  idx_vars y
  have h0 : (win0_12.blk t).view.emb (ix2 y0 y1) 0 = (⟨t.val * 512 + y0.val, by have := pt_lt t; omega⟩ : Fin 4096) := by
    apply Fin.ext; blk_simp [idx t]
  have h1 : (win0_12.blk t).view.emb (ix2 y0 y1) 1 = (y1 : Fin 3072) := by
    apply Fin.ext; blk_simp [idx t]
  rw [h0, h1]
  refine (out12_at (show FVec Ideal S512x1024 .bf16 from iblk m c 0 t) (show FVec Ideal S512x3072 .bf16 from iblk m c 1 t) (show FVec Ideal S512x1024 .bf16 from iblk m c 2 t) (show FVec Ideal S512x1024 .bf16 from iblk m c 3 t) (show FVec Ideal S512x1024 .bf16 from iblk m c 4 t) (show FVec Ideal S1024x1024 .bf16 from iblk m c 5 t) (show FVec Ideal S512x1024 .bf16 from iblk m c 6 t) (show FVec Ideal S512x1024 .bf16 from iblk m c 7 t) (show FVec Ideal S1024x1024 .bf16 from iblk m c 8 t) y0 y1).trans ?_
  have ey : (fun (b : Fin 3) k => (![(show FVec Ideal S512x1024 .bf16 from iblk m c 2 t), (show FVec Ideal S512x1024 .bf16 from iblk m c 3 t), (show FVec Ideal S512x1024 .bf16 from iblk m c 4 t)] : Fin 3 → FVec Ideal S512x1024 .bf16) b (ix2 y0 k))
      = fun b k => (![(m ((c : Thread nD τ).loc main_arg2)), (m ((c : Thread nD τ).loc main_arg3)), (m ((c : Thread nD τ).loc main_arg4))] : Fin 3 → FVec Ideal S4096x1024 .bf16) b (ix2 ⟨t.val * 512 + y0.val, by have := pt_lt t; omega⟩ k) := by
    funext b k
    obtain rfl | rfl | rfl : b = 0 ∨ b = 1 ∨ b = 2 := by omega
    · exact blk2 m c t y0 k
    · exact blk3 m c t y0 k
    · exact blk4 m c t y0 k
  rw [ey]
  simp only [blk0, blk1, blk8]

theorem final13 (c : Dev nD) : (dats m 0 c).arrAt 13 cfg0.N = fun y : S4096x1024.Idx => (show EReal from da (fun k => (m ((c : Thread nD τ).loc main_arg0)) (ix2 (y 0) k)) (m ((c : Thread nD τ).loc main_arg8)) (part 0 fun k => (m ((c : Thread nD τ).loc main_arg1)) (ix2 (y 0) k)) (m ((c : Thread nD τ).loc main_arg5)) (y 1)) := by
  refine (dats m 0 c).arrAt_eq_of_covers 13 _ (by decide +kernel) fun t hf y => ?_
  blk_simp
  rw [after0_13]
  idx_vars y
  have h0 : (win0_13.blk t).view.emb (ix2 y0 y1) 0 = (⟨t.val * 512 + y0.val, by have := pt_lt t; omega⟩ : Fin 4096) := by
    apply Fin.ext; blk_simp [idx t]
  have h1 : (win0_13.blk t).view.emb (ix2 y0 y1) 1 = (y1 : Fin 1024) := by
    apply Fin.ext; blk_simp [idx t]
  rw [h0, h1]
  refine (out13_at (show FVec Ideal S512x1024 .bf16 from iblk m c 0 t) (show FVec Ideal S512x3072 .bf16 from iblk m c 1 t) (show FVec Ideal S512x1024 .bf16 from iblk m c 2 t) (show FVec Ideal S512x1024 .bf16 from iblk m c 3 t) (show FVec Ideal S512x1024 .bf16 from iblk m c 4 t) (show FVec Ideal S1024x1024 .bf16 from iblk m c 5 t) (show FVec Ideal S512x1024 .bf16 from iblk m c 6 t) (show FVec Ideal S512x1024 .bf16 from iblk m c 7 t) (show FVec Ideal S1024x1024 .bf16 from iblk m c 8 t) y0 y1).trans ?_
  simp only [blk0, blk1, blk5, blk8]

theorem final14 (c : Dev nD) : (dats m 0 c).arrAt 14 cfg0.N = fun y : S4096x512.Idx => (show EReal from db (fun k => (m ((c : Thread nD τ).loc main_arg0)) (ix2 (y 0) k)) (m ((c : Thread nD τ).loc main_arg8)) (part 1 fun k => (m ((c : Thread nD τ).loc main_arg1)) (ix2 (y 0) k)) (m ((c : Thread nD τ).loc main_arg6)) (y 1)) := by
  refine (dats m 0 c).arrAt_eq_of_covers 14 _ (by decide +kernel) fun t hf y => ?_
  blk_simp
  rw [after0_14]
  idx_vars y
  have h0 : (win0_14.blk t).view.emb (ix2 y0 y1) 0 = (⟨t.val * 512 + y0.val, by have := pt_lt t; omega⟩ : Fin 4096) := by
    apply Fin.ext; blk_simp [idx t]
  have h1 : (win0_14.blk t).view.emb (ix2 y0 y1) 1 = (y1 : Fin 512) := by
    apply Fin.ext; blk_simp [idx t]
  rw [h0, h1]
  refine (out14_at (show FVec Ideal S512x1024 .bf16 from iblk m c 0 t) (show FVec Ideal S512x3072 .bf16 from iblk m c 1 t) (show FVec Ideal S512x1024 .bf16 from iblk m c 2 t) (show FVec Ideal S512x1024 .bf16 from iblk m c 3 t) (show FVec Ideal S512x1024 .bf16 from iblk m c 4 t) (show FVec Ideal S1024x1024 .bf16 from iblk m c 5 t) (show FVec Ideal S512x1024 .bf16 from iblk m c 6 t) (show FVec Ideal S512x1024 .bf16 from iblk m c 7 t) (show FVec Ideal S1024x1024 .bf16 from iblk m c 8 t) y0 y1).trans ?_
  simp only [blk0, blk1, blk6, blk8]

theorem final15 (c : Dev nD) : (dats m 0 c).arrAt 15 cfg0.N = fun y : S4096x512.Idx => (show EReal from db (fun k => (m ((c : Thread nD τ).loc main_arg0)) (ix2 (y 0) k)) (m ((c : Thread nD τ).loc main_arg8)) (part 2 fun k => (m ((c : Thread nD τ).loc main_arg1)) (ix2 (y 0) k)) (m ((c : Thread nD τ).loc main_arg7)) (y 1)) := by
  refine (dats m 0 c).arrAt_eq_of_covers 15 _ (by decide +kernel) fun t hf y => ?_
  blk_simp
  rw [after0_15]
  idx_vars y
  have h0 : (win0_15.blk t).view.emb (ix2 y0 y1) 0 = (⟨t.val * 512 + y0.val, by have := pt_lt t; omega⟩ : Fin 4096) := by
    apply Fin.ext; blk_simp [idx t]
  have h1 : (win0_15.blk t).view.emb (ix2 y0 y1) 1 = (y1 : Fin 512) := by
    apply Fin.ext; blk_simp [idx t]
  rw [h0, h1]
  refine (out15_at (show FVec Ideal S512x1024 .bf16 from iblk m c 0 t) (show FVec Ideal S512x3072 .bf16 from iblk m c 1 t) (show FVec Ideal S512x1024 .bf16 from iblk m c 2 t) (show FVec Ideal S512x1024 .bf16 from iblk m c 3 t) (show FVec Ideal S512x1024 .bf16 from iblk m c 4 t) (show FVec Ideal S1024x1024 .bf16 from iblk m c 5 t) (show FVec Ideal S512x1024 .bf16 from iblk m c 6 t) (show FVec Ideal S512x1024 .bf16 from iblk m c 7 t) (show FVec Ideal S1024x1024 .bf16 from iblk m c 8 t) y0 y1).trans ?_
  simp only [blk0, blk1, blk7, blk8]

end Cert.TailBwdIdeal.Value

namespace Cert.TailBwdRefIdeal.Value

open Cert.TailBwdRefIdeal Cert.TailBwdRefIdeal.Gen Idealize.ShloMosaic Idealize.ShloMosaic.TcCoe Idealize.SL.Sem
open Cert.TailBwdIdeal.Value (dm dyv dgv da db part dg3)

/-! The reference, cut at the values it reads more than once. -/

/-- The merged branches' gradient. -/
def rdm (d : FVec Ideal S4096x1024 .bf16) (w : FVec Ideal S1024x1024 .bf16) : FVec Ideal S4096x1024 .f32 :=
  (Host.dotGeneral dot_S4096x1024_S1024x1024_S4096x1024_1_1_0_0_n_n none (extf .f32 d bitsLt_bf16_f32) (extf .f32 w bitsLt_bf16_f32))
/-- The gates, through the logistic function. -/
def sg (g : FVec Ideal S4096x3072 .bf16) : FVec Ideal S4096x3x1024 .f32 :=
  (Host.divf (broadcastInDim S4096x3x1024 ![] bcast_S_S4096x3x1024 (constant S_ .f32 0x3F800000#32)) (addf (broadcastInDim S4096x3x1024 ![] bcast_S_S4096x3x1024 (constant S_ .f32 0x3F800000#32)) (Host.exp (Host.negf (shapeCast _ (extf .f32 g bitsLt_bf16_f32) shapeCasts_S4096x3072_S4096x3x1024)))))
/-- A branch's gradient. -/
def ry0 (M : FVec Ideal S4096x1024 .f32) (G : FVec Ideal S4096x3x1024 .f32) : FVec Ideal S4096x1024 .f32 :=
  (mulf (shapeCast _ (extractStridedSlice S4096x1x1024 ![0, 0, 0] G slices_S4096x3x1024_S4096x1x1024_0_0_0) shapeCasts_S4096x1x1024_S4096x1024) M)
/-- A branch's part of the gates' gradient, zero in the other branches' columns. -/
def rp0 (M : FVec Ideal S4096x1024 .f32) (y : FVec Ideal S4096x1024 .bf16) : FVec Ideal S4096x3x1024 .f32 :=
  (pad S4096x3x1024 ![0, 0, 0] ![0, 2, 0] ![0, 0, 0] (broadcastInDim S4096x1x1024 ![0, 2] bcast_S4096x1024_S4096x1x1024_0_2 (mulf M (extf .f32 y bitsLt_bf16_f32))) (constant S_ .f32 0x00000000#32) pads_S4096x1x1024_S4096x3x1024_000_020_000 h_S_)
/-- A branch's gradient. -/
def ry1 (M : FVec Ideal S4096x1024 .f32) (G : FVec Ideal S4096x3x1024 .f32) : FVec Ideal S4096x1024 .f32 :=
  (mulf (shapeCast _ (extractStridedSlice S4096x1x1024 ![0, 1, 0] G slices_S4096x3x1024_S4096x1x1024_0_1_0) shapeCasts_S4096x1x1024_S4096x1024) M)
/-- A branch's part of the gates' gradient, zero in the other branches' columns. -/
def rp1 (M : FVec Ideal S4096x1024 .f32) (y : FVec Ideal S4096x1024 .bf16) : FVec Ideal S4096x3x1024 .f32 :=
  (pad S4096x3x1024 ![0, 1, 0] ![0, 1, 0] ![0, 0, 0] (broadcastInDim S4096x1x1024 ![0, 2] bcast_S4096x1024_S4096x1x1024_0_2 (mulf M (extf .f32 y bitsLt_bf16_f32))) (constant S_ .f32 0x00000000#32) pads_S4096x1x1024_S4096x3x1024_000_110_000 h_S_)
/-- A branch's gradient. -/
def ry2 (M : FVec Ideal S4096x1024 .f32) (G : FVec Ideal S4096x3x1024 .f32) : FVec Ideal S4096x1024 .f32 :=
  (mulf (shapeCast _ (extractStridedSlice S4096x1x1024 ![0, 2, 0] G slices_S4096x3x1024_S4096x1x1024_0_2_0) shapeCasts_S4096x1x1024_S4096x1024) M)
/-- A branch's part of the gates' gradient, zero in the other branches' columns. -/
def rp2 (M : FVec Ideal S4096x1024 .f32) (y : FVec Ideal S4096x1024 .bf16) : FVec Ideal S4096x3x1024 .f32 :=
  (pad S4096x3x1024 ![0, 2, 0] ![0, 0, 0] ![0, 0, 0] (broadcastInDim S4096x1x1024 ![0, 2] bcast_S4096x1024_S4096x1x1024_0_2 (mulf M (extf .f32 y bitsLt_bf16_f32))) (constant S_ .f32 0x00000000#32) pads_S4096x1x1024_S4096x3x1024_000_200_000 h_S_)
/-- The gates' gradient. -/
def rg (p2 p1 p0 G : FVec Ideal S4096x3x1024 .f32) : FVec Ideal S4096x3072 .bf16 :=
  truncf .bf16 (shapeCast _ (mulf (addf (addf p2 p1) p0) (mulf G (subf (broadcastInDim S4096x3x1024 ![] bcast_S_S4096x3x1024 (constant S_ .f32 0x3F800000#32)) G))) shapeCasts_S4096x3x1024_S4096x3072) bitsLt_bf16_f32
/-- The gradients of what the projections take. -/
def ra (y : FVec Ideal S4096x1024 .f32) (w : FVec Ideal S1024x1024 .bf16) : FVec Ideal S4096x1024 .bf16 :=
  truncf .bf16 (Host.dotGeneral dot_S4096x1024_S1024x1024_S4096x1024_1_1_0_0_n_n none y (extf .f32 w bitsLt_bf16_f32)) bitsLt_bf16_f32
def rb (y : FVec Ideal S4096x1024 .f32) (w : FVec Ideal S512x1024 .bf16) : FVec Ideal S4096x512 .bf16 :=
  truncf .bf16 (Host.dotGeneral dot_S4096x1024_S512x1024_S4096x512_1_1_0_0_n_n none y (extf .f32 w bitsLt_bf16_f32)) bitsLt_bf16_f32

theorem rdm_at (d : FVec Ideal S4096x1024 .bf16) (w : FVec Ideal S1024x1024 .bf16) (r : Fin 4096) (c : Fin 1024) : rdm d w (ix2 r c) = dm (fun k => d (ix2 r k)) w c := by
  pointwise [rdm]; rfl
theorem sg_at (g : FVec Ideal S4096x3072 .bf16) (r : Fin 4096) (b : Fin 3) (c : Fin 1024) :
    sg g (ix3 r b c) = Cert.OutDxIdeal.Value.lgs (part b (fun k => g (ix2 r k)) c) := by
  pointwise [sg]
  exact Cert.OutDx.Claims.logistic_eq _
theorem ry0_at (M : FVec Ideal S4096x1024 .f32) (G : FVec Ideal S4096x3x1024 .f32) (r : Fin 4096) (c : Fin 1024) : ry0 M G (ix2 r c) = M (ix2 r c) * G (ix3 r 0 c) := by
  pointwise [ry0]
  exact mul_comm _ _
theorem rp0_at0 (M : FVec Ideal S4096x1024 .f32) (y : FVec Ideal S4096x1024 .bf16) (r : Fin 4096) (c : Fin 1024) : rp0 M y (ix3 r 0 c) = M (ix2 r c) * y (ix2 r c) := by
  refine (dif_pos ?_).trans ?_
  · intro a
    fin_cases a
    · exact ⟨Nat.zero_le _, Nat.mod_one _, by simpa using r.isLt⟩
    · exact (by decide : (0 : ℕ) ≤ 0 ∧ (0 - 0) % (0 + 1) = 0 ∧ (0 - 0) / (0 + 1) < 1)
    · exact ⟨Nat.zero_le _, Nat.mod_one _, by simpa using c.isLt⟩
  · pointwise
theorem rp0_at1 (M : FVec Ideal S4096x1024 .f32) (y : FVec Ideal S4096x1024 .bf16) (r : Fin 4096) (c : Fin 1024) : rp0 M y (ix3 r 1 c) = 0 := by
  refine (dif_neg ?_).trans ?_
  · intro h
    exact (by decide : ¬((0 : ℕ) ≤ 1 ∧ (1 - 0) % (0 + 1) = 0 ∧ (1 - 0) / (0 + 1) < 1)) (h 1)
  · pointwise
theorem rp0_at2 (M : FVec Ideal S4096x1024 .f32) (y : FVec Ideal S4096x1024 .bf16) (r : Fin 4096) (c : Fin 1024) : rp0 M y (ix3 r 2 c) = 0 := by
  refine (dif_neg ?_).trans ?_
  · intro h
    exact (by decide : ¬((0 : ℕ) ≤ 2 ∧ (2 - 0) % (0 + 1) = 0 ∧ (2 - 0) / (0 + 1) < 1)) (h 1)
  · pointwise
theorem ry1_at (M : FVec Ideal S4096x1024 .f32) (G : FVec Ideal S4096x3x1024 .f32) (r : Fin 4096) (c : Fin 1024) : ry1 M G (ix2 r c) = M (ix2 r c) * G (ix3 r 1 c) := by
  pointwise [ry1]
  exact mul_comm _ _
theorem rp1_at0 (M : FVec Ideal S4096x1024 .f32) (y : FVec Ideal S4096x1024 .bf16) (r : Fin 4096) (c : Fin 1024) : rp1 M y (ix3 r 0 c) = 0 := by
  refine (dif_neg ?_).trans ?_
  · intro h
    exact (by decide : ¬((1 : ℕ) ≤ 0 ∧ (0 - 1) % (0 + 1) = 0 ∧ (0 - 1) / (0 + 1) < 1)) (h 1)
  · pointwise
theorem rp1_at1 (M : FVec Ideal S4096x1024 .f32) (y : FVec Ideal S4096x1024 .bf16) (r : Fin 4096) (c : Fin 1024) : rp1 M y (ix3 r 1 c) = M (ix2 r c) * y (ix2 r c) := by
  refine (dif_pos ?_).trans ?_
  · intro a
    fin_cases a
    · exact ⟨Nat.zero_le _, Nat.mod_one _, by simpa using r.isLt⟩
    · exact (by decide : (1 : ℕ) ≤ 1 ∧ (1 - 1) % (0 + 1) = 0 ∧ (1 - 1) / (0 + 1) < 1)
    · exact ⟨Nat.zero_le _, Nat.mod_one _, by simpa using c.isLt⟩
  · pointwise
theorem rp1_at2 (M : FVec Ideal S4096x1024 .f32) (y : FVec Ideal S4096x1024 .bf16) (r : Fin 4096) (c : Fin 1024) : rp1 M y (ix3 r 2 c) = 0 := by
  refine (dif_neg ?_).trans ?_
  · intro h
    exact (by decide : ¬((1 : ℕ) ≤ 2 ∧ (2 - 1) % (0 + 1) = 0 ∧ (2 - 1) / (0 + 1) < 1)) (h 1)
  · pointwise
theorem ry2_at (M : FVec Ideal S4096x1024 .f32) (G : FVec Ideal S4096x3x1024 .f32) (r : Fin 4096) (c : Fin 1024) : ry2 M G (ix2 r c) = M (ix2 r c) * G (ix3 r 2 c) := by
  pointwise [ry2]
  exact mul_comm _ _
theorem rp2_at0 (M : FVec Ideal S4096x1024 .f32) (y : FVec Ideal S4096x1024 .bf16) (r : Fin 4096) (c : Fin 1024) : rp2 M y (ix3 r 0 c) = 0 := by
  refine (dif_neg ?_).trans ?_
  · intro h
    exact (by decide : ¬((2 : ℕ) ≤ 0 ∧ (0 - 2) % (0 + 1) = 0 ∧ (0 - 2) / (0 + 1) < 1)) (h 1)
  · pointwise
theorem rp2_at1 (M : FVec Ideal S4096x1024 .f32) (y : FVec Ideal S4096x1024 .bf16) (r : Fin 4096) (c : Fin 1024) : rp2 M y (ix3 r 1 c) = 0 := by
  refine (dif_neg ?_).trans ?_
  · intro h
    exact (by decide : ¬((2 : ℕ) ≤ 1 ∧ (1 - 2) % (0 + 1) = 0 ∧ (1 - 2) / (0 + 1) < 1)) (h 1)
  · pointwise
theorem rp2_at2 (M : FVec Ideal S4096x1024 .f32) (y : FVec Ideal S4096x1024 .bf16) (r : Fin 4096) (c : Fin 1024) : rp2 M y (ix3 r 2 c) = M (ix2 r c) * y (ix2 r c) := by
  refine (dif_pos ?_).trans ?_
  · intro a
    fin_cases a
    · exact ⟨Nat.zero_le _, Nat.mod_one _, by simpa using r.isLt⟩
    · exact (by decide : (2 : ℕ) ≤ 2 ∧ (2 - 2) % (0 + 1) = 0 ∧ (2 - 2) / (0 + 1) < 1)
    · exact ⟨Nat.zero_le _, Nat.mod_one _, by simpa using c.isLt⟩
  · pointwise
theorem rg_at (p2 p1 p0 G : FVec Ideal S4096x3x1024 .f32) (r : Fin 4096) (c : Fin 3072) (b : Fin 3) (k : Fin 1024) (h : c.val = b.val * 1024 + k.val) :
    rg p2 p1 p0 G (ix2 r c) = (p2 (ix3 r b k) + p1 (ix3 r b k) + p0 (ix3 r b k)) * (G (ix3 r b k) * (1 - G (ix3 r b k))) := by
  obtain ⟨c, hc⟩ := c
  obtain rfl : c = b.val * 1024 + k.val := h
  pointwise [rg]
theorem ra_at (y : FVec Ideal S4096x1024 .f32) (w : FVec Ideal S1024x1024 .bf16) (r : Fin 4096) (c : Fin 1024) : ra y w (ix2 r c) = ∑ k : Fin 1024, y (ix2 r k) * w (ix2 c k) := by
  pointwise [ra]
theorem rb_at (y : FVec Ideal S4096x1024 .f32) (w : FVec Ideal S512x1024 .bf16) (r : Fin 4096) (c : Fin 512) : rb y w (ix2 r c) = ∑ k : Fin 1024, y (ix2 r k) * w (ix2 c k) := by
  pointwise [rb]

section eqs
variable (d : FVec Ideal S4096x1024 .bf16) (w : FVec Ideal S1024x1024 .bf16) (g : FVec Ideal S4096x3072 .bf16)
theorem ry0_eq (r : Fin 4096) (c : Fin 1024) : ry0 (rdm d w) (sg g) (ix2 r c) = dyv (fun k => d (ix2 r k)) w (part 0 fun k => g (ix2 r k)) c := by
  rw [ry0_at, rdm_at, sg_at]; rfl
theorem ry1_eq (r : Fin 4096) (c : Fin 1024) : ry1 (rdm d w) (sg g) (ix2 r c) = dyv (fun k => d (ix2 r k)) w (part 1 fun k => g (ix2 r k)) c := by
  rw [ry1_at, rdm_at, sg_at]; rfl
theorem ry2_eq (r : Fin 4096) (c : Fin 1024) : ry2 (rdm d w) (sg g) (ix2 r c) = dyv (fun k => d (ix2 r k)) w (part 2 fun k => g (ix2 r k)) c := by
  rw [ry2_at, rdm_at, sg_at]; rfl
theorem rg_eq (ya yb yc : FVec Ideal S4096x1024 .bf16) (r : Fin 4096) (c : Fin 3072) :
    rg (rp2 (rdm d w) yc) (rp1 (rdm d w) yb) (rp0 (rdm d w) ya) (sg g) (ix2 r c)
      = dg3 (fun k => d (ix2 r k)) w (fun k => g (ix2 r k)) (fun b k => (![ya, yb, yc] : Fin 3 → FVec Ideal S4096x1024 .bf16) b (ix2 r k)) c := by
  rw [rg_at _ _ _ _ r c ⟨c.val / 1024, by omega⟩ ⟨c.val % 1024, by omega⟩ (by show c.val = c.val / 1024 * 1024 + c.val % 1024; omega), sg_at, dg3, dgv, ← mul_assoc]
  generalize (⟨c.val / 1024, _⟩ : Fin 3) = b
  generalize (⟨c.val % 1024, _⟩ : Fin 1024) = k
  obtain rfl | rfl | rfl : b = 0 ∨ b = 1 ∨ b = 2 := by omega
  · rw [rp2_at0, rp1_at0, rp0_at0, zero_add, zero_add, rdm_at]; rfl
  · rw [rp2_at1, rp1_at1, rp0_at1, zero_add, add_zero, rdm_at]; rfl
  · rw [rp2_at2, rp1_at2, rp0_at2, add_zero, add_zero, rdm_at]; rfl
theorem ra_eq (v : FVec Ideal S1024x1024 .bf16) (r : Fin 4096) (c : Fin 1024) : ra (ry0 (rdm d w) (sg g)) v (ix2 r c) = da (fun k => d (ix2 r k)) w (part 0 fun k => g (ix2 r k)) v c := by
  rw [ra_at]; simp only [ry0_eq]; rfl
theorem rb1_eq (v : FVec Ideal S512x1024 .bf16) (r : Fin 4096) (c : Fin 512) : rb (ry1 (rdm d w) (sg g)) v (ix2 r c) = db (fun k => d (ix2 r k)) w (part 1 fun k => g (ix2 r k)) v c := by
  rw [rb_at]; simp only [ry1_eq]; rfl
theorem rb2_eq (v : FVec Ideal S512x1024 .bf16) (r : Fin 4096) (c : Fin 512) : rb (ry2 (rdm d w) (sg g)) v (ix2 r c) = db (fun k => d (ix2 r k)) w (part 2 fun k => g (ix2 r k)) v c := by
  rw [rb_at]; simp only [ry2_eq]; rfl
end eqs

end Cert.TailBwdRefIdeal.Value

namespace Cert.TailBwd.Claims

open Idealize.ShloMosaic Idealize.SL.Sem
open Cert.TailBwdIdeal.Value (dm dyv dgv da db part dg3)

/-- The reference runs and keeps its arguments. -/
theorem frameR : quiescent_TailBwdRefIdeal := by
  intro m ρ _
  exact (θ_run Cert.TailBwdRefIdeal.defs _ _).mono (fun r h => ⟨fun c => (h c).2.2.2.2.2.2.2, sem_eq_zero_of_no_sems (by decide) r.2⟩) (Cert.TailBwdRefIdeal.Value.run m ρ)

/-- The kernel's gradients are the reference's. -/
theorem algebraic : algebraic_TailBwdIdeal_TailBwdRefIdeal := fun m ρ m' ρ' _ hag =>
  ⟨_, _, _, _, _, _, _,
    (θ_run _ _ _).mono (fun _ h c => ⟨(h c).1.trans (Cert.TailBwdIdeal.Value.final9 m c), (h c).2.1.trans (Cert.TailBwdIdeal.Value.final10 m c), (h c).2.2.1.trans (Cert.TailBwdIdeal.Value.final11 m c), (h c).2.2.2.1.trans (Cert.TailBwdIdeal.Value.final12 m c), (h c).2.2.2.2.1.trans (Cert.TailBwdIdeal.Value.final13 m c), (h c).2.2.2.2.2.1.trans (Cert.TailBwdIdeal.Value.final14 m c), (h c).2.2.2.2.2.2.1.trans (Cert.TailBwdIdeal.Value.final15 m c), (h c).2.2.2.2.2.2.2⟩)
      (Cert.TailBwdIdeal.Value.run_blocks m ρ),
    (θ_run _ _ _).mono (fun _ h c => by
        refine ⟨?_, ?_, ?_, ?_, ?_, ?_, ?_, (h c).2.2.2.2.2.2.2⟩
        · refine (h c).1.trans ?_
          show Cert.TailBwdRefIdeal.Value.ry0 (Cert.TailBwdRefIdeal.Value.rdm (m' ((c.tc : Thread Cert.TailBwdRefIdeal.nD Cert.TailBwdRefIdeal.τ).loc Cert.TailBwdRefIdeal.main_arg0)) (m' ((c.tc : Thread Cert.TailBwdRefIdeal.nD Cert.TailBwdRefIdeal.τ).loc Cert.TailBwdRefIdeal.main_arg8))) (Cert.TailBwdRefIdeal.Value.sg (m' ((c.tc : Thread Cert.TailBwdRefIdeal.nD Cert.TailBwdRefIdeal.τ).loc Cert.TailBwdRefIdeal.main_arg1))) = _
          rw [(hag c).1, (hag c).2.1, (hag c).2.2.2.2.2.2.2.2]
          funext y
          idx_vars y
          exact Cert.TailBwdRefIdeal.Value.ry0_eq _ _ _ y0 y1
        · refine (h c).2.1.trans ?_
          show Cert.TailBwdRefIdeal.Value.ry1 (Cert.TailBwdRefIdeal.Value.rdm (m' ((c.tc : Thread Cert.TailBwdRefIdeal.nD Cert.TailBwdRefIdeal.τ).loc Cert.TailBwdRefIdeal.main_arg0)) (m' ((c.tc : Thread Cert.TailBwdRefIdeal.nD Cert.TailBwdRefIdeal.τ).loc Cert.TailBwdRefIdeal.main_arg8))) (Cert.TailBwdRefIdeal.Value.sg (m' ((c.tc : Thread Cert.TailBwdRefIdeal.nD Cert.TailBwdRefIdeal.τ).loc Cert.TailBwdRefIdeal.main_arg1))) = _
          rw [(hag c).1, (hag c).2.1, (hag c).2.2.2.2.2.2.2.2]
          funext y
          idx_vars y
          exact Cert.TailBwdRefIdeal.Value.ry1_eq _ _ _ y0 y1
        · refine (h c).2.2.1.trans ?_
          show Cert.TailBwdRefIdeal.Value.ry2 (Cert.TailBwdRefIdeal.Value.rdm (m' ((c.tc : Thread Cert.TailBwdRefIdeal.nD Cert.TailBwdRefIdeal.τ).loc Cert.TailBwdRefIdeal.main_arg0)) (m' ((c.tc : Thread Cert.TailBwdRefIdeal.nD Cert.TailBwdRefIdeal.τ).loc Cert.TailBwdRefIdeal.main_arg8))) (Cert.TailBwdRefIdeal.Value.sg (m' ((c.tc : Thread Cert.TailBwdRefIdeal.nD Cert.TailBwdRefIdeal.τ).loc Cert.TailBwdRefIdeal.main_arg1))) = _
          rw [(hag c).1, (hag c).2.1, (hag c).2.2.2.2.2.2.2.2]
          funext y
          idx_vars y
          exact Cert.TailBwdRefIdeal.Value.ry2_eq _ _ _ y0 y1
        · refine (h c).2.2.2.1.trans ?_
          show Cert.TailBwdRefIdeal.Value.rg (Cert.TailBwdRefIdeal.Value.rp2 (Cert.TailBwdRefIdeal.Value.rdm (m' ((c.tc : Thread Cert.TailBwdRefIdeal.nD Cert.TailBwdRefIdeal.τ).loc Cert.TailBwdRefIdeal.main_arg0)) (m' ((c.tc : Thread Cert.TailBwdRefIdeal.nD Cert.TailBwdRefIdeal.τ).loc Cert.TailBwdRefIdeal.main_arg8))) (m' ((c.tc : Thread Cert.TailBwdRefIdeal.nD Cert.TailBwdRefIdeal.τ).loc Cert.TailBwdRefIdeal.main_arg4))) (Cert.TailBwdRefIdeal.Value.rp1 (Cert.TailBwdRefIdeal.Value.rdm (m' ((c.tc : Thread Cert.TailBwdRefIdeal.nD Cert.TailBwdRefIdeal.τ).loc Cert.TailBwdRefIdeal.main_arg0)) (m' ((c.tc : Thread Cert.TailBwdRefIdeal.nD Cert.TailBwdRefIdeal.τ).loc Cert.TailBwdRefIdeal.main_arg8))) (m' ((c.tc : Thread Cert.TailBwdRefIdeal.nD Cert.TailBwdRefIdeal.τ).loc Cert.TailBwdRefIdeal.main_arg3))) (Cert.TailBwdRefIdeal.Value.rp0 (Cert.TailBwdRefIdeal.Value.rdm (m' ((c.tc : Thread Cert.TailBwdRefIdeal.nD Cert.TailBwdRefIdeal.τ).loc Cert.TailBwdRefIdeal.main_arg0)) (m' ((c.tc : Thread Cert.TailBwdRefIdeal.nD Cert.TailBwdRefIdeal.τ).loc Cert.TailBwdRefIdeal.main_arg8))) (m' ((c.tc : Thread Cert.TailBwdRefIdeal.nD Cert.TailBwdRefIdeal.τ).loc Cert.TailBwdRefIdeal.main_arg2))) (Cert.TailBwdRefIdeal.Value.sg (m' ((c.tc : Thread Cert.TailBwdRefIdeal.nD Cert.TailBwdRefIdeal.τ).loc Cert.TailBwdRefIdeal.main_arg1))) = _
          rw [(hag c).1, (hag c).2.1, (hag c).2.2.1, (hag c).2.2.2.1, (hag c).2.2.2.2.1, (hag c).2.2.2.2.2.2.2.2]
          funext y
          idx_vars y
          exact Cert.TailBwdRefIdeal.Value.rg_eq _ _ _ _ _ _ y0 y1
        · refine (h c).2.2.2.2.1.trans ?_
          show Cert.TailBwdRefIdeal.Value.ra (Cert.TailBwdRefIdeal.Value.ry0 (Cert.TailBwdRefIdeal.Value.rdm (m' ((c.tc : Thread Cert.TailBwdRefIdeal.nD Cert.TailBwdRefIdeal.τ).loc Cert.TailBwdRefIdeal.main_arg0)) (m' ((c.tc : Thread Cert.TailBwdRefIdeal.nD Cert.TailBwdRefIdeal.τ).loc Cert.TailBwdRefIdeal.main_arg8))) (Cert.TailBwdRefIdeal.Value.sg (m' ((c.tc : Thread Cert.TailBwdRefIdeal.nD Cert.TailBwdRefIdeal.τ).loc Cert.TailBwdRefIdeal.main_arg1)))) (m' ((c.tc : Thread Cert.TailBwdRefIdeal.nD Cert.TailBwdRefIdeal.τ).loc Cert.TailBwdRefIdeal.main_arg5)) = _
          rw [(hag c).1, (hag c).2.1, (hag c).2.2.2.2.2.1, (hag c).2.2.2.2.2.2.2.2]
          funext y
          idx_vars y
          exact Cert.TailBwdRefIdeal.Value.ra_eq _ _ _ _ y0 y1
        · refine (h c).2.2.2.2.2.1.trans ?_
          show Cert.TailBwdRefIdeal.Value.rb (Cert.TailBwdRefIdeal.Value.ry1 (Cert.TailBwdRefIdeal.Value.rdm (m' ((c.tc : Thread Cert.TailBwdRefIdeal.nD Cert.TailBwdRefIdeal.τ).loc Cert.TailBwdRefIdeal.main_arg0)) (m' ((c.tc : Thread Cert.TailBwdRefIdeal.nD Cert.TailBwdRefIdeal.τ).loc Cert.TailBwdRefIdeal.main_arg8))) (Cert.TailBwdRefIdeal.Value.sg (m' ((c.tc : Thread Cert.TailBwdRefIdeal.nD Cert.TailBwdRefIdeal.τ).loc Cert.TailBwdRefIdeal.main_arg1)))) (m' ((c.tc : Thread Cert.TailBwdRefIdeal.nD Cert.TailBwdRefIdeal.τ).loc Cert.TailBwdRefIdeal.main_arg6)) = _
          rw [(hag c).1, (hag c).2.1, (hag c).2.2.2.2.2.2.1, (hag c).2.2.2.2.2.2.2.2]
          funext y
          idx_vars y
          exact Cert.TailBwdRefIdeal.Value.rb1_eq _ _ _ _ y0 y1
        · refine (h c).2.2.2.2.2.2.1.trans ?_
          show Cert.TailBwdRefIdeal.Value.rb (Cert.TailBwdRefIdeal.Value.ry2 (Cert.TailBwdRefIdeal.Value.rdm (m' ((c.tc : Thread Cert.TailBwdRefIdeal.nD Cert.TailBwdRefIdeal.τ).loc Cert.TailBwdRefIdeal.main_arg0)) (m' ((c.tc : Thread Cert.TailBwdRefIdeal.nD Cert.TailBwdRefIdeal.τ).loc Cert.TailBwdRefIdeal.main_arg8))) (Cert.TailBwdRefIdeal.Value.sg (m' ((c.tc : Thread Cert.TailBwdRefIdeal.nD Cert.TailBwdRefIdeal.τ).loc Cert.TailBwdRefIdeal.main_arg1)))) (m' ((c.tc : Thread Cert.TailBwdRefIdeal.nD Cert.TailBwdRefIdeal.τ).loc Cert.TailBwdRefIdeal.main_arg7)) = _
          rw [(hag c).1, (hag c).2.1, (hag c).2.2.2.2.2.2.2.1, (hag c).2.2.2.2.2.2.2.2]
          funext y
          idx_vars y
          exact Cert.TailBwdRefIdeal.Value.rb2_eq _ _ _ _ y0 y1
        )
      (Cert.TailBwdRefIdeal.Value.run m' ρ')⟩

end Cert.TailBwd.Claims
-- ==== Proof.MixDxKernel.lean ====
module

public import proofs.«01_k».proof.Proof.Gen.MixDxIdeal.Value
public import proofs.«01_k».proof.Proof.Gen.MixDxRefIdeal.Run
public import proofs.«01_k».proof.Defs
public import Idealize.ShloMosaic.Lib.Pointwise
public import Idealize.ShloMosaic.Lib.Pipeline.ValueKit
public import Idealize.ShloMosaic.Lib.Pipeline.ReadBack
public import Idealize.ShloMosaic.Adequacy
public import proofs.«01_k».proof.Proof.Norm

@[expose] public section

set_option maxRecDepth 16384

noncomputable section

namespace Cert.MixDxIdeal.Value

open Cert.MixDxIdeal Cert.MixDxIdeal.Gen Idealize.ShloMosaic Idealize.ShloMosaic.TcCoe Idealize.SL.Sem
open Idealize.ShloMosaic.Pipeline Cert.Norm

/-! What the body stores, at an index. -/

/-- The gradient of the normed input at a row. -/
def bdy (x0 : FVec Ideal S256x3200 .bf16) (x1 : FVec Ideal S3200x1024 .bf16) (x2 : FVec Ideal S256x512 .bf16) (x3 : FVec Ideal S512x1024 .bf16) (x4 : FVec Ideal S256x512 .bf16) (x5 : FVec Ideal S512x1024 .bf16) (x6 : FVec Ideal S256x3072 .bf16) (x7 : FVec Ideal S3072x1024 .bf16) (r : Fin 256) (c : Fin 1024) : EReal :=
  (∑ k : Fin 3200, x0 (ix2 r k) * x1 (ix2 k c)) + (∑ k : Fin 512, x2 (ix2 r k) * x3 (ix2 k c)) + (∑ k : Fin 512, x4 (ix2 r k) * x5 (ix2 k c)) + (∑ k : Fin 3072, x6 (ix2 r k) * x7 (ix2 k c))
/-- The gradient of the input. -/
def bdx (x0 : FVec Ideal S256x3200 .bf16) (x1 : FVec Ideal S3200x1024 .bf16) (x2 : FVec Ideal S256x512 .bf16) (x3 : FVec Ideal S512x1024 .bf16) (x4 : FVec Ideal S256x512 .bf16) (x5 : FVec Ideal S512x1024 .bf16) (x6 : FVec Ideal S256x3072 .bf16) (x7 : FVec Ideal S3072x1024 .bf16) (x8 : FVec Ideal S256x1024 .f32) (x9 : FVec Ideal S1x1024 .f32) (x10 : FVec Ideal S256x1024 .f32) (r : Fin 256) (c : Fin 1024) : EReal :=
  kgrad (fun k => x8 (ix2 r k)) (fun k => bdy x0 x1 x2 x3 x4 x5 x6 x7 r k * x9 (ix2 0 k)) c + x10 (ix2 r c)
/-- What a row adds to the gain's gradient. -/
def bdg (x0 : FVec Ideal S256x3200 .bf16) (x1 : FVec Ideal S3200x1024 .bf16) (x2 : FVec Ideal S256x512 .bf16) (x3 : FVec Ideal S512x1024 .bf16) (x4 : FVec Ideal S256x512 .bf16) (x5 : FVec Ideal S512x1024 .bf16) (x6 : FVec Ideal S256x3072 .bf16) (x7 : FVec Ideal S3072x1024 .bf16) (x8 : FVec Ideal S256x1024 .f32) (r : Fin 256) (c : Fin 1024) : EReal :=
  bdy x0 x1 x2 x3 x4 x5 x6 x7 r c * (x8 (ix2 r c) * rn (fun k => x8 (ix2 r k)))
/-- The gradient of the second norm's input. -/
def bdf (x0 : FVec Ideal S256x3200 .bf16) (x1 : FVec Ideal S3200x1024 .bf16) (x2 : FVec Ideal S256x512 .bf16) (x3 : FVec Ideal S512x1024 .bf16) (x4 : FVec Ideal S256x512 .bf16) (x5 : FVec Ideal S512x1024 .bf16) (x6 : FVec Ideal S256x3072 .bf16) (x7 : FVec Ideal S3072x1024 .bf16) (x8 : FVec Ideal S256x1024 .f32) (x9 : FVec Ideal S1x1024 .f32) (x10 : FVec Ideal S256x1024 .f32) (x11 : FVec Ideal S256x1024 .f32) (x12 : FVec Ideal S1x1024 .f32) (r : Fin 256) (c : Fin 1024) : EReal :=
  kgrad (fun k => x11 (ix2 r k)) (fun k => bdx x0 x1 x2 x3 x4 x5 x6 x7 x8 x9 x10 r k * Ideal.ofBits .f32 0x3F000000#32 * x12 (ix2 0 k)) c
/-- What a row adds to the second gain's gradient. -/
def bdp (x0 : FVec Ideal S256x3200 .bf16) (x1 : FVec Ideal S3200x1024 .bf16) (x2 : FVec Ideal S256x512 .bf16) (x3 : FVec Ideal S512x1024 .bf16) (x4 : FVec Ideal S256x512 .bf16) (x5 : FVec Ideal S512x1024 .bf16) (x6 : FVec Ideal S256x3072 .bf16) (x7 : FVec Ideal S3072x1024 .bf16) (x8 : FVec Ideal S256x1024 .f32) (x9 : FVec Ideal S1x1024 .f32) (x10 : FVec Ideal S256x1024 .f32) (x11 : FVec Ideal S256x1024 .f32) (r : Fin 256) (c : Fin 1024) : EReal :=
  bdx x0 x1 x2 x3 x4 x5 x6 x7 x8 x9 x10 r c * Ideal.ofBits .f32 0x3F000000#32 * (x11 (ix2 r c) * rn (fun k => x11 (ix2 r k)))

section rows
variable (x0 : FVec Ideal S256x3200 .bf16) (x1 : FVec Ideal S3200x1024 .bf16) (x2 : FVec Ideal S256x512 .bf16) (x3 : FVec Ideal S512x1024 .bf16) (x4 : FVec Ideal S256x512 .bf16) (x5 : FVec Ideal S512x1024 .bf16) (x6 : FVec Ideal S256x3072 .bf16) (x7 : FVec Ideal S3072x1024 .bf16) (x8 : FVec Ideal S256x1024 .f32) (x9 : FVec Ideal S1x1024 .f32) (x10 : FVec Ideal S256x1024 .f32) (x11 : FVec Ideal S256x1024 .f32) (x12 : FVec Ideal S1x1024 .f32) (acc : FVec Ideal S1x1024 .f32)

theorem dy_at (r : Fin 256) (c : Fin 1024) : k0_pay5 (F := Ideal) x0 x1 x2 x3 x4 x5 x6 x7 (ix2 r c) = bdy x0 x1 x2 x3 x4 x5 x6 x7 r c := by
  pointwise [k0_pay5]; rfl
theorem pdx_at (r : Fin 256) (c : Fin 1024) : k0_pay9 (F := Ideal) (k0_pay5 (F := Ideal) x0 x1 x2 x3 x4 x5 x6 x7) (k0_pay6 (F := Ideal) x8) (k0_pay7 (F := Ideal) x8) x9 x10 (ix2 r c) = bdx x0 x1 x2 x3 x4 x5 x6 x7 x8 x9 x10 r c := by
  pointwise [k0_pay9, k0_pay6, k0_pay7, dy_at]; rfl
theorem pdg_at (c : Fin 1024) :
    k0_pay8 (F := Ideal) (k0_pay5 (F := Ideal) x0 x1 x2 x3 x4 x5 x6 x7) (k0_pay7 (F := Ideal) x8) acc (ix2 0 c) = acc (ix2 0 c) + ∑ r : Fin 256, bdg x0 x1 x2 x3 x4 x5 x6 x7 x8 r c := by
  pointwise [k0_pay8, k0_pay6, k0_pay7, dy_at]; rfl
theorem e_at (r : Fin 256) (c : Fin 1024) : k0_pay12 (F := Ideal) (k0_pay5 (F := Ideal) x0 x1 x2 x3 x4 x5 x6 x7) (k0_pay6 (F := Ideal) x8) (k0_pay7 (F := Ideal) x8) x9 x10 (ix2 r c) = bdx x0 x1 x2 x3 x4 x5 x6 x7 x8 x9 x10 r c * Ideal.ofBits .f32 0x3F000000#32 := by
  pointwise [k0_pay12, pdx_at]
theorem pdf_at (r : Fin 256) (c : Fin 1024) :
    k0_pay2 (F := Ideal) (k0_pay10 (F := Ideal) x11) (k0_pay11 (F := Ideal) x11) (k0_pay12 (F := Ideal) (k0_pay5 (F := Ideal) x0 x1 x2 x3 x4 x5 x6 x7) (k0_pay6 (F := Ideal) x8) (k0_pay7 (F := Ideal) x8) x9 x10) x12 (ix2 r c) = bdf x0 x1 x2 x3 x4 x5 x6 x7 x8 x9 x10 x11 x12 r c := by
  pointwise [k0_pay2, k0_pay10, k0_pay11, e_at]; rfl
theorem pdp_at (c : Fin 1024) :
    k0_pay1 (F := Ideal) (k0_pay13 (F := Ideal) acc) (k0_pay14 (F := Ideal) (k0_pay5 (F := Ideal) x0 x1 x2 x3 x4 x5 x6 x7) (k0_pay6 (F := Ideal) x8) (k0_pay7 (F := Ideal) x8) x9 x10 x11) (ix2 0 c) = acc (ix2 0 c) + ∑ r : Fin 256, bdp x0 x1 x2 x3 x4 x5 x6 x7 x8 x9 x10 x11 r c := by
  pointwise [k0_pay1, k0_pay13, k0_pay14, k0_pay10, k0_pay11, e_at]; rfl
theorem zero_at (c : Fin 1024) : k0_pay3 (F := Ideal) (ix2 0 c) = 0 := by pointwise [k0_pay3]
theorem zerop_at (c : Fin 1024) : k0_pay4 (F := Ideal) (ix2 0 c) = 0 := by pointwise [k0_pay4]
end rows

variable (m : (ℓ : Loc nD τ sig) → Buf (Elt Ideal) ℓ)

/-- Either case of the body writes the block of the input's gradient. -/
theorem dx_at (c : Dev nD) (t : Fin cfg0.N) (a : Fin 256) (b : Fin 1024) :
    (outsAt0 m c t.val t.isLt).1 (ix2 a b) = bdx (show FVec Ideal S256x3200 .bf16 from iblk m c 0 t) (show FVec Ideal S3200x1024 .bf16 from iblk m c 1 t) (show FVec Ideal S256x512 .bf16 from iblk m c 2 t) (show FVec Ideal S512x1024 .bf16 from iblk m c 3 t) (show FVec Ideal S256x512 .bf16 from iblk m c 4 t) (show FVec Ideal S512x1024 .bf16 from iblk m c 5 t) (show FVec Ideal S256x3072 .bf16 from iblk m c 6 t) (show FVec Ideal S3072x1024 .bf16 from iblk m c 7 t) (show FVec Ideal S256x1024 .f32 from iblk m c 8 t) (show FVec Ideal S1x1024 .f32 from iblk m c 9 t) (show FVec Ideal S256x1024 .f32 from iblk m c 10 t) a b := by
  by_cases h0 : t.val % 16 = 0
  · rw [outsAt0_A m c t h0]
    frame_out
    generalize iblk m c 0 t = X0
    generalize iblk m c 1 t = X1
    generalize iblk m c 2 t = X2
    generalize iblk m c 3 t = X3
    generalize iblk m c 4 t = X4
    generalize iblk m c 5 t = X5
    generalize iblk m c 6 t = X6
    generalize iblk m c 7 t = X7
    generalize iblk m c 8 t = X8
    generalize iblk m c 9 t = X9
    generalize iblk m c 10 t = X10
    exact pdx_at _ _ _ _ _ _ _ _ _ _ _ a b
  · rw [outsAt0_B m c t h0]
    frame_out
    generalize iblk m c 0 t = X0
    generalize iblk m c 1 t = X1
    generalize iblk m c 2 t = X2
    generalize iblk m c 3 t = X3
    generalize iblk m c 4 t = X4
    generalize iblk m c 5 t = X5
    generalize iblk m c 6 t = X6
    generalize iblk m c 7 t = X7
    generalize iblk m c 8 t = X8
    generalize iblk m c 9 t = X9
    generalize iblk m c 10 t = X10
    exact pdx_at _ _ _ _ _ _ _ _ _ _ _ a b

/-- Either case of the body writes the block of the second norm's gradient. -/
theorem df_at (c : Dev nD) (t : Fin cfg0.N) (a : Fin 256) (b : Fin 1024) :
    (outsAt0 m c t.val t.isLt).2.2.1 (ix2 a b) = bdf (show FVec Ideal S256x3200 .bf16 from iblk m c 0 t) (show FVec Ideal S3200x1024 .bf16 from iblk m c 1 t) (show FVec Ideal S256x512 .bf16 from iblk m c 2 t) (show FVec Ideal S512x1024 .bf16 from iblk m c 3 t) (show FVec Ideal S256x512 .bf16 from iblk m c 4 t) (show FVec Ideal S512x1024 .bf16 from iblk m c 5 t) (show FVec Ideal S256x3072 .bf16 from iblk m c 6 t) (show FVec Ideal S3072x1024 .bf16 from iblk m c 7 t) (show FVec Ideal S256x1024 .f32 from iblk m c 8 t) (show FVec Ideal S1x1024 .f32 from iblk m c 9 t) (show FVec Ideal S256x1024 .f32 from iblk m c 10 t) (show FVec Ideal S256x1024 .f32 from iblk m c 11 t) (show FVec Ideal S1x1024 .f32 from iblk m c 12 t) a b := by
  by_cases h0 : t.val % 16 = 0
  · rw [outsAt0_A m c t h0]
    frame_out
    generalize iblk m c 0 t = X0
    generalize iblk m c 1 t = X1
    generalize iblk m c 2 t = X2
    generalize iblk m c 3 t = X3
    generalize iblk m c 4 t = X4
    generalize iblk m c 5 t = X5
    generalize iblk m c 6 t = X6
    generalize iblk m c 7 t = X7
    generalize iblk m c 8 t = X8
    generalize iblk m c 9 t = X9
    generalize iblk m c 10 t = X10
    generalize iblk m c 11 t = X11
    generalize iblk m c 12 t = X12
    exact pdf_at _ _ _ _ _ _ _ _ _ _ _ _ _ a b
  · rw [outsAt0_B m c t h0]
    frame_out
    generalize iblk m c 0 t = X0
    generalize iblk m c 1 t = X1
    generalize iblk m c 2 t = X2
    generalize iblk m c 3 t = X3
    generalize iblk m c 4 t = X4
    generalize iblk m c 5 t = X5
    generalize iblk m c 6 t = X6
    generalize iblk m c 7 t = X7
    generalize iblk m c 8 t = X8
    generalize iblk m c 9 t = X9
    generalize iblk m c 10 t = X10
    generalize iblk m c 11 t = X11
    generalize iblk m c 12 t = X12
    exact pdf_at _ _ _ _ _ _ _ _ _ _ _ _ _ a b

/-- A later point's part of the gain's gradient, over what was there. -/
theorem dg_B (c : Dev nD) (t : Fin cfg0.N) (h0 : ¬ t.val % 16 = 0) (b : Fin 1024) :
    (outsAt0 m c t.val t.isLt).2.1 (ix2 0 b) = (outsAt0 m c (t.val - 1) (Nat.lt_of_le_of_lt (Nat.sub_le _ _) t.isLt)).2.1 (ix2 0 b) + (∑ r : Fin 256, bdg (show FVec Ideal S256x3200 .bf16 from iblk m c 0 t) (show FVec Ideal S3200x1024 .bf16 from iblk m c 1 t) (show FVec Ideal S256x512 .bf16 from iblk m c 2 t) (show FVec Ideal S512x1024 .bf16 from iblk m c 3 t) (show FVec Ideal S256x512 .bf16 from iblk m c 4 t) (show FVec Ideal S512x1024 .bf16 from iblk m c 5 t) (show FVec Ideal S256x3072 .bf16 from iblk m c 6 t) (show FVec Ideal S3072x1024 .bf16 from iblk m c 7 t) (show FVec Ideal S256x1024 .f32 from iblk m c 8 t) r b) := by
  rw [outsAt0_B m c t h0]
  frame_open
  simp (disch := decide) only [↓ View.readCov_skip, ↓ View.readCov_cons_toLoadRect, ↓ View.readCov_fill]
  frame_out
  generalize iblk m c 0 t = X0
  generalize iblk m c 1 t = X1
  generalize iblk m c 2 t = X2
  generalize iblk m c 3 t = X3
  generalize iblk m c 4 t = X4
  generalize iblk m c 5 t = X5
  generalize iblk m c 6 t = X6
  generalize iblk m c 7 t = X7
  generalize iblk m c 8 t = X8
  generalize (outsAt0 m c (t.val - 1) (Nat.lt_of_le_of_lt (Nat.sub_le _ _) t.isLt)).2.1 = P
  exact pdg_at _ _ _ _ _ _ _ _ _ _ b

/-- The first point's part of the gain's gradient. -/
theorem dg_A (c : Dev nD) (t : Fin cfg0.N) (h0 : t.val % 16 = 0) (b : Fin 1024) :
    (outsAt0 m c t.val t.isLt).2.1 (ix2 0 b) = 0 + (∑ r : Fin 256, bdg (show FVec Ideal S256x3200 .bf16 from iblk m c 0 t) (show FVec Ideal S3200x1024 .bf16 from iblk m c 1 t) (show FVec Ideal S256x512 .bf16 from iblk m c 2 t) (show FVec Ideal S512x1024 .bf16 from iblk m c 3 t) (show FVec Ideal S256x512 .bf16 from iblk m c 4 t) (show FVec Ideal S512x1024 .bf16 from iblk m c 5 t) (show FVec Ideal S256x3072 .bf16 from iblk m c 6 t) (show FVec Ideal S3072x1024 .bf16 from iblk m c 7 t) (show FVec Ideal S256x1024 .f32 from iblk m c 8 t) r b) := by
  rw [outsAt0_A m c t h0]
  frame_open
  simp (disch := decide) only [↓ View.readCov_skip, ↓ View.readCov_cons_toLoadRect, ↓ View.readCov_fill]
  frame_out
  generalize iblk m c 0 t = X0
  generalize iblk m c 1 t = X1
  generalize iblk m c 2 t = X2
  generalize iblk m c 3 t = X3
  generalize iblk m c 4 t = X4
  generalize iblk m c 5 t = X5
  generalize iblk m c 6 t = X6
  generalize iblk m c 7 t = X7
  generalize iblk m c 8 t = X8
  exact (pdg_at _ _ _ _ _ _ _ _ _ _ b).trans (congrArg (· + _) (zero_at b))

/-- A later point's part of the second gain's gradient, over what was there. -/
theorem dp_B (c : Dev nD) (t : Fin cfg0.N) (h0 : ¬ t.val % 16 = 0) (b : Fin 1024) :
    (outsAt0 m c t.val t.isLt).2.2.2 (ix2 0 b) = (outsAt0 m c (t.val - 1) (Nat.lt_of_le_of_lt (Nat.sub_le _ _) t.isLt)).2.2.2 (ix2 0 b) + (∑ r : Fin 256, bdp (show FVec Ideal S256x3200 .bf16 from iblk m c 0 t) (show FVec Ideal S3200x1024 .bf16 from iblk m c 1 t) (show FVec Ideal S256x512 .bf16 from iblk m c 2 t) (show FVec Ideal S512x1024 .bf16 from iblk m c 3 t) (show FVec Ideal S256x512 .bf16 from iblk m c 4 t) (show FVec Ideal S512x1024 .bf16 from iblk m c 5 t) (show FVec Ideal S256x3072 .bf16 from iblk m c 6 t) (show FVec Ideal S3072x1024 .bf16 from iblk m c 7 t) (show FVec Ideal S256x1024 .f32 from iblk m c 8 t) (show FVec Ideal S1x1024 .f32 from iblk m c 9 t) (show FVec Ideal S256x1024 .f32 from iblk m c 10 t) (show FVec Ideal S256x1024 .f32 from iblk m c 11 t) r b) := by
  rw [outsAt0_B m c t h0]
  frame_open
  simp (disch := decide) only [↓ View.readCov_skip, ↓ View.readCov_cons_toLoadRect, ↓ View.readCov_fill]
  frame_out
  generalize iblk m c 0 t = X0
  generalize iblk m c 1 t = X1
  generalize iblk m c 2 t = X2
  generalize iblk m c 3 t = X3
  generalize iblk m c 4 t = X4
  generalize iblk m c 5 t = X5
  generalize iblk m c 6 t = X6
  generalize iblk m c 7 t = X7
  generalize iblk m c 8 t = X8
  generalize iblk m c 9 t = X9
  generalize iblk m c 10 t = X10
  generalize iblk m c 11 t = X11
  generalize (outsAt0 m c (t.val - 1) (Nat.lt_of_le_of_lt (Nat.sub_le _ _) t.isLt)).2.2.2 = P
  exact pdp_at _ _ _ _ _ _ _ _ _ _ _ _ _ b

/-- The first point's part of the second gain's gradient. -/
theorem dp_A (c : Dev nD) (t : Fin cfg0.N) (h0 : t.val % 16 = 0) (b : Fin 1024) :
    (outsAt0 m c t.val t.isLt).2.2.2 (ix2 0 b) = 0 + (∑ r : Fin 256, bdp (show FVec Ideal S256x3200 .bf16 from iblk m c 0 t) (show FVec Ideal S3200x1024 .bf16 from iblk m c 1 t) (show FVec Ideal S256x512 .bf16 from iblk m c 2 t) (show FVec Ideal S512x1024 .bf16 from iblk m c 3 t) (show FVec Ideal S256x512 .bf16 from iblk m c 4 t) (show FVec Ideal S512x1024 .bf16 from iblk m c 5 t) (show FVec Ideal S256x3072 .bf16 from iblk m c 6 t) (show FVec Ideal S3072x1024 .bf16 from iblk m c 7 t) (show FVec Ideal S256x1024 .f32 from iblk m c 8 t) (show FVec Ideal S1x1024 .f32 from iblk m c 9 t) (show FVec Ideal S256x1024 .f32 from iblk m c 10 t) (show FVec Ideal S256x1024 .f32 from iblk m c 11 t) r b) := by
  rw [outsAt0_A m c t h0]
  frame_open
  simp (disch := decide) only [↓ View.readCov_skip, ↓ View.readCov_cons_toLoadRect, ↓ View.readCov_fill]
  frame_out
  generalize iblk m c 0 t = X0
  generalize iblk m c 1 t = X1
  generalize iblk m c 2 t = X2
  generalize iblk m c 3 t = X3
  generalize iblk m c 4 t = X4
  generalize iblk m c 5 t = X5
  generalize iblk m c 6 t = X6
  generalize iblk m c 7 t = X7
  generalize iblk m c 8 t = X8
  generalize iblk m c 9 t = X9
  generalize iblk m c 10 t = X10
  generalize iblk m c 11 t = X11
  exact (pdp_at _ _ _ _ _ _ _ _ _ _ _ _ _ b).trans (congrArg (· + _) (zerop_at b))

end Cert.MixDxIdeal.Value
-- ==== Proof.MixDxProof.lean ====
module

public import proofs.«01_k».proof.Proof.Gen.MixDxIdeal.Value
public import proofs.«01_k».proof.Proof.Gen.MixDxRefIdeal.Run
public import proofs.«01_k».proof.Defs
public import Idealize.ShloMosaic.Lib.Pointwise
public import Idealize.ShloMosaic.Lib.Pipeline.ValueKit
public import Idealize.ShloMosaic.Lib.Pipeline.ReadBack
public import Idealize.ShloMosaic.Adequacy
public import proofs.«01_k».proof.Proof.MixDxKernel

@[expose] public section

set_option maxRecDepth 16384

noncomputable section

namespace Cert.MixDxIdeal.Value

open Cert.MixDxIdeal Cert.MixDxIdeal.Gen Idealize.ShloMosaic Idealize.ShloMosaic.TcCoe Idealize.SL.Sem
open Idealize.ShloMosaic.Pipeline Cert.Norm

/-! The arrays the kernel leaves, from its arguments. -/

/-- The gradient of the normed input at a row. -/
def gdy (x0 : FVec Ideal S4096x3200 .bf16) (x1 : FVec Ideal S3200x1024 .bf16) (x2 : FVec Ideal S4096x512 .bf16) (x3 : FVec Ideal S512x1024 .bf16) (x4 : FVec Ideal S4096x512 .bf16) (x5 : FVec Ideal S512x1024 .bf16) (x6 : FVec Ideal S4096x3072 .bf16) (x7 : FVec Ideal S3072x1024 .bf16) (r : Fin 4096) (c : Fin 1024) : EReal :=
  (∑ k : Fin 3200, x0 (ix2 r k) * x1 (ix2 k c)) + (∑ k : Fin 512, x2 (ix2 r k) * x3 (ix2 k c)) + (∑ k : Fin 512, x4 (ix2 r k) * x5 (ix2 k c)) + (∑ k : Fin 3072, x6 (ix2 r k) * x7 (ix2 k c))
/-- The gradient of the input. -/
def gdx (x0 : FVec Ideal S4096x3200 .bf16) (x1 : FVec Ideal S3200x1024 .bf16) (x2 : FVec Ideal S4096x512 .bf16) (x3 : FVec Ideal S512x1024 .bf16) (x4 : FVec Ideal S4096x512 .bf16) (x5 : FVec Ideal S512x1024 .bf16) (x6 : FVec Ideal S4096x3072 .bf16) (x7 : FVec Ideal S3072x1024 .bf16) (x8 : FVec Ideal S4096x1024 .f32) (x9 : FVec Ideal S1x1024 .f32) (x10 : FVec Ideal S4096x1024 .f32) (r : Fin 4096) (c : Fin 1024) : EReal :=
  kgrad (fun k => x8 (ix2 r k)) (fun k => gdy x0 x1 x2 x3 x4 x5 x6 x7 r k * x9 (ix2 0 k)) c + x10 (ix2 r c)
/-- What a row adds to the gain's gradient. -/
def gdg (x0 : FVec Ideal S4096x3200 .bf16) (x1 : FVec Ideal S3200x1024 .bf16) (x2 : FVec Ideal S4096x512 .bf16) (x3 : FVec Ideal S512x1024 .bf16) (x4 : FVec Ideal S4096x512 .bf16) (x5 : FVec Ideal S512x1024 .bf16) (x6 : FVec Ideal S4096x3072 .bf16) (x7 : FVec Ideal S3072x1024 .bf16) (x8 : FVec Ideal S4096x1024 .f32) (r : Fin 4096) (c : Fin 1024) : EReal :=
  gdy x0 x1 x2 x3 x4 x5 x6 x7 r c * (x8 (ix2 r c) * rn (fun k => x8 (ix2 r k)))
/-- The gradient of the second norm's input. -/
def gdf (x0 : FVec Ideal S4096x3200 .bf16) (x1 : FVec Ideal S3200x1024 .bf16) (x2 : FVec Ideal S4096x512 .bf16) (x3 : FVec Ideal S512x1024 .bf16) (x4 : FVec Ideal S4096x512 .bf16) (x5 : FVec Ideal S512x1024 .bf16) (x6 : FVec Ideal S4096x3072 .bf16) (x7 : FVec Ideal S3072x1024 .bf16) (x8 : FVec Ideal S4096x1024 .f32) (x9 : FVec Ideal S1x1024 .f32) (x10 : FVec Ideal S4096x1024 .f32) (x11 : FVec Ideal S4096x1024 .f32) (x12 : FVec Ideal S1x1024 .f32) (r : Fin 4096) (c : Fin 1024) : EReal :=
  kgrad (fun k => x11 (ix2 r k)) (fun k => gdx x0 x1 x2 x3 x4 x5 x6 x7 x8 x9 x10 r k * Ideal.ofBits .f32 0x3F000000#32 * x12 (ix2 0 k)) c
/-- What a row adds to the second gain's gradient. -/
def gdp (x0 : FVec Ideal S4096x3200 .bf16) (x1 : FVec Ideal S3200x1024 .bf16) (x2 : FVec Ideal S4096x512 .bf16) (x3 : FVec Ideal S512x1024 .bf16) (x4 : FVec Ideal S4096x512 .bf16) (x5 : FVec Ideal S512x1024 .bf16) (x6 : FVec Ideal S4096x3072 .bf16) (x7 : FVec Ideal S3072x1024 .bf16) (x8 : FVec Ideal S4096x1024 .f32) (x9 : FVec Ideal S1x1024 .f32) (x10 : FVec Ideal S4096x1024 .f32) (x11 : FVec Ideal S4096x1024 .f32) (r : Fin 4096) (c : Fin 1024) : EReal :=
  gdx x0 x1 x2 x3 x4 x5 x6 x7 x8 x9 x10 r c * Ideal.ofBits .f32 0x3F000000#32 * (x11 (ix2 r c) * rn (fun k => x11 (ix2 r k)))

theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![0, 0] ∧ win0_6.index t = ![t.val, 0] ∧ win0_7.index t = ![0, 0] ∧ win0_8.index t = ![t.val, 0] ∧ win0_9.index t = ![0, 0] ∧ win0_10.index t = ![t.val, 0] ∧ win0_11.index t = ![t.val, 0] ∧ win0_12.index t = ![0, 0] ∧ win0_13.index t = ![t.val, 0] ∧ win0_14.index t = ![0, 0] ∧ win0_15.index t = ![t.val, 0] ∧ win0_16.index t = ![0, 0] :=
  (by decide +kernel : ∀ t : Fin grid0.N, _)

theorem pt_lt (t : Fin cfg0.N) : t.val < 16 := lt_of_lt_of_eq t.isLt N_0

variable (m : (ℓ : Loc nD τ sig) → Buf (Elt Ideal) ℓ)

theorem blk0 (c : Dev nD) (t : Fin cfg0.N) (r : Fin 256) (k : Fin 3200) :
    (show FVec Ideal S256x3200 .bf16 from iblk m c 0 t) (ix2 r k) = m ((c : Thread nD τ).loc main_arg0) (ix2 ⟨t.val * 256 + r.val, by have := pt_lt t; omega⟩ k) := by
  blk_point [iblk, V, idx t]
theorem blk1 (c : Dev nD) (t : Fin cfg0.N) (r : Fin 3200) (k : Fin 1024) :
    (show FVec Ideal S3200x1024 .bf16 from iblk m c 1 t) (ix2 r k) = m ((c : Thread nD τ).loc main_arg1) (ix2 r k) := by
  blk_point [iblk, V, idx t]
theorem blk2 (c : Dev nD) (t : Fin cfg0.N) (r : Fin 256) (k : Fin 512) :
    (show FVec Ideal S256x512 .bf16 from iblk m c 2 t) (ix2 r k) = m ((c : Thread nD τ).loc main_arg2) (ix2 ⟨t.val * 256 + r.val, by have := pt_lt t; omega⟩ k) := by
  blk_point [iblk, V, idx t]
theorem blk3 (c : Dev nD) (t : Fin cfg0.N) (r : Fin 512) (k : Fin 1024) :
    (show FVec Ideal S512x1024 .bf16 from iblk m c 3 t) (ix2 r k) = m ((c : Thread nD τ).loc main_arg3) (ix2 r k) := by
  blk_point [iblk, V, idx t]
theorem blk4 (c : Dev nD) (t : Fin cfg0.N) (r : Fin 256) (k : Fin 512) :
    (show FVec Ideal S256x512 .bf16 from iblk m c 4 t) (ix2 r k) = m ((c : Thread nD τ).loc main_arg4) (ix2 ⟨t.val * 256 + r.val, by have := pt_lt t; omega⟩ k) := by
  blk_point [iblk, V, idx t]
theorem blk5 (c : Dev nD) (t : Fin cfg0.N) (r : Fin 512) (k : Fin 1024) :
    (show FVec Ideal S512x1024 .bf16 from iblk m c 5 t) (ix2 r k) = m ((c : Thread nD τ).loc main_arg5) (ix2 r k) := by
  blk_point [iblk, V, idx t]
theorem blk6 (c : Dev nD) (t : Fin cfg0.N) (r : Fin 256) (k : Fin 3072) :
    (show FVec Ideal S256x3072 .bf16 from iblk m c 6 t) (ix2 r k) = m ((c : Thread nD τ).loc main_arg6) (ix2 ⟨t.val * 256 + r.val, by have := pt_lt t; omega⟩ k) := by
  blk_point [iblk, V, idx t]
theorem blk7 (c : Dev nD) (t : Fin cfg0.N) (r : Fin 3072) (k : Fin 1024) :
    (show FVec Ideal S3072x1024 .bf16 from iblk m c 7 t) (ix2 r k) = m ((c : Thread nD τ).loc main_arg7) (ix2 r k) := by
  blk_point [iblk, V, idx t]
theorem blk8 (c : Dev nD) (t : Fin cfg0.N) (r : Fin 256) (k : Fin 1024) :
    (show FVec Ideal S256x1024 .f32 from iblk m c 8 t) (ix2 r k) = m ((c : Thread nD τ).loc main_arg8) (ix2 ⟨t.val * 256 + r.val, by have := pt_lt t; omega⟩ k) := by
  blk_point [iblk, V, idx t]
theorem blk9 (c : Dev nD) (t : Fin cfg0.N) (k : Fin 1024) :
    (show FVec Ideal S1x1024 .f32 from iblk m c 9 t) (ix2 0 k) = m ((c : Thread nD τ).loc main_arg9) (ix2 0 k) := by
  blk_point [iblk, V, idx t]
theorem blk10 (c : Dev nD) (t : Fin cfg0.N) (r : Fin 256) (k : Fin 1024) :
    (show FVec Ideal S256x1024 .f32 from iblk m c 10 t) (ix2 r k) = m ((c : Thread nD τ).loc main_arg10) (ix2 ⟨t.val * 256 + r.val, by have := pt_lt t; omega⟩ k) := by
  blk_point [iblk, V, idx t]
theorem blk11 (c : Dev nD) (t : Fin cfg0.N) (r : Fin 256) (k : Fin 1024) :
    (show FVec Ideal S256x1024 .f32 from iblk m c 11 t) (ix2 r k) = m ((c : Thread nD τ).loc main_arg11) (ix2 ⟨t.val * 256 + r.val, by have := pt_lt t; omega⟩ k) := by
  blk_point [iblk, V, idx t]
theorem blk12 (c : Dev nD) (t : Fin cfg0.N) (k : Fin 1024) :
    (show FVec Ideal S1x1024 .f32 from iblk m c 12 t) (ix2 0 k) = m ((c : Thread nD τ).loc main_arg12) (ix2 0 k) := by
  blk_point [iblk, V, idx t]

/-! A point's block holds its rows of the whole. -/
theorem bdy_eq (c : Dev nD) (t : Fin cfg0.N) (r : Fin 256) (k : Fin 1024) :
    bdy (show FVec Ideal S256x3200 .bf16 from iblk m c 0 t) (show FVec Ideal S3200x1024 .bf16 from iblk m c 1 t) (show FVec Ideal S256x512 .bf16 from iblk m c 2 t) (show FVec Ideal S512x1024 .bf16 from iblk m c 3 t) (show FVec Ideal S256x512 .bf16 from iblk m c 4 t) (show FVec Ideal S512x1024 .bf16 from iblk m c 5 t) (show FVec Ideal S256x3072 .bf16 from iblk m c 6 t) (show FVec Ideal S3072x1024 .bf16 from iblk m c 7 t) r k = gdy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) ⟨t.val * 256 + r.val, by have := pt_lt t; omega⟩ k := by
  simp only [bdy, gdy, blk0, blk1, blk2, blk3, blk4, blk5, blk6, blk7]
theorem bdx_eq (c : Dev nD) (t : Fin cfg0.N) (r : Fin 256) (k : Fin 1024) :
    bdx (show FVec Ideal S256x3200 .bf16 from iblk m c 0 t) (show FVec Ideal S3200x1024 .bf16 from iblk m c 1 t) (show FVec Ideal S256x512 .bf16 from iblk m c 2 t) (show FVec Ideal S512x1024 .bf16 from iblk m c 3 t) (show FVec Ideal S256x512 .bf16 from iblk m c 4 t) (show FVec Ideal S512x1024 .bf16 from iblk m c 5 t) (show FVec Ideal S256x3072 .bf16 from iblk m c 6 t) (show FVec Ideal S3072x1024 .bf16 from iblk m c 7 t) (show FVec Ideal S256x1024 .f32 from iblk m c 8 t) (show FVec Ideal S1x1024 .f32 from iblk m c 9 t) (show FVec Ideal S256x1024 .f32 from iblk m c 10 t) r k = gdx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) ⟨t.val * 256 + r.val, by have := pt_lt t; omega⟩ k := by
  simp only [bdx, gdx, bdy_eq m c t, blk8, blk9, blk10]
theorem bdg_eq (c : Dev nD) (t : Fin cfg0.N) (r : Fin 256) (k : Fin 1024) :
    bdg (show FVec Ideal S256x3200 .bf16 from iblk m c 0 t) (show FVec Ideal S3200x1024 .bf16 from iblk m c 1 t) (show FVec Ideal S256x512 .bf16 from iblk m c 2 t) (show FVec Ideal S512x1024 .bf16 from iblk m c 3 t) (show FVec Ideal S256x512 .bf16 from iblk m c 4 t) (show FVec Ideal S512x1024 .bf16 from iblk m c 5 t) (show FVec Ideal S256x3072 .bf16 from iblk m c 6 t) (show FVec Ideal S3072x1024 .bf16 from iblk m c 7 t) (show FVec Ideal S256x1024 .f32 from iblk m c 8 t) r k = gdg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) ⟨t.val * 256 + r.val, by have := pt_lt t; omega⟩ k := by
  simp only [bdg, gdg, bdy_eq m c t, blk8]
theorem bdf_eq (c : Dev nD) (t : Fin cfg0.N) (r : Fin 256) (k : Fin 1024) :
    bdf (show FVec Ideal S256x3200 .bf16 from iblk m c 0 t) (show FVec Ideal S3200x1024 .bf16 from iblk m c 1 t) (show FVec Ideal S256x512 .bf16 from iblk m c 2 t) (show FVec Ideal S512x1024 .bf16 from iblk m c 3 t) (show FVec Ideal S256x512 .bf16 from iblk m c 4 t) (show FVec Ideal S512x1024 .bf16 from iblk m c 5 t) (show FVec Ideal S256x3072 .bf16 from iblk m c 6 t) (show FVec Ideal S3072x1024 .bf16 from iblk m c 7 t) (show FVec Ideal S256x1024 .f32 from iblk m c 8 t) (show FVec Ideal S1x1024 .f32 from iblk m c 9 t) (show FVec Ideal S256x1024 .f32 from iblk m c 10 t) (show FVec Ideal S256x1024 .f32 from iblk m c 11 t) (show FVec Ideal S1x1024 .f32 from iblk m c 12 t) r k = gdf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) ⟨t.val * 256 + r.val, by have := pt_lt t; omega⟩ k := by
  simp only [bdf, gdf, bdx_eq m c t, blk11, blk12]
theorem bdp_eq (c : Dev nD) (t : Fin cfg0.N) (r : Fin 256) (k : Fin 1024) :
    bdp (show FVec Ideal S256x3200 .bf16 from iblk m c 0 t) (show FVec Ideal S3200x1024 .bf16 from iblk m c 1 t) (show FVec Ideal S256x512 .bf16 from iblk m c 2 t) (show FVec Ideal S512x1024 .bf16 from iblk m c 3 t) (show FVec Ideal S256x512 .bf16 from iblk m c 4 t) (show FVec Ideal S512x1024 .bf16 from iblk m c 5 t) (show FVec Ideal S256x3072 .bf16 from iblk m c 6 t) (show FVec Ideal S3072x1024 .bf16 from iblk m c 7 t) (show FVec Ideal S256x1024 .f32 from iblk m c 8 t) (show FVec Ideal S1x1024 .f32 from iblk m c 9 t) (show FVec Ideal S256x1024 .f32 from iblk m c 10 t) (show FVec Ideal S256x1024 .f32 from iblk m c 11 t) r k = gdp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) ⟨t.val * 256 + r.val, by have := pt_lt t; omega⟩ k := by
  simp only [bdp, gdp, bdx_eq m c t, blk11]

/-- The array of the input's gradient. -/
theorem final_dx (c : Dev nD) : (dats m 0 c).arrAt 13 cfg0.N = fun y : S4096x1024.Idx => gdx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (y 0) (y 1) := by
  refine (dats m 0 c).arrAt_eq_of_covers 13 _ (by decide +kernel) fun t hf y => ?_
  blk_simp
  rw [after0_13]
  idx_vars y
  have h0 : (win0_13.blk t).view.emb (ix2 y0 y1) 0 = (⟨t.val * 256 + y0.val, by have := pt_lt t; omega⟩ : Fin 4096) := by
    apply Fin.ext; blk_simp [idx t]
  have h1 : (win0_13.blk t).view.emb (ix2 y0 y1) 1 = (y1 : Fin 1024) := by
    apply Fin.ext; blk_simp [idx t]
  rw [h0, h1]
  exact (dx_at m c t y0 y1).trans (bdx_eq m c t y0 y1)

/-- A point's part of the gain's gradient. -/
theorem dg_part (c : Dev nD) (t : Fin 16) (b : Fin 1024) (T : Fin cfg0.N) (hT : T.val = t.val) :
    (∑ r : Fin 256, bdg (show FVec Ideal S256x3200 .bf16 from iblk m c 0 T) (show FVec Ideal S3200x1024 .bf16 from iblk m c 1 T) (show FVec Ideal S256x512 .bf16 from iblk m c 2 T) (show FVec Ideal S512x1024 .bf16 from iblk m c 3 T) (show FVec Ideal S256x512 .bf16 from iblk m c 4 T) (show FVec Ideal S512x1024 .bf16 from iblk m c 5 T) (show FVec Ideal S256x3072 .bf16 from iblk m c 6 T) (show FVec Ideal S3072x1024 .bf16 from iblk m c 7 T) (show FVec Ideal S256x1024 .f32 from iblk m c 8 T) r b)
      = ∑ r : Fin 256, gdg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) ⟨t.val * 256 + r.val, by omega⟩ b := by
  refine Finset.sum_congr rfl fun r _ => ?_
  rw [bdg_eq]
  exact congrArg (fun R => gdg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) R b) (Fin.ext (by simp only [hT]))

/-- The array of the gain's gradient. -/
theorem final_dg (c : Dev nD) : (dats m 0 c).arrAt 14 cfg0.N = fun y : S1x1024.Idx => (show EReal from ∑ r : Fin 4096, gdg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) r (y 1)) := by
  refine (dats m 0 c).arrAt_eq_of_after_last 14 t0_15 (by decide +kernel) _ fun j => ?_
  blk_simp
  idx_vars j
  obtain rfl : j0 = 0 := Subsingleton.elim _ _
  rw [after0_14]
  rw [Pipeline.eq_sum_fin_of_reset_step_apply_last (fun n h => (outsAt0 m c n h).2.1) 16 (fun _ => 0)
    (fun t j => ∑ r : Fin 256, bdg (show FVec Ideal S256x3200 .bf16 from iblk m c 0 t) (show FVec Ideal S3200x1024 .bf16 from iblk m c 1 t) (show FVec Ideal S256x512 .bf16 from iblk m c 2 t) (show FVec Ideal S512x1024 .bf16 from iblk m c 3 t) (show FVec Ideal S256x512 .bf16 from iblk m c 4 t) (show FVec Ideal S512x1024 .bf16 from iblk m c 5 t) (show FVec Ideal S256x3072 .bf16 from iblk m c 6 t) (show FVec Ideal S3072x1024 .bf16 from iblk m c 7 t) (show FVec Ideal S256x1024 .f32 from iblk m c 8 t) r (j 1))
    (fun t h j => by idx_vars j; obtain rfl : j0 = 0 := Subsingleton.elim _ _; exact dg_A m c t h _)
    (fun t h j => by idx_vars j; obtain rfl : j0 = 0 := Subsingleton.elim _ _; exact dg_B m c t h _) (le_of_eq N_0) t0_15 rfl, zero_add]
  exact (Finset.sum_congr rfl fun p _ => dg_part m c p j1 _ rfl).trans (Fin.sum_mul_add_congr fun s k hl => rfl)

/-- The array of the second norm's gradient. -/
theorem final_df (c : Dev nD) : (dats m 0 c).arrAt 15 cfg0.N = fun y : S4096x1024.Idx => gdf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (y 0) (y 1) := by
  refine (dats m 0 c).arrAt_eq_of_covers 15 _ (by decide +kernel) fun t hf y => ?_
  blk_simp
  rw [after0_15]
  idx_vars y
  have h0 : (win0_15.blk t).view.emb (ix2 y0 y1) 0 = (⟨t.val * 256 + y0.val, by have := pt_lt t; omega⟩ : Fin 4096) := by
    apply Fin.ext; blk_simp [idx t]
  have h1 : (win0_15.blk t).view.emb (ix2 y0 y1) 1 = (y1 : Fin 1024) := by
    apply Fin.ext; blk_simp [idx t]
  rw [h0, h1]
  exact (df_at m c t y0 y1).trans (bdf_eq m c t y0 y1)

/-- A point's part of the second gain's gradient. -/
theorem dp_part (c : Dev nD) (t : Fin 16) (b : Fin 1024) (T : Fin cfg0.N) (hT : T.val = t.val) :
    (∑ r : Fin 256, bdp (show FVec Ideal S256x3200 .bf16 from iblk m c 0 T) (show FVec Ideal S3200x1024 .bf16 from iblk m c 1 T) (show FVec Ideal S256x512 .bf16 from iblk m c 2 T) (show FVec Ideal S512x1024 .bf16 from iblk m c 3 T) (show FVec Ideal S256x512 .bf16 from iblk m c 4 T) (show FVec Ideal S512x1024 .bf16 from iblk m c 5 T) (show FVec Ideal S256x3072 .bf16 from iblk m c 6 T) (show FVec Ideal S3072x1024 .bf16 from iblk m c 7 T) (show FVec Ideal S256x1024 .f32 from iblk m c 8 T) (show FVec Ideal S1x1024 .f32 from iblk m c 9 T) (show FVec Ideal S256x1024 .f32 from iblk m c 10 T) (show FVec Ideal S256x1024 .f32 from iblk m c 11 T) r b)
      = ∑ r : Fin 256, gdp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) ⟨t.val * 256 + r.val, by omega⟩ b := by
  refine Finset.sum_congr rfl fun r _ => ?_
  rw [bdp_eq]
  exact congrArg (fun R => gdp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) R b) (Fin.ext (by simp only [hT]))

/-- The array of the second gain's gradient. -/
theorem final_dp (c : Dev nD) : (dats m 0 c).arrAt 16 cfg0.N = fun y : S1x1024.Idx => (show EReal from ∑ r : Fin 4096, gdp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) r (y 1)) := by
  refine (dats m 0 c).arrAt_eq_of_after_last 16 t0_15 (by decide +kernel) _ fun j => ?_
  blk_simp
  idx_vars j
  obtain rfl : j0 = 0 := Subsingleton.elim _ _
  rw [after0_16]
  rw [Pipeline.eq_sum_fin_of_reset_step_apply_last (fun n h => (outsAt0 m c n h).2.2.2) 16 (fun _ => 0)
    (fun t j => ∑ r : Fin 256, bdp (show FVec Ideal S256x3200 .bf16 from iblk m c 0 t) (show FVec Ideal S3200x1024 .bf16 from iblk m c 1 t) (show FVec Ideal S256x512 .bf16 from iblk m c 2 t) (show FVec Ideal S512x1024 .bf16 from iblk m c 3 t) (show FVec Ideal S256x512 .bf16 from iblk m c 4 t) (show FVec Ideal S512x1024 .bf16 from iblk m c 5 t) (show FVec Ideal S256x3072 .bf16 from iblk m c 6 t) (show FVec Ideal S3072x1024 .bf16 from iblk m c 7 t) (show FVec Ideal S256x1024 .f32 from iblk m c 8 t) (show FVec Ideal S1x1024 .f32 from iblk m c 9 t) (show FVec Ideal S256x1024 .f32 from iblk m c 10 t) (show FVec Ideal S256x1024 .f32 from iblk m c 11 t) r (j 1))
    (fun t h j => by idx_vars j; obtain rfl : j0 = 0 := Subsingleton.elim _ _; exact dp_A m c t h _)
    (fun t h j => by idx_vars j; obtain rfl : j0 = 0 := Subsingleton.elim _ _; exact dp_B m c t h _) (le_of_eq N_0) t0_15 rfl, zero_add]
  exact (Finset.sum_congr rfl fun p _ => dp_part m c p j1 _ rfl).trans (Fin.sum_mul_add_congr fun s k hl => rfl)

end Cert.MixDxIdeal.Value

namespace Cert.MixDxRefIdeal.Value

open Cert.MixDxRefIdeal Cert.MixDxRefIdeal.Gen Idealize.ShloMosaic Idealize.ShloMosaic.TcCoe Idealize.SL.Sem Cert.Norm

/-! The reference, cut at the values it reads more than once. -/

/-- The gradient of the normed input. -/
def rdy (x0 : FVec Ideal S4096x3200 .bf16) (x1 : FVec Ideal S3200x1024 .bf16) (x2 : FVec Ideal S4096x512 .bf16) (x3 : FVec Ideal S512x1024 .bf16) (x4 : FVec Ideal S4096x512 .bf16) (x5 : FVec Ideal S512x1024 .bf16) (x6 : FVec Ideal S4096x3072 .bf16) (x7 : FVec Ideal S3072x1024 .bf16) : FVec Ideal S4096x1024 .f32 :=
  addf (addf (addf (Host.dotGeneral dot_S4096x3072_S1024x3072_S4096x1024_1_1_0_0_n_n none (extf .f32 x6 bitsLt_bf16_f32) (transpose S1024x3072 [1, 0] (extf .f32 x7 bitsLt_bf16_f32) transposes_S3072x1024_S1024x3072_1_0)) (Host.dotGeneral dot_S4096x512_S1024x512_S4096x1024_1_1_0_0_n_n none (extf .f32 x4 bitsLt_bf16_f32) (transpose S1024x512 [1, 0] (extf .f32 x5 bitsLt_bf16_f32) transposes_S512x1024_S1024x512_1_0))) (Host.dotGeneral dot_S4096x512_S1024x512_S4096x1024_1_1_0_0_n_n none (extf .f32 x2 bitsLt_bf16_f32) (transpose S1024x512 [1, 0] (extf .f32 x3 bitsLt_bf16_f32) transposes_S512x1024_S1024x512_1_0))) (Host.dotGeneral dot_S4096x3200_S1024x3200_S4096x1024_1_1_0_0_n_n none (extf .f32 x0 bitsLt_bf16_f32) (transpose S1024x3200 [1, 0] (extf .f32 x1 bitsLt_bf16_f32) transposes_S3200x1024_S1024x3200_1_0))
/-- The mean square of each row, and the small constant. -/
def msq (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
/-- A gain times each row. -/
def scaled (y : FVec Ideal S4096x1024 .f32) (g : FVec Ideal S1x1024 .f32) : FVec Ideal S4096x1024 .f32 := mulf y (broadcastInDim S4096x1024 ![0, 1] bcast_S1x1024_S4096x1024_0_1 g)
/-- The part of the gradient which goes through the mean. -/
def thru (x d : FVec Ideal S4096x1024 .f32) (r ms : FVec Ideal S4096x1 .f32) : FVec Ideal S4096x1024 .f32 :=
  broadcastInDim S4096x1024 ![0] bcast_S4096_S4096x1024_0 (Host.reduceAdd (Host.divf (mulf (shapeCast _ (Host.reduceAdd (mulf x d) (constant S_ .f32 0x00000000#32) reducesTo_S4096x1024_S4096_d1 h_S_) shapeCasts_S4096_S4096x1) (mulf (broadcastInDim S4096x1 ![] bcast_S_S4096x1 (constant S_ .f32 0xBF000000#32)) (Host.divf r ms))) (broadcastInDim S4096x1 ![] bcast_S_S4096x1 (constant S_ .f32 0x44800000#32))) (constant S_ .f32 0x00000000#32) reducesTo_S4096x1_S4096_d1 h_S_)
/-- The gradient of the norm's input, with what is added to it. -/
def back (res x d t : FVec Ideal S4096x1024 .f32) (r : FVec Ideal S4096x1 .f32) : FVec Ideal S4096x1024 .f32 :=
  addf (addf (addf res (mulf d (broadcastInDim S4096x1024 ![0, 1] bcast_S4096x1_S4096x1024_0_1 r))) (mulf x t)) (mulf t x)
/-- The gradient of the gain. -/
def gain (x y : FVec Ideal S4096x1024 .f32) (r : FVec Ideal S4096x1 .f32) : FVec Ideal S1x1024 .f32 :=
  shapeCast _ (Host.reduceAdd (mulf (mulf x (broadcastInDim S4096x1024 ![0, 1] bcast_S4096x1_S4096x1024_0_1 r)) y) (constant S_ .f32 0x00000000#32) reducesTo_S4096x1024_S1024_d0 h_S_) shapeCasts_S1024_S1x1024
/-- The gradient of the second norm's input. -/
def back2 (x d t : FVec Ideal S4096x1024 .f32) (r : FVec Ideal S4096x1 .f32) : FVec Ideal S4096x1024 .bf16 :=
  truncf .bf16 (addf (addf (mulf d (broadcastInDim S4096x1024 ![0, 1] bcast_S4096x1_S4096x1024_0_1 r)) (mulf x t)) (mulf t x)) bitsLt_bf16_f32
/-- Half of an array. -/
def halved (e : FVec Ideal S4096x1024 .f32) : FVec Ideal S4096x1024 .f32 := mulf (broadcastInDim S4096x1024 ![] bcast_S_S4096x1024 (constant S_ .f32 0x3F000000#32)) e
/-- The gradient of the input, whole. -/
def rdx (x0 : FVec Ideal S4096x3200 .bf16) (x1 : FVec Ideal S3200x1024 .bf16) (x2 : FVec Ideal S4096x512 .bf16) (x3 : FVec Ideal S512x1024 .bf16) (x4 : FVec Ideal S4096x512 .bf16) (x5 : FVec Ideal S512x1024 .bf16) (x6 : FVec Ideal S4096x3072 .bf16) (x7 : FVec Ideal S3072x1024 .bf16) (x8 : FVec Ideal S4096x1024 .f32) (x9 : FVec Ideal S1x1024 .f32) (x10 : FVec Ideal S4096x1024 .f32) : FVec Ideal S4096x1024 .f32 :=
  back x10 x8 (scaled (rdy x0 x1 x2 x3 x4 x5 x6 x7) x9) (thru x8 (scaled (rdy x0 x1 x2 x3 x4 x5 x6 x7) x9) (Host.rsqrt (msq x8)) (msq x8)) (Host.rsqrt (msq x8))
/-- The gradient of the second norm's input, whole. -/
def rdf (e f : FVec Ideal S4096x1024 .f32) (gp : FVec Ideal S1x1024 .f32) : FVec Ideal S4096x1024 .bf16 :=
  back2 f (scaled e gp) (thru f (scaled e gp) (Host.rsqrt (msq f)) (msq f)) (Host.rsqrt (msq f))

variable (m : (ℓ : Loc nD τ sig) → Buf (Elt Ideal) ℓ)

theorem dx_eq (c : Dev nD) : res_main_v57 (F := Ideal) m c = rdx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold res_main_v57; rfl
theorem df_eq (c : Dev nD) : res_main_v96 (F := Ideal) m c = rdf (halved (rdx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))) (m ((c.tc : Thread nD τ).loc main_arg11)) (m ((c.tc : Thread nD τ).loc main_arg12)) := by
  unfold res_main_v96; rfl
theorem dp_eq (c : Dev nD) : res_main_v79 (F := Ideal) m c = gain (m ((c.tc : Thread nD τ).loc main_arg11)) (halved (rdx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))) (Host.rsqrt (msq (m ((c.tc : Thread nD τ).loc main_arg11)))) := by
  unfold res_main_v79; rfl

section at_
variable (x0 : FVec Ideal S4096x3200 .bf16) (x1 : FVec Ideal S3200x1024 .bf16) (x2 : FVec Ideal S4096x512 .bf16) (x3 : FVec Ideal S512x1024 .bf16) (x4 : FVec Ideal S4096x512 .bf16) (x5 : FVec Ideal S512x1024 .bf16) (x6 : FVec Ideal S4096x3072 .bf16) (x7 : FVec Ideal S3072x1024 .bf16) (x8 : FVec Ideal S4096x1024 .f32) (x9 : FVec Ideal S1x1024 .f32) (x10 : FVec Ideal S4096x1024 .f32) (x11 : FVec Ideal S4096x1024 .f32) (x12 : FVec Ideal S1x1024 .f32)

theorem rdy_at (r : Fin 4096) (c : Fin 1024) : rdy x0 x1 x2 x3 x4 x5 x6 x7 (ix2 r c) = Cert.MixDxIdeal.Value.gdy x0 x1 x2 x3 x4 x5 x6 x7 r c := by
  pointwise [rdy]
  unfold Cert.MixDxIdeal.Value.gdy
  abel
theorem msq_at (x : FVec Ideal S4096x1024 .f32) (r : Fin 4096) : msq x (ix2 r 0) = ms (fun k => x (ix2 r k)) := by
  pointwise [msq]; rfl
theorem rsq_at (x : FVec Ideal S4096x1024 .f32) (r : Fin 4096) : Host.rsqrt (F := Ideal) (msq x) (ix2 r 0) = rn (fun k => x (ix2 r k)) := by
  pointwise
  rw [msq_at]; rfl
theorem scaled_at (y : FVec Ideal S4096x1024 .f32) (g : FVec Ideal S1x1024 .f32) (r : Fin 4096) (c : Fin 1024) : scaled y g (ix2 r c) = y (ix2 r c) * g (ix2 0 c) := by
  pointwise [scaled]
theorem thru_at (x d : FVec Ideal S4096x1024 .f32) (r : Fin 4096) (c : Fin 1024) :
    thru x d (Host.rsqrt (msq x)) (msq x) (ix2 r c) = rmean (fun k => x (ix2 r k)) (fun k => d (ix2 r k)) := by
  pointwise [thru]
  refine (Fin.sum_univ_one _).trans ?_
  rw [msq_at]; rfl
theorem back_at (res x d t : FVec Ideal S4096x1024 .f32) (R : FVec Ideal S4096x1 .f32) (r : Fin 4096) (c : Fin 1024) :
    back res x d t R (ix2 r c) = res (ix2 r c) + d (ix2 r c) * R (ix2 r 0) + x (ix2 r c) * t (ix2 r c) + t (ix2 r c) * x (ix2 r c) := by
  pointwise [back]
theorem gain_at (x y : FVec Ideal S4096x1024 .f32) (R : FVec Ideal S4096x1 .f32) (c : Fin 1024) :
    gain x y R (ix2 0 c) = ∑ r : Fin 4096, x (ix2 r c) * R (ix2 r 0) * y (ix2 r c) := by
  pointwise [gain]
theorem rdx_at (r : Fin 4096) (c : Fin 1024) : rdx x0 x1 x2 x3 x4 x5 x6 x7 x8 x9 x10 (ix2 r c) = Cert.MixDxIdeal.Value.gdx x0 x1 x2 x3 x4 x5 x6 x7 x8 x9 x10 r c := by
  rw [rdx, back_at, rsq_at, thru_at]
  refine (ref_res_eq (fun k => x8 (ix2 r k)) (fun k => scaled (rdy x0 x1 x2 x3 x4 x5 x6 x7) x9 (ix2 r k)) _ c).trans ?_
  simp only [scaled_at, rdy_at]
  rfl
theorem dg_at (c : Fin 1024) :
    gain x8 (rdy x0 x1 x2 x3 x4 x5 x6 x7) (Host.rsqrt (msq x8)) (ix2 0 c) = ∑ r : Fin 4096, Cert.MixDxIdeal.Value.gdg x0 x1 x2 x3 x4 x5 x6 x7 x8 r c := by
  rw [gain_at]
  exact Finset.sum_congr rfl fun r _ => by rw [rsq_at, rdy_at, mul_comm]; rfl
theorem back2_at (x d t : FVec Ideal S4096x1024 .f32) (R : FVec Ideal S4096x1 .f32) (r : Fin 4096) (c : Fin 1024) :
    back2 x d t R (ix2 r c) = d (ix2 r c) * R (ix2 r 0) + x (ix2 r c) * t (ix2 r c) + t (ix2 r c) * x (ix2 r c) := by
  pointwise [back2]
theorem halved_at (e : FVec Ideal S4096x1024 .f32) (r : Fin 4096) (c : Fin 1024) : halved e (ix2 r c) = e (ix2 r c) * Ideal.ofBits .f32 0x3F000000#32 := by
  pointwise [halved]
  exact mul_comm _ _
theorem rdf_at (r : Fin 4096) (c : Fin 1024) :
    rdf (halved (rdx x0 x1 x2 x3 x4 x5 x6 x7 x8 x9 x10)) x11 x12 (ix2 r c) = Cert.MixDxIdeal.Value.gdf x0 x1 x2 x3 x4 x5 x6 x7 x8 x9 x10 x11 x12 r c := by
  rw [rdf, back2_at, rsq_at, thru_at]
  refine (ref_eq (fun k => x11 (ix2 r k)) (fun k => scaled (halved (rdx x0 x1 x2 x3 x4 x5 x6 x7 x8 x9 x10)) x12 (ix2 r k)) c).trans ?_
  simp only [scaled_at, halved_at, rdx_at]
  rfl
theorem dp_at (c : Fin 1024) :
    gain x11 (halved (rdx x0 x1 x2 x3 x4 x5 x6 x7 x8 x9 x10)) (Host.rsqrt (msq x11)) (ix2 0 c) = ∑ r : Fin 4096, Cert.MixDxIdeal.Value.gdp x0 x1 x2 x3 x4 x5 x6 x7 x8 x9 x10 x11 r c := by
  rw [gain_at]
  exact Finset.sum_congr rfl fun r _ => by rw [rsq_at, halved_at, rdx_at, mul_comm]; rfl
end at_

end Cert.MixDxRefIdeal.Value

namespace Cert.MixDx.Claims

open Idealize.ShloMosaic Idealize.SL.Sem

/-- The reference runs and keeps its arguments. -/
theorem frameR : quiescent_MixDxRefIdeal := by
  intro m ρ _
  exact (θ_run Cert.MixDxRefIdeal.defs _ _).mono (fun r h => ⟨fun c => (h c).2.2.2.2, sem_eq_zero_of_no_sems (by decide) r.2⟩) (Cert.MixDxRefIdeal.Value.run m ρ)

set_option maxHeartbeats 2000000 in
/-- The kernel's gradients are the reference's. -/
theorem algebraic : algebraic_MixDxIdeal_MixDxRefIdeal := fun m ρ m' ρ' _ hag =>
  ⟨_, _, _, _,
    (θ_run _ _ _).mono (fun _ h c => ⟨(h c).1.trans (Cert.MixDxIdeal.Value.final_dx m c), (h c).2.1.trans (Cert.MixDxIdeal.Value.final_dg m c), (h c).2.2.1.trans (Cert.MixDxIdeal.Value.final_df m c), (h c).2.2.2.1.trans (Cert.MixDxIdeal.Value.final_dp m c), (h c).2.2.2.2⟩)
      (Cert.MixDxIdeal.Value.run_blocks m ρ),
    (θ_run _ _ _).mono (fun _ h c => by
        refine ⟨?_, ?_, ?_, ?_, (h c).2.2.2.2⟩
        · refine (h c).1.trans ((Cert.MixDxRefIdeal.Value.dx_eq m' c).trans ?_)
          rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.1]
          funext y
          idx_vars y
          exact Cert.MixDxRefIdeal.Value.rdx_at _ _ _ _ _ _ _ _ _ _ _ y0 y1
        · refine (h c).2.1.trans ?_
          show Cert.MixDxRefIdeal.Value.gain (m' ((c.tc : Thread Cert.MixDxRefIdeal.nD Cert.MixDxRefIdeal.τ).loc Cert.MixDxRefIdeal.main_arg8)) (Cert.MixDxRefIdeal.Value.rdy (m' ((c.tc : Thread Cert.MixDxRefIdeal.nD Cert.MixDxRefIdeal.τ).loc Cert.MixDxRefIdeal.main_arg0)) (m' ((c.tc : Thread Cert.MixDxRefIdeal.nD Cert.MixDxRefIdeal.τ).loc Cert.MixDxRefIdeal.main_arg1)) (m' ((c.tc : Thread Cert.MixDxRefIdeal.nD Cert.MixDxRefIdeal.τ).loc Cert.MixDxRefIdeal.main_arg2)) (m' ((c.tc : Thread Cert.MixDxRefIdeal.nD Cert.MixDxRefIdeal.τ).loc Cert.MixDxRefIdeal.main_arg3)) (m' ((c.tc : Thread Cert.MixDxRefIdeal.nD Cert.MixDxRefIdeal.τ).loc Cert.MixDxRefIdeal.main_arg4)) (m' ((c.tc : Thread Cert.MixDxRefIdeal.nD Cert.MixDxRefIdeal.τ).loc Cert.MixDxRefIdeal.main_arg5)) (m' ((c.tc : Thread Cert.MixDxRefIdeal.nD Cert.MixDxRefIdeal.τ).loc Cert.MixDxRefIdeal.main_arg6)) (m' ((c.tc : Thread Cert.MixDxRefIdeal.nD Cert.MixDxRefIdeal.τ).loc Cert.MixDxRefIdeal.main_arg7))) (Host.rsqrt (F := Ideal) (Cert.MixDxRefIdeal.Value.msq (m' ((c.tc : Thread Cert.MixDxRefIdeal.nD Cert.MixDxRefIdeal.τ).loc Cert.MixDxRefIdeal.main_arg8)))) = _
          rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1]
          funext y
          idx_vars y
          obtain rfl : y0 = 0 := Subsingleton.elim _ _
          exact Cert.MixDxRefIdeal.Value.dg_at _ _ _ _ _ _ _ _ _ y1
        · refine (h c).2.2.1.trans ((Cert.MixDxRefIdeal.Value.df_eq m' c).trans ?_)
          rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.1, (hag c).2.2.2.2.2.2.2.2.2.2.2.1, (hag c).2.2.2.2.2.2.2.2.2.2.2.2]
          funext y
          idx_vars y
          exact Cert.MixDxRefIdeal.Value.rdf_at _ _ _ _ _ _ _ _ _ _ _ _ _ y0 y1
        · refine (h c).2.2.2.1.trans ((Cert.MixDxRefIdeal.Value.dp_eq m' c).trans ?_)
          rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.1, (hag c).2.2.2.2.2.2.2.2.2.2.2.1]
          funext y
          idx_vars y
          obtain rfl : y0 = 0 := Subsingleton.elim _ _
          exact Cert.MixDxRefIdeal.Value.dp_at _ _ _ _ _ _ _ _ _ _ _ _ y1
        )
      (Cert.MixDxRefIdeal.Value.run m' ρ')⟩

end Cert.MixDx.Claims
-- ==== Proof.GlaDwProof.lean ====
module

public import proofs.«01_k».proof.Proof.Gen.GlaDwIdeal.Value
public import proofs.«01_k».proof.Proof.Gen.GlaDwRefIdeal.Run
public import proofs.«01_k».proof.Defs
public import Idealize.ShloMosaic.Lib.Pointwise
public import Idealize.ShloMosaic.Lib.Pipeline.ValueKit
public import Idealize.ShloMosaic.Lib.Pipeline.ReadBack
public import Idealize.ShloMosaic.Adequacy

@[expose] public section

set_option maxRecDepth 16384

noncomputable section

namespace Cert.GlaDwIdeal.Value

open Cert.GlaDwIdeal Cert.GlaDwIdeal.Gen Idealize.ShloMosaic Idealize.ShloMosaic.TcCoe Idealize.SL.Sem
open Idealize.ShloMosaic.Pipeline

/-! The gradient of a product's weight: a sum over the 4096 rows, block by block. -/

/-- The gradient at row `r` and column `c`. -/
def dw (a : FVec Ideal S4096x3200 .bf16) (b : FVec Ideal S4096x1024 .bf16) (r : Fin 3200) (c : Fin 1024) : EReal :=
  ∑ k : Fin 4096, a (ix2 k r) * b (ix2 k c)

theorem idx : ∀ t : Fin cfg0.N, win0_0.index t = ![0, t.val] ∧ win0_1.index t = ![0, 0] ∧ win0_2.index t = ![t.val, 0] :=
  (by decide +kernel : ∀ t : Fin grid0.N, _)

theorem pay1_at (a : FVec Ideal S4096x640 .bf16) (b : FVec Ideal S4096x1024 .bf16) (r : Fin 640) (c : Fin 1024) :
    k0_pay1 (F := Ideal) a b (ix2 r c) = ∑ k : Fin 4096, a (ix2 k r) * b (ix2 k c) := by
  pointwise [k0_pay1]

variable (m : (ℓ : Loc nD τ sig) → Buf (Elt Ideal) ℓ)

theorem row_lt (t : Fin cfg0.N) (r : Fin 640) : t.val * 640 + r.val < 3200 := by
  have := lt_of_lt_of_eq t.isLt N_0; omega

theorem blk0 (c : Dev nD) (t : Fin cfg0.N) (k : Fin 4096) (r : Fin 640) :
    (show FVec Ideal S4096x640 .bf16 from iblk m c 0 t) (ix2 k r) = m ((c : Thread nD τ).loc main_arg0) (ix2 k ⟨t.val * 640 + r.val, row_lt t r⟩) := by
  blk_point [iblk, V, idx t]

theorem blk1 (c : Dev nD) (t : Fin cfg0.N) (k : Fin 4096) (j : Fin 1024) :
    (show FVec Ideal S4096x1024 .bf16 from iblk m c 1 t) (ix2 k j) = m ((c : Thread nD τ).loc main_arg1) (ix2 k j) := by
  blk_point [iblk, V, idx t]

theorem out_at (c : Dev nD) (t : Fin cfg0.N) (r : Fin 640) (j : Fin 1024) :
    out0_2 (F := Ideal) (iblk m c 0 t) (iblk m c 1 t) (ix2 r j)
      = dw (m ((c : Thread nD τ).loc main_arg0)) (m ((c : Thread nD τ).loc main_arg1)) ⟨t.val * 640 + r.val, row_lt t r⟩ j := by
  have e0 := blk0 m c t
  have e1 := blk1 m c t
  frame_out
  generalize iblk m c 0 t = x0 at e0 ⊢
  generalize iblk m c 1 t = x1 at e1 ⊢
  rw [pay1_at]
  exact Finset.sum_congr rfl fun k _ => by rw [← e0, ← e1]

/-- The array the kernel leaves. -/
theorem final (c : Dev nD) : (dats m 0 c).arrAt 2 cfg0.N = fun y : S3200x1024.Idx =>
    dw (m ((c : Thread nD τ).loc main_arg0)) (m ((c : Thread nD τ).loc main_arg1)) (y 0) (y 1) := by
  refine (dats m 0 c).arrAt_eq_of_covers 2 _ (by decide +kernel) fun t hf y => ?_
  blk_simp
  rw [after0_2]
  idx_vars y
  have h0 : (win0_2.blk t).view.emb (ix2 y0 y1) 0 = (⟨t.val * 640 + y0.val, row_lt t y0⟩ : Fin 3200) := by
    apply Fin.ext; blk_simp [idx t]
  have h1 : (win0_2.blk t).view.emb (ix2 y0 y1) 1 = (y1 : Fin 1024) := by
    apply Fin.ext; blk_simp [idx t]
  rw [h0, h1]
  exact out_at m c t y0 y1

end Cert.GlaDwIdeal.Value

namespace Cert.GlaDwRefIdeal.Value

open Cert.GlaDwRefIdeal Cert.GlaDwRefIdeal.Gen Idealize.ShloMosaic Idealize.ShloMosaic.TcCoe Idealize.SL.Sem

/-- The reference's result is the same sum. -/
theorem ref_at (a : FVec Ideal S4096x3200 .bf16) (b : FVec Ideal S4096x1024 .bf16) (r : Fin 3200) (c : Fin 1024) :
    truncf (F := Ideal) .bf16 (transpose S3200x1024 [1, 0] (transpose S1024x3200 [1, 0] (Host.dotGeneral dot_S4096x3200_S4096x1024_S3200x1024_0_0_1_1_n_n none (extf .f32 a bitsLt_bf16_f32) (extf .f32 b bitsLt_bf16_f32)) transposes_S3200x1024_S1024x3200_1_0) transposes_S1024x3200_S3200x1024_1_0) bitsLt_bf16_f32 (ix2 r c)
      = Cert.GlaDwIdeal.Value.dw a b r c := by
  pointwise []
  rfl

end Cert.GlaDwRefIdeal.Value

namespace Cert.GlaDw.Claims

open Idealize.ShloMosaic Idealize.SL.Sem

/-- The reference runs and keeps its arguments. -/
theorem frameR : quiescent_GlaDwRefIdeal := by
  intro m ρ _
  exact (θ_run Cert.GlaDwRefIdeal.defs _ _).mono (fun r h => ⟨fun c => (h c).2, sem_eq_zero_of_no_sems (by decide) r.2⟩) (Cert.GlaDwRefIdeal.Value.run m ρ)

/-- The kernel's gradient is the reference's. -/
theorem algebraic : algebraic_GlaDwIdeal_GlaDwRefIdeal := fun m ρ m' ρ' _ hag =>
  ⟨_,
    (θ_run _ _ _).mono (fun _ h c => ⟨(h c).1.trans (Cert.GlaDwIdeal.Value.final m c), (h c).2⟩)
      (Cert.GlaDwIdeal.Value.run_blocks m ρ),
    (θ_run _ _ _).mono (fun _ h c => by
        refine ⟨(h c).1.trans ?_, (h c).2⟩
        rw [(hag c).1, (hag c).2]
        funext y
        idx_vars y
        exact Cert.GlaDwRefIdeal.Value.ref_at _ _ y0 y1)
      (Cert.GlaDwRefIdeal.Value.run m' ρ')⟩

end Cert.GlaDw.Claims
-- ==== Proof.PxDwProof.lean ====
module

public import proofs.«01_k».proof.Proof.Gen.PxDwIdeal.Value
public import proofs.«01_k».proof.Proof.Gen.PxDwRefIdeal.Run
public import proofs.«01_k».proof.Defs
public import Idealize.ShloMosaic.Lib.Pointwise
public import Idealize.ShloMosaic.Lib.Pipeline.ValueKit
public import Idealize.ShloMosaic.Lib.Pipeline.ReadBack
public import Idealize.ShloMosaic.Adequacy

@[expose] public section

set_option maxRecDepth 16384

noncomputable section

namespace Cert.PxDwIdeal.Value

open Cert.PxDwIdeal Cert.PxDwIdeal.Gen Idealize.ShloMosaic Idealize.ShloMosaic.TcCoe Idealize.SL.Sem
open Idealize.ShloMosaic.Pipeline

/-! The gradient of a product's weight: a sum over the 4096 rows, block by block. -/

/-- The gradient at row `r` and column `c`. -/
def dw (a : FVec Ideal S4096x512 .bf16) (b : FVec Ideal S4096x1024 .bf16) (r : Fin 512) (c : Fin 1024) : EReal :=
  ∑ k : Fin 4096, a (ix2 k r) * b (ix2 k c)

theorem idx : ∀ t : Fin cfg0.N, win0_0.index t = ![0, t.val] ∧ win0_1.index t = ![0, 0] ∧ win0_2.index t = ![t.val, 0] :=
  (by decide +kernel : ∀ t : Fin grid0.N, _)

theorem pay1_at (a : FVec Ideal S4096x512 .bf16) (b : FVec Ideal S4096x1024 .bf16) (r : Fin 512) (c : Fin 1024) :
    k0_pay1 (F := Ideal) a b (ix2 r c) = ∑ k : Fin 4096, a (ix2 k r) * b (ix2 k c) := by
  pointwise [k0_pay1]

variable (m : (ℓ : Loc nD τ sig) → Buf (Elt Ideal) ℓ)

theorem row_lt (t : Fin cfg0.N) (r : Fin 512) : t.val * 512 + r.val < 512 := by
  have := lt_of_lt_of_eq t.isLt N_0; omega

theorem blk0 (c : Dev nD) (t : Fin cfg0.N) (k : Fin 4096) (r : Fin 512) :
    (show FVec Ideal S4096x512 .bf16 from iblk m c 0 t) (ix2 k r) = m ((c : Thread nD τ).loc main_arg0) (ix2 k ⟨t.val * 512 + r.val, row_lt t r⟩) := by
  blk_point [iblk, V, idx t]

theorem blk1 (c : Dev nD) (t : Fin cfg0.N) (k : Fin 4096) (j : Fin 1024) :
    (show FVec Ideal S4096x1024 .bf16 from iblk m c 1 t) (ix2 k j) = m ((c : Thread nD τ).loc main_arg1) (ix2 k j) := by
  blk_point [iblk, V, idx t]

theorem out_at (c : Dev nD) (t : Fin cfg0.N) (r : Fin 512) (j : Fin 1024) :
    out0_2 (F := Ideal) (iblk m c 0 t) (iblk m c 1 t) (ix2 r j)
      = dw (m ((c : Thread nD τ).loc main_arg0)) (m ((c : Thread nD τ).loc main_arg1)) ⟨t.val * 512 + r.val, row_lt t r⟩ j := by
  have e0 := blk0 m c t
  have e1 := blk1 m c t
  frame_out
  generalize iblk m c 0 t = x0 at e0 ⊢
  generalize iblk m c 1 t = x1 at e1 ⊢
  rw [pay1_at]
  exact Finset.sum_congr rfl fun k _ => by rw [← e0, ← e1]

/-- The array the kernel leaves. -/
theorem final (c : Dev nD) : (dats m 0 c).arrAt 2 cfg0.N = fun y : S512x1024.Idx =>
    dw (m ((c : Thread nD τ).loc main_arg0)) (m ((c : Thread nD τ).loc main_arg1)) (y 0) (y 1) := by
  refine (dats m 0 c).arrAt_eq_of_covers 2 _ (by decide +kernel) fun t hf y => ?_
  blk_simp
  rw [after0_2]
  idx_vars y
  have h0 : (win0_2.blk t).view.emb (ix2 y0 y1) 0 = (⟨t.val * 512 + y0.val, row_lt t y0⟩ : Fin 512) := by
    apply Fin.ext; blk_simp [idx t]
  have h1 : (win0_2.blk t).view.emb (ix2 y0 y1) 1 = (y1 : Fin 1024) := by
    apply Fin.ext; blk_simp [idx t]
  rw [h0, h1]
  exact out_at m c t y0 y1

end Cert.PxDwIdeal.Value

namespace Cert.PxDwRefIdeal.Value

open Cert.PxDwRefIdeal Cert.PxDwRefIdeal.Gen Idealize.ShloMosaic Idealize.ShloMosaic.TcCoe Idealize.SL.Sem

/-- The reference's result is the same sum. -/
theorem ref_at (a : FVec Ideal S4096x512 .bf16) (b : FVec Ideal S4096x1024 .bf16) (r : Fin 512) (c : Fin 1024) :
    truncf (F := Ideal) .bf16 (transpose S512x1024 [1, 0] (transpose S1024x512 [1, 0] (Host.dotGeneral dot_S4096x512_S4096x1024_S512x1024_0_0_1_1_n_n none (extf .f32 a bitsLt_bf16_f32) (extf .f32 b bitsLt_bf16_f32)) transposes_S512x1024_S1024x512_1_0) transposes_S1024x512_S512x1024_1_0) bitsLt_bf16_f32 (ix2 r c)
      = Cert.PxDwIdeal.Value.dw a b r c := by
  pointwise []
  rfl

end Cert.PxDwRefIdeal.Value

namespace Cert.PxDw.Claims

open Idealize.ShloMosaic Idealize.SL.Sem

/-- The reference runs and keeps its arguments. -/
theorem frameR : quiescent_PxDwRefIdeal := by
  intro m ρ _
  exact (θ_run Cert.PxDwRefIdeal.defs _ _).mono (fun r h => ⟨fun c => (h c).2, sem_eq_zero_of_no_sems (by decide) r.2⟩) (Cert.PxDwRefIdeal.Value.run m ρ)

/-- The kernel's gradient is the reference's. -/
theorem algebraic : algebraic_PxDwIdeal_PxDwRefIdeal := fun m ρ m' ρ' _ hag =>
  ⟨_,
    (θ_run _ _ _).mono (fun _ h c => ⟨(h c).1.trans (Cert.PxDwIdeal.Value.final m c), (h c).2⟩)
      (Cert.PxDwIdeal.Value.run_blocks m ρ),
    (θ_run _ _ _).mono (fun _ h c => by
        refine ⟨(h c).1.trans ?_, (h c).2⟩
        rw [(hag c).1, (hag c).2]
        funext y
        idx_vars y
        exact Cert.PxDwRefIdeal.Value.ref_at _ _ y0 y1)
      (Cert.PxDwRefIdeal.Value.run m' ρ')⟩

end Cert.PxDw.Claims
-- ==== Proof.GatesDwProof.lean ====
module

public import proofs.«01_k».proof.Proof.Gen.GatesDwIdeal.Value
public import proofs.«01_k».proof.Proof.Gen.GatesDwRefIdeal.Run
public import proofs.«01_k».proof.Defs
public import Idealize.ShloMosaic.Lib.Pointwise
public import Idealize.ShloMosaic.Lib.Pipeline.ValueKit
public import Idealize.ShloMosaic.Lib.Pipeline.ReadBack
public import Idealize.ShloMosaic.Adequacy

@[expose] public section

set_option maxRecDepth 16384

noncomputable section

namespace Cert.GatesDwIdeal.Value

open Cert.GatesDwIdeal Cert.GatesDwIdeal.Gen Idealize.ShloMosaic Idealize.ShloMosaic.TcCoe Idealize.SL.Sem
open Idealize.ShloMosaic.Pipeline

/-! The gradient of a product's weight: a sum over the 4096 rows, block by block. -/

/-- The gradient at row `r` and column `c`. -/
def dw (a : FVec Ideal S4096x3072 .bf16) (b : FVec Ideal S4096x1024 .bf16) (r : Fin 3072) (c : Fin 1024) : EReal :=
  ∑ k : Fin 4096, a (ix2 k r) * b (ix2 k c)

theorem idx : ∀ t : Fin cfg0.N, win0_0.index t = ![0, t.val] ∧ win0_1.index t = ![0, 0] ∧ win0_2.index t = ![t.val, 0] :=
  (by decide +kernel : ∀ t : Fin grid0.N, _)

theorem pay1_at (a : FVec Ideal S4096x512 .bf16) (b : FVec Ideal S4096x1024 .bf16) (r : Fin 512) (c : Fin 1024) :
    k0_pay1 (F := Ideal) a b (ix2 r c) = ∑ k : Fin 4096, a (ix2 k r) * b (ix2 k c) := by
  pointwise [k0_pay1]

variable (m : (ℓ : Loc nD τ sig) → Buf (Elt Ideal) ℓ)

theorem row_lt (t : Fin cfg0.N) (r : Fin 512) : t.val * 512 + r.val < 3072 := by
  have := lt_of_lt_of_eq t.isLt N_0; omega

theorem blk0 (c : Dev nD) (t : Fin cfg0.N) (k : Fin 4096) (r : Fin 512) :
    (show FVec Ideal S4096x512 .bf16 from iblk m c 0 t) (ix2 k r) = m ((c : Thread nD τ).loc main_arg0) (ix2 k ⟨t.val * 512 + r.val, row_lt t r⟩) := by
  blk_point [iblk, V, idx t]

theorem blk1 (c : Dev nD) (t : Fin cfg0.N) (k : Fin 4096) (j : Fin 1024) :
    (show FVec Ideal S4096x1024 .bf16 from iblk m c 1 t) (ix2 k j) = m ((c : Thread nD τ).loc main_arg1) (ix2 k j) := by
  blk_point [iblk, V, idx t]

theorem out_at (c : Dev nD) (t : Fin cfg0.N) (r : Fin 512) (j : Fin 1024) :
    out0_2 (F := Ideal) (iblk m c 0 t) (iblk m c 1 t) (ix2 r j)
      = dw (m ((c : Thread nD τ).loc main_arg0)) (m ((c : Thread nD τ).loc main_arg1)) ⟨t.val * 512 + r.val, row_lt t r⟩ j := by
  have e0 := blk0 m c t
  have e1 := blk1 m c t
  frame_out
  generalize iblk m c 0 t = x0 at e0 ⊢
  generalize iblk m c 1 t = x1 at e1 ⊢
  rw [pay1_at]
  exact Finset.sum_congr rfl fun k _ => by rw [← e0, ← e1]

/-- The array the kernel leaves. -/
theorem final (c : Dev nD) : (dats m 0 c).arrAt 2 cfg0.N = fun y : S3072x1024.Idx =>
    dw (m ((c : Thread nD τ).loc main_arg0)) (m ((c : Thread nD τ).loc main_arg1)) (y 0) (y 1) := by
  refine (dats m 0 c).arrAt_eq_of_covers 2 _ (by decide +kernel) fun t hf y => ?_
  blk_simp
  rw [after0_2]
  idx_vars y
  have h0 : (win0_2.blk t).view.emb (ix2 y0 y1) 0 = (⟨t.val * 512 + y0.val, row_lt t y0⟩ : Fin 3072) := by
    apply Fin.ext; blk_simp [idx t]
  have h1 : (win0_2.blk t).view.emb (ix2 y0 y1) 1 = (y1 : Fin 1024) := by
    apply Fin.ext; blk_simp [idx t]
  rw [h0, h1]
  exact out_at m c t y0 y1

end Cert.GatesDwIdeal.Value

namespace Cert.GatesDwRefIdeal.Value

open Cert.GatesDwRefIdeal Cert.GatesDwRefIdeal.Gen Idealize.ShloMosaic Idealize.ShloMosaic.TcCoe Idealize.SL.Sem

/-- The reference's result is the same sum. -/
theorem ref_at (a : FVec Ideal S4096x3072 .bf16) (b : FVec Ideal S4096x1024 .bf16) (r : Fin 3072) (c : Fin 1024) :
    truncf (F := Ideal) .bf16 (transpose S3072x1024 [1, 0] (transpose S1024x3072 [1, 0] (Host.dotGeneral dot_S4096x3072_S4096x1024_S3072x1024_0_0_1_1_n_n none (extf .f32 a bitsLt_bf16_f32) (extf .f32 b bitsLt_bf16_f32)) transposes_S3072x1024_S1024x3072_1_0) transposes_S1024x3072_S3072x1024_1_0) bitsLt_bf16_f32 (ix2 r c)
      = Cert.GatesDwIdeal.Value.dw a b r c := by
  pointwise []
  rfl

end Cert.GatesDwRefIdeal.Value

namespace Cert.GatesDw.Claims

open Idealize.ShloMosaic Idealize.SL.Sem

/-- The reference runs and keeps its arguments. -/
theorem frameR : quiescent_GatesDwRefIdeal := by
  intro m ρ _
  exact (θ_run Cert.GatesDwRefIdeal.defs _ _).mono (fun r h => ⟨fun c => (h c).2, sem_eq_zero_of_no_sems (by decide) r.2⟩) (Cert.GatesDwRefIdeal.Value.run m ρ)

/-- The kernel's gradient is the reference's. -/
theorem algebraic : algebraic_GatesDwIdeal_GatesDwRefIdeal := fun m ρ m' ρ' _ hag =>
  ⟨_,
    (θ_run _ _ _).mono (fun _ h c => ⟨(h c).1.trans (Cert.GatesDwIdeal.Value.final m c), (h c).2⟩)
      (Cert.GatesDwIdeal.Value.run_blocks m ρ),
    (θ_run _ _ _).mono (fun _ h c => by
        refine ⟨(h c).1.trans ?_, (h c).2⟩
        rw [(hag c).1, (hag c).2]
        funext y
        idx_vars y
        exact Cert.GatesDwRefIdeal.Value.ref_at _ _ y0 y1)
      (Cert.GatesDwRefIdeal.Value.run m' ρ')⟩

end Cert.GatesDw.Claims
-- ==== Proof.WoDwProof.lean ====
module

public import proofs.«01_k».proof.Proof.Gen.WoDwIdeal.Value
public import proofs.«01_k».proof.Proof.Gen.WoDwRefIdeal.Run
public import proofs.«01_k».proof.Defs
public import Idealize.ShloMosaic.Lib.Pointwise
public import Idealize.ShloMosaic.Lib.Pipeline.ValueKit
public import Idealize.ShloMosaic.Lib.Pipeline.ReadBack
public import Idealize.ShloMosaic.Adequacy

@[expose] public section

set_option maxRecDepth 16384

noncomputable section

namespace Cert.WoDwIdeal.Value

open Cert.WoDwIdeal Cert.WoDwIdeal.Gen Idealize.ShloMosaic Idealize.ShloMosaic.TcCoe Idealize.SL.Sem
open Idealize.ShloMosaic.Pipeline

/-! The gradient of a product's weight: a sum over the 4096 rows, block by block. -/

/-- The gradient at row `r` and column `c`. -/
def dw (a : FVec Ideal S4096x1024 .bf16) (b : FVec Ideal S4096x1024 .bf16) (r : Fin 1024) (c : Fin 1024) : EReal :=
  ∑ k : Fin 4096, a (ix2 k r) * b (ix2 k c)

theorem idx : ∀ t : Fin cfg0.N, win0_0.index t = ![0, t.val] ∧ win0_1.index t = ![0, 0] ∧ win0_2.index t = ![t.val, 0] :=
  (by decide +kernel : ∀ t : Fin grid0.N, _)

theorem pay1_at (a : FVec Ideal S4096x512 .bf16) (b : FVec Ideal S4096x1024 .bf16) (r : Fin 512) (c : Fin 1024) :
    k0_pay1 (F := Ideal) a b (ix2 r c) = ∑ k : Fin 4096, a (ix2 k r) * b (ix2 k c) := by
  pointwise [k0_pay1]

variable (m : (ℓ : Loc nD τ sig) → Buf (Elt Ideal) ℓ)

theorem row_lt (t : Fin cfg0.N) (r : Fin 512) : t.val * 512 + r.val < 1024 := by
  have := lt_of_lt_of_eq t.isLt N_0; omega

theorem blk0 (c : Dev nD) (t : Fin cfg0.N) (k : Fin 4096) (r : Fin 512) :
    (show FVec Ideal S4096x512 .bf16 from iblk m c 0 t) (ix2 k r) = m ((c : Thread nD τ).loc main_arg0) (ix2 k ⟨t.val * 512 + r.val, row_lt t r⟩) := by
  blk_point [iblk, V, idx t]

theorem blk1 (c : Dev nD) (t : Fin cfg0.N) (k : Fin 4096) (j : Fin 1024) :
    (show FVec Ideal S4096x1024 .bf16 from iblk m c 1 t) (ix2 k j) = m ((c : Thread nD τ).loc main_arg1) (ix2 k j) := by
  blk_point [iblk, V, idx t]

theorem out_at (c : Dev nD) (t : Fin cfg0.N) (r : Fin 512) (j : Fin 1024) :
    out0_2 (F := Ideal) (iblk m c 0 t) (iblk m c 1 t) (ix2 r j)
      = dw (m ((c : Thread nD τ).loc main_arg0)) (m ((c : Thread nD τ).loc main_arg1)) ⟨t.val * 512 + r.val, row_lt t r⟩ j := by
  have e0 := blk0 m c t
  have e1 := blk1 m c t
  frame_out
  generalize iblk m c 0 t = x0 at e0 ⊢
  generalize iblk m c 1 t = x1 at e1 ⊢
  rw [pay1_at]
  exact Finset.sum_congr rfl fun k _ => by rw [← e0, ← e1]

/-- The array the kernel leaves. -/
theorem final (c : Dev nD) : (dats m 0 c).arrAt 2 cfg0.N = fun y : S1024x1024.Idx =>
    dw (m ((c : Thread nD τ).loc main_arg0)) (m ((c : Thread nD τ).loc main_arg1)) (y 0) (y 1) := by
  refine (dats m 0 c).arrAt_eq_of_covers 2 _ (by decide +kernel) fun t hf y => ?_
  blk_simp
  rw [after0_2]
  idx_vars y
  have h0 : (win0_2.blk t).view.emb (ix2 y0 y1) 0 = (⟨t.val * 512 + y0.val, row_lt t y0⟩ : Fin 1024) := by
    apply Fin.ext; blk_simp [idx t]
  have h1 : (win0_2.blk t).view.emb (ix2 y0 y1) 1 = (y1 : Fin 1024) := by
    apply Fin.ext; blk_simp [idx t]
  rw [h0, h1]
  exact out_at m c t y0 y1

end Cert.WoDwIdeal.Value

namespace Cert.WoDwRefIdeal.Value

open Cert.WoDwRefIdeal Cert.WoDwRefIdeal.Gen Idealize.ShloMosaic Idealize.ShloMosaic.TcCoe Idealize.SL.Sem

/-- The reference's result is the same sum. -/
theorem ref_at (a : FVec Ideal S4096x1024 .bf16) (b : FVec Ideal S4096x1024 .bf16) (r : Fin 1024) (c : Fin 1024) :
    truncf (F := Ideal) .bf16 (transpose S1024x1024 [1, 0] (Host.dotGeneral dot_S4096x1024_S4096x1024_S1024x1024_0_0_1_1_n_n none (extf .f32 b bitsLt_bf16_f32) (extf .f32 a bitsLt_bf16_f32)) transposes_S1024x1024_S1024x1024_1_0) bitsLt_bf16_f32 (ix2 r c)
      = Cert.WoDwIdeal.Value.dw a b r c := by
  pointwise []
  exact Finset.sum_congr rfl fun k _ => mul_comm _ _

end Cert.WoDwRefIdeal.Value

namespace Cert.WoDw.Claims

open Idealize.ShloMosaic Idealize.SL.Sem

/-- The reference runs and keeps its arguments. -/
theorem frameR : quiescent_WoDwRefIdeal := by
  intro m ρ _
  exact (θ_run Cert.WoDwRefIdeal.defs _ _).mono (fun r h => ⟨fun c => (h c).2, sem_eq_zero_of_no_sems (by decide) r.2⟩) (Cert.WoDwRefIdeal.Value.run m ρ)

/-- The kernel's gradient is the reference's. -/
theorem algebraic : algebraic_WoDwIdeal_WoDwRefIdeal := fun m ρ m' ρ' _ hag =>
  ⟨_,
    (θ_run _ _ _).mono (fun _ h c => ⟨(h c).1.trans (Cert.WoDwIdeal.Value.final m c), (h c).2⟩)
      (Cert.WoDwIdeal.Value.run_blocks m ρ),
    (θ_run _ _ _).mono (fun _ h c => by
        refine ⟨(h c).1.trans ?_, (h c).2⟩
        rw [(hag c).1, (hag c).2]
        funext y
        idx_vars y
        exact Cert.WoDwRefIdeal.Value.ref_at _ _ y0 y1)
      (Cert.WoDwRefIdeal.Value.run m' ρ')⟩

end Cert.WoDw.Claims
-- ==== Proof.UpDwProof.lean ====
module

public import proofs.«01_k».proof.Proof.Gen.UpDwIdeal.Value
public import proofs.«01_k».proof.Proof.Gen.UpDwRefIdeal.Run
public import proofs.«01_k».proof.Defs
public import Idealize.ShloMosaic.Lib.Pointwise
public import Idealize.ShloMosaic.Lib.Pipeline.ValueKit
public import Idealize.ShloMosaic.Lib.Pipeline.ReadBack
public import Idealize.ShloMosaic.Adequacy

@[expose] public section

set_option maxRecDepth 16384

noncomputable section

namespace Cert.UpDwIdeal.Value

open Cert.UpDwIdeal Cert.UpDwIdeal.Gen Idealize.ShloMosaic Idealize.ShloMosaic.TcCoe Idealize.SL.Sem
open Idealize.ShloMosaic.Pipeline

/-! The gradient of a projection's weight, a sum over the 4096 rows, in four column blocks. -/

/-- The gradient at block `q`, row `r` and column `c`. -/
def dw (a : FVec Ideal S4096x512 .bf16) (b : FVec Ideal S4096x1024 .bf16) (q : Fin 4) (r : Fin 512) (c : Fin 256) : EReal :=
  ∑ k : Fin 4096, a (ix2 k r) * b (ix2 k ⟨q.val * 256 + c.val, by omega⟩)

theorem idx : ∀ t : Fin cfg0.N, win0_0.index t = ![0, 0] ∧ win0_1.index t = ![0, t.val] ∧ win0_2.index t = ![t.val, 0, 0] :=
  (by decide +kernel : ∀ t : Fin grid0.N, _)

theorem pay1_at (a : FVec Ideal S4096x512 .bf16) (b : FVec Ideal S4096x256 .bf16) (r : Fin 512) (c : Fin 256) :
    k0_pay1 (F := Ideal) a b (ix3 0 r c) = ∑ k : Fin 4096, a (ix2 k r) * b (ix2 k c) := by
  pointwise [k0_pay1]

variable (m : (ℓ : Loc nD τ sig) → Buf (Elt Ideal) ℓ)

theorem t_lt (t : Fin cfg0.N) : t.val < 4 := lt_of_lt_of_eq t.isLt N_0

theorem blk0 (c : Dev nD) (t : Fin cfg0.N) (k : Fin 4096) (r : Fin 512) :
    (show FVec Ideal S4096x512 .bf16 from iblk m c 0 t) (ix2 k r) = m ((c : Thread nD τ).loc main_arg0) (ix2 k r) := by
  blk_point [iblk, V, idx t]

theorem blk1 (c : Dev nD) (t : Fin cfg0.N) (k : Fin 4096) (j : Fin 256) :
    (show FVec Ideal S4096x256 .bf16 from iblk m c 1 t) (ix2 k j)
      = m ((c : Thread nD τ).loc main_arg1) (ix2 k ⟨t.val * 256 + j.val, by have := t_lt t; omega⟩) := by
  blk_point [iblk, V, idx t]

theorem out_at (c : Dev nD) (t : Fin cfg0.N) (r : Fin 512) (j : Fin 256) :
    out0_2 (F := Ideal) (iblk m c 0 t) (iblk m c 1 t) (ix3 0 r j)
      = dw (m ((c : Thread nD τ).loc main_arg0)) (m ((c : Thread nD τ).loc main_arg1)) ⟨t.val, t_lt t⟩ r j := by
  have e0 := blk0 m c t
  have e1 := blk1 m c t
  frame_out
  generalize iblk m c 0 t = x0 at e0 ⊢
  generalize iblk m c 1 t = x1 at e1 ⊢
  rw [pay1_at]
  exact Finset.sum_congr rfl fun k _ => by rw [← e0, ← e1]

/-- The array the kernel leaves. -/
theorem final (c : Dev nD) : (dats m 0 c).arrAt 2 cfg0.N = fun y : S4x512x256.Idx =>
    dw (m ((c : Thread nD τ).loc main_arg0)) (m ((c : Thread nD τ).loc main_arg1)) (y 0) (y 1) (y 2) := by
  refine (dats m 0 c).arrAt_eq_of_covers 2 _ (by decide +kernel) fun t hf y => ?_
  blk_simp
  rw [after0_2]
  idx_vars y
  have h0 : (win0_2.blk t).view.emb (ix3 y0 y1 y2) 0 = (⟨t.val, t_lt t⟩ : Fin 4) := by
    apply Fin.ext; blk_simp [idx t]
  have h1 : (win0_2.blk t).view.emb (ix3 y0 y1 y2) 1 = (y1 : Fin 512) := by
    apply Fin.ext; blk_simp [idx t]
  have h2 : (win0_2.blk t).view.emb (ix3 y0 y1 y2) 2 = (y2 : Fin 256) := by
    apply Fin.ext; blk_simp [idx t]
  rw [h0, h1, h2]
  obtain rfl : y0 = 0 := by omega
  exact out_at m c t y1 y2

end Cert.UpDwIdeal.Value

namespace Cert.UpDwRefIdeal.Value

open Cert.UpDwRefIdeal Cert.UpDwRefIdeal.Gen Idealize.ShloMosaic Idealize.ShloMosaic.TcCoe Idealize.SL.Sem

/-- The reference's result is the same sum. -/
theorem ref_at (a : FVec Ideal S4096x512 .bf16) (b : FVec Ideal S4096x1024 .bf16) (q : Fin 4) (r : Fin 512) (c : Fin 256) :
    truncf (F := Ideal) .bf16 (transpose S4x512x256 [1, 0, 2] (shapeCast _ (transpose S512x1024 [1, 0] (Host.dotGeneral dot_S4096x1024_S4096x512_S1024x512_0_0_1_1_n_n none (extf .f32 b bitsLt_bf16_f32) (extf .f32 a bitsLt_bf16_f32)) transposes_S1024x512_S512x1024_1_0) shapeCasts_S512x1024_S512x4x256) transposes_S512x4x256_S4x512x256_1_0_2) bitsLt_bf16_f32 (ix3 q r c)
      = Cert.UpDwIdeal.Value.dw a b q r c := by
  pointwise []
  exact Finset.sum_congr rfl fun k _ => mul_comm _ _

end Cert.UpDwRefIdeal.Value

namespace Cert.UpDw.Claims

open Idealize.ShloMosaic Idealize.SL.Sem

/-- The reference runs and keeps its arguments. -/
theorem frameR : quiescent_UpDwRefIdeal := by
  intro m ρ _
  exact (θ_run Cert.UpDwRefIdeal.defs _ _).mono (fun r h => ⟨fun c => (h c).2, sem_eq_zero_of_no_sems (by decide) r.2⟩) (Cert.UpDwRefIdeal.Value.run m ρ)

/-- The kernel's gradient is the reference's. -/
theorem algebraic : algebraic_UpDwIdeal_UpDwRefIdeal := fun m ρ m' ρ' _ hag =>
  ⟨_,
    (θ_run _ _ _).mono (fun _ h c => ⟨(h c).1.trans (Cert.UpDwIdeal.Value.final m c), (h c).2⟩)
      (Cert.UpDwIdeal.Value.run_blocks m ρ),
    (θ_run _ _ _).mono (fun _ h c => by
        refine ⟨(h c).1.trans ?_, (h c).2⟩
        rw [(hag c).1, (hag c).2]
        funext y
        idx_vars y
        exact Cert.UpDwRefIdeal.Value.ref_at _ _ y0 y1 y2)
      (Cert.UpDwRefIdeal.Value.run m' ρ')⟩

end Cert.UpDw.Claims
-- ==== Proof.FfnInProof.lean ====
module

public import proofs.«01_k».proof.Proof.Gen.FfnInIdeal.Value
public import proofs.«01_k».proof.Proof.Gen.FfnInRefIdeal.Run
public import proofs.«01_k».proof.Defs
public import Idealize.ShloMosaic.Lib.Pointwise
public import Idealize.ShloMosaic.Lib.Pipeline.ValueKit
public import Idealize.ShloMosaic.Lib.Pipeline.ReadBack
public import Idealize.ShloMosaic.Adequacy
public import proofs.«01_k».proof.Proof.OutDxProof

@[expose] public section

set_option maxRecDepth 16384

noncomputable section

namespace Cert.FfnInIdeal.Value

open Cert.FfnInIdeal Cert.FfnInIdeal.Gen Idealize.ShloMosaic Idealize.ShloMosaic.TcCoe Idealize.SL.Sem
open Idealize.ShloMosaic.Pipeline

/-! The feed-forward network's first product and its gate, four sub-blocks of 256 rows in each block of 1024. -/

open Cert.OutDxIdeal.Value (lgs)

theorem pay4_at (x : FVec Ideal S256x1024 .bf16) (w : FVec Ideal S1024x1408 .bf16) (r : Fin 256) (c : Fin 1408) : k0_pay4 (F := Ideal) x w (ix4 0 0 r c) = ∑ k : Fin 1024, x (ix2 r k) * w (ix2 k c) := by
  pointwise [k0_pay4, k0_pay2]
theorem pay6_at (x : FVec Ideal S256x1024 .bf16) (w v : FVec Ideal S1024x1408 .bf16) (r : Fin 256) (c : Fin 1408) :
    k0_pay6 (F := Ideal) x w v (ix2 r c) = (∑ k : Fin 1024, x (ix2 r k) * w (ix2 k c)) * lgs (∑ k : Fin 1024, x (ix2 r k) * w (ix2 k c)) * ∑ k : Fin 1024, x (ix2 r k) * v (ix2 k c) := by
  pointwise [k0_pay6, k0_pay2, k0_pay3]
  rfl

section rest
variable (x : FVec Ideal S256x1024 .bf16) (w v : FVec Ideal S1024x1408 .bf16)
theorem pay5_eq : k0_pay5 (F := Ideal) x v = k0_pay4 x v := rfl
theorem pay9_eq : k0_pay9 (F := Ideal) (k0_pay7 x w) = k0_pay4 x w := rfl
theorem pay10_eq : k0_pay10 (F := Ideal) x v = k0_pay4 x v := rfl
theorem pay14_eq : k0_pay14 (F := Ideal) x w = k0_pay4 x w := rfl
theorem pay15_eq : k0_pay15 (F := Ideal) (k0_pay13 x v) = k0_pay4 x v := rfl
theorem pay19_eq : k0_pay19 (F := Ideal) x w = k0_pay4 x w := rfl
theorem pay20_eq : k0_pay20 (F := Ideal) x v = k0_pay4 x v := rfl
theorem pay11_eq : k0_pay11 (F := Ideal) x (k0_pay7 x w) v = k0_pay6 x w v := rfl
theorem pay16_eq : k0_pay16 (F := Ideal) (k0_pay12 x w) (k0_pay13 x v) = k0_pay6 x w v := rfl
theorem pay1_eq : k0_pay1 (F := Ideal) (k0_pay17 x w) (k0_pay18 x v) (k0_pay21 x w) = k0_pay6 x w v := rfl
end rest

theorem idx : ∀ t : Fin cfg0.N, win0_0.index t = ![t.val % 4, 0] ∧ win0_1.index t = ![0, t.val / 4] ∧ win0_2.index t = ![0, 2 + t.val / 4]
    ∧ win0_3.index t = ![0, t.val / 4, t.val % 4, 0] ∧ win0_4.index t = ![t.val % 4, t.val / 4] :=
  (by decide +kernel : ∀ t : Fin grid0.N, _)

/-- What a block's body leaves: the product's two halves, and the gated product. -/
def bh (x : FVec Ideal S1024x1024 .bf16) (w v : FVec Ideal S1024x1408 .bf16) (h : Fin 2) (r : Fin 1024) (c : Fin 1408) : EReal :=
  if h = 0 then ∑ k : Fin 1024, x (ix2 r k) * w (ix2 k c) else ∑ k : Fin 1024, x (ix2 r k) * v (ix2 k c)
def bu (x : FVec Ideal S1024x1024 .bf16) (w v : FVec Ideal S1024x1408 .bf16) (r : Fin 1024) (c : Fin 1408) : EReal :=
  (∑ k : Fin 1024, x (ix2 r k) * w (ix2 k c)) * lgs (∑ k : Fin 1024, x (ix2 r k) * w (ix2 k c)) * ∑ k : Fin 1024, x (ix2 r k) * v (ix2 k c)

section stores
variable (xb : FVec Ideal S1024x1024 .bf16) (wb vb : FVec Ideal S1024x1408 .bf16) (q : Fin 4) (x : FVec Ideal S256x1024 .bf16) (w v : FVec Ideal S1024x1408 .bf16)

theorem store_first (hd : ∀ r k, x (ix2 r k) = xb (ix2 ⟨q.val * 256 + r.val, by omega⟩ k)) (hw : ∀ k c, w (ix2 k c) = wb (ix2 k c))
    (r : Fin 256) (c : Fin 1408) (h : Fin 2) (R : Fin 1024) (hh : h.val = 0) (hR : R.val = q.val * 256 + r.val) :
    k0_pay4 (F := Ideal) x w (ix4 0 0 r c) = bh xb wb vb h R c := by
  have e : ∀ p, (⟨q.val * 256 + r.val, p⟩ : Fin 1024) = R := fun p => Fin.ext hR.symm
  obtain rfl : h = 0 := Fin.ext hh
  rw [pay4_at, bh, if_pos rfl]
  simp only [hd, hw, e]

theorem store_second (hd : ∀ r k, x (ix2 r k) = xb (ix2 ⟨q.val * 256 + r.val, by omega⟩ k)) (hw : ∀ k c, w (ix2 k c) = vb (ix2 k c))
    (r : Fin 256) (c : Fin 1408) (h : Fin 2) (R : Fin 1024) (hh : h.val = 1) (hR : R.val = q.val * 256 + r.val) :
    k0_pay4 (F := Ideal) x w (ix4 0 0 r c) = bh xb wb vb h R c := by
  have e : ∀ p, (⟨q.val * 256 + r.val, p⟩ : Fin 1024) = R := fun p => Fin.ext hR.symm
  obtain rfl : h = 1 := Fin.ext hh
  rw [pay4_at, bh, if_neg (by decide)]
  simp only [hd, hw, e]

theorem store_gated (hd : ∀ r k, x (ix2 r k) = xb (ix2 ⟨q.val * 256 + r.val, by omega⟩ k)) (hw : ∀ k c, w (ix2 k c) = wb (ix2 k c)) (hv : ∀ k c, v (ix2 k c) = vb (ix2 k c))
    (r : Fin 256) (c : Fin 1408) (R : Fin 1024) (hR : R.val = q.val * 256 + r.val) :
    k0_pay6 (F := Ideal) x w v (ix2 r c) = bu xb wb vb R c := by
  have e : ∀ p, (⟨q.val * 256 + r.val, p⟩ : Fin 1024) = R := fun p => Fin.ext hR.symm
  rw [pay6_at, bu]
  simp only [hd, hw, hv, e]
end stores

theorem out3_at (x0 : FVec Ideal S1024x1024 .bf16) (x1 x2 : FVec Ideal S1024x1408 .bf16) (h : Fin 2) (r : Fin 1024) (j : Fin 1408) :
    out0_3 (F := Ideal) x0 x1 x2 (ix4 h 0 r j) = bh x0 x1 x2 h r j := by
  frame_out
  canon_tiles x hx
  all_goals (idx_vars x; try simp only [pay5_eq, pay9_eq, pay10_eq, pay14_eq, pay15_eq, pay19_eq, pay20_eq])
  all_goals (obtain rfl := Fin.ext hx3; obtain rfl : x0 = 0 := Subsingleton.elim _ _; obtain rfl : x1 = 0 := Subsingleton.elim _ _)
  case piece0 =>
    refine store_second _ _ _ 3 _ _ ?_ ?_ _ _ _ _ ?_ ?_
    all_goals first | (simp at hx0 ⊢; omega; done) | omega | (intro r k; rfl) | (intro r k; pointwise; done) | (intro r k; pointwise; blk_ext)
  case piece1 =>
    refine store_first _ _ _ 3 _ _ ?_ ?_ _ _ _ _ ?_ ?_
    all_goals first | (simp at hx0 ⊢; omega; done) | omega | (intro r k; rfl) | (intro r k; pointwise; done) | (intro r k; pointwise; blk_ext)
  case piece2 =>
    refine store_second _ _ _ 2 _ _ ?_ ?_ _ _ _ _ ?_ ?_
    all_goals first | (simp at hx0 ⊢; omega; done) | omega | (intro r k; rfl) | (intro r k; pointwise; done) | (intro r k; pointwise; blk_ext)
  case piece3 =>
    refine store_first _ _ _ 2 _ _ ?_ ?_ _ _ _ _ ?_ ?_
    all_goals first | (simp at hx0 ⊢; omega; done) | omega | (intro r k; rfl) | (intro r k; pointwise; done) | (intro r k; pointwise; blk_ext)
  case piece4 =>
    refine store_second _ _ _ 1 _ _ ?_ ?_ _ _ _ _ ?_ ?_
    all_goals first | (simp at hx0 ⊢; omega; done) | omega | (intro r k; rfl) | (intro r k; pointwise; done) | (intro r k; pointwise; blk_ext)
  case piece5 =>
    refine store_first _ _ _ 1 _ _ ?_ ?_ _ _ _ _ ?_ ?_
    all_goals first | (simp at hx0 ⊢; omega; done) | omega | (intro r k; rfl) | (intro r k; pointwise; done) | (intro r k; pointwise; blk_ext)
  case piece6 =>
    refine store_second _ _ _ 0 _ _ ?_ ?_ _ _ _ _ ?_ ?_
    all_goals first | (simp at hx0 ⊢; omega; done) | omega | (intro r k; rfl) | (intro r k; pointwise; done) | (intro r k; pointwise; blk_ext)
  case piece7 =>
    refine store_first _ _ _ 0 _ _ ?_ ?_ _ _ _ _ ?_ ?_
    all_goals first | (simp at hx0 ⊢; omega; done) | omega | (intro r k; rfl) | (intro r k; pointwise; done) | (intro r k; pointwise; blk_ext)

theorem out4_at (x0 : FVec Ideal S1024x1024 .bf16) (x1 x2 : FVec Ideal S1024x1408 .bf16) (r : Fin 1024) (j : Fin 1408) :
    out0_4 (F := Ideal) x0 x1 x2 (ix2 r j) = bu x0 x1 x2 r j := by
  frame_out
  canon_tiles x hx
  all_goals (idx_vars x; try simp only [pay11_eq, pay16_eq, pay1_eq])
  all_goals obtain rfl := Fin.ext hx1
  case piece0 =>
    refine store_gated _ _ _ 3 _ _ _ ?_ ?_ ?_ _ _ _ ?_
    all_goals first | (simp at hx0 ⊢; omega; done) | omega | (intro r k; rfl) | (intro r k; pointwise; done) | (intro r k; pointwise; blk_ext)
  case piece1 =>
    refine store_gated _ _ _ 2 _ _ _ ?_ ?_ ?_ _ _ _ ?_
    all_goals first | (simp at hx0 ⊢; omega; done) | omega | (intro r k; rfl) | (intro r k; pointwise; done) | (intro r k; pointwise; blk_ext)
  case piece2 =>
    refine store_gated _ _ _ 1 _ _ _ ?_ ?_ ?_ _ _ _ ?_
    all_goals first | (simp at hx0 ⊢; omega; done) | omega | (intro r k; rfl) | (intro r k; pointwise; done) | (intro r k; pointwise; blk_ext)
  case piece3 =>
    refine store_gated _ _ _ 0 _ _ _ ?_ ?_ ?_ _ _ _ ?_
    all_goals first | (simp at hx0 ⊢; omega; done) | omega | (intro r k; rfl) | (intro r k; pointwise; done) | (intro r k; pointwise; blk_ext)

/-! The arrays the kernel leaves, from its arguments. -/

/-- The product at row `r` and column `C`. -/
def hh (x : FVec Ideal S4096x1024 .bf16) (w : FVec Ideal S1024x5632 .bf16) (r : Fin 4096) (C : Fin 5632) : EReal :=
  ∑ k : Fin 1024, x (ix2 r k) * w (ix2 k C)
/-- Half `h` of it, at column `c` of block `j`. -/
def ab (x : FVec Ideal S4096x1024 .bf16) (w : FVec Ideal S1024x5632 .bf16) (h j : Fin 2) (r : Fin 4096) (c : Fin 1408) : EReal :=
  hh x w r ⟨h.val * 2816 + (j.val * 1408 + c.val), by omega⟩
/-- The gated product. -/
def uu (x : FVec Ideal S4096x1024 .bf16) (w : FVec Ideal S1024x5632 .bf16) (r : Fin 4096) (c : Fin 2816) : EReal :=
  hh x w r ⟨c.val, by omega⟩ * lgs (hh x w r ⟨c.val, by omega⟩) * hh x w r ⟨2816 + c.val, by omega⟩

variable (m : (ℓ : Loc nD τ sig) → Buf (Elt Ideal) ℓ)

theorem half_lt (t : Fin cfg0.N) : t.val / 4 < 2 := by
  have := lt_of_lt_of_eq t.isLt N_0; omega

theorem blk0 (c : Dev nD) (t : Fin cfg0.N) (r : Fin 1024) (k : Fin 1024) :
    (show FVec Ideal S1024x1024 .bf16 from iblk m c 0 t) (ix2 r k) = m ((c : Thread nD τ).loc main_arg0) (ix2 ⟨t.val % 4 * 1024 + r.val, by omega⟩ k) := by
  blk_point [iblk, V, idx t]

theorem blk1 (c : Dev nD) (t : Fin cfg0.N) (r : Fin 1024) (k : Fin 1408) :
    (show FVec Ideal S1024x1408 .bf16 from iblk m c 1 t) (ix2 r k) = m ((c : Thread nD τ).loc main_arg1) (ix2 r ⟨t.val / 4 * 1408 + k.val, by have := half_lt t; omega⟩) := by
  blk_point [iblk, V, idx t]

theorem blk2 (c : Dev nD) (t : Fin cfg0.N) (r : Fin 1024) (k : Fin 1408) :
    (show FVec Ideal S1024x1408 .bf16 from iblk m c 2 t) (ix2 r k) = m ((c : Thread nD τ).loc main_arg1) (ix2 r ⟨(2 + t.val / 4) * 1408 + k.val, by have := half_lt t; omega⟩) := by
  blk_point [iblk, V, idx t]

theorem bh_eq (c : Dev nD) (t : Fin cfg0.N) (h : Fin 2) (r : Fin 1024) (j : Fin 1408) :
    bh (show FVec Ideal S1024x1024 .bf16 from iblk m c 0 t) (show FVec Ideal S1024x1408 .bf16 from iblk m c 1 t) (show FVec Ideal S1024x1408 .bf16 from iblk m c 2 t) h r j
      = ab (m ((c : Thread nD τ).loc main_arg0)) (m ((c : Thread nD τ).loc main_arg1)) h ⟨t.val / 4, half_lt t⟩ ⟨t.val % 4 * 1024 + r.val, by omega⟩ j := by
  obtain rfl | rfl : h = 0 ∨ h = 1 := by omega
  · rw [bh, if_pos rfl, ab, hh]
    exact Finset.sum_congr rfl fun k _ => congrArg₂ (fun a b : EReal => a * b) (blk0 m c t r k)
      ((blk1 m c t k j).trans (congrArg (fun C : Fin 5632 => (show FVec Ideal S1024x5632 .bf16 from (m ((c : Thread nD τ).loc main_arg1))) (ix2 k C)) (Fin.ext (by show t.val / 4 * 1408 + j.val = 0 * 2816 + (t.val / 4 * 1408 + j.val); omega))))
  · rw [bh, if_neg (by decide), ab, hh]
    exact Finset.sum_congr rfl fun k _ => congrArg₂ (fun a b : EReal => a * b) (blk0 m c t r k)
      ((blk2 m c t k j).trans (congrArg (fun C : Fin 5632 => (show FVec Ideal S1024x5632 .bf16 from (m ((c : Thread nD τ).loc main_arg1))) (ix2 k C)) (Fin.ext (by show (2 + t.val / 4) * 1408 + j.val = 1 * 2816 + (t.val / 4 * 1408 + j.val); omega))))

theorem bu_bh (x : FVec Ideal S1024x1024 .bf16) (w v : FVec Ideal S1024x1408 .bf16) (r : Fin 1024) (c : Fin 1408) :
    bu x w v r c = bh x w v 0 r c * lgs (bh x w v 0 r c) * bh x w v 1 r c := by
  rw [bh, if_pos rfl, bh, if_neg (by decide), bu]
theorem ab_first (x : FVec Ideal S4096x1024 .bf16) (w : FVec Ideal S1024x5632 .bf16) (j : Fin 2) (r : Fin 4096) (c : Fin 1408) :
    ab x w 0 j r c = hh x w r ⟨j.val * 1408 + c.val, by omega⟩ :=
  congrArg (hh x w r) (Fin.ext (by show 0 * 2816 + (j.val * 1408 + c.val) = j.val * 1408 + c.val; omega))
theorem ab_second (x : FVec Ideal S4096x1024 .bf16) (w : FVec Ideal S1024x5632 .bf16) (j : Fin 2) (r : Fin 4096) (c : Fin 1408) :
    ab x w 1 j r c = hh x w r ⟨2816 + (j.val * 1408 + c.val), by omega⟩ :=
  congrArg (hh x w r) (Fin.ext (by show 1 * 2816 + (j.val * 1408 + c.val) = 2816 + (j.val * 1408 + c.val); omega))

theorem bu_eq (c : Dev nD) (t : Fin cfg0.N) (r : Fin 1024) (j : Fin 1408) :
    bu (show FVec Ideal S1024x1024 .bf16 from iblk m c 0 t) (show FVec Ideal S1024x1408 .bf16 from iblk m c 1 t) (show FVec Ideal S1024x1408 .bf16 from iblk m c 2 t) r j
      = uu (m ((c : Thread nD τ).loc main_arg0)) (m ((c : Thread nD τ).loc main_arg1)) ⟨t.val % 4 * 1024 + r.val, by omega⟩ ⟨t.val / 4 * 1408 + j.val, by have := half_lt t; omega⟩ := by
  rw [bu_bh, bh_eq, bh_eq, ab_first, ab_second, uu]

theorem final3 (c : Dev nD) : (dats m 0 c).arrAt 3 cfg0.N = fun y : S2x2x4096x1408.Idx => ab (m ((c : Thread nD τ).loc main_arg0)) (m ((c : Thread nD τ).loc main_arg1)) (y 0) (y 1) (y 2) (y 3) := by
  refine (dats m 0 c).arrAt_eq_of_covers 3 _ (by decide +kernel) fun t hf y => ?_
  blk_simp
  rw [after0_3]
  idx_vars y
  have h0 : (win0_3.blk t).view.emb (ix4 y0 y1 y2 y3) 0 = (y0 : Fin 2) := by
    apply Fin.ext; blk_simp [idx t]
  have h1 : (win0_3.blk t).view.emb (ix4 y0 y1 y2 y3) 1 = (⟨t.val / 4, half_lt t⟩ : Fin 2) := by
    apply Fin.ext; blk_simp [idx t]
  have h2 : (win0_3.blk t).view.emb (ix4 y0 y1 y2 y3) 2 = (⟨t.val % 4 * 1024 + y2.val, by omega⟩ : Fin 4096) := by
    apply Fin.ext; blk_simp [idx t]
  have h3 : (win0_3.blk t).view.emb (ix4 y0 y1 y2 y3) 3 = (y3 : Fin 1408) := by
    apply Fin.ext; blk_simp [idx t]
  rw [h0, h1, h2, h3]
  obtain rfl : y1 = 0 := by omega
  exact (out3_at _ _ _ y0 y2 y3).trans (bh_eq m c t y0 y2 y3)

theorem final4 (c : Dev nD) : (dats m 0 c).arrAt 4 cfg0.N = fun y : S4096x2816.Idx => uu (m ((c : Thread nD τ).loc main_arg0)) (m ((c : Thread nD τ).loc main_arg1)) (y 0) (y 1) := by
  refine (dats m 0 c).arrAt_eq_of_covers 4 _ (by decide +kernel) fun t hf y => ?_
  blk_simp
  rw [after0_4]
  idx_vars y
  have h0 : (win0_4.blk t).view.emb (ix2 y0 y1) 0 = (⟨t.val % 4 * 1024 + y0.val, by omega⟩ : Fin 4096) := by
    apply Fin.ext; blk_simp [idx t]
  have h1 : (win0_4.blk t).view.emb (ix2 y0 y1) 1 = (⟨t.val / 4 * 1408 + y1.val, by have := half_lt t; omega⟩ : Fin 2816) := by
    apply Fin.ext; blk_simp [idx t]
  rw [h0, h1]
  exact (out4_at _ _ _ y0 y1).trans (bu_eq m c t y0 y1)

end Cert.FfnInIdeal.Value

namespace Cert.FfnInRefIdeal.Value

open Cert.FfnInRefIdeal Cert.FfnInRefIdeal.Gen Idealize.ShloMosaic Idealize.ShloMosaic.TcCoe Idealize.SL.Sem

/-! The reference, cut at the product. -/

/-- The product. -/
def ht (x : FVec Ideal S4096x1024 .bf16) (w : FVec Ideal S1024x5632 .bf16) : FVec Ideal S4096x5632 .f32 :=
  (Host.dotGeneral dot_S4096x1024_S1024x5632_S4096x5632_1_0_0_1_n_n none (extf .f32 x bitsLt_bf16_f32) (extf .f32 w bitsLt_bf16_f32))
/-- Its columns in blocks. -/
def packed (h : FVec Ideal S4096x5632 .f32) : FVec Ideal S2x2x4096x1408 .bf16 :=
  truncf .bf16 (transpose S2x2x4096x1408 [1, 2, 0, 3] (shapeCast _ h shapeCasts_S4096x5632_S4096x2x2x1408) transposes_S4096x2x2x1408_S2x2x4096x1408_1_2_0_3) bitsLt_bf16_f32
/-- Its gated half. -/
def gated (h : FVec Ideal S4096x5632 .f32) : FVec Ideal S4096x2816 .bf16 :=
  truncf .bf16 (mulf (mulf (extractStridedSlice S4096x2816 ![0, 0] h slices_S4096x5632_S4096x2816_0_0) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extractStridedSlice S4096x2816 ![0, 0] h slices_S4096x5632_S4096x2816_0_0)))))) (extractStridedSlice S4096x2816 ![0, 2816] h slices_S4096x5632_S4096x2816_0_2816)) bitsLt_bf16_f32

theorem ht_at (x : FVec Ideal S4096x1024 .bf16) (w : FVec Ideal S1024x5632 .bf16) (r : Fin 4096) (c : Fin 5632) : ht x w (ix2 r c) = ∑ k : Fin 1024, x (ix2 r k) * w (ix2 k c) := by
  pointwise [ht]
theorem packed_at (H : FVec Ideal S4096x5632 .f32) (h j : Fin 2) (r : Fin 4096) (c : Fin 1408) : packed H (ix4 h j r c) = H (ix2 r ⟨h.val * 2816 + (j.val * 1408 + c.val), by omega⟩) := by
  pointwise [packed]
  exact congrArg (fun C : Fin 5632 => H (ix2 r C)) (Fin.ext (Nat.add_assoc _ _ _))
theorem gated_at (H : FVec Ideal S4096x5632 .f32) (r : Fin 4096) (c : Fin 2816) :
    gated H (ix2 r c) = H (ix2 r ⟨c.val, by omega⟩) * Ideal.div 1 (1 + Ideal.exp (-H (ix2 r ⟨c.val, by omega⟩))) * H (ix2 r ⟨2816 + c.val, by omega⟩) := by
  pointwise [gated]

end Cert.FfnInRefIdeal.Value

namespace Cert.FfnIn.Claims

open Idealize.ShloMosaic Idealize.SL.Sem

/-- The reference runs and keeps its arguments. -/
theorem frameR : quiescent_FfnInRefIdeal := by
  intro m ρ _
  exact (θ_run Cert.FfnInRefIdeal.defs _ _).mono (fun r h => ⟨fun c => (h c).2.2, sem_eq_zero_of_no_sems (by decide) r.2⟩) (Cert.FfnInRefIdeal.Value.run m ρ)

open Cert.FfnInRefIdeal.Value in
/-- The two halves of the product are the reference's. -/
theorem packed_eq (x : FVec Ideal Cert.FfnInIdeal.S4096x1024 .bf16) (w : FVec Ideal Cert.FfnInIdeal.S1024x5632 .bf16) (h j : Fin 2) (r : Fin 4096) (c : Fin 1408) :
    packed (ht x w) (ix4 h j r c) = Cert.FfnInIdeal.Value.ab x w h j r c := by
  rw [packed_at, ht_at]
  rfl

open Cert.FfnInRefIdeal.Value in
/-- The gated product is the reference's. -/
theorem gated_eq (x : FVec Ideal Cert.FfnInIdeal.S4096x1024 .bf16) (w : FVec Ideal Cert.FfnInIdeal.S1024x5632 .bf16) (r : Fin 4096) (c : Fin 2816) :
    gated (ht x w) (ix2 r c) = Cert.FfnInIdeal.Value.uu x w r c := by
  rw [gated_at, ht_at, ht_at, Cert.OutDx.Claims.logistic_eq]
  rfl

/-- The kernel's results are the reference's. -/
theorem algebraic : algebraic_FfnInIdeal_FfnInRefIdeal := fun m ρ m' ρ' _ hag =>
  ⟨_, _,
    (θ_run _ _ _).mono (fun _ h c => ⟨(h c).1.trans (Cert.FfnInIdeal.Value.final3 m c), (h c).2.1.trans (Cert.FfnInIdeal.Value.final4 m c), (h c).2.2⟩)
      (Cert.FfnInIdeal.Value.run_blocks m ρ),
    (θ_run _ _ _).mono (fun _ h c => by
        refine ⟨(h c).1.trans ?_, (h c).2.1.trans ?_, (h c).2.2⟩
        · rw [(hag c).1, (hag c).2]
          funext y
          idx_vars y
          exact packed_eq _ _ y0 y1 y2 y3
        · rw [(hag c).1, (hag c).2]
          funext y
          idx_vars y
          exact gated_eq _ _ y0 y1)
      (Cert.FfnInRefIdeal.Value.run m' ρ')⟩

end Cert.FfnIn.Claims
-- ==== Proof.MemDwProof.lean ====
module

public import proofs.«01_k».proof.Proof.Gen.MemDwIdeal.Value
public import proofs.«01_k».proof.Proof.Gen.MemDwRefIdeal.Run
public import proofs.«01_k».proof.Defs
public import Idealize.ShloMosaic.Lib.Pointwise
public import Idealize.ShloMosaic.Lib.Pipeline.ValueKit
public import Idealize.ShloMosaic.Lib.Pipeline.ReadBack
public import Idealize.ShloMosaic.Adequacy

@[expose] public section

set_option maxRecDepth 16384

noncomputable section

namespace Cert.MemDwIdeal.Value

open Cert.MemDwIdeal Cert.MemDwIdeal.Gen Idealize.ShloMosaic Idealize.ShloMosaic.TcCoe Idealize.SL.Sem
open Idealize.ShloMosaic.Pipeline

/-! The gradient of the weight of the projected memory. -/

/-- The gradient at row `r` and column `c`. -/
def grad (a : FVec Ideal S256x1024 .bf16) (b : FVec Ideal S256x1024 .bf16) (r : Fin 1024) (c : Fin 1024) : EReal :=
  ∑ k : Fin 256, a (ix2 k r) * b (ix2 k c)

theorem idx : ∀ t : Fin cfg0.N, win0_0.index t = ![0, 0] ∧ win0_1.index t = ![0, 0] ∧ win0_2.index t = ![0, 0] :=
  (by decide +kernel : ∀ t : Fin grid0.N, _)

theorem pay1_at (a : FVec Ideal S256x1024 .bf16) (b : FVec Ideal S256x1024 .bf16) (r : Fin 1024) (c : Fin 1024) :
    k0_pay1 (F := Ideal) a b (ix2 r c) = grad a b r c := by
  pointwise [k0_pay1]
  rfl

variable (m : (ℓ : Loc nD τ sig) → Buf (Elt Ideal) ℓ)

theorem blk0 (c : Dev nD) (t : Fin cfg0.N) (r : Fin 256) (k : Fin 1024) :
    (show FVec Ideal S256x1024 .bf16 from iblk m c 0 t) (ix2 r k) = m ((c : Thread nD τ).loc main_arg0) (ix2 r k) := by
  blk_point [iblk, V, idx t]

theorem blk1 (c : Dev nD) (t : Fin cfg0.N) (r : Fin 256) (k : Fin 1024) :
    (show FVec Ideal S256x1024 .bf16 from iblk m c 1 t) (ix2 r k) = m ((c : Thread nD τ).loc main_arg1) (ix2 r k) := by
  blk_point [iblk, V, idx t]

theorem out_at (c : Dev nD) (t : Fin cfg0.N) (r : Fin 1024) (j : Fin 1024) :
    out0_2 (F := Ideal) (iblk m c 0 t) (iblk m c 1 t) (ix2 r j) = grad (m ((c : Thread nD τ).loc main_arg0)) (m ((c : Thread nD τ).loc main_arg1)) r j := by
  have e0 := blk0 m c t
  have e1 := blk1 m c t
  frame_out
  generalize iblk m c 0 t = x0 at e0 ⊢
  generalize iblk m c 1 t = x1 at e1 ⊢
  rw [pay1_at]
  exact Finset.sum_congr rfl fun k _ => by rw [← e0, ← e1]

/-- The array the kernel leaves. -/
theorem final (c : Dev nD) : (dats m 0 c).arrAt 2 cfg0.N = fun y : S1024x1024.Idx => grad (m ((c : Thread nD τ).loc main_arg0)) (m ((c : Thread nD τ).loc main_arg1)) (y 0) (y 1) := by
  refine (dats m 0 c).arrAt_eq_of_covers 2 _ (by decide +kernel) fun t hf y => ?_
  blk_simp
  rw [after0_2]
  idx_vars y
  have h0 : (win0_2.blk t).view.emb (ix2 y0 y1) 0 = (y0 : Fin 1024) := by
    apply Fin.ext; blk_simp [idx t]
  have h1 : (win0_2.blk t).view.emb (ix2 y0 y1) 1 = (y1 : Fin 1024) := by
    apply Fin.ext; blk_simp [idx t]
  rw [h0, h1]
  exact out_at m c t y0 y1

end Cert.MemDwIdeal.Value

namespace Cert.MemDwRefIdeal.Value

open Cert.MemDwRefIdeal Cert.MemDwRefIdeal.Gen Idealize.ShloMosaic Idealize.ShloMosaic.TcCoe Idealize.SL.Sem

/-- The reference's result is the same sum. -/
theorem ref_at (a : FVec Ideal S256x1024 .bf16) (b : FVec Ideal S256x1024 .bf16) (r : Fin 1024) (c : Fin 1024) :
    (truncf .bf16 (transpose S1024x1024 [1, 0] (Host.dotGeneral dot_S256x1024_S256x1024_S1024x1024_0_0_1_1_n_n none (extf .f32 b bitsLt_bf16_f32) (extf .f32 a bitsLt_bf16_f32)) transposes_S1024x1024_S1024x1024_1_0) bitsLt_bf16_f32 : FVec Ideal S1024x1024 .bf16) (ix2 r c)
      = Cert.MemDwIdeal.Value.grad a b r c := by
  pointwise []
  exact Finset.sum_congr rfl fun k _ => mul_comm _ _

end Cert.MemDwRefIdeal.Value

namespace Cert.MemDw.Claims

open Idealize.ShloMosaic Idealize.SL.Sem

/-- The reference runs and keeps its arguments. -/
theorem frameR : quiescent_MemDwRefIdeal := by
  intro m ρ _
  exact (θ_run Cert.MemDwRefIdeal.defs _ _).mono (fun r h => ⟨fun c => (h c).2, sem_eq_zero_of_no_sems (by decide) r.2⟩) (Cert.MemDwRefIdeal.Value.run m ρ)

/-- The kernel's gradient is the reference's. -/
theorem algebraic : algebraic_MemDwIdeal_MemDwRefIdeal := fun m ρ m' ρ' _ hag =>
  ⟨_,
    (θ_run _ _ _).mono (fun _ h c => ⟨(h c).1.trans (Cert.MemDwIdeal.Value.final m c), (h c).2⟩)
      (Cert.MemDwIdeal.Value.run_blocks m ρ),
    (θ_run _ _ _).mono (fun _ h c => by
        refine ⟨(h c).1.trans ?_, (h c).2⟩
        rw [(hag c).1, (hag c).2]
        funext y
        idx_vars y
        exact Cert.MemDwRefIdeal.Value.ref_at _ _ y0 y1)
      (Cert.MemDwRefIdeal.Value.run m' ρ')⟩

end Cert.MemDw.Claims
-- ==== Proof.MemDxProof.lean ====
module

public import proofs.«01_k».proof.Proof.Gen.MemDxIdeal.Value
public import proofs.«01_k».proof.Proof.Gen.MemDxRefIdeal.Run
public import proofs.«01_k».proof.Defs
public import Idealize.ShloMosaic.Lib.Pointwise
public import Idealize.ShloMosaic.Lib.Pipeline.ValueKit
public import Idealize.ShloMosaic.Lib.Pipeline.ReadBack
public import Idealize.ShloMosaic.Adequacy

@[expose] public section

set_option maxRecDepth 16384

noncomputable section

namespace Cert.MemDxIdeal.Value

open Cert.MemDxIdeal Cert.MemDxIdeal.Gen Idealize.ShloMosaic Idealize.ShloMosaic.TcCoe Idealize.SL.Sem
open Idealize.ShloMosaic.Pipeline

/-! The gradient of the normed memory. -/

/-- The gradient at row `r` and column `c`. -/
def grad (a : FVec Ideal S256x1024 .bf16) (b : FVec Ideal S1024x1024 .bf16) (r : Fin 256) (c : Fin 1024) : EReal :=
  ∑ k : Fin 1024, a (ix2 r k) * b (ix2 c k)

theorem idx : ∀ t : Fin cfg0.N, win0_0.index t = ![0, 0] ∧ win0_1.index t = ![0, 0] ∧ win0_2.index t = ![0, 0] :=
  (by decide +kernel : ∀ t : Fin grid0.N, _)

theorem pay1_at (a : FVec Ideal S256x1024 .bf16) (b : FVec Ideal S1024x1024 .bf16) (r : Fin 256) (c : Fin 1024) :
    k0_pay1 (F := Ideal) a b (ix2 r c) = grad a b r c := by
  pointwise [k0_pay1]
  rfl

variable (m : (ℓ : Loc nD τ sig) → Buf (Elt Ideal) ℓ)

theorem blk0 (c : Dev nD) (t : Fin cfg0.N) (r : Fin 256) (k : Fin 1024) :
    (show FVec Ideal S256x1024 .bf16 from iblk m c 0 t) (ix2 r k) = m ((c : Thread nD τ).loc main_arg0) (ix2 r k) := by
  blk_point [iblk, V, idx t]

theorem blk1 (c : Dev nD) (t : Fin cfg0.N) (r : Fin 1024) (k : Fin 1024) :
    (show FVec Ideal S1024x1024 .bf16 from iblk m c 1 t) (ix2 r k) = m ((c : Thread nD τ).loc main_arg1) (ix2 r k) := by
  blk_point [iblk, V, idx t]

theorem out_at (c : Dev nD) (t : Fin cfg0.N) (r : Fin 256) (j : Fin 1024) :
    out0_2 (F := Ideal) (iblk m c 0 t) (iblk m c 1 t) (ix2 r j) = grad (m ((c : Thread nD τ).loc main_arg0)) (m ((c : Thread nD τ).loc main_arg1)) r j := by
  have e0 := blk0 m c t
  have e1 := blk1 m c t
  frame_out
  generalize iblk m c 0 t = x0 at e0 ⊢
  generalize iblk m c 1 t = x1 at e1 ⊢
  rw [pay1_at]
  exact Finset.sum_congr rfl fun k _ => by rw [← e0, ← e1]

/-- The array the kernel leaves. -/
theorem final (c : Dev nD) : (dats m 0 c).arrAt 2 cfg0.N = fun y : S256x1024.Idx => grad (m ((c : Thread nD τ).loc main_arg0)) (m ((c : Thread nD τ).loc main_arg1)) (y 0) (y 1) := by
  refine (dats m 0 c).arrAt_eq_of_covers 2 _ (by decide +kernel) fun t hf y => ?_
  blk_simp
  rw [after0_2]
  idx_vars y
  have h0 : (win0_2.blk t).view.emb (ix2 y0 y1) 0 = (y0 : Fin 256) := by
    apply Fin.ext; blk_simp [idx t]
  have h1 : (win0_2.blk t).view.emb (ix2 y0 y1) 1 = (y1 : Fin 1024) := by
    apply Fin.ext; blk_simp [idx t]
  rw [h0, h1]
  exact out_at m c t y0 y1

end Cert.MemDxIdeal.Value

namespace Cert.MemDxRefIdeal.Value

open Cert.MemDxRefIdeal Cert.MemDxRefIdeal.Gen Idealize.ShloMosaic Idealize.ShloMosaic.TcCoe Idealize.SL.Sem

/-- The reference's result is the same sum. -/
theorem ref_at (a : FVec Ideal S256x1024 .bf16) (b : FVec Ideal S1024x1024 .bf16) (r : Fin 256) (c : Fin 1024) :
    (Host.dotGeneral dot_S256x1024_S1024x1024_S256x1024_1_1_0_0_n_n none (extf .f32 a bitsLt_bf16_f32) (extf .f32 b bitsLt_bf16_f32) : FVec Ideal S256x1024 .f32) (ix2 r c)
      = Cert.MemDxIdeal.Value.grad a b r c := by
  pointwise []
  rfl

end Cert.MemDxRefIdeal.Value

namespace Cert.MemDx.Claims

open Idealize.ShloMosaic Idealize.SL.Sem

/-- The reference runs and keeps its arguments. -/
theorem frameR : quiescent_MemDxRefIdeal := by
  intro m ρ _
  exact (θ_run Cert.MemDxRefIdeal.defs _ _).mono (fun r h => ⟨fun c => (h c).2, sem_eq_zero_of_no_sems (by decide) r.2⟩) (Cert.MemDxRefIdeal.Value.run m ρ)

/-- The kernel's gradient is the reference's. -/
theorem algebraic : algebraic_MemDxIdeal_MemDxRefIdeal := fun m ρ m' ρ' _ hag =>
  ⟨_,
    (θ_run _ _ _).mono (fun _ h c => ⟨(h c).1.trans (Cert.MemDxIdeal.Value.final m c), (h c).2⟩)
      (Cert.MemDxIdeal.Value.run_blocks m ρ),
    (θ_run _ _ _).mono (fun _ h c => by
        refine ⟨(h c).1.trans ?_, (h c).2⟩
        rw [(hag c).1, (hag c).2]
        funext y
        idx_vars y
        exact Cert.MemDxRefIdeal.Value.ref_at _ _ y0 y1)
      (Cert.MemDxRefIdeal.Value.run m' ρ')⟩

end Cert.MemDx.Claims
-- ==== Proof.MemNormProof.lean ====
module

public import proofs.«01_k».proof.Proof.Gen.MemNormIdeal.Value
public import proofs.«01_k».proof.Proof.Gen.MemNormRefIdeal.Run
public import proofs.«01_k».proof.Defs
public import Idealize.ShloMosaic.Lib.Pointwise
public import Idealize.ShloMosaic.Lib.Pipeline.ValueKit
public import Idealize.ShloMosaic.Lib.Pipeline.ReadBack
public import Idealize.ShloMosaic.Adequacy
public import proofs.«01_k».proof.Proof.Norm

@[expose] public section

set_option maxRecDepth 16384

noncomputable section

namespace Cert.MemNormIdeal.Value

open Cert.MemNormIdeal Cert.MemNormIdeal.Gen Idealize.ShloMosaic Idealize.ShloMosaic.TcCoe Idealize.SL.Sem
open Idealize.ShloMosaic.Pipeline Cert.Norm

/-! The gradient of the memory's norm, one block. -/

/-- The gradient of the memory. -/
def gdx (x : FVec Ideal S256x1024 .f32) (g : FVec Ideal S1x1024 .f32) (dy : FVec Ideal S256x1024 .f32) (r : Fin 256) (c : Fin 1024) : EReal :=
  kgrad (fun k => x (ix2 r k)) (fun k => dy (ix2 r k) * g (ix2 0 k)) c
/-- The gradient of the gain. -/
def gdg (x dy : FVec Ideal S256x1024 .f32) (c : Fin 1024) : EReal := ∑ r : Fin 256, dy (ix2 r c) * (x (ix2 r c) * rn (fun k => x (ix2 r k)))

theorem pay3_at (dy : FVec Ideal S256x1024 .f32) (r : Fin 256) (c : Fin 1024) : k0_pay3 (F := Ideal) dy (ix2 r c) = dy (ix2 r c) := by
  pointwise [k0_pay3]
theorem pay6_at (x dy : FVec Ideal S256x1024 .f32) (g : FVec Ideal S1x1024 .f32) (r : Fin 256) (c : Fin 1024) : k0_pay6 (F := Ideal) x dy g (ix2 r c) = gdx x g dy r c := by
  pointwise [k0_pay6, k0_pay3, k0_pay2, k0_pay1]
  rfl
theorem pay5_at (x dy : FVec Ideal S256x1024 .f32) (a : FVec Ideal S1x1024 .f32) (c : Fin 1024) : k0_pay5 (F := Ideal) x dy a (ix2 0 c) = a (ix2 0 c) + gdg x dy c := by
  pointwise [k0_pay5, k0_pay3, k0_pay2, k0_pay1]
  rfl
theorem pay4_at (c : Fin 1024) : k0_pay4 (F := Ideal) (ix2 0 c) = 0 := by pointwise [k0_pay4]

theorem idx : ∀ t : Fin cfg0.N, win0_0.index t = ![0, 0] ∧ win0_1.index t = ![0, 0] ∧ win0_2.index t = ![0, 0] ∧ win0_3.index t = ![0, 0] ∧ win0_4.index t = ![0, 0] :=
  (by decide +kernel : ∀ t : Fin grid0.N, _)

variable (m : (ℓ : Loc nD τ sig) → Buf (Elt Ideal) ℓ)

theorem blk0 (c : Dev nD) (t : Fin cfg0.N) : (show FVec Ideal S256x1024 .f32 from iblk m c 0 t) = m ((c : Thread nD τ).loc main_arg0) := by
  funext y
  idx_vars y
  blk_point [iblk, V, idx t]
theorem blk1 (c : Dev nD) (t : Fin cfg0.N) : (show FVec Ideal S1x1024 .f32 from iblk m c 1 t) = m ((c : Thread nD τ).loc main_arg1) := by
  funext y
  idx_vars y
  blk_point [iblk, V, idx t]
theorem blk2 (c : Dev nD) (t : Fin cfg0.N) : (show FVec Ideal S256x1024 .f32 from iblk m c 2 t) = m ((c : Thread nD τ).loc main_arg2) := by
  funext y
  idx_vars y
  blk_point [iblk, V, idx t]

theorem dx_at (c : Dev nD) (t : Fin cfg0.N) (r : Fin 256) (j : Fin 1024) :
    (outsAt0 m c t).1 (ix2 r j) = gdx (m ((c : Thread nD τ).loc main_arg0)) (m ((c : Thread nD τ).loc main_arg1)) (m ((c : Thread nD τ).loc main_arg2)) r j := by
  have e0 := blk0 m c t
  have e1 := blk1 m c t
  have e2 := blk2 m c t
  unfold outsAt0
  frame_out
  generalize iblk m c 0 t = x0 at e0 ⊢
  generalize iblk m c 1 t = x1 at e1 ⊢
  generalize iblk m c 2 t = x2 at e2 ⊢
  rw [← e0, ← e1, ← e2]
  exact pay6_at _ _ _ r j

theorem dg_at (c : Dev nD) (t : Fin cfg0.N) (j : Fin 1024) :
    (outsAt0 m c t).2 (ix2 0 j) = gdg (m ((c : Thread nD τ).loc main_arg0)) (m ((c : Thread nD τ).loc main_arg2)) j := by
  have e0 := blk0 m c t
  have e2 := blk2 m c t
  unfold outsAt0
  frame_open
  simp (disch := decide) only [↓ View.readCov_skip, ↓ View.readCov_cons_toLoadRect, ↓ View.readCov_fill]
  frame_out
  generalize iblk m c 0 t = x0 at e0 ⊢
  generalize iblk m c 2 t = x2 at e2 ⊢
  rw [← e0, ← e2]
  exact (pay5_at _ _ _ j).trans (by rw [pay4_at, zero_add])

theorem final3 (c : Dev nD) : (dats m 0 c).arrAt 3 cfg0.N = fun y : S256x1024.Idx => gdx (m ((c : Thread nD τ).loc main_arg0)) (m ((c : Thread nD τ).loc main_arg1)) (m ((c : Thread nD τ).loc main_arg2)) (y 0) (y 1) := by
  refine (dats m 0 c).arrAt_eq_of_covers 3 _ (by decide +kernel) fun t hf y => ?_
  blk_simp
  rw [after0_3]
  idx_vars y
  have h0 : (win0_3.blk t).view.emb (ix2 y0 y1) 0 = (y0 : Fin 256) := by
    apply Fin.ext; blk_simp [idx t]
  have h1 : (win0_3.blk t).view.emb (ix2 y0 y1) 1 = (y1 : Fin 1024) := by
    apply Fin.ext; blk_simp [idx t]
  rw [h0, h1]
  exact dx_at m c t y0 y1

theorem final4 (c : Dev nD) : (dats m 0 c).arrAt 4 cfg0.N = fun y : S1x1024.Idx => gdg (m ((c : Thread nD τ).loc main_arg0)) (m ((c : Thread nD τ).loc main_arg2)) (y 1) := by
  refine (dats m 0 c).arrAt_eq_of_covers 4 _ (by decide +kernel) fun t hf y => ?_
  blk_simp
  rw [after0_4]
  idx_vars y
  have h1 : (win0_4.blk t).view.emb (ix2 y0 y1) 1 = (y1 : Fin 1024) := by
    apply Fin.ext; blk_simp [idx t]
  rw [h1]
  obtain rfl : y0 = 0 := Subsingleton.elim _ _
  exact dg_at m c t y1

end Cert.MemNormIdeal.Value

namespace Cert.MemNormRefIdeal.Value

open Cert.MemNormRefIdeal Cert.MemNormRefIdeal.Gen Idealize.ShloMosaic Idealize.ShloMosaic.TcCoe Idealize.SL.Sem Cert.Norm

/-! The reference, cut at the values it reads more than once. -/

/-- The mean square of each row, and the small constant. -/
def msq (x : FVec Ideal S256x1024 .f32) : FVec Ideal S256x1 .f32 :=
  addf (Host.divf (broadcastInDim S256x1 ![0] bcast_S256_S256x1_0 (Host.reduceAdd (mulf x x) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32))
/-- A gain times each row. -/
def scaled (y : FVec Ideal S256x1024 .f32) (g : FVec Ideal S1x1024 .f32) : FVec Ideal S256x1024 .f32 := mulf y (broadcastInDim S256x1024 ![0, 1] bcast_S1x1024_S256x1024_0_1 g)
/-- The part of the gradient which goes through the mean. -/
def thru (x d : FVec Ideal S256x1024 .f32) (r ms : FVec Ideal S256x1 .f32) : FVec Ideal S256x1024 .f32 :=
  broadcastInDim S256x1024 ![0] bcast_S256_S256x1024_0 (Host.reduceAdd (Host.divf (mulf (shapeCast _ (Host.reduceAdd (mulf x d) (constant S_ .f32 0x00000000#32) reducesTo_S256x1024_S256_d1 h_S_) shapeCasts_S256_S256x1) (mulf (broadcastInDim S256x1 ![] bcast_S_S256x1 (constant S_ .f32 0xBF000000#32)) (Host.divf r ms))) (broadcastInDim S256x1 ![] bcast_S_S256x1 (constant S_ .f32 0x44800000#32))) (constant S_ .f32 0x00000000#32) reducesTo_S256x1_S256_d1 h_S_)
/-- The gradient of the norm's input. -/
def back (x d t : FVec Ideal S256x1024 .f32) (r : FVec Ideal S256x1 .f32) : FVec Ideal S256x1024 .bf16 :=
  truncf .bf16 (addf (addf (mulf d (broadcastInDim S256x1024 ![0, 1] bcast_S256x1_S256x1024_0_1 r)) (mulf x t)) (mulf t x)) bitsLt_bf16_f32
/-- The gradient of the gain. -/
def gain (x y : FVec Ideal S256x1024 .f32) (r : FVec Ideal S256x1 .f32) : FVec Ideal S1x1024 .f32 :=
  shapeCast _ (Host.reduceAdd (mulf (mulf x (broadcastInDim S256x1024 ![0, 1] bcast_S256x1_S256x1024_0_1 r)) y) (constant S_ .f32 0x00000000#32) reducesTo_S256x1024_S1024_d0 h_S_) shapeCasts_S1024_S1x1024

theorem msq_at (x : FVec Ideal S256x1024 .f32) (r : Fin 256) : msq x (ix2 r 0) = ms (fun k => x (ix2 r k)) := by
  pointwise [msq]; rfl
theorem rsq_at (x : FVec Ideal S256x1024 .f32) (r : Fin 256) : Host.rsqrt (F := Ideal) (msq x) (ix2 r 0) = rn (fun k => x (ix2 r k)) := by
  pointwise
  rw [msq_at]; rfl
theorem scaled_at (y : FVec Ideal S256x1024 .f32) (g : FVec Ideal S1x1024 .f32) (r : Fin 256) (c : Fin 1024) : scaled y g (ix2 r c) = y (ix2 r c) * g (ix2 0 c) := by
  pointwise [scaled]
theorem thru_at (x d : FVec Ideal S256x1024 .f32) (r : Fin 256) (c : Fin 1024) :
    thru x d (Host.rsqrt (msq x)) (msq x) (ix2 r c) = rmean (fun k => x (ix2 r k)) (fun k => d (ix2 r k)) := by
  pointwise [thru]
  refine (Fin.sum_univ_one _).trans ?_
  rw [msq_at]; rfl

theorem back_at (x d t : FVec Ideal S256x1024 .f32) (R : FVec Ideal S256x1 .f32) (r : Fin 256) (c : Fin 1024) :
    back x d t R (ix2 r c) = d (ix2 r c) * R (ix2 r 0) + x (ix2 r c) * t (ix2 r c) + t (ix2 r c) * x (ix2 r c) := by
  pointwise [back]
theorem gain_at (x y : FVec Ideal S256x1024 .f32) (R : FVec Ideal S256x1 .f32) (c : Fin 1024) :
    gain x y R (ix2 0 c) = ∑ r : Fin 256, x (ix2 r c) * R (ix2 r 0) * y (ix2 r c) := by
  pointwise [gain]

/-- The gradient of the memory, whole. -/
def rdx (x : FVec Ideal S256x1024 .f32) (g : FVec Ideal S1x1024 .f32) (dy : FVec Ideal S256x1024 .f32) : FVec Ideal S256x1024 .bf16 :=
  back x (scaled dy g) (thru x (scaled dy g) (Host.rsqrt (msq x)) (msq x)) (Host.rsqrt (msq x))

theorem rdx_at (x : FVec Ideal S256x1024 .f32) (g : FVec Ideal S1x1024 .f32) (dy : FVec Ideal S256x1024 .f32) (r : Fin 256) (c : Fin 1024) :
    rdx x g dy (ix2 r c) = Cert.MemNormIdeal.Value.gdx x g dy r c := by
  rw [rdx, back_at, rsq_at, thru_at]
  refine (ref_eq (fun k => x (ix2 r k)) (fun k => scaled dy g (ix2 r k)) c).trans ?_
  simp only [scaled_at]
  rfl
theorem dg_at (x dy : FVec Ideal S256x1024 .f32) (c : Fin 1024) :
    gain x dy (Host.rsqrt (msq x)) (ix2 0 c) = Cert.MemNormIdeal.Value.gdg x dy c := by
  rw [gain_at]
  exact Finset.sum_congr rfl fun r _ => by rw [rsq_at, mul_comm]

end Cert.MemNormRefIdeal.Value

namespace Cert.MemNorm.Claims

open Idealize.ShloMosaic Idealize.SL.Sem

/-- The reference runs and keeps its arguments. -/
theorem frameR : quiescent_MemNormRefIdeal := by
  intro m ρ _
  exact (θ_run Cert.MemNormRefIdeal.defs _ _).mono (fun r h => ⟨fun c => (h c).2.2, sem_eq_zero_of_no_sems (by decide) r.2⟩) (Cert.MemNormRefIdeal.Value.run m ρ)

/-- The kernel's gradients are the reference's. -/
theorem algebraic : algebraic_MemNormIdeal_MemNormRefIdeal := fun m ρ m' ρ' _ hag =>
  ⟨_, _,
    (θ_run _ _ _).mono (fun _ h c => ⟨(h c).1.trans (Cert.MemNormIdeal.Value.final3 m c), (h c).2.1.trans (Cert.MemNormIdeal.Value.final4 m c), (h c).2.2⟩)
      (Cert.MemNormIdeal.Value.run_blocks m ρ),
    (θ_run _ _ _).mono (fun _ h c => by
        refine ⟨(h c).1.trans ?_, (h c).2.1.trans ?_, (h c).2.2⟩
        · show Cert.MemNormRefIdeal.Value.rdx (m' ((c.tc : Thread Cert.MemNormRefIdeal.nD Cert.MemNormRefIdeal.τ).loc Cert.MemNormRefIdeal.main_arg0)) (m' ((c.tc : Thread Cert.MemNormRefIdeal.nD Cert.MemNormRefIdeal.τ).loc Cert.MemNormRefIdeal.main_arg1)) (m' ((c.tc : Thread Cert.MemNormRefIdeal.nD Cert.MemNormRefIdeal.τ).loc Cert.MemNormRefIdeal.main_arg2)) = _
          rw [(hag c).1, (hag c).2.1, (hag c).2.2]
          funext y
          idx_vars y
          exact Cert.MemNormRefIdeal.Value.rdx_at _ _ _ y0 y1
        · show Cert.MemNormRefIdeal.Value.gain (m' ((c.tc : Thread Cert.MemNormRefIdeal.nD Cert.MemNormRefIdeal.τ).loc Cert.MemNormRefIdeal.main_arg0)) (m' ((c.tc : Thread Cert.MemNormRefIdeal.nD Cert.MemNormRefIdeal.τ).loc Cert.MemNormRefIdeal.main_arg2)) (Host.rsqrt (F := Ideal) (Cert.MemNormRefIdeal.Value.msq (m' ((c.tc : Thread Cert.MemNormRefIdeal.nD Cert.MemNormRefIdeal.τ).loc Cert.MemNormRefIdeal.main_arg0)))) = _
          rw [(hag c).1, (hag c).2.2]
          funext y
          idx_vars y
          obtain rfl : y0 = 0 := Subsingleton.elim _ _
          exact Cert.MemNormRefIdeal.Value.dg_at _ _ y1)
      (Cert.MemNormRefIdeal.Value.run m' ρ')⟩

end Cert.MemNorm.Claims
-- ==== Proof.MixInProof.lean ====
module

public import proofs.«01_k».proof.Proof.Gen.MixInIdeal.Value
public import proofs.«01_k».proof.Proof.Gen.MixInRefIdeal.Run
public import proofs.«01_k».proof.Defs
public import Idealize.ShloMosaic.Lib.Pointwise
public import Idealize.ShloMosaic.Lib.Pipeline.ValueKit
public import Idealize.ShloMosaic.Lib.Pipeline.ReadBack
public import Idealize.ShloMosaic.Adequacy

@[expose] public section

set_option maxRecDepth 16384

noncomputable section

namespace Cert.MixInIdeal.Value

open Cert.MixInIdeal Cert.MixInIdeal.Gen Idealize.ShloMosaic Idealize.ShloMosaic.TcCoe Idealize.SL.Sem
open Idealize.ShloMosaic.Pipeline

/-! The mixer's input projection: three products, two halves of 256 rows in each block of 512. -/

theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ)

theorem row_lt (t : Fin cfg0.N) (r : Fin 512) : t.val * 512 + r.val < 4096 := by
  have := lt_of_lt_of_eq t.isLt N_0; omega

theorem blk0 (c : Dev nD) (t : Fin cfg0.N) (r : Fin 512) (k : Fin 1024) :
    (show FVec Ideal S512x1024 .bf16 from iblk m c 0 t) (ix2 r k) = m ((c : Thread nD τ).loc main_arg0) (ix2 ⟨t.val * 512 + r.val, row_lt t r⟩ k) := by
  blk_point [iblk, V, idx t]

/-- Product 1 at row `r` and column `c`. -/
def prod1 (h : FVec Ideal S4096x1024 .bf16) (w : FVec Ideal S3200x1024 .bf16) (r : Fin 4096) (c : Fin 3200) : EReal := ∑ k : Fin 1024, h (ix2 r k) * w (ix2 c k)

theorem pay5_at (x : FVec Ideal S256x1024 .bf16) (w : FVec Ideal S3200x1024 .bf16) (r : Fin 256) (c : Fin 3200) : k0_pay5 (F := Ideal) x w (ix2 r c) = ∑ k : Fin 1024, x (ix2 r k) * w (ix2 c k) := by
  pointwise [k0_pay5]
theorem pay2_at (x : FVec Ideal S256x1024 .bf16) (w : FVec Ideal S3200x1024 .bf16) (r : Fin 256) (c : Fin 3200) : k0_pay2 (F := Ideal) x w (ix2 r c) = ∑ k : Fin 1024, x (ix2 r k) * w (ix2 c k) := by
  pointwise [k0_pay2]

theorem half1 (xb : FVec Ideal S512x1024 .bf16) (wb : FVec Ideal S3200x1024 .bf16) (q : Fin 2) (x : FVec Ideal S256x1024 .bf16) (w : FVec Ideal S3200x1024 .bf16) (hx : ∀ r k, x (ix2 r k) = xb (ix2 ⟨q.val * 256 + r.val, by omega⟩ k)) (hw : ∀ c k, w (ix2 c k) = wb (ix2 c k))
    (r : Fin 256) (c : Fin 3200) (R : Fin 512) (hR : R.val = q.val * 256 + r.val) :
    ∑ k : Fin 1024, x (ix2 r k) * w (ix2 c k) = ∑ k : Fin 1024, xb (ix2 R k) * wb (ix2 c k) := by
  have e : ∀ p, (⟨q.val * 256 + r.val, p⟩ : Fin 512) = R := fun p => Fin.ext hR.symm
  simp only [hx, hw, e]

theorem out4_at (x0 : FVec Ideal S512x1024 .bf16) (x1 : FVec Ideal S3200x1024 .bf16) (x2 : FVec Ideal S1024x1024 .bf16) (x3 : FVec Ideal S3072x1024 .bf16) (r : Fin 512) (j : Fin 3200) :
    out0_4 (F := Ideal) x0 x1 x2 x3 (ix2 r j) = ∑ k : Fin 1024, x0 (ix2 r k) * x1 (ix2 j k) := by
  frame_out
  canon_tiles x hx
  all_goals (idx_vars x; obtain rfl := Fin.ext hx1)
  case piece0 =>
    refine (pay5_at _ _ _ _).trans (half1 _ _ 1 _ _ ?_ ?_ _ _ _ ?_)
    all_goals first | (simp at hx0 ⊢; omega; done) | omega | (intro r k; rfl) | (intro r k; pointwise; done) | (intro r k; pointwise; blk_ext)
  case piece1 =>
    refine (pay2_at _ _ _ _).trans (half1 _ _ 0 _ _ ?_ ?_ _ _ _ ?_)
    all_goals first | (simp at hx0 ⊢; omega; done) | omega | (intro r k; rfl) | (intro r k; pointwise; done) | (intro r k; pointwise; blk_ext)

theorem blk1 (c : Dev nD) (t : Fin cfg0.N) (r : Fin 3200) (k : Fin 1024) :
    (show FVec Ideal S3200x1024 .bf16 from iblk m c 1 t) (ix2 r k) = m ((c : Thread nD τ).loc main_arg1) (ix2 r k) := by
  blk_point [iblk, V, idx t]

theorem final4 (c : Dev nD) : (dats m 0 c).arrAt 4 cfg0.N = fun y : S4096x3200.Idx => prod1 (m ((c : Thread nD τ).loc main_arg0)) (m ((c : Thread nD τ).loc main_arg1)) (y 0) (y 1) := by
  refine (dats m 0 c).arrAt_eq_of_covers 4 _ (by decide +kernel) fun t hf y => ?_
  blk_simp
  rw [after0_4]
  idx_vars y
  have h0 : (win0_4.blk t).view.emb (ix2 y0 y1) 0 = (⟨t.val * 512 + y0.val, row_lt t y0⟩ : Fin 4096) := by
    apply Fin.ext; blk_simp [idx t]
  have h1 : (win0_4.blk t).view.emb (ix2 y0 y1) 1 = (y1 : Fin 3200) := by
    apply Fin.ext; blk_simp [idx t]
  rw [h0, h1]
  exact (out4_at _ _ _ _ y0 y1).trans (Finset.sum_congr rfl fun k _ => congrArg₂ (fun a b : EReal => a * b) (blk0 m c t y0 k) (blk1 m c t y1 k))

/-- Product 2 at row `r` and column `c`. -/
def prod2 (h : FVec Ideal S4096x1024 .bf16) (w : FVec Ideal S1024x1024 .bf16) (r : Fin 4096) (c : Fin 1024) : EReal := ∑ k : Fin 1024, h (ix2 r k) * w (ix2 c k)

theorem pay6_at (x : FVec Ideal S256x1024 .bf16) (w : FVec Ideal S1024x1024 .bf16) (r : Fin 256) (c : Fin 1024) : k0_pay6 (F := Ideal) x w (ix2 r c) = ∑ k : Fin 1024, x (ix2 r k) * w (ix2 c k) := by
  pointwise [k0_pay6]
theorem pay3_at (x : FVec Ideal S256x1024 .bf16) (w : FVec Ideal S1024x1024 .bf16) (r : Fin 256) (c : Fin 1024) : k0_pay3 (F := Ideal) x w (ix2 r c) = ∑ k : Fin 1024, x (ix2 r k) * w (ix2 c k) := by
  pointwise [k0_pay3]

theorem half2 (xb : FVec Ideal S512x1024 .bf16) (wb : FVec Ideal S1024x1024 .bf16) (q : Fin 2) (x : FVec Ideal S256x1024 .bf16) (w : FVec Ideal S1024x1024 .bf16) (hx : ∀ r k, x (ix2 r k) = xb (ix2 ⟨q.val * 256 + r.val, by omega⟩ k)) (hw : ∀ c k, w (ix2 c k) = wb (ix2 c k))
    (r : Fin 256) (c : Fin 1024) (R : Fin 512) (hR : R.val = q.val * 256 + r.val) :
    ∑ k : Fin 1024, x (ix2 r k) * w (ix2 c k) = ∑ k : Fin 1024, xb (ix2 R k) * wb (ix2 c k) := by
  have e : ∀ p, (⟨q.val * 256 + r.val, p⟩ : Fin 512) = R := fun p => Fin.ext hR.symm
  simp only [hx, hw, e]

theorem out5_at (x0 : FVec Ideal S512x1024 .bf16) (x1 : FVec Ideal S3200x1024 .bf16) (x2 : FVec Ideal S1024x1024 .bf16) (x3 : FVec Ideal S3072x1024 .bf16) (r : Fin 512) (j : Fin 1024) :
    out0_5 (F := Ideal) x0 x1 x2 x3 (ix2 r j) = ∑ k : Fin 1024, x0 (ix2 r k) * x2 (ix2 j k) := by
  frame_out
  canon_tiles x hx
  all_goals (idx_vars x; obtain rfl := Fin.ext hx1)
  case piece0 =>
    refine (pay6_at _ _ _ _).trans (half2 _ _ 1 _ _ ?_ ?_ _ _ _ ?_)
    all_goals first | (simp at hx0 ⊢; omega; done) | omega | (intro r k; rfl) | (intro r k; pointwise; done) | (intro r k; pointwise; blk_ext)
  case piece1 =>
    refine (pay3_at _ _ _ _).trans (half2 _ _ 0 _ _ ?_ ?_ _ _ _ ?_)
    all_goals first | (simp at hx0 ⊢; omega; done) | omega | (intro r k; rfl) | (intro r k; pointwise; done) | (intro r k; pointwise; blk_ext)

theorem blk2 (c : Dev nD) (t : Fin cfg0.N) (r : Fin 1024) (k : Fin 1024) :
    (show FVec Ideal S1024x1024 .bf16 from iblk m c 2 t) (ix2 r k) = m ((c : Thread nD τ).loc main_arg2) (ix2 r k) := by
  blk_point [iblk, V, idx t]

theorem final5 (c : Dev nD) : (dats m 0 c).arrAt 5 cfg0.N = fun y : S4096x1024.Idx => prod2 (m ((c : Thread nD τ).loc main_arg0)) (m ((c : Thread nD τ).loc main_arg2)) (y 0) (y 1) := by
  refine (dats m 0 c).arrAt_eq_of_covers 5 _ (by decide +kernel) fun t hf y => ?_
  blk_simp
  rw [after0_5]
  idx_vars y
  have h0 : (win0_5.blk t).view.emb (ix2 y0 y1) 0 = (⟨t.val * 512 + y0.val, row_lt t y0⟩ : Fin 4096) := by
    apply Fin.ext; blk_simp [idx t]
  have h1 : (win0_5.blk t).view.emb (ix2 y0 y1) 1 = (y1 : Fin 1024) := by
    apply Fin.ext; blk_simp [idx t]
  rw [h0, h1]
  exact (out5_at _ _ _ _ y0 y1).trans (Finset.sum_congr rfl fun k _ => congrArg₂ (fun a b : EReal => a * b) (blk0 m c t y0 k) (blk2 m c t y1 k))

/-- Product 3 at row `r` and column `c`. -/
def prod3 (h : FVec Ideal S4096x1024 .bf16) (w : FVec Ideal S3072x1024 .bf16) (r : Fin 4096) (c : Fin 3072) : EReal := ∑ k : Fin 1024, h (ix2 r k) * w (ix2 c k)

theorem pay1_at (x : FVec Ideal S256x1024 .bf16) (w : FVec Ideal S3072x1024 .bf16) (r : Fin 256) (c : Fin 3072) : k0_pay1 (F := Ideal) x w (ix2 r c) = ∑ k : Fin 1024, x (ix2 r k) * w (ix2 c k) := by
  pointwise [k0_pay1]
theorem pay4_at (x : FVec Ideal S256x1024 .bf16) (w : FVec Ideal S3072x1024 .bf16) (r : Fin 256) (c : Fin 3072) : k0_pay4 (F := Ideal) x w (ix2 r c) = ∑ k : Fin 1024, x (ix2 r k) * w (ix2 c k) := by
  pointwise [k0_pay4]

theorem half3 (xb : FVec Ideal S512x1024 .bf16) (wb : FVec Ideal S3072x1024 .bf16) (q : Fin 2) (x : FVec Ideal S256x1024 .bf16) (w : FVec Ideal S3072x1024 .bf16) (hx : ∀ r k, x (ix2 r k) = xb (ix2 ⟨q.val * 256 + r.val, by omega⟩ k)) (hw : ∀ c k, w (ix2 c k) = wb (ix2 c k))
    (r : Fin 256) (c : Fin 3072) (R : Fin 512) (hR : R.val = q.val * 256 + r.val) :
    ∑ k : Fin 1024, x (ix2 r k) * w (ix2 c k) = ∑ k : Fin 1024, xb (ix2 R k) * wb (ix2 c k) := by
  have e : ∀ p, (⟨q.val * 256 + r.val, p⟩ : Fin 512) = R := fun p => Fin.ext hR.symm
  simp only [hx, hw, e]

theorem out6_at (x0 : FVec Ideal S512x1024 .bf16) (x1 : FVec Ideal S3200x1024 .bf16) (x2 : FVec Ideal S1024x1024 .bf16) (x3 : FVec Ideal S3072x1024 .bf16) (r : Fin 512) (j : Fin 3072) :
    out0_6 (F := Ideal) x0 x1 x2 x3 (ix2 r j) = ∑ k : Fin 1024, x0 (ix2 r k) * x3 (ix2 j k) := by
  frame_out
  canon_tiles x hx
  all_goals (idx_vars x; obtain rfl := Fin.ext hx1)
  case piece0 =>
    refine (pay1_at _ _ _ _).trans (half3 _ _ 1 _ _ ?_ ?_ _ _ _ ?_)
    all_goals first | (simp at hx0 ⊢; omega; done) | omega | (intro r k; rfl) | (intro r k; pointwise; done) | (intro r k; pointwise; blk_ext)
  case piece1 =>
    refine (pay4_at _ _ _ _).trans (half3 _ _ 0 _ _ ?_ ?_ _ _ _ ?_)
    all_goals first | (simp at hx0 ⊢; omega; done) | omega | (intro r k; rfl) | (intro r k; pointwise; done) | (intro r k; pointwise; blk_ext)

theorem blk3 (c : Dev nD) (t : Fin cfg0.N) (r : Fin 3072) (k : Fin 1024) :
    (show FVec Ideal S3072x1024 .bf16 from iblk m c 3 t) (ix2 r k) = m ((c : Thread nD τ).loc main_arg3) (ix2 r k) := by
  blk_point [iblk, V, idx t]

theorem final6 (c : Dev nD) : (dats m 0 c).arrAt 6 cfg0.N = fun y : S4096x3072.Idx => prod3 (m ((c : Thread nD τ).loc main_arg0)) (m ((c : Thread nD τ).loc main_arg3)) (y 0) (y 1) := by
  refine (dats m 0 c).arrAt_eq_of_covers 6 _ (by decide +kernel) fun t hf y => ?_
  blk_simp
  rw [after0_6]
  idx_vars y
  have h0 : (win0_6.blk t).view.emb (ix2 y0 y1) 0 = (⟨t.val * 512 + y0.val, row_lt t y0⟩ : Fin 4096) := by
    apply Fin.ext; blk_simp [idx t]
  have h1 : (win0_6.blk t).view.emb (ix2 y0 y1) 1 = (y1 : Fin 3072) := by
    apply Fin.ext; blk_simp [idx t]
  rw [h0, h1]
  exact (out6_at _ _ _ _ y0 y1).trans (Finset.sum_congr rfl fun k _ => congrArg₂ (fun a b : EReal => a * b) (blk0 m c t y0 k) (blk3 m c t y1 k))

end Cert.MixInIdeal.Value

namespace Cert.MixInRefIdeal.Value

open Cert.MixInRefIdeal Cert.MixInRefIdeal.Gen Idealize.ShloMosaic Idealize.ShloMosaic.TcCoe Idealize.SL.Sem

theorem ref1_at (h : FVec Ideal S4096x1024 .bf16) (w : FVec Ideal S3200x1024 .bf16) (r : Fin 4096) (c : Fin 3200) :
    (truncf .bf16 (Host.dotGeneral dot_S4096x1024_S1024x3200_S4096x3200_1_0_0_1_n_n none (extf .f32 h bitsLt_bf16_f32) (transpose S1024x3200 [1, 0] (extf .f32 w bitsLt_bf16_f32) transposes_S3200x1024_S1024x3200_1_0)) bitsLt_bf16_f32 : FVec Ideal S4096x3200 .bf16) (ix2 r c) = Cert.MixInIdeal.Value.prod1 h w r c := by
  pointwise []
  rfl

theorem ref2_at (h : FVec Ideal S4096x1024 .bf16) (w : FVec Ideal S1024x1024 .bf16) (r : Fin 4096) (c : Fin 1024) :
    (truncf .bf16 (Host.dotGeneral dot_S4096x1024_S1024x1024_S4096x1024_1_0_0_1_n_n none (extf .f32 h bitsLt_bf16_f32) (transpose S1024x1024 [1, 0] (extf .f32 w bitsLt_bf16_f32) transposes_S1024x1024_S1024x1024_1_0)) bitsLt_bf16_f32 : FVec Ideal S4096x1024 .bf16) (ix2 r c) = Cert.MixInIdeal.Value.prod2 h w r c := by
  pointwise []
  rfl

theorem ref3_at (h : FVec Ideal S4096x1024 .bf16) (w : FVec Ideal S3072x1024 .bf16) (r : Fin 4096) (c : Fin 3072) :
    (truncf .bf16 (Host.dotGeneral dot_S4096x1024_S1024x3072_S4096x3072_1_0_0_1_n_n none (extf .f32 h bitsLt_bf16_f32) (transpose S1024x3072 [1, 0] (extf .f32 w bitsLt_bf16_f32) transposes_S3072x1024_S1024x3072_1_0)) bitsLt_bf16_f32 : FVec Ideal S4096x3072 .bf16) (ix2 r c) = Cert.MixInIdeal.Value.prod3 h w r c := by
  pointwise []
  rfl

end Cert.MixInRefIdeal.Value

namespace Cert.MixIn.Claims

open Idealize.ShloMosaic Idealize.SL.Sem

/-- The reference runs and keeps its arguments. -/
theorem frameR : quiescent_MixInRefIdeal := by
  intro m ρ _
  exact (θ_run Cert.MixInRefIdeal.defs _ _).mono (fun r h => ⟨fun c => (h c).2.2.2, sem_eq_zero_of_no_sems (by decide) r.2⟩) (Cert.MixInRefIdeal.Value.run m ρ)

/-- The kernel's products are the reference's. -/
theorem algebraic : algebraic_MixInIdeal_MixInRefIdeal := fun m ρ m' ρ' _ hag =>
  ⟨_, _, _,
    (θ_run _ _ _).mono (fun _ h c => ⟨(h c).1.trans (Cert.MixInIdeal.Value.final4 m c), (h c).2.1.trans (Cert.MixInIdeal.Value.final5 m c), (h c).2.2.1.trans (Cert.MixInIdeal.Value.final6 m c), (h c).2.2.2⟩)
      (Cert.MixInIdeal.Value.run_blocks m ρ),
    (θ_run _ _ _).mono (fun _ h c => by
        refine ⟨(h c).1.trans ?_, (h c).2.1.trans ?_, (h c).2.2.1.trans ?_, (h c).2.2.2⟩
        · rw [(hag c).1, (hag c).2.1]
          funext y
          idx_vars y
          exact Cert.MixInRefIdeal.Value.ref1_at _ _ y0 y1
        · rw [(hag c).1, (hag c).2.2.1]
          funext y
          idx_vars y
          exact Cert.MixInRefIdeal.Value.ref2_at _ _ y0 y1
        · rw [(hag c).1, (hag c).2.2.2]
          funext y
          idx_vars y
          exact Cert.MixInRefIdeal.Value.ref3_at _ _ y0 y1)
      (Cert.MixInRefIdeal.Value.run m' ρ')⟩

end Cert.MixIn.Claims
-- ==== Proof.Step.lean ====
module

public import proofs.«01_k».proof.Proof.Norm

@[expose] public section

noncomputable section

namespace Cert.Step

open Idealize.ShloMosaic Cert.Norm

/-! The rows of a block: a product, a norm, and the half step a norm closes. -/

/-- One half. -/
def half : EReal := Ideal.ofBits .f32 0x3F000000#32
/-- A row of a product. -/
def mm {n p : ℕ} (u : Fin n → EReal) (w : Fin n → Fin p → EReal) (c : Fin p) : EReal := ∑ k, u k * w k c
/-- A normed row with its gain. -/
def nrm (x g : Fin 1024 → EReal) (c : Fin 1024) : EReal := x c * rn x * g c
/-- A half step: the row plus half of the normed branch. -/
def half_step (f x g : Fin 1024 → EReal) (c : Fin 1024) : EReal := x c + half * nrm f g c

end Cert.Step
-- ==== Proof.FfnOutProof.lean ====
module

public import proofs.«01_k».proof.Proof.Gen.FfnOutIdeal.Value
public import proofs.«01_k».proof.Proof.Gen.FfnOutRefIdeal.Run
public import proofs.«01_k».proof.Defs
public import Idealize.ShloMosaic.Lib.Pointwise
public import Idealize.ShloMosaic.Lib.Pipeline.ValueKit
public import Idealize.ShloMosaic.Lib.Pipeline.ReadBack
public import Idealize.ShloMosaic.Adequacy
public import proofs.«01_k».proof.Proof.Step

@[expose] public section

set_option maxRecDepth 16384

noncomputable section

namespace Cert.FfnOutIdeal.Value

open Cert.FfnOutIdeal Cert.FfnOutIdeal.Gen Idealize.ShloMosaic Idealize.ShloMosaic.TcCoe Idealize.SL.Sem
open Idealize.ShloMosaic.Pipeline Cert.Norm Cert.Step

/-! The end of the first half step, two sub-blocks of 256 rows in each block of 512. -/

theorem pay1_at (u : FVec Ideal S256x2816 .bf16) (w : FVec Ideal S2816x1024 .bf16) (r : Fin 256) (c : Fin 1024) : k0_pay1 (F := Ideal) u w (ix2 r c) = (mm (fun k => u (ix2 r k)) (fun k c => w (ix2 k c))) c := by
  pointwise [k0_pay1]
  rfl
theorem pay2_at (u : FVec Ideal S256x2816 .bf16) (w : FVec Ideal S2816x1024 .bf16) (x : FVec Ideal S256x1024 .f32) (g : FVec Ideal S1x1024 .f32) (r : Fin 256) (c : Fin 1024) : k0_pay2 (F := Ideal) u w x g (ix2 r c) = (half_step (mm (fun k => u (ix2 r k)) (fun k c => w (ix2 k c))) (fun c => x (ix2 r c)) (fun c => g (ix2 0 c))) c := by
  pointwise [k0_pay2]
  simp only [pay1_at]
  rfl
theorem pay3_at (u : FVec Ideal S256x2816 .bf16) (w : FVec Ideal S2816x1024 .bf16) (x : FVec Ideal S256x1024 .f32) (g h : FVec Ideal S1x1024 .f32) (r : Fin 256) (c : Fin 1024) : k0_pay3 (F := Ideal) u w x g h (ix2 r c) = (nrm (half_step (mm (fun k => u (ix2 r k)) (fun k c => w (ix2 k c))) (fun c => x (ix2 r c)) (fun c => g (ix2 0 c))) (fun c => h (ix2 0 c))) c := by
  pointwise [k0_pay3]
  simp only [pay2_at]
  rfl

section rest
variable (u : FVec Ideal S256x2816 .bf16) (w : FVec Ideal S2816x1024 .bf16) (x : FVec Ideal S256x1024 .f32) (g h : FVec Ideal S1x1024 .f32)
theorem pay4_eq : k0_pay4 (F := Ideal) u w = k0_pay1 u w := rfl
theorem pay5_eq : k0_pay5 (F := Ideal) u w x g = k0_pay2 u w x g := rfl
theorem pay6_eq : k0_pay6 (F := Ideal) u w x g h = k0_pay3 u w x g h := rfl
end rest

section stores
variable (ub : FVec Ideal S512x2816 .bf16) (wb : FVec Ideal S2816x1024 .bf16) (xb : FVec Ideal S512x1024 .f32) (gb hb : FVec Ideal S1x1024 .f32) (q : Fin 2) (u : FVec Ideal S256x2816 .bf16) (w : FVec Ideal S2816x1024 .bf16) (x : FVec Ideal S256x1024 .f32) (g h : FVec Ideal S1x1024 .f32)

theorem store_f (hu : ∀ r k, u (ix2 r k) = ub (ix2 ⟨q.val * 256 + r.val, by omega⟩ k)) (hw : ∀ k c, w (ix2 k c) = wb (ix2 k c))
    (r : Fin 256) (c : Fin 1024) (R : Fin 512) (hR : R.val = q.val * 256 + r.val) :
    k0_pay1 (F := Ideal) u w (ix2 r c) = (mm (fun k => ub (ix2 R k)) (fun k c => wb (ix2 k c))) c := by
  have e : ∀ p, (⟨q.val * 256 + r.val, p⟩ : Fin 512) = R := fun p => Fin.ext hR.symm
  rw [pay1_at]
  simp only [hu, hw, e]
theorem store_x (hu : ∀ r k, u (ix2 r k) = ub (ix2 ⟨q.val * 256 + r.val, by omega⟩ k)) (hw : ∀ k c, w (ix2 k c) = wb (ix2 k c))
    (hx : ∀ r k, x (ix2 r k) = xb (ix2 ⟨q.val * 256 + r.val, by omega⟩ k)) (hg : ∀ c, g (ix2 0 c) = gb (ix2 0 c))
    (r : Fin 256) (c : Fin 1024) (R : Fin 512) (hR : R.val = q.val * 256 + r.val) :
    k0_pay2 (F := Ideal) u w x g (ix2 r c) = (half_step (mm (fun k => ub (ix2 R k)) (fun k c => wb (ix2 k c))) (fun c => xb (ix2 R c)) (fun c => gb (ix2 0 c))) c := by
  have e : ∀ p, (⟨q.val * 256 + r.val, p⟩ : Fin 512) = R := fun p => Fin.ext hR.symm
  rw [pay2_at]
  simp only [hu, hw, hx, hg, e]
theorem store_h (hu : ∀ r k, u (ix2 r k) = ub (ix2 ⟨q.val * 256 + r.val, by omega⟩ k)) (hw : ∀ k c, w (ix2 k c) = wb (ix2 k c))
    (hx : ∀ r k, x (ix2 r k) = xb (ix2 ⟨q.val * 256 + r.val, by omega⟩ k)) (hg : ∀ c, g (ix2 0 c) = gb (ix2 0 c)) (hh : ∀ c, h (ix2 0 c) = hb (ix2 0 c))
    (r : Fin 256) (c : Fin 1024) (R : Fin 512) (hR : R.val = q.val * 256 + r.val) :
    k0_pay3 (F := Ideal) u w x g h (ix2 r c) = (nrm (half_step (mm (fun k => ub (ix2 R k)) (fun k c => wb (ix2 k c))) (fun c => xb (ix2 R c)) (fun c => gb (ix2 0 c))) (fun c => hb (ix2 0 c))) c := by
  have e : ∀ p, (⟨q.val * 256 + r.val, p⟩ : Fin 512) = R := fun p => Fin.ext hR.symm
  rw [pay3_at]
  simp only [hu, hw, hx, hg, hh, e]
end stores

theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ)

theorem row_lt (t : Fin cfg0.N) (r : Fin 512) : t.val * 512 + r.val < 4096 := by
  have := lt_of_lt_of_eq t.isLt N_0; omega

theorem blk0 (c : Dev nD) (t : Fin cfg0.N) (r : Fin 512) (k : Fin 2816) :
    (show FVec Ideal S512x2816 .bf16 from iblk m c 0 t) (ix2 r k) = m ((c : Thread nD τ).loc main_arg0) (ix2 ⟨t.val * 512 + r.val, row_lt t r⟩ k) := by
  blk_point [iblk, V, idx t]
theorem blk1 (c : Dev nD) (t : Fin cfg0.N) (r : Fin 2816) (k : Fin 1024) :
    (show FVec Ideal S2816x1024 .bf16 from iblk m c 1 t) (ix2 r k) = m ((c : Thread nD τ).loc main_arg1) (ix2 r k) := by
  blk_point [iblk, V, idx t]
theorem blk2 (c : Dev nD) (t : Fin cfg0.N) (r : Fin 512) (k : Fin 1024) :
    (show FVec Ideal S512x1024 .f32 from iblk m c 2 t) (ix2 r k) = m ((c : Thread nD τ).loc main_arg2) (ix2 ⟨t.val * 512 + r.val, row_lt t r⟩ k) := by
  blk_point [iblk, V, idx t]
theorem blk3 (c : Dev nD) (t : Fin cfg0.N) (k : Fin 1024) :
    (show FVec Ideal S1x1024 .f32 from iblk m c 3 t) (ix2 0 k) = m ((c : Thread nD τ).loc main_arg3) (ix2 0 k) := by
  blk_point [iblk, V, idx t]
theorem blk4 (c : Dev nD) (t : Fin cfg0.N) (k : Fin 1024) :
    (show FVec Ideal S1x1024 .f32 from iblk m c 4 t) (ix2 0 k) = m ((c : Thread nD τ).loc main_arg4) (ix2 0 k) := by
  blk_point [iblk, V, idx t]

/-- The product. -/
def gf (u : FVec Ideal S4096x2816 .bf16) (w : FVec Ideal S2816x1024 .bf16) (r : Fin 4096) (c : Fin 1024) : EReal := (mm (fun k => u (ix2 r k)) (fun k c => w (ix2 k c))) c
/-- The step. -/
def gx (u : FVec Ideal S4096x2816 .bf16) (w : FVec Ideal S2816x1024 .bf16) (x : FVec Ideal S4096x1024 .f32) (g : FVec Ideal S1x1024 .f32) (r : Fin 4096) (c : Fin 1024) : EReal := (half_step (mm (fun k => u (ix2 r k)) (fun k c => w (ix2 k c))) (fun c => x (ix2 r c)) (fun c => g (ix2 0 c))) c
/-- The normed step. -/
def gh (u : FVec Ideal S4096x2816 .bf16) (w : FVec Ideal S2816x1024 .bf16) (x : FVec Ideal S4096x1024 .f32) (g h : FVec Ideal S1x1024 .f32) (r : Fin 4096) (c : Fin 1024) : EReal := (nrm (half_step (mm (fun k => u (ix2 r k)) (fun k c => w (ix2 k c))) (fun c => x (ix2 r c)) (fun c => g (ix2 0 c))) (fun c => h (ix2 0 c))) c

theorem out5_at (x0 : FVec Ideal S512x2816 .bf16) (x1 : FVec Ideal S2816x1024 .bf16) (x2 : FVec Ideal S512x1024 .f32) (x3 x4 : FVec Ideal S1x1024 .f32) (r : Fin 512) (c : Fin 1024) :
    out0_5 (F := Ideal) x0 x1 x2 x3 x4 (ix2 r c) = (mm (fun k => x0 (ix2 r k)) (fun k c => x1 (ix2 k c))) c := by
  frame_out
  canon_tiles y hy
  all_goals (idx_vars y; try simp only [pay4_eq])
  all_goals obtain rfl := Fin.ext hy1
  case piece0 =>
    refine store_f _ _ 1 _ _ ?_ ?_  _ _ _ ?_
    all_goals first | (simp at hy0 ⊢; omega; done) | omega | (intro r k; rfl) | (intro r; rfl) | (intro r k; pointwise; done) | (intro r; pointwise; done) | (intro r k; pointwise; blk_ext) | (intro r; pointwise; blk_ext)
  case piece1 =>
    refine store_f _ _ 0 _ _ ?_ ?_  _ _ _ ?_
    all_goals first | (simp at hy0 ⊢; omega; done) | omega | (intro r k; rfl) | (intro r; rfl) | (intro r k; pointwise; done) | (intro r; pointwise; done) | (intro r k; pointwise; blk_ext) | (intro r; pointwise; blk_ext)

theorem final5 (c : Dev nD) : (dats m 0 c).arrAt 5 cfg0.N = fun y : S4096x1024.Idx => gf (m ((c : Thread nD τ).loc main_arg0)) (m ((c : Thread nD τ).loc main_arg1)) (y 0) (y 1) := by
  refine (dats m 0 c).arrAt_eq_of_covers 5 _ (by decide +kernel) fun t hf y => ?_
  blk_simp
  rw [after0_5]
  idx_vars y
  have h0 : (win0_5.blk t).view.emb (ix2 y0 y1) 0 = (⟨t.val * 512 + y0.val, row_lt t y0⟩ : Fin 4096) := by
    apply Fin.ext; blk_simp [idx t]
  have h1 : (win0_5.blk t).view.emb (ix2 y0 y1) 1 = (y1 : Fin 1024) := by
    apply Fin.ext; blk_simp [idx t]
  rw [h0, h1]
  refine (out5_at _ _ _ _ _ y0 y1).trans ?_
  have e0 := blk0 m c t y0
  have e1 := blk1 m c t
  have e2 := blk2 m c t y0
  have e3 := blk3 m c t
  have e4 := blk4 m c t
  generalize iblk m c 0 t = x0 at e0 ⊢
  generalize iblk m c 1 t = x1 at e1 ⊢
  generalize iblk m c 2 t = x2 at e2 ⊢
  generalize iblk m c 3 t = x3 at e3 ⊢
  generalize iblk m c 4 t = x4 at e4 ⊢
  simp only [gf, ← e0, ← e1]

theorem out6_at (x0 : FVec Ideal S512x2816 .bf16) (x1 : FVec Ideal S2816x1024 .bf16) (x2 : FVec Ideal S512x1024 .f32) (x3 x4 : FVec Ideal S1x1024 .f32) (r : Fin 512) (c : Fin 1024) :
    out0_6 (F := Ideal) x0 x1 x2 x3 x4 (ix2 r c) = (half_step (mm (fun k => x0 (ix2 r k)) (fun k c => x1 (ix2 k c))) (fun c => x2 (ix2 r c)) (fun c => x3 (ix2 0 c))) c := by
  frame_out
  canon_tiles y hy
  all_goals (idx_vars y; try simp only [pay5_eq])
  all_goals obtain rfl := Fin.ext hy1
  case piece0 =>
    refine store_x _ _ _ _ 1 _ _ _ _ ?_ ?_ ?_ ?_  _ _ _ ?_
    all_goals first | (simp at hy0 ⊢; omega; done) | omega | (intro r k; rfl) | (intro r; rfl) | (intro r k; pointwise; done) | (intro r; pointwise; done) | (intro r k; pointwise; blk_ext) | (intro r; pointwise; blk_ext)
  case piece1 =>
    refine store_x _ _ _ _ 0 _ _ _ _ ?_ ?_ ?_ ?_  _ _ _ ?_
    all_goals first | (simp at hy0 ⊢; omega; done) | omega | (intro r k; rfl) | (intro r; rfl) | (intro r k; pointwise; done) | (intro r; pointwise; done) | (intro r k; pointwise; blk_ext) | (intro r; pointwise; blk_ext)

theorem final6 (c : Dev nD) : (dats m 0 c).arrAt 6 cfg0.N = fun y : S4096x1024.Idx => gx (m ((c : Thread nD τ).loc main_arg0)) (m ((c : Thread nD τ).loc main_arg1)) (m ((c : Thread nD τ).loc main_arg2)) (m ((c : Thread nD τ).loc main_arg3)) (y 0) (y 1) := by
  refine (dats m 0 c).arrAt_eq_of_covers 6 _ (by decide +kernel) fun t hf y => ?_
  blk_simp
  rw [after0_6]
  idx_vars y
  have h0 : (win0_6.blk t).view.emb (ix2 y0 y1) 0 = (⟨t.val * 512 + y0.val, row_lt t y0⟩ : Fin 4096) := by
    apply Fin.ext; blk_simp [idx t]
  have h1 : (win0_6.blk t).view.emb (ix2 y0 y1) 1 = (y1 : Fin 1024) := by
    apply Fin.ext; blk_simp [idx t]
  rw [h0, h1]
  refine (out6_at _ _ _ _ _ y0 y1).trans ?_
  have e0 := blk0 m c t y0
  have e1 := blk1 m c t
  have e2 := blk2 m c t y0
  have e3 := blk3 m c t
  have e4 := blk4 m c t
  generalize iblk m c 0 t = x0 at e0 ⊢
  generalize iblk m c 1 t = x1 at e1 ⊢
  generalize iblk m c 2 t = x2 at e2 ⊢
  generalize iblk m c 3 t = x3 at e3 ⊢
  generalize iblk m c 4 t = x4 at e4 ⊢
  simp only [gx, ← e0, ← e1, ← e2, ← e3]

theorem out7_at (x0 : FVec Ideal S512x2816 .bf16) (x1 : FVec Ideal S2816x1024 .bf16) (x2 : FVec Ideal S512x1024 .f32) (x3 x4 : FVec Ideal S1x1024 .f32) (r : Fin 512) (c : Fin 1024) :
    out0_7 (F := Ideal) x0 x1 x2 x3 x4 (ix2 r c) = (nrm (half_step (mm (fun k => x0 (ix2 r k)) (fun k c => x1 (ix2 k c))) (fun c => x2 (ix2 r c)) (fun c => x3 (ix2 0 c))) (fun c => x4 (ix2 0 c))) c := by
  frame_out
  canon_tiles y hy
  all_goals (idx_vars y; try simp only [pay6_eq])
  all_goals obtain rfl := Fin.ext hy1
  case piece0 =>
    refine store_h _ _ _ _ _ 1 _ _ _ _ _ ?_ ?_ ?_ ?_ ?_  _ _ _ ?_
    all_goals first | (simp at hy0 ⊢; omega; done) | omega | (intro r k; rfl) | (intro r; rfl) | (intro r k; pointwise; done) | (intro r; pointwise; done) | (intro r k; pointwise; blk_ext) | (intro r; pointwise; blk_ext)
  case piece1 =>
    refine store_h _ _ _ _ _ 0 _ _ _ _ _ ?_ ?_ ?_ ?_ ?_  _ _ _ ?_
    all_goals first | (simp at hy0 ⊢; omega; done) | omega | (intro r k; rfl) | (intro r; rfl) | (intro r k; pointwise; done) | (intro r; pointwise; done) | (intro r k; pointwise; blk_ext) | (intro r; pointwise; blk_ext)

theorem final7 (c : Dev nD) : (dats m 0 c).arrAt 7 cfg0.N = fun y : S4096x1024.Idx => gh (m ((c : Thread nD τ).loc main_arg0)) (m ((c : Thread nD τ).loc main_arg1)) (m ((c : Thread nD τ).loc main_arg2)) (m ((c : Thread nD τ).loc main_arg3)) (m ((c : Thread nD τ).loc main_arg4)) (y 0) (y 1) := by
  refine (dats m 0 c).arrAt_eq_of_covers 7 _ (by decide +kernel) fun t hf y => ?_
  blk_simp
  rw [after0_7]
  idx_vars y
  have h0 : (win0_7.blk t).view.emb (ix2 y0 y1) 0 = (⟨t.val * 512 + y0.val, row_lt t y0⟩ : Fin 4096) := by
    apply Fin.ext; blk_simp [idx t]
  have h1 : (win0_7.blk t).view.emb (ix2 y0 y1) 1 = (y1 : Fin 1024) := by
    apply Fin.ext; blk_simp [idx t]
  rw [h0, h1]
  refine (out7_at _ _ _ _ _ y0 y1).trans ?_
  have e0 := blk0 m c t y0
  have e1 := blk1 m c t
  have e2 := blk2 m c t y0
  have e3 := blk3 m c t
  have e4 := blk4 m c t
  generalize iblk m c 0 t = x0 at e0 ⊢
  generalize iblk m c 1 t = x1 at e1 ⊢
  generalize iblk m c 2 t = x2 at e2 ⊢
  generalize iblk m c 3 t = x3 at e3 ⊢
  generalize iblk m c 4 t = x4 at e4 ⊢
  simp only [gh, ← e0, ← e1, ← e2, ← e3, ← e4]

end Cert.FfnOutIdeal.Value

namespace Cert.FfnOutRefIdeal.Value

open Cert.FfnOutRefIdeal Cert.FfnOutRefIdeal.Gen Idealize.ShloMosaic Idealize.ShloMosaic.TcCoe Idealize.SL.Sem Cert.Norm Cert.Step

/-! The reference, cut at the values it reads more than once. -/

/-- The product. -/
def prod (u : FVec Ideal S4096x2816 .bf16) (w : FVec Ideal S2816x1024 .bf16) : FVec Ideal S4096x1024 .f32 :=
  Host.dotGeneral dot_S4096x2816_S2816x1024_S4096x1024_1_0_0_1_n_n none (extf .f32 u bitsLt_bf16_f32) (extf .f32 w bitsLt_bf16_f32)
/-- The mean square of each row, and the small constant. -/
def msq (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
/-- The norm with its gain. -/
def normed (x : FVec Ideal S4096x1024 .f32) (g : FVec Ideal S1x1024 .f32) : FVec Ideal S4096x1024 .f32 :=
  mulf (mulf x (broadcastInDim S4096x1024 ![0, 1] bcast_S4096x1_S4096x1024_0_1 (Host.rsqrt (msq x)))) (broadcastInDim S4096x1024 ![0, 1] bcast_S1x1024_S4096x1024_0_1 g)
/-- The half step. -/
def stepped (f x : FVec Ideal S4096x1024 .f32) (g : FVec Ideal S1x1024 .f32) : FVec Ideal S4096x1024 .f32 :=
  addf x (mulf (broadcastInDim S4096x1024 ![] bcast_S_S4096x1024 (constant S_ .f32 0x3F000000#32)) (normed f g))

/-- A change of format. -/
def narrow (x : FVec Ideal S4096x1024 .f32) : FVec Ideal S4096x1024 .bf16 := truncf .bf16 x bitsLt_bf16_f32

theorem prod_at (u : FVec Ideal S4096x2816 .bf16) (w : FVec Ideal S2816x1024 .bf16) (r : Fin 4096) (c : Fin 1024) : prod u w (ix2 r c) = (mm (fun k => u (ix2 r k)) (fun k c => w (ix2 k c))) c := by
  pointwise [prod]
  rfl
theorem msq_at (x : FVec Ideal S4096x1024 .f32) (r : Fin 4096) : msq x (ix2 r 0) = ms (fun k => x (ix2 r k)) := by
  pointwise [msq]; rfl
theorem rsq_at (x : FVec Ideal S4096x1024 .f32) (r : Fin 4096) : Host.rsqrt (F := Ideal) (msq x) (ix2 r 0) = rn (fun k => x (ix2 r k)) := by
  pointwise
  rw [msq_at]; rfl
theorem normed_at (x : FVec Ideal S4096x1024 .f32) (g : FVec Ideal S1x1024 .f32) (r : Fin 4096) (c : Fin 1024) : normed x g (ix2 r c) = nrm (fun k => x (ix2 r k)) (fun k => g (ix2 0 k)) c := by
  rw [nrm, ← rsq_at, normed]
  generalize Host.rsqrt (F := Ideal) (msq x) = R
  pointwise
theorem stepped_at (f x : FVec Ideal S4096x1024 .f32) (g : FVec Ideal S1x1024 .f32) (r : Fin 4096) (c : Fin 1024) :
    stepped f x g (ix2 r c) = half_step (fun k => f (ix2 r k)) (fun k => x (ix2 r k)) (fun k => g (ix2 0 k)) c := by
  rw [half_step, ← normed_at, stepped]
  generalize normed f g = R
  pointwise
  rfl
theorem cast_at (x : FVec Ideal S4096x1024 .f32) (r : Fin 4096) (c : Fin 1024) : narrow x (ix2 r c) = x (ix2 r c) := by
  pointwise [narrow]

theorem rx_at (u : FVec Ideal S4096x2816 .bf16) (w : FVec Ideal S2816x1024 .bf16) (x : FVec Ideal S4096x1024 .f32) (g : FVec Ideal S1x1024 .f32) (r : Fin 4096) (c : Fin 1024) :
    stepped (prod u w) x g (ix2 r c) = Cert.FfnOutIdeal.Value.gx u w x g r c := by
  rw [stepped_at]
  simp only [prod_at]
  rfl
theorem rh_at (u : FVec Ideal S4096x2816 .bf16) (w : FVec Ideal S2816x1024 .bf16) (x : FVec Ideal S4096x1024 .f32) (g h : FVec Ideal S1x1024 .f32) (r : Fin 4096) (c : Fin 1024) :
    narrow (normed (stepped (prod u w) x g) h) (ix2 r c) = Cert.FfnOutIdeal.Value.gh u w x g h r c := by
  rw [cast_at, normed_at]
  simp only [rx_at]
  rfl

end Cert.FfnOutRefIdeal.Value

namespace Cert.FfnOut.Claims

open Idealize.ShloMosaic Idealize.SL.Sem

/-- The reference runs and keeps its arguments. -/
theorem frameR : quiescent_FfnOutRefIdeal := by
  intro m ρ _
  exact (θ_run Cert.FfnOutRefIdeal.defs _ _).mono (fun r h => ⟨fun c => (h c).2.2.2, sem_eq_zero_of_no_sems (by decide) r.2⟩) (Cert.FfnOutRefIdeal.Value.run m ρ)

set_option maxHeartbeats 2000000 in
/-- The kernel's product, step and normed step are the reference's. -/
theorem algebraic : algebraic_FfnOutIdeal_FfnOutRefIdeal := fun m ρ m' ρ' _ hag =>
  ⟨_, _, _,
    (θ_run _ _ _).mono (fun _ h c => ⟨(h c).1.trans (Cert.FfnOutIdeal.Value.final5 m c), (h c).2.1.trans (Cert.FfnOutIdeal.Value.final6 m c), (h c).2.2.1.trans (Cert.FfnOutIdeal.Value.final7 m c), (h c).2.2.2⟩)
      (Cert.FfnOutIdeal.Value.run_blocks m ρ),
    (θ_run _ _ _).mono (fun _ h c => by
        refine ⟨(h c).1.trans ?_, (h c).2.1.trans ?_, (h c).2.2.1.trans ?_, (h c).2.2.2⟩
        · show Cert.FfnOutRefIdeal.Value.prod (m' ((c.tc : Thread Cert.FfnOutRefIdeal.nD Cert.FfnOutRefIdeal.τ).loc Cert.FfnOutRefIdeal.main_arg0)) (m' ((c.tc : Thread Cert.FfnOutRefIdeal.nD Cert.FfnOutRefIdeal.τ).loc Cert.FfnOutRefIdeal.main_arg1)) = _
          rw [(hag c).1, (hag c).2.1]
          funext y
          idx_vars y
          exact Cert.FfnOutRefIdeal.Value.prod_at _ _ y0 y1
        · show Cert.FfnOutRefIdeal.Value.stepped (Cert.FfnOutRefIdeal.Value.prod (m' ((c.tc : Thread Cert.FfnOutRefIdeal.nD Cert.FfnOutRefIdeal.τ).loc Cert.FfnOutRefIdeal.main_arg0)) (m' ((c.tc : Thread Cert.FfnOutRefIdeal.nD Cert.FfnOutRefIdeal.τ).loc Cert.FfnOutRefIdeal.main_arg1))) (m' ((c.tc : Thread Cert.FfnOutRefIdeal.nD Cert.FfnOutRefIdeal.τ).loc Cert.FfnOutRefIdeal.main_arg2)) (m' ((c.tc : Thread Cert.FfnOutRefIdeal.nD Cert.FfnOutRefIdeal.τ).loc Cert.FfnOutRefIdeal.main_arg3)) = _
          rw [(hag c).1, (hag c).2.1, (hag c).2.2.1, (hag c).2.2.2.1]
          funext y
          idx_vars y
          exact Cert.FfnOutRefIdeal.Value.rx_at _ _ _ _ y0 y1
        · show Cert.FfnOutRefIdeal.Value.narrow (Cert.FfnOutRefIdeal.Value.normed (Cert.FfnOutRefIdeal.Value.stepped (Cert.FfnOutRefIdeal.Value.prod (m' ((c.tc : Thread Cert.FfnOutRefIdeal.nD Cert.FfnOutRefIdeal.τ).loc Cert.FfnOutRefIdeal.main_arg0)) (m' ((c.tc : Thread Cert.FfnOutRefIdeal.nD Cert.FfnOutRefIdeal.τ).loc Cert.FfnOutRefIdeal.main_arg1))) (m' ((c.tc : Thread Cert.FfnOutRefIdeal.nD Cert.FfnOutRefIdeal.τ).loc Cert.FfnOutRefIdeal.main_arg2)) (m' ((c.tc : Thread Cert.FfnOutRefIdeal.nD Cert.FfnOutRefIdeal.τ).loc Cert.FfnOutRefIdeal.main_arg3))) (m' ((c.tc : Thread Cert.FfnOutRefIdeal.nD Cert.FfnOutRefIdeal.τ).loc Cert.FfnOutRefIdeal.main_arg4))) = _
          rw [(hag c).1, (hag c).2.1, (hag c).2.2.1, (hag c).2.2.2.1, (hag c).2.2.2.2]
          funext y
          idx_vars y
          exact Cert.FfnOutRefIdeal.Value.rh_at _ _ _ _ _ y0 y1)
      (Cert.FfnOutRefIdeal.Value.run m' ρ')⟩

end Cert.FfnOut.Claims
-- ==== Proof.OutLossKernel.lean ====
module

public import proofs.«01_k».proof.Proof.Gen.OutLossIdeal.Value
public import proofs.«01_k».proof.Proof.Gen.OutLossRefIdeal.Run
public import proofs.«01_k».proof.Defs
public import Idealize.ShloMosaic.Lib.Pointwise
public import Idealize.ShloMosaic.Lib.Pipeline.ValueKit
public import Idealize.ShloMosaic.Lib.Pipeline.ReadBack
public import Idealize.ShloMosaic.Adequacy
public import proofs.«01_k».proof.Proof.Step

@[expose] public section

set_option maxRecDepth 16384

noncomputable section

namespace Cert.OutLossIdeal.Value

open Cert.OutLossIdeal Cert.OutLossIdeal.Gen Idealize.ShloMosaic Idealize.ShloMosaic.TcCoe Idealize.SL.Sem
open Idealize.ShloMosaic.Pipeline Cert.Norm Cert.Step

/-- What the last half step, the final norm and the loss give at one row: the error, and the gradients of the loss. -/
def err (f x gp gf t : Fin 1024 → EReal) (c : Fin 1024) : EReal := nrm (half_step f x gp) gf c - t c
def dX (f x gp gf t : Fin 1024 → EReal) (c : Fin 1024) : EReal := kgrad (half_step f x gp) (fun k => err f x gp gf t k * Ideal.ofBits .f32 0x3A800000#32 * gf k) c
def dF (f x gp gf t : Fin 1024 → EReal) (c : Fin 1024) : EReal := kgrad f (fun k => dX f x gp gf t k * half * gp k) c
def tP (f x gp gf t : Fin 1024 → EReal) (c : Fin 1024) : EReal := dX f x gp gf t c * half * (f c * rn f)
def tF (f x gp gf t : Fin 1024 → EReal) (c : Fin 1024) : EReal := err f x gp gf t c * Ideal.ofBits .f32 0x3A800000#32 * (half_step f x gp c * rn (half_step f x gp))
def tL (f x gp gf t : Fin 1024 → EReal) : EReal := ∑ k, err f x gp gf t k * err f x gp gf t k

/-! What the body stores, at an index. -/

section at_
variable (u : FVec Ideal S256x2816 .bf16) (w : FVec Ideal S2816x1024 .bf16) (x : FVec Ideal S256x1024 .f32) (gp gf : FVec Ideal S1x1024 .f32) (tg : FVec Ideal S256x1024 .f32) (r : Fin 256) (c : Fin 1024)
theorem pay4_at : k0_pay4 (F := Ideal) u w (ix2 r c) = (mm (fun k => u (ix2 r k)) (fun k c => w (ix2 k c))) c := by
  pointwise [k0_pay4]
  rfl
theorem pay5_at : k0_pay5 (F := Ideal) u w (ix2 r 0) = rn (mm (fun k => u (ix2 r k)) (fun k c => w (ix2 k c))) := by
  pointwise [k0_pay5]
  simp only [pay4_at]
  rfl
theorem pay6_at : k0_pay6 (F := Ideal) u w (ix2 r c) = (mm (fun k => u (ix2 r k)) (fun k c => w (ix2 k c))) c * rn (mm (fun k => u (ix2 r k)) (fun k c => w (ix2 k c))) := by
  pointwise [k0_pay6]
  simp only [pay4_at, pay5_at]
theorem pay7_at : (k0_pay7 (F := Ideal) u w x gp) (ix2 r c) = (half_step (mm (fun k => u (ix2 r k)) (fun k c => w (ix2 k c))) (fun k => x (ix2 r k)) (fun k => gp (ix2 0 k))) c := by
  pointwise [k0_pay7]
  simp only [pay6_at]
  rfl
theorem pay8_at : (k0_pay8 (F := Ideal) u w x gp) (ix2 r 0) = rn (half_step (mm (fun k => u (ix2 r k)) (fun k c => w (ix2 k c))) (fun k => x (ix2 r k)) (fun k => gp (ix2 0 k))) := by
  pointwise [k0_pay8]
  simp only [pay7_at]
  rfl
theorem pay9_at : (k0_pay9 (F := Ideal) u w x gp) (ix2 r c) = (half_step (mm (fun k => u (ix2 r k)) (fun k c => w (ix2 k c))) (fun k => x (ix2 r k)) (fun k => gp (ix2 0 k))) c * rn (half_step (mm (fun k => u (ix2 r k)) (fun k c => w (ix2 k c))) (fun k => x (ix2 r k)) (fun k => gp (ix2 0 k))) := by
  pointwise [k0_pay9]
  simp only [pay7_at, pay8_at]
theorem pay10_at : (k0_pay10 (F := Ideal) u w x gp gf) (ix2 r c) = nrm (half_step (mm (fun k => u (ix2 r k)) (fun k c => w (ix2 k c))) (fun k => x (ix2 r k)) (fun k => gp (ix2 0 k))) (fun k => gf (ix2 0 k)) c := by
  pointwise [k0_pay10]
  simp only [pay9_at]
  rfl
theorem pay11_at : k0_pay11 (F := Ideal) (k0_pay10 (F := Ideal) u w x gp gf) tg (ix2 r c) = err (mm (fun k => u (ix2 r k)) (fun k c => w (ix2 k c))) (fun k => x (ix2 r k)) (fun k => gp (ix2 0 k)) (fun k => gf (ix2 0 k)) (fun k => tg (ix2 r k)) c := by
  pointwise [k0_pay11]
  simp only [pay10_at]
  rfl
theorem pay13_at : k0_pay13 (F := Ideal) (k0_pay10 (F := Ideal) u w x gp gf) tg (ix2 r c) = err (mm (fun k => u (ix2 r k)) (fun k c => w (ix2 k c))) (fun k => x (ix2 r k)) (fun k => gp (ix2 0 k)) (fun k => gf (ix2 0 k)) (fun k => tg (ix2 r k)) c * Ideal.ofBits .f32 0x3A800000#32 := by
  pointwise [k0_pay13]
  simp only [pay11_at]
theorem pay15_at : (k0_pay15 (F := Ideal) (k0_pay8 (F := Ideal) u w x gp) (k0_pay9 (F := Ideal) u w x gp) gf (k0_pay10 (F := Ideal) u w x gp gf) tg) (ix2 r c) = dX (mm (fun k => u (ix2 r k)) (fun k c => w (ix2 k c))) (fun k => x (ix2 r k)) (fun k => gp (ix2 0 k)) (fun k => gf (ix2 0 k)) (fun k => tg (ix2 r k)) c := by
  pointwise [k0_pay15]
  simp only [pay8_at, pay9_at, pay13_at]
  rfl
theorem pay16_at : (k0_pay16 (F := Ideal) (k0_pay8 (F := Ideal) u w x gp) (k0_pay9 (F := Ideal) u w x gp) gf (k0_pay10 (F := Ideal) u w x gp gf) tg) (ix2 r c) = dX (mm (fun k => u (ix2 r k)) (fun k c => w (ix2 k c))) (fun k => x (ix2 r k)) (fun k => gp (ix2 0 k)) (fun k => gf (ix2 0 k)) (fun k => tg (ix2 r k)) c * half := by
  pointwise [k0_pay16]
  simp only [pay15_at]
  rfl
theorem pay18_at (gq : FVec Ideal S1x1024 .f32) (hq : ∀ k, gq (ix2 0 k) = gp (ix2 0 k)) : k0_pay18 (F := Ideal) (k0_pay5 (F := Ideal) u w) (k0_pay6 (F := Ideal) u w) (k0_pay16 (F := Ideal) (k0_pay8 (F := Ideal) u w x gp) (k0_pay9 (F := Ideal) u w x gp) gf (k0_pay10 (F := Ideal) u w x gp gf) tg) gq (ix2 r c) = dF (mm (fun k => u (ix2 r k)) (fun k c => w (ix2 k c))) (fun k => x (ix2 r k)) (fun k => gp (ix2 0 k)) (fun k => gf (ix2 0 k)) (fun k => tg (ix2 r k)) c := by
  pointwise [k0_pay18]
  simp only [pay5_at, pay6_at, pay16_at, hq]
  rfl
theorem pay17_at (acc : FVec Ideal S1x1024 .f32) : k0_pay17 (F := Ideal) (k0_pay6 (F := Ideal) u w) (k0_pay16 (F := Ideal) (k0_pay8 (F := Ideal) u w x gp) (k0_pay9 (F := Ideal) u w x gp) gf (k0_pay10 (F := Ideal) u w x gp gf) tg) acc (ix2 0 c) = acc (ix2 0 c) + ∑ r : Fin 256, tP (mm (fun k => u (ix2 r k)) (fun k c => w (ix2 k c))) (fun k => x (ix2 r k)) (fun k => gp (ix2 0 k)) (fun k => gf (ix2 0 k)) (fun k => tg (ix2 r k)) c := by
  pointwise [k0_pay17]
  simp only [pay6_at, pay16_at]
  rfl
theorem pay14_at (acc : FVec Ideal S1x1024 .f32) : k0_pay14 (F := Ideal) (k0_pay9 (F := Ideal) u w x gp) (k0_pay10 (F := Ideal) u w x gp gf) tg acc (ix2 0 c) = acc (ix2 0 c) + ∑ r : Fin 256, tF (mm (fun k => u (ix2 r k)) (fun k c => w (ix2 k c))) (fun k => x (ix2 r k)) (fun k => gp (ix2 0 k)) (fun k => gf (ix2 0 k)) (fun k => tg (ix2 r k)) c := by
  pointwise [k0_pay14]
  simp only [pay9_at, pay13_at]
  rfl
theorem pay12_at (acc : FVec Ideal S8x128 .f32) (i : Fin 8) (j : Fin 128) : k0_pay12 (F := Ideal) (k0_pay10 (F := Ideal) u w x gp gf) tg acc (ix2 i j) = acc (ix2 i j) + Ideal.ofBits .f32 0x3A000000#32 * ∑ r : Fin 256, tL (mm (fun k => u (ix2 r k)) (fun k c => w (ix2 k c))) (fun k => x (ix2 r k)) (fun k => gp (ix2 0 k)) (fun k => gf (ix2 0 k)) (fun k => tg (ix2 r k)) := by
  pointwise [k0_pay12]
  simp only [pay11_at]
  rfl
theorem zero1_at : k0_pay1 (F := Ideal) (ix2 0 c) = 0 := by pointwise [k0_pay1]
theorem zero2_at : k0_pay2 (F := Ideal) (ix2 0 c) = 0 := by pointwise [k0_pay2]
theorem zero3_at (i : Fin 8) (j : Fin 128) : k0_pay3 (F := Ideal) (ix2 i j) = 0 := by pointwise [k0_pay3]
end at_

/-! The second sub-block's steps are the first's. -/
section same
variable (u : FVec Ideal S256x2816 .bf16) (w : FVec Ideal S2816x1024 .bf16) (x : FVec Ideal S256x1024 .f32) (gp gf : FVec Ideal S1x1024 .f32) (tg : FVec Ideal S256x1024 .f32) (acc : FVec Ideal S1x1024 .f32) (acl : FVec Ideal S8x128 .f32) (a1 b1 : FVec Ideal S256x1 .f32) (a2 b2 d : FVec Ideal S256x1024 .f32) (gq : FVec Ideal S1x1024 .f32)
theorem pay20_eq : k0_pay20 (F := Ideal) u w = k0_pay5 u w := rfl
theorem pay21_eq : k0_pay21 (F := Ideal) u w = k0_pay6 u w := rfl
theorem pay22_eq : k0_pay22 (F := Ideal) (k0_pay6 u w) x gp = k0_pay7 u w x gp := rfl
theorem pay23_eq : k0_pay23 (F := Ideal) (k0_pay6 u w) x gp = k0_pay8 u w x gp := rfl
theorem pay24_eq : k0_pay24 (F := Ideal) (k0_pay6 u w) x gp = k0_pay9 u w x gp := rfl
theorem pay26_eq : k0_pay26 (F := Ideal) (k0_pay6 u w) x gp gf tg acl = k0_pay12 (k0_pay10 u w x gp gf) tg acl := rfl
theorem pay27_eq : k0_pay27 (F := Ideal) (k0_pay6 u w) x gp gf tg = k0_pay13 (k0_pay10 u w x gp gf) tg := rfl
theorem pay30_eq : k0_pay30 (F := Ideal) (k0_pay28 acc) (k0_pay29 (k0_pay6 u w) x gp gf tg) = k0_pay14 (k0_pay9 u w x gp) (k0_pay10 u w x gp gf) tg acc := rfl
theorem pay31_eq : k0_pay31 (F := Ideal) a1 a2 gf (k0_pay13 d tg) = k0_pay15 a1 a2 gf d tg := rfl
theorem pay33_eq : k0_pay33 (F := Ideal) b2 a1 a2 gf (k0_pay13 d tg) acc = k0_pay17 b2 (k0_pay16 a1 a2 gf d tg) acc := rfl
theorem pay34_eq : k0_pay34 (F := Ideal) b1 b2 a1 a2 gf (k0_pay13 d tg) gq = k0_pay18 b1 b2 (k0_pay16 a1 a2 gf d tg) gq := rfl
end same

/-! A block's rows. -/

section rows
variable (b0 : FVec Ideal S512x2816 .bf16) (b1 : FVec Ideal S2816x1024 .bf16) (b2 : FVec Ideal S512x1024 .f32) (b3 : FVec Ideal S1x1024 .f32) (b4 : FVec Ideal S1x1024 .f32) (b5 : FVec Ideal S512x1024 .f32)
def bdF (r : Fin 512) (c : Fin 1024) : EReal := dF (mm (fun k => b0 (ix2 r k)) (fun k c => b1 (ix2 k c))) (fun k => b2 (ix2 r k)) (fun k => b3 (ix2 0 k)) (fun k => b4 (ix2 0 k)) (fun k => b5 (ix2 r k)) c
def bdX (r : Fin 512) (c : Fin 1024) : EReal := dX (mm (fun k => b0 (ix2 r k)) (fun k c => b1 (ix2 k c))) (fun k => b2 (ix2 r k)) (fun k => b3 (ix2 0 k)) (fun k => b4 (ix2 0 k)) (fun k => b5 (ix2 r k)) c
def btP (r : Fin 512) (c : Fin 1024) : EReal := tP (mm (fun k => b0 (ix2 r k)) (fun k c => b1 (ix2 k c))) (fun k => b2 (ix2 r k)) (fun k => b3 (ix2 0 k)) (fun k => b4 (ix2 0 k)) (fun k => b5 (ix2 r k)) c
def btF (r : Fin 512) (c : Fin 1024) : EReal := tF (mm (fun k => b0 (ix2 r k)) (fun k c => b1 (ix2 k c))) (fun k => b2 (ix2 r k)) (fun k => b3 (ix2 0 k)) (fun k => b4 (ix2 0 k)) (fun k => b5 (ix2 r k)) c
def btL (r : Fin 512) : EReal := tL (mm (fun k => b0 (ix2 r k)) (fun k c => b1 (ix2 k c))) (fun k => b2 (ix2 r k)) (fun k => b3 (ix2 0 k)) (fun k => b4 (ix2 0 k)) (fun k => b5 (ix2 r k))
variable (q : Fin 2) (u : FVec Ideal S256x2816 .bf16) (w : FVec Ideal S2816x1024 .bf16) (x : FVec Ideal S256x1024 .f32) (gp gf : FVec Ideal S1x1024 .f32) (tg : FVec Ideal S256x1024 .f32)
theorem half_dF (hu : ∀ r k, u (ix2 r k) = b0 (ix2 ⟨q.val * 256 + r.val, by omega⟩ k)) (hw : ∀ k c, w (ix2 k c) = b1 (ix2 k c))
    (hx : ∀ r k, x (ix2 r k) = b2 (ix2 ⟨q.val * 256 + r.val, by omega⟩ k)) (hgp : ∀ c, gp (ix2 0 c) = b3 (ix2 0 c)) (hgf : ∀ c, gf (ix2 0 c) = b4 (ix2 0 c))
    (ht : ∀ r k, tg (ix2 r k) = b5 (ix2 ⟨q.val * 256 + r.val, by omega⟩ k))
    (gq : FVec Ideal S1x1024 .f32) (hq : ∀ k, gq (ix2 0 k) = gp (ix2 0 k)) (r : Fin 256) (c : Fin 1024) (R : Fin 512) (hR : R.val = q.val * 256 + r.val) :
    k0_pay18 (F := Ideal) (k0_pay5 (F := Ideal) u w) (k0_pay6 (F := Ideal) u w) (k0_pay16 (F := Ideal) (k0_pay8 (F := Ideal) u w x gp) (k0_pay9 (F := Ideal) u w x gp) gf (k0_pay10 (F := Ideal) u w x gp gf) tg) gq (ix2 r c) = bdF b0 b1 b2 b3 b4 b5 R c := by
  have e : ∀ p, (⟨q.val * 256 + r.val, p⟩ : Fin 512) = R := fun p => Fin.ext hR.symm
  rw [pay18_at _ _ _ _ _ _ _ _ _ hq]
  simp only [hu, hw, hx, hgp, hgf, ht, e, bdF]
theorem half_dX (hu : ∀ r k, u (ix2 r k) = b0 (ix2 ⟨q.val * 256 + r.val, by omega⟩ k)) (hw : ∀ k c, w (ix2 k c) = b1 (ix2 k c))
    (hx : ∀ r k, x (ix2 r k) = b2 (ix2 ⟨q.val * 256 + r.val, by omega⟩ k)) (hgp : ∀ c, gp (ix2 0 c) = b3 (ix2 0 c)) (hgf : ∀ c, gf (ix2 0 c) = b4 (ix2 0 c))
    (ht : ∀ r k, tg (ix2 r k) = b5 (ix2 ⟨q.val * 256 + r.val, by omega⟩ k))
    (r : Fin 256) (c : Fin 1024) (R : Fin 512) (hR : R.val = q.val * 256 + r.val) :
    (k0_pay15 (F := Ideal) (k0_pay8 (F := Ideal) u w x gp) (k0_pay9 (F := Ideal) u w x gp) gf (k0_pay10 (F := Ideal) u w x gp gf) tg) (ix2 r c) = bdX b0 b1 b2 b3 b4 b5 R c := by
  have e : ∀ p, (⟨q.val * 256 + r.val, p⟩ : Fin 512) = R := fun p => Fin.ext hR.symm
  rw [pay15_at]
  simp only [hu, hw, hx, hgp, hgf, ht, e, bdX]
theorem half_tP (hu : ∀ r k, u (ix2 r k) = b0 (ix2 ⟨q.val * 256 + r.val, by omega⟩ k)) (hw : ∀ k c, w (ix2 k c) = b1 (ix2 k c))
    (hx : ∀ r k, x (ix2 r k) = b2 (ix2 ⟨q.val * 256 + r.val, by omega⟩ k)) (hgp : ∀ c, gp (ix2 0 c) = b3 (ix2 0 c)) (hgf : ∀ c, gf (ix2 0 c) = b4 (ix2 0 c))
    (ht : ∀ r k, tg (ix2 r k) = b5 (ix2 ⟨q.val * 256 + r.val, by omega⟩ k)) (c : Fin 1024) :
    ∑ r : Fin 256, tP (mm (fun k => u (ix2 r k)) (fun k c => w (ix2 k c))) (fun k => x (ix2 r k)) (fun k => gp (ix2 0 k)) (fun k => gf (ix2 0 k)) (fun k => tg (ix2 r k)) c = ∑ r : Fin 256, btP b0 b1 b2 b3 b4 b5 ⟨q.val * 256 + r.val, by omega⟩ c := by
  simp only [hu, hw, hx, hgp, hgf, ht, btP]
theorem half_tF (hu : ∀ r k, u (ix2 r k) = b0 (ix2 ⟨q.val * 256 + r.val, by omega⟩ k)) (hw : ∀ k c, w (ix2 k c) = b1 (ix2 k c))
    (hx : ∀ r k, x (ix2 r k) = b2 (ix2 ⟨q.val * 256 + r.val, by omega⟩ k)) (hgp : ∀ c, gp (ix2 0 c) = b3 (ix2 0 c)) (hgf : ∀ c, gf (ix2 0 c) = b4 (ix2 0 c))
    (ht : ∀ r k, tg (ix2 r k) = b5 (ix2 ⟨q.val * 256 + r.val, by omega⟩ k)) (c : Fin 1024) :
    ∑ r : Fin 256, tF (mm (fun k => u (ix2 r k)) (fun k c => w (ix2 k c))) (fun k => x (ix2 r k)) (fun k => gp (ix2 0 k)) (fun k => gf (ix2 0 k)) (fun k => tg (ix2 r k)) c = ∑ r : Fin 256, btF b0 b1 b2 b3 b4 b5 ⟨q.val * 256 + r.val, by omega⟩ c := by
  simp only [hu, hw, hx, hgp, hgf, ht, btF]
theorem half_tL (hu : ∀ r k, u (ix2 r k) = b0 (ix2 ⟨q.val * 256 + r.val, by omega⟩ k)) (hw : ∀ k c, w (ix2 k c) = b1 (ix2 k c))
    (hx : ∀ r k, x (ix2 r k) = b2 (ix2 ⟨q.val * 256 + r.val, by omega⟩ k)) (hgp : ∀ c, gp (ix2 0 c) = b3 (ix2 0 c)) (hgf : ∀ c, gf (ix2 0 c) = b4 (ix2 0 c))
    (ht : ∀ r k, tg (ix2 r k) = b5 (ix2 ⟨q.val * 256 + r.val, by omega⟩ k)) :
    ∑ r : Fin 256, tL (mm (fun k => u (ix2 r k)) (fun k c => w (ix2 k c))) (fun k => x (ix2 r k)) (fun k => gp (ix2 0 k)) (fun k => gf (ix2 0 k)) (fun k => tg (ix2 r k)) = ∑ r : Fin 256, btL b0 b1 b2 b3 b4 b5 ⟨q.val * 256 + r.val, by omega⟩ := by
  simp only [hu, hw, hx, hgp, hgf, ht, btL]
end rows

variable (m : (ℓ : Loc nD τ sig) → Buf (Elt Ideal) ℓ)

/-- Either case of the body writes the block of this gradient. -/
theorem dF_at (c : Dev nD) (t : Fin cfg0.N) (a : Fin 512) (b : Fin 1024) :
    (outsAt0 m c t.val t.isLt).1 (ix2 a b) = bdF (show FVec Ideal S512x2816 .bf16 from iblk m c 0 t) (show FVec Ideal S2816x1024 .bf16 from iblk m c 1 t) (show FVec Ideal S512x1024 .f32 from iblk m c 2 t) (show FVec Ideal S1x1024 .f32 from iblk m c 3 t) (show FVec Ideal S1x1024 .f32 from iblk m c 4 t) (show FVec Ideal S512x1024 .f32 from iblk m c 5 t) a b := by
  by_cases h0 : t.val % 8 = 0
  · rw [outsAt0_A m c t h0]
    frame_out
    generalize iblk m c 0 t = X0
    generalize iblk m c 1 t = X1
    generalize iblk m c 2 t = X2
    generalize iblk m c 3 t = X3
    generalize iblk m c 4 t = X4
    generalize iblk m c 5 t = X5
    canon_tiles y hy
    all_goals (idx_vars y; try simp only [pay20_eq, pay21_eq, pay22_eq, pay23_eq, pay24_eq, pay26_eq, pay27_eq, pay30_eq, pay31_eq, pay33_eq, pay34_eq])
    all_goals obtain rfl := Fin.ext hy1
    case piece0 => exact half_dF _ _ _ _ _ _ 1 _ _ _ _ _ _ (by intro r k; first | rfl | (pointwise; done) | (pointwise; blk_ext)) (by intro r k; first | rfl | (pointwise; done) | (pointwise; blk_ext)) (by intro r k; first | rfl | (pointwise; done) | (pointwise; blk_ext)) (by intro k; first | rfl | (pointwise; done) | (pointwise; blk_ext)) (by intro k; first | rfl | (pointwise; done) | (pointwise; blk_ext)) (by intro r k; first | rfl | (pointwise; done) | (pointwise; blk_ext)) _ (by intro k; first | rfl | (pointwise; done) | (pointwise; blk_ext)) _ _ _ (by simp at hy0 ⊢; omega)
    case piece1 => exact half_dF _ _ _ _ _ _ 0 _ _ _ _ _ _ (by intro r k; first | rfl | (pointwise; done) | (pointwise; blk_ext)) (by intro r k; first | rfl | (pointwise; done) | (pointwise; blk_ext)) (by intro r k; first | rfl | (pointwise; done) | (pointwise; blk_ext)) (by intro k; first | rfl | (pointwise; done) | (pointwise; blk_ext)) (by intro k; first | rfl | (pointwise; done) | (pointwise; blk_ext)) (by intro r k; first | rfl | (pointwise; done) | (pointwise; blk_ext)) _ (by intro k; first | rfl | (pointwise; done) | (pointwise; blk_ext)) _ _ _ (by simp at hy0 ⊢; omega)
  · rw [outsAt0_B m c t h0]
    frame_out
    generalize iblk m c 0 t = X0
    generalize iblk m c 1 t = X1
    generalize iblk m c 2 t = X2
    generalize iblk m c 3 t = X3
    generalize iblk m c 4 t = X4
    generalize iblk m c 5 t = X5
    canon_tiles y hy
    all_goals (idx_vars y; try simp only [pay20_eq, pay21_eq, pay22_eq, pay23_eq, pay24_eq, pay26_eq, pay27_eq, pay30_eq, pay31_eq, pay33_eq, pay34_eq])
    all_goals obtain rfl := Fin.ext hy1
    case piece0 => exact half_dF _ _ _ _ _ _ 1 _ _ _ _ _ _ (by intro r k; first | rfl | (pointwise; done) | (pointwise; blk_ext)) (by intro r k; first | rfl | (pointwise; done) | (pointwise; blk_ext)) (by intro r k; first | rfl | (pointwise; done) | (pointwise; blk_ext)) (by intro k; first | rfl | (pointwise; done) | (pointwise; blk_ext)) (by intro k; first | rfl | (pointwise; done) | (pointwise; blk_ext)) (by intro r k; first | rfl | (pointwise; done) | (pointwise; blk_ext)) _ (by intro k; first | rfl | (pointwise; done) | (pointwise; blk_ext)) _ _ _ (by simp at hy0 ⊢; omega)
    case piece1 => exact half_dF _ _ _ _ _ _ 0 _ _ _ _ _ _ (by intro r k; first | rfl | (pointwise; done) | (pointwise; blk_ext)) (by intro r k; first | rfl | (pointwise; done) | (pointwise; blk_ext)) (by intro r k; first | rfl | (pointwise; done) | (pointwise; blk_ext)) (by intro k; first | rfl | (pointwise; done) | (pointwise; blk_ext)) (by intro k; first | rfl | (pointwise; done) | (pointwise; blk_ext)) (by intro r k; first | rfl | (pointwise; done) | (pointwise; blk_ext)) _ (by intro k; first | rfl | (pointwise; done) | (pointwise; blk_ext)) _ _ _ (by simp at hy0 ⊢; omega)

/-- Either case of the body writes the block of this gradient. -/
theorem dX_at (c : Dev nD) (t : Fin cfg0.N) (a : Fin 512) (b : Fin 1024) :
    (outsAt0 m c t.val t.isLt).2.1 (ix2 a b) = bdX (show FVec Ideal S512x2816 .bf16 from iblk m c 0 t) (show FVec Ideal S2816x1024 .bf16 from iblk m c 1 t) (show FVec Ideal S512x1024 .f32 from iblk m c 2 t) (show FVec Ideal S1x1024 .f32 from iblk m c 3 t) (show FVec Ideal S1x1024 .f32 from iblk m c 4 t) (show FVec Ideal S512x1024 .f32 from iblk m c 5 t) a b := by
  by_cases h0 : t.val % 8 = 0
  · rw [outsAt0_A m c t h0]
    frame_out
    generalize iblk m c 0 t = X0
    generalize iblk m c 1 t = X1
    generalize iblk m c 2 t = X2
    generalize iblk m c 3 t = X3
    generalize iblk m c 4 t = X4
    generalize iblk m c 5 t = X5
    canon_tiles y hy
    all_goals (idx_vars y; try simp only [pay20_eq, pay21_eq, pay22_eq, pay23_eq, pay24_eq, pay26_eq, pay27_eq, pay30_eq, pay31_eq, pay33_eq, pay34_eq])
    all_goals obtain rfl := Fin.ext hy1
    case piece0 => exact half_dX _ _ _ _ _ _ 1 _ _ _ _ _ _ (by intro r k; first | rfl | (pointwise; done) | (pointwise; blk_ext)) (by intro r k; first | rfl | (pointwise; done) | (pointwise; blk_ext)) (by intro r k; first | rfl | (pointwise; done) | (pointwise; blk_ext)) (by intro k; first | rfl | (pointwise; done) | (pointwise; blk_ext)) (by intro k; first | rfl | (pointwise; done) | (pointwise; blk_ext)) (by intro r k; first | rfl | (pointwise; done) | (pointwise; blk_ext)) _ _ _ (by simp at hy0 ⊢; omega)
    case piece1 => exact half_dX _ _ _ _ _ _ 0 _ _ _ _ _ _ (by intro r k; first | rfl | (pointwise; done) | (pointwise; blk_ext)) (by intro r k; first | rfl | (pointwise; done) | (pointwise; blk_ext)) (by intro r k; first | rfl | (pointwise; done) | (pointwise; blk_ext)) (by intro k; first | rfl | (pointwise; done) | (pointwise; blk_ext)) (by intro k; first | rfl | (pointwise; done) | (pointwise; blk_ext)) (by intro r k; first | rfl | (pointwise; done) | (pointwise; blk_ext)) _ _ _ (by simp at hy0 ⊢; omega)
  · rw [outsAt0_B m c t h0]
    frame_out
    generalize iblk m c 0 t = X0
    generalize iblk m c 1 t = X1
    generalize iblk m c 2 t = X2
    generalize iblk m c 3 t = X3
    generalize iblk m c 4 t = X4
    generalize iblk m c 5 t = X5
    canon_tiles y hy
    all_goals (idx_vars y; try simp only [pay20_eq, pay21_eq, pay22_eq, pay23_eq, pay24_eq, pay26_eq, pay27_eq, pay30_eq, pay31_eq, pay33_eq, pay34_eq])
    all_goals obtain rfl := Fin.ext hy1
    case piece0 => exact half_dX _ _ _ _ _ _ 1 _ _ _ _ _ _ (by intro r k; first | rfl | (pointwise; done) | (pointwise; blk_ext)) (by intro r k; first | rfl | (pointwise; done) | (pointwise; blk_ext)) (by intro r k; first | rfl | (pointwise; done) | (pointwise; blk_ext)) (by intro k; first | rfl | (pointwise; done) | (pointwise; blk_ext)) (by intro k; first | rfl | (pointwise; done) | (pointwise; blk_ext)) (by intro r k; first | rfl | (pointwise; done) | (pointwise; blk_ext)) _ _ _ (by simp at hy0 ⊢; omega)
    case piece1 => exact half_dX _ _ _ _ _ _ 0 _ _ _ _ _ _ (by intro r k; first | rfl | (pointwise; done) | (pointwise; blk_ext)) (by intro r k; first | rfl | (pointwise; done) | (pointwise; blk_ext)) (by intro r k; first | rfl | (pointwise; done) | (pointwise; blk_ext)) (by intro k; first | rfl | (pointwise; done) | (pointwise; blk_ext)) (by intro k; first | rfl | (pointwise; done) | (pointwise; blk_ext)) (by intro r k; first | rfl | (pointwise; done) | (pointwise; blk_ext)) _ _ _ (by simp at hy0 ⊢; omega)

/-- A point's part of this sum. -/
theorem tP_B (c : Dev nD) (t : Fin cfg0.N) (h0 : ¬ t.val % 8 = 0) (b : Fin 1024) :
    (outsAt0 m c t.val t.isLt).2.2.1 (ix2 0 b) = (outsAt0 m c (t.val - 1) (Nat.lt_of_le_of_lt (Nat.sub_le _ _) t.isLt)).2.2.1 (ix2 0 b) + (∑ s : Fin 2, ∑ r : Fin 256, btP (show FVec Ideal S512x2816 .bf16 from iblk m c 0 t) (show FVec Ideal S2816x1024 .bf16 from iblk m c 1 t) (show FVec Ideal S512x1024 .f32 from iblk m c 2 t) (show FVec Ideal S1x1024 .f32 from iblk m c 3 t) (show FVec Ideal S1x1024 .f32 from iblk m c 4 t) (show FVec Ideal S512x1024 .f32 from iblk m c 5 t) ⟨s.val * 256 + r.val, by omega⟩ b) := by
  rw [outsAt0_B m c t h0]
  frame_open
  simp (disch := decide) only [↓ View.readCov_skip, ↓ View.readCov_cons_toLoadRect, ↓ View.readCov_fill]
  frame_out
  generalize iblk m c 0 t = X0
  generalize iblk m c 1 t = X1
  generalize iblk m c 2 t = X2
  generalize iblk m c 3 t = X3
  generalize iblk m c 4 t = X4
  generalize iblk m c 5 t = X5
  generalize (outsAt0 m c (t.val - 1) (Nat.lt_of_le_of_lt (Nat.sub_le _ _) t.isLt)).2.2.1 = P
  try simp only [pay20_eq, pay21_eq, pay22_eq, pay23_eq, pay24_eq, pay26_eq, pay27_eq, pay30_eq, pay31_eq, pay33_eq, pay34_eq]
  rw [Fin.sum_univ_two, ← add_assoc]
  refine (pay17_at _ _ _ _ _ _ _ _).trans (congr (congrArg HAdd.hAdd ((pay17_at _ _ _ _ _ _ _ _).trans (congr (congrArg HAdd.hAdd rfl) ?_))) ?_)
  · exact (half_tP _ _ _ _ _ _ 0 _ _ _ _ _ _ (by intro r k; first | rfl | (pointwise; done) | (pointwise; blk_ext)) (by intro r k; first | rfl | (pointwise; done) | (pointwise; blk_ext)) (by intro r k; first | rfl | (pointwise; done) | (pointwise; blk_ext)) (by intro k; first | rfl | (pointwise; done) | (pointwise; blk_ext)) (by intro k; first | rfl | (pointwise; done) | (pointwise; blk_ext)) (by intro r k; first | rfl | (pointwise; done) | (pointwise; blk_ext)) b)
  · exact (half_tP _ _ _ _ _ _ 1 _ _ _ _ _ _ (by intro r k; first | rfl | (pointwise; done) | (pointwise; blk_ext)) (by intro r k; first | rfl | (pointwise; done) | (pointwise; blk_ext)) (by intro r k; first | rfl | (pointwise; done) | (pointwise; blk_ext)) (by intro k; first | rfl | (pointwise; done) | (pointwise; blk_ext)) (by intro k; first | rfl | (pointwise; done) | (pointwise; blk_ext)) (by intro r k; first | rfl | (pointwise; done) | (pointwise; blk_ext)) b)

/-- A point's part of this sum. -/
theorem tP_A (c : Dev nD) (t : Fin cfg0.N) (h0 : t.val % 8 = 0) (b : Fin 1024) :
    (outsAt0 m c t.val t.isLt).2.2.1 (ix2 0 b) = 0 + (∑ s : Fin 2, ∑ r : Fin 256, btP (show FVec Ideal S512x2816 .bf16 from iblk m c 0 t) (show FVec Ideal S2816x1024 .bf16 from iblk m c 1 t) (show FVec Ideal S512x1024 .f32 from iblk m c 2 t) (show FVec Ideal S1x1024 .f32 from iblk m c 3 t) (show FVec Ideal S1x1024 .f32 from iblk m c 4 t) (show FVec Ideal S512x1024 .f32 from iblk m c 5 t) ⟨s.val * 256 + r.val, by omega⟩ b) := by
  rw [outsAt0_A m c t h0]
  frame_open
  simp (disch := decide) only [↓ View.readCov_skip, ↓ View.readCov_cons_toLoadRect, ↓ View.readCov_fill]
  frame_out
  generalize iblk m c 0 t = X0
  generalize iblk m c 1 t = X1
  generalize iblk m c 2 t = X2
  generalize iblk m c 3 t = X3
  generalize iblk m c 4 t = X4
  generalize iblk m c 5 t = X5
  try simp only [pay20_eq, pay21_eq, pay22_eq, pay23_eq, pay24_eq, pay26_eq, pay27_eq, pay30_eq, pay31_eq, pay33_eq, pay34_eq]
  rw [Fin.sum_univ_two, ← add_assoc]
  refine (pay17_at _ _ _ _ _ _ _ _).trans (congr (congrArg HAdd.hAdd ((pay17_at _ _ _ _ _ _ _ _).trans (congr (congrArg HAdd.hAdd (zero1_at b)) ?_))) ?_)
  · exact (half_tP _ _ _ _ _ _ 0 _ _ _ _ _ _ (by intro r k; first | rfl | (pointwise; done) | (pointwise; blk_ext)) (by intro r k; first | rfl | (pointwise; done) | (pointwise; blk_ext)) (by intro r k; first | rfl | (pointwise; done) | (pointwise; blk_ext)) (by intro k; first | rfl | (pointwise; done) | (pointwise; blk_ext)) (by intro k; first | rfl | (pointwise; done) | (pointwise; blk_ext)) (by intro r k; first | rfl | (pointwise; done) | (pointwise; blk_ext)) b)
  · exact (half_tP _ _ _ _ _ _ 1 _ _ _ _ _ _ (by intro r k; first | rfl | (pointwise; done) | (pointwise; blk_ext)) (by intro r k; first | rfl | (pointwise; done) | (pointwise; blk_ext)) (by intro r k; first | rfl | (pointwise; done) | (pointwise; blk_ext)) (by intro k; first | rfl | (pointwise; done) | (pointwise; blk_ext)) (by intro k; first | rfl | (pointwise; done) | (pointwise; blk_ext)) (by intro r k; first | rfl | (pointwise; done) | (pointwise; blk_ext)) b)

/-- A point's part of this sum. -/
theorem tF_B (c : Dev nD) (t : Fin cfg0.N) (h0 : ¬ t.val % 8 = 0) (b : Fin 1024) :
    (outsAt0 m c t.val t.isLt).2.2.2.1 (ix2 0 b) = (outsAt0 m c (t.val - 1) (Nat.lt_of_le_of_lt (Nat.sub_le _ _) t.isLt)).2.2.2.1 (ix2 0 b) + (∑ s : Fin 2, ∑ r : Fin 256, btF (show FVec Ideal S512x2816 .bf16 from iblk m c 0 t) (show FVec Ideal S2816x1024 .bf16 from iblk m c 1 t) (show FVec Ideal S512x1024 .f32 from iblk m c 2 t) (show FVec Ideal S1x1024 .f32 from iblk m c 3 t) (show FVec Ideal S1x1024 .f32 from iblk m c 4 t) (show FVec Ideal S512x1024 .f32 from iblk m c 5 t) ⟨s.val * 256 + r.val, by omega⟩ b) := by
  rw [outsAt0_B m c t h0]
  frame_open
  simp (disch := decide) only [↓ View.readCov_skip, ↓ View.readCov_cons_toLoadRect, ↓ View.readCov_fill]
  frame_out
  generalize iblk m c 0 t = X0
  generalize iblk m c 1 t = X1
  generalize iblk m c 2 t = X2
  generalize iblk m c 3 t = X3
  generalize iblk m c 4 t = X4
  generalize iblk m c 5 t = X5
  generalize (outsAt0 m c (t.val - 1) (Nat.lt_of_le_of_lt (Nat.sub_le _ _) t.isLt)).2.2.2.1 = P
  try simp only [pay20_eq, pay21_eq, pay22_eq, pay23_eq, pay24_eq, pay26_eq, pay27_eq, pay30_eq, pay31_eq, pay33_eq, pay34_eq]
  rw [Fin.sum_univ_two, ← add_assoc]
  refine (pay14_at _ _ _ _ _ _ _ _).trans (congr (congrArg HAdd.hAdd ((pay14_at _ _ _ _ _ _ _ _).trans (congr (congrArg HAdd.hAdd rfl) ?_))) ?_)
  · exact (half_tF _ _ _ _ _ _ 0 _ _ _ _ _ _ (by intro r k; first | rfl | (pointwise; done) | (pointwise; blk_ext)) (by intro r k; first | rfl | (pointwise; done) | (pointwise; blk_ext)) (by intro r k; first | rfl | (pointwise; done) | (pointwise; blk_ext)) (by intro k; first | rfl | (pointwise; done) | (pointwise; blk_ext)) (by intro k; first | rfl | (pointwise; done) | (pointwise; blk_ext)) (by intro r k; first | rfl | (pointwise; done) | (pointwise; blk_ext)) b)
  · exact (half_tF _ _ _ _ _ _ 1 _ _ _ _ _ _ (by intro r k; first | rfl | (pointwise; done) | (pointwise; blk_ext)) (by intro r k; first | rfl | (pointwise; done) | (pointwise; blk_ext)) (by intro r k; first | rfl | (pointwise; done) | (pointwise; blk_ext)) (by intro k; first | rfl | (pointwise; done) | (pointwise; blk_ext)) (by intro k; first | rfl | (pointwise; done) | (pointwise; blk_ext)) (by intro r k; first | rfl | (pointwise; done) | (pointwise; blk_ext)) b)

/-- A point's part of this sum. -/
theorem tF_A (c : Dev nD) (t : Fin cfg0.N) (h0 : t.val % 8 = 0) (b : Fin 1024) :
    (outsAt0 m c t.val t.isLt).2.2.2.1 (ix2 0 b) = 0 + (∑ s : Fin 2, ∑ r : Fin 256, btF (show FVec Ideal S512x2816 .bf16 from iblk m c 0 t) (show FVec Ideal S2816x1024 .bf16 from iblk m c 1 t) (show FVec Ideal S512x1024 .f32 from iblk m c 2 t) (show FVec Ideal S1x1024 .f32 from iblk m c 3 t) (show FVec Ideal S1x1024 .f32 from iblk m c 4 t) (show FVec Ideal S512x1024 .f32 from iblk m c 5 t) ⟨s.val * 256 + r.val, by omega⟩ b) := by
  rw [outsAt0_A m c t h0]
  frame_open
  simp (disch := decide) only [↓ View.readCov_skip, ↓ View.readCov_cons_toLoadRect, ↓ View.readCov_fill]
  frame_out
  generalize iblk m c 0 t = X0
  generalize iblk m c 1 t = X1
  generalize iblk m c 2 t = X2
  generalize iblk m c 3 t = X3
  generalize iblk m c 4 t = X4
  generalize iblk m c 5 t = X5
  try simp only [pay20_eq, pay21_eq, pay22_eq, pay23_eq, pay24_eq, pay26_eq, pay27_eq, pay30_eq, pay31_eq, pay33_eq, pay34_eq]
  rw [Fin.sum_univ_two, ← add_assoc]
  refine (pay14_at _ _ _ _ _ _ _ _).trans (congr (congrArg HAdd.hAdd ((pay14_at _ _ _ _ _ _ _ _).trans (congr (congrArg HAdd.hAdd (zero2_at b)) ?_))) ?_)
  · exact (half_tF _ _ _ _ _ _ 0 _ _ _ _ _ _ (by intro r k; first | rfl | (pointwise; done) | (pointwise; blk_ext)) (by intro r k; first | rfl | (pointwise; done) | (pointwise; blk_ext)) (by intro r k; first | rfl | (pointwise; done) | (pointwise; blk_ext)) (by intro k; first | rfl | (pointwise; done) | (pointwise; blk_ext)) (by intro k; first | rfl | (pointwise; done) | (pointwise; blk_ext)) (by intro r k; first | rfl | (pointwise; done) | (pointwise; blk_ext)) b)
  · exact (half_tF _ _ _ _ _ _ 1 _ _ _ _ _ _ (by intro r k; first | rfl | (pointwise; done) | (pointwise; blk_ext)) (by intro r k; first | rfl | (pointwise; done) | (pointwise; blk_ext)) (by intro r k; first | rfl | (pointwise; done) | (pointwise; blk_ext)) (by intro k; first | rfl | (pointwise; done) | (pointwise; blk_ext)) (by intro k; first | rfl | (pointwise; done) | (pointwise; blk_ext)) (by intro r k; first | rfl | (pointwise; done) | (pointwise; blk_ext)) b)

/-- A point's part of this sum. -/
theorem tL_B (c : Dev nD) (t : Fin cfg0.N) (h0 : ¬ t.val % 8 = 0) (i : Fin 8) (j : Fin 128) :
    (outsAt0 m c t.val t.isLt).2.2.2.2 (ix2 i j) = (outsAt0 m c (t.val - 1) (Nat.lt_of_le_of_lt (Nat.sub_le _ _) t.isLt)).2.2.2.2 (ix2 i j) + (∑ s : Fin 2, Ideal.ofBits .f32 0x3A000000#32 * ∑ r : Fin 256, btL (show FVec Ideal S512x2816 .bf16 from iblk m c 0 t) (show FVec Ideal S2816x1024 .bf16 from iblk m c 1 t) (show FVec Ideal S512x1024 .f32 from iblk m c 2 t) (show FVec Ideal S1x1024 .f32 from iblk m c 3 t) (show FVec Ideal S1x1024 .f32 from iblk m c 4 t) (show FVec Ideal S512x1024 .f32 from iblk m c 5 t) ⟨s.val * 256 + r.val, by omega⟩) := by
  rw [outsAt0_B m c t h0]
  frame_open
  simp (disch := decide) only [↓ View.readCov_skip, ↓ View.readCov_cons_toLoadRect, ↓ View.readCov_fill]
  frame_out
  generalize iblk m c 0 t = X0
  generalize iblk m c 1 t = X1
  generalize iblk m c 2 t = X2
  generalize iblk m c 3 t = X3
  generalize iblk m c 4 t = X4
  generalize iblk m c 5 t = X5
  generalize (outsAt0 m c (t.val - 1) (Nat.lt_of_le_of_lt (Nat.sub_le _ _) t.isLt)).2.2.2.2 = P
  try simp only [pay20_eq, pay21_eq, pay22_eq, pay23_eq, pay24_eq, pay26_eq, pay27_eq, pay30_eq, pay31_eq, pay33_eq, pay34_eq]
  rw [Fin.sum_univ_two, ← add_assoc]
  refine (pay12_at _ _ _ _ _ _ _ _ _).trans (congr (congrArg HAdd.hAdd ((pay12_at _ _ _ _ _ _ _ _ _).trans (congr (congrArg HAdd.hAdd rfl) ?_))) ?_)
  · exact (congrArg (fun z => Ideal.ofBits .f32 0x3A000000#32 * z) (half_tL _ _ _ _ _ _ 0 _ _ _ _ _ _ (by intro r k; first | rfl | (pointwise; done) | (pointwise; blk_ext)) (by intro r k; first | rfl | (pointwise; done) | (pointwise; blk_ext)) (by intro r k; first | rfl | (pointwise; done) | (pointwise; blk_ext)) (by intro k; first | rfl | (pointwise; done) | (pointwise; blk_ext)) (by intro k; first | rfl | (pointwise; done) | (pointwise; blk_ext)) (by intro r k; first | rfl | (pointwise; done) | (pointwise; blk_ext))))
  · exact (congrArg (fun z => Ideal.ofBits .f32 0x3A000000#32 * z) (half_tL _ _ _ _ _ _ 1 _ _ _ _ _ _ (by intro r k; first | rfl | (pointwise; done) | (pointwise; blk_ext)) (by intro r k; first | rfl | (pointwise; done) | (pointwise; blk_ext)) (by intro r k; first | rfl | (pointwise; done) | (pointwise; blk_ext)) (by intro k; first | rfl | (pointwise; done) | (pointwise; blk_ext)) (by intro k; first | rfl | (pointwise; done) | (pointwise; blk_ext)) (by intro r k; first | rfl | (pointwise; done) | (pointwise; blk_ext))))

/-- A point's part of this sum. -/
theorem tL_A (c : Dev nD) (t : Fin cfg0.N) (h0 : t.val % 8 = 0) (i : Fin 8) (j : Fin 128) :
    (outsAt0 m c t.val t.isLt).2.2.2.2 (ix2 i j) = 0 + (∑ s : Fin 2, Ideal.ofBits .f32 0x3A000000#32 * ∑ r : Fin 256, btL (show FVec Ideal S512x2816 .bf16 from iblk m c 0 t) (show FVec Ideal S2816x1024 .bf16 from iblk m c 1 t) (show FVec Ideal S512x1024 .f32 from iblk m c 2 t) (show FVec Ideal S1x1024 .f32 from iblk m c 3 t) (show FVec Ideal S1x1024 .f32 from iblk m c 4 t) (show FVec Ideal S512x1024 .f32 from iblk m c 5 t) ⟨s.val * 256 + r.val, by omega⟩) := by
  rw [outsAt0_A m c t h0]
  frame_open
  simp (disch := decide) only [↓ View.readCov_skip, ↓ View.readCov_cons_toLoadRect, ↓ View.readCov_fill]
  frame_out
  generalize iblk m c 0 t = X0
  generalize iblk m c 1 t = X1
  generalize iblk m c 2 t = X2
  generalize iblk m c 3 t = X3
  generalize iblk m c 4 t = X4
  generalize iblk m c 5 t = X5
  try simp only [pay20_eq, pay21_eq, pay22_eq, pay23_eq, pay24_eq, pay26_eq, pay27_eq, pay30_eq, pay31_eq, pay33_eq, pay34_eq]
  rw [Fin.sum_univ_two, ← add_assoc]
  refine (pay12_at _ _ _ _ _ _ _ _ _).trans (congr (congrArg HAdd.hAdd ((pay12_at _ _ _ _ _ _ _ _ _).trans (congr (congrArg HAdd.hAdd (zero3_at i j)) ?_))) ?_)
  · exact (congrArg (fun z => Ideal.ofBits .f32 0x3A000000#32 * z) (half_tL _ _ _ _ _ _ 0 _ _ _ _ _ _ (by intro r k; first | rfl | (pointwise; done) | (pointwise; blk_ext)) (by intro r k; first | rfl | (pointwise; done) | (pointwise; blk_ext)) (by intro r k; first | rfl | (pointwise; done) | (pointwise; blk_ext)) (by intro k; first | rfl | (pointwise; done) | (pointwise; blk_ext)) (by intro k; first | rfl | (pointwise; done) | (pointwise; blk_ext)) (by intro r k; first | rfl | (pointwise; done) | (pointwise; blk_ext))))
  · exact (congrArg (fun z => Ideal.ofBits .f32 0x3A000000#32 * z) (half_tL _ _ _ _ _ _ 1 _ _ _ _ _ _ (by intro r k; first | rfl | (pointwise; done) | (pointwise; blk_ext)) (by intro r k; first | rfl | (pointwise; done) | (pointwise; blk_ext)) (by intro r k; first | rfl | (pointwise; done) | (pointwise; blk_ext)) (by intro k; first | rfl | (pointwise; done) | (pointwise; blk_ext)) (by intro k; first | rfl | (pointwise; done) | (pointwise; blk_ext)) (by intro r k; first | rfl | (pointwise; done) | (pointwise; blk_ext))))

end Cert.OutLossIdeal.Value
-- ==== Proof.OutLossProof.lean ====
module

public import proofs.«01_k».proof.Proof.Gen.OutLossIdeal.Value
public import proofs.«01_k».proof.Proof.Gen.OutLossRefIdeal.Run
public import proofs.«01_k».proof.Defs
public import Idealize.ShloMosaic.Lib.Pointwise
public import Idealize.ShloMosaic.Lib.Pipeline.ValueKit
public import Idealize.ShloMosaic.Lib.Pipeline.ReadBack
public import Idealize.ShloMosaic.Adequacy
public import proofs.«01_k».proof.Proof.OutLossKernel

@[expose] public section

set_option maxRecDepth 16384

noncomputable section

namespace Cert.OutLossIdeal.Value

open Cert.OutLossIdeal Cert.OutLossIdeal.Gen Idealize.ShloMosaic Idealize.ShloMosaic.TcCoe Idealize.SL.Sem
open Idealize.ShloMosaic.Pipeline Cert.Norm Cert.Step

/-! The arrays the kernel leaves, from its arguments. -/

section rows
variable (a0 : FVec Ideal S4096x2816 .bf16) (a1 : FVec Ideal S2816x1024 .bf16) (a2 : FVec Ideal S4096x1024 .f32) (a3 : FVec Ideal S1x1024 .f32) (a4 : FVec Ideal S1x1024 .f32) (a5 : FVec Ideal S4096x1024 .f32)
def gdF (r : Fin 4096) (c : Fin 1024) : EReal := dF (mm (fun k => a0 (ix2 r k)) (fun k c => a1 (ix2 k c))) (fun k => a2 (ix2 r k)) (fun k => a3 (ix2 0 k)) (fun k => a4 (ix2 0 k)) (fun k => a5 (ix2 r k)) c
def gdX (r : Fin 4096) (c : Fin 1024) : EReal := dX (mm (fun k => a0 (ix2 r k)) (fun k c => a1 (ix2 k c))) (fun k => a2 (ix2 r k)) (fun k => a3 (ix2 0 k)) (fun k => a4 (ix2 0 k)) (fun k => a5 (ix2 r k)) c
def gtP (r : Fin 4096) (c : Fin 1024) : EReal := tP (mm (fun k => a0 (ix2 r k)) (fun k c => a1 (ix2 k c))) (fun k => a2 (ix2 r k)) (fun k => a3 (ix2 0 k)) (fun k => a4 (ix2 0 k)) (fun k => a5 (ix2 r k)) c
def gtF (r : Fin 4096) (c : Fin 1024) : EReal := tF (mm (fun k => a0 (ix2 r k)) (fun k c => a1 (ix2 k c))) (fun k => a2 (ix2 r k)) (fun k => a3 (ix2 0 k)) (fun k => a4 (ix2 0 k)) (fun k => a5 (ix2 r k)) c
def gtL (r : Fin 4096) : EReal := tL (mm (fun k => a0 (ix2 r k)) (fun k c => a1 (ix2 k c))) (fun k => a2 (ix2 r k)) (fun k => a3 (ix2 0 k)) (fun k => a4 (ix2 0 k)) (fun k => a5 (ix2 r k))
end rows

theorem idx : ∀ t : Fin cfg0.N, win0_0.index t = ![t.val, 0] ∧ win0_1.index t = ![0, 0] ∧ win0_2.index t = ![t.val, 0] ∧ win0_3.index t = ![0, 0] ∧ win0_4.index t = ![0, 0] ∧ win0_5.index t = ![t.val, 0]
    ∧ win0_6.index t = ![t.val, 0] ∧ win0_7.index t = ![t.val, 0] ∧ win0_8.index t = ![0, 0] ∧ win0_9.index t = ![0, 0] ∧ win0_10.index t = ![0, 0] :=
  (by decide +kernel : ∀ t : Fin grid0.N, _)

theorem pt_lt (t : Fin cfg0.N) : t.val < 8 := lt_of_lt_of_eq t.isLt N_0

variable (m : (ℓ : Loc nD τ sig) → Buf (Elt Ideal) ℓ)

theorem blk0 (c : Dev nD) (t : Fin cfg0.N) (r : Fin 512) (k : Fin 2816) :
    (show FVec Ideal S512x2816 .bf16 from iblk m c 0 t) (ix2 r k) = m ((c : Thread nD τ).loc main_arg0) (ix2 ⟨t.val * 512 + r.val, by have := pt_lt t; omega⟩ k) := by
  blk_point [iblk, V, idx t]
theorem blk1 (c : Dev nD) (t : Fin cfg0.N) (r : Fin 2816) (k : Fin 1024) :
    (show FVec Ideal S2816x1024 .bf16 from iblk m c 1 t) (ix2 r k) = m ((c : Thread nD τ).loc main_arg1) (ix2 r k) := by
  blk_point [iblk, V, idx t]
theorem blk2 (c : Dev nD) (t : Fin cfg0.N) (r : Fin 512) (k : Fin 1024) :
    (show FVec Ideal S512x1024 .f32 from iblk m c 2 t) (ix2 r k) = m ((c : Thread nD τ).loc main_arg2) (ix2 ⟨t.val * 512 + r.val, by have := pt_lt t; omega⟩ k) := by
  blk_point [iblk, V, idx t]
theorem blk3 (c : Dev nD) (t : Fin cfg0.N) (k : Fin 1024) :
    (show FVec Ideal S1x1024 .f32 from iblk m c 3 t) (ix2 0 k) = m ((c : Thread nD τ).loc main_arg3) (ix2 0 k) := by
  blk_point [iblk, V, idx t]
theorem blk4 (c : Dev nD) (t : Fin cfg0.N) (k : Fin 1024) :
    (show FVec Ideal S1x1024 .f32 from iblk m c 4 t) (ix2 0 k) = m ((c : Thread nD τ).loc main_arg4) (ix2 0 k) := by
  blk_point [iblk, V, idx t]
theorem blk5 (c : Dev nD) (t : Fin cfg0.N) (r : Fin 512) (k : Fin 1024) :
    (show FVec Ideal S512x1024 .f32 from iblk m c 5 t) (ix2 r k) = m ((c : Thread nD τ).loc main_arg5) (ix2 ⟨t.val * 512 + r.val, by have := pt_lt t; omega⟩ k) := by
  blk_point [iblk, V, idx t]
theorem bdF_eq (c : Dev nD) (t : Fin cfg0.N) (r : Fin 512) (k : Fin 1024) :
    bdF (show FVec Ideal S512x2816 .bf16 from iblk m c 0 t) (show FVec Ideal S2816x1024 .bf16 from iblk m c 1 t) (show FVec Ideal S512x1024 .f32 from iblk m c 2 t) (show FVec Ideal S1x1024 .f32 from iblk m c 3 t) (show FVec Ideal S1x1024 .f32 from iblk m c 4 t) (show FVec Ideal S512x1024 .f32 from iblk m c 5 t) r k = gdF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨t.val * 512 + r.val, by have := pt_lt t; omega⟩ k := by
  simp only [bdF, gdF, blk0, blk1, blk2, blk3, blk4, blk5]
theorem bdX_eq (c : Dev nD) (t : Fin cfg0.N) (r : Fin 512) (k : Fin 1024) :
    bdX (show FVec Ideal S512x2816 .bf16 from iblk m c 0 t) (show FVec Ideal S2816x1024 .bf16 from iblk m c 1 t) (show FVec Ideal S512x1024 .f32 from iblk m c 2 t) (show FVec Ideal S1x1024 .f32 from iblk m c 3 t) (show FVec Ideal S1x1024 .f32 from iblk m c 4 t) (show FVec Ideal S512x1024 .f32 from iblk m c 5 t) r k = gdX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨t.val * 512 + r.val, by have := pt_lt t; omega⟩ k := by
  simp only [bdX, gdX, blk0, blk1, blk2, blk3, blk4, blk5]
theorem btP_eq (c : Dev nD) (t : Fin cfg0.N) (r : Fin 512) (k : Fin 1024) :
    btP (show FVec Ideal S512x2816 .bf16 from iblk m c 0 t) (show FVec Ideal S2816x1024 .bf16 from iblk m c 1 t) (show FVec Ideal S512x1024 .f32 from iblk m c 2 t) (show FVec Ideal S1x1024 .f32 from iblk m c 3 t) (show FVec Ideal S1x1024 .f32 from iblk m c 4 t) (show FVec Ideal S512x1024 .f32 from iblk m c 5 t) r k = gtP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨t.val * 512 + r.val, by have := pt_lt t; omega⟩ k := by
  simp only [btP, gtP, blk0, blk1, blk2, blk3, blk4, blk5]
theorem btF_eq (c : Dev nD) (t : Fin cfg0.N) (r : Fin 512) (k : Fin 1024) :
    btF (show FVec Ideal S512x2816 .bf16 from iblk m c 0 t) (show FVec Ideal S2816x1024 .bf16 from iblk m c 1 t) (show FVec Ideal S512x1024 .f32 from iblk m c 2 t) (show FVec Ideal S1x1024 .f32 from iblk m c 3 t) (show FVec Ideal S1x1024 .f32 from iblk m c 4 t) (show FVec Ideal S512x1024 .f32 from iblk m c 5 t) r k = gtF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨t.val * 512 + r.val, by have := pt_lt t; omega⟩ k := by
  simp only [btF, gtF, blk0, blk1, blk2, blk3, blk4, blk5]
theorem btL_eq (c : Dev nD) (t : Fin cfg0.N) (r : Fin 512) :
    btL (show FVec Ideal S512x2816 .bf16 from iblk m c 0 t) (show FVec Ideal S2816x1024 .bf16 from iblk m c 1 t) (show FVec Ideal S512x1024 .f32 from iblk m c 2 t) (show FVec Ideal S1x1024 .f32 from iblk m c 3 t) (show FVec Ideal S1x1024 .f32 from iblk m c 4 t) (show FVec Ideal S512x1024 .f32 from iblk m c 5 t) r = gtL (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨t.val * 512 + r.val, by have := pt_lt t; omega⟩ := by
  simp only [btL, gtL, blk0, blk1, blk2, blk3, blk4, blk5]

/-- The array of this gradient. -/
theorem final_dF (c : Dev nD) : (dats m 0 c).arrAt 6 cfg0.N = fun y : S4096x1024.Idx => gdF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (y 0) (y 1) := by
  refine (dats m 0 c).arrAt_eq_of_covers 6 _ (by decide +kernel) fun t hf y => ?_
  blk_simp
  rw [after0_6]
  idx_vars y
  have h0 : (win0_6.blk t).view.emb (ix2 y0 y1) 0 = (⟨t.val * 512 + y0.val, by have := pt_lt t; omega⟩ : Fin 4096) := by
    apply Fin.ext; blk_simp [idx t]
  have h1 : (win0_6.blk t).view.emb (ix2 y0 y1) 1 = (y1 : Fin 1024) := by
    apply Fin.ext; blk_simp [idx t]
  rw [h0, h1]
  exact (dF_at m c t y0 y1).trans (bdF_eq m c t y0 y1)

/-- The array of this gradient. -/
theorem final_dX (c : Dev nD) : (dats m 0 c).arrAt 7 cfg0.N = fun y : S4096x1024.Idx => gdX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (y 0) (y 1) := by
  refine (dats m 0 c).arrAt_eq_of_covers 7 _ (by decide +kernel) fun t hf y => ?_
  blk_simp
  rw [after0_7]
  idx_vars y
  have h0 : (win0_7.blk t).view.emb (ix2 y0 y1) 0 = (⟨t.val * 512 + y0.val, by have := pt_lt t; omega⟩ : Fin 4096) := by
    apply Fin.ext; blk_simp [idx t]
  have h1 : (win0_7.blk t).view.emb (ix2 y0 y1) 1 = (y1 : Fin 1024) := by
    apply Fin.ext; blk_simp [idx t]
  rw [h0, h1]
  exact (dX_at m c t y0 y1).trans (bdX_eq m c t y0 y1)

/-- A point's part of this sum. -/
theorem tP_part (c : Dev nD) (t : Fin 8) (b : Fin 1024) (T : Fin cfg0.N) (hT : T.val = t.val) :
    (∑ s : Fin 2, ∑ r : Fin 256, btP (show FVec Ideal S512x2816 .bf16 from iblk m c 0 T) (show FVec Ideal S2816x1024 .bf16 from iblk m c 1 T) (show FVec Ideal S512x1024 .f32 from iblk m c 2 T) (show FVec Ideal S1x1024 .f32 from iblk m c 3 T) (show FVec Ideal S1x1024 .f32 from iblk m c 4 T) (show FVec Ideal S512x1024 .f32 from iblk m c 5 T) ⟨s.val * 256 + r.val, by omega⟩ b)
      = ∑ r : Fin 512, gtP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨t.val * 512 + r.val, by omega⟩ b := by
  refine Fin.sum_mul_add_congr fun s r hl => ?_
  rw [btP_eq]
  exact congrArg (fun R => gtP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) R b) (Fin.ext (by simp only [hT]))

/-- The array of this sum. -/
theorem final_tP (c : Dev nD) : (dats m 0 c).arrAt 8 cfg0.N = fun y : S1x1024.Idx => (show EReal from ∑ r : Fin 4096, gtP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r (y 1)) := by
  refine (dats m 0 c).arrAt_eq_of_after_last 8 t0_7 (by decide +kernel) _ fun j => ?_
  blk_simp
  idx_vars j
  obtain rfl : j0 = 0 := Subsingleton.elim _ _
  rw [after0_8]
  rw [Pipeline.eq_sum_fin_of_reset_step_apply_last (fun n h => (outsAt0 m c n h).2.2.1) 8 (fun _ => 0)
    (fun t j => ∑ s : Fin 2, ∑ r : Fin 256, btP (show FVec Ideal S512x2816 .bf16 from iblk m c 0 t) (show FVec Ideal S2816x1024 .bf16 from iblk m c 1 t) (show FVec Ideal S512x1024 .f32 from iblk m c 2 t) (show FVec Ideal S1x1024 .f32 from iblk m c 3 t) (show FVec Ideal S1x1024 .f32 from iblk m c 4 t) (show FVec Ideal S512x1024 .f32 from iblk m c 5 t) ⟨s.val * 256 + r.val, by omega⟩ (j 1))
    (fun t h j => by idx_vars j; obtain rfl : j0 = 0 := Subsingleton.elim _ _; exact tP_A m c t h _)
    (fun t h j => by idx_vars j; obtain rfl : j0 = 0 := Subsingleton.elim _ _; exact tP_B m c t h _) (le_of_eq N_0) t0_7 rfl, zero_add]
  exact (Finset.sum_congr rfl fun p _ => tP_part m c p j1 _ rfl).trans (Fin.sum_mul_add_congr fun s k hl => rfl)

/-- A point's part of this sum. -/
theorem tF_part (c : Dev nD) (t : Fin 8) (b : Fin 1024) (T : Fin cfg0.N) (hT : T.val = t.val) :
    (∑ s : Fin 2, ∑ r : Fin 256, btF (show FVec Ideal S512x2816 .bf16 from iblk m c 0 T) (show FVec Ideal S2816x1024 .bf16 from iblk m c 1 T) (show FVec Ideal S512x1024 .f32 from iblk m c 2 T) (show FVec Ideal S1x1024 .f32 from iblk m c 3 T) (show FVec Ideal S1x1024 .f32 from iblk m c 4 T) (show FVec Ideal S512x1024 .f32 from iblk m c 5 T) ⟨s.val * 256 + r.val, by omega⟩ b)
      = ∑ r : Fin 512, gtF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨t.val * 512 + r.val, by omega⟩ b := by
  refine Fin.sum_mul_add_congr fun s r hl => ?_
  rw [btF_eq]
  exact congrArg (fun R => gtF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) R b) (Fin.ext (by simp only [hT]))

/-- The array of this sum. -/
theorem final_tF (c : Dev nD) : (dats m 0 c).arrAt 9 cfg0.N = fun y : S1x1024.Idx => (show EReal from ∑ r : Fin 4096, gtF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r (y 1)) := by
  refine (dats m 0 c).arrAt_eq_of_after_last 9 t0_7 (by decide +kernel) _ fun j => ?_
  blk_simp
  idx_vars j
  obtain rfl : j0 = 0 := Subsingleton.elim _ _
  rw [after0_9]
  rw [Pipeline.eq_sum_fin_of_reset_step_apply_last (fun n h => (outsAt0 m c n h).2.2.2.1) 8 (fun _ => 0)
    (fun t j => ∑ s : Fin 2, ∑ r : Fin 256, btF (show FVec Ideal S512x2816 .bf16 from iblk m c 0 t) (show FVec Ideal S2816x1024 .bf16 from iblk m c 1 t) (show FVec Ideal S512x1024 .f32 from iblk m c 2 t) (show FVec Ideal S1x1024 .f32 from iblk m c 3 t) (show FVec Ideal S1x1024 .f32 from iblk m c 4 t) (show FVec Ideal S512x1024 .f32 from iblk m c 5 t) ⟨s.val * 256 + r.val, by omega⟩ (j 1))
    (fun t h j => by idx_vars j; obtain rfl : j0 = 0 := Subsingleton.elim _ _; exact tF_A m c t h _)
    (fun t h j => by idx_vars j; obtain rfl : j0 = 0 := Subsingleton.elim _ _; exact tF_B m c t h _) (le_of_eq N_0) t0_7 rfl, zero_add]
  exact (Finset.sum_congr rfl fun p _ => tF_part m c p j1 _ rfl).trans (Fin.sum_mul_add_congr fun s k hl => rfl)

/-- The two scales: one over the width, and half of that. -/
theorem ofBits_width : Ideal.ofBits .f32 0x3A800000#32 = (((1024 : ℝ)⁻¹ : ℝ) : EReal) := by
  simp [Ideal.ofBits, Ideal.ieee]
  rw [← EReal.coe_mul]
  norm_num
theorem ofBits_half_width : Ideal.ofBits .f32 0x3A000000#32 = (((2048 : ℝ)⁻¹ : ℝ) : EReal) := by
  simp [Ideal.ofBits, Ideal.ieee]
  rw [← EReal.coe_mul]
  norm_num
/-- The scale goes into a sum. -/
theorem scale_sum {ι : Type} [Fintype ι] (h : ι → EReal) : Ideal.ofBits .f32 0x3A000000#32 * ∑ i, h i = ∑ i, h i * Ideal.ofBits .f32 0x3A000000#32 := by
  rw [mul_comm, ofBits_half_width]
  exact sum_mul_real _ _ _ (by positivity)

/-- A point's part of the loss. -/
theorem tL_part (c : Dev nD) (t : Fin 8) (T : Fin cfg0.N) (hT : T.val = t.val) :
    (∑ s : Fin 2, Ideal.ofBits .f32 0x3A000000#32 * ∑ r : Fin 256, btL (show FVec Ideal S512x2816 .bf16 from iblk m c 0 T) (show FVec Ideal S2816x1024 .bf16 from iblk m c 1 T) (show FVec Ideal S512x1024 .f32 from iblk m c 2 T) (show FVec Ideal S1x1024 .f32 from iblk m c 3 T) (show FVec Ideal S1x1024 .f32 from iblk m c 4 T) (show FVec Ideal S512x1024 .f32 from iblk m c 5 T) ⟨s.val * 256 + r.val, by omega⟩)
      = ∑ r : Fin 512, gtL (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨t.val * 512 + r.val, by omega⟩ * Ideal.ofBits .f32 0x3A000000#32 := by
  simp only [scale_sum]
  refine Fin.sum_mul_add_congr fun s r hl => ?_
  rw [btL_eq]
  exact congrArg (fun R => gtL (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) R * Ideal.ofBits .f32 0x3A000000#32) (Fin.ext (by simp only [hT]))

/-- The loss, at every entry of its block. -/
theorem final_tL (c : Dev nD) : (dats m 0 c).arrAt 10 cfg0.N = fun y : S8x128.Idx => (show EReal from Ideal.ofBits .f32 0x3A000000#32 * ∑ r : Fin 4096, gtL (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r) := by
  refine (dats m 0 c).arrAt_eq_of_after_last 10 t0_7 (by decide +kernel) _ fun j => ?_
  blk_simp
  idx_vars j
  rw [after0_10]
  rw [Pipeline.eq_sum_fin_of_reset_step_apply_last (fun n h => (outsAt0 m c n h).2.2.2.2) 8 (fun _ => 0)
    (fun t j => ∑ s : Fin 2, Ideal.ofBits .f32 0x3A000000#32 * ∑ r : Fin 256, btL (show FVec Ideal S512x2816 .bf16 from iblk m c 0 t) (show FVec Ideal S2816x1024 .bf16 from iblk m c 1 t) (show FVec Ideal S512x1024 .f32 from iblk m c 2 t) (show FVec Ideal S1x1024 .f32 from iblk m c 3 t) (show FVec Ideal S1x1024 .f32 from iblk m c 4 t) (show FVec Ideal S512x1024 .f32 from iblk m c 5 t) ⟨s.val * 256 + r.val, by omega⟩)
    (fun t h j => by idx_vars j; exact tL_A m c t h _ _)
    (fun t h j => by idx_vars j; exact tL_B m c t h _ _) (le_of_eq N_0) t0_7 rfl, zero_add]
  rw [scale_sum]
  exact (Finset.sum_congr rfl fun p _ => tL_part m c p _ rfl).trans (Fin.sum_mul_add_congr fun s k hl => rfl)

end Cert.OutLossIdeal.Value

namespace Cert.OutLossRefIdeal.Value

open Cert.OutLossRefIdeal Cert.OutLossRefIdeal.Gen Idealize.ShloMosaic Idealize.ShloMosaic.TcCoe Idealize.SL.Sem Cert.Norm Cert.Step
open Idealize.ShloMosaic.StableHlo
open Cert.OutLossIdeal.Value (err dX dF tP tF tL gdF gdX gtP gtF gtL ofBits_width ofBits_half_width)

/-! The reference, cut at the values it reads more than once. -/

/-- The mean square of each row, and the small constant. -/
def msq (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
/-- A row times a number of its own. -/
def rowed (x : FVec Ideal S4096x1024 .f32) (R : FVec Ideal S4096x1 .f32) : FVec Ideal S4096x1024 .f32 := mulf x (broadcastInDim S4096x1024 ![0, 1] bcast_S4096x1_S4096x1024_0_1 R)
/-- The normed rows. -/
def nx (x : FVec Ideal S4096x1024 .f32) : FVec Ideal S4096x1024 .f32 := rowed x (Host.rsqrt (msq x))
/-- A gain times each row. -/
def scal (y : FVec Ideal S4096x1024 .f32) (g : FVec Ideal S1x1024 .f32) : FVec Ideal S4096x1024 .f32 := mulf y (broadcastInDim S4096x1024 ![0, 1] bcast_S1x1024_S4096x1024_0_1 g)
/-- Half of it. -/
def hf (y : FVec Ideal S4096x1024 .f32) : FVec Ideal S4096x1024 .f32 := mulf (broadcastInDim S4096x1024 ![] bcast_S_S4096x1024 (constant S_ .f32 0x3F000000#32)) y
/-- The gradient of the mean of the squares. -/
def dee (e : FVec Ideal S4096x1024 .f32) : FVec Ideal S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) e)
/-- The part of the gradient which goes through the mean. -/
def thru (x d : FVec Ideal S4096x1024 .f32) (r q : FVec Ideal S4096x1 .f32) : FVec Ideal S4096x1024 .f32 :=
  broadcastInDim S4096x1024 ![0] bcast_S4096_S4096x1024_0 (Host.reduceAdd (Host.divf (mulf (shapeCast _ (Host.reduceAdd (mulf x d) (constant S_ .f32 0x00000000#32) reducesTo_S4096x1024_S4096_d1 h_S_) shapeCasts_S4096_S4096x1) (mulf (broadcastInDim S4096x1 ![] bcast_S_S4096x1 (constant S_ .f32 0xBF000000#32)) (Host.divf r q))) (broadcastInDim S4096x1 ![] bcast_S_S4096x1 (constant S_ .f32 0x44800000#32))) (constant S_ .f32 0x00000000#32) reducesTo_S4096x1_S4096_d1 h_S_)
/-- The gradient of the norm's input. -/
def back (x d t : FVec Ideal S4096x1024 .f32) (r : FVec Ideal S4096x1 .f32) : FVec Ideal S4096x1024 .f32 := addf (addf (rowed d r) (mulf x t)) (mulf t x)
/-- The gradient of a gain. -/
def gain (x y : FVec Ideal S4096x1024 .f32) : FVec Ideal S1x1024 .f32 := shapeCast _ (Host.reduceAdd (mulf x y) (constant S_ .f32 0x00000000#32) reducesTo_S4096x1024_S1024_d0 h_S_) shapeCasts_S1024_S1x1024
/-- The loss from the error, over its block. -/
def loss (e : FVec Ideal S4096x1024 .f32) : FVec Ideal S8x128 .f32 :=
  broadcastInDim S8x128 ![] bcast_S_S8x128 (mulf (constant S_ .f32 0x3F000000#32) (Host.reduceAdd (Host.divf (Host.reduceAdd (mulf e e) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_))
/-- A change of format. -/
def narrow (x : FVec Ideal S4096x1024 .f32) : FVec Ideal S4096x1024 .bf16 := truncf .bf16 x bitsLt_bf16_f32

section whole
variable (a0 : FVec Ideal S4096x2816 .bf16) (a1 : FVec Ideal S2816x1024 .bf16) (a2 : FVec Ideal S4096x1024 .f32) (a3 : FVec Ideal S1x1024 .f32) (a4 : FVec Ideal S1x1024 .f32) (a5 : FVec Ideal S4096x1024 .f32)
/-- The values of the reference, whole. -/
def RF : FVec Ideal S4096x1024 .f32 := Host.dotGeneral dot_S4096x2816_S2816x1024_S4096x1024_1_0_0_1_n_n none (extf .f32 a0 bitsLt_bf16_f32) (extf .f32 a1 bitsLt_bf16_f32)
def RX : FVec Ideal S4096x1024 .f32 := addf a2 (hf (scal (nx (RF a0 a1)) a3))
def RE : FVec Ideal S4096x1024 .f32 := subf (scal (nx (RX a0 a1 a2 a3)) a4) a5
def RD : FVec Ideal S4096x1024 .f32 := dee (RE a0 a1 a2 a3 a4 a5)
def RT : FVec Ideal S4096x1024 .f32 := thru (RX a0 a1 a2 a3) (scal (RD a0 a1 a2 a3 a4 a5) a4) (Host.rsqrt (msq (RX a0 a1 a2 a3))) (msq (RX a0 a1 a2 a3))
def RB : FVec Ideal S4096x1024 .f32 := back (RX a0 a1 a2 a3) (scal (RD a0 a1 a2 a3 a4 a5) a4) (RT a0 a1 a2 a3 a4 a5) (Host.rsqrt (msq (RX a0 a1 a2 a3)))
def RG : FVec Ideal S4096x1024 .f32 := scal (hf (RB a0 a1 a2 a3 a4 a5)) a3
def RU : FVec Ideal S4096x1024 .f32 := thru (RF a0 a1) (RG a0 a1 a2 a3 a4 a5) (Host.rsqrt (msq (RF a0 a1))) (msq (RF a0 a1))
def RO : FVec Ideal S4096x1024 .f32 := back (RF a0 a1) (RG a0 a1 a2 a3 a4 a5) (RU a0 a1 a2 a3 a4 a5) (Host.rsqrt (msq (RF a0 a1)))
end whole

section cut
variable (m : (ℓ : Loc nD τ sig) → Buf (Elt Ideal) ℓ) (c : Dev nD)
theorem v2_eq : res_main_v2 (F := Ideal) (launchContents m c) = (RF (m ((c.tc : Thread nD τ).loc main_arg0)) (m ((c.tc : Thread nD τ).loc main_arg1))) := by
  unfold res_main_v2
  rfl
theorem v9_eq : res_main_v9 (F := Ideal) (launchContents m c) = msq (RF (m ((c.tc : Thread nD τ).loc main_arg0)) (m ((c.tc : Thread nD τ).loc main_arg1))) := by
  unfold res_main_v9
  rw [v2_eq]
  rfl
theorem v10_eq : res_main_v10 (F := Ideal) (launchContents m c) = Host.rsqrt (F := Ideal) (msq (RF (m ((c.tc : Thread nD τ).loc main_arg0)) (m ((c.tc : Thread nD τ).loc main_arg1)))) := by
  unfold res_main_v10
  rw [v9_eq]
theorem v15_eq : res_main_v15 (F := Ideal) (launchContents m c) = nx (RF (m ((c.tc : Thread nD τ).loc main_arg0)) (m ((c.tc : Thread nD τ).loc main_arg1))) := by
  unfold res_main_v15
  rw [v2_eq, v10_eq]
  rfl
theorem v20_eq : res_main_v20 (F := Ideal) (launchContents m c) = (RX (m ((c.tc : Thread nD τ).loc main_arg0)) (m ((c.tc : Thread nD τ).loc main_arg1)) (m ((c.tc : Thread nD τ).loc main_arg2)) (m ((c.tc : Thread nD τ).loc main_arg3))) := by
  unfold res_main_v20
  rw [v15_eq]
  rfl
theorem v27_eq : res_main_v27 (F := Ideal) (launchContents m c) = msq (RX (m ((c.tc : Thread nD τ).loc main_arg0)) (m ((c.tc : Thread nD τ).loc main_arg1)) (m ((c.tc : Thread nD τ).loc main_arg2)) (m ((c.tc : Thread nD τ).loc main_arg3))) := by
  unfold res_main_v27
  rw [v20_eq]
  rfl
theorem v28_eq : res_main_v28 (F := Ideal) (launchContents m c) = Host.rsqrt (F := Ideal) (msq (RX (m ((c.tc : Thread nD τ).loc main_arg0)) (m ((c.tc : Thread nD τ).loc main_arg1)) (m ((c.tc : Thread nD τ).loc main_arg2)) (m ((c.tc : Thread nD τ).loc main_arg3)))) := by
  unfold res_main_v28
  rw [v27_eq]
theorem v33_eq : res_main_v33 (F := Ideal) (launchContents m c) = nx (RX (m ((c.tc : Thread nD τ).loc main_arg0)) (m ((c.tc : Thread nD τ).loc main_arg1)) (m ((c.tc : Thread nD τ).loc main_arg2)) (m ((c.tc : Thread nD τ).loc main_arg3))) := by
  unfold res_main_v33
  rw [v20_eq, v28_eq]
  rfl
theorem v36_eq : res_main_v36 (F := Ideal) (launchContents m c) = RE (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold res_main_v36
  rw [v33_eq]
  rfl
theorem v50_eq : res_main_v50 (F := Ideal) (launchContents m c) = RD (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold res_main_v50
  rw [v36_eq]
  rfl
theorem v55_eq : res_main_v55 (F := Ideal) (launchContents m c) = scal (RD (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg4)) := by
  unfold res_main_v55
  rw [v50_eq]
  rfl
theorem v65_eq : res_main_v65 (F := Ideal) (launchContents m c) = RT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold res_main_v65
  rw [v20_eq, v55_eq, v28_eq, v27_eq]
  rfl
theorem v71_eq : res_main_v71 (F := Ideal) (launchContents m c) = hf (RB (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  unfold res_main_v71
  rw [v55_eq, v28_eq, v20_eq, v65_eq]
  rfl
theorem v76_eq : res_main_v76 (F := Ideal) (launchContents m c) = RG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold res_main_v76
  rw [v71_eq]
  rfl
theorem v86_eq : res_main_v86 (F := Ideal) (launchContents m c) = RU (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold res_main_v86
  rw [v2_eq, v76_eq, v10_eq, v9_eq]
  rfl
end cut

theorem msq_at (x : FVec Ideal S4096x1024 .f32) (r : Fin 4096) : msq x (ix2 r 0) = ms (fun k => x (ix2 r k)) := by
  pointwise [msq]; rfl
theorem rsq_at (x : FVec Ideal S4096x1024 .f32) (r : Fin 4096) : Host.rsqrt (F := Ideal) (msq x) (ix2 r 0) = rn (fun k => x (ix2 r k)) := by
  pointwise
  rw [msq_at]; rfl
theorem rowed_at (x : FVec Ideal S4096x1024 .f32) (R : FVec Ideal S4096x1 .f32) (r : Fin 4096) (c : Fin 1024) : rowed x R (ix2 r c) = x (ix2 r c) * R (ix2 r 0) := by
  pointwise [rowed]
theorem nx_at (x : FVec Ideal S4096x1024 .f32) (r : Fin 4096) (c : Fin 1024) : nx x (ix2 r c) = x (ix2 r c) * rn (fun k => x (ix2 r k)) := by
  rw [nx, rowed_at, rsq_at]
theorem scal_at (y : FVec Ideal S4096x1024 .f32) (g : FVec Ideal S1x1024 .f32) (r : Fin 4096) (c : Fin 1024) : scal y g (ix2 r c) = y (ix2 r c) * g (ix2 0 c) := by
  pointwise [scal]
theorem hf_at (y : FVec Ideal S4096x1024 .f32) (r : Fin 4096) (c : Fin 1024) : hf y (ix2 r c) = half * y (ix2 r c) := by
  pointwise [hf]; rfl
theorem add_at (x y : FVec Ideal S4096x1024 .f32) (r : Fin 4096) (c : Fin 1024) : addf x y (ix2 r c) = x (ix2 r c) + y (ix2 r c) := by
  pointwise
theorem sub_at (x y : FVec Ideal S4096x1024 .f32) (r : Fin 4096) (c : Fin 1024) : subf x y (ix2 r c) = x (ix2 r c) - y (ix2 r c) := by
  pointwise
theorem narrow_at (x : FVec Ideal S4096x1024 .f32) (r : Fin 4096) (c : Fin 1024) : narrow x (ix2 r c) = x (ix2 r c) := by
  pointwise [narrow]
theorem ofBits_half : Ideal.ofBits .f32 0x3F000000#32 = (((2 : ℝ)⁻¹ : ℝ) : EReal) := by
  simp [Ideal.ofBits, Ideal.ieee]
  rw [← EReal.coe_mul]
  norm_num
theorem ofBits_one : Ideal.ofBits .f32 0x3F800000#32 = ((1 : ℝ) : EReal) := by
  simp [Ideal.ofBits, Ideal.ieee]
  try rw [← EReal.coe_mul]
  norm_num
theorem ofBits_two : Ideal.ofBits .f32 0x40000000#32 = ((2 : ℝ) : EReal) := by
  simp [Ideal.ofBits, Ideal.ieee]
  try rw [← EReal.coe_mul]
  norm_num
theorem div_width (z : EReal) : Ideal.div z (Ideal.ofBits .f32 0x44800000#32) = z * (((1024 : ℝ)⁻¹ : ℝ) : EReal) := by
  rw [ofBits_1024]
  unfold Ideal.div
  rw [if_neg (by norm_num), ← EReal.coe_inv]
/-- The two scales of the error are one. -/
theorem scale_eq (z : EReal) : Ideal.div (Ideal.ofBits .f32 0x3F000000#32 * Ideal.ofBits .f32 0x3F800000#32) (Ideal.ofBits .f32 0x44800000#32) * (Ideal.ofBits .f32 0x40000000#32 * z) = z * Ideal.ofBits .f32 0x3A800000#32 := by
  rw [div_width, ofBits_half, ofBits_one, ofBits_two, ofBits_width, ← mul_assoc, ← EReal.coe_mul, ← EReal.coe_mul, ← EReal.coe_mul, mul_comm]
  congr 2
  norm_num
theorem dee_at (e : FVec Ideal S4096x1024 .f32) (r : Fin 4096) (c : Fin 1024) : dee e (ix2 r c) = e (ix2 r c) * Ideal.ofBits .f32 0x3A800000#32 := by
  refine Eq.trans ?_ (scale_eq _)
  pointwise [dee]
theorem thru_at (x d : FVec Ideal S4096x1024 .f32) (r : Fin 4096) (c : Fin 1024) :
    thru x d (Host.rsqrt (msq x)) (msq x) (ix2 r c) = rmean (fun k => x (ix2 r k)) (fun k => d (ix2 r k)) := by
  pointwise [thru]
  refine (Fin.sum_univ_one _).trans ?_
  rw [msq_at]; rfl
theorem back_at (x d : FVec Ideal S4096x1024 .f32) (r : Fin 4096) (c : Fin 1024) :
    back x d (thru x d (Host.rsqrt (msq x)) (msq x)) (Host.rsqrt (msq x)) (ix2 r c) = kgrad (fun k => x (ix2 r k)) (fun k => d (ix2 r k)) c := by
  rw [← ref_eq, ← thru_at x d r c, ← rsq_at]
  generalize thru x d (Host.rsqrt (msq x)) (msq x) = t
  generalize Host.rsqrt (msq x) = R
  pointwise [back, rowed]
theorem gain_at (x y : FVec Ideal S4096x1024 .f32) (c : Fin 1024) : gain x y (ix2 0 c) = ∑ r : Fin 4096, x (ix2 r c) * y (ix2 r c) := by
  pointwise [gain]
theorem loss_at (e : FVec Ideal S4096x1024 .f32) (i : Fin 8) (j : Fin 128) : loss e (ix2 i j) = Ideal.ofBits .f32 0x3F000000#32 * ∑ r : Fin 4096, Ideal.div (∑ k : Fin 1024, e (ix2 r k) * e (ix2 r k)) (Ideal.ofBits .f32 0x44800000#32) := by
  pointwise [loss]

section whole
variable (a0 : FVec Ideal S4096x2816 .bf16) (a1 : FVec Ideal S2816x1024 .bf16) (a2 : FVec Ideal S4096x1024 .f32) (a3 : FVec Ideal S1x1024 .f32) (a4 : FVec Ideal S1x1024 .f32) (a5 : FVec Ideal S4096x1024 .f32) (r : Fin 4096) (c : Fin 1024)
theorem RF_at : RF a0 a1 (ix2 r c) = (mm (fun k => a0 (ix2 r k)) (fun k c => a1 (ix2 k c))) c := by
  pointwise [RF]
  rfl
theorem RX_at : RX a0 a1 a2 a3 (ix2 r c) = half_step (mm (fun k => a0 (ix2 r k)) (fun k c => a1 (ix2 k c))) (fun k => a2 (ix2 r k)) (fun k => a3 (ix2 0 k)) c := by
  rw [RX, add_at, hf_at, scal_at, nx_at]
  simp only [RF_at]
  rfl
theorem RE_at : RE a0 a1 a2 a3 a4 a5 (ix2 r c) = err (mm (fun k => a0 (ix2 r k)) (fun k c => a1 (ix2 k c))) (fun k => a2 (ix2 r k)) (fun k => a3 (ix2 0 k)) (fun k => a4 (ix2 0 k)) (fun k => a5 (ix2 r k)) c := by
  rw [RE, sub_at, scal_at, nx_at]
  simp only [RX_at]
  rfl
theorem RD_at : RD a0 a1 a2 a3 a4 a5 (ix2 r c) = err (mm (fun k => a0 (ix2 r k)) (fun k c => a1 (ix2 k c))) (fun k => a2 (ix2 r k)) (fun k => a3 (ix2 0 k)) (fun k => a4 (ix2 0 k)) (fun k => a5 (ix2 r k)) c * Ideal.ofBits .f32 0x3A800000#32 := by
  rw [RD, dee_at, RE_at]
theorem RB_at : RB a0 a1 a2 a3 a4 a5 (ix2 r c) = gdX a0 a1 a2 a3 a4 a5 r c := by
  rw [RB, RT, back_at]
  simp only [scal_at, RD_at, RX_at]
  rfl
theorem RH_at : hf (RB a0 a1 a2 a3 a4 a5) (ix2 r c) = gdX a0 a1 a2 a3 a4 a5 r c * half := by
  rw [hf_at, RB_at, mul_comm]
theorem RO_at : narrow (RO a0 a1 a2 a3 a4 a5) (ix2 r c) = gdF a0 a1 a2 a3 a4 a5 r c := by
  rw [narrow_at, RO, RU, back_at]
  simp only [RG, scal_at, RH_at, RF_at]
  rfl
theorem RP_at : gain (nx (RF a0 a1)) (hf (RB a0 a1 a2 a3 a4 a5)) (ix2 0 c) = ∑ r : Fin 4096, gtP a0 a1 a2 a3 a4 a5 r c := by
  rw [gain_at]
  refine Finset.sum_congr rfl fun r _ => ?_
  rw [nx_at, RH_at, mul_comm]
  simp only [RF_at]
  rfl
theorem RQ_at : gain (nx (RX a0 a1 a2 a3)) (RD a0 a1 a2 a3 a4 a5) (ix2 0 c) = ∑ r : Fin 4096, gtF a0 a1 a2 a3 a4 a5 r c := by
  rw [gain_at]
  refine Finset.sum_congr rfl fun r _ => ?_
  rw [nx_at, RD_at, mul_comm]
  simp only [RX_at]
  rfl
theorem RL_at (i : Fin 8) (j : Fin 128) : loss (RE a0 a1 a2 a3 a4 a5) (ix2 i j) = Ideal.ofBits .f32 0x3A000000#32 * ∑ r : Fin 4096, gtL a0 a1 a2 a3 a4 a5 r := by
  rw [loss_at]
  simp only [RE_at, div_width]
  rw [← sum_mul_real _ _ _ (by positivity), ofBits_half, ofBits_half_width, mul_left_comm, ← EReal.coe_mul, mul_comm]
  refine congrArg₂ (fun a b : EReal => a * b) (congrArg _ (by norm_num)) rfl
end whole

end Cert.OutLossRefIdeal.Value

namespace Cert.OutLoss.Claims

open Idealize.ShloMosaic Idealize.SL.Sem

/-- The reference runs and keeps its arguments. -/
theorem frameR : quiescent_OutLossRefIdeal := by
  intro m ρ _
  exact (θ_run Cert.OutLossRefIdeal.defs _ _).mono (fun r h => ⟨fun c => (h c).2.2.2.2.2, sem_eq_zero_of_no_sems (by decide) r.2⟩) (Cert.OutLossRefIdeal.Value.run m ρ)

set_option maxHeartbeats 4000000 in
/-- The kernel's results are the reference's. -/
theorem algebraic : algebraic_OutLossIdeal_OutLossRefIdeal := fun m ρ m' ρ' _ hag =>
  ⟨_, _, _, _, _,
   (θ_run _ _ _).mono (fun _ h c => ⟨(h c).1.trans (Cert.OutLossIdeal.Value.final_dF m c), (h c).2.1.trans (Cert.OutLossIdeal.Value.final_dX m c), (h c).2.2.1.trans (Cert.OutLossIdeal.Value.final_tP m c), (h c).2.2.2.1.trans (Cert.OutLossIdeal.Value.final_tF m c), (h c).2.2.2.2.1.trans (Cert.OutLossIdeal.Value.final_tL m c), (h c).2.2.2.2.2⟩)
      (Cert.OutLossIdeal.Value.run_blocks m ρ),
    (θ_run _ _ _).mono (fun _ h c => by
        refine ⟨(h c).1.trans ?_, (h c).2.1.trans ?_, (h c).2.2.1.trans ?_, (h c).2.2.2.1.trans ?_, (h c).2.2.2.2.1.trans ?_, (h c).2.2.2.2.2⟩
        · rw [Cert.OutLossRefIdeal.Value.v76_eq, Cert.OutLossRefIdeal.Value.v10_eq, Cert.OutLossRefIdeal.Value.v2_eq, Cert.OutLossRefIdeal.Value.v86_eq]
          show Cert.OutLossRefIdeal.Value.narrow (Cert.OutLossRefIdeal.Value.RO (m' ((c.tc : Thread Cert.OutLossRefIdeal.nD Cert.OutLossRefIdeal.τ).loc Cert.OutLossRefIdeal.main_arg0)) (m' ((c.tc : Thread Cert.OutLossRefIdeal.nD Cert.OutLossRefIdeal.τ).loc Cert.OutLossRefIdeal.main_arg1)) (m' ((c.tc : Thread Cert.OutLossRefIdeal.nD Cert.OutLossRefIdeal.τ).loc Cert.OutLossRefIdeal.main_arg2)) (m' ((c.tc : Thread Cert.OutLossRefIdeal.nD Cert.OutLossRefIdeal.τ).loc Cert.OutLossRefIdeal.main_arg3)) (m' ((c.tc : Thread Cert.OutLossRefIdeal.nD Cert.OutLossRefIdeal.τ).loc Cert.OutLossRefIdeal.main_arg4)) (m' ((c.tc : Thread Cert.OutLossRefIdeal.nD Cert.OutLossRefIdeal.τ).loc Cert.OutLossRefIdeal.main_arg5))) = _
          rw [(hag c).1, (hag c).2.1, (hag c).2.2.1, (hag c).2.2.2.1, (hag c).2.2.2.2.1, (hag c).2.2.2.2.2]
          funext y
          idx_vars y
          exact Cert.OutLossRefIdeal.Value.RO_at _ _ _ _ _ _ y0 y1
        · rw [Cert.OutLossRefIdeal.Value.v55_eq, Cert.OutLossRefIdeal.Value.v28_eq, Cert.OutLossRefIdeal.Value.v20_eq, Cert.OutLossRefIdeal.Value.v65_eq]
          show Cert.OutLossRefIdeal.Value.RB (m' ((c.tc : Thread Cert.OutLossRefIdeal.nD Cert.OutLossRefIdeal.τ).loc Cert.OutLossRefIdeal.main_arg0)) (m' ((c.tc : Thread Cert.OutLossRefIdeal.nD Cert.OutLossRefIdeal.τ).loc Cert.OutLossRefIdeal.main_arg1)) (m' ((c.tc : Thread Cert.OutLossRefIdeal.nD Cert.OutLossRefIdeal.τ).loc Cert.OutLossRefIdeal.main_arg2)) (m' ((c.tc : Thread Cert.OutLossRefIdeal.nD Cert.OutLossRefIdeal.τ).loc Cert.OutLossRefIdeal.main_arg3)) (m' ((c.tc : Thread Cert.OutLossRefIdeal.nD Cert.OutLossRefIdeal.τ).loc Cert.OutLossRefIdeal.main_arg4)) (m' ((c.tc : Thread Cert.OutLossRefIdeal.nD Cert.OutLossRefIdeal.τ).loc Cert.OutLossRefIdeal.main_arg5)) = _
          rw [(hag c).1, (hag c).2.1, (hag c).2.2.1, (hag c).2.2.2.1, (hag c).2.2.2.2.1, (hag c).2.2.2.2.2]
          funext y
          idx_vars y
          exact Cert.OutLossRefIdeal.Value.RB_at _ _ _ _ _ _ y0 y1
        · rw [Cert.OutLossRefIdeal.Value.v15_eq, Cert.OutLossRefIdeal.Value.v71_eq]
          show Cert.OutLossRefIdeal.Value.gain (Cert.OutLossRefIdeal.Value.nx (Cert.OutLossRefIdeal.Value.RF (m' ((c.tc : Thread Cert.OutLossRefIdeal.nD Cert.OutLossRefIdeal.τ).loc Cert.OutLossRefIdeal.main_arg0)) (m' ((c.tc : Thread Cert.OutLossRefIdeal.nD Cert.OutLossRefIdeal.τ).loc Cert.OutLossRefIdeal.main_arg1)))) (Cert.OutLossRefIdeal.Value.hf (Cert.OutLossRefIdeal.Value.RB (m' ((c.tc : Thread Cert.OutLossRefIdeal.nD Cert.OutLossRefIdeal.τ).loc Cert.OutLossRefIdeal.main_arg0)) (m' ((c.tc : Thread Cert.OutLossRefIdeal.nD Cert.OutLossRefIdeal.τ).loc Cert.OutLossRefIdeal.main_arg1)) (m' ((c.tc : Thread Cert.OutLossRefIdeal.nD Cert.OutLossRefIdeal.τ).loc Cert.OutLossRefIdeal.main_arg2)) (m' ((c.tc : Thread Cert.OutLossRefIdeal.nD Cert.OutLossRefIdeal.τ).loc Cert.OutLossRefIdeal.main_arg3)) (m' ((c.tc : Thread Cert.OutLossRefIdeal.nD Cert.OutLossRefIdeal.τ).loc Cert.OutLossRefIdeal.main_arg4)) (m' ((c.tc : Thread Cert.OutLossRefIdeal.nD Cert.OutLossRefIdeal.τ).loc Cert.OutLossRefIdeal.main_arg5)))) = _
          rw [(hag c).1, (hag c).2.1, (hag c).2.2.1, (hag c).2.2.2.1, (hag c).2.2.2.2.1, (hag c).2.2.2.2.2]
          funext y
          idx_vars y
          obtain rfl : y0 = 0 := Subsingleton.elim _ _
          exact Cert.OutLossRefIdeal.Value.RP_at _ _ _ _ _ _ y1
        · rw [Cert.OutLossRefIdeal.Value.v33_eq, Cert.OutLossRefIdeal.Value.v50_eq]
          show Cert.OutLossRefIdeal.Value.gain (Cert.OutLossRefIdeal.Value.nx (Cert.OutLossRefIdeal.Value.RX (m' ((c.tc : Thread Cert.OutLossRefIdeal.nD Cert.OutLossRefIdeal.τ).loc Cert.OutLossRefIdeal.main_arg0)) (m' ((c.tc : Thread Cert.OutLossRefIdeal.nD Cert.OutLossRefIdeal.τ).loc Cert.OutLossRefIdeal.main_arg1)) (m' ((c.tc : Thread Cert.OutLossRefIdeal.nD Cert.OutLossRefIdeal.τ).loc Cert.OutLossRefIdeal.main_arg2)) (m' ((c.tc : Thread Cert.OutLossRefIdeal.nD Cert.OutLossRefIdeal.τ).loc Cert.OutLossRefIdeal.main_arg3)))) (Cert.OutLossRefIdeal.Value.RD (m' ((c.tc : Thread Cert.OutLossRefIdeal.nD Cert.OutLossRefIdeal.τ).loc Cert.OutLossRefIdeal.main_arg0)) (m' ((c.tc : Thread Cert.OutLossRefIdeal.nD Cert.OutLossRefIdeal.τ).loc Cert.OutLossRefIdeal.main_arg1)) (m' ((c.tc : Thread Cert.OutLossRefIdeal.nD Cert.OutLossRefIdeal.τ).loc Cert.OutLossRefIdeal.main_arg2)) (m' ((c.tc : Thread Cert.OutLossRefIdeal.nD Cert.OutLossRefIdeal.τ).loc Cert.OutLossRefIdeal.main_arg3)) (m' ((c.tc : Thread Cert.OutLossRefIdeal.nD Cert.OutLossRefIdeal.τ).loc Cert.OutLossRefIdeal.main_arg4)) (m' ((c.tc : Thread Cert.OutLossRefIdeal.nD Cert.OutLossRefIdeal.τ).loc Cert.OutLossRefIdeal.main_arg5))) = _
          rw [(hag c).1, (hag c).2.1, (hag c).2.2.1, (hag c).2.2.2.1, (hag c).2.2.2.2.1, (hag c).2.2.2.2.2]
          funext y
          idx_vars y
          obtain rfl : y0 = 0 := Subsingleton.elim _ _
          exact Cert.OutLossRefIdeal.Value.RQ_at _ _ _ _ _ _ y1
        · rw [Cert.OutLossRefIdeal.Value.v36_eq]
          show Cert.OutLossRefIdeal.Value.loss (Cert.OutLossRefIdeal.Value.RE (m' ((c.tc : Thread Cert.OutLossRefIdeal.nD Cert.OutLossRefIdeal.τ).loc Cert.OutLossRefIdeal.main_arg0)) (m' ((c.tc : Thread Cert.OutLossRefIdeal.nD Cert.OutLossRefIdeal.τ).loc Cert.OutLossRefIdeal.main_arg1)) (m' ((c.tc : Thread Cert.OutLossRefIdeal.nD Cert.OutLossRefIdeal.τ).loc Cert.OutLossRefIdeal.main_arg2)) (m' ((c.tc : Thread Cert.OutLossRefIdeal.nD Cert.OutLossRefIdeal.τ).loc Cert.OutLossRefIdeal.main_arg3)) (m' ((c.tc : Thread Cert.OutLossRefIdeal.nD Cert.OutLossRefIdeal.τ).loc Cert.OutLossRefIdeal.main_arg4)) (m' ((c.tc : Thread Cert.OutLossRefIdeal.nD Cert.OutLossRefIdeal.τ).loc Cert.OutLossRefIdeal.main_arg5))) = _
          rw [(hag c).1, (hag c).2.1, (hag c).2.2.1, (hag c).2.2.2.1, (hag c).2.2.2.2.1, (hag c).2.2.2.2.2]
          funext y
          idx_vars y
          exact Cert.OutLossRefIdeal.Value.RL_at _ _ _ _ _ _ y0 y1)
      (Cert.OutLossRefIdeal.Value.run m' ρ')⟩

end Cert.OutLoss.Claims
-- ==== Proof.TailFwdProof.lean ====
module

public import proofs.«01_k».proof.Proof.Gen.TailFwdIdeal.Value
public import proofs.«01_k».proof.Proof.Gen.TailFwdRefIdeal.Run
public import proofs.«01_k».proof.Defs
public import Idealize.ShloMosaic.Lib.Pointwise
public import Idealize.ShloMosaic.Lib.Pipeline.ValueKit
public import Idealize.ShloMosaic.Lib.Pipeline.ReadBack
public import Idealize.ShloMosaic.Adequacy
public import proofs.«01_k».proof.Proof.Step
public import proofs.«01_k».proof.Proof.OutDxProof

@[expose] public section

set_option maxRecDepth 16384

noncomputable section

namespace Cert.TailFwdIdeal.Value

open Cert.TailFwdIdeal Cert.TailFwdIdeal.Gen Idealize.ShloMosaic Idealize.ShloMosaic.TcCoe Idealize.SL.Sem
open Idealize.ShloMosaic.Pipeline Cert.Norm Cert.Step
open Cert.OutDxIdeal.Value (lgs)

/-! The end of the mixer, two sub-blocks of 256 rows in each block of 512. -/

/-- A branch's columns of the gates. -/
def part (b : Fin 3) (g : Fin 3072 → EReal) (c : Fin 1024) : EReal := g ⟨b.val * 1024 + c.val, by omega⟩
/-- The gated sum of the branches. -/
def merged (a b d ga gb gd : Fin 1024 → EReal) (c : Fin 1024) : EReal := lgs (ga c) * a c + lgs (gb c) * b c + lgs (gd c) * d c
/-- The residual with the normed branch. -/
def close (y x g : Fin 1024 → EReal) (c : Fin 1024) : EReal := x c + nrm y g c

theorem pay2_at (x : FVec Ideal S256x1024 .bf16) (w : FVec Ideal S1024x1024 .bf16) (r : Fin 256) (c : Fin 1024) : k0_pay2 (F := Ideal) x w (ix2 r c) = (mm (fun k => x (ix2 r k)) (fun k c => w (ix2 k c))) c := by
  pointwise [k0_pay2, k0_pay1]
  rfl
theorem pay4_at (x : FVec Ideal S256x512 .bf16) (w : FVec Ideal S512x1024 .bf16) (r : Fin 256) (c : Fin 1024) : k0_pay4 (F := Ideal) x w (ix2 r c) = (mm (fun k => x (ix2 r k)) (fun k c => w (ix2 k c))) c := by
  pointwise [k0_pay4, k0_pay3]
  rfl
theorem pay8_at (xa : FVec Ideal S256x1024 .bf16) (wa : FVec Ideal S1024x1024 .bf16) (ga : FVec Ideal S256x1024 .bf16) (xb : FVec Ideal S256x512 .bf16) (wb : FVec Ideal S512x1024 .bf16) (gb : FVec Ideal S256x1024 .bf16) (xc : FVec Ideal S256x512 .bf16) (wc : FVec Ideal S512x1024 .bf16) (gc : FVec Ideal S256x1024 .bf16) (r : Fin 256) (c : Fin 1024) :
    (k0_pay8 (F := Ideal) (k0_pay5 xa wa ga xb wb gb) xc wc gc) (ix2 r c) = (merged (mm (fun k => xa (ix2 r k)) (fun k c => wa (ix2 k c))) (mm (fun k => xb (ix2 r k)) (fun k c => wb (ix2 k c))) (mm (fun k => xc (ix2 r k)) (fun k c => wc (ix2 k c))) (fun k => ga (ix2 r k)) (fun k => gb (ix2 r k)) (fun k => gc (ix2 r k))) c := by
  pointwise [k0_pay8, k0_pay6, k0_pay5, k0_pay3, k0_pay1]
  rfl
theorem pay21_at (v : FVec Ideal S256x1024 .bf16) (w : FVec Ideal S1024x1024 .bf16) (r : Fin 256) (c : Fin 1024) : k0_pay21 (F := Ideal) v w (ix2 r c) = (mm (fun k => v (ix2 r k)) (fun k c => w (ix2 k c))) c := by
  pointwise [k0_pay21]
  rfl
theorem pay22_at (v : FVec Ideal S256x1024 .bf16) (w : FVec Ideal S1024x1024 .bf16) (x : FVec Ideal S256x1024 .f32) (g : FVec Ideal S1x1024 .f32) (r : Fin 256) (c : Fin 1024) :
    k0_pay22 (F := Ideal) v w x g (ix2 r c) = close (mm (fun k => v (ix2 r k)) (fun k c => w (ix2 k c))) (fun k => x (ix2 r k)) (fun c => g (ix2 0 c)) c := by
  pointwise [k0_pay22]
  simp only [pay21_at]
  rfl
theorem pay23_at (v : FVec Ideal S256x1024 .bf16) (w : FVec Ideal S1024x1024 .bf16) (x : FVec Ideal S256x1024 .f32) (g h : FVec Ideal S1x1024 .f32) (r : Fin 256) (c : Fin 1024) :
    k0_pay23 (F := Ideal) v w x g h (ix2 r c) = nrm (close (mm (fun k => v (ix2 r k)) (fun k c => w (ix2 k c))) (fun k => x (ix2 r k)) (fun c => g (ix2 0 c))) (fun c => h (ix2 0 c)) c := by
  pointwise [k0_pay23]
  simp only [pay22_at]
  rfl

section rest
variable (xa : FVec Ideal S256x1024 .bf16) (wa : FVec Ideal S1024x1024 .bf16) (ga : FVec Ideal S256x1024 .bf16) (xb : FVec Ideal S256x512 .bf16) (wb : FVec Ideal S512x1024 .bf16) (gb : FVec Ideal S256x1024 .bf16) (xc : FVec Ideal S256x512 .bf16) (wc : FVec Ideal S512x1024 .bf16) (gc : FVec Ideal S256x1024 .bf16) (u : FVec Ideal S256x1024 .f32) (wo : FVec Ideal S1024x1024 .bf16) (x : FVec Ideal S256x1024 .f32) (g h : FVec Ideal S1x1024 .f32)
theorem pay14_eq : k0_pay14 (F := Ideal) xa wa = k0_pay2 xa wa := rfl
theorem pay17_eq : k0_pay17 (F := Ideal) xb wb = k0_pay4 xb wb := rfl
theorem pay7_eq : k0_pay7 (F := Ideal) xb wb = k0_pay4 xb wb := rfl
theorem pay19_eq : k0_pay19 (F := Ideal) xb wb = k0_pay4 xb wb := rfl
theorem pay20_eq : k0_pay20 (F := Ideal) (k0_pay15 xa wa ga) xb wb gb xc wc gc = k0_pay8 (k0_pay5 xa wa ga xb wb gb) xc wc gc := rfl
theorem pay9_eq : k0_pay9 (F := Ideal) u xc wc gc wo = k0_pay21 (k0_pay8 u xc wc gc) wo := rfl
theorem pay11_eq : k0_pay11 (F := Ideal) (k0_pay10 u xc wc gc wo) x g = k0_pay22 (k0_pay8 u xc wc gc) wo x g := rfl
theorem pay12_eq : k0_pay12 (F := Ideal) (k0_pay10 u xc wc gc wo) x g h = k0_pay23 (k0_pay8 u xc wc gc) wo x g h := rfl
end rest

theorem store11 (b0 : FVec Ideal S512x1024 .bf16) (b4 : FVec Ideal S1024x1024 .bf16) (q : Fin 2) (xa : FVec Ideal S256x1024 .bf16) (wa : FVec Ideal S1024x1024 .bf16)
    (ha : ∀ r k, xa (ix2 r k) = b0 (ix2 ⟨q.val * 256 + r.val, by omega⟩ k)) (hwa : ∀ k c, wa (ix2 k c) = b4 (ix2 k c))
    (r : Fin 256) (c : Fin 1024) (R : Fin 512) (hR : R.val = q.val * 256 + r.val) :
    k0_pay2 (F := Ideal) xa wa (ix2 r c) = (mm (fun k => b0 (ix2 R k)) (fun k c => b4 (ix2 k c))) c := by
  have e : ∀ p, (⟨q.val * 256 + r.val, p⟩ : Fin 512) = R := fun p => Fin.ext hR.symm
  rw [pay2_at]
  simp only [ha, hwa, e]

theorem store12 (b1 : FVec Ideal S512x512 .bf16) (b5 : FVec Ideal S512x1024 .bf16) (q : Fin 2) (xb : FVec Ideal S256x512 .bf16) (wb : FVec Ideal S512x1024 .bf16)
    (hb : ∀ r k, xb (ix2 r k) = b1 (ix2 ⟨q.val * 256 + r.val, by omega⟩ k)) (hwb : ∀ k c, wb (ix2 k c) = b5 (ix2 k c))
    (r : Fin 256) (c : Fin 1024) (R : Fin 512) (hR : R.val = q.val * 256 + r.val) :
    k0_pay4 (F := Ideal) xb wb (ix2 r c) = (mm (fun k => b1 (ix2 R k)) (fun k c => b5 (ix2 k c))) c := by
  have e : ∀ p, (⟨q.val * 256 + r.val, p⟩ : Fin 512) = R := fun p => Fin.ext hR.symm
  rw [pay4_at]
  simp only [hb, hwb, e]

theorem store13 (b2 : FVec Ideal S512x512 .bf16) (b6 : FVec Ideal S512x1024 .bf16) (q : Fin 2) (xc : FVec Ideal S256x512 .bf16) (wc : FVec Ideal S512x1024 .bf16)
    (hc : ∀ r k, xc (ix2 r k) = b2 (ix2 ⟨q.val * 256 + r.val, by omega⟩ k)) (hwc : ∀ k c, wc (ix2 k c) = b6 (ix2 k c))
    (r : Fin 256) (c : Fin 1024) (R : Fin 512) (hR : R.val = q.val * 256 + r.val) :
    k0_pay4 (F := Ideal) xc wc (ix2 r c) = (mm (fun k => b2 (ix2 R k)) (fun k c => b6 (ix2 k c))) c := by
  have e : ∀ p, (⟨q.val * 256 + r.val, p⟩ : Fin 512) = R := fun p => Fin.ext hR.symm
  rw [pay4_at]
  simp only [hc, hwc, e]

theorem store14 (b0 : FVec Ideal S512x1024 .bf16) (b1 : FVec Ideal S512x512 .bf16) (b2 : FVec Ideal S512x512 .bf16) (b3 : FVec Ideal S512x3072 .bf16) (b4 : FVec Ideal S1024x1024 .bf16) (b5 : FVec Ideal S512x1024 .bf16) (b6 : FVec Ideal S512x1024 .bf16) (q : Fin 2) (xa : FVec Ideal S256x1024 .bf16) (wa : FVec Ideal S1024x1024 .bf16) (ga : FVec Ideal S256x1024 .bf16) (xb : FVec Ideal S256x512 .bf16) (wb : FVec Ideal S512x1024 .bf16) (gb : FVec Ideal S256x1024 .bf16) (xc : FVec Ideal S256x512 .bf16) (wc : FVec Ideal S512x1024 .bf16) (gc : FVec Ideal S256x1024 .bf16)
    (ha : ∀ r k, xa (ix2 r k) = b0 (ix2 ⟨q.val * 256 + r.val, by omega⟩ k)) (hwa : ∀ k c, wa (ix2 k c) = b4 (ix2 k c)) (hga : ∀ r k, ga (ix2 r k) = b3 (ix2 ⟨q.val * 256 + r.val, by omega⟩ ⟨0 * 1024 + k.val, by omega⟩)) (hb : ∀ r k, xb (ix2 r k) = b1 (ix2 ⟨q.val * 256 + r.val, by omega⟩ k)) (hwb : ∀ k c, wb (ix2 k c) = b5 (ix2 k c)) (hgb : ∀ r k, gb (ix2 r k) = b3 (ix2 ⟨q.val * 256 + r.val, by omega⟩ ⟨1 * 1024 + k.val, by omega⟩)) (hc : ∀ r k, xc (ix2 r k) = b2 (ix2 ⟨q.val * 256 + r.val, by omega⟩ k)) (hwc : ∀ k c, wc (ix2 k c) = b6 (ix2 k c)) (hgc : ∀ r k, gc (ix2 r k) = b3 (ix2 ⟨q.val * 256 + r.val, by omega⟩ ⟨2 * 1024 + k.val, by omega⟩))
    (r : Fin 256) (c : Fin 1024) (R : Fin 512) (hR : R.val = q.val * 256 + r.val) :
    (k0_pay8 (F := Ideal) (k0_pay5 xa wa ga xb wb gb) xc wc gc) (ix2 r c) = (merged (mm (fun k => b0 (ix2 R k)) (fun k c => b4 (ix2 k c))) (mm (fun k => b1 (ix2 R k)) (fun k c => b5 (ix2 k c))) (mm (fun k => b2 (ix2 R k)) (fun k c => b6 (ix2 k c))) (part 0 (fun k => b3 (ix2 R k))) (part 1 (fun k => b3 (ix2 R k))) (part 2 (fun k => b3 (ix2 R k)))) c := by
  have e : ∀ p, (⟨q.val * 256 + r.val, p⟩ : Fin 512) = R := fun p => Fin.ext hR.symm
  rw [pay8_at]
  simp only [ha, hwa, hga, hb, hwb, hgb, hc, hwc, hgc, e]
  rfl

theorem store15 (b0 : FVec Ideal S512x1024 .bf16) (b1 : FVec Ideal S512x512 .bf16) (b2 : FVec Ideal S512x512 .bf16) (b3 : FVec Ideal S512x3072 .bf16) (b4 : FVec Ideal S1024x1024 .bf16) (b5 : FVec Ideal S512x1024 .bf16) (b6 : FVec Ideal S512x1024 .bf16) (b7 : FVec Ideal S1024x1024 .bf16) (q : Fin 2) (xa : FVec Ideal S256x1024 .bf16) (wa : FVec Ideal S1024x1024 .bf16) (ga : FVec Ideal S256x1024 .bf16) (xb : FVec Ideal S256x512 .bf16) (wb : FVec Ideal S512x1024 .bf16) (gb : FVec Ideal S256x1024 .bf16) (xc : FVec Ideal S256x512 .bf16) (wc : FVec Ideal S512x1024 .bf16) (gc : FVec Ideal S256x1024 .bf16) (wo : FVec Ideal S1024x1024 .bf16)
    (ha : ∀ r k, xa (ix2 r k) = b0 (ix2 ⟨q.val * 256 + r.val, by omega⟩ k)) (hwa : ∀ k c, wa (ix2 k c) = b4 (ix2 k c)) (hga : ∀ r k, ga (ix2 r k) = b3 (ix2 ⟨q.val * 256 + r.val, by omega⟩ ⟨0 * 1024 + k.val, by omega⟩)) (hb : ∀ r k, xb (ix2 r k) = b1 (ix2 ⟨q.val * 256 + r.val, by omega⟩ k)) (hwb : ∀ k c, wb (ix2 k c) = b5 (ix2 k c)) (hgb : ∀ r k, gb (ix2 r k) = b3 (ix2 ⟨q.val * 256 + r.val, by omega⟩ ⟨1 * 1024 + k.val, by omega⟩)) (hc : ∀ r k, xc (ix2 r k) = b2 (ix2 ⟨q.val * 256 + r.val, by omega⟩ k)) (hwc : ∀ k c, wc (ix2 k c) = b6 (ix2 k c)) (hgc : ∀ r k, gc (ix2 r k) = b3 (ix2 ⟨q.val * 256 + r.val, by omega⟩ ⟨2 * 1024 + k.val, by omega⟩)) (hwo : ∀ k c, wo (ix2 k c) = b7 (ix2 k c))
    (r : Fin 256) (c : Fin 1024) (R : Fin 512) (hR : R.val = q.val * 256 + r.val) :
    k0_pay21 (F := Ideal) (k0_pay8 (F := Ideal) (k0_pay5 xa wa ga xb wb gb) xc wc gc) wo (ix2 r c) = (mm (merged (mm (fun k => b0 (ix2 R k)) (fun k c => b4 (ix2 k c))) (mm (fun k => b1 (ix2 R k)) (fun k c => b5 (ix2 k c))) (mm (fun k => b2 (ix2 R k)) (fun k c => b6 (ix2 k c))) (part 0 (fun k => b3 (ix2 R k))) (part 1 (fun k => b3 (ix2 R k))) (part 2 (fun k => b3 (ix2 R k)))) (fun k c => b7 (ix2 k c))) c := by
  have e : ∀ p, (⟨q.val * 256 + r.val, p⟩ : Fin 512) = R := fun p => Fin.ext hR.symm
  rw [pay21_at]
  simp only [pay8_at, ha, hwa, hga, hb, hwb, hgb, hc, hwc, hgc, hwo, e]
  rfl

theorem store16 (b0 : FVec Ideal S512x1024 .bf16) (b1 : FVec Ideal S512x512 .bf16) (b2 : FVec Ideal S512x512 .bf16) (b3 : FVec Ideal S512x3072 .bf16) (b4 : FVec Ideal S1024x1024 .bf16) (b5 : FVec Ideal S512x1024 .bf16) (b6 : FVec Ideal S512x1024 .bf16) (b7 : FVec Ideal S1024x1024 .bf16) (b8 : FVec Ideal S512x1024 .f32) (b9 : FVec Ideal S1x1024 .f32) (q : Fin 2) (xa : FVec Ideal S256x1024 .bf16) (wa : FVec Ideal S1024x1024 .bf16) (ga : FVec Ideal S256x1024 .bf16) (xb : FVec Ideal S256x512 .bf16) (wb : FVec Ideal S512x1024 .bf16) (gb : FVec Ideal S256x1024 .bf16) (xc : FVec Ideal S256x512 .bf16) (wc : FVec Ideal S512x1024 .bf16) (gc : FVec Ideal S256x1024 .bf16) (wo : FVec Ideal S1024x1024 .bf16) (x : FVec Ideal S256x1024 .f32) (g : FVec Ideal S1x1024 .f32)
    (ha : ∀ r k, xa (ix2 r k) = b0 (ix2 ⟨q.val * 256 + r.val, by omega⟩ k)) (hwa : ∀ k c, wa (ix2 k c) = b4 (ix2 k c)) (hga : ∀ r k, ga (ix2 r k) = b3 (ix2 ⟨q.val * 256 + r.val, by omega⟩ ⟨0 * 1024 + k.val, by omega⟩)) (hb : ∀ r k, xb (ix2 r k) = b1 (ix2 ⟨q.val * 256 + r.val, by omega⟩ k)) (hwb : ∀ k c, wb (ix2 k c) = b5 (ix2 k c)) (hgb : ∀ r k, gb (ix2 r k) = b3 (ix2 ⟨q.val * 256 + r.val, by omega⟩ ⟨1 * 1024 + k.val, by omega⟩)) (hc : ∀ r k, xc (ix2 r k) = b2 (ix2 ⟨q.val * 256 + r.val, by omega⟩ k)) (hwc : ∀ k c, wc (ix2 k c) = b6 (ix2 k c)) (hgc : ∀ r k, gc (ix2 r k) = b3 (ix2 ⟨q.val * 256 + r.val, by omega⟩ ⟨2 * 1024 + k.val, by omega⟩)) (hwo : ∀ k c, wo (ix2 k c) = b7 (ix2 k c)) (hx : ∀ r k, x (ix2 r k) = b8 (ix2 ⟨q.val * 256 + r.val, by omega⟩ k)) (hg : ∀ c, g (ix2 0 c) = b9 (ix2 0 c))
    (r : Fin 256) (c : Fin 1024) (R : Fin 512) (hR : R.val = q.val * 256 + r.val) :
    k0_pay22 (F := Ideal) (k0_pay8 (F := Ideal) (k0_pay5 xa wa ga xb wb gb) xc wc gc) wo x g (ix2 r c) = (close (mm (merged (mm (fun k => b0 (ix2 R k)) (fun k c => b4 (ix2 k c))) (mm (fun k => b1 (ix2 R k)) (fun k c => b5 (ix2 k c))) (mm (fun k => b2 (ix2 R k)) (fun k c => b6 (ix2 k c))) (part 0 (fun k => b3 (ix2 R k))) (part 1 (fun k => b3 (ix2 R k))) (part 2 (fun k => b3 (ix2 R k)))) (fun k c => b7 (ix2 k c))) (fun k => b8 (ix2 R k)) (fun c => b9 (ix2 0 c))) c := by
  have e : ∀ p, (⟨q.val * 256 + r.val, p⟩ : Fin 512) = R := fun p => Fin.ext hR.symm
  rw [pay22_at]
  simp only [pay8_at, ha, hwa, hga, hb, hwb, hgb, hc, hwc, hgc, hwo, hx, hg, e]
  rfl

theorem store17 (b0 : FVec Ideal S512x1024 .bf16) (b1 : FVec Ideal S512x512 .bf16) (b2 : FVec Ideal S512x512 .bf16) (b3 : FVec Ideal S512x3072 .bf16) (b4 : FVec Ideal S1024x1024 .bf16) (b5 : FVec Ideal S512x1024 .bf16) (b6 : FVec Ideal S512x1024 .bf16) (b7 : FVec Ideal S1024x1024 .bf16) (b8 : FVec Ideal S512x1024 .f32) (b9 : FVec Ideal S1x1024 .f32) (b10 : FVec Ideal S1x1024 .f32) (q : Fin 2) (xa : FVec Ideal S256x1024 .bf16) (wa : FVec Ideal S1024x1024 .bf16) (ga : FVec Ideal S256x1024 .bf16) (xb : FVec Ideal S256x512 .bf16) (wb : FVec Ideal S512x1024 .bf16) (gb : FVec Ideal S256x1024 .bf16) (xc : FVec Ideal S256x512 .bf16) (wc : FVec Ideal S512x1024 .bf16) (gc : FVec Ideal S256x1024 .bf16) (wo : FVec Ideal S1024x1024 .bf16) (x : FVec Ideal S256x1024 .f32) (g : FVec Ideal S1x1024 .f32) (h : FVec Ideal S1x1024 .f32)
    (ha : ∀ r k, xa (ix2 r k) = b0 (ix2 ⟨q.val * 256 + r.val, by omega⟩ k)) (hwa : ∀ k c, wa (ix2 k c) = b4 (ix2 k c)) (hga : ∀ r k, ga (ix2 r k) = b3 (ix2 ⟨q.val * 256 + r.val, by omega⟩ ⟨0 * 1024 + k.val, by omega⟩)) (hb : ∀ r k, xb (ix2 r k) = b1 (ix2 ⟨q.val * 256 + r.val, by omega⟩ k)) (hwb : ∀ k c, wb (ix2 k c) = b5 (ix2 k c)) (hgb : ∀ r k, gb (ix2 r k) = b3 (ix2 ⟨q.val * 256 + r.val, by omega⟩ ⟨1 * 1024 + k.val, by omega⟩)) (hc : ∀ r k, xc (ix2 r k) = b2 (ix2 ⟨q.val * 256 + r.val, by omega⟩ k)) (hwc : ∀ k c, wc (ix2 k c) = b6 (ix2 k c)) (hgc : ∀ r k, gc (ix2 r k) = b3 (ix2 ⟨q.val * 256 + r.val, by omega⟩ ⟨2 * 1024 + k.val, by omega⟩)) (hwo : ∀ k c, wo (ix2 k c) = b7 (ix2 k c)) (hx : ∀ r k, x (ix2 r k) = b8 (ix2 ⟨q.val * 256 + r.val, by omega⟩ k)) (hg : ∀ c, g (ix2 0 c) = b9 (ix2 0 c)) (hh : ∀ c, h (ix2 0 c) = b10 (ix2 0 c))
    (r : Fin 256) (c : Fin 1024) (R : Fin 512) (hR : R.val = q.val * 256 + r.val) :
    k0_pay23 (F := Ideal) (k0_pay8 (F := Ideal) (k0_pay5 xa wa ga xb wb gb) xc wc gc) wo x g h (ix2 r c) = (nrm (close (mm (merged (mm (fun k => b0 (ix2 R k)) (fun k c => b4 (ix2 k c))) (mm (fun k => b1 (ix2 R k)) (fun k c => b5 (ix2 k c))) (mm (fun k => b2 (ix2 R k)) (fun k c => b6 (ix2 k c))) (part 0 (fun k => b3 (ix2 R k))) (part 1 (fun k => b3 (ix2 R k))) (part 2 (fun k => b3 (ix2 R k)))) (fun k c => b7 (ix2 k c))) (fun k => b8 (ix2 R k)) (fun c => b9 (ix2 0 c))) (fun c => b10 (ix2 0 c))) c := by
  have e : ∀ p, (⟨q.val * 256 + r.val, p⟩ : Fin 512) = R := fun p => Fin.ext hR.symm
  rw [pay23_at]
  simp only [pay8_at, ha, hwa, hga, hb, hwb, hgb, hc, hwc, hgc, hwo, hx, hg, hh, e]
  rfl

theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0] ∧ win0_8.index t = ![t.val, 0] ∧ win0_9.index t = ![0, 0] ∧ win0_10.index t = ![0, 0]
    ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] :=
  (by decide +kernel : ∀ t : Fin grid0.N, _)

variable (m : (ℓ : Loc nD τ sig) → Buf (Elt Ideal) ℓ)

theorem row_lt (t : Fin cfg0.N) (r : Fin 512) : t.val * 512 + r.val < 4096 := by
  have := lt_of_lt_of_eq t.isLt N_0; omega

theorem blk0 (c : Dev nD) (t : Fin cfg0.N) (r : Fin 512) (k : Fin 1024) :
    (show FVec Ideal S512x1024 .bf16 from iblk m c 0 t) (ix2 r k) = m ((c : Thread nD τ).loc main_arg0) (ix2 ⟨t.val * 512 + r.val, row_lt t r⟩ k) := by
  blk_point [iblk, V, idx t]
theorem blk1 (c : Dev nD) (t : Fin cfg0.N) (r : Fin 512) (k : Fin 512) :
    (show FVec Ideal S512x512 .bf16 from iblk m c 1 t) (ix2 r k) = m ((c : Thread nD τ).loc main_arg1) (ix2 ⟨t.val * 512 + r.val, row_lt t r⟩ k) := by
  blk_point [iblk, V, idx t]
theorem blk2 (c : Dev nD) (t : Fin cfg0.N) (r : Fin 512) (k : Fin 512) :
    (show FVec Ideal S512x512 .bf16 from iblk m c 2 t) (ix2 r k) = m ((c : Thread nD τ).loc main_arg2) (ix2 ⟨t.val * 512 + r.val, row_lt t r⟩ k) := by
  blk_point [iblk, V, idx t]
theorem blk3 (c : Dev nD) (t : Fin cfg0.N) (r : Fin 512) (k : Fin 3072) :
    (show FVec Ideal S512x3072 .bf16 from iblk m c 3 t) (ix2 r k) = m ((c : Thread nD τ).loc main_arg3) (ix2 ⟨t.val * 512 + r.val, row_lt t r⟩ k) := by
  blk_point [iblk, V, idx t]
theorem blk4 (c : Dev nD) (t : Fin cfg0.N) (r : Fin 1024) (k : Fin 1024) :
    (show FVec Ideal S1024x1024 .bf16 from iblk m c 4 t) (ix2 r k) = m ((c : Thread nD τ).loc main_arg4) (ix2 r k) := by
  blk_point [iblk, V, idx t]
theorem blk5 (c : Dev nD) (t : Fin cfg0.N) (r : Fin 512) (k : Fin 1024) :
    (show FVec Ideal S512x1024 .bf16 from iblk m c 5 t) (ix2 r k) = m ((c : Thread nD τ).loc main_arg5) (ix2 r k) := by
  blk_point [iblk, V, idx t]
theorem blk6 (c : Dev nD) (t : Fin cfg0.N) (r : Fin 512) (k : Fin 1024) :
    (show FVec Ideal S512x1024 .bf16 from iblk m c 6 t) (ix2 r k) = m ((c : Thread nD τ).loc main_arg6) (ix2 r k) := by
  blk_point [iblk, V, idx t]
theorem blk7 (c : Dev nD) (t : Fin cfg0.N) (r : Fin 1024) (k : Fin 1024) :
    (show FVec Ideal S1024x1024 .bf16 from iblk m c 7 t) (ix2 r k) = m ((c : Thread nD τ).loc main_arg7) (ix2 r k) := by
  blk_point [iblk, V, idx t]
theorem blk8 (c : Dev nD) (t : Fin cfg0.N) (r : Fin 512) (k : Fin 1024) :
    (show FVec Ideal S512x1024 .f32 from iblk m c 8 t) (ix2 r k) = m ((c : Thread nD τ).loc main_arg8) (ix2 ⟨t.val * 512 + r.val, row_lt t r⟩ k) := by
  blk_point [iblk, V, idx t]
theorem blk9 (c : Dev nD) (t : Fin cfg0.N) (k : Fin 1024) :
    (show FVec Ideal S1x1024 .f32 from iblk m c 9 t) (ix2 0 k) = m ((c : Thread nD τ).loc main_arg9) (ix2 0 k) := by
  blk_point [iblk, V, idx t]
theorem blk10 (c : Dev nD) (t : Fin cfg0.N) (k : Fin 1024) :
    (show FVec Ideal S1x1024 .f32 from iblk m c 10 t) (ix2 0 k) = m ((c : Thread nD τ).loc main_arg10) (ix2 0 k) := by
  blk_point [iblk, V, idx t]

section kernel
variable (x0 : FVec Ideal S512x1024 .bf16) (x1 : FVec Ideal S512x512 .bf16) (x2 : FVec Ideal S512x512 .bf16) (x3 : FVec Ideal S512x3072 .bf16) (x4 : FVec Ideal S1024x1024 .bf16) (x5 : FVec Ideal S512x1024 .bf16) (x6 : FVec Ideal S512x1024 .bf16) (x7 : FVec Ideal S1024x1024 .bf16) (x8 : FVec Ideal S512x1024 .f32) (x9 : FVec Ideal S1x1024 .f32) (x10 : FVec Ideal S1x1024 .f32)

/-- The first branch's projection. -/
def g11 (a0 : FVec Ideal S4096x1024 .bf16) (a4 : FVec Ideal S1024x1024 .bf16) (r : Fin 4096) (c : Fin 1024) : EReal := (mm (fun k => a0 (ix2 r k)) (fun k c => a4 (ix2 k c))) c

theorem out11_at (r : Fin 512) (c : Fin 1024) :
    out0_11 (F := Ideal) x0 x1 x2 x3 x4 x5 x6 x7 x8 x9 x10 (ix2 r c) = (mm (fun k => x0 (ix2 r k)) (fun k c => x4 (ix2 k c))) c := by
  frame_out
  canon_tiles y hy
  all_goals (idx_vars y; try simp only [pay14_eq])
  all_goals obtain rfl := Fin.ext hy1
  case piece0 =>
    refine store11 _ _ 1 _ _ ?_ ?_ _ _ _ ?_
    all_goals first | (simp at hy0 ⊢; omega; done) | omega | (intro r k; rfl) | (intro r; rfl) | (intro r k; pointwise; done) | (intro r; pointwise; done) | (intro r k; pointwise; blk_ext) | (intro r; pointwise; blk_ext)
  case piece1 =>
    refine store11 _ _ 0 _ _ ?_ ?_ _ _ _ ?_
    all_goals first | (simp at hy0 ⊢; omega; done) | omega | (intro r k; rfl) | (intro r; rfl) | (intro r k; pointwise; done) | (intro r; pointwise; done) | (intro r k; pointwise; blk_ext) | (intro r; pointwise; blk_ext)

theorem final11 (c : Dev nD) : (dats m 0 c).arrAt 11 cfg0.N = fun y : S4096x1024.Idx => g11 (m ((c : Thread nD τ).loc main_arg0)) (m ((c : Thread nD τ).loc main_arg4)) (y 0) (y 1) := by
  refine (dats m 0 c).arrAt_eq_of_covers 11 _ (by decide +kernel) fun t hf y => ?_
  blk_simp
  rw [after0_11]
  idx_vars y
  have h0 : (win0_11.blk t).view.emb (ix2 y0 y1) 0 = (⟨t.val * 512 + y0.val, row_lt t y0⟩ : Fin 4096) := by
    apply Fin.ext; blk_simp [idx t]
  have h1 : (win0_11.blk t).view.emb (ix2 y0 y1) 1 = (y1 : Fin 1024) := by
    apply Fin.ext; blk_simp [idx t]
  rw [h0, h1]
  refine (out11_at _ _ _ _ _ _ _ _ _ _ _ y0 y1).trans ?_
  have e0 := blk0 m c t y0
  generalize iblk m c 0 t = x0 at e0 ⊢
  have e4 := blk4 m c t
  generalize iblk m c 4 t = x4 at e4 ⊢
  simp only [g11, ← e0, ← e4]

/-- The second branch's projection. -/
def g12 (a1 : FVec Ideal S4096x512 .bf16) (a5 : FVec Ideal S512x1024 .bf16) (r : Fin 4096) (c : Fin 1024) : EReal := (mm (fun k => a1 (ix2 r k)) (fun k c => a5 (ix2 k c))) c

theorem out12_at (r : Fin 512) (c : Fin 1024) :
    out0_12 (F := Ideal) x0 x1 x2 x3 x4 x5 x6 x7 x8 x9 x10 (ix2 r c) = (mm (fun k => x1 (ix2 r k)) (fun k c => x5 (ix2 k c))) c := by
  frame_out
  canon_tiles y hy
  all_goals (idx_vars y; try simp only [pay17_eq])
  all_goals obtain rfl := Fin.ext hy1
  case piece0 =>
    refine store12 _ _ 1 _ _ ?_ ?_ _ _ _ ?_
    all_goals first | (simp at hy0 ⊢; omega; done) | omega | (intro r k; rfl) | (intro r; rfl) | (intro r k; pointwise; done) | (intro r; pointwise; done) | (intro r k; pointwise; blk_ext) | (intro r; pointwise; blk_ext)
  case piece1 =>
    refine store12 _ _ 0 _ _ ?_ ?_ _ _ _ ?_
    all_goals first | (simp at hy0 ⊢; omega; done) | omega | (intro r k; rfl) | (intro r; rfl) | (intro r k; pointwise; done) | (intro r; pointwise; done) | (intro r k; pointwise; blk_ext) | (intro r; pointwise; blk_ext)

theorem final12 (c : Dev nD) : (dats m 0 c).arrAt 12 cfg0.N = fun y : S4096x1024.Idx => g12 (m ((c : Thread nD τ).loc main_arg1)) (m ((c : Thread nD τ).loc main_arg5)) (y 0) (y 1) := by
  refine (dats m 0 c).arrAt_eq_of_covers 12 _ (by decide +kernel) fun t hf y => ?_
  blk_simp
  rw [after0_12]
  idx_vars y
  have h0 : (win0_12.blk t).view.emb (ix2 y0 y1) 0 = (⟨t.val * 512 + y0.val, row_lt t y0⟩ : Fin 4096) := by
    apply Fin.ext; blk_simp [idx t]
  have h1 : (win0_12.blk t).view.emb (ix2 y0 y1) 1 = (y1 : Fin 1024) := by
    apply Fin.ext; blk_simp [idx t]
  rw [h0, h1]
  refine (out12_at _ _ _ _ _ _ _ _ _ _ _ y0 y1).trans ?_
  have e1 := blk1 m c t y0
  generalize iblk m c 1 t = x1 at e1 ⊢
  have e5 := blk5 m c t
  generalize iblk m c 5 t = x5 at e5 ⊢
  simp only [g12, ← e1, ← e5]

/-- The third branch's projection. -/
def g13 (a2 : FVec Ideal S4096x512 .bf16) (a6 : FVec Ideal S512x1024 .bf16) (r : Fin 4096) (c : Fin 1024) : EReal := (mm (fun k => a2 (ix2 r k)) (fun k c => a6 (ix2 k c))) c

theorem out13_at (r : Fin 512) (c : Fin 1024) :
    out0_13 (F := Ideal) x0 x1 x2 x3 x4 x5 x6 x7 x8 x9 x10 (ix2 r c) = (mm (fun k => x2 (ix2 r k)) (fun k c => x6 (ix2 k c))) c := by
  frame_out
  canon_tiles y hy
  all_goals (idx_vars y; try simp only [pay7_eq, pay19_eq])
  all_goals obtain rfl := Fin.ext hy1
  case piece0 =>
    refine store13 _ _ 1 _ _ ?_ ?_ _ _ _ ?_
    all_goals first | (simp at hy0 ⊢; omega; done) | omega | (intro r k; rfl) | (intro r; rfl) | (intro r k; pointwise; done) | (intro r; pointwise; done) | (intro r k; pointwise; blk_ext) | (intro r; pointwise; blk_ext)
  case piece1 =>
    refine store13 _ _ 0 _ _ ?_ ?_ _ _ _ ?_
    all_goals first | (simp at hy0 ⊢; omega; done) | omega | (intro r k; rfl) | (intro r; rfl) | (intro r k; pointwise; done) | (intro r; pointwise; done) | (intro r k; pointwise; blk_ext) | (intro r; pointwise; blk_ext)

theorem final13 (c : Dev nD) : (dats m 0 c).arrAt 13 cfg0.N = fun y : S4096x1024.Idx => g13 (m ((c : Thread nD τ).loc main_arg2)) (m ((c : Thread nD τ).loc main_arg6)) (y 0) (y 1) := by
  refine (dats m 0 c).arrAt_eq_of_covers 13 _ (by decide +kernel) fun t hf y => ?_
  blk_simp
  rw [after0_13]
  idx_vars y
  have h0 : (win0_13.blk t).view.emb (ix2 y0 y1) 0 = (⟨t.val * 512 + y0.val, row_lt t y0⟩ : Fin 4096) := by
    apply Fin.ext; blk_simp [idx t]
  have h1 : (win0_13.blk t).view.emb (ix2 y0 y1) 1 = (y1 : Fin 1024) := by
    apply Fin.ext; blk_simp [idx t]
  rw [h0, h1]
  refine (out13_at _ _ _ _ _ _ _ _ _ _ _ y0 y1).trans ?_
  have e2 := blk2 m c t y0
  generalize iblk m c 2 t = x2 at e2 ⊢
  have e6 := blk6 m c t
  generalize iblk m c 6 t = x6 at e6 ⊢
  simp only [g13, ← e2, ← e6]

/-- The gated sum. -/
def g14 (a0 : FVec Ideal S4096x1024 .bf16) (a1 : FVec Ideal S4096x512 .bf16) (a2 : FVec Ideal S4096x512 .bf16) (a3 : FVec Ideal S4096x3072 .bf16) (a4 : FVec Ideal S1024x1024 .bf16) (a5 : FVec Ideal S512x1024 .bf16) (a6 : FVec Ideal S512x1024 .bf16) (r : Fin 4096) (c : Fin 1024) : EReal := (merged (mm (fun k => a0 (ix2 r k)) (fun k c => a4 (ix2 k c))) (mm (fun k => a1 (ix2 r k)) (fun k c => a5 (ix2 k c))) (mm (fun k => a2 (ix2 r k)) (fun k c => a6 (ix2 k c))) (part 0 (fun k => a3 (ix2 r k))) (part 1 (fun k => a3 (ix2 r k))) (part 2 (fun k => a3 (ix2 r k)))) c

theorem out14_at (r : Fin 512) (c : Fin 1024) :
    out0_14 (F := Ideal) x0 x1 x2 x3 x4 x5 x6 x7 x8 x9 x10 (ix2 r c) = (merged (mm (fun k => x0 (ix2 r k)) (fun k c => x4 (ix2 k c))) (mm (fun k => x1 (ix2 r k)) (fun k c => x5 (ix2 k c))) (mm (fun k => x2 (ix2 r k)) (fun k c => x6 (ix2 k c))) (part 0 (fun k => x3 (ix2 r k))) (part 1 (fun k => x3 (ix2 r k))) (part 2 (fun k => x3 (ix2 r k)))) c := by
  frame_out
  canon_tiles y hy
  all_goals (idx_vars y; try simp only [pay20_eq])
  all_goals obtain rfl := Fin.ext hy1
  case piece0 =>
    refine store14 _ _ _ _ _ _ _ 1 _ _ _ _ _ _ _ _ _ ?_ ?_ ?_ ?_ ?_ ?_ ?_ ?_ ?_ _ _ _ ?_
    all_goals first | (simp at hy0 ⊢; omega; done) | omega | (intro r k; rfl) | (intro r; rfl) | (intro r k; pointwise; done) | (intro r; pointwise; done) | (intro r k; pointwise; blk_ext) | (intro r; pointwise; blk_ext)
  case piece1 =>
    refine store14 _ _ _ _ _ _ _ 0 _ _ _ _ _ _ _ _ _ ?_ ?_ ?_ ?_ ?_ ?_ ?_ ?_ ?_ _ _ _ ?_
    all_goals first | (simp at hy0 ⊢; omega; done) | omega | (intro r k; rfl) | (intro r; rfl) | (intro r k; pointwise; done) | (intro r; pointwise; done) | (intro r k; pointwise; blk_ext) | (intro r; pointwise; blk_ext)

theorem final14 (c : Dev nD) : (dats m 0 c).arrAt 14 cfg0.N = fun y : S4096x1024.Idx => g14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (y 0) (y 1) := by
  refine (dats m 0 c).arrAt_eq_of_covers 14 _ (by decide +kernel) fun t hf y => ?_
  blk_simp
  rw [after0_14]
  idx_vars y
  have h0 : (win0_14.blk t).view.emb (ix2 y0 y1) 0 = (⟨t.val * 512 + y0.val, row_lt t y0⟩ : Fin 4096) := by
    apply Fin.ext; blk_simp [idx t]
  have h1 : (win0_14.blk t).view.emb (ix2 y0 y1) 1 = (y1 : Fin 1024) := by
    apply Fin.ext; blk_simp [idx t]
  rw [h0, h1]
  refine (out14_at _ _ _ _ _ _ _ _ _ _ _ y0 y1).trans ?_
  have e0 := blk0 m c t y0
  generalize iblk m c 0 t = x0 at e0 ⊢
  have e1 := blk1 m c t y0
  generalize iblk m c 1 t = x1 at e1 ⊢
  have e2 := blk2 m c t y0
  generalize iblk m c 2 t = x2 at e2 ⊢
  have e3 := blk3 m c t y0
  generalize iblk m c 3 t = x3 at e3 ⊢
  have e4 := blk4 m c t
  generalize iblk m c 4 t = x4 at e4 ⊢
  have e5 := blk5 m c t
  generalize iblk m c 5 t = x5 at e5 ⊢
  have e6 := blk6 m c t
  generalize iblk m c 6 t = x6 at e6 ⊢
  simp only [g14, ← e0, ← e1, ← e2, ← e4, ← e5, ← e6, e3]

/-- Its projection. -/
def g15 (a0 : FVec Ideal S4096x1024 .bf16) (a1 : FVec Ideal S4096x512 .bf16) (a2 : FVec Ideal S4096x512 .bf16) (a3 : FVec Ideal S4096x3072 .bf16) (a4 : FVec Ideal S1024x1024 .bf16) (a5 : FVec Ideal S512x1024 .bf16) (a6 : FVec Ideal S512x1024 .bf16) (a7 : FVec Ideal S1024x1024 .bf16) (r : Fin 4096) (c : Fin 1024) : EReal := (mm (merged (mm (fun k => a0 (ix2 r k)) (fun k c => a4 (ix2 k c))) (mm (fun k => a1 (ix2 r k)) (fun k c => a5 (ix2 k c))) (mm (fun k => a2 (ix2 r k)) (fun k c => a6 (ix2 k c))) (part 0 (fun k => a3 (ix2 r k))) (part 1 (fun k => a3 (ix2 r k))) (part 2 (fun k => a3 (ix2 r k)))) (fun k c => a7 (ix2 k c))) c

theorem out15_at (r : Fin 512) (c : Fin 1024) :
    out0_15 (F := Ideal) x0 x1 x2 x3 x4 x5 x6 x7 x8 x9 x10 (ix2 r c) = (mm (merged (mm (fun k => x0 (ix2 r k)) (fun k c => x4 (ix2 k c))) (mm (fun k => x1 (ix2 r k)) (fun k c => x5 (ix2 k c))) (mm (fun k => x2 (ix2 r k)) (fun k c => x6 (ix2 k c))) (part 0 (fun k => x3 (ix2 r k))) (part 1 (fun k => x3 (ix2 r k))) (part 2 (fun k => x3 (ix2 r k)))) (fun k c => x7 (ix2 k c))) c := by
  frame_out
  canon_tiles y hy
  all_goals (idx_vars y; try simp only [pay20_eq, pay9_eq])
  all_goals obtain rfl := Fin.ext hy1
  case piece0 =>
    refine store15 _ _ _ _ _ _ _ _ 1 _ _ _ _ _ _ _ _ _ _ ?_ ?_ ?_ ?_ ?_ ?_ ?_ ?_ ?_ ?_ _ _ _ ?_
    all_goals first | (simp at hy0 ⊢; omega; done) | omega | (intro r k; rfl) | (intro r; rfl) | (intro r k; pointwise; done) | (intro r; pointwise; done) | (intro r k; pointwise; blk_ext) | (intro r; pointwise; blk_ext)
  case piece1 =>
    refine store15 _ _ _ _ _ _ _ _ 0 _ _ _ _ _ _ _ _ _ _ ?_ ?_ ?_ ?_ ?_ ?_ ?_ ?_ ?_ ?_ _ _ _ ?_
    all_goals first | (simp at hy0 ⊢; omega; done) | omega | (intro r k; rfl) | (intro r; rfl) | (intro r k; pointwise; done) | (intro r; pointwise; done) | (intro r k; pointwise; blk_ext) | (intro r; pointwise; blk_ext)

theorem final15 (c : Dev nD) : (dats m 0 c).arrAt 15 cfg0.N = fun y : S4096x1024.Idx => g15 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (y 0) (y 1) := by
  refine (dats m 0 c).arrAt_eq_of_covers 15 _ (by decide +kernel) fun t hf y => ?_
  blk_simp
  rw [after0_15]
  idx_vars y
  have h0 : (win0_15.blk t).view.emb (ix2 y0 y1) 0 = (⟨t.val * 512 + y0.val, row_lt t y0⟩ : Fin 4096) := by
    apply Fin.ext; blk_simp [idx t]
  have h1 : (win0_15.blk t).view.emb (ix2 y0 y1) 1 = (y1 : Fin 1024) := by
    apply Fin.ext; blk_simp [idx t]
  rw [h0, h1]
  refine (out15_at _ _ _ _ _ _ _ _ _ _ _ y0 y1).trans ?_
  have e0 := blk0 m c t y0
  generalize iblk m c 0 t = x0 at e0 ⊢
  have e1 := blk1 m c t y0
  generalize iblk m c 1 t = x1 at e1 ⊢
  have e2 := blk2 m c t y0
  generalize iblk m c 2 t = x2 at e2 ⊢
  have e3 := blk3 m c t y0
  generalize iblk m c 3 t = x3 at e3 ⊢
  have e4 := blk4 m c t
  generalize iblk m c 4 t = x4 at e4 ⊢
  have e5 := blk5 m c t
  generalize iblk m c 5 t = x5 at e5 ⊢
  have e6 := blk6 m c t
  generalize iblk m c 6 t = x6 at e6 ⊢
  have e7 := blk7 m c t
  generalize iblk m c 7 t = x7 at e7 ⊢
  simp only [g15, ← e0, ← e1, ← e2, ← e4, ← e5, ← e6, ← e7, e3]

/-- The residual stream after the mixer. -/
def g16 (a0 : FVec Ideal S4096x1024 .bf16) (a1 : FVec Ideal S4096x512 .bf16) (a2 : FVec Ideal S4096x512 .bf16) (a3 : FVec Ideal S4096x3072 .bf16) (a4 : FVec Ideal S1024x1024 .bf16) (a5 : FVec Ideal S512x1024 .bf16) (a6 : FVec Ideal S512x1024 .bf16) (a7 : FVec Ideal S1024x1024 .bf16) (a8 : FVec Ideal S4096x1024 .f32) (a9 : FVec Ideal S1x1024 .f32) (r : Fin 4096) (c : Fin 1024) : EReal := (close (mm (merged (mm (fun k => a0 (ix2 r k)) (fun k c => a4 (ix2 k c))) (mm (fun k => a1 (ix2 r k)) (fun k c => a5 (ix2 k c))) (mm (fun k => a2 (ix2 r k)) (fun k c => a6 (ix2 k c))) (part 0 (fun k => a3 (ix2 r k))) (part 1 (fun k => a3 (ix2 r k))) (part 2 (fun k => a3 (ix2 r k)))) (fun k c => a7 (ix2 k c))) (fun k => a8 (ix2 r k)) (fun c => a9 (ix2 0 c))) c

theorem out16_at (r : Fin 512) (c : Fin 1024) :
    out0_16 (F := Ideal) x0 x1 x2 x3 x4 x5 x6 x7 x8 x9 x10 (ix2 r c) = (close (mm (merged (mm (fun k => x0 (ix2 r k)) (fun k c => x4 (ix2 k c))) (mm (fun k => x1 (ix2 r k)) (fun k c => x5 (ix2 k c))) (mm (fun k => x2 (ix2 r k)) (fun k c => x6 (ix2 k c))) (part 0 (fun k => x3 (ix2 r k))) (part 1 (fun k => x3 (ix2 r k))) (part 2 (fun k => x3 (ix2 r k)))) (fun k c => x7 (ix2 k c))) (fun k => x8 (ix2 r k)) (fun c => x9 (ix2 0 c))) c := by
  frame_out
  canon_tiles y hy
  all_goals (idx_vars y; try simp only [pay20_eq, pay11_eq])
  all_goals obtain rfl := Fin.ext hy1
  case piece0 =>
    refine store16 _ _ _ _ _ _ _ _ _ _ 1 _ _ _ _ _ _ _ _ _ _ _ _ ?_ ?_ ?_ ?_ ?_ ?_ ?_ ?_ ?_ ?_ ?_ ?_ _ _ _ ?_
    all_goals first | (simp at hy0 ⊢; omega; done) | omega | (intro r k; rfl) | (intro r; rfl) | (intro r k; pointwise; done) | (intro r; pointwise; done) | (intro r k; pointwise; blk_ext) | (intro r; pointwise; blk_ext)
  case piece1 =>
    refine store16 _ _ _ _ _ _ _ _ _ _ 0 _ _ _ _ _ _ _ _ _ _ _ _ ?_ ?_ ?_ ?_ ?_ ?_ ?_ ?_ ?_ ?_ ?_ ?_ _ _ _ ?_
    all_goals first | (simp at hy0 ⊢; omega; done) | omega | (intro r k; rfl) | (intro r; rfl) | (intro r k; pointwise; done) | (intro r; pointwise; done) | (intro r k; pointwise; blk_ext) | (intro r; pointwise; blk_ext)

theorem final16 (c : Dev nD) : (dats m 0 c).arrAt 16 cfg0.N = fun y : S4096x1024.Idx => g16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (y 0) (y 1) := by
  refine (dats m 0 c).arrAt_eq_of_covers 16 _ (by decide +kernel) fun t hf y => ?_
  blk_simp
  rw [after0_16]
  idx_vars y
  have h0 : (win0_16.blk t).view.emb (ix2 y0 y1) 0 = (⟨t.val * 512 + y0.val, row_lt t y0⟩ : Fin 4096) := by
    apply Fin.ext; blk_simp [idx t]
  have h1 : (win0_16.blk t).view.emb (ix2 y0 y1) 1 = (y1 : Fin 1024) := by
    apply Fin.ext; blk_simp [idx t]
  rw [h0, h1]
  refine (out16_at _ _ _ _ _ _ _ _ _ _ _ y0 y1).trans ?_
  have e0 := blk0 m c t y0
  generalize iblk m c 0 t = x0 at e0 ⊢
  have e1 := blk1 m c t y0
  generalize iblk m c 1 t = x1 at e1 ⊢
  have e2 := blk2 m c t y0
  generalize iblk m c 2 t = x2 at e2 ⊢
  have e3 := blk3 m c t y0
  generalize iblk m c 3 t = x3 at e3 ⊢
  have e4 := blk4 m c t
  generalize iblk m c 4 t = x4 at e4 ⊢
  have e5 := blk5 m c t
  generalize iblk m c 5 t = x5 at e5 ⊢
  have e6 := blk6 m c t
  generalize iblk m c 6 t = x6 at e6 ⊢
  have e7 := blk7 m c t
  generalize iblk m c 7 t = x7 at e7 ⊢
  have e8 := blk8 m c t y0
  generalize iblk m c 8 t = x8 at e8 ⊢
  have e9 := blk9 m c t
  generalize iblk m c 9 t = x9 at e9 ⊢
  simp only [g16, ← e0, ← e1, ← e2, ← e4, ← e5, ← e6, ← e7, ← e8, ← e9, e3]

/-- The same, normed. -/
def g17 (a0 : FVec Ideal S4096x1024 .bf16) (a1 : FVec Ideal S4096x512 .bf16) (a2 : FVec Ideal S4096x512 .bf16) (a3 : FVec Ideal S4096x3072 .bf16) (a4 : FVec Ideal S1024x1024 .bf16) (a5 : FVec Ideal S512x1024 .bf16) (a6 : FVec Ideal S512x1024 .bf16) (a7 : FVec Ideal S1024x1024 .bf16) (a8 : FVec Ideal S4096x1024 .f32) (a9 : FVec Ideal S1x1024 .f32) (a10 : FVec Ideal S1x1024 .f32) (r : Fin 4096) (c : Fin 1024) : EReal := (nrm (close (mm (merged (mm (fun k => a0 (ix2 r k)) (fun k c => a4 (ix2 k c))) (mm (fun k => a1 (ix2 r k)) (fun k c => a5 (ix2 k c))) (mm (fun k => a2 (ix2 r k)) (fun k c => a6 (ix2 k c))) (part 0 (fun k => a3 (ix2 r k))) (part 1 (fun k => a3 (ix2 r k))) (part 2 (fun k => a3 (ix2 r k)))) (fun k c => a7 (ix2 k c))) (fun k => a8 (ix2 r k)) (fun c => a9 (ix2 0 c))) (fun c => a10 (ix2 0 c))) c

theorem out17_at (r : Fin 512) (c : Fin 1024) :
    out0_17 (F := Ideal) x0 x1 x2 x3 x4 x5 x6 x7 x8 x9 x10 (ix2 r c) = (nrm (close (mm (merged (mm (fun k => x0 (ix2 r k)) (fun k c => x4 (ix2 k c))) (mm (fun k => x1 (ix2 r k)) (fun k c => x5 (ix2 k c))) (mm (fun k => x2 (ix2 r k)) (fun k c => x6 (ix2 k c))) (part 0 (fun k => x3 (ix2 r k))) (part 1 (fun k => x3 (ix2 r k))) (part 2 (fun k => x3 (ix2 r k)))) (fun k c => x7 (ix2 k c))) (fun k => x8 (ix2 r k)) (fun c => x9 (ix2 0 c))) (fun c => x10 (ix2 0 c))) c := by
  frame_out
  canon_tiles y hy
  all_goals (idx_vars y; try simp only [pay20_eq, pay12_eq])
  all_goals obtain rfl := Fin.ext hy1
  case piece0 =>
    refine store17 _ _ _ _ _ _ _ _ _ _ _ 1 _ _ _ _ _ _ _ _ _ _ _ _ _ ?_ ?_ ?_ ?_ ?_ ?_ ?_ ?_ ?_ ?_ ?_ ?_ ?_ _ _ _ ?_
    all_goals first | (simp at hy0 ⊢; omega; done) | omega | (intro r k; rfl) | (intro r; rfl) | (intro r k; pointwise; done) | (intro r; pointwise; done) | (intro r k; pointwise; blk_ext) | (intro r; pointwise; blk_ext)
  case piece1 =>
    refine store17 _ _ _ _ _ _ _ _ _ _ _ 0 _ _ _ _ _ _ _ _ _ _ _ _ _ ?_ ?_ ?_ ?_ ?_ ?_ ?_ ?_ ?_ ?_ ?_ ?_ ?_ _ _ _ ?_
    all_goals first | (simp at hy0 ⊢; omega; done) | omega | (intro r k; rfl) | (intro r; rfl) | (intro r k; pointwise; done) | (intro r; pointwise; done) | (intro r k; pointwise; blk_ext) | (intro r; pointwise; blk_ext)

theorem final17 (c : Dev nD) : (dats m 0 c).arrAt 17 cfg0.N = fun y : S4096x1024.Idx => g17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (y 0) (y 1) := by
  refine (dats m 0 c).arrAt_eq_of_covers 17 _ (by decide +kernel) fun t hf y => ?_
  blk_simp
  rw [after0_17]
  idx_vars y
  have h0 : (win0_17.blk t).view.emb (ix2 y0 y1) 0 = (⟨t.val * 512 + y0.val, row_lt t y0⟩ : Fin 4096) := by
    apply Fin.ext; blk_simp [idx t]
  have h1 : (win0_17.blk t).view.emb (ix2 y0 y1) 1 = (y1 : Fin 1024) := by
    apply Fin.ext; blk_simp [idx t]
  rw [h0, h1]
  refine (out17_at _ _ _ _ _ _ _ _ _ _ _ y0 y1).trans ?_
  have e0 := blk0 m c t y0
  generalize iblk m c 0 t = x0 at e0 ⊢
  have e1 := blk1 m c t y0
  generalize iblk m c 1 t = x1 at e1 ⊢
  have e2 := blk2 m c t y0
  generalize iblk m c 2 t = x2 at e2 ⊢
  have e3 := blk3 m c t y0
  generalize iblk m c 3 t = x3 at e3 ⊢
  have e4 := blk4 m c t
  generalize iblk m c 4 t = x4 at e4 ⊢
  have e5 := blk5 m c t
  generalize iblk m c 5 t = x5 at e5 ⊢
  have e6 := blk6 m c t
  generalize iblk m c 6 t = x6 at e6 ⊢
  have e7 := blk7 m c t
  generalize iblk m c 7 t = x7 at e7 ⊢
  have e8 := blk8 m c t y0
  generalize iblk m c 8 t = x8 at e8 ⊢
  have e9 := blk9 m c t
  generalize iblk m c 9 t = x9 at e9 ⊢
  have e10 := blk10 m c t
  generalize iblk m c 10 t = x10 at e10 ⊢
  simp only [g17, ← e0, ← e1, ← e2, ← e4, ← e5, ← e6, ← e7, ← e8, ← e9, ← e10, e3]

end kernel

end Cert.TailFwdIdeal.Value

namespace Cert.TailFwdRefIdeal.Value

open Cert.TailFwdRefIdeal Cert.TailFwdRefIdeal.Gen Idealize.ShloMosaic Idealize.ShloMosaic.TcCoe Idealize.SL.Sem Cert.Norm Cert.Step
open Cert.TailFwdIdeal.Value (part merged close)

/-! The reference, cut at the values it reads more than once. -/

/-- The projections. -/
def pa (x : FVec Ideal S4096x1024 .bf16) (w : FVec Ideal S1024x1024 .bf16) : FVec Ideal S4096x1024 .f32 := Host.dotGeneral dot_S4096x1024_S1024x1024_S4096x1024_1_0_0_1_n_n none (extf .f32 x bitsLt_bf16_f32) (extf .f32 w bitsLt_bf16_f32)
def pb (x : FVec Ideal S4096x512 .bf16) (w : FVec Ideal S512x1024 .bf16) : FVec Ideal S4096x1024 .f32 := Host.dotGeneral dot_S4096x512_S512x1024_S4096x1024_1_0_0_1_n_n none (extf .f32 x bitsLt_bf16_f32) (extf .f32 w bitsLt_bf16_f32)
def po (x : FVec Ideal S4096x1024 .f32) (w : FVec Ideal S1024x1024 .bf16) : FVec Ideal S4096x1024 .f32 := Host.dotGeneral dot_S4096x1024_S1024x1024_S4096x1024_1_0_0_1_n_n none x (extf .f32 w bitsLt_bf16_f32)
/-- The gates, through the logistic function. -/
def sg (g : FVec Ideal S4096x3072 .bf16) : FVec Ideal S4096x3x1024 .f32 :=
  (Host.divf (broadcastInDim S4096x3x1024 ![] bcast_S_S4096x3x1024 (constant S_ .f32 0x3F800000#32)) (addf (broadcastInDim S4096x3x1024 ![] bcast_S_S4096x3x1024 (constant S_ .f32 0x3F800000#32)) (Host.exp (Host.negf (shapeCast _ (extf .f32 g bitsLt_bf16_f32) shapeCasts_S4096x3072_S4096x3x1024)))))
/-- The gated sum. -/
def gated (G : FVec Ideal S4096x3x1024 .f32) (a b d : FVec Ideal S4096x1024 .f32) : FVec Ideal S4096x1024 .f32 := addf (addf (mulf (shapeCast _ (extractStridedSlice S4096x1x1024 ![0, 0, 0] G slices_S4096x3x1024_S4096x1x1024_0_0_0) shapeCasts_S4096x1x1024_S4096x1024) a) (mulf (shapeCast _ (extractStridedSlice S4096x1x1024 ![0, 1, 0] G slices_S4096x3x1024_S4096x1x1024_0_1_0) shapeCasts_S4096x1x1024_S4096x1024) b)) (mulf (shapeCast _ (extractStridedSlice S4096x1x1024 ![0, 2, 0] G slices_S4096x3x1024_S4096x1x1024_0_2_0) shapeCasts_S4096x1x1024_S4096x1024) d)
/-- The mean square of each row, and the small constant. -/
def msq (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
/-- The norm with its gain. -/
def normed (x : FVec Ideal S4096x1024 .f32) (g : FVec Ideal S1x1024 .f32) : FVec Ideal S4096x1024 .f32 :=
  mulf (mulf x (broadcastInDim S4096x1024 ![0, 1] bcast_S4096x1_S4096x1024_0_1 (Host.rsqrt (msq x)))) (broadcastInDim S4096x1024 ![0, 1] bcast_S1x1024_S4096x1024_0_1 g)
/-- A change of format. -/
def narrow (x : FVec Ideal S4096x1024 .f32) : FVec Ideal S4096x1024 .bf16 := truncf .bf16 x bitsLt_bf16_f32

theorem pa_at (x : FVec Ideal S4096x1024 .bf16) (w : FVec Ideal S1024x1024 .bf16) (r : Fin 4096) (c : Fin 1024) : pa x w (ix2 r c) = (mm (fun k => x (ix2 r k)) (fun k c => w (ix2 k c))) c := by
  pointwise [pa]
  rfl
theorem pb_at (x : FVec Ideal S4096x512 .bf16) (w : FVec Ideal S512x1024 .bf16) (r : Fin 4096) (c : Fin 1024) : pb x w (ix2 r c) = (mm (fun k => x (ix2 r k)) (fun k c => w (ix2 k c))) c := by
  pointwise [pb]
  rfl
theorem po_at (x : FVec Ideal S4096x1024 .f32) (w : FVec Ideal S1024x1024 .bf16) (r : Fin 4096) (c : Fin 1024) : po x w (ix2 r c) = (mm (fun k => x (ix2 r k)) (fun k c => w (ix2 k c))) c := by
  pointwise [po]
  rfl
theorem sg_at (g : FVec Ideal S4096x3072 .bf16) (r : Fin 4096) (b : Fin 3) (c : Fin 1024) :
    sg g (ix3 r b c) = Cert.OutDxIdeal.Value.lgs (part b (fun k => g (ix2 r k)) c) := by
  pointwise [sg]
  exact Cert.OutDx.Claims.logistic_eq _
theorem gated_at (G : FVec Ideal S4096x3x1024 .f32) (a b d : FVec Ideal S4096x1024 .f32) (r : Fin 4096) (c : Fin 1024) :
    gated G a b d (ix2 r c) = G (ix3 r 0 c) * a (ix2 r c) + G (ix3 r 1 c) * b (ix2 r c) + G (ix3 r 2 c) * d (ix2 r c) := by
  pointwise [gated]
theorem msq_at (x : FVec Ideal S4096x1024 .f32) (r : Fin 4096) : msq x (ix2 r 0) = ms (fun k => x (ix2 r k)) := by
  pointwise [msq]; rfl
theorem rsq_at (x : FVec Ideal S4096x1024 .f32) (r : Fin 4096) : Host.rsqrt (F := Ideal) (msq x) (ix2 r 0) = rn (fun k => x (ix2 r k)) := by
  pointwise
  rw [msq_at]; rfl
theorem normed_at (x : FVec Ideal S4096x1024 .f32) (g : FVec Ideal S1x1024 .f32) (r : Fin 4096) (c : Fin 1024) : normed x g (ix2 r c) = nrm (fun k => x (ix2 r k)) (fun k => g (ix2 0 k)) c := by
  rw [nrm, ← rsq_at, normed]
  generalize Host.rsqrt (F := Ideal) (msq x) = R
  pointwise
theorem narrow_at (x : FVec Ideal S4096x1024 .f32) (r : Fin 4096) (c : Fin 1024) : narrow x (ix2 r c) = x (ix2 r c) := by
  pointwise [narrow]
theorem add_at (x y : FVec Ideal S4096x1024 .f32) (r : Fin 4096) (c : Fin 1024) : addf x y (ix2 r c) = x (ix2 r c) + y (ix2 r c) := by
  pointwise

section whole
variable (a0 : FVec Ideal S4096x1024 .bf16) (a1 : FVec Ideal S4096x512 .bf16) (a2 : FVec Ideal S4096x512 .bf16) (a3 : FVec Ideal S4096x3072 .bf16) (a4 : FVec Ideal S1024x1024 .bf16) (a5 : FVec Ideal S512x1024 .bf16) (a6 : FVec Ideal S512x1024 .bf16) (a7 : FVec Ideal S1024x1024 .bf16) (a8 : FVec Ideal S4096x1024 .f32) (a9 : FVec Ideal S1x1024 .f32) (a10 : FVec Ideal S1x1024 .f32)
/-- The gated sum, whole. -/
def rm : FVec Ideal S4096x1024 .f32 := gated (sg a3) (pa a0 a4) (pb a1 a5) (pb a2 a6)
/-- The residual stream, whole. -/
def rx : FVec Ideal S4096x1024 .f32 := addf a8 (normed (po (rm a0 a1 a2 a3 a4 a5 a6) a7) a9)

theorem r14_at (r : Fin 4096) (c : Fin 1024) : rm a0 a1 a2 a3 a4 a5 a6 (ix2 r c) = Cert.TailFwdIdeal.Value.g14 a0 a1 a2 a3 a4 a5 a6 r c := by
  rw [rm, gated_at, sg_at, sg_at, sg_at, pa_at, pb_at, pb_at]
  rfl
theorem r15_at (r : Fin 4096) (c : Fin 1024) : po (rm a0 a1 a2 a3 a4 a5 a6) a7 (ix2 r c) = Cert.TailFwdIdeal.Value.g15 a0 a1 a2 a3 a4 a5 a6 a7 r c := by
  rw [po_at]
  simp only [r14_at]
  rfl
theorem r16_at (r : Fin 4096) (c : Fin 1024) : rx a0 a1 a2 a3 a4 a5 a6 a7 a8 a9 (ix2 r c) = Cert.TailFwdIdeal.Value.g16 a0 a1 a2 a3 a4 a5 a6 a7 a8 a9 r c := by
  rw [rx, add_at, normed_at]
  simp only [r15_at]
  rfl
theorem r17_at (r : Fin 4096) (c : Fin 1024) : narrow (normed (rx a0 a1 a2 a3 a4 a5 a6 a7 a8 a9) a10) (ix2 r c) = Cert.TailFwdIdeal.Value.g17 a0 a1 a2 a3 a4 a5 a6 a7 a8 a9 a10 r c := by
  rw [narrow_at, normed_at]
  simp only [r16_at]
  rfl
end whole

end Cert.TailFwdRefIdeal.Value

namespace Cert.TailFwd.Claims

open Idealize.ShloMosaic Idealize.SL.Sem

/-- The reference runs and keeps its arguments. -/
theorem frameR : quiescent_TailFwdRefIdeal := by
  intro m ρ _
  exact (θ_run Cert.TailFwdRefIdeal.defs _ _).mono (fun r h => ⟨fun c => (h c).2.2.2.2.2.2.2, sem_eq_zero_of_no_sems (by decide) r.2⟩) (Cert.TailFwdRefIdeal.Value.run m ρ)

set_option maxHeartbeats 4000000 in
/-- The kernel's results are the reference's. -/
theorem algebraic : algebraic_TailFwdIdeal_TailFwdRefIdeal := fun m ρ m' ρ' _ hag =>
  ⟨_, _, _, _, _, _, _,
    (θ_run _ _ _).mono (fun _ h c => ⟨(h c).1.trans (Cert.TailFwdIdeal.Value.final11 m c), (h c).2.1.trans (Cert.TailFwdIdeal.Value.final12 m c), (h c).2.2.1.trans (Cert.TailFwdIdeal.Value.final13 m c), (h c).2.2.2.1.trans (Cert.TailFwdIdeal.Value.final14 m c), (h c).2.2.2.2.1.trans (Cert.TailFwdIdeal.Value.final15 m c), (h c).2.2.2.2.2.1.trans (Cert.TailFwdIdeal.Value.final16 m c), (h c).2.2.2.2.2.2.1.trans (Cert.TailFwdIdeal.Value.final17 m c), (h c).2.2.2.2.2.2.2⟩)
      (Cert.TailFwdIdeal.Value.run_blocks m ρ),
    (θ_run _ _ _).mono (fun _ h c => by
        refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩
        · show Cert.TailFwdRefIdeal.Value.narrow (Cert.TailFwdRefIdeal.Value.pa (m' ((c.tc : Thread Cert.TailFwdRefIdeal.nD Cert.TailFwdRefIdeal.τ).loc Cert.TailFwdRefIdeal.main_arg0)) (m' ((c.tc : Thread Cert.TailFwdRefIdeal.nD Cert.TailFwdRefIdeal.τ).loc Cert.TailFwdRefIdeal.main_arg4))) = _
          rw [(hag c).1, (hag c).2.2.2.2.1]
          funext y
          idx_vars y
          exact (Cert.TailFwdRefIdeal.Value.narrow_at _ y0 y1).trans (Cert.TailFwdRefIdeal.Value.pa_at _ _ y0 y1)
        · show Cert.TailFwdRefIdeal.Value.narrow (Cert.TailFwdRefIdeal.Value.pb (m' ((c.tc : Thread Cert.TailFwdRefIdeal.nD Cert.TailFwdRefIdeal.τ).loc Cert.TailFwdRefIdeal.main_arg1)) (m' ((c.tc : Thread Cert.TailFwdRefIdeal.nD Cert.TailFwdRefIdeal.τ).loc Cert.TailFwdRefIdeal.main_arg5))) = _
          rw [(hag c).2.1, (hag c).2.2.2.2.2.1]
          funext y
          idx_vars y
          exact (Cert.TailFwdRefIdeal.Value.narrow_at _ y0 y1).trans (Cert.TailFwdRefIdeal.Value.pb_at _ _ y0 y1)
        · show Cert.TailFwdRefIdeal.Value.narrow (Cert.TailFwdRefIdeal.Value.pb (m' ((c.tc : Thread Cert.TailFwdRefIdeal.nD Cert.TailFwdRefIdeal.τ).loc Cert.TailFwdRefIdeal.main_arg2)) (m' ((c.tc : Thread Cert.TailFwdRefIdeal.nD Cert.TailFwdRefIdeal.τ).loc Cert.TailFwdRefIdeal.main_arg6))) = _
          rw [(hag c).2.2.1, (hag c).2.2.2.2.2.2.1]
          funext y
          idx_vars y
          exact (Cert.TailFwdRefIdeal.Value.narrow_at _ y0 y1).trans (Cert.TailFwdRefIdeal.Value.pb_at _ _ y0 y1)
        · show Cert.TailFwdRefIdeal.Value.narrow (Cert.TailFwdRefIdeal.Value.rm (m' ((c.tc : Thread Cert.TailFwdRefIdeal.nD Cert.TailFwdRefIdeal.τ).loc Cert.TailFwdRefIdeal.main_arg0)) (m' ((c.tc : Thread Cert.TailFwdRefIdeal.nD Cert.TailFwdRefIdeal.τ).loc Cert.TailFwdRefIdeal.main_arg1)) (m' ((c.tc : Thread Cert.TailFwdRefIdeal.nD Cert.TailFwdRefIdeal.τ).loc Cert.TailFwdRefIdeal.main_arg2)) (m' ((c.tc : Thread Cert.TailFwdRefIdeal.nD Cert.TailFwdRefIdeal.τ).loc Cert.TailFwdRefIdeal.main_arg3)) (m' ((c.tc : Thread Cert.TailFwdRefIdeal.nD Cert.TailFwdRefIdeal.τ).loc Cert.TailFwdRefIdeal.main_arg4)) (m' ((c.tc : Thread Cert.TailFwdRefIdeal.nD Cert.TailFwdRefIdeal.τ).loc Cert.TailFwdRefIdeal.main_arg5)) (m' ((c.tc : Thread Cert.TailFwdRefIdeal.nD Cert.TailFwdRefIdeal.τ).loc Cert.TailFwdRefIdeal.main_arg6))) = _
          rw [(hag c).1, (hag c).2.1, (hag c).2.2.1, (hag c).2.2.2.1, (hag c).2.2.2.2.1, (hag c).2.2.2.2.2.1, (hag c).2.2.2.2.2.2.1]
          funext y
          idx_vars y
          exact (Cert.TailFwdRefIdeal.Value.narrow_at _ y0 y1).trans (Cert.TailFwdRefIdeal.Value.r14_at _ _ _ _ _ _ _ y0 y1)
        · show Cert.TailFwdRefIdeal.Value.po (Cert.TailFwdRefIdeal.Value.rm (m' ((c.tc : Thread Cert.TailFwdRefIdeal.nD Cert.TailFwdRefIdeal.τ).loc Cert.TailFwdRefIdeal.main_arg0)) (m' ((c.tc : Thread Cert.TailFwdRefIdeal.nD Cert.TailFwdRefIdeal.τ).loc Cert.TailFwdRefIdeal.main_arg1)) (m' ((c.tc : Thread Cert.TailFwdRefIdeal.nD Cert.TailFwdRefIdeal.τ).loc Cert.TailFwdRefIdeal.main_arg2)) (m' ((c.tc : Thread Cert.TailFwdRefIdeal.nD Cert.TailFwdRefIdeal.τ).loc Cert.TailFwdRefIdeal.main_arg3)) (m' ((c.tc : Thread Cert.TailFwdRefIdeal.nD Cert.TailFwdRefIdeal.τ).loc Cert.TailFwdRefIdeal.main_arg4)) (m' ((c.tc : Thread Cert.TailFwdRefIdeal.nD Cert.TailFwdRefIdeal.τ).loc Cert.TailFwdRefIdeal.main_arg5)) (m' ((c.tc : Thread Cert.TailFwdRefIdeal.nD Cert.TailFwdRefIdeal.τ).loc Cert.TailFwdRefIdeal.main_arg6))) (m' ((c.tc : Thread Cert.TailFwdRefIdeal.nD Cert.TailFwdRefIdeal.τ).loc Cert.TailFwdRefIdeal.main_arg7)) = _
          rw [(hag c).1, (hag c).2.1, (hag c).2.2.1, (hag c).2.2.2.1, (hag c).2.2.2.2.1, (hag c).2.2.2.2.2.1, (hag c).2.2.2.2.2.2.1, (hag c).2.2.2.2.2.2.2.1]
          funext y
          idx_vars y
          exact Cert.TailFwdRefIdeal.Value.r15_at _ _ _ _ _ _ _ _ y0 y1
        · show (Cert.TailFwdRefIdeal.Value.rx (m' ((c.tc : Thread Cert.TailFwdRefIdeal.nD Cert.TailFwdRefIdeal.τ).loc Cert.TailFwdRefIdeal.main_arg0)) (m' ((c.tc : Thread Cert.TailFwdRefIdeal.nD Cert.TailFwdRefIdeal.τ).loc Cert.TailFwdRefIdeal.main_arg1)) (m' ((c.tc : Thread Cert.TailFwdRefIdeal.nD Cert.TailFwdRefIdeal.τ).loc Cert.TailFwdRefIdeal.main_arg2)) (m' ((c.tc : Thread Cert.TailFwdRefIdeal.nD Cert.TailFwdRefIdeal.τ).loc Cert.TailFwdRefIdeal.main_arg3)) (m' ((c.tc : Thread Cert.TailFwdRefIdeal.nD Cert.TailFwdRefIdeal.τ).loc Cert.TailFwdRefIdeal.main_arg4)) (m' ((c.tc : Thread Cert.TailFwdRefIdeal.nD Cert.TailFwdRefIdeal.τ).loc Cert.TailFwdRefIdeal.main_arg5)) (m' ((c.tc : Thread Cert.TailFwdRefIdeal.nD Cert.TailFwdRefIdeal.τ).loc Cert.TailFwdRefIdeal.main_arg6)) (m' ((c.tc : Thread Cert.TailFwdRefIdeal.nD Cert.TailFwdRefIdeal.τ).loc Cert.TailFwdRefIdeal.main_arg7)) (m' ((c.tc : Thread Cert.TailFwdRefIdeal.nD Cert.TailFwdRefIdeal.τ).loc Cert.TailFwdRefIdeal.main_arg8)) (m' ((c.tc : Thread Cert.TailFwdRefIdeal.nD Cert.TailFwdRefIdeal.τ).loc Cert.TailFwdRefIdeal.main_arg9))) = _
          rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1]
          funext y
          idx_vars y
          exact Cert.TailFwdRefIdeal.Value.r16_at _ _ _ _ _ _ _ _ _ _ y0 y1
        · show Cert.TailFwdRefIdeal.Value.narrow (Cert.TailFwdRefIdeal.Value.normed (Cert.TailFwdRefIdeal.Value.rx (m' ((c.tc : Thread Cert.TailFwdRefIdeal.nD Cert.TailFwdRefIdeal.τ).loc Cert.TailFwdRefIdeal.main_arg0)) (m' ((c.tc : Thread Cert.TailFwdRefIdeal.nD Cert.TailFwdRefIdeal.τ).loc Cert.TailFwdRefIdeal.main_arg1)) (m' ((c.tc : Thread Cert.TailFwdRefIdeal.nD Cert.TailFwdRefIdeal.τ).loc Cert.TailFwdRefIdeal.main_arg2)) (m' ((c.tc : Thread Cert.TailFwdRefIdeal.nD Cert.TailFwdRefIdeal.τ).loc Cert.TailFwdRefIdeal.main_arg3)) (m' ((c.tc : Thread Cert.TailFwdRefIdeal.nD Cert.TailFwdRefIdeal.τ).loc Cert.TailFwdRefIdeal.main_arg4)) (m' ((c.tc : Thread Cert.TailFwdRefIdeal.nD Cert.TailFwdRefIdeal.τ).loc Cert.TailFwdRefIdeal.main_arg5)) (m' ((c.tc : Thread Cert.TailFwdRefIdeal.nD Cert.TailFwdRefIdeal.τ).loc Cert.TailFwdRefIdeal.main_arg6)) (m' ((c.tc : Thread Cert.TailFwdRefIdeal.nD Cert.TailFwdRefIdeal.τ).loc Cert.TailFwdRefIdeal.main_arg7)) (m' ((c.tc : Thread Cert.TailFwdRefIdeal.nD Cert.TailFwdRefIdeal.τ).loc Cert.TailFwdRefIdeal.main_arg8)) (m' ((c.tc : Thread Cert.TailFwdRefIdeal.nD Cert.TailFwdRefIdeal.τ).loc Cert.TailFwdRefIdeal.main_arg9))) (m' ((c.tc : Thread Cert.TailFwdRefIdeal.nD Cert.TailFwdRefIdeal.τ).loc Cert.TailFwdRefIdeal.main_arg10))) = _
          rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2]
          funext y
          idx_vars y
          exact Cert.TailFwdRefIdeal.Value.r17_at _ _ _ _ _ _ _ _ _ _ _ y0 y1)
      (Cert.TailFwdRefIdeal.Value.run m' ρ')⟩

end Cert.TailFwd.Claims
-- ==== Proof.NormFwdProof.lean ====
module

public import proofs.«01_k».proof.Proof.Gen.NormFwdIdeal.Value
public import proofs.«01_k».proof.Proof.Gen.NormFwdRefIdeal.Run
public import proofs.«01_k».proof.Defs
public import Idealize.ShloMosaic.Lib.Pointwise
public import Idealize.ShloMosaic.Lib.Pipeline.ValueKit
public import Idealize.ShloMosaic.Lib.Pipeline.ReadBack
public import Idealize.ShloMosaic.Adequacy
public import proofs.«01_k».proof.Proof.Step

@[expose] public section

set_option maxRecDepth 16384

noncomputable section

namespace Cert.NormFwdIdeal.Value

open Cert.NormFwdIdeal Cert.NormFwdIdeal.Gen Idealize.ShloMosaic Idealize.ShloMosaic.TcCoe Idealize.SL.Sem
open Idealize.ShloMosaic.Pipeline Cert.Norm Cert.Step

/-! The norm that begins the step, eight blocks of 512 rows. -/

/-- A normed row with its gain. -/
def gn (x : FVec Ideal S4096x1024 .f32) (g : FVec Ideal S1x1024 .f32) (r : Fin 4096) (c : Fin 1024) : EReal :=
  nrm (fun k => x (ix2 r k)) (fun k => g (ix2 0 k)) c

theorem idx : ∀ t : Fin cfg0.N, win0_0.index t = ![t.val, 0] ∧ win0_1.index t = ![0, 0] ∧ win0_2.index t = ![t.val, 0] :=
  (by decide +kernel : ∀ t : Fin grid0.N, _)

theorem pay1_at (x : FVec Ideal S512x1024 .f32) (g : FVec Ideal S1x1024 .f32) (r : Fin 512) (c : Fin 1024) :
    k0_pay1 (F := Ideal) x g (ix2 r c) = nrm (fun k => x (ix2 r k)) (fun k => g (ix2 0 k)) c := by
  pointwise [k0_pay1]
  rfl

variable (m : (ℓ : Loc nD τ sig) → Buf (Elt Ideal) ℓ)

theorem row_lt (t : Fin cfg0.N) (r : Fin 512) : t.val * 512 + r.val < 4096 := by
  have := lt_of_lt_of_eq t.isLt N_0; omega

theorem blk0 (c : Dev nD) (t : Fin cfg0.N) (r : Fin 512) (j : Fin 1024) :
    (show FVec Ideal S512x1024 .f32 from iblk m c 0 t) (ix2 r j) = m ((c : Thread nD τ).loc main_arg0) (ix2 ⟨t.val * 512 + r.val, row_lt t r⟩ j) := by
  blk_point [iblk, V, idx t]

theorem blk1 (c : Dev nD) (t : Fin cfg0.N) (j : Fin 1024) :
    (show FVec Ideal S1x1024 .f32 from iblk m c 1 t) (ix2 0 j) = m ((c : Thread nD τ).loc main_arg1) (ix2 0 j) := by
  blk_point [iblk, V, idx t]

theorem out_at (c : Dev nD) (t : Fin cfg0.N) (r : Fin 512) (j : Fin 1024) :
    out0_2 (F := Ideal) (iblk m c 0 t) (iblk m c 1 t) (ix2 r j) = gn (m ((c : Thread nD τ).loc main_arg0)) (m ((c : Thread nD τ).loc main_arg1)) (⟨t.val * 512 + r.val, row_lt t r⟩) j := by
  have e0 := blk0 m c t r
  have e1 := blk1 m c t
  frame_out
  generalize iblk m c 0 t = x0 at e0 ⊢
  generalize iblk m c 1 t = x1 at e1 ⊢
  rw [pay1_at]
  simp only [gn, ← e0, ← e1]

/-- The array the kernel leaves. -/
theorem final (c : Dev nD) : (dats m 0 c).arrAt 2 cfg0.N = fun y : S4096x1024.Idx => gn (m ((c : Thread nD τ).loc main_arg0)) (m ((c : Thread nD τ).loc main_arg1)) (y 0) (y 1) := by
  refine (dats m 0 c).arrAt_eq_of_covers 2 _ (by decide +kernel) fun t hf y => ?_
  blk_simp
  rw [after0_2]
  idx_vars y
  have h0 : (win0_2.blk t).view.emb (ix2 y0 y1) 0 = (⟨t.val * 512 + y0.val, row_lt t y0⟩ : Fin 4096) := by
    apply Fin.ext; blk_simp [idx t]
  have h1 : (win0_2.blk t).view.emb (ix2 y0 y1) 1 = (y1 : Fin 1024) := by
    apply Fin.ext; blk_simp [idx t]
  rw [h0, h1]
  exact out_at m c t y0 y1

end Cert.NormFwdIdeal.Value

namespace Cert.NormFwdRefIdeal.Value

open Cert.NormFwdRefIdeal Cert.NormFwdRefIdeal.Gen Idealize.ShloMosaic Idealize.ShloMosaic.TcCoe Idealize.SL.Sem

/-- The reference's normed rows. -/
def normed (x : FVec Ideal S4096x1024 .f32) (g : FVec Ideal S1x1024 .f32) : FVec Ideal S4096x1024 .bf16 :=
  truncf .bf16 (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g)) bitsLt_bf16_f32

theorem ref_at (x : FVec Ideal S4096x1024 .f32) (g : FVec Ideal S1x1024 .f32) (r : Fin 4096) (c : Fin 1024) :
    normed x g (ix2 r c) = Cert.NormFwdIdeal.Value.gn x g r c := by
  pointwise [normed]
  rfl

end Cert.NormFwdRefIdeal.Value

namespace Cert.NormFwd.Claims

open Idealize.ShloMosaic Idealize.SL.Sem

/-- The reference runs and keeps its arguments. -/
theorem frameR : quiescent_NormFwdRefIdeal := by
  intro m ρ _
  exact (θ_run Cert.NormFwdRefIdeal.defs _ _).mono (fun r h => ⟨fun c => (h c).2, sem_eq_zero_of_no_sems (by decide) r.2⟩) (Cert.NormFwdRefIdeal.Value.run m ρ)

/-- The kernel's result is the reference's. -/
theorem algebraic : algebraic_NormFwdIdeal_NormFwdRefIdeal := fun m ρ m' ρ' _ hag =>
  ⟨_,
    (θ_run _ _ _).mono (fun _ h c => ⟨(h c).1.trans (Cert.NormFwdIdeal.Value.final m c), (h c).2⟩)
      (Cert.NormFwdIdeal.Value.run_blocks m ρ),
    (θ_run _ _ _).mono (fun _ h c => by
        refine ⟨(h c).1.trans ?_, (h c).2⟩
        rw [(hag c).1, (hag c).2]
        funext y
        idx_vars y
        exact Cert.NormFwdRefIdeal.Value.ref_at _ _ y0 y1)
      (Cert.NormFwdRefIdeal.Value.run m' ρ')⟩

end Cert.NormFwd.Claims
-- ==== Proof.MemNormFwdProof.lean ====
module

public import proofs.«01_k».proof.Proof.Gen.MemNormFwdIdeal.Value
public import proofs.«01_k».proof.Proof.Gen.MemNormFwdRefIdeal.Run
public import proofs.«01_k».proof.Defs
public import Idealize.ShloMosaic.Lib.Pointwise
public import Idealize.ShloMosaic.Lib.Pipeline.ValueKit
public import Idealize.ShloMosaic.Lib.Pipeline.ReadBack
public import Idealize.ShloMosaic.Adequacy
public import proofs.«01_k».proof.Proof.Step

@[expose] public section

set_option maxRecDepth 16384

noncomputable section

namespace Cert.MemNormFwdIdeal.Value

open Cert.MemNormFwdIdeal Cert.MemNormFwdIdeal.Gen Idealize.ShloMosaic Idealize.ShloMosaic.TcCoe Idealize.SL.Sem
open Idealize.ShloMosaic.Pipeline Cert.Norm Cert.Step

/-! The memory's norm. -/

/-- A normed row with its gain. -/
def gn (x : FVec Ideal S256x1024 .f32) (g : FVec Ideal S1x1024 .f32) (r : Fin 256) (c : Fin 1024) : EReal :=
  nrm (fun k => x (ix2 r k)) (fun k => g (ix2 0 k)) c

theorem idx : ∀ t : Fin cfg0.N, win0_0.index t = ![0, 0] ∧ win0_1.index t = ![0, 0] ∧ win0_2.index t = ![0, 0] :=
  (by decide +kernel : ∀ t : Fin grid0.N, _)

theorem pay1_at (x : FVec Ideal S256x1024 .f32) (g : FVec Ideal S1x1024 .f32) (r : Fin 256) (c : Fin 1024) :
    k0_pay1 (F := Ideal) x g (ix2 r c) = nrm (fun k => x (ix2 r k)) (fun k => g (ix2 0 k)) c := by
  pointwise [k0_pay1]
  rfl

variable (m : (ℓ : Loc nD τ sig) → Buf (Elt Ideal) ℓ)

theorem blk0 (c : Dev nD) (t : Fin cfg0.N) (r : Fin 256) (j : Fin 1024) :
    (show FVec Ideal S256x1024 .f32 from iblk m c 0 t) (ix2 r j) = m ((c : Thread nD τ).loc main_arg0) (ix2 r j) := by
  blk_point [iblk, V, idx t]

theorem blk1 (c : Dev nD) (t : Fin cfg0.N) (j : Fin 1024) :
    (show FVec Ideal S1x1024 .f32 from iblk m c 1 t) (ix2 0 j) = m ((c : Thread nD τ).loc main_arg1) (ix2 0 j) := by
  blk_point [iblk, V, idx t]

theorem out_at (c : Dev nD) (t : Fin cfg0.N) (r : Fin 256) (j : Fin 1024) :
    out0_2 (F := Ideal) (iblk m c 0 t) (iblk m c 1 t) (ix2 r j) = gn (m ((c : Thread nD τ).loc main_arg0)) (m ((c : Thread nD τ).loc main_arg1)) r j := by
  have e0 := blk0 m c t r
  have e1 := blk1 m c t
  frame_out
  generalize iblk m c 0 t = x0 at e0 ⊢
  generalize iblk m c 1 t = x1 at e1 ⊢
  rw [pay1_at]
  simp only [gn, ← e0, ← e1]

/-- The array the kernel leaves. -/
theorem final (c : Dev nD) : (dats m 0 c).arrAt 2 cfg0.N = fun y : S256x1024.Idx => gn (m ((c : Thread nD τ).loc main_arg0)) (m ((c : Thread nD τ).loc main_arg1)) (y 0) (y 1) := by
  refine (dats m 0 c).arrAt_eq_of_covers 2 _ (by decide +kernel) fun t hf y => ?_
  blk_simp
  rw [after0_2]
  idx_vars y
  have h0 : (win0_2.blk t).view.emb (ix2 y0 y1) 0 = (y0 : Fin 256) := by
    apply Fin.ext; blk_simp [idx t]
  have h1 : (win0_2.blk t).view.emb (ix2 y0 y1) 1 = (y1 : Fin 1024) := by
    apply Fin.ext; blk_simp [idx t]
  rw [h0, h1]
  exact out_at m c t y0 y1

end Cert.MemNormFwdIdeal.Value

namespace Cert.MemNormFwdRefIdeal.Value

open Cert.MemNormFwdRefIdeal Cert.MemNormFwdRefIdeal.Gen Idealize.ShloMosaic Idealize.ShloMosaic.TcCoe Idealize.SL.Sem

/-- The reference's normed rows. -/
def normed (x : FVec Ideal S256x1024 .f32) (g : FVec Ideal S1x1024 .f32) : FVec Ideal S256x1024 .bf16 :=
  truncf .bf16 (mulf (mulf x (broadcastInDim S256x1024 ![0, 1] bcast_S256x1_S256x1024_0_1 (Host.rsqrt (addf (Host.divf (broadcastInDim S256x1 ![0] bcast_S256_S256x1_0 (Host.reduceAdd (mulf x x) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) (broadcastInDim S256x1024 ![0, 1] bcast_S1x1024_S256x1024_0_1 g)) bitsLt_bf16_f32

theorem ref_at (x : FVec Ideal S256x1024 .f32) (g : FVec Ideal S1x1024 .f32) (r : Fin 256) (c : Fin 1024) :
    normed x g (ix2 r c) = Cert.MemNormFwdIdeal.Value.gn x g r c := by
  pointwise [normed]
  rfl

end Cert.MemNormFwdRefIdeal.Value

namespace Cert.MemNormFwd.Claims

open Idealize.ShloMosaic Idealize.SL.Sem

/-- The reference runs and keeps its arguments. -/
theorem frameR : quiescent_MemNormFwdRefIdeal := by
  intro m ρ _
  exact (θ_run Cert.MemNormFwdRefIdeal.defs _ _).mono (fun r h => ⟨fun c => (h c).2, sem_eq_zero_of_no_sems (by decide) r.2⟩) (Cert.MemNormFwdRefIdeal.Value.run m ρ)

/-- The kernel's result is the reference's. -/
theorem algebraic : algebraic_MemNormFwdIdeal_MemNormFwdRefIdeal := fun m ρ m' ρ' _ hag =>
  ⟨_,
    (θ_run _ _ _).mono (fun _ h c => ⟨(h c).1.trans (Cert.MemNormFwdIdeal.Value.final m c), (h c).2⟩)
      (Cert.MemNormFwdIdeal.Value.run_blocks m ρ),
    (θ_run _ _ _).mono (fun _ h c => by
        refine ⟨(h c).1.trans ?_, (h c).2⟩
        rw [(hag c).1, (hag c).2]
        funext y
        idx_vars y
        exact Cert.MemNormFwdRefIdeal.Value.ref_at _ _ y0 y1)
      (Cert.MemNormFwdRefIdeal.Value.run m' ρ')⟩

end Cert.MemNormFwd.Claims
-- ==== Proof.MemKvProof.lean ====
module

public import proofs.«01_k».proof.Proof.Gen.MemKvIdeal.Value
public import proofs.«01_k».proof.Proof.Gen.MemKvRefIdeal.Run
public import proofs.«01_k».proof.Defs
public import Idealize.ShloMosaic.Lib.Pointwise
public import Idealize.ShloMosaic.Lib.Pipeline.ValueKit
public import Idealize.ShloMosaic.Lib.Pipeline.ReadBack
public import Idealize.ShloMosaic.Adequacy

@[expose] public section

set_option maxRecDepth 16384

noncomputable section

namespace Cert.MemKvIdeal.Value

open Cert.MemKvIdeal Cert.MemKvIdeal.Gen Idealize.ShloMosaic Idealize.ShloMosaic.TcCoe Idealize.SL.Sem
open Idealize.ShloMosaic.Pipeline

/-! The memory's keys and values. -/

/-- The product at row `r` and column `c`. -/
def prod (a : FVec Ideal S256x1024 .bf16) (b : FVec Ideal S1024x1024 .bf16) (r : Fin 256) (c : Fin 1024) : EReal :=
  ∑ k : Fin 1024, a (ix2 r k) * b (ix2 k c)

theorem idx : ∀ t : Fin cfg0.N, win0_0.index t = ![0, 0] ∧ win0_1.index t = ![0, 0] ∧ win0_2.index t = ![0, 0] :=
  (by decide +kernel : ∀ t : Fin grid0.N, _)

theorem pay1_at (a : FVec Ideal S256x1024 .bf16) (b : FVec Ideal S1024x1024 .bf16) (r : Fin 256) (c : Fin 1024) :
    k0_pay1 (F := Ideal) a b (ix2 r c) = prod a b r c := by
  pointwise [k0_pay1]
  rfl

variable (m : (ℓ : Loc nD τ sig) → Buf (Elt Ideal) ℓ)

theorem blk0 (c : Dev nD) (t : Fin cfg0.N) (r : Fin 256) (k : Fin 1024) :
    (show FVec Ideal S256x1024 .bf16 from iblk m c 0 t) (ix2 r k) = m ((c : Thread nD τ).loc main_arg0) (ix2 r k) := by
  blk_point [iblk, V, idx t]

theorem blk1 (c : Dev nD) (t : Fin cfg0.N) (r : Fin 1024) (k : Fin 1024) :
    (show FVec Ideal S1024x1024 .bf16 from iblk m c 1 t) (ix2 r k) = m ((c : Thread nD τ).loc main_arg1) (ix2 r k) := by
  blk_point [iblk, V, idx t]

theorem out_at (c : Dev nD) (t : Fin cfg0.N) (r : Fin 256) (j : Fin 1024) :
    out0_2 (F := Ideal) (iblk m c 0 t) (iblk m c 1 t) (ix2 r j) = prod (m ((c : Thread nD τ).loc main_arg0)) (m ((c : Thread nD τ).loc main_arg1)) r j := by
  have e0 := blk0 m c t
  have e1 := blk1 m c t
  frame_out
  generalize iblk m c 0 t = x0 at e0 ⊢
  generalize iblk m c 1 t = x1 at e1 ⊢
  rw [pay1_at]
  exact Finset.sum_congr rfl fun k _ => by rw [← e0, ← e1]

/-- The array the kernel leaves. -/
theorem final (c : Dev nD) : (dats m 0 c).arrAt 2 cfg0.N = fun y : S256x1024.Idx => prod (m ((c : Thread nD τ).loc main_arg0)) (m ((c : Thread nD τ).loc main_arg1)) (y 0) (y 1) := by
  refine (dats m 0 c).arrAt_eq_of_covers 2 _ (by decide +kernel) fun t hf y => ?_
  blk_simp
  rw [after0_2]
  idx_vars y
  have h0 : (win0_2.blk t).view.emb (ix2 y0 y1) 0 = (y0 : Fin 256) := by
    apply Fin.ext; blk_simp [idx t]
  have h1 : (win0_2.blk t).view.emb (ix2 y0 y1) 1 = (y1 : Fin 1024) := by
    apply Fin.ext; blk_simp [idx t]
  rw [h0, h1]
  exact out_at m c t y0 y1

end Cert.MemKvIdeal.Value

namespace Cert.MemKvRefIdeal.Value

open Cert.MemKvRefIdeal Cert.MemKvRefIdeal.Gen Idealize.ShloMosaic Idealize.ShloMosaic.TcCoe Idealize.SL.Sem

/-- The reference's result is the same sum. -/
theorem ref_at (a : FVec Ideal S256x1024 .bf16) (b : FVec Ideal S1024x1024 .bf16) (r : Fin 256) (c : Fin 1024) :
    (truncf .bf16 (Host.dotGeneral dot_S256x1024_S1024x1024_S256x1024_1_0_0_1_n_n none (extf .f32 a bitsLt_bf16_f32) (extf .f32 b bitsLt_bf16_f32)) bitsLt_bf16_f32 : FVec Ideal S256x1024 .bf16) (ix2 r c)
      = Cert.MemKvIdeal.Value.prod a b r c := by
  pointwise []
  rfl

end Cert.MemKvRefIdeal.Value

namespace Cert.MemKv.Claims

open Idealize.ShloMosaic Idealize.SL.Sem

/-- The reference runs and keeps its arguments. -/
theorem frameR : quiescent_MemKvRefIdeal := by
  intro m ρ _
  exact (θ_run Cert.MemKvRefIdeal.defs _ _).mono (fun r h => ⟨fun c => (h c).2, sem_eq_zero_of_no_sems (by decide) r.2⟩) (Cert.MemKvRefIdeal.Value.run m ρ)

/-- The kernel's product is the reference's. -/
theorem algebraic : algebraic_MemKvIdeal_MemKvRefIdeal := fun m ρ m' ρ' _ hag =>
  ⟨_,
    (θ_run _ _ _).mono (fun _ h c => ⟨(h c).1.trans (Cert.MemKvIdeal.Value.final m c), (h c).2⟩)
      (Cert.MemKvIdeal.Value.run_blocks m ρ),
    (θ_run _ _ _).mono (fun _ h c => by
        refine ⟨(h c).1.trans ?_, (h c).2⟩
        rw [(hag c).1, (hag c).2]
        funext y
        idx_vars y
        exact Cert.MemKvRefIdeal.Value.ref_at _ _ y0 y1)
      (Cert.MemKvRefIdeal.Value.run m' ρ')⟩

end Cert.MemKv.Claims
-- ==== Proof.XattnFwdProof.lean ====
module

public import proofs.«01_k».proof.Proof.Gen.XattnFwdIdeal.Value
public import proofs.«01_k».proof.Proof.Gen.XattnFwdRefIdeal.Run
public import proofs.«01_k».proof.Defs
public import Idealize.ShloMosaic.Lib.Pointwise
public import Idealize.ShloMosaic.Lib.Pipeline.ValueKit
public import Idealize.ShloMosaic.Lib.Pipeline.ReadBack
public import Idealize.ShloMosaic.Adequacy
public import proofs.«01_k».proof.Proof.FiniteScores
public import proofs.«01_k».proof.Pre_finite_queries_keys

@[expose] public section

set_option maxRecDepth 16384

noncomputable section

namespace Cert.XattnFwdIdeal.Value

open Cert.XattnFwdIdeal Cert.XattnFwdIdeal.Gen Idealize.ShloMosaic Idealize.ShloMosaic.TcCoe Idealize.SL.Sem
open Idealize.ShloMosaic.Pipeline
open Cert.KernelIdeal.Value (score scale ascore ofBits_bot)

/-! The memory attention, eight blocks of 512 rows and four heads in each. -/

/-- A block's attention at row `r` and column `j` of head `h`. -/
def att (q : FVec Ideal S512x512 .bf16) (kv : FVec Ideal S256x1024 .bf16) (h : Fin 4) (r j : Fin 512) : EReal :=
  ∑ n : Fin 256, Softmax.weight (fun n => (∑ x : Fin 128, q (ix2 r ⟨h.val * 128 + x.val, by omega⟩) * kv (ix2 n ⟨h.val * 128 + x.val, by omega⟩)) * scale) n
    * kv (ix2 n ⟨512 + j.val, by omega⟩)

/-- The attention. -/
def gatt (px : FVec Ideal S4096x1024 .bf16) (kv : FVec Ideal S256x1024 .bf16) (r : Fin 4096) (j : Fin 512) : EReal :=
  ∑ n : Fin 256, Softmax.weight (ascore px kv ⟨j.val / 128, by omega⟩ r) n * kv (ix2 n ⟨512 + j.val, by omega⟩)

theorem idx : ∀ t : Fin cfg0.N, win0_0.index t = ![t.val, 1] ∧ win0_1.index t = ![0, 0] ∧ win0_2.index t = ![t.val, 0] :=
  (by decide +kernel : ∀ t : Fin grid0.N, _)

section heads
variable (k v : FVec Ideal S256x128 .bf16) (q : FVec Ideal S512x128 .bf16)

theorem pay2_at (r : Fin 512) (j : Fin 128) : k0_pay2 (F := Ideal) k v q (ix2 r j) = ∑ n : Fin 256, Softmax.weight (score q k r) n * v (ix2 n j) := by
  pointwise [k0_pay2, ofBits_bot]
  rfl

theorem pay1_eq : k0_pay1 (F := Ideal) v (k0_pay7 k q) = k0_pay2 k v q := rfl
theorem pay6_eq : k0_pay6 (F := Ideal) k v q = k0_pay2 k v q := rfl
theorem pay5_eq : k0_pay5 (F := Ideal) v (k0_pay3 k q) (k0_pay4 k q) = k0_pay2 k v q := rfl

theorem store (qb : FVec Ideal S512x512 .bf16) (kvb : FVec Ideal S256x1024 .bf16) (h : Fin 4)
    (hq : ∀ r x, q (ix2 r x) = qb (ix2 r ⟨h.val * 128 + x.val, by omega⟩)) (hk : ∀ n x, k (ix2 n x) = kvb (ix2 n ⟨h.val * 128 + x.val, by omega⟩))
    (hv : ∀ n x, v (ix2 n x) = kvb (ix2 n ⟨512 + (h.val * 128 + x.val), by omega⟩)) (r : Fin 512) (j : Fin 128) (J : Fin 512) (hJ : J.val = h.val * 128 + j.val) :
    k0_pay2 (F := Ideal) k v q (ix2 r j) = att qb kvb ⟨J.val / 128, by omega⟩ r J := by
  have eh : (⟨J.val / 128, by omega⟩ : Fin 4) = h := Fin.ext (by show J.val / 128 = h.val; omega)
  have es : score q k r = fun n => (∑ x : Fin 128, qb (ix2 r ⟨h.val * 128 + x.val, by omega⟩) * kvb (ix2 n ⟨h.val * 128 + x.val, by omega⟩)) * scale := by
    funext n; simp only [score, hq, hk]
  rw [pay2_at, eh, es]
  refine Finset.sum_congr rfl fun n _ => ?_
  rw [hv]
  exact congrArg (fun i => _ * kvb (ix2 n i)) (Fin.ext (by show 512 + (h.val * 128 + j.val) = 512 + J.val; omega))
end heads

theorem out_at0 (x0 : FVec Ideal S512x512 .bf16) (x1 : FVec Ideal S256x1024 .bf16) (r j : Fin 512) :
    out0_2 (F := Ideal) x0 x1 (ix2 r j) = att x0 x1 ⟨j.val / 128, by omega⟩ r j := by
  frame_out
  canon_tiles y hy
  all_goals (idx_vars y; try simp only [pay1_eq, pay5_eq, pay6_eq])
  all_goals obtain rfl := Fin.ext hy0
  case piece0 =>
    refine store _ _ _ _ _ 3 ?_ ?_ ?_ _ _ _ ?_
    all_goals first | (simp at hy1 ⊢; omega; done) | omega | (intro r k; rfl) | (intro r k; pointwise; done) | (intro r k; pointwise; blk_ext)
  case piece1 =>
    refine store _ _ _ _ _ 2 ?_ ?_ ?_ _ _ _ ?_
    all_goals first | (simp at hy1 ⊢; omega; done) | omega | (intro r k; rfl) | (intro r k; pointwise; done) | (intro r k; pointwise; blk_ext)
  case piece2 =>
    refine store _ _ _ _ _ 1 ?_ ?_ ?_ _ _ _ ?_
    all_goals first | (simp at hy1 ⊢; omega; done) | omega | (intro r k; rfl) | (intro r k; pointwise; done) | (intro r k; pointwise; blk_ext)
  case piece3 =>
    refine store _ _ _ _ _ 0 ?_ ?_ ?_ _ _ _ ?_
    all_goals first | (simp at hy1 ⊢; omega; done) | omega | (intro r k; rfl) | (intro r k; pointwise; done) | (intro r k; pointwise; blk_ext)

variable (m : (ℓ : Loc nD τ sig) → Buf (Elt Ideal) ℓ)

theorem row_lt (t : Fin cfg0.N) (r : Fin 512) : t.val * 512 + r.val < 4096 := by
  have := lt_of_lt_of_eq t.isLt N_0; omega

theorem blk0 (c : Dev nD) (t : Fin cfg0.N) (r j : Fin 512) :
    (show FVec Ideal S512x512 .bf16 from iblk m c 0 t) (ix2 r j)
      = m ((c : Thread nD τ).loc main_arg0) (ix2 ⟨t.val * 512 + r.val, row_lt t r⟩ ⟨512 + j.val, by omega⟩) := by
  blk_point [iblk, V, idx t]

theorem blk1 (c : Dev nD) (t : Fin cfg0.N) (r : Fin 256) (j : Fin 1024) :
    (show FVec Ideal S256x1024 .bf16 from iblk m c 1 t) (ix2 r j) = m ((c : Thread nD τ).loc main_arg1) (ix2 r j) := by
  blk_point [iblk, V, idx t]

theorem out_at (c : Dev nD) (t : Fin cfg0.N) (r j : Fin 512) :
    out0_2 (F := Ideal) (iblk m c 0 t) (iblk m c 1 t) (ix2 r j) = gatt (m ((c : Thread nD τ).loc main_arg0)) (m ((c : Thread nD τ).loc main_arg1)) ⟨t.val * 512 + r.val, row_lt t r⟩ j := by
  refine (out_at0 _ _ r j).trans ?_
  have e0 := blk0 m c t r
  have e1 := blk1 m c t
  generalize iblk m c 0 t = x0 at e0 ⊢
  generalize iblk m c 1 t = x1 at e1 ⊢
  simp only [att, e0, e1]
  rfl

/-- The array the kernel leaves. -/
theorem final (c : Dev nD) : (dats m 0 c).arrAt 2 cfg0.N = fun y : S4096x512.Idx => gatt (m ((c : Thread nD τ).loc main_arg0)) (m ((c : Thread nD τ).loc main_arg1)) (y 0) (y 1) := by
  refine (dats m 0 c).arrAt_eq_of_covers 2 _ (by decide +kernel) fun t hf y => ?_
  blk_simp
  rw [after0_2]
  idx_vars y
  have h0 : (win0_2.blk t).view.emb (ix2 y0 y1) 0 = (⟨t.val * 512 + y0.val, row_lt t y0⟩ : Fin 4096) := by
    apply Fin.ext; blk_simp [idx t]
  have h1 : (win0_2.blk t).view.emb (ix2 y0 y1) 1 = (y1 : Fin 512) := by
    apply Fin.ext; blk_simp [idx t]
  rw [h0, h1]
  exact out_at m c t y0 y1

end Cert.XattnFwdIdeal.Value

namespace Cert.XattnFwdRefIdeal.Value

open Cert.XattnFwdRefIdeal Cert.XattnFwdRefIdeal.Gen Idealize.ShloMosaic Idealize.ShloMosaic.TcCoe Idealize.SL.Sem
open Cert.ReferenceIdeal.Value (probs expsOf denom)

/-- The reference's attention from its weights. -/
def outOf (p : FVec Ideal S4x4096x256 .f32) (kv : FVec Ideal S256x1024 .bf16) : FVec Ideal S4096x512 .bf16 :=
  truncf .bf16 (shapeCast _ (transpose S4096x4x128 [2, 0, 1] (Host.dotGeneral dot_S256x4x128_S4x4096x256_S4x128x4096_0_2_2_1_1_0 none (shapeCast _ (extractStridedSlice S256x512 ![0, 512] (extf .f32 kv bitsLt_bf16_f32) slices_S256x1024_S256x512_0_512) shapeCasts_S256x512_S256x4x128) p) transposes_S4x128x4096_S4096x4x128_2_0_1) shapeCasts_S4096x4x128_S4096x512) bitsLt_bf16_f32

theorem outOf_at (p : FVec Ideal S4x4096x256 .f32) (kv : FVec Ideal S256x1024 .bf16) (r : Fin 4096) (j : Fin 512) :
    outOf p kv (ix2 r j) = ∑ n : Fin 256, kv (ix2 n ⟨512 + j.val, by omega⟩) * p (ix3 ⟨j.val / 128, by omega⟩ r n) := by
  pointwise [outOf]
  try simp only [Nat.div_add_mod']

/-- Where the queries and the keys are finite, the reference's attention is the kernel's. -/
theorem ref_at (px : FVec Ideal S4096x1024 .bf16) (kv : FVec Ideal S256x1024 .bf16) (hf : Cert.Agree.Finite px kv) (r : Fin 4096) (j : Fin 512) :
    outOf (probs (expsOf px kv) (denom (expsOf px kv))) kv (ix2 r j) = Cert.XattnFwdIdeal.Value.gatt px kv r j := by
  rw [outOf_at]
  refine Finset.sum_congr rfl fun n _ => ?_
  rw [mul_comm]
  exact congrArg (· * _) (Cert.Agree.probsOf_at px kv hf _ r n)

end Cert.XattnFwdRefIdeal.Value

namespace Cert.XattnFwd.Claims

open Idealize.ShloMosaic Idealize.SL.Sem

instance preFacts : Cert.Pre_finite_queries_keys.Facts where
  slices_S4096x1024_S4096x512_0_512 := by decide
  bitsLt_bf16_f32 := by decide
  slices_S256x1024_S256x512_0_0 := by decide
  bcast_S_S4096x512 := by decide
  reducesTo_S4096x512_S_d0_1 := by decide
  h_S_ := by decide
  bcast_S_S256x512 := by decide
  reducesTo_S256x512_S_d0_1 := by decide

/-- What the precondition says: the same as that of the gradient. -/
theorem finite (px : Cert.Agree.Px) (kv : Cert.Agree.Kv) (h : Cert.Pre_finite_queries_keys.fn (F := Ideal) px kv = fun _ => 1#1) : Cert.Agree.Finite px kv :=
  Cert.Pre_finite_scores.finite (fun _ => (0 : EReal)) px kv h

/-- The reference runs and keeps its arguments. -/
theorem frameR : quiescent_XattnFwdRefIdeal := by
  intro m ρ _
  exact (θ_run Cert.XattnFwdRefIdeal.defs _ _).mono (fun r h => ⟨fun c => (h c).2, sem_eq_zero_of_no_sems (by decide) r.2⟩) (Cert.XattnFwdRefIdeal.Value.run m ρ)

/-- Where the queries and the keys are finite the kernel's attention is the reference's. -/
theorem algebraic : algebraic_XattnFwdIdeal_XattnFwdRefIdeal_pre_finite_queries_keys := fun m ρ m' ρ' hpre hag =>
  ⟨_,
    (θ_run _ _ _).mono (fun _ h c => ⟨(h c).1.trans (Cert.XattnFwdIdeal.Value.final m c), (h c).2⟩)
      (Cert.XattnFwdIdeal.Value.run_blocks m ρ),
    (θ_run _ _ _).mono (fun _ h c => by
        have hf := finite _ _ (hpre c)
        refine ⟨(h c).1.trans ?_, (h c).2⟩
        rw [(hag c).1, (hag c).2]
        funext y
        idx_vars y
        exact Cert.XattnFwdRefIdeal.Value.ref_at _ _ hf y0 y1)
      (Cert.XattnFwdRefIdeal.Value.run m' ρ')⟩

end Cert.XattnFwd.Claims
-- ==== Proof.Adam.lean ====
module

public import Idealize.ShloMosaic.PureOps.Ideal

@[expose] public section

noncomputable section

namespace Cert.Adam

open Idealize.ShloMosaic

/-! The optimiser's step for one entry of a weight. -/

/-- The new first moment. -/
def mom (g m : EReal) : EReal := Ideal.ofBits .f32 0x3F666666#32 * m + Ideal.ofBits .f32 0x3DCCCCCD#32 * g
/-- The new second moment. -/
def sec (g v : EReal) : EReal := Ideal.ofBits .f32 0x3F7FBE77#32 * v + Ideal.ofBits .f32 0x3A83126F#32 * (g * g)
/-- The step of the weight. -/
def delta (w g m v : EReal) : EReal :=
  Ideal.ofBits .f32 0xBA83126F#32 * (Ideal.div (Ideal.div (mom g m) (Ideal.ofBits .f32 0x3F26BD02#32))
    (Ideal.sqrt (Ideal.div (sec g v) (Ideal.ofBits .f32 0x3C231ACC#32)) + Ideal.ofBits .f32 0x322BCC77#32) + Ideal.ofBits .f32 0x3C23D70A#32 * w)

end Cert.Adam
-- ==== Proof.AdamInProof.lean ====
module

public import proofs.«01_k».proof.Proof.Gen.AdamInIdeal.Value
public import proofs.«01_k».proof.Proof.Gen.AdamInRefIdeal.Run
public import proofs.«01_k».proof.Defs
public import Idealize.ShloMosaic.Lib.Pointwise
public import Idealize.ShloMosaic.Lib.Pipeline.ValueKit
public import Idealize.ShloMosaic.Lib.Pipeline.ReadBack
public import Idealize.ShloMosaic.Adequacy
public import proofs.«01_k».proof.Proof.Adam

@[expose] public section

set_option maxRecDepth 16384

noncomputable section

namespace Cert.AdamInIdeal.Value

open Cert.AdamInIdeal Cert.AdamInIdeal.Gen Idealize.ShloMosaic Idealize.ShloMosaic.TcCoe Idealize.SL.Sem
open Idealize.ShloMosaic.Pipeline Cert.Adam

/-! The optimiser's step over the blocks of a weight. -/

theorem idx : ∀ t : Fin cfg0.N, win0_0.index t = ![0, t.val, 0] ∧ win0_1.index t = ![t.val, 0] ∧ win0_2.index t = ![0, t.val, 0] ∧ win0_3.index t = ![0, t.val, 0]
    ∧ win0_4.index t = ![0, t.val, 0] ∧ win0_5.index t = ![0, t.val, 0] ∧ win0_6.index t = ![0, t.val, 0] :=
  (by decide +kernel : ∀ t : Fin grid0.N, _)

theorem pay_delta (w : FVec Ideal S1x512x1408 .f32) (g : FVec Ideal S512x1408 .f32) (m v : FVec Ideal S1x512x1408 .f32) (r : Fin 512) (c : Fin 1408) :
    k0_pay5 (F := Ideal) w g m v (ix3 0 r c) = delta (w (ix3 0 r c)) (g (ix2 r c)) (m (ix3 0 r c)) (v (ix3 0 r c)) := by
  pointwise [k0_pay5, k0_pay4, k0_pay3, k0_pay2, k0_pay1]
  rfl
theorem pay_mom (g : FVec Ideal S512x1408 .f32) (m : FVec Ideal S1x512x1408 .f32) (r : Fin 512) (c : Fin 1408) :
    k0_pay1 (F := Ideal) (k0_pay3 g m) (ix3 0 r c) = mom (g (ix2 r c)) (m (ix3 0 r c)) := by
  pointwise [k0_pay5, k0_pay4, k0_pay3, k0_pay2, k0_pay1]
  rfl
theorem pay_sec (g : FVec Ideal S512x1408 .f32) (v : FVec Ideal S1x512x1408 .f32) (r : Fin 512) (c : Fin 1408) :
    k0_pay2 (F := Ideal) (k0_pay4 g v) (ix3 0 r c) = sec (g (ix2 r c)) (v (ix3 0 r c)) := by
  pointwise [k0_pay5, k0_pay4, k0_pay3, k0_pay2, k0_pay1]
  rfl

variable (m : (ℓ : Loc nD τ sig) → Buf (Elt Ideal) ℓ)

theorem row_lt (t : Fin cfg0.N) (r : Fin 512) : t.val * 512 + r.val < 1024 := by
  have := lt_of_lt_of_eq t.isLt N_0; omega

theorem blk0 (c : Dev nD) (t : Fin cfg0.N) (r : Fin 512) (j : Fin 1408) :
    (show FVec Ideal S1x512x1408 .f32 from iblk m c 0 t) (ix3 0 r j) = m ((c : Thread nD τ).loc main_arg0) (ix3 0 (⟨t.val * 512 + r.val, row_lt t r⟩ : Fin 1024) j) := by
  blk_point [iblk, V, idx t]

theorem blk1 (c : Dev nD) (t : Fin cfg0.N) (r : Fin 512) (j : Fin 1408) :
    (show FVec Ideal S512x1408 .f32 from iblk m c 1 t) (ix2 r j) = m ((c : Thread nD τ).loc main_arg1) (ix2 (⟨t.val * 512 + r.val, row_lt t r⟩ : Fin 1024) j) := by
  blk_point [iblk, V, idx t]

theorem blk2 (c : Dev nD) (t : Fin cfg0.N) (r : Fin 512) (j : Fin 1408) :
    (show FVec Ideal S1x512x1408 .f32 from iblk m c 2 t) (ix3 0 r j) = m ((c : Thread nD τ).loc main_arg2) (ix3 0 (⟨t.val * 512 + r.val, row_lt t r⟩ : Fin 1024) j) := by
  blk_point [iblk, V, idx t]

theorem blk3 (c : Dev nD) (t : Fin cfg0.N) (r : Fin 512) (j : Fin 1408) :
    (show FVec Ideal S1x512x1408 .f32 from iblk m c 3 t) (ix3 0 r j) = m ((c : Thread nD τ).loc main_arg3) (ix3 0 (⟨t.val * 512 + r.val, row_lt t r⟩ : Fin 1024) j) := by
  blk_point [iblk, V, idx t]

theorem out4_at (c : Dev nD) (t : Fin cfg0.N) (r : Fin 512) (j : Fin 1408) :
    out0_4 (F := Ideal) (iblk m c 0 t) (iblk m c 1 t) (iblk m c 2 t) (iblk m c 3 t) (ix3 0 r j)
      = delta ((m ((c : Thread nD τ).loc main_arg0)) (ix3 0 (⟨t.val * 512 + r.val, row_lt t r⟩ : Fin 1024) j)) ((m ((c : Thread nD τ).loc main_arg1)) (ix2 (⟨t.val * 512 + r.val, row_lt t r⟩ : Fin 1024) j)) ((m ((c : Thread nD τ).loc main_arg2)) (ix3 0 (⟨t.val * 512 + r.val, row_lt t r⟩ : Fin 1024) j)) ((m ((c : Thread nD τ).loc main_arg3)) (ix3 0 (⟨t.val * 512 + r.val, row_lt t r⟩ : Fin 1024) j)) := by
  have e0 := blk0 m c t r j
  have e1 := blk1 m c t r j
  have e2 := blk2 m c t r j
  have e3 := blk3 m c t r j
  rw [← e0, ← e1, ← e2, ← e3]
  frame_out
  exact pay_delta _ _ _ _ r j

theorem final4 (c : Dev nD) : (dats m 0 c).arrAt 4 cfg0.N = fun y : S1x1024x1408.Idx => delta ((m ((c : Thread nD τ).loc main_arg0)) (ix3 (y 0) (y 1) (y 2))) ((m ((c : Thread nD τ).loc main_arg1)) (ix2 (y 1) (y 2))) ((m ((c : Thread nD τ).loc main_arg2)) (ix3 (y 0) (y 1) (y 2))) ((m ((c : Thread nD τ).loc main_arg3)) (ix3 (y 0) (y 1) (y 2))) := by
  refine (dats m 0 c).arrAt_eq_of_covers 4 _ (by decide +kernel) fun t hf y => ?_
  blk_simp
  rw [after0_4]
  idx_vars y
  have h0 : (win0_4.blk t).view.emb (ix3 y0 y1 y2) 0 = (y0 : Fin 1) := by
    apply Fin.ext; blk_simp [idx t]
  have h1 : (win0_4.blk t).view.emb (ix3 y0 y1 y2) 1 = ((⟨t.val * 512 + y1.val, row_lt t y1⟩ : Fin 1024) : Fin 1024) := by
    apply Fin.ext; blk_simp [idx t]
  have h2 : (win0_4.blk t).view.emb (ix3 y0 y1 y2) 2 = (y2 : Fin 1408) := by
    apply Fin.ext; blk_simp [idx t]
  rw [h0, h1, h2]
  obtain rfl : y0 = 0 := by omega
  exact out4_at m c t y1 y2

theorem out5_at (c : Dev nD) (t : Fin cfg0.N) (r : Fin 512) (j : Fin 1408) :
    out0_5 (F := Ideal) (iblk m c 0 t) (iblk m c 1 t) (iblk m c 2 t) (iblk m c 3 t) (ix3 0 r j)
      = mom ((m ((c : Thread nD τ).loc main_arg1)) (ix2 (⟨t.val * 512 + r.val, row_lt t r⟩ : Fin 1024) j)) ((m ((c : Thread nD τ).loc main_arg2)) (ix3 0 (⟨t.val * 512 + r.val, row_lt t r⟩ : Fin 1024) j)) := by
  have e0 := blk0 m c t r j
  have e1 := blk1 m c t r j
  have e2 := blk2 m c t r j
  have e3 := blk3 m c t r j
  rw [← e1, ← e2]
  frame_out
  exact pay_mom _ _ r j

theorem final5 (c : Dev nD) : (dats m 0 c).arrAt 5 cfg0.N = fun y : S1x1024x1408.Idx => mom ((m ((c : Thread nD τ).loc main_arg1)) (ix2 (y 1) (y 2))) ((m ((c : Thread nD τ).loc main_arg2)) (ix3 (y 0) (y 1) (y 2))) := by
  refine (dats m 0 c).arrAt_eq_of_covers 5 _ (by decide +kernel) fun t hf y => ?_
  blk_simp
  rw [after0_5]
  idx_vars y
  have h0 : (win0_5.blk t).view.emb (ix3 y0 y1 y2) 0 = (y0 : Fin 1) := by
    apply Fin.ext; blk_simp [idx t]
  have h1 : (win0_5.blk t).view.emb (ix3 y0 y1 y2) 1 = ((⟨t.val * 512 + y1.val, row_lt t y1⟩ : Fin 1024) : Fin 1024) := by
    apply Fin.ext; blk_simp [idx t]
  have h2 : (win0_5.blk t).view.emb (ix3 y0 y1 y2) 2 = (y2 : Fin 1408) := by
    apply Fin.ext; blk_simp [idx t]
  rw [h0, h1, h2]
  obtain rfl : y0 = 0 := by omega
  exact out5_at m c t y1 y2

theorem out6_at (c : Dev nD) (t : Fin cfg0.N) (r : Fin 512) (j : Fin 1408) :
    out0_6 (F := Ideal) (iblk m c 0 t) (iblk m c 1 t) (iblk m c 2 t) (iblk m c 3 t) (ix3 0 r j)
      = sec ((m ((c : Thread nD τ).loc main_arg1)) (ix2 (⟨t.val * 512 + r.val, row_lt t r⟩ : Fin 1024) j)) ((m ((c : Thread nD τ).loc main_arg3)) (ix3 0 (⟨t.val * 512 + r.val, row_lt t r⟩ : Fin 1024) j)) := by
  have e0 := blk0 m c t r j
  have e1 := blk1 m c t r j
  have e2 := blk2 m c t r j
  have e3 := blk3 m c t r j
  rw [← e1, ← e3]
  frame_out
  exact pay_sec _ _ r j

theorem final6 (c : Dev nD) : (dats m 0 c).arrAt 6 cfg0.N = fun y : S1x1024x1408.Idx => sec ((m ((c : Thread nD τ).loc main_arg1)) (ix2 (y 1) (y 2))) ((m ((c : Thread nD τ).loc main_arg3)) (ix3 (y 0) (y 1) (y 2))) := by
  refine (dats m 0 c).arrAt_eq_of_covers 6 _ (by decide +kernel) fun t hf y => ?_
  blk_simp
  rw [after0_6]
  idx_vars y
  have h0 : (win0_6.blk t).view.emb (ix3 y0 y1 y2) 0 = (y0 : Fin 1) := by
    apply Fin.ext; blk_simp [idx t]
  have h1 : (win0_6.blk t).view.emb (ix3 y0 y1 y2) 1 = ((⟨t.val * 512 + y1.val, row_lt t y1⟩ : Fin 1024) : Fin 1024) := by
    apply Fin.ext; blk_simp [idx t]
  have h2 : (win0_6.blk t).view.emb (ix3 y0 y1 y2) 2 = (y2 : Fin 1408) := by
    apply Fin.ext; blk_simp [idx t]
  rw [h0, h1, h2]
  obtain rfl : y0 = 0 := by omega
  exact out6_at m c t y1 y2

end Cert.AdamInIdeal.Value

namespace Cert.AdamInRefIdeal.Value

open Cert.AdamInRefIdeal Cert.AdamInRefIdeal.Gen Idealize.ShloMosaic Idealize.ShloMosaic.TcCoe Idealize.SL.Sem Cert.Adam

/-- A constant over the weight. -/
def rep (b : BitVec 32) : FVec Ideal S1x1024x1408 .f32 := broadcastInDim S1x1024x1408 ![] bcast_S_S1x1024x1408 (constant S_ .f32 b)

theorem delta_at (w : FVec Ideal S1x1024x1408 .f32) (g : FVec Ideal S1024x1408 .f32) (m : FVec Ideal S1x1024x1408 .f32) (v : FVec Ideal S1x1024x1408 .f32) (z : Fin 1) (r : Fin 1024) (c : Fin 1408) :
    (mulf (rep 0xBA83126F#32) (addf (Host.divf (Host.divf (addf (mulf (rep 0x3F666666#32) m) (mulf (rep 0x3DCCCCCD#32) (shapeCast _ g shapeCasts_S1024x1408_S1x1024x1408))) (rep 0x3F26BD02#32)) (addf (Host.sqrt (Host.divf (addf (mulf (rep 0x3F7FBE77#32) v) (mulf (rep 0x3A83126F#32) (mulf (shapeCast _ g shapeCasts_S1024x1408_S1x1024x1408) (shapeCast _ g shapeCasts_S1024x1408_S1x1024x1408)))) (rep 0x3C231ACC#32))) (rep 0x322BCC77#32))) (mulf (rep 0x3C23D70A#32) w)) : FVec Ideal S1x1024x1408 .f32) (ix3 z r c) = delta (w (ix3 z r c)) (g (ix2 r c)) (m (ix3 z r c)) (v (ix3 z r c)) := by
  pointwise [rep]
  rfl
theorem mom_at (g : FVec Ideal S1024x1408 .f32) (m : FVec Ideal S1x1024x1408 .f32) (z : Fin 1) (r : Fin 1024) (c : Fin 1408) :
    (addf (mulf (rep 0x3F666666#32) m) (mulf (rep 0x3DCCCCCD#32) (shapeCast _ g shapeCasts_S1024x1408_S1x1024x1408)) : FVec Ideal S1x1024x1408 .f32) (ix3 z r c) = mom (g (ix2 r c)) (m (ix3 z r c)) := by
  pointwise [rep]
  rfl
theorem sec_at (g : FVec Ideal S1024x1408 .f32) (v : FVec Ideal S1x1024x1408 .f32) (z : Fin 1) (r : Fin 1024) (c : Fin 1408) :
    (addf (mulf (rep 0x3F7FBE77#32) v) (mulf (rep 0x3A83126F#32) (mulf (shapeCast _ g shapeCasts_S1024x1408_S1x1024x1408) (shapeCast _ g shapeCasts_S1024x1408_S1x1024x1408))) : FVec Ideal S1x1024x1408 .f32) (ix3 z r c) = sec (g (ix2 r c)) (v (ix3 z r c)) := by
  pointwise [rep]
  rfl

end Cert.AdamInRefIdeal.Value

namespace Cert.AdamIn.Claims

open Idealize.ShloMosaic Idealize.SL.Sem Cert.Adam

/-- The reference runs and keeps its arguments. -/
theorem frameR : quiescent_AdamInRefIdeal := by
  intro m ρ _
  exact (θ_run Cert.AdamInRefIdeal.defs _ _).mono (fun r h => ⟨fun c => (h c).2.2.2, sem_eq_zero_of_no_sems (by decide) r.2⟩) (Cert.AdamInRefIdeal.Value.run m ρ)

/-- The kernel's step and moments are the reference's. -/
theorem algebraic : algebraic_AdamInIdeal_AdamInRefIdeal := fun m ρ m' ρ' _ hag =>
  ⟨_, _, _,
    (θ_run _ _ _).mono (fun _ h c => ⟨(h c).1.trans (Cert.AdamInIdeal.Value.final4 m c), (h c).2.1.trans (Cert.AdamInIdeal.Value.final5 m c), (h c).2.2.1.trans (Cert.AdamInIdeal.Value.final6 m c), (h c).2.2.2⟩)
      (Cert.AdamInIdeal.Value.run_blocks m ρ),
    (θ_run _ _ _).mono (fun _ h c => by
        refine ⟨(h c).1.trans ?_, (h c).2.1.trans ?_, (h c).2.2.1.trans ?_, (h c).2.2.2⟩
        · rw [(hag c).1, (hag c).2.1, (hag c).2.2.1, (hag c).2.2.2]
          funext y
          idx_vars y
          exact Cert.AdamInRefIdeal.Value.delta_at _ _ _ _ y0 y1 y2
        · rw [(hag c).2.1, (hag c).2.2.1]
          funext y
          idx_vars y
          exact Cert.AdamInRefIdeal.Value.mom_at _ _ y0 y1 y2
        · rw [(hag c).2.1, (hag c).2.2.2]
          funext y
          idx_vars y
          exact Cert.AdamInRefIdeal.Value.sec_at _ _ y0 y1 y2)
      (Cert.AdamInRefIdeal.Value.run m' ρ')⟩

end Cert.AdamIn.Claims
-- ==== Proof.AdamOutProof.lean ====
module

public import proofs.«01_k».proof.Proof.Gen.AdamOutIdeal.Value
public import proofs.«01_k».proof.Proof.Gen.AdamOutRefIdeal.Run
public import proofs.«01_k».proof.Defs
public import Idealize.ShloMosaic.Lib.Pointwise
public import Idealize.ShloMosaic.Lib.Pipeline.ValueKit
public import Idealize.ShloMosaic.Lib.Pipeline.ReadBack
public import Idealize.ShloMosaic.Adequacy
public import proofs.«01_k».proof.Proof.Adam

@[expose] public section

set_option maxRecDepth 16384

noncomputable section

namespace Cert.AdamOutIdeal.Value

open Cert.AdamOutIdeal Cert.AdamOutIdeal.Gen Idealize.ShloMosaic Idealize.ShloMosaic.TcCoe Idealize.SL.Sem
open Idealize.ShloMosaic.Pipeline Cert.Adam

/-! The optimiser's step over the blocks of a weight. -/

theorem idx : ∀ t : Fin cfg0.N, win0_0.index t = ![0, t.val, 0] ∧ win0_1.index t = ![t.val, 0] ∧ win0_2.index t = ![0, t.val, 0] ∧ win0_3.index t = ![0, t.val, 0]
    ∧ win0_4.index t = ![0, t.val, 0] ∧ win0_5.index t = ![0, t.val, 0] ∧ win0_6.index t = ![0, t.val, 0] :=
  (by decide +kernel : ∀ t : Fin grid0.N, _)

theorem pay_delta (w : FVec Ideal S1x352x1024 .f32) (g : FVec Ideal S352x1024 .f32) (m v : FVec Ideal S1x352x1024 .f32) (r : Fin 352) (c : Fin 1024) :
    k0_pay5 (F := Ideal) w g m v (ix3 0 r c) = delta (w (ix3 0 r c)) (g (ix2 r c)) (m (ix3 0 r c)) (v (ix3 0 r c)) := by
  pointwise [k0_pay5, k0_pay4, k0_pay3, k0_pay2, k0_pay1]
  rfl
theorem pay_mom (g : FVec Ideal S352x1024 .f32) (m : FVec Ideal S1x352x1024 .f32) (r : Fin 352) (c : Fin 1024) :
    k0_pay1 (F := Ideal) (k0_pay3 g m) (ix3 0 r c) = mom (g (ix2 r c)) (m (ix3 0 r c)) := by
  pointwise [k0_pay5, k0_pay4, k0_pay3, k0_pay2, k0_pay1]
  rfl
theorem pay_sec (g : FVec Ideal S352x1024 .f32) (v : FVec Ideal S1x352x1024 .f32) (r : Fin 352) (c : Fin 1024) :
    k0_pay2 (F := Ideal) (k0_pay4 g v) (ix3 0 r c) = sec (g (ix2 r c)) (v (ix3 0 r c)) := by
  pointwise [k0_pay5, k0_pay4, k0_pay3, k0_pay2, k0_pay1]
  rfl

variable (m : (ℓ : Loc nD τ sig) → Buf (Elt Ideal) ℓ)

theorem row_lt (t : Fin cfg0.N) (r : Fin 352) : t.val * 352 + r.val < 704 := by
  have := lt_of_lt_of_eq t.isLt N_0; omega

theorem blk0 (c : Dev nD) (t : Fin cfg0.N) (r : Fin 352) (j : Fin 1024) :
    (show FVec Ideal S1x352x1024 .f32 from iblk m c 0 t) (ix3 0 r j) = m ((c : Thread nD τ).loc main_arg0) (ix3 0 (⟨t.val * 352 + r.val, row_lt t r⟩ : Fin 704) j) := by
  blk_point [iblk, V, idx t]

theorem blk1 (c : Dev nD) (t : Fin cfg0.N) (r : Fin 352) (j : Fin 1024) :
    (show FVec Ideal S352x1024 .f32 from iblk m c 1 t) (ix2 r j) = m ((c : Thread nD τ).loc main_arg1) (ix2 (⟨t.val * 352 + r.val, row_lt t r⟩ : Fin 704) j) := by
  blk_point [iblk, V, idx t]

theorem blk2 (c : Dev nD) (t : Fin cfg0.N) (r : Fin 352) (j : Fin 1024) :
    (show FVec Ideal S1x352x1024 .f32 from iblk m c 2 t) (ix3 0 r j) = m ((c : Thread nD τ).loc main_arg2) (ix3 0 (⟨t.val * 352 + r.val, row_lt t r⟩ : Fin 704) j) := by
  blk_point [iblk, V, idx t]

theorem blk3 (c : Dev nD) (t : Fin cfg0.N) (r : Fin 352) (j : Fin 1024) :
    (show FVec Ideal S1x352x1024 .f32 from iblk m c 3 t) (ix3 0 r j) = m ((c : Thread nD τ).loc main_arg3) (ix3 0 (⟨t.val * 352 + r.val, row_lt t r⟩ : Fin 704) j) := by
  blk_point [iblk, V, idx t]

theorem out4_at (c : Dev nD) (t : Fin cfg0.N) (r : Fin 352) (j : Fin 1024) :
    out0_4 (F := Ideal) (iblk m c 0 t) (iblk m c 1 t) (iblk m c 2 t) (iblk m c 3 t) (ix3 0 r j)
      = delta ((m ((c : Thread nD τ).loc main_arg0)) (ix3 0 (⟨t.val * 352 + r.val, row_lt t r⟩ : Fin 704) j)) ((m ((c : Thread nD τ).loc main_arg1)) (ix2 (⟨t.val * 352 + r.val, row_lt t r⟩ : Fin 704) j)) ((m ((c : Thread nD τ).loc main_arg2)) (ix3 0 (⟨t.val * 352 + r.val, row_lt t r⟩ : Fin 704) j)) ((m ((c : Thread nD τ).loc main_arg3)) (ix3 0 (⟨t.val * 352 + r.val, row_lt t r⟩ : Fin 704) j)) := by
  have e0 := blk0 m c t r j
  have e1 := blk1 m c t r j
  have e2 := blk2 m c t r j
  have e3 := blk3 m c t r j
  rw [← e0, ← e1, ← e2, ← e3]
  frame_out
  exact pay_delta _ _ _ _ r j

theorem final4 (c : Dev nD) : (dats m 0 c).arrAt 4 cfg0.N = fun y : S1x704x1024.Idx => delta ((m ((c : Thread nD τ).loc main_arg0)) (ix3 (y 0) (y 1) (y 2))) ((m ((c : Thread nD τ).loc main_arg1)) (ix2 (y 1) (y 2))) ((m ((c : Thread nD τ).loc main_arg2)) (ix3 (y 0) (y 1) (y 2))) ((m ((c : Thread nD τ).loc main_arg3)) (ix3 (y 0) (y 1) (y 2))) := by
  refine (dats m 0 c).arrAt_eq_of_covers 4 _ (by decide +kernel) fun t hf y => ?_
  blk_simp
  rw [after0_4]
  idx_vars y
  have h0 : (win0_4.blk t).view.emb (ix3 y0 y1 y2) 0 = (y0 : Fin 1) := by
    apply Fin.ext; blk_simp [idx t]
  have h1 : (win0_4.blk t).view.emb (ix3 y0 y1 y2) 1 = ((⟨t.val * 352 + y1.val, row_lt t y1⟩ : Fin 704) : Fin 704) := by
    apply Fin.ext; blk_simp [idx t]
  have h2 : (win0_4.blk t).view.emb (ix3 y0 y1 y2) 2 = (y2 : Fin 1024) := by
    apply Fin.ext; blk_simp [idx t]
  rw [h0, h1, h2]
  obtain rfl : y0 = 0 := by omega
  exact out4_at m c t y1 y2

theorem out5_at (c : Dev nD) (t : Fin cfg0.N) (r : Fin 352) (j : Fin 1024) :
    out0_5 (F := Ideal) (iblk m c 0 t) (iblk m c 1 t) (iblk m c 2 t) (iblk m c 3 t) (ix3 0 r j)
      = mom ((m ((c : Thread nD τ).loc main_arg1)) (ix2 (⟨t.val * 352 + r.val, row_lt t r⟩ : Fin 704) j)) ((m ((c : Thread nD τ).loc main_arg2)) (ix3 0 (⟨t.val * 352 + r.val, row_lt t r⟩ : Fin 704) j)) := by
  have e0 := blk0 m c t r j
  have e1 := blk1 m c t r j
  have e2 := blk2 m c t r j
  have e3 := blk3 m c t r j
  rw [← e1, ← e2]
  frame_out
  exact pay_mom _ _ r j

theorem final5 (c : Dev nD) : (dats m 0 c).arrAt 5 cfg0.N = fun y : S1x704x1024.Idx => mom ((m ((c : Thread nD τ).loc main_arg1)) (ix2 (y 1) (y 2))) ((m ((c : Thread nD τ).loc main_arg2)) (ix3 (y 0) (y 1) (y 2))) := by
  refine (dats m 0 c).arrAt_eq_of_covers 5 _ (by decide +kernel) fun t hf y => ?_
  blk_simp
  rw [after0_5]
  idx_vars y
  have h0 : (win0_5.blk t).view.emb (ix3 y0 y1 y2) 0 = (y0 : Fin 1) := by
    apply Fin.ext; blk_simp [idx t]
  have h1 : (win0_5.blk t).view.emb (ix3 y0 y1 y2) 1 = ((⟨t.val * 352 + y1.val, row_lt t y1⟩ : Fin 704) : Fin 704) := by
    apply Fin.ext; blk_simp [idx t]
  have h2 : (win0_5.blk t).view.emb (ix3 y0 y1 y2) 2 = (y2 : Fin 1024) := by
    apply Fin.ext; blk_simp [idx t]
  rw [h0, h1, h2]
  obtain rfl : y0 = 0 := by omega
  exact out5_at m c t y1 y2

theorem out6_at (c : Dev nD) (t : Fin cfg0.N) (r : Fin 352) (j : Fin 1024) :
    out0_6 (F := Ideal) (iblk m c 0 t) (iblk m c 1 t) (iblk m c 2 t) (iblk m c 3 t) (ix3 0 r j)
      = sec ((m ((c : Thread nD τ).loc main_arg1)) (ix2 (⟨t.val * 352 + r.val, row_lt t r⟩ : Fin 704) j)) ((m ((c : Thread nD τ).loc main_arg3)) (ix3 0 (⟨t.val * 352 + r.val, row_lt t r⟩ : Fin 704) j)) := by
  have e0 := blk0 m c t r j
  have e1 := blk1 m c t r j
  have e2 := blk2 m c t r j
  have e3 := blk3 m c t r j
  rw [← e1, ← e3]
  frame_out
  exact pay_sec _ _ r j

theorem final6 (c : Dev nD) : (dats m 0 c).arrAt 6 cfg0.N = fun y : S1x704x1024.Idx => sec ((m ((c : Thread nD τ).loc main_arg1)) (ix2 (y 1) (y 2))) ((m ((c : Thread nD τ).loc main_arg3)) (ix3 (y 0) (y 1) (y 2))) := by
  refine (dats m 0 c).arrAt_eq_of_covers 6 _ (by decide +kernel) fun t hf y => ?_
  blk_simp
  rw [after0_6]
  idx_vars y
  have h0 : (win0_6.blk t).view.emb (ix3 y0 y1 y2) 0 = (y0 : Fin 1) := by
    apply Fin.ext; blk_simp [idx t]
  have h1 : (win0_6.blk t).view.emb (ix3 y0 y1 y2) 1 = ((⟨t.val * 352 + y1.val, row_lt t y1⟩ : Fin 704) : Fin 704) := by
    apply Fin.ext; blk_simp [idx t]
  have h2 : (win0_6.blk t).view.emb (ix3 y0 y1 y2) 2 = (y2 : Fin 1024) := by
    apply Fin.ext; blk_simp [idx t]
  rw [h0, h1, h2]
  obtain rfl : y0 = 0 := by omega
  exact out6_at m c t y1 y2

end Cert.AdamOutIdeal.Value

namespace Cert.AdamOutRefIdeal.Value

open Cert.AdamOutRefIdeal Cert.AdamOutRefIdeal.Gen Idealize.ShloMosaic Idealize.ShloMosaic.TcCoe Idealize.SL.Sem Cert.Adam

/-- A constant over the weight. -/
def rep (b : BitVec 32) : FVec Ideal S1x704x1024 .f32 := broadcastInDim S1x704x1024 ![] bcast_S_S1x704x1024 (constant S_ .f32 b)

theorem delta_at (w : FVec Ideal S1x704x1024 .f32) (g : FVec Ideal S704x1024 .f32) (m : FVec Ideal S1x704x1024 .f32) (v : FVec Ideal S1x704x1024 .f32) (z : Fin 1) (r : Fin 704) (c : Fin 1024) :
    (mulf (rep 0xBA83126F#32) (addf (Host.divf (Host.divf (addf (mulf (rep 0x3F666666#32) m) (mulf (rep 0x3DCCCCCD#32) (shapeCast _ g shapeCasts_S704x1024_S1x704x1024))) (rep 0x3F26BD02#32)) (addf (Host.sqrt (Host.divf (addf (mulf (rep 0x3F7FBE77#32) v) (mulf (rep 0x3A83126F#32) (mulf (shapeCast _ g shapeCasts_S704x1024_S1x704x1024) (shapeCast _ g shapeCasts_S704x1024_S1x704x1024)))) (rep 0x3C231ACC#32))) (rep 0x322BCC77#32))) (mulf (rep 0x3C23D70A#32) w)) : FVec Ideal S1x704x1024 .f32) (ix3 z r c) = delta (w (ix3 z r c)) (g (ix2 r c)) (m (ix3 z r c)) (v (ix3 z r c)) := by
  pointwise [rep]
  rfl
theorem mom_at (g : FVec Ideal S704x1024 .f32) (m : FVec Ideal S1x704x1024 .f32) (z : Fin 1) (r : Fin 704) (c : Fin 1024) :
    (addf (mulf (rep 0x3F666666#32) m) (mulf (rep 0x3DCCCCCD#32) (shapeCast _ g shapeCasts_S704x1024_S1x704x1024)) : FVec Ideal S1x704x1024 .f32) (ix3 z r c) = mom (g (ix2 r c)) (m (ix3 z r c)) := by
  pointwise [rep]
  rfl
theorem sec_at (g : FVec Ideal S704x1024 .f32) (v : FVec Ideal S1x704x1024 .f32) (z : Fin 1) (r : Fin 704) (c : Fin 1024) :
    (addf (mulf (rep 0x3F7FBE77#32) v) (mulf (rep 0x3A83126F#32) (mulf (shapeCast _ g shapeCasts_S704x1024_S1x704x1024) (shapeCast _ g shapeCasts_S704x1024_S1x704x1024))) : FVec Ideal S1x704x1024 .f32) (ix3 z r c) = sec (g (ix2 r c)) (v (ix3 z r c)) := by
  pointwise [rep]
  rfl

end Cert.AdamOutRefIdeal.Value

namespace Cert.AdamOut.Claims

open Idealize.ShloMosaic Idealize.SL.Sem Cert.Adam

/-- The reference runs and keeps its arguments. -/
theorem frameR : quiescent_AdamOutRefIdeal := by
  intro m ρ _
  exact (θ_run Cert.AdamOutRefIdeal.defs _ _).mono (fun r h => ⟨fun c => (h c).2.2.2, sem_eq_zero_of_no_sems (by decide) r.2⟩) (Cert.AdamOutRefIdeal.Value.run m ρ)

/-- The kernel's step and moments are the reference's. -/
theorem algebraic : algebraic_AdamOutIdeal_AdamOutRefIdeal := fun m ρ m' ρ' _ hag =>
  ⟨_, _, _,
    (θ_run _ _ _).mono (fun _ h c => ⟨(h c).1.trans (Cert.AdamOutIdeal.Value.final4 m c), (h c).2.1.trans (Cert.AdamOutIdeal.Value.final5 m c), (h c).2.2.1.trans (Cert.AdamOutIdeal.Value.final6 m c), (h c).2.2.2⟩)
      (Cert.AdamOutIdeal.Value.run_blocks m ρ),
    (θ_run _ _ _).mono (fun _ h c => by
        refine ⟨(h c).1.trans ?_, (h c).2.1.trans ?_, (h c).2.2.1.trans ?_, (h c).2.2.2⟩
        · rw [(hag c).1, (hag c).2.1, (hag c).2.2.1, (hag c).2.2.2]
          funext y
          idx_vars y
          exact Cert.AdamOutRefIdeal.Value.delta_at _ _ _ _ y0 y1 y2
        · rw [(hag c).2.1, (hag c).2.2.1]
          funext y
          idx_vars y
          exact Cert.AdamOutRefIdeal.Value.mom_at _ _ y0 y1 y2
        · rw [(hag c).2.1, (hag c).2.2.2]
          funext y
          idx_vars y
          exact Cert.AdamOutRefIdeal.Value.sec_at _ _ y0 y1 y2)
      (Cert.AdamOutRefIdeal.Value.run m' ρ')⟩

end Cert.AdamOut.Claims
-- ==== Proof.AdamWinProof.lean ====
module

public import proofs.«01_k».proof.Proof.Gen.AdamWinIdeal.Value
public import proofs.«01_k».proof.Proof.Gen.AdamWinRefIdeal.Run
public import proofs.«01_k».proof.Defs
public import Idealize.ShloMosaic.Lib.Pointwise
public import Idealize.ShloMosaic.Lib.Pipeline.ValueKit
public import Idealize.ShloMosaic.Lib.Pipeline.ReadBack
public import Idealize.ShloMosaic.Adequacy
public import proofs.«01_k».proof.Proof.Adam

@[expose] public section

set_option maxRecDepth 16384

noncomputable section

namespace Cert.AdamWinIdeal.Value

open Cert.AdamWinIdeal Cert.AdamWinIdeal.Gen Idealize.ShloMosaic Idealize.ShloMosaic.TcCoe Idealize.SL.Sem
open Idealize.ShloMosaic.Pipeline Cert.Adam

/-! The optimiser's step over the blocks of a weight. -/

theorem idx : ∀ t : Fin cfg0.N, win0_0.index t = ![0, t.val] ∧ win0_1.index t = ![0, t.val] ∧ win0_2.index t = ![0, t.val] ∧ win0_3.index t = ![0, t.val]
    ∧ win0_4.index t = ![0, t.val] ∧ win0_5.index t = ![0, t.val] ∧ win0_6.index t = ![0, t.val] :=
  (by decide +kernel : ∀ t : Fin grid0.N, _)

theorem pay_delta (w : FVec Ideal S1796x256 .f32) (g : FVec Ideal S1796x256 .f32) (m v : FVec Ideal S1796x256 .f32) (r : Fin 1796) (c : Fin 256) :
    k0_pay3 (F := Ideal) w g m v (ix2 r c) = delta (w (ix2 r c)) (g (ix2 r c)) (m (ix2 r c)) (v (ix2 r c)) := by
  pointwise [k0_pay3, k0_pay2, k0_pay1]
  rfl
theorem pay_mom (g : FVec Ideal S1796x256 .f32) (m : FVec Ideal S1796x256 .f32) (r : Fin 1796) (c : Fin 256) :
    k0_pay1 (F := Ideal) g m (ix2 r c) = mom (g (ix2 r c)) (m (ix2 r c)) := by
  pointwise [k0_pay3, k0_pay2, k0_pay1]
  rfl
theorem pay_sec (g : FVec Ideal S1796x256 .f32) (v : FVec Ideal S1796x256 .f32) (r : Fin 1796) (c : Fin 256) :
    k0_pay2 (F := Ideal) g v (ix2 r c) = sec (g (ix2 r c)) (v (ix2 r c)) := by
  pointwise [k0_pay3, k0_pay2, k0_pay1]
  rfl

variable (m : (ℓ : Loc nD τ sig) → Buf (Elt Ideal) ℓ)

theorem col_lt (t : Fin cfg0.N) (r : Fin 256) : t.val * 256 + r.val < 1024 := by
  have := lt_of_lt_of_eq t.isLt N_0; omega

theorem blk0 (c : Dev nD) (t : Fin cfg0.N) (r : Fin 1796) (j : Fin 256) :
    (show FVec Ideal S1796x256 .f32 from iblk m c 0 t) (ix2 r j) = m ((c : Thread nD τ).loc main_arg0) (ix2 r (⟨t.val * 256 + j.val, col_lt t j⟩ : Fin 1024)) := by
  blk_point [iblk, V, idx t]

theorem blk1 (c : Dev nD) (t : Fin cfg0.N) (r : Fin 1796) (j : Fin 256) :
    (show FVec Ideal S1796x256 .f32 from iblk m c 1 t) (ix2 r j) = m ((c : Thread nD τ).loc main_arg1) (ix2 r (⟨t.val * 256 + j.val, col_lt t j⟩ : Fin 1024)) := by
  blk_point [iblk, V, idx t]

theorem blk2 (c : Dev nD) (t : Fin cfg0.N) (r : Fin 1796) (j : Fin 256) :
    (show FVec Ideal S1796x256 .f32 from iblk m c 2 t) (ix2 r j) = m ((c : Thread nD τ).loc main_arg2) (ix2 r (⟨t.val * 256 + j.val, col_lt t j⟩ : Fin 1024)) := by
  blk_point [iblk, V, idx t]

theorem blk3 (c : Dev nD) (t : Fin cfg0.N) (r : Fin 1796) (j : Fin 256) :
    (show FVec Ideal S1796x256 .f32 from iblk m c 3 t) (ix2 r j) = m ((c : Thread nD τ).loc main_arg3) (ix2 r (⟨t.val * 256 + j.val, col_lt t j⟩ : Fin 1024)) := by
  blk_point [iblk, V, idx t]

theorem out4_at (c : Dev nD) (t : Fin cfg0.N) (r : Fin 1796) (j : Fin 256) :
    out0_4 (F := Ideal) (iblk m c 0 t) (iblk m c 1 t) (iblk m c 2 t) (iblk m c 3 t) (ix2 r j)
      = delta ((m ((c : Thread nD τ).loc main_arg0)) (ix2 r (⟨t.val * 256 + j.val, col_lt t j⟩ : Fin 1024))) ((m ((c : Thread nD τ).loc main_arg1)) (ix2 r (⟨t.val * 256 + j.val, col_lt t j⟩ : Fin 1024))) ((m ((c : Thread nD τ).loc main_arg2)) (ix2 r (⟨t.val * 256 + j.val, col_lt t j⟩ : Fin 1024))) ((m ((c : Thread nD τ).loc main_arg3)) (ix2 r (⟨t.val * 256 + j.val, col_lt t j⟩ : Fin 1024))) := by
  have e0 := blk0 m c t r j
  have e1 := blk1 m c t r j
  have e2 := blk2 m c t r j
  have e3 := blk3 m c t r j
  rw [← e0, ← e1, ← e2, ← e3]
  frame_out
  exact pay_delta _ _ _ _ r j

theorem whole4 (c : Dev nD) : (dats m 0 c).arrAt 4 cfg0.N = fun y : S1796x1024.Idx => delta ((m ((c : Thread nD τ).loc main_arg0)) (ix2 (y 0) (y 1))) ((m ((c : Thread nD τ).loc main_arg1)) (ix2 (y 0) (y 1))) ((m ((c : Thread nD τ).loc main_arg2)) (ix2 (y 0) (y 1))) ((m ((c : Thread nD τ).loc main_arg3)) (ix2 (y 0) (y 1))) := by
  refine (dats m 0 c).arrAt_eq_of_covers 4 _ (by decide +kernel) fun t hf y => ?_
  blk_simp
  rw [after0_4]
  idx_vars y
  have h0 : (win0_4.blk t).view.emb (ix2 y0 y1) 0 = (y0 : Fin 1796) := by
    apply Fin.ext; blk_simp [idx t]
  have h1 : (win0_4.blk t).view.emb (ix2 y0 y1) 1 = ((⟨t.val * 256 + y1.val, col_lt t y1⟩ : Fin 1024) : Fin 1024) := by
    apply Fin.ext; blk_simp [idx t]
  rw [h0, h1]
  exact out4_at m c t y0 y1

theorem out5_at (c : Dev nD) (t : Fin cfg0.N) (r : Fin 1796) (j : Fin 256) :
    out0_5 (F := Ideal) (iblk m c 0 t) (iblk m c 1 t) (iblk m c 2 t) (iblk m c 3 t) (ix2 r j)
      = mom ((m ((c : Thread nD τ).loc main_arg1)) (ix2 r (⟨t.val * 256 + j.val, col_lt t j⟩ : Fin 1024))) ((m ((c : Thread nD τ).loc main_arg2)) (ix2 r (⟨t.val * 256 + j.val, col_lt t j⟩ : Fin 1024))) := by
  have e0 := blk0 m c t r j
  have e1 := blk1 m c t r j
  have e2 := blk2 m c t r j
  have e3 := blk3 m c t r j
  rw [← e1, ← e2]
  frame_out
  exact pay_mom _ _ r j

theorem whole5 (c : Dev nD) : (dats m 0 c).arrAt 5 cfg0.N = fun y : S1796x1024.Idx => mom ((m ((c : Thread nD τ).loc main_arg1)) (ix2 (y 0) (y 1))) ((m ((c : Thread nD τ).loc main_arg2)) (ix2 (y 0) (y 1))) := by
  refine (dats m 0 c).arrAt_eq_of_covers 5 _ (by decide +kernel) fun t hf y => ?_
  blk_simp
  rw [after0_5]
  idx_vars y
  have h0 : (win0_5.blk t).view.emb (ix2 y0 y1) 0 = (y0 : Fin 1796) := by
    apply Fin.ext; blk_simp [idx t]
  have h1 : (win0_5.blk t).view.emb (ix2 y0 y1) 1 = ((⟨t.val * 256 + y1.val, col_lt t y1⟩ : Fin 1024) : Fin 1024) := by
    apply Fin.ext; blk_simp [idx t]
  rw [h0, h1]
  exact out5_at m c t y0 y1

theorem out6_at (c : Dev nD) (t : Fin cfg0.N) (r : Fin 1796) (j : Fin 256) :
    out0_6 (F := Ideal) (iblk m c 0 t) (iblk m c 1 t) (iblk m c 2 t) (iblk m c 3 t) (ix2 r j)
      = sec ((m ((c : Thread nD τ).loc main_arg1)) (ix2 r (⟨t.val * 256 + j.val, col_lt t j⟩ : Fin 1024))) ((m ((c : Thread nD τ).loc main_arg3)) (ix2 r (⟨t.val * 256 + j.val, col_lt t j⟩ : Fin 1024))) := by
  have e0 := blk0 m c t r j
  have e1 := blk1 m c t r j
  have e2 := blk2 m c t r j
  have e3 := blk3 m c t r j
  rw [← e1, ← e3]
  frame_out
  exact pay_sec _ _ r j

theorem whole6 (c : Dev nD) : (dats m 0 c).arrAt 6 cfg0.N = fun y : S1796x1024.Idx => sec ((m ((c : Thread nD τ).loc main_arg1)) (ix2 (y 0) (y 1))) ((m ((c : Thread nD τ).loc main_arg3)) (ix2 (y 0) (y 1))) := by
  refine (dats m 0 c).arrAt_eq_of_covers 6 _ (by decide +kernel) fun t hf y => ?_
  blk_simp
  rw [after0_6]
  idx_vars y
  have h0 : (win0_6.blk t).view.emb (ix2 y0 y1) 0 = (y0 : Fin 1796) := by
    apply Fin.ext; blk_simp [idx t]
  have h1 : (win0_6.blk t).view.emb (ix2 y0 y1) 1 = ((⟨t.val * 256 + y1.val, col_lt t y1⟩ : Fin 1024) : Fin 1024) := by
    apply Fin.ext; blk_simp [idx t]
  rw [h0, h1]
  exact out6_at m c t y0 y1

end Cert.AdamWinIdeal.Value

namespace Cert.AdamWinRefIdeal.Value

open Cert.AdamWinRefIdeal Cert.AdamWinRefIdeal.Gen Idealize.ShloMosaic Idealize.ShloMosaic.TcCoe Idealize.SL.Sem Cert.Adam

/-- A constant over the weight. -/
def rep (b : BitVec 32) : FVec Ideal S1796x1024 .f32 := broadcastInDim S1796x1024 ![] bcast_S_S1796x1024 (constant S_ .f32 b)

theorem delta_at (w : FVec Ideal S1796x1024 .f32) (g : FVec Ideal S1796x1024 .f32) (m : FVec Ideal S1796x1024 .f32) (v : FVec Ideal S1796x1024 .f32) (r : Fin 1796) (c : Fin 1024) :
    (mulf (rep 0xBA83126F#32) (addf (Host.divf (Host.divf (addf (mulf (rep 0x3F666666#32) m) (mulf (rep 0x3DCCCCCD#32) g)) (rep 0x3F26BD02#32)) (addf (Host.sqrt (Host.divf (addf (mulf (rep 0x3F7FBE77#32) v) (mulf (rep 0x3A83126F#32) (mulf g g))) (rep 0x3C231ACC#32))) (rep 0x322BCC77#32))) (mulf (rep 0x3C23D70A#32) w)) : FVec Ideal S1796x1024 .f32) (ix2 r c) = delta (w (ix2 r c)) (g (ix2 r c)) (m (ix2 r c)) (v (ix2 r c)) := by
  pointwise [rep]
  rfl
theorem mom_at (g : FVec Ideal S1796x1024 .f32) (m : FVec Ideal S1796x1024 .f32) (r : Fin 1796) (c : Fin 1024) :
    (addf (mulf (rep 0x3F666666#32) m) (mulf (rep 0x3DCCCCCD#32) g) : FVec Ideal S1796x1024 .f32) (ix2 r c) = mom (g (ix2 r c)) (m (ix2 r c)) := by
  pointwise [rep]
  rfl
theorem sec_at (g : FVec Ideal S1796x1024 .f32) (v : FVec Ideal S1796x1024 .f32) (r : Fin 1796) (c : Fin 1024) :
    (addf (mulf (rep 0x3F7FBE77#32) v) (mulf (rep 0x3A83126F#32) (mulf g g)) : FVec Ideal S1796x1024 .f32) (ix2 r c) = sec (g (ix2 r c)) (v (ix2 r c)) := by
  pointwise [rep]
  rfl

end Cert.AdamWinRefIdeal.Value

namespace Cert.AdamWin.Claims

open Idealize.ShloMosaic Idealize.SL.Sem Cert.Adam

/-- The reference runs and keeps its arguments. -/
theorem frameR : quiescent_AdamWinRefIdeal := by
  intro m ρ _
  exact (θ_run Cert.AdamWinRefIdeal.defs _ _).mono (fun r h => ⟨fun c => (h c).2.2.2, sem_eq_zero_of_no_sems (by decide) r.2⟩) (Cert.AdamWinRefIdeal.Value.run m ρ)

/-- The kernel's step and moments are the reference's. -/
theorem algebraic : algebraic_AdamWinIdeal_AdamWinRefIdeal := fun m ρ m' ρ' _ hag =>
  ⟨_, _, _,
    (θ_run _ _ _).mono (fun _ h c => ⟨(h c).1.trans (Cert.AdamWinIdeal.Value.whole4 m c), (h c).2.1.trans (Cert.AdamWinIdeal.Value.whole5 m c), (h c).2.2.1.trans (Cert.AdamWinIdeal.Value.whole6 m c), (h c).2.2.2⟩)
      (Cert.AdamWinIdeal.Value.run_blocks m ρ),
    (θ_run _ _ _).mono (fun _ h c => by
        refine ⟨(h c).1.trans ?_, (h c).2.1.trans ?_, (h c).2.2.1.trans ?_, (h c).2.2.2⟩
        · rw [(hag c).1, (hag c).2.1, (hag c).2.2.1, (hag c).2.2.2]
          funext y
          idx_vars y
          exact Cert.AdamWinRefIdeal.Value.delta_at _ _ _ _ y0 y1
        · rw [(hag c).2.1, (hag c).2.2.1]
          funext y
          idx_vars y
          exact Cert.AdamWinRefIdeal.Value.mom_at _ _ y0 y1
        · rw [(hag c).2.1, (hag c).2.2.2]
          funext y
          idx_vars y
          exact Cert.AdamWinRefIdeal.Value.sec_at _ _ y0 y1)
      (Cert.AdamWinRefIdeal.Value.run m' ρ')⟩

end Cert.AdamWin.Claims
-- ==== Proof.AdamSqProof.lean ====
module

public import proofs.«01_k».proof.Proof.Gen.AdamSqIdeal.Value
public import proofs.«01_k».proof.Proof.Gen.AdamSqRefIdeal.Run
public import proofs.«01_k».proof.Defs
public import Idealize.ShloMosaic.Lib.Pointwise
public import Idealize.ShloMosaic.Lib.Pipeline.ValueKit
public import Idealize.ShloMosaic.Lib.Pipeline.ReadBack
public import Idealize.ShloMosaic.Adequacy
public import proofs.«01_k».proof.Proof.Adam

@[expose] public section

set_option maxRecDepth 16384

noncomputable section

namespace Cert.AdamSqIdeal.Value

open Cert.AdamSqIdeal Cert.AdamSqIdeal.Gen Idealize.ShloMosaic Idealize.ShloMosaic.TcCoe Idealize.SL.Sem
open Idealize.ShloMosaic.Pipeline Cert.Adam

/-! The optimiser's step over the blocks of a weight. -/

theorem idx : ∀ t : Fin cfg0.N, win0_0.index t = ![0, 0, 0] ∧ win0_1.index t = ![0, 0] ∧ win0_2.index t = ![0, 0, 0] ∧ win0_3.index t = ![0, 0, 0]
    ∧ win0_4.index t = ![0, 0, 0] ∧ win0_5.index t = ![0, 0, 0] ∧ win0_6.index t = ![0, 0, 0] :=
  (by decide +kernel : ∀ t : Fin grid0.N, _)

theorem pay_delta (w : FVec Ideal S1x256x1024 .f32) (g : FVec Ideal S256x1024 .f32) (m v : FVec Ideal S1x256x1024 .f32) (r : Fin 256) (c : Fin 1024) :
    k0_pay5 (F := Ideal) w g m v (ix3 0 r c) = delta (w (ix3 0 r c)) (g (ix2 r c)) (m (ix3 0 r c)) (v (ix3 0 r c)) := by
  pointwise [k0_pay5, k0_pay4, k0_pay3, k0_pay2, k0_pay1]
  rfl
theorem pay_mom (g : FVec Ideal S256x1024 .f32) (m : FVec Ideal S1x256x1024 .f32) (r : Fin 256) (c : Fin 1024) :
    k0_pay1 (F := Ideal) (k0_pay3 g m) (ix3 0 r c) = mom (g (ix2 r c)) (m (ix3 0 r c)) := by
  pointwise [k0_pay5, k0_pay4, k0_pay3, k0_pay2, k0_pay1]
  rfl
theorem pay_sec (g : FVec Ideal S256x1024 .f32) (v : FVec Ideal S1x256x1024 .f32) (r : Fin 256) (c : Fin 1024) :
    k0_pay2 (F := Ideal) (k0_pay4 g v) (ix3 0 r c) = sec (g (ix2 r c)) (v (ix3 0 r c)) := by
  pointwise [k0_pay5, k0_pay4, k0_pay3, k0_pay2, k0_pay1]
  rfl

variable (m : (ℓ : Loc nD τ sig) → Buf (Elt Ideal) ℓ)

theorem blk0 (c : Dev nD) (t : Fin cfg0.N) (r : Fin 256) (j : Fin 1024) :
    (show FVec Ideal S1x256x1024 .f32 from iblk m c 0 t) (ix3 0 r j) = m ((c : Thread nD τ).loc main_arg0) (ix3 0 r j) := by
  blk_point [iblk, V, idx t]

theorem blk1 (c : Dev nD) (t : Fin cfg0.N) (r : Fin 256) (j : Fin 1024) :
    (show FVec Ideal S256x1024 .f32 from iblk m c 1 t) (ix2 r j) = m ((c : Thread nD τ).loc main_arg1) (ix2 r j) := by
  blk_point [iblk, V, idx t]

theorem blk2 (c : Dev nD) (t : Fin cfg0.N) (r : Fin 256) (j : Fin 1024) :
    (show FVec Ideal S1x256x1024 .f32 from iblk m c 2 t) (ix3 0 r j) = m ((c : Thread nD τ).loc main_arg2) (ix3 0 r j) := by
  blk_point [iblk, V, idx t]

theorem blk3 (c : Dev nD) (t : Fin cfg0.N) (r : Fin 256) (j : Fin 1024) :
    (show FVec Ideal S1x256x1024 .f32 from iblk m c 3 t) (ix3 0 r j) = m ((c : Thread nD τ).loc main_arg3) (ix3 0 r j) := by
  blk_point [iblk, V, idx t]

theorem out4_at (c : Dev nD) (t : Fin cfg0.N) (r : Fin 256) (j : Fin 1024) :
    out0_4 (F := Ideal) (iblk m c 0 t) (iblk m c 1 t) (iblk m c 2 t) (iblk m c 3 t) (ix3 0 r j)
      = delta ((m ((c : Thread nD τ).loc main_arg0)) (ix3 0 r j)) ((m ((c : Thread nD τ).loc main_arg1)) (ix2 r j)) ((m ((c : Thread nD τ).loc main_arg2)) (ix3 0 r j)) ((m ((c : Thread nD τ).loc main_arg3)) (ix3 0 r j)) := by
  have e0 := blk0 m c t r j
  have e1 := blk1 m c t r j
  have e2 := blk2 m c t r j
  have e3 := blk3 m c t r j
  rw [← e0, ← e1, ← e2, ← e3]
  frame_out
  exact pay_delta _ _ _ _ r j

theorem whole4 (c : Dev nD) : (dats m 0 c).arrAt 4 cfg0.N = fun y : S1x256x1024.Idx => delta ((m ((c : Thread nD τ).loc main_arg0)) (ix3 (y 0) (y 1) (y 2))) ((m ((c : Thread nD τ).loc main_arg1)) (ix2 (y 1) (y 2))) ((m ((c : Thread nD τ).loc main_arg2)) (ix3 (y 0) (y 1) (y 2))) ((m ((c : Thread nD τ).loc main_arg3)) (ix3 (y 0) (y 1) (y 2))) := by
  refine (dats m 0 c).arrAt_eq_of_covers 4 _ (by decide +kernel) fun t hf y => ?_
  blk_simp
  rw [after0_4]
  idx_vars y
  have h0 : (win0_4.blk t).view.emb (ix3 y0 y1 y2) 0 = (y0 : Fin 1) := by
    apply Fin.ext; blk_simp [idx t]
  have h1 : (win0_4.blk t).view.emb (ix3 y0 y1 y2) 1 = (y1 : Fin 256) := by
    apply Fin.ext; blk_simp [idx t]
  have h2 : (win0_4.blk t).view.emb (ix3 y0 y1 y2) 2 = (y2 : Fin 1024) := by
    apply Fin.ext; blk_simp [idx t]
  rw [h0, h1, h2]
  obtain rfl : y0 = 0 := by omega
  exact out4_at m c t y1 y2

theorem out5_at (c : Dev nD) (t : Fin cfg0.N) (r : Fin 256) (j : Fin 1024) :
    out0_5 (F := Ideal) (iblk m c 0 t) (iblk m c 1 t) (iblk m c 2 t) (iblk m c 3 t) (ix3 0 r j)
      = mom ((m ((c : Thread nD τ).loc main_arg1)) (ix2 r j)) ((m ((c : Thread nD τ).loc main_arg2)) (ix3 0 r j)) := by
  have e0 := blk0 m c t r j
  have e1 := blk1 m c t r j
  have e2 := blk2 m c t r j
  have e3 := blk3 m c t r j
  rw [← e1, ← e2]
  frame_out
  exact pay_mom _ _ r j

theorem whole5 (c : Dev nD) : (dats m 0 c).arrAt 5 cfg0.N = fun y : S1x256x1024.Idx => mom ((m ((c : Thread nD τ).loc main_arg1)) (ix2 (y 1) (y 2))) ((m ((c : Thread nD τ).loc main_arg2)) (ix3 (y 0) (y 1) (y 2))) := by
  refine (dats m 0 c).arrAt_eq_of_covers 5 _ (by decide +kernel) fun t hf y => ?_
  blk_simp
  rw [after0_5]
  idx_vars y
  have h0 : (win0_5.blk t).view.emb (ix3 y0 y1 y2) 0 = (y0 : Fin 1) := by
    apply Fin.ext; blk_simp [idx t]
  have h1 : (win0_5.blk t).view.emb (ix3 y0 y1 y2) 1 = (y1 : Fin 256) := by
    apply Fin.ext; blk_simp [idx t]
  have h2 : (win0_5.blk t).view.emb (ix3 y0 y1 y2) 2 = (y2 : Fin 1024) := by
    apply Fin.ext; blk_simp [idx t]
  rw [h0, h1, h2]
  obtain rfl : y0 = 0 := by omega
  exact out5_at m c t y1 y2

theorem out6_at (c : Dev nD) (t : Fin cfg0.N) (r : Fin 256) (j : Fin 1024) :
    out0_6 (F := Ideal) (iblk m c 0 t) (iblk m c 1 t) (iblk m c 2 t) (iblk m c 3 t) (ix3 0 r j)
      = sec ((m ((c : Thread nD τ).loc main_arg1)) (ix2 r j)) ((m ((c : Thread nD τ).loc main_arg3)) (ix3 0 r j)) := by
  have e0 := blk0 m c t r j
  have e1 := blk1 m c t r j
  have e2 := blk2 m c t r j
  have e3 := blk3 m c t r j
  rw [← e1, ← e3]
  frame_out
  exact pay_sec _ _ r j

theorem whole6 (c : Dev nD) : (dats m 0 c).arrAt 6 cfg0.N = fun y : S1x256x1024.Idx => sec ((m ((c : Thread nD τ).loc main_arg1)) (ix2 (y 1) (y 2))) ((m ((c : Thread nD τ).loc main_arg3)) (ix3 (y 0) (y 1) (y 2))) := by
  refine (dats m 0 c).arrAt_eq_of_covers 6 _ (by decide +kernel) fun t hf y => ?_
  blk_simp
  rw [after0_6]
  idx_vars y
  have h0 : (win0_6.blk t).view.emb (ix3 y0 y1 y2) 0 = (y0 : Fin 1) := by
    apply Fin.ext; blk_simp [idx t]
  have h1 : (win0_6.blk t).view.emb (ix3 y0 y1 y2) 1 = (y1 : Fin 256) := by
    apply Fin.ext; blk_simp [idx t]
  have h2 : (win0_6.blk t).view.emb (ix3 y0 y1 y2) 2 = (y2 : Fin 1024) := by
    apply Fin.ext; blk_simp [idx t]
  rw [h0, h1, h2]
  obtain rfl : y0 = 0 := by omega
  exact out6_at m c t y1 y2

end Cert.AdamSqIdeal.Value

namespace Cert.AdamSqRefIdeal.Value

open Cert.AdamSqRefIdeal Cert.AdamSqRefIdeal.Gen Idealize.ShloMosaic Idealize.ShloMosaic.TcCoe Idealize.SL.Sem Cert.Adam

/-- A constant over the weight. -/
def rep (b : BitVec 32) : FVec Ideal S1x256x1024 .f32 := broadcastInDim S1x256x1024 ![] bcast_S_S1x256x1024 (constant S_ .f32 b)

theorem delta_at (w : FVec Ideal S1x256x1024 .f32) (g : FVec Ideal S256x1024 .f32) (m : FVec Ideal S1x256x1024 .f32) (v : FVec Ideal S1x256x1024 .f32) (z : Fin 1) (r : Fin 256) (c : Fin 1024) :
    (mulf (rep 0xBA83126F#32) (addf (Host.divf (Host.divf (addf (mulf (rep 0x3F666666#32) m) (mulf (rep 0x3DCCCCCD#32) (shapeCast _ g shapeCasts_S256x1024_S1x256x1024))) (rep 0x3F26BD02#32)) (addf (Host.sqrt (Host.divf (addf (mulf (rep 0x3F7FBE77#32) v) (mulf (rep 0x3A83126F#32) (mulf (shapeCast _ g shapeCasts_S256x1024_S1x256x1024) (shapeCast _ g shapeCasts_S256x1024_S1x256x1024)))) (rep 0x3C231ACC#32))) (rep 0x322BCC77#32))) (mulf (rep 0x3C23D70A#32) w)) : FVec Ideal S1x256x1024 .f32) (ix3 z r c) = delta (w (ix3 z r c)) (g (ix2 r c)) (m (ix3 z r c)) (v (ix3 z r c)) := by
  pointwise [rep]
  rfl
theorem mom_at (g : FVec Ideal S256x1024 .f32) (m : FVec Ideal S1x256x1024 .f32) (z : Fin 1) (r : Fin 256) (c : Fin 1024) :
    (addf (mulf (rep 0x3F666666#32) m) (mulf (rep 0x3DCCCCCD#32) (shapeCast _ g shapeCasts_S256x1024_S1x256x1024)) : FVec Ideal S1x256x1024 .f32) (ix3 z r c) = mom (g (ix2 r c)) (m (ix3 z r c)) := by
  pointwise [rep]
  rfl
theorem sec_at (g : FVec Ideal S256x1024 .f32) (v : FVec Ideal S1x256x1024 .f32) (z : Fin 1) (r : Fin 256) (c : Fin 1024) :
    (addf (mulf (rep 0x3F7FBE77#32) v) (mulf (rep 0x3A83126F#32) (mulf (shapeCast _ g shapeCasts_S256x1024_S1x256x1024) (shapeCast _ g shapeCasts_S256x1024_S1x256x1024))) : FVec Ideal S1x256x1024 .f32) (ix3 z r c) = sec (g (ix2 r c)) (v (ix3 z r c)) := by
  pointwise [rep]
  rfl

end Cert.AdamSqRefIdeal.Value

namespace Cert.AdamSq.Claims

open Idealize.ShloMosaic Idealize.SL.Sem Cert.Adam

/-- The reference runs and keeps its arguments. -/
theorem frameR : quiescent_AdamSqRefIdeal := by
  intro m ρ _
  exact (θ_run Cert.AdamSqRefIdeal.defs _ _).mono (fun r h => ⟨fun c => (h c).2.2.2, sem_eq_zero_of_no_sems (by decide) r.2⟩) (Cert.AdamSqRefIdeal.Value.run m ρ)

/-- The kernel's step and moments are the reference's. -/
theorem algebraic : algebraic_AdamSqIdeal_AdamSqRefIdeal := fun m ρ m' ρ' _ hag =>
  ⟨_, _, _,
    (θ_run _ _ _).mono (fun _ h c => ⟨(h c).1.trans (Cert.AdamSqIdeal.Value.whole4 m c), (h c).2.1.trans (Cert.AdamSqIdeal.Value.whole5 m c), (h c).2.2.1.trans (Cert.AdamSqIdeal.Value.whole6 m c), (h c).2.2.2⟩)
      (Cert.AdamSqIdeal.Value.run_blocks m ρ),
    (θ_run _ _ _).mono (fun _ h c => by
        refine ⟨(h c).1.trans ?_, (h c).2.1.trans ?_, (h c).2.2.1.trans ?_, (h c).2.2.2⟩
        · rw [(hag c).1, (hag c).2.1, (hag c).2.2.1, (hag c).2.2.2]
          funext y
          idx_vars y
          exact Cert.AdamSqRefIdeal.Value.delta_at _ _ _ _ y0 y1 y2
        · rw [(hag c).2.1, (hag c).2.2.1]
          funext y
          idx_vars y
          exact Cert.AdamSqRefIdeal.Value.mom_at _ _ y0 y1 y2
        · rw [(hag c).2.1, (hag c).2.2.2]
          funext y
          idx_vars y
          exact Cert.AdamSqRefIdeal.Value.sec_at _ _ y0 y1 y2)
      (Cert.AdamSqRefIdeal.Value.run m' ρ')⟩

end Cert.AdamSq.Claims
-- ==== Proof.AdamUpProof.lean ====
module

public import proofs.«01_k».proof.Proof.Gen.AdamUpIdeal.Value
public import proofs.«01_k».proof.Proof.Gen.AdamUpRefIdeal.Run
public import proofs.«01_k».proof.Defs
public import Idealize.ShloMosaic.Lib.Pointwise
public import Idealize.ShloMosaic.Lib.Pipeline.ValueKit
public import Idealize.ShloMosaic.Lib.Pipeline.ReadBack
public import Idealize.ShloMosaic.Adequacy
public import proofs.«01_k».proof.Proof.Adam

@[expose] public section

set_option maxRecDepth 16384

noncomputable section

namespace Cert.AdamUpIdeal.Value

open Cert.AdamUpIdeal Cert.AdamUpIdeal.Gen Idealize.ShloMosaic Idealize.ShloMosaic.TcCoe Idealize.SL.Sem
open Idealize.ShloMosaic.Pipeline Cert.Adam

/-! The optimiser's step over the blocks of a weight. -/

theorem idx : ∀ t : Fin cfg0.N, win0_0.index t = ![0, 0, 0] ∧ win0_1.index t = ![0, 0] ∧ win0_2.index t = ![0, 0, 0] ∧ win0_3.index t = ![0, 0, 0]
    ∧ win0_4.index t = ![0, 0, 0] ∧ win0_5.index t = ![0, 0, 0] ∧ win0_6.index t = ![0, 0, 0] :=
  (by decide +kernel : ∀ t : Fin grid0.N, _)

theorem pay_delta (w : FVec Ideal S1x512x256 .f32) (g : FVec Ideal S512x256 .f32) (m v : FVec Ideal S1x512x256 .f32) (r : Fin 512) (c : Fin 256) :
    k0_pay5 (F := Ideal) w g m v (ix3 0 r c) = delta (w (ix3 0 r c)) (g (ix2 r c)) (m (ix3 0 r c)) (v (ix3 0 r c)) := by
  pointwise [k0_pay5, k0_pay4, k0_pay3, k0_pay2, k0_pay1]
  rfl
theorem pay_mom (g : FVec Ideal S512x256 .f32) (m : FVec Ideal S1x512x256 .f32) (r : Fin 512) (c : Fin 256) :
    k0_pay1 (F := Ideal) (k0_pay3 g m) (ix3 0 r c) = mom (g (ix2 r c)) (m (ix3 0 r c)) := by
  pointwise [k0_pay5, k0_pay4, k0_pay3, k0_pay2, k0_pay1]
  rfl
theorem pay_sec (g : FVec Ideal S512x256 .f32) (v : FVec Ideal S1x512x256 .f32) (r : Fin 512) (c : Fin 256) :
    k0_pay2 (F := Ideal) (k0_pay4 g v) (ix3 0 r c) = sec (g (ix2 r c)) (v (ix3 0 r c)) := by
  pointwise [k0_pay5, k0_pay4, k0_pay3, k0_pay2, k0_pay1]
  rfl

variable (m : (ℓ : Loc nD τ sig) → Buf (Elt Ideal) ℓ)

theorem blk0 (c : Dev nD) (t : Fin cfg0.N) (r : Fin 512) (j : Fin 256) :
    (show FVec Ideal S1x512x256 .f32 from iblk m c 0 t) (ix3 0 r j) = m ((c : Thread nD τ).loc main_arg0) (ix3 0 r j) := by
  blk_point [iblk, V, idx t]

theorem blk1 (c : Dev nD) (t : Fin cfg0.N) (r : Fin 512) (j : Fin 256) :
    (show FVec Ideal S512x256 .f32 from iblk m c 1 t) (ix2 r j) = m ((c : Thread nD τ).loc main_arg1) (ix2 r j) := by
  blk_point [iblk, V, idx t]

theorem blk2 (c : Dev nD) (t : Fin cfg0.N) (r : Fin 512) (j : Fin 256) :
    (show FVec Ideal S1x512x256 .f32 from iblk m c 2 t) (ix3 0 r j) = m ((c : Thread nD τ).loc main_arg2) (ix3 0 r j) := by
  blk_point [iblk, V, idx t]

theorem blk3 (c : Dev nD) (t : Fin cfg0.N) (r : Fin 512) (j : Fin 256) :
    (show FVec Ideal S1x512x256 .f32 from iblk m c 3 t) (ix3 0 r j) = m ((c : Thread nD τ).loc main_arg3) (ix3 0 r j) := by
  blk_point [iblk, V, idx t]

theorem out4_at (c : Dev nD) (t : Fin cfg0.N) (r : Fin 512) (j : Fin 256) :
    out0_4 (F := Ideal) (iblk m c 0 t) (iblk m c 1 t) (iblk m c 2 t) (iblk m c 3 t) (ix3 0 r j)
      = delta ((m ((c : Thread nD τ).loc main_arg0)) (ix3 0 r j)) ((m ((c : Thread nD τ).loc main_arg1)) (ix2 r j)) ((m ((c : Thread nD τ).loc main_arg2)) (ix3 0 r j)) ((m ((c : Thread nD τ).loc main_arg3)) (ix3 0 r j)) := by
  have e0 := blk0 m c t r j
  have e1 := blk1 m c t r j
  have e2 := blk2 m c t r j
  have e3 := blk3 m c t r j
  rw [← e0, ← e1, ← e2, ← e3]
  frame_out
  exact pay_delta _ _ _ _ r j

theorem whole4 (c : Dev nD) : (dats m 0 c).arrAt 4 cfg0.N = fun y : S1x512x256.Idx => delta ((m ((c : Thread nD τ).loc main_arg0)) (ix3 (y 0) (y 1) (y 2))) ((m ((c : Thread nD τ).loc main_arg1)) (ix2 (y 1) (y 2))) ((m ((c : Thread nD τ).loc main_arg2)) (ix3 (y 0) (y 1) (y 2))) ((m ((c : Thread nD τ).loc main_arg3)) (ix3 (y 0) (y 1) (y 2))) := by
  refine (dats m 0 c).arrAt_eq_of_covers 4 _ (by decide +kernel) fun t hf y => ?_
  blk_simp
  rw [after0_4]
  idx_vars y
  have h0 : (win0_4.blk t).view.emb (ix3 y0 y1 y2) 0 = (y0 : Fin 1) := by
    apply Fin.ext; blk_simp [idx t]
  have h1 : (win0_4.blk t).view.emb (ix3 y0 y1 y2) 1 = (y1 : Fin 512) := by
    apply Fin.ext; blk_simp [idx t]
  have h2 : (win0_4.blk t).view.emb (ix3 y0 y1 y2) 2 = (y2 : Fin 256) := by
    apply Fin.ext; blk_simp [idx t]
  rw [h0, h1, h2]
  obtain rfl : y0 = 0 := by omega
  exact out4_at m c t y1 y2

theorem out5_at (c : Dev nD) (t : Fin cfg0.N) (r : Fin 512) (j : Fin 256) :
    out0_5 (F := Ideal) (iblk m c 0 t) (iblk m c 1 t) (iblk m c 2 t) (iblk m c 3 t) (ix3 0 r j)
      = mom ((m ((c : Thread nD τ).loc main_arg1)) (ix2 r j)) ((m ((c : Thread nD τ).loc main_arg2)) (ix3 0 r j)) := by
  have e0 := blk0 m c t r j
  have e1 := blk1 m c t r j
  have e2 := blk2 m c t r j
  have e3 := blk3 m c t r j
  rw [← e1, ← e2]
  frame_out
  exact pay_mom _ _ r j

theorem whole5 (c : Dev nD) : (dats m 0 c).arrAt 5 cfg0.N = fun y : S1x512x256.Idx => mom ((m ((c : Thread nD τ).loc main_arg1)) (ix2 (y 1) (y 2))) ((m ((c : Thread nD τ).loc main_arg2)) (ix3 (y 0) (y 1) (y 2))) := by
  refine (dats m 0 c).arrAt_eq_of_covers 5 _ (by decide +kernel) fun t hf y => ?_
  blk_simp
  rw [after0_5]
  idx_vars y
  have h0 : (win0_5.blk t).view.emb (ix3 y0 y1 y2) 0 = (y0 : Fin 1) := by
    apply Fin.ext; blk_simp [idx t]
  have h1 : (win0_5.blk t).view.emb (ix3 y0 y1 y2) 1 = (y1 : Fin 512) := by
    apply Fin.ext; blk_simp [idx t]
  have h2 : (win0_5.blk t).view.emb (ix3 y0 y1 y2) 2 = (y2 : Fin 256) := by
    apply Fin.ext; blk_simp [idx t]
  rw [h0, h1, h2]
  obtain rfl : y0 = 0 := by omega
  exact out5_at m c t y1 y2

theorem out6_at (c : Dev nD) (t : Fin cfg0.N) (r : Fin 512) (j : Fin 256) :
    out0_6 (F := Ideal) (iblk m c 0 t) (iblk m c 1 t) (iblk m c 2 t) (iblk m c 3 t) (ix3 0 r j)
      = sec ((m ((c : Thread nD τ).loc main_arg1)) (ix2 r j)) ((m ((c : Thread nD τ).loc main_arg3)) (ix3 0 r j)) := by
  have e0 := blk0 m c t r j
  have e1 := blk1 m c t r j
  have e2 := blk2 m c t r j
  have e3 := blk3 m c t r j
  rw [← e1, ← e3]
  frame_out
  exact pay_sec _ _ r j

theorem whole6 (c : Dev nD) : (dats m 0 c).arrAt 6 cfg0.N = fun y : S1x512x256.Idx => sec ((m ((c : Thread nD τ).loc main_arg1)) (ix2 (y 1) (y 2))) ((m ((c : Thread nD τ).loc main_arg3)) (ix3 (y 0) (y 1) (y 2))) := by
  refine (dats m 0 c).arrAt_eq_of_covers 6 _ (by decide +kernel) fun t hf y => ?_
  blk_simp
  rw [after0_6]
  idx_vars y
  have h0 : (win0_6.blk t).view.emb (ix3 y0 y1 y2) 0 = (y0 : Fin 1) := by
    apply Fin.ext; blk_simp [idx t]
  have h1 : (win0_6.blk t).view.emb (ix3 y0 y1 y2) 1 = (y1 : Fin 512) := by
    apply Fin.ext; blk_simp [idx t]
  have h2 : (win0_6.blk t).view.emb (ix3 y0 y1 y2) 2 = (y2 : Fin 256) := by
    apply Fin.ext; blk_simp [idx t]
  rw [h0, h1, h2]
  obtain rfl : y0 = 0 := by omega
  exact out6_at m c t y1 y2

end Cert.AdamUpIdeal.Value

namespace Cert.AdamUpRefIdeal.Value

open Cert.AdamUpRefIdeal Cert.AdamUpRefIdeal.Gen Idealize.ShloMosaic Idealize.ShloMosaic.TcCoe Idealize.SL.Sem Cert.Adam

/-- A constant over the weight. -/
def rep (b : BitVec 32) : FVec Ideal S1x512x256 .f32 := broadcastInDim S1x512x256 ![] bcast_S_S1x512x256 (constant S_ .f32 b)

theorem delta_at (w : FVec Ideal S1x512x256 .f32) (g : FVec Ideal S512x256 .f32) (m : FVec Ideal S1x512x256 .f32) (v : FVec Ideal S1x512x256 .f32) (z : Fin 1) (r : Fin 512) (c : Fin 256) :
    (mulf (rep 0xBA83126F#32) (addf (Host.divf (Host.divf (addf (mulf (rep 0x3F666666#32) m) (mulf (rep 0x3DCCCCCD#32) (shapeCast _ g shapeCasts_S512x256_S1x512x256))) (rep 0x3F26BD02#32)) (addf (Host.sqrt (Host.divf (addf (mulf (rep 0x3F7FBE77#32) v) (mulf (rep 0x3A83126F#32) (mulf (shapeCast _ g shapeCasts_S512x256_S1x512x256) (shapeCast _ g shapeCasts_S512x256_S1x512x256)))) (rep 0x3C231ACC#32))) (rep 0x322BCC77#32))) (mulf (rep 0x3C23D70A#32) w)) : FVec Ideal S1x512x256 .f32) (ix3 z r c) = delta (w (ix3 z r c)) (g (ix2 r c)) (m (ix3 z r c)) (v (ix3 z r c)) := by
  pointwise [rep]
  rfl
theorem mom_at (g : FVec Ideal S512x256 .f32) (m : FVec Ideal S1x512x256 .f32) (z : Fin 1) (r : Fin 512) (c : Fin 256) :
    (addf (mulf (rep 0x3F666666#32) m) (mulf (rep 0x3DCCCCCD#32) (shapeCast _ g shapeCasts_S512x256_S1x512x256)) : FVec Ideal S1x512x256 .f32) (ix3 z r c) = mom (g (ix2 r c)) (m (ix3 z r c)) := by
  pointwise [rep]
  rfl
theorem sec_at (g : FVec Ideal S512x256 .f32) (v : FVec Ideal S1x512x256 .f32) (z : Fin 1) (r : Fin 512) (c : Fin 256) :
    (addf (mulf (rep 0x3F7FBE77#32) v) (mulf (rep 0x3A83126F#32) (mulf (shapeCast _ g shapeCasts_S512x256_S1x512x256) (shapeCast _ g shapeCasts_S512x256_S1x512x256))) : FVec Ideal S1x512x256 .f32) (ix3 z r c) = sec (g (ix2 r c)) (v (ix3 z r c)) := by
  pointwise [rep]
  rfl

end Cert.AdamUpRefIdeal.Value

namespace Cert.AdamUp.Claims

open Idealize.ShloMosaic Idealize.SL.Sem Cert.Adam

/-- The reference runs and keeps its arguments. -/
theorem frameR : quiescent_AdamUpRefIdeal := by
  intro m ρ _
  exact (θ_run Cert.AdamUpRefIdeal.defs _ _).mono (fun r h => ⟨fun c => (h c).2.2.2, sem_eq_zero_of_no_sems (by decide) r.2⟩) (Cert.AdamUpRefIdeal.Value.run m ρ)

/-- The kernel's step and moments are the reference's. -/
theorem algebraic : algebraic_AdamUpIdeal_AdamUpRefIdeal := fun m ρ m' ρ' _ hag =>
  ⟨_, _, _,
    (θ_run _ _ _).mono (fun _ h c => ⟨(h c).1.trans (Cert.AdamUpIdeal.Value.whole4 m c), (h c).2.1.trans (Cert.AdamUpIdeal.Value.whole5 m c), (h c).2.2.1.trans (Cert.AdamUpIdeal.Value.whole6 m c), (h c).2.2.2⟩)
      (Cert.AdamUpIdeal.Value.run_blocks m ρ),
    (θ_run _ _ _).mono (fun _ h c => by
        refine ⟨(h c).1.trans ?_, (h c).2.1.trans ?_, (h c).2.2.1.trans ?_, (h c).2.2.2⟩
        · rw [(hag c).1, (hag c).2.1, (hag c).2.2.1, (hag c).2.2.2]
          funext y
          idx_vars y
          exact Cert.AdamUpRefIdeal.Value.delta_at _ _ _ _ y0 y1 y2
        · rw [(hag c).2.1, (hag c).2.2.1]
          funext y
          idx_vars y
          exact Cert.AdamUpRefIdeal.Value.mom_at _ _ y0 y1 y2
        · rw [(hag c).2.1, (hag c).2.2.2]
          funext y
          idx_vars y
          exact Cert.AdamUpRefIdeal.Value.sec_at _ _ y0 y1 y2)
      (Cert.AdamUpRefIdeal.Value.run m' ρ')⟩

end Cert.AdamUp.Claims
-- ==== Proof.lean ====
/- The proof of all claims: the facts of the programs, then the frames, then for each program that its
   ideal reading is it, and that its results are the reference's. -/
module

public import proofs.«01_k».proof.Defs
public import proofs.«01_k».proof.Proof.Xattn
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.OutDwProof
public import proofs.«01_k».proof.Proof.Gen.OutDw.Frame
public import proofs.«01_k».proof.Proof.Gen.OutDwIdeal.Frame
public import proofs.«01_k».proof.Proof.Gen.OutDwIdeal.Value
public import proofs.«01_k».proof.Proof.Gen.OutDwRefIdeal.Run
public import proofs.«01_k».proof.Proof.OutDxProof
public import proofs.«01_k».proof.Proof.Gen.OutDx.Frame
public import proofs.«01_k».proof.Proof.Gen.OutDxIdeal.Frame
public import proofs.«01_k».proof.Proof.Gen.OutDxIdeal.Value
public import proofs.«01_k».proof.Proof.Gen.OutDxRefIdeal.Run
public import proofs.«01_k».proof.Proof.InDwProof
public import proofs.«01_k».proof.Proof.Gen.InDw.Frame
public import proofs.«01_k».proof.Proof.Gen.InDwIdeal.Frame
public import proofs.«01_k».proof.Proof.Gen.InDwIdeal.Value
public import proofs.«01_k».proof.Proof.Gen.InDwRefIdeal.Run
public import proofs.«01_k».proof.Proof.InDx1Proof
public import proofs.«01_k».proof.Proof.Gen.InDx1.Frame
public import proofs.«01_k».proof.Proof.Gen.InDx1Ideal.Frame
public import proofs.«01_k».proof.Proof.Gen.InDx1Ideal.Value
public import proofs.«01_k».proof.Proof.Gen.InDx1RefIdeal.Run
public import proofs.«01_k».proof.Proof.InDx2Proof
public import proofs.«01_k».proof.Proof.Gen.InDx2.Frame
public import proofs.«01_k».proof.Proof.Gen.InDx2Ideal.Frame
public import proofs.«01_k».proof.Proof.Gen.InDx2Ideal.Value
public import proofs.«01_k».proof.Proof.Gen.InDx2RefIdeal.Run
public import proofs.«01_k».proof.Proof.TailBwdProof
public import proofs.«01_k».proof.Proof.Gen.TailBwd.Frame
public import proofs.«01_k».proof.Proof.Gen.TailBwdIdeal.Frame
public import proofs.«01_k».proof.Proof.Gen.TailBwdIdeal.Value
public import proofs.«01_k».proof.Proof.Gen.TailBwdRefIdeal.Run
public import proofs.«01_k».proof.Proof.MixDxProof
public import proofs.«01_k».proof.Proof.Gen.MixDx.Frame
public import proofs.«01_k».proof.Proof.Gen.MixDxIdeal.Frame
public import proofs.«01_k».proof.Proof.Gen.MixDxIdeal.Value
public import proofs.«01_k».proof.Proof.Gen.MixDxRefIdeal.Run
public import proofs.«01_k».proof.Proof.GlaDwProof
public import proofs.«01_k».proof.Proof.Gen.GlaDw.Frame
public import proofs.«01_k».proof.Proof.Gen.GlaDwIdeal.Frame
public import proofs.«01_k».proof.Proof.Gen.GlaDwIdeal.Value
public import proofs.«01_k».proof.Proof.Gen.GlaDwRefIdeal.Run
public import proofs.«01_k».proof.Proof.PxDwProof
public import proofs.«01_k».proof.Proof.Gen.PxDw.Frame
public import proofs.«01_k».proof.Proof.Gen.PxDwIdeal.Frame
public import proofs.«01_k».proof.Proof.Gen.PxDwIdeal.Value
public import proofs.«01_k».proof.Proof.Gen.PxDwRefIdeal.Run
public import proofs.«01_k».proof.Proof.GatesDwProof
public import proofs.«01_k».proof.Proof.Gen.GatesDw.Frame
public import proofs.«01_k».proof.Proof.Gen.GatesDwIdeal.Frame
public import proofs.«01_k».proof.Proof.Gen.GatesDwIdeal.Value
public import proofs.«01_k».proof.Proof.Gen.GatesDwRefIdeal.Run
public import proofs.«01_k».proof.Proof.WoDwProof
public import proofs.«01_k».proof.Proof.Gen.WoDw.Frame
public import proofs.«01_k».proof.Proof.Gen.WoDwIdeal.Frame
public import proofs.«01_k».proof.Proof.Gen.WoDwIdeal.Value
public import proofs.«01_k».proof.Proof.Gen.WoDwRefIdeal.Run
public import proofs.«01_k».proof.Proof.UpDwProof
public import proofs.«01_k».proof.Proof.Gen.UpDw.Frame
public import proofs.«01_k».proof.Proof.Gen.UpDwIdeal.Frame
public import proofs.«01_k».proof.Proof.Gen.UpDwIdeal.Value
public import proofs.«01_k».proof.Proof.Gen.UpDwRefIdeal.Run
public import proofs.«01_k».proof.Proof.FfnInProof
public import proofs.«01_k».proof.Proof.Gen.FfnIn.Frame
public import proofs.«01_k».proof.Proof.Gen.FfnInIdeal.Frame
public import proofs.«01_k».proof.Proof.Gen.FfnInIdeal.Value
public import proofs.«01_k».proof.Proof.Gen.FfnInRefIdeal.Run
public import proofs.«01_k».proof.Proof.MemDwProof
public import proofs.«01_k».proof.Proof.Gen.MemDw.Frame
public import proofs.«01_k».proof.Proof.Gen.MemDwIdeal.Frame
public import proofs.«01_k».proof.Proof.Gen.MemDwIdeal.Value
public import proofs.«01_k».proof.Proof.Gen.MemDwRefIdeal.Run
public import proofs.«01_k».proof.Proof.MemDxProof
public import proofs.«01_k».proof.Proof.Gen.MemDx.Frame
public import proofs.«01_k».proof.Proof.Gen.MemDxIdeal.Frame
public import proofs.«01_k».proof.Proof.Gen.MemDxIdeal.Value
public import proofs.«01_k».proof.Proof.Gen.MemDxRefIdeal.Run
public import proofs.«01_k».proof.Proof.MemNormProof
public import proofs.«01_k».proof.Proof.Gen.MemNorm.Frame
public import proofs.«01_k».proof.Proof.Gen.MemNormIdeal.Frame
public import proofs.«01_k».proof.Proof.Gen.MemNormIdeal.Value
public import proofs.«01_k».proof.Proof.Gen.MemNormRefIdeal.Run
public import proofs.«01_k».proof.Proof.MixInProof
public import proofs.«01_k».proof.Proof.Gen.MixIn.Frame
public import proofs.«01_k».proof.Proof.Gen.MixInIdeal.Frame
public import proofs.«01_k».proof.Proof.Gen.MixInIdeal.Value
public import proofs.«01_k».proof.Proof.Gen.MixInRefIdeal.Run
public import proofs.«01_k».proof.Proof.FfnOutProof
public import proofs.«01_k».proof.Proof.Gen.FfnOut.Frame
public import proofs.«01_k».proof.Proof.Gen.FfnOutIdeal.Frame
public import proofs.«01_k».proof.Proof.Gen.FfnOutIdeal.Value
public import proofs.«01_k».proof.Proof.Gen.FfnOutRefIdeal.Run
public import proofs.«01_k».proof.Proof.OutLossProof
public import proofs.«01_k».proof.Proof.Gen.OutLoss.Frame
public import proofs.«01_k».proof.Proof.Gen.OutLossIdeal.Frame
public import proofs.«01_k».proof.Proof.Gen.OutLossIdeal.Value
public import proofs.«01_k».proof.Proof.Gen.OutLossRefIdeal.Run
public import proofs.«01_k».proof.Proof.TailFwdProof
public import proofs.«01_k».proof.Proof.Gen.TailFwd.Frame
public import proofs.«01_k».proof.Proof.Gen.TailFwdIdeal.Frame
public import proofs.«01_k».proof.Proof.Gen.TailFwdIdeal.Value
public import proofs.«01_k».proof.Proof.Gen.TailFwdRefIdeal.Run
public import proofs.«01_k».proof.Proof.NormFwdProof
public import proofs.«01_k».proof.Proof.Gen.NormFwd.Frame
public import proofs.«01_k».proof.Proof.Gen.NormFwdIdeal.Frame
public import proofs.«01_k».proof.Proof.Gen.NormFwdIdeal.Value
public import proofs.«01_k».proof.Proof.Gen.NormFwdRefIdeal.Run
public import proofs.«01_k».proof.Proof.MemNormFwdProof
public import proofs.«01_k».proof.Proof.Gen.MemNormFwd.Frame
public import proofs.«01_k».proof.Proof.Gen.MemNormFwdIdeal.Frame
public import proofs.«01_k».proof.Proof.Gen.MemNormFwdIdeal.Value
public import proofs.«01_k».proof.Proof.Gen.MemNormFwdRefIdeal.Run
public import proofs.«01_k».proof.Proof.MemKvProof
public import proofs.«01_k».proof.Proof.Gen.MemKv.Frame
public import proofs.«01_k».proof.Proof.Gen.MemKvIdeal.Frame
public import proofs.«01_k».proof.Proof.Gen.MemKvIdeal.Value
public import proofs.«01_k».proof.Proof.Gen.MemKvRefIdeal.Run
public import proofs.«01_k».proof.Proof.XattnFwdProof
public import proofs.«01_k».proof.Proof.Gen.XattnFwd.Frame
public import proofs.«01_k».proof.Proof.Gen.XattnFwdIdeal.Frame
public import proofs.«01_k».proof.Proof.Gen.XattnFwdIdeal.Value
public import proofs.«01_k».proof.Proof.Gen.XattnFwdRefIdeal.Run
public import proofs.«01_k».proof.Proof.AdamInProof
public import proofs.«01_k».proof.Proof.Gen.AdamIn.Frame
public import proofs.«01_k».proof.Proof.Gen.AdamInIdeal.Frame
public import proofs.«01_k».proof.Proof.Gen.AdamInIdeal.Value
public import proofs.«01_k».proof.Proof.Gen.AdamInRefIdeal.Run
public import proofs.«01_k».proof.Proof.AdamOutProof
public import proofs.«01_k».proof.Proof.Gen.AdamOut.Frame
public import proofs.«01_k».proof.Proof.Gen.AdamOutIdeal.Frame
public import proofs.«01_k».proof.Proof.Gen.AdamOutIdeal.Value
public import proofs.«01_k».proof.Proof.Gen.AdamOutRefIdeal.Run
public import proofs.«01_k».proof.Proof.AdamWinProof
public import proofs.«01_k».proof.Proof.Gen.AdamWin.Frame
public import proofs.«01_k».proof.Proof.Gen.AdamWinIdeal.Frame
public import proofs.«01_k».proof.Proof.Gen.AdamWinIdeal.Value
public import proofs.«01_k».proof.Proof.Gen.AdamWinRefIdeal.Run
public import proofs.«01_k».proof.Proof.AdamSqProof
public import proofs.«01_k».proof.Proof.Gen.AdamSq.Frame
public import proofs.«01_k».proof.Proof.Gen.AdamSqIdeal.Frame
public import proofs.«01_k».proof.Proof.Gen.AdamSqIdeal.Value
public import proofs.«01_k».proof.Proof.Gen.AdamSqRefIdeal.Run
public import proofs.«01_k».proof.Proof.AdamUpProof
public import proofs.«01_k».proof.Proof.Gen.AdamUp.Frame
public import proofs.«01_k».proof.Proof.Gen.AdamUpIdeal.Frame
public import proofs.«01_k».proof.Proof.Gen.AdamUpIdeal.Value
public import proofs.«01_k».proof.Proof.Gen.AdamUpRefIdeal.Run
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.OutDw.Gen.facts, Cert.OutDwIdeal.Gen.facts, Cert.OutDwRefIdeal.Gen.facts,
    Cert.OutDx.Gen.facts, Cert.OutDxIdeal.Gen.facts, Cert.OutDxRefIdeal.Gen.facts,
    Cert.InDw.Gen.facts, Cert.InDwIdeal.Gen.facts, Cert.InDwRefIdeal.Gen.facts,
    Cert.InDx1.Gen.facts, Cert.InDx1Ideal.Gen.facts, Cert.InDx1RefIdeal.Gen.facts,
    Cert.InDx2.Gen.facts, Cert.InDx2Ideal.Gen.facts, Cert.InDx2RefIdeal.Gen.facts,
    Cert.TailBwd.Gen.facts, Cert.TailBwdIdeal.Gen.facts, Cert.TailBwdRefIdeal.Gen.facts,
    Cert.MixDx.Gen.facts, Cert.MixDxIdeal.Gen.facts, Cert.MixDxRefIdeal.Gen.facts,
    Cert.GlaDw.Gen.facts, Cert.GlaDwIdeal.Gen.facts, Cert.GlaDwRefIdeal.Gen.facts,
    Cert.PxDw.Gen.facts, Cert.PxDwIdeal.Gen.facts, Cert.PxDwRefIdeal.Gen.facts,
    Cert.GatesDw.Gen.facts, Cert.GatesDwIdeal.Gen.facts, Cert.GatesDwRefIdeal.Gen.facts,
    Cert.WoDw.Gen.facts, Cert.WoDwIdeal.Gen.facts, Cert.WoDwRefIdeal.Gen.facts,
    Cert.UpDw.Gen.facts, Cert.UpDwIdeal.Gen.facts, Cert.UpDwRefIdeal.Gen.facts,
    Cert.FfnIn.Gen.facts, Cert.FfnInIdeal.Gen.facts, Cert.FfnInRefIdeal.Gen.facts,
    Cert.MemDw.Gen.facts, Cert.MemDwIdeal.Gen.facts, Cert.MemDwRefIdeal.Gen.facts,
    Cert.MemDx.Gen.facts, Cert.MemDxIdeal.Gen.facts, Cert.MemDxRefIdeal.Gen.facts,
    Cert.MemNorm.Gen.facts, Cert.MemNormIdeal.Gen.facts, Cert.MemNormRefIdeal.Gen.facts,
    Cert.MixIn.Gen.facts, Cert.MixInIdeal.Gen.facts, Cert.MixInRefIdeal.Gen.facts,
    Cert.FfnOut.Gen.facts, Cert.FfnOutIdeal.Gen.facts, Cert.FfnOutRefIdeal.Gen.facts,
    Cert.OutLoss.Gen.facts, Cert.OutLossIdeal.Gen.facts, Cert.OutLossRefIdeal.Gen.facts,
    Cert.TailFwd.Gen.facts, Cert.TailFwdIdeal.Gen.facts, Cert.TailFwdRefIdeal.Gen.facts,
    Cert.NormFwd.Gen.facts, Cert.NormFwdIdeal.Gen.facts, Cert.NormFwdRefIdeal.Gen.facts,
    Cert.MemNormFwd.Gen.facts, Cert.MemNormFwdIdeal.Gen.facts, Cert.MemNormFwdRefIdeal.Gen.facts,
    Cert.MemKv.Gen.facts, Cert.MemKvIdeal.Gen.facts, Cert.MemKvRefIdeal.Gen.facts,
    Cert.XattnFwd.Gen.facts, Cert.XattnFwdIdeal.Gen.facts, Cert.XattnFwdRefIdeal.Gen.facts,
    Cert.AdamIn.Gen.facts, Cert.AdamInIdeal.Gen.facts, Cert.AdamInRefIdeal.Gen.facts,
    Cert.AdamOut.Gen.facts, Cert.AdamOutIdeal.Gen.facts, Cert.AdamOutRefIdeal.Gen.facts,
    Cert.AdamWin.Gen.facts, Cert.AdamWinIdeal.Gen.facts, Cert.AdamWinRefIdeal.Gen.facts,
    Cert.AdamSq.Gen.facts, Cert.AdamSqIdeal.Gen.facts, Cert.AdamSqRefIdeal.Gen.facts,
    Cert.AdamUp.Gen.facts, Cert.AdamUpIdeal.Gen.facts, Cert.AdamUpRefIdeal.Gen.facts,
    Cert.Pre_finite_scores.facts, Cert.OutDx.Claims.preFacts, Cert.XattnFwd.Claims.preFacts,
    fun m ρ _ => Cert.Kernel.Gen.frame m ρ, fun m ρ _ => Cert.KernelIdeal.Gen.frame m ρ, fun m ρ _ => Cert.KernelIdeal.Gen.frame m ρ, Cert.Xattn.Claims.frameR, fun m ρ _ => Cert.Xattn.Claims.frameR m ρ trivial,
    fun m ρ _ => Cert.OutDw.Gen.frame m ρ, fun m ρ _ => Cert.OutDwIdeal.Gen.frame m ρ, Cert.OutDw.Claims.frameR,
    fun m ρ _ => Cert.OutDx.Gen.frame m ρ, fun m ρ _ => Cert.OutDxIdeal.Gen.frame m ρ, fun m ρ _ => Cert.OutDxIdeal.Gen.frame m ρ, Cert.OutDx.Claims.frameR, fun m ρ _ => Cert.OutDx.Claims.frameR m ρ trivial,
    fun m ρ _ => Cert.InDw.Gen.frame m ρ, fun m ρ _ => Cert.InDwIdeal.Gen.frame m ρ, Cert.InDw.Claims.frameR,
    fun m ρ _ => Cert.InDx1.Gen.frame m ρ, fun m ρ _ => Cert.InDx1Ideal.Gen.frame m ρ, Cert.InDx1.Claims.frameR,
    fun m ρ _ => Cert.InDx2.Gen.frame m ρ, fun m ρ _ => Cert.InDx2Ideal.Gen.frame m ρ, Cert.InDx2.Claims.frameR,
    fun m ρ _ => Cert.TailBwd.Gen.frame m ρ, fun m ρ _ => Cert.TailBwdIdeal.Gen.frame m ρ, Cert.TailBwd.Claims.frameR,
    fun m ρ _ => Cert.MixDx.Gen.frame m ρ, fun m ρ _ => Cert.MixDxIdeal.Gen.frame m ρ, Cert.MixDx.Claims.frameR,
    fun m ρ _ => Cert.GlaDw.Gen.frame m ρ, fun m ρ _ => Cert.GlaDwIdeal.Gen.frame m ρ, Cert.GlaDw.Claims.frameR,
    fun m ρ _ => Cert.PxDw.Gen.frame m ρ, fun m ρ _ => Cert.PxDwIdeal.Gen.frame m ρ, Cert.PxDw.Claims.frameR,
    fun m ρ _ => Cert.GatesDw.Gen.frame m ρ, fun m ρ _ => Cert.GatesDwIdeal.Gen.frame m ρ, Cert.GatesDw.Claims.frameR,
    fun m ρ _ => Cert.WoDw.Gen.frame m ρ, fun m ρ _ => Cert.WoDwIdeal.Gen.frame m ρ, Cert.WoDw.Claims.frameR,
    fun m ρ _ => Cert.UpDw.Gen.frame m ρ, fun m ρ _ => Cert.UpDwIdeal.Gen.frame m ρ, Cert.UpDw.Claims.frameR,
    fun m ρ _ => Cert.FfnIn.Gen.frame m ρ, fun m ρ _ => Cert.FfnInIdeal.Gen.frame m ρ, Cert.FfnIn.Claims.frameR,
    fun m ρ _ => Cert.MemDw.Gen.frame m ρ, fun m ρ _ => Cert.MemDwIdeal.Gen.frame m ρ, Cert.MemDw.Claims.frameR,
    fun m ρ _ => Cert.MemDx.Gen.frame m ρ, fun m ρ _ => Cert.MemDxIdeal.Gen.frame m ρ, Cert.MemDx.Claims.frameR,
    fun m ρ _ => Cert.MemNorm.Gen.frame m ρ, fun m ρ _ => Cert.MemNormIdeal.Gen.frame m ρ, Cert.MemNorm.Claims.frameR,
    fun m ρ _ => Cert.MixIn.Gen.frame m ρ, fun m ρ _ => Cert.MixInIdeal.Gen.frame m ρ, Cert.MixIn.Claims.frameR,
    fun m ρ _ => Cert.FfnOut.Gen.frame m ρ, fun m ρ _ => Cert.FfnOutIdeal.Gen.frame m ρ, Cert.FfnOut.Claims.frameR,
    fun m ρ _ => Cert.OutLoss.Gen.frame m ρ, fun m ρ _ => Cert.OutLossIdeal.Gen.frame m ρ, Cert.OutLoss.Claims.frameR,
    fun m ρ _ => Cert.TailFwd.Gen.frame m ρ, fun m ρ _ => Cert.TailFwdIdeal.Gen.frame m ρ, Cert.TailFwd.Claims.frameR,
    fun m ρ _ => Cert.NormFwd.Gen.frame m ρ, fun m ρ _ => Cert.NormFwdIdeal.Gen.frame m ρ, Cert.NormFwd.Claims.frameR,
    fun m ρ _ => Cert.MemNormFwd.Gen.frame m ρ, fun m ρ _ => Cert.MemNormFwdIdeal.Gen.frame m ρ, Cert.MemNormFwd.Claims.frameR,
    fun m ρ _ => Cert.MemKv.Gen.frame m ρ, fun m ρ _ => Cert.MemKvIdeal.Gen.frame m ρ, Cert.MemKv.Claims.frameR,
    fun m ρ _ => Cert.XattnFwd.Gen.frame m ρ, fun m ρ _ => Cert.XattnFwdIdeal.Gen.frame m ρ, fun m ρ _ => Cert.XattnFwdIdeal.Gen.frame m ρ, Cert.XattnFwd.Claims.frameR, fun m ρ _ => Cert.XattnFwd.Claims.frameR m ρ trivial,
    fun m ρ _ => Cert.AdamIn.Gen.frame m ρ, fun m ρ _ => Cert.AdamInIdeal.Gen.frame m ρ, Cert.AdamIn.Claims.frameR,
    fun m ρ _ => Cert.AdamOut.Gen.frame m ρ, fun m ρ _ => Cert.AdamOutIdeal.Gen.frame m ρ, Cert.AdamOut.Claims.frameR,
    fun m ρ _ => Cert.AdamWin.Gen.frame m ρ, fun m ρ _ => Cert.AdamWinIdeal.Gen.frame m ρ, Cert.AdamWin.Claims.frameR,
    fun m ρ _ => Cert.AdamSq.Gen.frame m ρ, fun m ρ _ => Cert.AdamSqIdeal.Gen.frame m ρ, Cert.AdamSq.Claims.frameR,
    fun m ρ _ => Cert.AdamUp.Gen.frame m ρ, fun m ρ _ => Cert.AdamUpIdeal.Gen.frame m ρ, Cert.AdamUp.Claims.frameR,
    trivial, Cert.Xattn.Claims.algebraic,
    trivial, Cert.OutDw.Claims.algebraic,
    trivial, Cert.OutDx.Claims.algebraic,
    trivial, Cert.InDw.Claims.algebraic,
    trivial, Cert.InDx1.Claims.algebraic,
    trivial, Cert.InDx2.Claims.algebraic,
    trivial, Cert.TailBwd.Claims.algebraic,
    trivial, Cert.MixDx.Claims.algebraic,
    trivial, Cert.GlaDw.Claims.algebraic,
    trivial, Cert.PxDw.Claims.algebraic,
    trivial, Cert.GatesDw.Claims.algebraic,
    trivial, Cert.WoDw.Claims.algebraic,
    trivial, Cert.UpDw.Claims.algebraic,
    trivial, Cert.FfnIn.Claims.algebraic,
    trivial, Cert.MemDw.Claims.algebraic,
    trivial, Cert.MemDx.Claims.algebraic,
    trivial, Cert.MemNorm.Claims.algebraic,
    trivial, Cert.MixIn.Claims.algebraic,
    trivial, Cert.FfnOut.Claims.algebraic,
    trivial, Cert.OutLoss.Claims.algebraic,
    trivial, Cert.TailFwd.Claims.algebraic,
    trivial, Cert.NormFwd.Claims.algebraic,
    trivial, Cert.MemNormFwd.Claims.algebraic,
    trivial, Cert.MemKv.Claims.algebraic,
    trivial, Cert.XattnFwd.Claims.algebraic,
    trivial, Cert.AdamIn.Claims.algebraic,
    trivial, Cert.AdamOut.Claims.algebraic,
    trivial, Cert.AdamWin.Claims.algebraic,
    trivial, Cert.AdamSq.Claims.algebraic,
    trivial, Cert.AdamUp.Claims.algebraic⟩

end Cert.Proof

end
